-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Gate [hPre_finite : Cert.Pre_finite.Facts] (m : (ℓ : Loc Cert.Gate.nD Cert.Gate.τ Cert.Gate.sig) → Buf (Elt Bits) ℓ) : Prop :=
  ∀ c : Dev Cert.Gate.nD,
    (Cert.Pre_finite.fn (F := Bits) (m ((c.tc : Thread Cert.Gate.nD Cert.Gate.τ).loc Cert.Gate.main_arg0)) (m ((c.tc : Thread Cert.Gate.nD Cert.Gate.τ).loc Cert.Gate.main_arg1)) (m ((c.tc : Thread Cert.Gate.nD Cert.Gate.τ).loc Cert.Gate.main_arg2)) (m ((c.tc : Thread Cert.Gate.nD Cert.Gate.τ).loc Cert.Gate.main_arg3))) = (fun _ => 1#1)

def Pre_GateIdeal [hPre_finite : Cert.Pre_finite.Facts] (m : (ℓ : Loc Cert.GateIdeal.nD Cert.GateIdeal.τ Cert.GateIdeal.sig) → Buf (Elt Ideal) ℓ) : Prop :=
  ∀ c : Dev Cert.GateIdeal.nD,
    (Cert.Pre_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateReferenceIdeal [hPre_finite : Cert.Pre_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Gate [hGate : Cert.Gate.Facts] [hPre_finite : Cert.Pre_finite.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateReferenceIdeal [hGateReferenceIdeal : Cert.GateReferenceIdeal.Facts] [hPre_finite : Cert.Pre_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3DB504F3#32 (((Real.sqrt 128)⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v282) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Gate_GateIdeal : Prop :=
  IdealRules.named_const.Statement Cert.GateIdeal.κ "mask" .f32 0xF149F2CA#32 ⊥

def algebraic_GateIdeal_GateReferenceIdeal [hGateIdeal : Cert.GateIdeal.Facts] [hGateReferenceIdeal : Cert.GateReferenceIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v95_0)) (v1 : (c : Dev Cert.GateIdeal.nD) → Buf (Elt Ideal) ((c.tc : Thread Cert.GateIdeal.nD Cert.GateIdeal.τ).loc Cert.GateIdeal.main_v95_1)) (v2 : (c : Dev Cert.GateIdeal.nD) → Buf (Elt Ideal) ((c.tc : Thread Cert.GateIdeal.nD Cert.GateIdeal.τ).loc Cert.GateIdeal.main_v95_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v95_0) = v0 c
          ∧ r.2.mem ((c.tc : Thread Cert.GateIdeal.nD Cert.GateIdeal.τ).loc Cert.GateIdeal.main_v95_1) = v1 c
          ∧ r.2.mem ((c.tc : Thread Cert.GateIdeal.nD Cert.GateIdeal.τ).loc Cert.GateIdeal.main_v95_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v180) = v0 c
          ∧ r.2.mem ((c.tc : Thread Cert.GateReferenceIdeal.nD Cert.GateReferenceIdeal.τ).loc Cert.GateReferenceIdeal.main_v181) = v1 c
          ∧ r.2.mem ((c.tc : Thread Cert.GateReferenceIdeal.nD Cert.GateReferenceIdeal.τ).loc Cert.GateReferenceIdeal.main_v182) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateReferenceIdeal : Cert.GateReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Gate (hGate := hGate) (hPre_finite := hPre_finite)
    ∧ quiescent_GateIdeal (hGateIdeal := hGateIdeal) (hPre_finite := hPre_finite)
    ∧ quiescent_GateReferenceIdeal (hGateReferenceIdeal := hGateReferenceIdeal) (hPre_finite := hPre_finite)
    ∧ preserves_Kernel_KernelIdeal
    ∧ algebraic_KernelIdeal_ReferenceIdeal (hKernelIdeal := hKernelIdeal) (hReferenceIdeal := hReferenceIdeal) (hPre_in_range := hPre_in_range)
    ∧ preserves_Gate_GateIdeal
    ∧ algebraic_GateIdeal_GateReferenceIdeal (hGateIdeal := hGateIdeal) (hGateReferenceIdeal := hGateReferenceIdeal) (hPre_finite := hPre_finite)
-- ==== Pre_finite.lean ====
abbrev S16x192x16x128 : Shape := ⟨4, ![16, 192, 16, 128]⟩
abbrev S16x1 : Shape := ⟨2, ![16, 1]⟩
abbrev S1 : Shape := ⟨1, ![1]⟩
abbrev S192x4 : Shape := ⟨2, ![192, 4]⟩
abbrev S_ : Shape := ⟨0, ![]⟩

class Facts : Prop where
  bcast_S_S16x192x16x128 : S_.BroadcastsInDim S16x192x16x128 (![] : Fin 0 → Fin S16x192x16x128.rank)
  reducesTo_S16x192x16x128_S_d0_1_2_3 : S16x192x16x128.ReducesTo [0, 1, 2, 3] S_
  h_S_ : 0 < S_.numel
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S192x4 : S_.BroadcastsInDim S192x4 (![] : Fin 0 → Fin S192x4.rank)
  reducesTo_S192x4_S_d0_1 : S192x4.ReducesTo [0, 1] S_

variable [Facts]

def fn_part1 {F : FTy → Type} [FloatOps F] (main_v13 : IVec S_ 1) (main_v16 : IVec S192x4 1) : IVec S_ 1 :=
  let main_c_5 : IVec S_ 1 := constantI S_ 1 1#1
  let main_v17 : IVec S_ 1 := (fun x v => Host.reduce IntOp.andi x v reducesTo_S192x4_S_d0_1 h_S_) main_v16 main_c_5
  let main_v18 : IVec S_ 1 := andi main_v13 main_v17
  main_v18

def fn {F : FTy → Type} [FloatOps F] (main_arg0 : FVec F S16x192x16x128 .f32) (main_arg1 : FVec F S16x1 .f32) (main_arg2 : FVec F S1 .f32) (main_arg3 : FVec F S192x4 .f32) : IVec S_ 1 :=
  let main_v0 : FVec F S16x192x16x128 .f32 := Host.absf main_arg0
  let main_cst : FVec F S_ .f32 := constant S_ .f32 0x7F800000#32
  let main_v1 : FVec F S16x192x16x128 .f32 := broadcastInDim S16x192x16x128 ![] bcast_S_S16x192x16x128 main_cst
  let main_v2 : IVec S16x192x16x128 1 := cmpf .olt main_v0 main_v1
  let main_c : IVec S_ 1 := constantI S_ 1 1#1
  let main_v3 : IVec S_ 1 := (fun x v => Host.reduce IntOp.andi x v reducesTo_S16x192x16x128_S_d0_1_2_3 h_S_) main_v2 main_c
  let main_v4 : FVec F S16x1 .f32 := Host.absf main_arg1
  let main_cst_0 : FVec F S_ .f32 := constant S_ .f32 0x7F800000#32
  let main_v5 : FVec F S16x1 .f32 := broadcastInDim S16x1 ![] bcast_S_S16x1 main_cst_0
  let main_v6 : IVec S16x1 1 := cmpf .olt main_v4 main_v5
  let main_c_1 : IVec S_ 1 := constantI S_ 1 1#1
  let main_v7 : IVec S_ 1 := (fun x v => Host.reduce IntOp.andi x v reducesTo_S16x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S192x4 .f32 := Host.absf main_arg3
  let main_cst_4 : FVec F S_ .f32 := constant S_ .f32 0x7F800000#32
  let main_v15 : FVec F S192x4 .f32 := broadcastInDim S192x4 ![] bcast_S_S192x4 main_cst_4
  let main_v16 : IVec S192x4 1 := cmpf .olt main_v14 main_v15
  fn_part1 (F := F) main_v13 main_v16
-- ==== Pre_in_range.lean ====
abbrev S16x128 : Shape := ⟨2, ![16, 128]⟩
abbrev S16x192x16x128 : Shape := ⟨4, ![16, 192, 16, 128]⟩
abbrev S4x128x128 : Shape := ⟨3, ![4, 128, 128]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S192x192 : Shape := ⟨2, ![192, 192]⟩
abbrev S192 : Shape := ⟨1, ![192]⟩
abbrev S16x1 : Shape := ⟨2, ![16, 1]⟩
abbrev S_ : Shape := ⟨0, ![]⟩

class Facts : Prop where
  slices_S16x128_S16x1_0_0 : S16x128.Slices ![0, 0] S16x1
  slices_S16x128_S16x1_0_1 : S16x128.Slices ![0, 1] S16x1
  bcast_S_S16x1 : S_.BroadcastsInDim S16x1 (![] : Fin 0 → Fin S16x1.rank)

variable [Facts]

def fn {F : FTy → Type} [FloatOps F] (main_arg0 : IVec S16x128 32) (main_arg1 : FVec F S16x128 .f32) (main_arg2 : FVec F S16x192x16x128 .f32) (main_arg3 : FVec F S4x128x128 .f32) (main_arg4 : FVec F S4x128x128 .f32) (main_arg5 : FVec F S4x128x128 .f32) (main_arg6 : FVec F S4x128x128 .f32) (main_arg7 : FVec F S4x128x256 .f32) (main_arg8 : FVec F S4x256 .f32) (main_arg9 : FVec F S4x256x128 .f32) (main_arg10 : FVec F S4x128 .f32) (main_arg11 : FVec F S192x192 .f32) (main_arg12 : FVec F S192 .f32) : IVec S16x1 1 :=
  let main_v0 : IVec S16x1 32 := (extractStridedSlice S16x1 ![0, 0] · slices_S16x128_S16x1_0_0) main_arg0
  let main_v1 : IVec S16x1 32 := (extractStridedSlice S16x1 ![0, 1] · slices_S16x128_S16x1_0_1) main_arg0
  let main_c : IVec S_ 32 := constantI S_ 32 0#32
  let main_v2 : IVec S16x1 32 := broadcastInDim S16x1 ![] bcast_S_S16x1 main_c
  let main_v3 : IVec S16x1 1 := cmpi .sge main_v0 main_v2
  let main_c_0 : IVec S_ 32 := constantI S_ 32 4#32
  let main_v4 : IVec S16x1 32 := broadcastInDim S16x1 ![] bcast_S_S16x1 main_c_0
  let main_v5 : IVec S16x1 1 := cmpi .slt main_v0 main_v4
  let main_v6 : IVec S16x1 1 := andi main_v3 main_v5
  let main_c_1 : IVec S_ 32 := constantI S_ 32 0#32
  let main_v7 : IVec S16x1 32 := broadcastInDim S16x1 ![] bcast_S_S16x1 main_c_1
  let main_v8 : IVec S16x1 1 := cmpi .sge main_v1 main_v7
  let main_v9 : IVec S16x1 1 := andi main_v6 main_v8
  let main_c_2 : IVec S_ 32 := constantI S_ 32 4#32
  let main_v10 : IVec S16x1 32 := broadcastInDim S16x1 ![] bcast_S_S16x1 main_c_2
  let main_v11 : IVec S16x1 1 := cmpi .slt main_v1 main_v10
  let main_v12 : IVec S16x1 1 := andi main_v9 main_v11
  let main_v13 : IVec S16x1 1 := cmpi .ne main_v0 main_v1
  let main_v14 : IVec S16x1 1 := andi main_v12 main_v13
  main_v14
-- ==== Kernel.lean ====
abbrev S16x128 : Shape := ⟨2, ![16, 128]⟩
abbrev S16x192x16x128 : Shape := ⟨4, ![16, 192, 16, 128]⟩
abbrev S4x128x128 : Shape := ⟨3, ![4, 128, 128]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S192x192 : Shape := ⟨2, ![192, 192]⟩
abbrev S192 : Shape := ⟨1, ![192]⟩
abbrev S4 : Shape := ⟨1, ![4]⟩
abbrev S4x192x128 : Shape := ⟨3, ![4, 192, 128]⟩
abbrev S4x1x128 : Shape := ⟨3, ![4, 1, 128]⟩
abbrev S16x2 : Shape := ⟨2, ![16, 2]⟩
abbrev S32 : Shape := ⟨1, ![32]⟩
abbrev S16x1x128 : Shape := ⟨3, ![16, 1, 128]⟩
abbrev S4x1x256 : Shape := ⟨3, ![4, 1, 256]⟩
abbrev S192x1 : Shape := ⟨2, ![192, 1]⟩
abbrev S192x128 : Shape := ⟨2, ![192, 128]⟩
abbrev S4x1x1 : Shape := ⟨3, ![4, 1, 1]⟩
abbrev S4x96x192 : Shape := ⟨3, ![4, 96, 192]⟩
abbrev S_ : Shape := ⟨0, ![]⟩
abbrev S1x192x16x128 : Shape := ⟨4, ![1, 192, 16, 128]⟩
abbrev S1x1x128 : Shape := ⟨3, ![1, 1, 128]⟩
abbrev S1x128x128 : Shape := ⟨3, ![1, 128, 128]⟩
abbrev S1 : Shape := ⟨1, ![1]⟩
abbrev S1x128x256 : Shape := ⟨3, ![1, 128, 256]⟩
abbrev S1x1x256 : Shape := ⟨3, ![1, 1, 256]⟩
abbrev S1x256x128 : Shape := ⟨3, ![1, 256, 128]⟩
abbrev S1x96x192 : Shape := ⟨3, ![1, 96, 192]⟩
abbrev S1x192x128 : Shape := ⟨3, ![1, 192, 128]⟩
abbrev S192x16x128 : Shape := ⟨3, ![192, 16, 128]⟩
abbrev S16x192x128 : Shape := ⟨3, ![16, 192, 128]⟩
abbrev S1x1x1 : Shape := ⟨3, ![1, 1, 1]⟩
abbrev S96x192 : Shape := ⟨2, ![96, 192]⟩
abbrev S1x128 : Shape := ⟨2, ![1, 128]⟩
abbrev S128x128 : Shape := ⟨2, ![128, 128]⟩
abbrev S96x128 : Shape := ⟨2, ![96, 128]⟩
abbrev S1536x128 : Shape := ⟨2, ![1536, 128]⟩
abbrev S32x128 : Shape := ⟨2, ![32, 128]⟩
abbrev S1536 : Shape := ⟨1, ![1536]⟩
abbrev S1536x1 : Shape := ⟨2, ![1536, 1]⟩
abbrev S3072x128 : Shape := ⟨2, ![3072, 128]⟩
abbrev S128x256 : Shape := ⟨2, ![128, 256]⟩
abbrev S3072x256 : Shape := ⟨2, ![3072, 256]⟩
abbrev S1x256 : Shape := ⟨2, ![1, 256]⟩
abbrev S256x128 : Shape := ⟨2, ![256, 128]⟩

abbrev nBuf : Space → Nat
  | .hbm => 46
  | .vmem => 52
  | .smem => 1
  | _ => 0

abbrev bufTy : (tb : Table) → Fin (tcTables nBuf tb) → BufTy
  | .hbm, ⟨0, _⟩ => ⟨S16x128, .i32⟩
  | .hbm, ⟨1, _⟩ => ⟨S16x128, .f32⟩
  | .hbm, ⟨2, _⟩ => ⟨S16x192x16x128, .f32⟩
  | .hbm, ⟨3, _⟩ => ⟨S4x128x128, .f32⟩
  | .hbm, ⟨4, _⟩ => ⟨S4x128x128, .f32⟩
  | .hbm, ⟨5, _⟩ => ⟨S4x128x128, .f32⟩
  | .hbm, ⟨6, _⟩ => ⟨S4x128x128, .f32⟩
  | .hbm, ⟨7, _⟩ => ⟨S4x128x256, .f32⟩
  | .hbm, ⟨8, _⟩ => ⟨S4x256, .f32⟩
  | .hbm, ⟨9, _⟩ => ⟨S4x256x128, .f32⟩
  | .hbm, ⟨10, _⟩ => ⟨S4x128, .f32⟩
  | .hbm, ⟨11, _⟩ => ⟨S192x192, .f32⟩
  | .hbm, ⟨12, _⟩ => ⟨S192, .f32⟩
  | .hbm, ⟨13, _⟩ => ⟨S4, .i32⟩
  | .hbm, ⟨14, _⟩ => ⟨S4x192x128, .f32⟩
  | .hbm, ⟨15, _⟩ => ⟨S4x1x128, .f32⟩
  | .hbm, ⟨16, _⟩ => ⟨S16x2, .i32⟩
  | .hbm, ⟨17, _⟩ => ⟨S16x1x128, .f32⟩
  | .hbm, ⟨18, _⟩ => ⟨S4x1x256, .f32⟩
  | .hbm, ⟨19, _⟩ => ⟨S4x1x128, .f32⟩
  | .hbm, ⟨20, _⟩ => ⟨S192x192, .f32⟩
  | .hbm, ⟨21, _⟩ => ⟨S192x1, .f32⟩
  | .hbm, ⟨22, _⟩ => ⟨S192x128, .f32⟩
  | .hbm, ⟨23, _⟩ => ⟨S4x1x1, .i32⟩
  | .hbm, ⟨24, _⟩ => ⟨S4x96x192, .i32⟩
  | .hbm, ⟨25, _⟩ => ⟨S4x96x192, .i32⟩
  | .hbm, ⟨26, _⟩ => ⟨S4x96x192, .i32⟩
  | .hbm, ⟨27, _⟩ => ⟨S4x96x192, .i32⟩
  | .hbm, ⟨28, _⟩ => ⟨S4x96x192, .i1⟩
  | .hbm, ⟨29, _⟩ => ⟨S_, .i32⟩
  | .hbm, ⟨30, _⟩ => ⟨S4x96x192, .i32⟩
  | .hbm, ⟨31, _⟩ => ⟨S4x96x192, .i32⟩
  | .hbm, ⟨32, _⟩ => ⟨S4x96x192, .i32⟩
  | .hbm, ⟨33, _⟩ => ⟨S4x96x192, .i32⟩
  | .hbm, ⟨34, _⟩ => ⟨S4x96x192, .i1⟩
  | .hbm, ⟨35, _⟩ => ⟨S4x96x192, .i1⟩
  | .hbm, ⟨36, _⟩ => ⟨S4x1x1, .f32⟩
  | .hbm, ⟨37, _⟩ => ⟨S_, .f32⟩
  | .hbm, ⟨38, _⟩ => ⟨S4x1x1, .f32⟩
  | .hbm, ⟨39, _⟩ => ⟨S4x1x1, .f32⟩
  | .hbm, ⟨40, _⟩ => ⟨S_, .f32⟩
  | .hbm, ⟨41, _⟩ => ⟨S_, .f32⟩
  | .hbm, ⟨42, _⟩ => ⟨S4x96x192, .f32⟩
  | .hbm, ⟨43, _⟩ => ⟨S4x96x192, .f32⟩
  | .hbm, ⟨44, _⟩ => ⟨S4x96x192, .f32⟩
  | .hbm, ⟨45, _⟩ => ⟨S16x192x16x128, .f32⟩
  | .local _ .vmem, ⟨0, _⟩ => ⟨S1x192x16x128, .f32⟩
  | .local _ .vmem, ⟨1, _⟩ => ⟨S1x192x16x128, .f32⟩
  | .local _ .vmem, ⟨2, _⟩ => ⟨S1x1x128, .f32⟩
  | .local _ .vmem, ⟨3, _⟩ => ⟨S1x1x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x256, .f32⟩
  | .local _ .vmem, ⟨13, _⟩ => ⟨S1x128x256, .f32⟩
  | .local _ .vmem, ⟨14, _⟩ => ⟨S1x1x256, .f32⟩
  | .local _ .vmem, ⟨15, _⟩ => ⟨S1x1x256, .f32⟩
  | .local _ .vmem, ⟨16, _⟩ => ⟨S1x256x128, .f32⟩
  | .local _ .vmem, ⟨17, _⟩ => ⟨S1x256x128, .f32⟩
  | .local _ .vmem, ⟨18, _⟩ => ⟨S1x1x128, .f32⟩
  | .local _ .vmem, ⟨19, _⟩ => ⟨S1x1x128, .f32⟩
  | .local _ .vmem, ⟨20, _⟩ => ⟨S1x96x192, .f32⟩
  | .local _ .vmem, ⟨21, _⟩ => ⟨S1x96x192, .f32⟩
  | .local _ .vmem, ⟨22, _⟩ => ⟨S1x192x128, .f32⟩
  | .local _ .vmem, ⟨23, _⟩ => ⟨S1x192x128, .f32⟩
  | .local _ .vmem, ⟨24, _⟩ => ⟨S1x1x128, .f32⟩
  | .local _ .vmem, ⟨25, _⟩ => ⟨S1x1x128, .f32⟩
  | .local _ .vmem, ⟨26, _⟩ => ⟨S1x128x128, .f32⟩
  | .local _ .vmem, ⟨27, _⟩ => ⟨S1x128x128, .f32⟩
  | .local _ .vmem, ⟨28, _⟩ => ⟨S1x128x128, .f32⟩
  | .local _ .vmem, ⟨29, _⟩ => ⟨S1x128x128, .f32⟩
  | .local _ .vmem, ⟨30, _⟩ => ⟨S1x128x128, .f32⟩
  | .local _ .vmem, ⟨31, _⟩ => ⟨S1x128x128, .f32⟩
  | .local _ .vmem, ⟨32, _⟩ => ⟨S1x128x128, .f32⟩
  | .local _ .vmem, ⟨33, _⟩ => ⟨S1x128x128, .f32⟩
  | .local _ .vmem, ⟨34, _⟩ => ⟨S1x128x256, .f32⟩
  | .local _ .vmem, ⟨35, _⟩ => ⟨S1x128x256, .f32⟩
  | .local _ .vmem, ⟨36, _⟩ => ⟨S1x1x256, .f32⟩
  | .local _ .vmem, ⟨37, _⟩ => ⟨S1x1x256, .f32⟩
  | .local _ .vmem, ⟨38, _⟩ => ⟨S1x256x128, .f32⟩
  | .local _ .vmem, ⟨39, _⟩ => ⟨S1x256x128, .f32⟩
  | .local _ .vmem, ⟨40, _⟩ => ⟨S1x1x128, .f32⟩
  | .local _ .vmem, ⟨41, _⟩ => ⟨S1x1x128, .f32⟩
  | .local _ .vmem, ⟨42, _⟩ => ⟨S1x96x192, .f32⟩
  | .local _ .vmem, ⟨43, _⟩ => ⟨S1x96x192, .f32⟩
  | .local _ .vmem, ⟨44, _⟩ => ⟨S1x192x128, .f32⟩
  | .local _ .vmem, ⟨45, _⟩ => ⟨S1x192x128, .f32⟩
  | .local _ .vmem, ⟨46, _⟩ => ⟨S1x1x128, .f32⟩
  | .local _ .vmem, ⟨47, _⟩ => ⟨S1x1x128, .f32⟩
  | .local _ .vmem, ⟨48, _⟩ => ⟨S192x192, .f32⟩
  | .local _ .vmem, ⟨49, _⟩ => ⟨S192x128, .f32⟩
  | .local _ .vmem, ⟨50, _⟩ => ⟨S1x192x16x128, .f32⟩
  | .local _ .vmem, ⟨51, _⟩ => ⟨S1x192x16x128, .f32⟩
  | .local _ .smem, ⟨0, _⟩ => ⟨S32, .i32⟩
  | _, _ => ⟨S16x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_cst : Ref sig .tc := ⟨.hbm, 14, rfl⟩
abbrev main_cst_0 : Ref sig .tc := ⟨.hbm, 15, rfl⟩
abbrev main_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v23 : Ref sig .tc := ⟨.hbm, 44, rfl⟩
abbrev main_v24 : Ref sig .tc := ⟨.hbm, 45, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg25_0 : Ref sig .tc := ⟨.vmem, 49, rfl⟩
abbrev cc0_stg26_0 : Ref sig .tc := ⟨.vmem, 50, rfl⟩
abbrev cc0_stg26_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem25_0 : DmaSem sig := 49
abbrev cc0_sem26_0 : DmaSem sig := 50
abbrev cc0_sem26_1 : DmaSem sig := 51

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let v0 : BitVec 32 := Scalar.muli c2_i32 arg0
  let v1 : Index := Scalar.indexCast v0
  ![v1.toNat]
def k0_off2 (i : grid0.Coords) : Fin 1 → Nat :=
  let c2_i32 : BitVec 32 := 2#32
  let arg0 : BitVec 32 := BitVec.ofNat 32 (i 0).val
  let v0 : BitVec 32 := Scalar.muli c2_i32 arg0
  let c1_i32 : BitVec 32 := 1#32
  let v1 : BitVec 32 := Scalar.addi v0 c1_i32
  let v2 : Index := Scalar.indexCast v1
  ![v2.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S32) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S32) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S32) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_5 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S32) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_6 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S32) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_7 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S32) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_8 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S32) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_9 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S32) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_10 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S32) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_11 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S32) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_12 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S32) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_13 (k0_off2_inb : ∀ i : grid0.Coords, ∀ a, (k0_off2 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S32) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_14 (k0_off2_inb : ∀ i : grid0.Coords, ∀ a, (k0_off2 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S32) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_15 (k0_off2_inb : ∀ i : grid0.Coords, ∀ a, (k0_off2 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S32) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_16 (k0_off2_inb : ∀ i : grid0.Coords, ∀ a, (k0_off2 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S32) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_17 (k0_off2_inb : ∀ i : grid0.Coords, ∀ a, (k0_off2 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S32) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_18 (k0_off2_inb : ∀ i : grid0.Coords, ∀ a, (k0_off2 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S32) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_19 (k0_off2_inb : ∀ i : grid0.Coords, ∀ a, (k0_off2 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S32) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_20 (k0_off2_inb : ∀ i : grid0.Coords, ∀ a, (k0_off2 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S32) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_21 (k0_off2_inb : ∀ i : grid0.Coords, ∀ a, (k0_off2 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S32) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_22 (k0_off2_inb : ∀ i : grid0.Coords, ∀ a, (k0_off2 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S32) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_23 (k0_off2_inb : ∀ i : grid0.Coords, ∀ a, (k0_off2 i) a + S1.size a ≤ S32.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S32) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x192x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x96x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x96x192 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x192x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S192x192 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S192x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S1x192x16x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S16x128 : Shape := ⟨2, ![16, 128]⟩
abbrev S16x192x16x128 : Shape := ⟨4, ![16, 192, 16, 128]⟩
abbrev S4x128x128 : Shape := ⟨3, ![4, 128, 128]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S192x192 : Shape := ⟨2, ![192, 192]⟩
abbrev S192 : Shape := ⟨1, ![192]⟩
abbrev S_ : Shape := ⟨0, ![]⟩
abbrev S16x4 : Shape := ⟨2, ![16, 4]⟩
abbrev S16 : Shape := ⟨1, ![16]⟩
abbrev S16x1 : Shape := ⟨2, ![16, 1]⟩
abbrev S16x2 : Shape := ⟨2, ![16, 2]⟩
abbrev S16x2x1 : Shape := ⟨3, ![16, 2, 1]⟩
abbrev S16x2x2 : Shape := ⟨3, ![16, 2, 2]⟩
abbrev S1x128x128 : Shape := ⟨3, ![1, 128, 128]⟩
abbrev S128x128 : Shape := ⟨2, ![128, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S16x24x8x16x128 : Shape := ⟨5, ![16, 24, 8, 16, 128]⟩
abbrev S16x24x16x128 : Shape := ⟨4, ![16, 24, 16, 128]⟩
abbrev S16x16x24x128 : Shape := ⟨4, ![16, 16, 24, 128]⟩
abbrev S16x16x24x24 : Shape := ⟨4, ![16, 16, 24, 24]⟩
abbrev S16x16x24 : Shape := ⟨3, ![16, 16, 24]⟩
abbrev S16x16x24x1 : Shape := ⟨4, ![16, 16, 24, 1]⟩
abbrev S16x24x1x16x128 : Shape := ⟨5, ![16, 24, 1, 16, 128]⟩
abbrev S16x24x1x8x16x128 : Shape := ⟨6, ![16, 24, 1, 8, 16, 128]⟩
abbrev S16x192x16x256 : Shape := ⟨4, ![16, 192, 16, 256]⟩
abbrev S1x1x1x256 : Shape := ⟨4, ![1, 1, 1, 256]⟩
abbrev S1x1x1x128 : Shape := ⟨4, ![1, 1, 1, 128]⟩
abbrev S16x1x1x1 : Shape := ⟨4, ![16, 1, 1, 1]⟩
abbrev S16x32x6x16x128 : Shape := ⟨5, ![16, 32, 6, 16, 128]⟩
abbrev S16x32x16x128 : Shape := ⟨4, ![16, 32, 16, 128]⟩
abbrev S16x16x32x128 : Shape := ⟨4, ![16, 16, 32, 128]⟩
abbrev S16x16x32x32 : Shape := ⟨4, ![16, 16, 32, 32]⟩
abbrev S16x16x32 : Shape := ⟨3, ![16, 16, 32]⟩
abbrev S16x16x32x1 : Shape := ⟨4, ![16, 16, 32, 1]⟩
abbrev S16x32x1x16x128 : Shape := ⟨5, ![16, 32, 1, 16, 128]⟩
abbrev S16x32x1x6x16x128 : Shape := ⟨6, ![16, 32, 1, 6, 16, 128]⟩
abbrev S16x48x4x16x128 : Shape := ⟨5, ![16, 48, 4, 16, 128]⟩
abbrev S16x48x16x128 : Shape := ⟨4, ![16, 48, 16, 128]⟩
abbrev S16x16x48x128 : Shape := ⟨4, ![16, 16, 48, 128]⟩
abbrev S16x16x48x48 : Shape := ⟨4, ![16, 16, 48, 48]⟩
abbrev S16x16x48 : Shape := ⟨3, ![16, 16, 48]⟩
abbrev S16x16x48x1 : Shape := ⟨4, ![16, 16, 48, 1]⟩
abbrev S16x48x1x16x128 : Shape := ⟨5, ![16, 48, 1, 16, 128]⟩
abbrev S16x48x1x4x16x128 : Shape := ⟨6, ![16, 48, 1, 4, 16, 128]⟩
abbrev S16x96x2x16x128 : Shape := ⟨5, ![16, 96, 2, 16, 128]⟩
abbrev S16x96x16x128 : Shape := ⟨4, ![16, 96, 16, 128]⟩
abbrev S16x16x96x128 : Shape := ⟨4, ![16, 16, 96, 128]⟩
abbrev S16x16x96x96 : Shape := ⟨4, ![16, 16, 96, 96]⟩
abbrev S16x16x96 : Shape := ⟨3, ![16, 16, 96]⟩
abbrev S16x16x96x1 : Shape := ⟨4, ![16, 16, 96, 1]⟩
abbrev S16x96x1x16x128 : Shape := ⟨5, ![16, 96, 1, 16, 128]⟩
abbrev S16x96x1x2x16x128 : Shape := ⟨6, ![16, 96, 1, 2, 16, 128]⟩
abbrev S192x16x16x128 : Shape := ⟨4, ![192, 16, 16, 128]⟩
abbrev S1x192x1x1 : Shape := ⟨4, ![1, 192, 1, 1]⟩

abbrev nBuf : Space → Nat
  | .hbm => 334
  | .vmem => 0
  | .smem => 0
  | _ => 0

abbrev hbmTy0_0 (i : Nat) : BufTy := match i % 128 with
  | 0 => ⟨S16x128, .i32⟩
  | 1 => ⟨S16x128, .f32⟩
  | 2 => ⟨S16x192x16x128, .f32⟩
  | 3 => ⟨S4x128x128, .f32⟩
  | 4 => ⟨S4x128x128, .f32⟩
  | 5 => ⟨S4x128x128, .f32⟩
  | 6 => ⟨S4x128x128, .f32⟩
  | 7 => ⟨S4x128x256, .f32⟩
  | 8 => ⟨S4x256, .f32⟩
  | 9 => ⟨S4x256x128, .f32⟩
  | 10 => ⟨S4x128, .f32⟩
  | 11 => ⟨S192x192, .f32⟩
  | 12 => ⟨S192, .f32⟩
  | 13 => ⟨S_, .f32⟩
  | 14 => ⟨S16x4, .f32⟩
  | 15 => ⟨S16, .i32⟩
  | 16 => ⟨S16x1, .i32⟩
  | 17 => ⟨S16x2, .i32⟩
  | 18 => ⟨S16x2, .f32⟩
  | 19 => ⟨S_, .i32⟩
  | 20 => ⟨S16x1, .i32⟩
  | 21 => ⟨S16x1, .i1⟩
  | 22 => ⟨S_, .i32⟩
  | 23 => ⟨S16x1, .i32⟩
  | 24 => ⟨S16x1, .i32⟩
  | 25 => ⟨S16x1, .i32⟩
  | 26 => ⟨S_, .i32⟩
  | 27 => ⟨S16x2, .i32⟩
  | 28 => ⟨S16x2, .i1⟩
  | 29 => ⟨S_, .i32⟩
  | 30 => ⟨S16x2, .i32⟩
  | 31 => ⟨S16x2, .i32⟩
  | 32 => ⟨S16x2, .i32⟩
  | 33 => ⟨S16x2, .i32⟩
  | 34 => ⟨S16x2x1, .i32⟩
  | 35 => ⟨S16x2x1, .i32⟩
  | 36 => ⟨S16x2x2, .i32⟩
  | 37 => ⟨S16x4, .f32⟩
  | 38 => ⟨S_, .f32⟩
  | 39 => ⟨S16x192x16x128, .f32⟩
  | 40 => ⟨S1x128x128, .f32⟩
  | 41 => ⟨S128x128, .f32⟩
  | 42 => ⟨S1x128x128, .f32⟩
  | 43 => ⟨S128x128, .f32⟩
  | 44 => ⟨S1x128x128, .f32⟩
  | 45 => ⟨S128x128, .f32⟩
  | 46 => ⟨S1x128x128, .f32⟩
  | 47 => ⟨S128x128, .f32⟩
  | 48 => ⟨S1x128x256, .f32⟩
  | 49 => ⟨S128x256, .f32⟩
  | 50 => ⟨S1x256, .f32⟩
  | 51 => ⟨S256, .f32⟩
  | 52 => ⟨S1x256x128, .f32⟩
  | 53 => ⟨S256x128, .f32⟩
  | 54 => ⟨S1x128, .f32⟩
  | 55 => ⟨S128, .f32⟩
  | 56 => ⟨S16x24x8x16x128, .f32⟩
  | 57 => ⟨S_, .f32⟩
  | 58 => ⟨S16x24x16x128, .f32⟩
  | 59 => ⟨S_, .f32⟩
  | 60 => ⟨S16x24x16x128, .f32⟩
  | 61 => ⟨S16x24x16x128, .f32⟩
  | 62 => ⟨S16x16x24x128, .f32⟩
  | 63 => ⟨S16x16x24x128, .f32⟩
  | 64 => ⟨S16x16x24x128, .f32⟩
  | 65 => ⟨S16x16x24x128, .f32⟩
  | 66 => ⟨S16x16x24x24, .f32⟩
  | 67 => ⟨S_, .f32⟩
  | 68 => ⟨S_, .f32⟩
  | 69 => ⟨S_, .f32⟩
  | 70 => ⟨S16x16x24x24, .f32⟩
  | 71 => ⟨S16x16x24x24, .f32⟩
  | 72 => ⟨S_, .f32⟩
  | 73 => ⟨S16x16x24, .f32⟩
  | 74 => ⟨S_, .f32⟩
  | 75 => ⟨S16x16x24, .f32⟩
  | 76 => ⟨S16x16x24, .f32⟩
  | 77 => ⟨S16x16x24x1, .f32⟩
  | 78 => ⟨S16x16x24x24, .f32⟩
  | 79 => ⟨S16x16x24x24, .f32⟩
  | 80 => ⟨S16x16x24x24, .f32⟩
  | 81 => ⟨S_, .f32⟩
  | 82 => ⟨S16x16x24, .f32⟩
  | 83 => ⟨S16x16x24x1, .f32⟩
  | 84 => ⟨S16x16x24x24, .f32⟩
  | 85 => ⟨S16x16x24x24, .f32⟩
  | 86 => ⟨S16x16x24x128, .f32⟩
  | 87 => ⟨S16x16x24x128, .f32⟩
  | 88 => ⟨S16x24x16x128, .f32⟩
  | 89 => ⟨S16x24x1x16x128, .f32⟩
  | 90 => ⟨S16x24x1x8x16x128, .f32⟩
  | 91 => ⟨S16x24x8x16x128, .f32⟩
  | 92 => ⟨S16x192x16x128, .f32⟩
  | 93 => ⟨S16x192x16x128, .f32⟩
  | 94 => ⟨S16x192x16x256, .f32⟩
  | 95 => ⟨S1x1x1x256, .f32⟩
  | 96 => ⟨S16x192x16x256, .f32⟩
  | 97 => ⟨S16x192x16x256, .f32⟩
  | 98 => ⟨S_, .f32⟩
  | 99 => ⟨S16x192x16x256, .f32⟩
  | 100 => ⟨S16x192x16x256, .f32⟩
  | 101 => ⟨S16x192x16x128, .f32⟩
  | 102 => ⟨S1x1x1x128, .f32⟩
  | 103 => ⟨S16x192x16x128, .f32⟩
  | 104 => ⟨S16x192x16x128, .f32⟩
  | 105 => ⟨S16x192x16x128, .f32⟩
  | 106 => ⟨S16x1, .f32⟩
  | 107 => ⟨S16, .f32⟩
  | 108 => ⟨S16x1x1x1, .f32⟩
  | 109 => ⟨S16x192x16x128, .f32⟩
  | 110 => ⟨S16x192x16x128, .f32⟩
  | 111 => ⟨S16x192x16x128, .f32⟩
  | 112 => ⟨S1x128x128, .f32⟩
  | 113 => ⟨S128x128, .f32⟩
  | 114 => ⟨S1x128x128, .f32⟩
  | 115 => ⟨S128x128, .f32⟩
  | 116 => ⟨S1x128x128, .f32⟩
  | 117 => ⟨S128x128, .f32⟩
  | 118 => ⟨S1x128x128, .f32⟩
  | 119 => ⟨S128x128, .f32⟩
  | 120 => ⟨S1x128x256, .f32⟩
  | 121 => ⟨S128x256, .f32⟩
  | 122 => ⟨S1x256, .f32⟩
  | 123 => ⟨S256, .f32⟩
  | 124 => ⟨S1x256x128, .f32⟩
  | 125 => ⟨S256x128, .f32⟩
  | 126 => ⟨S1x128, .f32⟩
  | 127 => ⟨S128, .f32⟩
  | _ => ⟨S16x128, .i32⟩

abbrev hbmTy0_1 (i : Nat) : BufTy := match i % 128 with
  | 0 => ⟨S16x32x6x16x128, .f32⟩
  | 1 => ⟨S_, .f32⟩
  | 2 => ⟨S16x32x16x128, .f32⟩
  | 3 => ⟨S_, .f32⟩
  | 4 => ⟨S16x32x16x128, .f32⟩
  | 5 => ⟨S16x32x16x128, .f32⟩
  | 6 => ⟨S16x16x32x128, .f32⟩
  | 7 => ⟨S16x16x32x128, .f32⟩
  | 8 => ⟨S16x16x32x128, .f32⟩
  | 9 => ⟨S16x16x32x128, .f32⟩
  | 10 => ⟨S16x16x32x32, .f32⟩
  | 11 => ⟨S_, .f32⟩
  | 12 => ⟨S_, .f32⟩
  | 13 => ⟨S_, .f32⟩
  | 14 => ⟨S16x16x32x32, .f32⟩
  | 15 => ⟨S16x16x32x32, .f32⟩
  | 16 => ⟨S_, .f32⟩
  | 17 => ⟨S16x16x32, .f32⟩
  | 18 => ⟨S_, .f32⟩
  | 19 => ⟨S16x16x32, .f32⟩
  | 20 => ⟨S16x16x32, .f32⟩
  | 21 => ⟨S16x16x32x1, .f32⟩
  | 22 => ⟨S16x16x32x32, .f32⟩
  | 23 => ⟨S16x16x32x32, .f32⟩
  | 24 => ⟨S16x16x32x32, .f32⟩
  | 25 => ⟨S_, .f32⟩
  | 26 => ⟨S16x16x32, .f32⟩
  | 27 => ⟨S16x16x32x1, .f32⟩
  | 28 => ⟨S16x16x32x32, .f32⟩
  | 29 => ⟨S16x16x32x32, .f32⟩
  | 30 => ⟨S16x16x32x128, .f32⟩
  | 31 => ⟨S16x16x32x128, .f32⟩
  | 32 => ⟨S16x32x16x128, .f32⟩
  | 33 => ⟨S16x32x1x16x128, .f32⟩
  | 34 => ⟨S16x32x1x6x16x128, .f32⟩
  | 35 => ⟨S16x32x6x16x128, .f32⟩
  | 36 => ⟨S16x192x16x128, .f32⟩
  | 37 => ⟨S16x192x16x128, .f32⟩
  | 38 => ⟨S16x192x16x256, .f32⟩
  | 39 => ⟨S1x1x1x256, .f32⟩
  | 40 => ⟨S16x192x16x256, .f32⟩
  | 41 => ⟨S16x192x16x256, .f32⟩
  | 42 => ⟨S_, .f32⟩
  | 43 => ⟨S16x192x16x256, .f32⟩
  | 44 => ⟨S16x192x16x256, .f32⟩
  | 45 => ⟨S16x192x16x128, .f32⟩
  | 46 => ⟨S1x1x1x128, .f32⟩
  | 47 => ⟨S16x192x16x128, .f32⟩
  | 48 => ⟨S16x192x16x128, .f32⟩
  | 49 => ⟨S16x192x16x128, .f32⟩
  | 50 => ⟨S16x1, .f32⟩
  | 51 => ⟨S16, .f32⟩
  | 52 => ⟨S16x1x1x1, .f32⟩
  | 53 => ⟨S16x192x16x128, .f32⟩
  | 54 => ⟨S16x192x16x128, .f32⟩
  | 55 => ⟨S16x192x16x128, .f32⟩
  | 56 => ⟨S1x128x128, .f32⟩
  | 57 => ⟨S128x128, .f32⟩
  | 58 => ⟨S1x128x128, .f32⟩
  | 59 => ⟨S128x128, .f32⟩
  | 60 => ⟨S1x128x128, .f32⟩
  | 61 => ⟨S128x128, .f32⟩
  | 62 => ⟨S1x128x128, .f32⟩
  | 63 => ⟨S128x128, .f32⟩
  | 64 => ⟨S1x128x256, .f32⟩
  | 65 => ⟨S128x256, .f32⟩
  | 66 => ⟨S1x256, .f32⟩
  | 67 => ⟨S256, .f32⟩
  | 68 => ⟨S1x256x128, .f32⟩
  | 69 => ⟨S256x128, .f32⟩
  | 70 => ⟨S1x128, .f32⟩
  | 71 => ⟨S128, .f32⟩
  | 72 => ⟨S16x48x4x16x128, .f32⟩
  | 73 => ⟨S_, .f32⟩
  | 74 => ⟨S16x48x16x128, .f32⟩
  | 75 => ⟨S_, .f32⟩
  | 76 => ⟨S16x48x16x128, .f32⟩
  | 77 => ⟨S16x48x16x128, .f32⟩
  | 78 => ⟨S16x16x48x128, .f32⟩
  | 79 => ⟨S16x16x48x128, .f32⟩
  | 80 => ⟨S16x16x48x128, .f32⟩
  | 81 => ⟨S16x16x48x128, .f32⟩
  | 82 => ⟨S16x16x48x48, .f32⟩
  | 83 => ⟨S_, .f32⟩
  | 84 => ⟨S_, .f32⟩
  | 85 => ⟨S_, .f32⟩
  | 86 => ⟨S16x16x48x48, .f32⟩
  | 87 => ⟨S16x16x48x48, .f32⟩
  | 88 => ⟨S_, .f32⟩
  | 89 => ⟨S16x16x48, .f32⟩
  | 90 => ⟨S_, .f32⟩
  | 91 => ⟨S16x16x48, .f32⟩
  | 92 => ⟨S16x16x48, .f32⟩
  | 93 => ⟨S16x16x48x1, .f32⟩
  | 94 => ⟨S16x16x48x48, .f32⟩
  | 95 => ⟨S16x16x48x48, .f32⟩
  | 96 => ⟨S16x16x48x48, .f32⟩
  | 97 => ⟨S_, .f32⟩
  | 98 => ⟨S16x16x48, .f32⟩
  | 99 => ⟨S16x16x48x1, .f32⟩
  | 100 => ⟨S16x16x48x48, .f32⟩
  | 101 => ⟨S16x16x48x48, .f32⟩
  | 102 => ⟨S16x16x48x128, .f32⟩
  | 103 => ⟨S16x16x48x128, .f32⟩
  | 104 => ⟨S16x48x16x128, .f32⟩
  | 105 => ⟨S16x48x1x16x128, .f32⟩
  | 106 => ⟨S16x48x1x4x16x128, .f32⟩
  | 107 => ⟨S16x48x4x16x128, .f32⟩
  | 108 => ⟨S16x192x16x128, .f32⟩
  | 109 => ⟨S16x192x16x128, .f32⟩
  | 110 => ⟨S16x192x16x256, .f32⟩
  | 111 => ⟨S1x1x1x256, .f32⟩
  | 112 => ⟨S16x192x16x256, .f32⟩
  | 113 => ⟨S16x192x16x256, .f32⟩
  | 114 => ⟨S_, .f32⟩
  | 115 => ⟨S16x192x16x256, .f32⟩
  | 116 => ⟨S16x192x16x256, .f32⟩
  | 117 => ⟨S16x192x16x128, .f32⟩
  | 118 => ⟨S1x1x1x128, .f32⟩
  | 119 => ⟨S16x192x16x128, .f32⟩
  | 120 => ⟨S16x192x16x128, .f32⟩
  | 121 => ⟨S16x192x16x128, .f32⟩
  | 122 => ⟨S16x1, .f32⟩
  | 123 => ⟨S16, .f32⟩
  | 124 => ⟨S16x1x1x1, .f32⟩
  | 125 => ⟨S16x192x16x128, .f32⟩
  | 126 => ⟨S16x192x16x128, .f32⟩
  | 127 => ⟨S16x192x16x128, .f32⟩
  | _ => ⟨S16x128, .i32⟩

abbrev hbmTy0_2 (i : Nat) : BufTy := match i % 128 with
  | 0 => ⟨S1x128x128, .f32⟩
  | 1 => ⟨S128x128, .f32⟩
  | 2 => ⟨S1x128x128, .f32⟩
  | 3 => ⟨S128x128, .f32⟩
  | 4 => ⟨S1x128x128, .f32⟩
  | 5 => ⟨S128x128, .f32⟩
  | 6 => ⟨S1x128x128, .f32⟩
  | 7 => ⟨S128x128, .f32⟩
  | 8 => ⟨S1x128x256, .f32⟩
  | 9 => ⟨S128x256, .f32⟩
  | 10 => ⟨S1x256, .f32⟩
  | 11 => ⟨S256, .f32⟩
  | 12 => ⟨S1x256x128, .f32⟩
  | 13 => ⟨S256x128, .f32⟩
  | 14 => ⟨S1x128, .f32⟩
  | 15 => ⟨S128, .f32⟩
  | 16 => ⟨S16x96x2x16x128, .f32⟩
  | 17 => ⟨S_, .f32⟩
  | 18 => ⟨S16x96x16x128, .f32⟩
  | 19 => ⟨S_, .f32⟩
  | 20 => ⟨S16x96x16x128, .f32⟩
  | 21 => ⟨S16x96x16x128, .f32⟩
  | 22 => ⟨S16x16x96x128, .f32⟩
  | 23 => ⟨S16x16x96x128, .f32⟩
  | 24 => ⟨S16x16x96x128, .f32⟩
  | 25 => ⟨S16x16x96x128, .f32⟩
  | 26 => ⟨S16x16x96x96, .f32⟩
  | 27 => ⟨S_, .f32⟩
  | 28 => ⟨S_, .f32⟩
  | 29 => ⟨S_, .f32⟩
  | 30 => ⟨S16x16x96x96, .f32⟩
  | 31 => ⟨S16x16x96x96, .f32⟩
  | 32 => ⟨S_, .f32⟩
  | 33 => ⟨S16x16x96, .f32⟩
  | 34 => ⟨S_, .f32⟩
  | 35 => ⟨S16x16x96, .f32⟩
  | 36 => ⟨S16x16x96, .f32⟩
  | 37 => ⟨S16x16x96x1, .f32⟩
  | 38 => ⟨S16x16x96x96, .f32⟩
  | 39 => ⟨S16x16x96x96, .f32⟩
  | 40 => ⟨S16x16x96x96, .f32⟩
  | 41 => ⟨S_, .f32⟩
  | 42 => ⟨S16x16x96, .f32⟩
  | 43 => ⟨S16x16x96x1, .f32⟩
  | 44 => ⟨S16x16x96x96, .f32⟩
  | 45 => ⟨S16x16x96x96, .f32⟩
  | 46 => ⟨S16x16x96x128, .f32⟩
  | 47 => ⟨S16x16x96x128, .f32⟩
  | 48 => ⟨S16x96x16x128, .f32⟩
  | 49 => ⟨S16x96x1x16x128, .f32⟩
  | 50 => ⟨S16x96x1x2x16x128, .f32⟩
  | 51 => ⟨S16x96x2x16x128, .f32⟩
  | 52 => ⟨S16x192x16x128, .f32⟩
  | 53 => ⟨S16x192x16x128, .f32⟩
  | 54 => ⟨S16x192x16x256, .f32⟩
  | 55 => ⟨S1x1x1x256, .f32⟩
  | 56 => ⟨S16x192x16x256, .f32⟩
  | 57 => ⟨S16x192x16x256, .f32⟩
  | 58 => ⟨S_, .f32⟩
  | 59 => ⟨S16x192x16x256, .f32⟩
  | 60 => ⟨S16x192x16x256, .f32⟩
  | 61 => ⟨S16x192x16x128, .f32⟩
  | 62 => ⟨S1x1x1x128, .f32⟩
  | 63 => ⟨S16x192x16x128, .f32⟩
  | 64 => ⟨S16x192x16x128, .f32⟩
  | 65 => ⟨S16x192x16x128, .f32⟩
  | 66 => ⟨S16x1, .f32⟩
  | 67 => ⟨S16, .f32⟩
  | 68 => ⟨S16x1x1x1, .f32⟩
  | 69 => ⟨S16x192x16x128, .f32⟩
  | 70 => ⟨S16x192x16x128, .f32⟩
  | 71 => ⟨S16x192x16x128, .f32⟩
  | 72 => ⟨S192x16x16x128, .f32⟩
  | 73 => ⟨S16x192x16x128, .f32⟩
  | 74 => ⟨S1x192x1x1, .f32⟩
  | 75 => ⟨S16x192x16x128, .f32⟩
  | 76 => ⟨S16x192x16x128, .f32⟩
  | 77 => ⟨S16x192x16x128, .f32⟩
  | _ => ⟨S16x128, .i32⟩

abbrev hbmTy (i : Nat) : BufTy := match i / 128 with
  | 0 => hbmTy0_0 i
  | 1 => hbmTy0_1 i
  | 2 => hbmTy0_2 i
  | _ => ⟨S16x128, .i32⟩

abbrev bufTy : (tb : Table) → Fin (tcTables nBuf tb) → BufTy
  | .hbm, ⟨i, _⟩ => hbmTy i
  | _, _ => ⟨S16x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_call0_cst : Ref sig .tc := ⟨.hbm, 98, rfl⟩
abbrev main_call0_v0 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_10 : Ref sig .tc := ⟨.hbm, 129, rfl⟩
abbrev main_v102 : Ref sig .tc := ⟨.hbm, 130, rfl⟩
abbrev main_cst_11 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_12 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_13 : Ref sig .tc := ⟨.hbm, 144, rfl⟩
abbrev main_v114 : Ref sig .tc := ⟨.hbm, 145, rfl⟩
abbrev main_cst_14 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_15 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_call1_cst : Ref sig .tc := ⟨.hbm, 170, rfl⟩
abbrev main_call1_v0 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_cst_16 : Ref sig .tc := ⟨.hbm, 201, rfl⟩
abbrev main_v166 : Ref sig .tc := ⟨.hbm, 202, rfl⟩
abbrev main_cst_17 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_cst_18 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_cst_19 : Ref sig .tc := ⟨.hbm, 216, rfl⟩
abbrev main_v178 : Ref sig .tc := ⟨.hbm, 217, rfl⟩
abbrev main_cst_20 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_cst_21 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_call2_cst : Ref sig .tc := ⟨.hbm, 242, rfl⟩
abbrev main_call2_v0 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_cst_22 : Ref sig .tc := ⟨.hbm, 273, rfl⟩
abbrev main_v230 : Ref sig .tc := ⟨.hbm, 274, rfl⟩
abbrev main_cst_23 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_cst_24 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_cst_25 : Ref sig .tc := ⟨.hbm, 288, rfl⟩
abbrev main_v242 : Ref sig .tc := ⟨.hbm, 289, rfl⟩
abbrev main_cst_26 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_cst_27 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_call3_cst : Ref sig .tc := ⟨.hbm, 314, rfl⟩
abbrev main_call3_v0 : Ref sig .tc := ⟨.hbm, 315, rfl⟩
abbrev main_v265 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_v271 : Ref sig .tc := ⟨.hbm, 322, rfl⟩
abbrev main_v272 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_v276 : Ref sig .tc := ⟨.hbm, 327, rfl⟩
abbrev main_v277 : Ref sig .tc := ⟨.hbm, 328, rfl⟩
abbrev main_v278 : Ref sig .tc := ⟨.hbm, 329, rfl⟩
abbrev main_v279 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩

abbrev nD : Nat := 1
abbrev τ : Topo := Topo.v7x

variable {F : FTy → Type} [FloatOps F]
-- ==== Gate.lean ====
abbrev S16x192x16x128 : Shape := ⟨4, ![16, 192, 16, 128]⟩
abbrev S16x1 : Shape := ⟨2, ![16, 1]⟩
abbrev S1 : Shape := ⟨1, ![1]⟩
abbrev S192x4 : Shape := ⟨2, ![192, 4]⟩
abbrev S4x192x192 : Shape := ⟨3, ![4, 192, 192]⟩
abbrev S_ : Shape := ⟨0, ![]⟩
abbrev S192x192 : Shape := ⟨2, ![192, 192]⟩
abbrev S8x192x192 : Shape := ⟨3, ![8, 192, 192]⟩
abbrev S12x192x192 : Shape := ⟨3, ![12, 192, 192]⟩
abbrev S97x192 : Shape := ⟨2, ![97, 192]⟩
abbrev S192x97 : Shape := ⟨2, ![192, 97]⟩
abbrev S192x128 : Shape := ⟨2, ![192, 128]⟩
abbrev S128x192 : Shape := ⟨2, ![128, 192]⟩
abbrev S16x192x16x1 : Shape := ⟨4, ![16, 192, 16, 1]⟩
abbrev S16x192x16 : Shape := ⟨3, ![16, 192, 16]⟩
abbrev S16x16x192 : Shape := ⟨3, ![16, 16, 192]⟩
abbrev S256x192 : Shape := ⟨2, ![256, 192]⟩
abbrev S16 : Shape := ⟨1, ![16]⟩
abbrev S1x16 : Shape := ⟨2, ![1, 16]⟩
abbrev S16x16 : Shape := ⟨2, ![16, 16]⟩
abbrev S256 : Shape := ⟨1, ![256]⟩
abbrev S1x256 : Shape := ⟨2, ![1, 256]⟩
abbrev S8x256 : Shape := ⟨2, ![8, 256]⟩
abbrev S1x1 : Shape := ⟨2, ![1, 1]⟩
abbrev S8x128 : Shape := ⟨2, ![8, 128]⟩
abbrev S16x128 : Shape := ⟨2, ![16, 128]⟩
abbrev S256x128 : Shape := ⟨2, ![256, 128]⟩
abbrev S256x1 : Shape := ⟨2, ![256, 1]⟩
abbrev S16x256 : Shape := ⟨2, ![16, 256]⟩
abbrev S16x192 : Shape := ⟨2, ![16, 192]⟩
abbrev S1x128 : Shape := ⟨2, ![1, 128]⟩
abbrev S128 : Shape := ⟨1, ![128]⟩
abbrev S1x1x128 : Shape := ⟨3, ![1, 1, 128]⟩
abbrev S1x1x1 : Shape := ⟨3, ![1, 1, 1]⟩

abbrev nBuf : Space → Nat
  | .hbm => 135
  | .vmem => 12
  | .smem => 0
  | _ => 0

abbrev hbmTy0_0 (i : Nat) : BufTy := match i % 128 with
  | 0 => ⟨S16x192x16x128, .f32⟩
  | 1 => ⟨S16x1, .f32⟩
  | 2 => ⟨S1, .f32⟩
  | 3 => ⟨S192x4, .f32⟩
  | 4 => ⟨S4x192x192, .i32⟩
  | 5 => ⟨S4x192x192, .i32⟩
  | 6 => ⟨S4x192x192, .i32⟩
  | 7 => ⟨S4x192x192, .i32⟩
  | 8 => ⟨S_, .i32⟩
  | 9 => ⟨S4x192x192, .i32⟩
  | 10 => ⟨S4x192x192, .i32⟩
  | 11 => ⟨S_, .i32⟩
  | 12 => ⟨S4x192x192, .i32⟩
  | 13 => ⟨S4x192x192, .i32⟩
  | 14 => ⟨S_, .i32⟩
  | 15 => ⟨S4x192x192, .i32⟩
  | 16 => ⟨S4x192x192, .i32⟩
  | 17 => ⟨S4x192x192, .i1⟩
  | 18 => ⟨S4x192x192, .f32⟩
  | 19 => ⟨S_, .f32⟩
  | 20 => ⟨S192x192, .f32⟩
  | 21 => ⟨S_, .f32⟩
  | 22 => ⟨S192x192, .f32⟩
  | 23 => ⟨S192x192, .f32⟩
  | 24 => ⟨S8x192x192, .i32⟩
  | 25 => ⟨S8x192x192, .i32⟩
  | 26 => ⟨S8x192x192, .i32⟩
  | 27 => ⟨S8x192x192, .i32⟩
  | 28 => ⟨S_, .i32⟩
  | 29 => ⟨S8x192x192, .i32⟩
  | 30 => ⟨S8x192x192, .i32⟩
  | 31 => ⟨S_, .i32⟩
  | 32 => ⟨S8x192x192, .i32⟩
  | 33 => ⟨S8x192x192, .i32⟩
  | 34 => ⟨S_, .i32⟩
  | 35 => ⟨S8x192x192, .i32⟩
  | 36 => ⟨S8x192x192, .i32⟩
  | 37 => ⟨S8x192x192, .i1⟩
  | 38 => ⟨S8x192x192, .f32⟩
  | 39 => ⟨S_, .f32⟩
  | 40 => ⟨S192x192, .f32⟩
  | 41 => ⟨S_, .f32⟩
  | 42 => ⟨S192x192, .f32⟩
  | 43 => ⟨S192x192, .f32⟩
  | 44 => ⟨S192x192, .f32⟩
  | 45 => ⟨S12x192x192, .i32⟩
  | 46 => ⟨S12x192x192, .i32⟩
  | 47 => ⟨S12x192x192, .i32⟩
  | 48 => ⟨S12x192x192, .i32⟩
  | 49 => ⟨S_, .i32⟩
  | 50 => ⟨S12x192x192, .i32⟩
  | 51 => ⟨S12x192x192, .i32⟩
  | 52 => ⟨S_, .i32⟩
  | 53 => ⟨S12x192x192, .i32⟩
  | 54 => ⟨S12x192x192, .i32⟩
  | 55 => ⟨S_, .i32⟩
  | 56 => ⟨S12x192x192, .i32⟩
  | 57 => ⟨S12x192x192, .i32⟩
  | 58 => ⟨S12x192x192, .i1⟩
  | 59 => ⟨S12x192x192, .f32⟩
  | 60 => ⟨S_, .f32⟩
  | 61 => ⟨S192x192, .f32⟩
  | 62 => ⟨S_, .f32⟩
  | 63 => ⟨S192x192, .f32⟩
  | 64 => ⟨S192x192, .f32⟩
  | 65 => ⟨S192x192, .f32⟩
  | 66 => ⟨S97x192, .i32⟩
  | 67 => ⟨S97x192, .i32⟩
  | 68 => ⟨S_, .f32⟩
  | 69 => ⟨S97x192, .f32⟩
  | 70 => ⟨S_, .f32⟩
  | 71 => ⟨S97x192, .f32⟩
  | 72 => ⟨S97x192, .f32⟩
  | 73 => ⟨S97x192, .i32⟩
  | 74 => ⟨S97x192, .f32⟩
  | 75 => ⟨S_, .f32⟩
  | 76 => ⟨S97x192, .f32⟩
  | 77 => ⟨S97x192, .f32⟩
  | 78 => ⟨S97x192, .f32⟩
  | 79 => ⟨S_, .i32⟩
  | 80 => ⟨S97x192, .i32⟩
  | 81 => ⟨S97x192, .i1⟩
  | 82 => ⟨S97x192, .f32⟩
  | 83 => ⟨S_, .f32⟩
  | 84 => ⟨S97x192, .f32⟩
  | 85 => ⟨S97x192, .f32⟩
  | 86 => ⟨S_, .i32⟩
  | 87 => ⟨S97x192, .i32⟩
  | 88 => ⟨S97x192, .i1⟩
  | 89 => ⟨S97x192, .f32⟩
  | 90 => ⟨S97x192, .f32⟩
  | 91 => ⟨S97x192, .f32⟩
  | 92 => ⟨S97x192, .f32⟩
  | 93 => ⟨S97x192, .f32⟩
  | 94 => ⟨S97x192, .f32⟩
  | 95 => ⟨S_, .f32⟩
  | 96 => ⟨S97x192, .f32⟩
  | 97 => ⟨S97x192, .f32⟩
  | 98 => ⟨S97x192, .f32⟩
  | 99 => ⟨S_, .f32⟩
  | 100 => ⟨S97x192, .f32⟩
  | 101 => ⟨S97x192, .f32⟩
  | 102 => ⟨S192x192, .f32⟩
  | 103 => ⟨S192x97, .f32⟩
  | 104 => ⟨S_, .i32⟩
  | 105 => ⟨S_, .f32⟩
  | 106 => ⟨S192x128, .f32⟩
  | 107 => ⟨S192x97, .f32⟩
  | 108 => ⟨S_, .i32⟩
  | 109 => ⟨S_, .f32⟩
  | 110 => ⟨S192x128, .f32⟩
  | 111 => ⟨S_, .i32⟩
  | 112 => ⟨S_, .f32⟩
  | 113 => ⟨S128x192, .f32⟩
  | 114 => ⟨S_, .i32⟩
  | 115 => ⟨S_, .f32⟩
  | 116 => ⟨S128x192, .f32⟩
  | 117 => ⟨S16x192x16x1, .f32⟩
  | 118 => ⟨S16x192x16, .f32⟩
  | 119 => ⟨S16x16x192, .f32⟩
  | 120 => ⟨S256x192, .f32⟩
  | 121 => ⟨S16, .f32⟩
  | 122 => ⟨S1x16, .f32⟩
  | 123 => ⟨S16x16, .f32⟩
  | 124 => ⟨S256, .f32⟩
  | 125 => ⟨S1x256, .f32⟩
  | 126 => ⟨S8x256, .f32⟩
  | 127 => ⟨S1x1, .f32⟩
  | _ => ⟨S16x192x16x128, .f32⟩

abbrev hbmTy0_1 (i : Nat) : BufTy := match i % 128 with
  | 0 => ⟨S8x128, .f32⟩
  | 1 => ⟨S_, .i32⟩
  | 2 => ⟨S_, .f32⟩
  | 3 => ⟨S192x128, .f32⟩
  | 4 => ⟨S16x128, .i32⟩
  | 5 => ⟨S16x128, .f32⟩
  | 6 => ⟨S8x128, .f32⟩
  | _ => ⟨S16x192x16x128, .f32⟩

abbrev hbmTy (i : Nat) : BufTy := match i / 128 with
  | 0 => hbmTy0_0 i
  | 1 => hbmTy0_1 i
  | _ => ⟨S16x192x16x128, .f32⟩

abbrev bufTy : (tb : Table) → Fin (tcTables nBuf tb) → BufTy
  | .hbm, ⟨i, _⟩ => hbmTy i
  | .local _ .vmem, ⟨0, _⟩ => ⟨S256x192, .f32⟩
  | .local _ .vmem, ⟨1, _⟩ => ⟨S192x192, .f32⟩
  | .local _ .vmem, ⟨2, _⟩ => ⟨S192x128, .f32⟩
  | .local _ .vmem, ⟨3, _⟩ => ⟨S192x128, .f32⟩
  | .local _ .vmem, ⟨4, _⟩ => ⟨S128x192, .f32⟩
  | .local _ .vmem, ⟨5, _⟩ => ⟨S128x192, .f32⟩
  | .local _ .vmem, ⟨6, _⟩ => ⟨S8x256, .f32⟩
  | .local _ .vmem, ⟨7, _⟩ => ⟨S8x128, .f32⟩
  | .local _ .vmem, ⟨8, _⟩ => ⟨S192x128, .f32⟩
  | .local _ .vmem, ⟨9, _⟩ => ⟨S16x128, .i32⟩
  | .local _ .vmem, ⟨10, _⟩ => ⟨S16x128, .f32⟩
  | .local _ .vmem, ⟨11, _⟩ => ⟨S8x128, .f32⟩
  | _, _ => ⟨S16x192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_v35 : Ref sig .tc := ⟨.hbm, 50, rfl⟩
abbrev main_v36 : Ref sig .tc := ⟨.hbm, 51, rfl⟩
abbrev main_c_9 : Ref sig .tc := ⟨.hbm, 52, rfl⟩
abbrev main_v37 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_16 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_c_18 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_20 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_21 : Ref sig .tc := ⟨.hbm, 104, rfl⟩
abbrev main_call0_v0 : Ref sig .tc := ⟨.hbm, 105, rfl⟩
abbrev main_v77 : Ref sig .tc := ⟨.hbm, 106, rfl⟩
abbrev main_v78 : Ref sig .tc := ⟨.hbm, 107, rfl⟩
abbrev main_c_22 : Ref sig .tc := ⟨.hbm, 108, rfl⟩
abbrev main_call1_v0 : Ref sig .tc := ⟨.hbm, 109, rfl⟩
abbrev main_v79 : Ref sig .tc := ⟨.hbm, 110, rfl⟩
abbrev main_c_23 : Ref sig .tc := ⟨.hbm, 111, rfl⟩
abbrev main_call2_v0 : Ref sig .tc := ⟨.hbm, 112, rfl⟩
abbrev main_v80 : Ref sig .tc := ⟨.hbm, 113, rfl⟩
abbrev main_c_24 : Ref sig .tc := ⟨.hbm, 114, rfl⟩
abbrev main_call3_v0 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_25 : Ref sig .tc := ⟨.hbm, 129, rfl⟩
abbrev main_call4_v0 : Ref sig .tc := ⟨.hbm, 130, rfl⟩
abbrev main_v94 : Ref sig .tc := ⟨.hbm, 131, rfl⟩
abbrev main_v95_0 : Ref sig .tc := ⟨.hbm, 132, rfl⟩
abbrev main_v95_1 : Ref sig .tc := ⟨.hbm, 133, rfl⟩
abbrev main_v95_2 : Ref sig .tc := ⟨.hbm, 134, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S192x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x128 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== GateIdeal.lean ====
variable {F : FTy → Type} [FloatOps F] [Named F]
def κ : String → Option EReal := fun
  | "mask" => some ⊥
  | _ => none
-- ==== GateReferenceIdeal.lean ====
abbrev S16x192x16x128 : Shape := ⟨4, ![16, 192, 16, 128]⟩
abbrev S16x1 : Shape := ⟨2, ![16, 1]⟩
abbrev S1 : Shape := ⟨1, ![1]⟩
abbrev S192x4 : Shape := ⟨2, ![192, 4]⟩
abbrev S16x192x16x1 : Shape := ⟨4, ![16, 192, 16, 1]⟩
abbrev S16x192x16 : Shape := ⟨3, ![16, 192, 16]⟩
abbrev S16x1x16 : Shape := ⟨3, ![16, 1, 16]⟩
abbrev S16x2x16 : Shape := ⟨3, ![16, 2, 16]⟩
abbrev S16x195x16 : Shape := ⟨3, ![16, 195, 16]⟩
abbrev S_ : Shape := ⟨0, ![]⟩
abbrev S16x3x16 : Shape := ⟨3, ![16, 3, 16]⟩
abbrev S16x4x16 : Shape := ⟨3, ![16, 4, 16]⟩
abbrev S16x199x16 : Shape := ⟨3, ![16, 199, 16]⟩
abbrev S16x5x16 : Shape := ⟨3, ![16, 5, 16]⟩
abbrev S16x6x16 : Shape := ⟨3, ![16, 6, 16]⟩
abbrev S16x203x16 : Shape := ⟨3, ![16, 203, 16]⟩
abbrev S97x192 : Shape := ⟨2, ![97, 192]⟩
abbrev S16x16x97 : Shape := ⟨3, ![16, 16, 97]⟩
abbrev S16x97x16 : Shape := ⟨3, ![16, 97, 16]⟩
abbrev S16x16x3 : Shape := ⟨3, ![16, 16, 3]⟩
abbrev S16x16x3x1 : Shape := ⟨4, ![16, 16, 3, 1]⟩
abbrev S1x1x1x97 : Shape := ⟨4, ![1, 1, 1, 97]⟩
abbrev S16x16x3x97 : Shape := ⟨4, ![16, 16, 3, 97]⟩
abbrev S192x16x16 : Shape := ⟨3, ![192, 16, 16]⟩
abbrev S16x192x1 : Shape := ⟨3, ![16, 192, 1]⟩
abbrev S16x192 : Shape := ⟨2, ![16, 192]⟩
abbrev S16x4 : Shape := ⟨2, ![16, 4]⟩
abbrev S16x3 : Shape := ⟨2, ![16, 3]⟩
abbrev S16x2 : Shape := ⟨2, ![16, 2]⟩
abbrev S16 : Shape := ⟨1, ![16]⟩
abbrev S16x2x1 : Shape := ⟨3, ![16, 2, 1]⟩
abbrev S16x2x2 : Shape := ⟨3, ![16, 2, 2]⟩
abbrev S4 : Shape := ⟨1, ![4]⟩
abbrev S16x128 : Shape := ⟨2, ![16, 128]⟩
abbrev S8x128 : Shape := ⟨2, ![8, 128]⟩

abbrev nBuf : Space → Nat
  | .hbm => 272
  | .vmem => 0
  | .smem => 0
  | _ => 0

abbrev hbmTy0_0 (i : Nat) : BufTy := match i % 128 with
  | 0 => ⟨S16x192x16x128, .f32⟩
  | 1 => ⟨S16x1, .f32⟩
  | 2 => ⟨S1, .f32⟩
  | 3 => ⟨S192x4, .f32⟩
  | 4 => ⟨S16x192x16x1, .f32⟩
  | 5 => ⟨S16x192x16, .f32⟩
  | 6 => ⟨S16x1x16, .f32⟩
  | 7 => ⟨S16x1x16, .f32⟩
  | 8 => ⟨S16x2x16, .f32⟩
  | 9 => ⟨S16x195x16, .f32⟩
  | 10 => ⟨S16x192x16, .f32⟩
  | 11 => ⟨S16x192x16, .f32⟩
  | 12 => ⟨S16x192x16, .f32⟩
  | 13 => ⟨S16x192x16, .f32⟩
  | 14 => ⟨S16x192x16, .f32⟩
  | 15 => ⟨S16x192x16, .f32⟩
  | 16 => ⟨S16x192x16, .f32⟩
  | 17 => ⟨S_, .f32⟩
  | 18 => ⟨S16x192x16, .f32⟩
  | 19 => ⟨S16x192x16, .f32⟩
  | 20 => ⟨S16x1x16, .f32⟩
  | 21 => ⟨S16x3x16, .f32⟩
  | 22 => ⟨S16x1x16, .f32⟩
  | 23 => ⟨S16x4x16, .f32⟩
  | 24 => ⟨S16x199x16, .f32⟩
  | 25 => ⟨S16x192x16, .f32⟩
  | 26 => ⟨S16x192x16, .f32⟩
  | 27 => ⟨S16x192x16, .f32⟩
  | 28 => ⟨S16x192x16, .f32⟩
  | 29 => ⟨S16x192x16, .f32⟩
  | 30 => ⟨S16x192x16, .f32⟩
  | 31 => ⟨S16x192x16, .f32⟩
  | 32 => ⟨S16x192x16, .f32⟩
  | 33 => ⟨S16x192x16, .f32⟩
  | 34 => ⟨S16x192x16, .f32⟩
  | 35 => ⟨S16x192x16, .f32⟩
  | 36 => ⟨S16x192x16, .f32⟩
  | 37 => ⟨S16x192x16, .f32⟩
  | 38 => ⟨S16x192x16, .f32⟩
  | 39 => ⟨S16x192x16, .f32⟩
  | 40 => ⟨S_, .f32⟩
  | 41 => ⟨S16x192x16, .f32⟩
  | 42 => ⟨S16x192x16, .f32⟩
  | 43 => ⟨S16x192x16, .f32⟩
  | 44 => ⟨S16x1x16, .f32⟩
  | 45 => ⟨S16x5x16, .f32⟩
  | 46 => ⟨S16x1x16, .f32⟩
  | 47 => ⟨S16x6x16, .f32⟩
  | 48 => ⟨S16x203x16, .f32⟩
  | 49 => ⟨S16x192x16, .f32⟩
  | 50 => ⟨S16x192x16, .f32⟩
  | 51 => ⟨S16x192x16, .f32⟩
  | 52 => ⟨S16x192x16, .f32⟩
  | 53 => ⟨S16x192x16, .f32⟩
  | 54 => ⟨S16x192x16, .f32⟩
  | 55 => ⟨S16x192x16, .f32⟩
  | 56 => ⟨S16x192x16, .f32⟩
  | 57 => ⟨S16x192x16, .f32⟩
  | 58 => ⟨S16x192x16, .f32⟩
  | 59 => ⟨S16x192x16, .f32⟩
  | 60 => ⟨S16x192x16, .f32⟩
  | 61 => ⟨S16x192x16, .f32⟩
  | 62 => ⟨S16x192x16, .f32⟩
  | 63 => ⟨S16x192x16, .f32⟩
  | 64 => ⟨S16x192x16, .f32⟩
  | 65 => ⟨S16x192x16, .f32⟩
  | 66 => ⟨S16x192x16, .f32⟩
  | 67 => ⟨S16x192x16, .f32⟩
  | 68 => ⟨S16x192x16, .f32⟩
  | 69 => ⟨S16x192x16, .f32⟩
  | 70 => ⟨S16x192x16, .f32⟩
  | 71 => ⟨S16x192x16, .f32⟩
  | 72 => ⟨S_, .f32⟩
  | 73 => ⟨S16x192x16, .f32⟩
  | 74 => ⟨S16x192x16, .f32⟩
  | 75 => ⟨S16x192x16, .f32⟩
  | 76 => ⟨S_, .f32⟩
  | 77 => ⟨S16x192x16, .f32⟩
  | 78 => ⟨S16x192x16, .f32⟩
  | 79 => ⟨S97x192, .i32⟩
  | 80 => ⟨S97x192, .i32⟩
  | 81 => ⟨S_, .f32⟩
  | 82 => ⟨S97x192, .f32⟩
  | 83 => ⟨S_, .f32⟩
  | 84 => ⟨S97x192, .f32⟩
  | 85 => ⟨S97x192, .f32⟩
  | 86 => ⟨S97x192, .i32⟩
  | 87 => ⟨S97x192, .f32⟩
  | 88 => ⟨S_, .f32⟩
  | 89 => ⟨S97x192, .f32⟩
  | 90 => ⟨S97x192, .f32⟩
  | 91 => ⟨S97x192, .f32⟩
  | 92 => ⟨S_, .i32⟩
  | 93 => ⟨S97x192, .i32⟩
  | 94 => ⟨S97x192, .i1⟩
  | 95 => ⟨S97x192, .f32⟩
  | 96 => ⟨S_, .f32⟩
  | 97 => ⟨S97x192, .f32⟩
  | 98 => ⟨S97x192, .f32⟩
  | 99 => ⟨S_, .i32⟩
  | 100 => ⟨S97x192, .i32⟩
  | 101 => ⟨S97x192, .i1⟩
  | 102 => ⟨S97x192, .f32⟩
  | 103 => ⟨S97x192, .f32⟩
  | 104 => ⟨S97x192, .f32⟩
  | 105 => ⟨S97x192, .f32⟩
  | 106 => ⟨S97x192, .f32⟩
  | 107 => ⟨S97x192, .f32⟩
  | 108 => ⟨S_, .f32⟩
  | 109 => ⟨S97x192, .f32⟩
  | 110 => ⟨S97x192, .f32⟩
  | 111 => ⟨S97x192, .f32⟩
  | 112 => ⟨S_, .f32⟩
  | 113 => ⟨S97x192, .f32⟩
  | 114 => ⟨S97x192, .f32⟩
  | 115 => ⟨S16x16x97, .f32⟩
  | 116 => ⟨S16x97x16, .f32⟩
  | 117 => ⟨S16x16x97, .f32⟩
  | 118 => ⟨S16x97x16, .f32⟩
  | 119 => ⟨S16x97x16, .f32⟩
  | 120 => ⟨S16x97x16, .f32⟩
  | 121 => ⟨S16x97x16, .f32⟩
  | 122 => ⟨S16x97x16, .f32⟩
  | 123 => ⟨S16x16x97, .f32⟩
  | 124 => ⟨S16x16x3, .f32⟩
  | 125 => ⟨S16x16x3, .i32⟩
  | 126 => ⟨S16x16x3x1, .i32⟩
  | 127 => ⟨S1x1x1x97, .i32⟩
  | _ => ⟨S16x192x16x128, .f32⟩

abbrev hbmTy0_1 (i : Nat) : BufTy := match i % 128 with
  | 0 => ⟨S16x16x3x97, .i32⟩
  | 1 => ⟨S16x16x3x97, .i32⟩
  | 2 => ⟨S16x16x3x97, .i1⟩
  | 3 => ⟨S16x16x3x97, .f32⟩
  | 4 => ⟨S_, .f32⟩
  | 5 => ⟨S16x16x97, .f32⟩
  | 6 => ⟨S_, .f32⟩
  | 7 => ⟨S16x16x97, .f32⟩
  | 8 => ⟨S16x16x97, .i1⟩
  | 9 => ⟨S16x16x97, .f32⟩
  | 10 => ⟨S16x97x16, .f32⟩
  | 11 => ⟨S16x97x16, .f32⟩
  | 12 => ⟨S192x16x16, .f32⟩
  | 13 => ⟨S16x192x16, .f32⟩
  | 14 => ⟨S16x97x16, .f32⟩
  | 15 => ⟨S192x16x16, .f32⟩
  | 16 => ⟨S16x192x16, .f32⟩
  | 17 => ⟨S16x192x16, .f32⟩
  | 18 => ⟨S16x192x16, .f32⟩
  | 19 => ⟨S16x192x16, .f32⟩
  | 20 => ⟨S16x192x1, .f32⟩
  | 21 => ⟨S16x192, .f32⟩
  | 22 => ⟨S_, .f32⟩
  | 23 => ⟨S16x192, .f32⟩
  | 24 => ⟨S16x192, .f32⟩
  | 25 => ⟨S16x4, .f32⟩
  | 26 => ⟨S16x3, .f32⟩
  | 27 => ⟨S16x3, .i32⟩
  | 28 => ⟨S16x2, .f32⟩
  | 29 => ⟨S_, .f32⟩
  | 30 => ⟨S16, .f32⟩
  | 31 => ⟨S_, .f32⟩
  | 32 => ⟨S16, .f32⟩
  | 33 => ⟨S16, .f32⟩
  | 34 => ⟨S16x1, .f32⟩
  | 35 => ⟨S16x2, .f32⟩
  | 36 => ⟨S16x2, .f32⟩
  | 37 => ⟨S16x2, .f32⟩
  | 38 => ⟨S_, .f32⟩
  | 39 => ⟨S16, .f32⟩
  | 40 => ⟨S16x1, .f32⟩
  | 41 => ⟨S16x2, .f32⟩
  | 42 => ⟨S16x2, .f32⟩
  | 43 => ⟨S_, .f32⟩
  | 44 => ⟨S16x4, .f32⟩
  | 45 => ⟨S16, .i32⟩
  | 46 => ⟨S16x1, .i32⟩
  | 47 => ⟨S16x2, .i32⟩
  | 48 => ⟨S_, .i32⟩
  | 49 => ⟨S16x1, .i32⟩
  | 50 => ⟨S16x1, .i1⟩
  | 51 => ⟨S_, .i32⟩
  | 52 => ⟨S16x1, .i32⟩
  | 53 => ⟨S16x1, .i32⟩
  | 54 => ⟨S16x1, .i32⟩
  | 55 => ⟨S_, .i32⟩
  | 56 => ⟨S16x2, .i32⟩
  | 57 => ⟨S16x2, .i1⟩
  | 58 => ⟨S_, .i32⟩
  | 59 => ⟨S16x2, .i32⟩
  | 60 => ⟨S16x2, .i32⟩
  | 61 => ⟨S16x2, .i32⟩
  | 62 => ⟨S16x2, .i32⟩
  | 63 => ⟨S16x2x1, .i32⟩
  | 64 => ⟨S16x2x1, .i32⟩
  | 65 => ⟨S16x2x2, .i32⟩
  | 66 => ⟨S16x4, .f32⟩
  | 67 => ⟨S_, .f32⟩
  | 68 => ⟨S4, .f32⟩
  | 69 => ⟨S_, .f32⟩
  | 70 => ⟨S16x4, .f32⟩
  | 71 => ⟨S16x4, .i1⟩
  | 72 => ⟨S16x4, .f32⟩
  | 73 => ⟨S_, .f32⟩
  | 74 => ⟨S4, .f32⟩
  | 75 => ⟨S_, .i32⟩
  | 76 => ⟨S_, .f32⟩
  | 77 => ⟨S_, .f32⟩
  | 78 => ⟨S1, .f32⟩
  | 79 => ⟨S_, .f32⟩
  | 80 => ⟨S1, .f32⟩
  | 81 => ⟨S1, .f32⟩
  | 82 => ⟨S4, .f32⟩
  | 83 => ⟨S4, .f32⟩
  | 84 => ⟨S4, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .i1⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .i32⟩
  | 105 => ⟨S_, .f32⟩
  | 106 => ⟨S_, .f32⟩
  | 107 => ⟨S1, .f32⟩
  | 108 => ⟨S_, .f32⟩
  | 109 => ⟨S1, .f32⟩
  | 110 => ⟨S1, .f32⟩
  | 111 => ⟨S4, .f32⟩
  | 112 => ⟨S4, .f32⟩
  | 113 => ⟨S4, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .i1⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x192x16x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S16x2, .i32⟩
  | 9 => ⟨S_, .i32⟩
  | 10 => ⟨S_, .i32⟩
  | 11 => ⟨S16x128, .i32⟩
  | 12 => ⟨S_, .i32⟩
  | 13 => ⟨S_, .f32⟩
  | 14 => ⟨S16x128, .f32⟩
  | 15 => ⟨S8x128, .f32⟩
  | _ => ⟨S16x192x16x128, .f32⟩

abbrev hbmTy (i : Nat) : BufTy := match i / 128 with
  | 0 => hbmTy0_0 i
  | 1 => hbmTy0_1 i
  | 2 => hbmTy0_2 i
  | _ => ⟨S16x192x16x128, .f32⟩

abbrev bufTy : (tb : Table) → Fin (tcTables nBuf tb) → BufTy
  | .hbm, ⟨i, _⟩ => hbmTy i
  | _, _ => ⟨S16x192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_0 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_cst_1 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_cst_2 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_cst_3 : Ref sig .tc := ⟨.hbm, 81, rfl⟩
abbrev main_v73 : Ref sig .tc := ⟨.hbm, 82, rfl⟩
abbrev main_cst_4 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_5 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_c : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_6 : Ref sig .tc := ⟨.hbm, 96, rfl⟩
abbrev main_v84 : Ref sig .tc := ⟨.hbm, 97, rfl⟩
abbrev main_v85 : Ref sig .tc := ⟨.hbm, 98, rfl⟩
abbrev main_c_7 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_8 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_cst_9 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_values : Ref sig .tc := ⟨.hbm, 124, rfl⟩
abbrev main_indices : Ref sig .tc := ⟨.hbm, 125, rfl⟩
abbrev main_call0_v0 : Ref sig .tc := ⟨.hbm, 126, rfl⟩
abbrev main_call0_v1 : Ref sig .tc := ⟨.hbm, 127, rfl⟩
abbrev main_call0_v2 : Ref sig .tc := ⟨.hbm, 128, rfl⟩
abbrev main_call0_v3 : Ref sig .tc := ⟨.hbm, 129, rfl⟩
abbrev main_call0_v4 : Ref sig .tc := ⟨.hbm, 130, rfl⟩
abbrev main_v108 : Ref sig .tc := ⟨.hbm, 131, rfl⟩
abbrev main_cst_10 : Ref sig .tc := ⟨.hbm, 132, rfl⟩
abbrev main_v109 : Ref sig .tc := ⟨.hbm, 133, rfl⟩
abbrev main_cst_11 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_values_12 : Ref sig .tc := ⟨.hbm, 154, rfl⟩
abbrev main_indices_13 : Ref sig .tc := ⟨.hbm, 155, rfl⟩
abbrev main_v129 : Ref sig .tc := ⟨.hbm, 156, rfl⟩
abbrev main_cst_14 : Ref sig .tc := ⟨.hbm, 157, rfl⟩
abbrev main_v130 : Ref sig .tc := ⟨.hbm, 158, rfl⟩
abbrev main_cst_15 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_16 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_17 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_c_18 : Ref sig .tc := ⟨.hbm, 176, rfl⟩
abbrev main_v145 : Ref sig .tc := ⟨.hbm, 177, rfl⟩
abbrev main_v146 : Ref sig .tc := ⟨.hbm, 178, rfl⟩
abbrev main_c_19 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_c_20 : Ref sig .tc := ⟨.hbm, 183, rfl⟩
abbrev main_v150 : Ref sig .tc := ⟨.hbm, 184, rfl⟩
abbrev main_v151 : Ref sig .tc := ⟨.hbm, 185, rfl⟩
abbrev main_c_21 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_cst_22 : Ref sig .tc := ⟨.hbm, 195, rfl⟩
abbrev main_v160 : Ref sig .tc := ⟨.hbm, 196, rfl⟩
abbrev main_cst_23 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_24 : Ref sig .tc := ⟨.hbm, 201, rfl⟩
abbrev main_v164 : Ref sig .tc := ⟨.hbm, 202, rfl⟩
abbrev main_c_25 : Ref sig .tc := ⟨.hbm, 203, rfl⟩
abbrev main_call1_cst : Ref sig .tc := ⟨.hbm, 204, rfl⟩
abbrev main_call1_v0 : Ref sig .tc := ⟨.hbm, 205, rfl⟩
abbrev main_call1_v1 : Ref sig .tc := ⟨.hbm, 206, rfl⟩
abbrev main_call1_cst_0 : Ref sig .tc := ⟨.hbm, 207, rfl⟩
abbrev main_call1_v2 : Ref sig .tc := ⟨.hbm, 208, rfl⟩
abbrev main_call1_v3 : Ref sig .tc := ⟨.hbm, 209, rfl⟩
abbrev main_call1_v4 : Ref sig .tc := ⟨.hbm, 210, rfl⟩
abbrev main_call1_v5 : Ref sig .tc := ⟨.hbm, 211, rfl⟩
abbrev main_call1_v6 : Ref sig .tc := ⟨.hbm, 212, rfl⟩
abbrev main_call1_v7 : Ref sig .tc := ⟨.hbm, 213, rfl⟩
abbrev main_call1_cst_1 : Ref sig .tc := ⟨.hbm, 214, rfl⟩
abbrev main_call1_v8 : Ref sig .tc := ⟨.hbm, 215, rfl⟩
abbrev main_call1_cst_2 : Ref sig .tc := ⟨.hbm, 216, rfl⟩
abbrev main_call1_v9 : Ref sig .tc := ⟨.hbm, 217, rfl⟩
abbrev main_call1_v10 : Ref sig .tc := ⟨.hbm, 218, rfl⟩
abbrev main_call1_cst_3 : Ref sig .tc := ⟨.hbm, 219, rfl⟩
abbrev main_call1_v11 : Ref sig .tc := ⟨.hbm, 220, rfl⟩
abbrev main_call1_cst_4 : Ref sig .tc := ⟨.hbm, 221, rfl⟩
abbrev main_call1_call0_v0 : Ref sig .tc := ⟨.hbm, 222, rfl⟩
abbrev main_v165 : Ref sig .tc := ⟨.hbm, 223, rfl⟩
abbrev main_cst_26 : Ref sig .tc := ⟨.hbm, 224, rfl⟩
abbrev main_v166 : Ref sig .tc := ⟨.hbm, 225, rfl⟩
abbrev main_cst_27 : Ref sig .tc := ⟨.hbm, 226, rfl⟩
abbrev main_v167 : Ref sig .tc := ⟨.hbm, 227, rfl⟩
abbrev main_v168 : Ref sig .tc := ⟨.hbm, 228, rfl⟩
abbrev main_cst_28 : Ref sig .tc := ⟨.hbm, 229, rfl⟩
abbrev main_v169 : Ref sig .tc := ⟨.hbm, 230, rfl⟩
abbrev main_v170 : Ref sig .tc := ⟨.hbm, 231, rfl⟩
abbrev main_c_29 : Ref sig .tc := ⟨.hbm, 232, rfl⟩
abbrev main_call2_cst : Ref sig .tc := ⟨.hbm, 233, rfl⟩
abbrev main_call2_v0 : Ref sig .tc := ⟨.hbm, 234, rfl⟩
abbrev main_call2_v1 : Ref sig .tc := ⟨.hbm, 235, rfl⟩
abbrev main_call2_cst_0 : Ref sig .tc := ⟨.hbm, 236, rfl⟩
abbrev main_call2_v2 : Ref sig .tc := ⟨.hbm, 237, rfl⟩
abbrev main_call2_v3 : Ref sig .tc := ⟨.hbm, 238, rfl⟩
abbrev main_call2_v4 : Ref sig .tc := ⟨.hbm, 239, rfl⟩
abbrev main_call2_v5 : Ref sig .tc := ⟨.hbm, 240, rfl⟩
abbrev main_call2_v6 : Ref sig .tc := ⟨.hbm, 241, rfl⟩
abbrev main_call2_v7 : Ref sig .tc := ⟨.hbm, 242, rfl⟩
abbrev main_call2_cst_1 : Ref sig .tc := ⟨.hbm, 243, rfl⟩
abbrev main_call2_v8 : Ref sig .tc := ⟨.hbm, 244, rfl⟩
abbrev main_call2_cst_2 : Ref sig .tc := ⟨.hbm, 245, rfl⟩
abbrev main_call2_v9 : Ref sig .tc := ⟨.hbm, 246, rfl⟩
abbrev main_call2_v10 : Ref sig .tc := ⟨.hbm, 247, rfl⟩
abbrev main_call2_cst_3 : Ref sig .tc := ⟨.hbm, 248, rfl⟩
abbrev main_call2_v11 : Ref sig .tc := ⟨.hbm, 249, rfl⟩
abbrev main_call2_cst_4 : Ref sig .tc := ⟨.hbm, 250, rfl⟩
abbrev main_call2_call0_v0 : Ref sig .tc := ⟨.hbm, 251, rfl⟩
abbrev main_v171 : Ref sig .tc := ⟨.hbm, 252, rfl⟩
abbrev main_cst_30 : Ref sig .tc := ⟨.hbm, 253, rfl⟩
abbrev main_v172 : Ref sig .tc := ⟨.hbm, 254, rfl⟩
abbrev main_cst_31 : Ref sig .tc := ⟨.hbm, 255, rfl⟩
abbrev main_v173 : Ref sig .tc := ⟨.hbm, 256, rfl⟩
abbrev main_v174 : Ref sig .tc := ⟨.hbm, 257, rfl⟩
abbrev main_cst_32 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_cst_33 : Ref sig .tc := ⟨.hbm, 262, rfl⟩
abbrev main_v178 : Ref sig .tc := ⟨.hbm, 263, rfl⟩
abbrev main_v179 : Ref sig .tc := ⟨.hbm, 264, rfl⟩
abbrev main_c_34 : Ref sig .tc := ⟨.hbm, 265, rfl⟩
abbrev main_call3_v0 : Ref sig .tc := ⟨.hbm, 266, rfl⟩
abbrev main_v180 : Ref sig .tc := ⟨.hbm, 267, rfl⟩
abbrev main_c_35 : Ref sig .tc := ⟨.hbm, 268, rfl⟩
abbrev main_call4_v0 : Ref sig .tc := ⟨.hbm, 269, rfl⟩
abbrev main_v181 : Ref sig .tc := ⟨.hbm, 270, rfl⟩
abbrev main_v182 : Ref sig .tc := ⟨.hbm, 271, rfl⟩

abbrev nD : Nat := 1
abbrev τ : Topo := Topo.v7x

variable {F : FTy → Type} [FloatOps F]
-- ==== Proof.KernelIdealRun.lean ====
/-
  The run of the body: from whole staging buffers it ends with the inputs' as they were and the output's written. The text is
  the certificate generator's own for this run; it is kept here since it needs a larger budget than the generated one.
-/
module

public import proofs.«01_k».proof.Proof.Gen.KernelIdeal.Frame.Runs

@[expose] public section

-- membership in a rectangle of production extents (`View.cover_of_tiled`): the check
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in
/-- What the body's stores leave in the output's buffer, as pieces, with the proof that the body runs on whole staging buffers to the
    continuation that holds the inputs' buffers as they were and the output's with its pieces written. -/
noncomputable def kernelRun0_A (c : Dev nD) (i : grid0.Coords) (arg2 : Memref sig .tc .vmem S1x192x16x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x128x256 .f32) (harg8 : arg8.IsWhole) (arg9 : Memref sig .tc .vmem S1x1x256 .f32) (harg9 : arg9.IsWhole) (arg10 : Memref sig .tc .vmem S1x256x128 .f32) (harg10 : arg10.IsWhole) (arg11 : Memref sig .tc .vmem S1x1x128 .f32) (harg11 : arg11.IsWhole) (arg12 : Memref sig .tc .vmem S1x96x192 .f32) (harg12 : arg12.IsWhole) (arg13 : Memref sig .tc .vmem S1x192x128 .f32) (harg13 : arg13.IsWhole) (arg14 : Memref sig .tc .vmem S1x1x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x256 .f32) (harg19 : arg19.IsWhole) (arg20 : Memref sig .tc .vmem S1x1x256 .f32) (harg20 : arg20.IsWhole) (arg21 : Memref sig .tc .vmem S1x256x128 .f32) (harg21 : arg21.IsWhole) (arg22 : Memref sig .tc .vmem S1x1x128 .f32) (harg22 : arg22.IsWhole) (arg23 : Memref sig .tc .vmem S1x96x192 .f32) (harg23 : arg23.IsWhole) (arg24 : Memref sig .tc .vmem S1x192x128 .f32) (harg24 : arg24.IsWhole) (arg25 : Memref sig .tc .vmem S1x1x128 .f32) (harg25 : arg25.IsWhole) (arg26 : Memref sig .tc .vmem S192x192 .f32) (harg26 : arg26.IsWhole) (arg27 : Memref sig .tc .vmem S192x128 .f32) (harg27 : arg27.IsWhole) (arg28 : Memref sig .tc .vmem S1x192x16x128 .f32) (harg28 : arg28.IsWhole)
    (x0 : Vec F S1x192x16x128 .f32) (x1 : Vec F S1x1x128 .f32) (x2 : Vec F S1x128x128 .f32) (x3 : Vec F S1x128x128 .f32) (x4 : Vec F S1x128x128 .f32) (x5 : Vec F S1x128x128 .f32) (x6 : Vec F S1x128x256 .f32) (x7 : Vec F S1x1x256 .f32) (x8 : Vec F S1x256x128 .f32) (x9 : Vec F S1x1x128 .f32) (x10 : Vec F S1x96x192 .f32) (x11 : Vec F S1x192x128 .f32) (x12 : Vec F S1x1x128 .f32) (x13 : Vec F S1x128x128 .f32) (x14 : Vec F S1x128x128 .f32) (x15 : Vec F S1x128x128 .f32) (x16 : Vec F S1x128x128 .f32) (x17 : Vec F S1x128x256 .f32) (x18 : Vec F S1x1x256 .f32) (x19 : Vec F S1x256x128 .f32) (x20 : Vec F S1x1x128 .f32) (x21 : Vec F S1x96x192 .f32) (x22 : Vec F S1x192x128 .f32) (x23 : Vec F S1x1x128 .f32) (x24 : Vec F S192x192 .f32) (x25 : Vec F S192x128 .f32) (xt0 : TbBuf0 (F := F) c tbM0_0) :
    { L26 : List (View.Piece (Elt F) S1x192x16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ d, owns (c : Thread nD τ) arg28 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ (∃ f, arg28.view.loc (c : Thread nD τ) ↦[arg28.view.set]{fullShare} arg28.view.writes (Elt F) f L26) ∗ tbPt0 c tbM0_0 xt0) -∗ K ⟨⟩))
          ⊢ wp frame (wpE (defs₀ (F := F)) Variants.none c none) E (cc0__expert_kernel i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, fun E K => ?run⟩
  case run =>
    simp only [cc0__expert_kernel_eq_skeleton]; unfold cc0__expert_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]; · iexists _; iexact H26
    iexact HT0

end Cert.KernelIdeal.Gen

end
-- ==== Proof.KernelIdealFrame.lean ====
/-
  The frame: what the output holds point by point, the body's obligation at every point, the whole run, and that the
  arguments end unchanged, for every content of the prefetched table under its side condition `Ok m`.
  The text is the certificate generator's own, over the run of the module imported here.
-/
module

public import proofs.«01_k».proof.Proof.KernelIdealRun
public import Idealize.ShloMosaic.Lib.Claim

@[expose] public section

set_option maxHeartbeats 8000000
-- membership in a rectangle of production extents (`View.cover_of_tiled`): the check
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 26 tile its block (1 store of `S1x192x16x128`, checked by evaluation), so they cover it. -/
theorem cover0_A_26 (c : Dev nD) (i : grid0.Coords) (arg2 : Memref sig .tc .vmem S1x192x16x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x128x256 .f32) (harg8 : arg8.IsWhole) (arg9 : Memref sig .tc .vmem S1x1x256 .f32) (harg9 : arg9.IsWhole) (arg10 : Memref sig .tc .vmem S1x256x128 .f32) (harg10 : arg10.IsWhole) (arg11 : Memref sig .tc .vmem S1x1x128 .f32) (harg11 : arg11.IsWhole) (arg12 : Memref sig .tc .vmem S1x96x192 .f32) (harg12 : arg12.IsWhole) (arg13 : Memref sig .tc .vmem S1x192x128 .f32) (harg13 : arg13.IsWhole) (arg14 : Memref sig .tc .vmem S1x1x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x256 .f32) (harg19 : arg19.IsWhole) (arg20 : Memref sig .tc .vmem S1x1x256 .f32) (harg20 : arg20.IsWhole) (arg21 : Memref sig .tc .vmem S1x256x128 .f32) (harg21 : arg21.IsWhole) (arg22 : Memref sig .tc .vmem S1x1x128 .f32) (harg22 : arg22.IsWhole) (arg23 : Memref sig .tc .vmem S1x96x192 .f32) (harg23 : arg23.IsWhole) (arg24 : Memref sig .tc .vmem S1x192x128 .f32) (harg24 : arg24.IsWhole) (arg25 : Memref sig .tc .vmem S1x1x128 .f32) (harg25 : arg25.IsWhole) (arg26 : Memref sig .tc .vmem S192x192 .f32) (harg26 : arg26.IsWhole) (arg27 : Memref sig .tc .vmem S192x128 .f32) (harg27 : arg27.IsWhole) (arg28 : Memref sig .tc .vmem S1x192x16x128 .f32) (harg28 : arg28.IsWhole)
    (x0 : Vec F S1x192x16x128 .f32) (x1 : Vec F S1x1x128 .f32) (x2 : Vec F S1x128x128 .f32) (x3 : Vec F S1x128x128 .f32) (x4 : Vec F S1x128x128 .f32) (x5 : Vec F S1x128x128 .f32) (x6 : Vec F S1x128x256 .f32) (x7 : Vec F S1x1x256 .f32) (x8 : Vec F S1x256x128 .f32) (x9 : Vec F S1x1x128 .f32) (x10 : Vec F S1x96x192 .f32) (x11 : Vec F S1x192x128 .f32) (x12 : Vec F S1x1x128 .f32) (x13 : Vec F S1x128x128 .f32) (x14 : Vec F S1x128x128 .f32) (x15 : Vec F S1x128x128 .f32) (x16 : Vec F S1x128x128 .f32) (x17 : Vec F S1x128x256 .f32) (x18 : Vec F S1x1x256 .f32) (x19 : Vec F S1x256x128 .f32) (x20 : Vec F S1x1x128 .f32) (x21 : Vec F S1x96x192 .f32) (x22 : Vec F S1x192x128 .f32) (x23 : Vec F S1x1x128 .f32) (x24 : Vec F S192x192 .f32) (x25 : Vec F S192x128 .f32) (xt0 : TbBuf0 (F := F) c tbM0_0) (y : S1x192x16x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 xt0).1 S1x192x16x128.size (by sl_kernel_rfl) y

/-- What the run leaves in output 26's staging buffer: its pieces read back over junk. -/
def out0_A_26 (c : Dev nD) (i : grid0.Coords) (arg2 : Memref sig .tc .vmem S1x192x16x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x128x256 .f32) (harg8 : arg8.IsWhole) (arg9 : Memref sig .tc .vmem S1x1x256 .f32) (harg9 : arg9.IsWhole) (arg10 : Memref sig .tc .vmem S1x256x128 .f32) (harg10 : arg10.IsWhole) (arg11 : Memref sig .tc .vmem S1x1x128 .f32) (harg11 : arg11.IsWhole) (arg12 : Memref sig .tc .vmem S1x96x192 .f32) (harg12 : arg12.IsWhole) (arg13 : Memref sig .tc .vmem S1x192x128 .f32) (harg13 : arg13.IsWhole) (arg14 : Memref sig .tc .vmem S1x1x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x256 .f32) (harg19 : arg19.IsWhole) (arg20 : Memref sig .tc .vmem S1x1x256 .f32) (harg20 : arg20.IsWhole) (arg21 : Memref sig .tc .vmem S1x256x128 .f32) (harg21 : arg21.IsWhole) (arg22 : Memref sig .tc .vmem S1x1x128 .f32) (harg22 : arg22.IsWhole) (arg23 : Memref sig .tc .vmem S1x96x192 .f32) (harg23 : arg23.IsWhole) (arg24 : Memref sig .tc .vmem S1x192x128 .f32) (harg24 : arg24.IsWhole) (arg25 : Memref sig .tc .vmem S1x1x128 .f32) (harg25 : arg25.IsWhole) (arg26 : Memref sig .tc .vmem S192x192 .f32) (harg26 : arg26.IsWhole) (arg27 : Memref sig .tc .vmem S192x128 .f32) (harg27 : arg27.IsWhole) (arg28 : Memref sig .tc .vmem S1x192x16x128 .f32) (harg28 : arg28.IsWhole)
    (x0 : Vec F S1x192x16x128 .f32) (x1 : Vec F S1x1x128 .f32) (x2 : Vec F S1x128x128 .f32) (x3 : Vec F S1x128x128 .f32) (x4 : Vec F S1x128x128 .f32) (x5 : Vec F S1x128x128 .f32) (x6 : Vec F S1x128x256 .f32) (x7 : Vec F S1x1x256 .f32) (x8 : Vec F S1x256x128 .f32) (x9 : Vec F S1x1x128 .f32) (x10 : Vec F S1x96x192 .f32) (x11 : Vec F S1x192x128 .f32) (x12 : Vec F S1x1x128 .f32) (x13 : Vec F S1x128x128 .f32) (x14 : Vec F S1x128x128 .f32) (x15 : Vec F S1x128x128 .f32) (x16 : Vec F S1x128x128 .f32) (x17 : Vec F S1x128x256 .f32) (x18 : Vec F S1x1x256 .f32) (x19 : Vec F S1x256x128 .f32) (x20 : Vec F S1x1x128 .f32) (x21 : Vec F S1x96x192 .f32) (x22 : Vec F S1x192x128 .f32) (x23 : Vec F S1x1x128 .f32) (x24 : Vec F S192x192 .f32) (x25 : Vec F S192x128 .f32) (xt0 : TbBuf0 (F := F) c tbM0_0) : Vec F S1x192x16x128 .f32 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 xt0).1)

/-! ## What the outputs hold after each point -/

/-- What the outputs' staging buffers hold after the body at point `t`: the run's contents at
    the point's memrefs and input blocks. -/
def outsAt0 (hO : Ok m) (c : Dev nD) (t : Fin (cfgM m hO).N) : Vec F S1x192x16x128 .f32 :=
  out0_A_26 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (tbl m 0)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => (outsAt0 m hO c t)
    | ⟨_ + 27, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t))

set_option maxHeartbeats 2400000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m hO 0 c).Φ t.castSucc = iprop(Pipeline.ΦA spec0 c ∗ Pipeline.ΦT pre0 (tbl m) c) from rfl, PhiT0_eq]
  unfold outsAt0
  unfold out0_A_26
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (tbl m 0)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [HT0]; · iexact HT0
  iintro ⟨H0, H1, H2, H3, H4, H5, H6, H7, H8, H9, H10, H11, H12, H13, H14, H15, H16, H17, H18, H19, H20, H21, H22, H23, H24, H25, ⟨%e26, H26⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ hO) ((θ_run defs _ _).mono (fun _ h => h.2) (run_main_quiescent m ρ hO))

end Cert.KernelIdeal.Gen

end
-- ==== Proof.Pre.lean ====
/-
  What the precondition says of the expert indices: in every batch both are below four, and they differ.
-/
module

public import proofs.«01_k».proof.Pre_in_range
public import proofs.«01_k».proof.Proof.Gen.Pre_in_range
public import Idealize.ShloMosaic.Lib.Pointwise

@[expose] public section

namespace Cert.Moe

open Idealize.ShloMosaic Idealize.ShloMosaic.Pointwise Cert.Pre_in_range

/-- The precondition, read word by word: the two indices of a batch are below four and differ. -/
theorem pre_words {F : FTy → Type} [FloatOps F] {idx : IVec S16x128 32} {a1 a2 a3 a4 a5 a6 a7 a8 a9 a10 a11 a12}
    (h : Cert.Pre_in_range.fn (F := F) idx a1 a2 a3 a4 a5 a6 a7 a8 a9 a10 a11 a12 = fun _ => 1#1) (b : Fin 16) :
    (idx (ix2 b (0 : Fin 128))).toNat < 4 ∧ (idx (ix2 b (1 : Fin 128))).toNat < 4 ∧
      (idx (ix2 b (0 : Fin 128))).toNat ≠ (idx (ix2 b (1 : Fin 128))).toNat := by
  have e := congrFun h (ix2 b (0 : Fin 1))
  have andi_one : ∀ a b : BitVec 1, IntOp.andi a b = 1#1 ↔ a = 1#1 ∧ b = 1#1 := by decide
  simp only [Cert.Pre_in_range.fn, andi, cmpi, andi_one, constantI] at e
  pointwise at e
  obtain ⟨⟨⟨⟨h1, h2⟩, h3⟩, h4⟩, h5⟩ := e
  have lt4 : ∀ w : BitVec 32, IntOp.cmpi .sge w 0#32 = 1#1 → IntOp.cmpi .slt w 4#32 = 1#1 → w.toNat < 4 := by
    intro w hg hl
    have hg' : (0#32).sle w = true := by
      simp only [IntOp.cmpi] at hg
      cases hb : (0#32).sle w <;> simp_all
    have hl' : w.slt 4#32 = true := by
      simp only [IntOp.cmpi] at hl
      cases hb : w.slt 4#32 <;> simp_all
    rw [BitVec.sle_iff_toInt_le, BitVec.toInt_eq_toNat_cond, BitVec.toInt_eq_toNat_cond] at hg'
    rw [BitVec.slt_iff_toInt_lt, BitVec.toInt_eq_toNat_cond, BitVec.toInt_eq_toNat_cond] at hl'
    simp only [BitVec.toNat_ofNat] at hg' hl'
    omega
  refine ⟨lt4 _ h1 h2, lt4 _ h3 h4, fun he => ?_⟩
  rw [BitVec.eq_of_toNat_eq he] at h5
  simp [IntOp.cmpi] at h5

end Cert.Moe
-- ==== Proof.KernelIdealOk.lean ====
/-
  The side condition of the prefetched table, from the precondition: the table's word `2 b + e` is the batch's expert index `e`, so
  the block that each expert window names lies in its array.
-/
module

public import proofs.«01_k».proof.Proof.Gen.KernelIdeal.Launch
public import proofs.«01_k».proof.Proof.Gen.KernelIdeal.Frame.Runs
public import proofs.«01_k».proof.Proof.Pre
public import Idealize.ShloMosaic.Lib.Claim
public import Idealize.ShloMosaic.Lib.StableHlo.ReadAt

@[expose] public section

set_option maxRecDepth 10000

namespace Cert.Moe.KernelIdeal

open Idealize.ShloMosaic Idealize.ShloMosaic.TcCoe Idealize.ShloMosaic.Pointwise Cert.KernelIdeal Cert.KernelIdeal.Gen

variable {F : FTy → Type} [FloatOps F] [Named F]
variable (m : (ℓ : Loc nD τ sig) → Buf (Elt F) ℓ)

/-- Word `k` of the prefetched table is the expert index `k % 2` of batch `k / 2`. -/
theorem tbl_word (k : Fin 32) :
    tbl m 0 (ix1 k) = m (((0 : Dev nD) : Thread nD τ).loc main_arg0) (ix2 (⟨k.val / 2, by omega⟩ : Fin 16) (⟨k.val % 2, by omega⟩ : Fin 128)) := by
  show V m (0 : Dev nD) main_v1 (ix1 k) = _
  unfold V
  after_reads_at

/-- The first expert index of point `i`'s batch. -/
def ea (i : Fin 16) : ℕ := (m (((0 : Dev nD) : Thread nD τ).loc main_arg0) (ix2 i (0 : Fin 128))).toNat
/-- The second expert index of point `i`'s batch. -/
def eb (i : Fin 16) : ℕ := (m (((0 : Dev nD) : Thread nD τ).loc main_arg0) (ix2 i (1 : Fin 128))).toNat

theorem coord_lt (i : grid0.Coords) : (i 0).val < 16 := by
  have := (i 0).isLt
  simpa using this

/-- The windows of the first expert name the block of the first expert index. -/
theorem block_a (i : grid0.Coords) : cc0_transform_2 k0_off1_inb numel1_S1 (tbl m) i = ![ea m ⟨(i 0).val, coord_lt i⟩, 0, 0] := by
  have hi := coord_lt i
  unfold cc0_transform_2 ea
  have hx : ∀ h, (Rect.unit (s := S32) ![(Scalar.indexCast (Scalar.muli 2#32 (BitVec.ofNat 32 (i 0).val))).toNat] S1.size h).emb
      (Shape.Idx.first (numel1_S1.symm ▸ Nat.one_pos)) = ix1 (⟨2 * (i 0).val, by omega⟩ : Fin 32) := by
    intro h
    funext a
    fin_cases a
    apply Fin.ext
    simp [Rect.emb, Rect.unit, Shape.Idx.first, Scalar.indexCast, Scalar.muli, IntOp.muli, BitVec.toNat_mul, BitVec.toNat_ofNat]
    omega
  simp only [Pipeline.Prefetch.Contents.at]
  erw [hx, tbl_word]
  simp only [BitVec.toNat_ofNat, Nat.zero_mod]
  congr 5
  · omega
  · show 2 * (i 0).val % 2 = 0; omega

/-- The windows of the second expert name the block of the second expert index. -/
theorem block_b (i : grid0.Coords) : cc0_transform_13 k0_off2_inb numel1_S1 (tbl m) i = ![eb m ⟨(i 0).val, coord_lt i⟩, 0, 0] := by
  have hi := coord_lt i
  unfold cc0_transform_13 eb
  have hx : ∀ h, (Rect.unit (s := S32) ![(Scalar.indexCast (Scalar.addi (Scalar.muli 2#32 (BitVec.ofNat 32 (i 0).val)) 1#32)).toNat] S1.size h).emb
      (Shape.Idx.first (numel1_S1.symm ▸ Nat.one_pos)) = ix1 (⟨2 * (i 0).val + 1, by omega⟩ : Fin 32) := by
    intro h
    funext a
    fin_cases a
    apply Fin.ext
    simp [Rect.emb, Rect.unit, Shape.Idx.first, Scalar.indexCast, Scalar.muli, IntOp.muli, Scalar.addi, IntOp.addi, BitVec.toNat_add, BitVec.toNat_mul, BitVec.toNat_ofNat]
    omega
  simp only [Pipeline.Prefetch.Contents.at]
  erw [hx, tbl_word]
  simp only [BitVec.toNat_ofNat, Nat.zero_mod]
  congr 5
  · omega
  · show (2 * (i 0).val + 1) % 2 = 1; omega

/-- A block of `1 × x × y` whose first coordinate is below four and whose others are zero lies in an array of `4 × x × y`. -/
theorem inside (x y : ℕ) {f : Fin 3 → ℕ} {n : ℕ} (hn : n < 4) (he : f = ![n, 0, 0]) (a : Fin 3) :
    (f a + 1) * (![1, x, y] : Fin 3 → ℕ) a ≤ (![4, x, y] : Fin 3 → ℕ) a := by
  subst he
  fin_cases a <;> simp <;> omega

/-- The side condition of the table holds when every expert index is below four. -/
theorem ok_of_lt (h : ∀ b : Fin 16, ea m b < 4 ∧ eb m b < 4) : Ok m := by
  have ha : ∀ i : grid0.Coords, ∃ n, n < 4 ∧ cc0_transform_2 k0_off1_inb numel1_S1 (tbl m) i = ![n, 0, 0] :=
    fun i => ⟨_, (h ⟨(i 0).val, coord_lt i⟩).1, block_a m i⟩
  have hb : ∀ i : grid0.Coords, ∃ n, n < 4 ∧ cc0_transform_13 k0_off2_inb numel1_S1 (tbl m) i = ![n, 0, 0] :=
    fun i => ⟨_, (h ⟨(i 0).val, coord_lt i⟩).2, block_b m i⟩
  refine ⟨fun i => ?w2, fun i => ?w3, fun i => ?w4, fun i => ?w5, fun i => ?w6, fun i => ?w7, fun i => ?w8, fun i => ?w9, fun i => ?w10, fun i => ?w11, fun i => ?w12, fun i => ?w13, fun i => ?w14, fun i => ?w15, fun i => ?w16, fun i => ?w17, fun i => ?w18, fun i => ?w19, fun i => ?w20, fun i => ?w21, fun i => ?w22, fun i => ?w23⟩
  case w2 => obtain ⟨n, hn, he⟩ := ha i; exact ⟨inside 128 128 hn he, .inl rfl⟩
  case w3 => obtain ⟨n, hn, he⟩ := ha i; exact ⟨inside 128 128 hn he, .inl rfl⟩
  case w4 => obtain ⟨n, hn, he⟩ := ha i; exact ⟨inside 128 128 hn he, .inl rfl⟩
  case w5 => obtain ⟨n, hn, he⟩ := ha i; exact ⟨inside 128 128 hn he, .inl rfl⟩
  case w6 => obtain ⟨n, hn, he⟩ := ha i; exact ⟨inside 128 256 hn he, .inl rfl⟩
  case w7 => obtain ⟨n, hn, he⟩ := ha i; exact ⟨inside 1 256 hn he, .inl rfl⟩
  case w8 => obtain ⟨n, hn, he⟩ := ha i; exact ⟨inside 256 128 hn he, .inl rfl⟩
  case w9 => obtain ⟨n, hn, he⟩ := ha i; exact ⟨inside 1 128 hn he, .inl rfl⟩
  case w10 => obtain ⟨n, hn, he⟩ := ha i; exact ⟨inside 96 192 hn he, .inl rfl⟩
  case w11 => obtain ⟨n, hn, he⟩ := ha i; exact ⟨inside 192 128 hn he, .inl rfl⟩
  case w12 => obtain ⟨n, hn, he⟩ := ha i; exact ⟨inside 1 128 hn he, .inl rfl⟩
  case w13 => obtain ⟨n, hn, he⟩ := hb i; exact ⟨inside 128 128 hn he, .inl rfl⟩
  case w14 => obtain ⟨n, hn, he⟩ := hb i; exact ⟨inside 128 128 hn he, .inl rfl⟩
  case w15 => obtain ⟨n, hn, he⟩ := hb i; exact ⟨inside 128 128 hn he, .inl rfl⟩
  case w16 => obtain ⟨n, hn, he⟩ := hb i; exact ⟨inside 128 128 hn he, .inl rfl⟩
  case w17 => obtain ⟨n, hn, he⟩ := hb i; exact ⟨inside 128 256 hn he, .inl rfl⟩
  case w18 => obtain ⟨n, hn, he⟩ := hb i; exact ⟨inside 1 256 hn he, .inl rfl⟩
  case w19 => obtain ⟨n, hn, he⟩ := hb i; exact ⟨inside 256 128 hn he, .inl rfl⟩
  case w20 => obtain ⟨n, hn, he⟩ := hb i; exact ⟨inside 1 128 hn he, .inl rfl⟩
  case w21 => obtain ⟨n, hn, he⟩ := hb i; exact ⟨inside 96 192 hn he, .inl rfl⟩
  case w22 => obtain ⟨n, hn, he⟩ := hb i; exact ⟨inside 192 128 hn he, .inl rfl⟩
  case w23 => obtain ⟨n, hn, he⟩ := hb i; exact ⟨inside 1 128 hn he, .inl rfl⟩

/-- The side condition of the table, from the precondition. -/
theorem ok_of_pre {a1 a2 a3 a4 a5 a6 a7 a8 a9 a10 a11 a12}
    (h : Cert.Pre_in_range.fn (F := F) (m (((0 : Dev nD) : Thread nD τ).loc main_arg0)) a1 a2 a3 a4 a5 a6 a7 a8 a9 a10 a11 a12 = fun _ => 1#1) : Ok m :=
  ok_of_lt m fun b => ⟨(pre_words h b).1, (pre_words h b).2.1⟩

end Cert.Moe.KernelIdeal
-- ==== Proof.Blocks.lean ====
/-
  The kernel's input blocks at an index, read off the arrays that the host lines leave.
-/
module

public import proofs.«01_k».proof.Proof.KernelIdealFrame
public import proofs.«01_k».proof.Proof.KernelIdealOk
public import Idealize.ShloMosaic.Lib.Pointwise
public import Idealize.ShloMosaic.Lib.Claim
public import Idealize.ShloMosaic.Lib.Pipeline.ValueKit

@[expose] public section

set_option maxRecDepth 10000

noncomputable section

namespace Cert.Moe.KernelIdeal

open Idealize.ShloMosaic Idealize.ShloMosaic.TcCoe Idealize.ShloMosaic.Pointwise Cert.KernelIdeal Cert.KernelIdeal.Gen

variable {F : FTy → Type} [FloatOps F] [Named F]
variable (m : (ℓ : Loc nD τ sig) → Buf (Elt F) ℓ) (hO : Ok m) (c : Dev nD) (t : Fin (cfgM m hO).N)

theorem t_lt : t.val < 16 := lt_of_lt_of_eq t.isLt (N_0 : grid0.N = 16)

/-- The grid's one coordinate is the point's number. -/
theorem coord_val : ∀ t : Fin grid0.N, (grid0.coords t 0).val = t.val := by decide +kernel

/-- The batch of a point. -/
abbrev bat : Fin 16 := ⟨t.val, t_lt m hO t⟩

/-- The first expert's windows at a point. -/
theorem index_a : cc0_transform_2 k0_off1_inb numel1_S1 (tbl m) (grid0.coords t) = ![ea m (bat m hO t), 0, 0] := by
  rw [block_a]
  congr 3
  exact coord_val t
/-- The second expert's windows at a point. -/
theorem index_b : cc0_transform_13 k0_off2_inb numel1_S1 (tbl m) (grid0.coords t) = ![eb m (bat m hO t), 0, 0] := by
  rw [block_b]
  congr 3
  exact coord_val t
/-- The grid's coordinate as the word that the index maps read. -/
theorem coord_word : (BitVec.ofNat 32 (grid0.coords t 0).val).toNat = t.val := by
  rw [BitVec.toNat_ofNat, coord_val t]
  have := t_lt m hO t
  omega

/-- The block of window 0 at an index. -/
theorem blk_0 (l : Fin 192) (n : Fin 16) (d : Fin 128) : iblk m hO c 0 t (ix4 (0 : Fin 1) l n d) = V m c main_arg2 (ix4 (bat m hO t) l n d) := by
  refine congrArg (V m c main_arg2) (funext fun a => Fin.ext ?_)
  refine (Pipeline.Window.rect_emb_val ((cfgM m hO).win 0) t _ a).trans ?_
  have hc := coord_word m hO t
  fin_cases a
  · show (BitVec.ofNat 32 (grid0.coords t 0).val).toNat * 1 + 0 = t.val
    omega
  · show 0 * 192 + l.val = l.val
    omega
  · show 0 * 16 + n.val = n.val
    omega
  · show 0 * 128 + d.val = d.val
    omega

/-- The block of window 1 at an index. -/
theorem blk_1 (j : Fin 128) : iblk m hO c 1 t (ix3 (0 : Fin 1) (0 : Fin 1) j) = V m c main_v2 (ix3 (bat m hO t) (0 : Fin 1) j) := by
  refine congrArg (V m c main_v2) (funext fun a => Fin.ext ?_)
  refine (Pipeline.Window.rect_emb_val ((cfgM m hO).win 1) t _ a).trans ?_
  have hc := coord_word m hO t
  fin_cases a
  · show (BitVec.ofNat 32 (grid0.coords t 0).val).toNat * 1 + 0 = t.val
    omega
  · show 0 * 1 + 0 = 0
    omega
  · show 0 * 128 + j.val = j.val
    omega

/-- The block of window 24 at an index. -/
theorem blk_24 (l k : Fin 192) : iblk m hO c 24 t (ix2 l k) = V m c main_v5 (ix2 l k) := by
  refine congrArg (V m c main_v5) (funext fun a => Fin.ext ?_)
  refine (Pipeline.Window.rect_emb_val ((cfgM m hO).win 24) t _ a).trans ?_
  have hc := coord_word m hO t
  fin_cases a
  · show 0 * 192 + l.val = l.val
    omega
  · show 0 * 192 + k.val = k.val
    omega

/-- The block of window 25 at an index. -/
theorem blk_25 (l : Fin 192) (d : Fin 128) : iblk m hO c 25 t (ix2 l d) = V m c main_v7 (ix2 l d) := by
  refine congrArg (V m c main_v7) (funext fun a => Fin.ext ?_)
  refine (Pipeline.Window.rect_emb_val ((cfgM m hO).win 25) t _ a).trans ?_
  have hc := coord_word m hO t
  fin_cases a
  · show 0 * 192 + l.val = l.val
    omega
  · show 0 * 128 + d.val = d.val
    omega

/-- The block of window 2 at an index. -/
theorem blk_2 (e : Fin 4) (he : e.val = ea m (bat m hO t)) (k : Fin 128) (d : Fin 128) :
    iblk m hO c 2 t (ix3 (0 : Fin 1) k d) = V m c main_arg3 (ix3 e k d) := by
  refine congrArg (V m c main_arg3) (funext fun a => Fin.ext ?_)
  refine (Pipeline.Window.rect_emb_val ((cfgM m hO).win 2) t _ a).trans ?_
  have hi : ((cfgM m hO).win 2).index t = ![ea m (bat m hO t), 0, 0] := index_a m hO t
  rw [hi, ← he]
  fin_cases a
  · show e.val * 1 + 0 = e.val
    omega
  · show 0 * 128 + k.val = k.val
    omega
  · show 0 * 128 + d.val = d.val
    omega

/-- The block of window 3 at an index. -/
theorem blk_3 (e : Fin 4) (he : e.val = ea m (bat m hO t)) (k : Fin 128) (d : Fin 128) :
    iblk m hO c 3 t (ix3 (0 : Fin 1) k d) = V m c main_arg4 (ix3 e k d) := by
  refine congrArg (V m c main_arg4) (funext fun a => Fin.ext ?_)
  refine (Pipeline.Window.rect_emb_val ((cfgM m hO).win 3) t _ a).trans ?_
  have hi : ((cfgM m hO).win 3).index t = ![ea m (bat m hO t), 0, 0] := index_a m hO t
  rw [hi, ← he]
  fin_cases a
  · show e.val * 1 + 0 = e.val
    omega
  · show 0 * 128 + k.val = k.val
    omega
  · show 0 * 128 + d.val = d.val
    omega

/-- The block of window 4 at an index. -/
theorem blk_4 (e : Fin 4) (he : e.val = ea m (bat m hO t)) (k : Fin 128) (d : Fin 128) :
    iblk m hO c 4 t (ix3 (0 : Fin 1) k d) = V m c main_arg5 (ix3 e k d) := by
  refine congrArg (V m c main_arg5) (funext fun a => Fin.ext ?_)
  refine (Pipeline.Window.rect_emb_val ((cfgM m hO).win 4) t _ a).trans ?_
  have hi : ((cfgM m hO).win 4).index t = ![ea m (bat m hO t), 0, 0] := index_a m hO t
  rw [hi, ← he]
  fin_cases a
  · show e.val * 1 + 0 = e.val
    omega
  · show 0 * 128 + k.val = k.val
    omega
  · show 0 * 128 + d.val = d.val
    omega

/-- The block of window 5 at an index. -/
theorem blk_5 (e : Fin 4) (he : e.val = ea m (bat m hO t)) (k : Fin 128) (d : Fin 128) :
    iblk m hO c 5 t (ix3 (0 : Fin 1) k d) = V m c main_arg6 (ix3 e k d) := by
  refine congrArg (V m c main_arg6) (funext fun a => Fin.ext ?_)
  refine (Pipeline.Window.rect_emb_val ((cfgM m hO).win 5) t _ a).trans ?_
  have hi : ((cfgM m hO).win 5).index t = ![ea m (bat m hO t), 0, 0] := index_a m hO t
  rw [hi, ← he]
  fin_cases a
  · show e.val * 1 + 0 = e.val
    omega
  · show 0 * 128 + k.val = k.val
    omega
  · show 0 * 128 + d.val = d.val
    omega

/-- The block of window 6 at an index. -/
theorem blk_6 (e : Fin 4) (he : e.val = ea m (bat m hO t)) (k : Fin 128) (d : Fin 256) :
    iblk m hO c 6 t (ix3 (0 : Fin 1) k d) = V m c main_arg7 (ix3 e k d) := by
  refine congrArg (V m c main_arg7) (funext fun a => Fin.ext ?_)
  refine (Pipeline.Window.rect_emb_val ((cfgM m hO).win 6) t _ a).trans ?_
  have hi : ((cfgM m hO).win 6).index t = ![ea m (bat m hO t), 0, 0] := index_a m hO t
  rw [hi, ← he]
  fin_cases a
  · show e.val * 1 + 0 = e.val
    omega
  · show 0 * 128 + k.val = k.val
    omega
  · show 0 * 256 + d.val = d.val
    omega

/-- The block of window 7 at an index. -/
theorem blk_7 (e : Fin 4) (he : e.val = ea m (bat m hO t)) (d : Fin 256) :
    iblk m hO c 7 t (ix3 (0 : Fin 1) (0 : Fin 1) d) = V m c main_v3 (ix3 e (0 : Fin 1) d) := by
  refine congrArg (V m c main_v3) (funext fun a => Fin.ext ?_)
  refine (Pipeline.Window.rect_emb_val ((cfgM m hO).win 7) t _ a).trans ?_
  have hi : ((cfgM m hO).win 7).index t = ![ea m (bat m hO t), 0, 0] := index_a m hO t
  rw [hi, ← he]
  fin_cases a
  · show e.val * 1 + 0 = e.val
    omega
  · show 0 * 1 + 0 = 0
    omega
  · show 0 * 256 + d.val = d.val
    omega

/-- The block of window 8 at an index. -/
theorem blk_8 (e : Fin 4) (he : e.val = ea m (bat m hO t)) (k : Fin 256) (d : Fin 128) :
    iblk m hO c 8 t (ix3 (0 : Fin 1) k d) = V m c main_arg9 (ix3 e k d) := by
  refine congrArg (V m c main_arg9) (funext fun a => Fin.ext ?_)
  refine (Pipeline.Window.rect_emb_val ((cfgM m hO).win 8) t _ a).trans ?_
  have hi : ((cfgM m hO).win 8).index t = ![ea m (bat m hO t), 0, 0] := index_a m hO t
  rw [hi, ← he]
  fin_cases a
  · show e.val * 1 + 0 = e.val
    omega
  · show 0 * 256 + k.val = k.val
    omega
  · show 0 * 128 + d.val = d.val
    omega

/-- The block of window 9 at an index. -/
theorem blk_9 (e : Fin 4) (he : e.val = ea m (bat m hO t)) (d : Fin 128) :
    iblk m hO c 9 t (ix3 (0 : Fin 1) (0 : Fin 1) d) = V m c main_v4 (ix3 e (0 : Fin 1) d) := by
  refine congrArg (V m c main_v4) (funext fun a => Fin.ext ?_)
  refine (Pipeline.Window.rect_emb_val ((cfgM m hO).win 9) t _ a).trans ?_
  have hi : ((cfgM m hO).win 9).index t = ![ea m (bat m hO t), 0, 0] := index_a m hO t
  rw [hi, ← he]
  fin_cases a
  · show e.val * 1 + 0 = e.val
    omega
  · show 0 * 1 + 0 = 0
    omega
  · show 0 * 128 + d.val = d.val
    omega

/-- The block of window 10 at an index. -/
theorem blk_10 (e : Fin 4) (he : e.val = ea m (bat m hO t)) (k : Fin 96) (d : Fin 192) :
    iblk m hO c 10 t (ix3 (0 : Fin 1) k d) = V m c main_v23 (ix3 e k d) := by
  refine congrArg (V m c main_v23) (funext fun a => Fin.ext ?_)
  refine (Pipeline.Window.rect_emb_val ((cfgM m hO).win 10) t _ a).trans ?_
  have hi : ((cfgM m hO).win 10).index t = ![ea m (bat m hO t), 0, 0] := index_a m hO t
  rw [hi, ← he]
  fin_cases a
  · show e.val * 1 + 0 = e.val
    omega
  · show 0 * 96 + k.val = k.val
    omega
  · show 0 * 192 + d.val = d.val
    omega

/-- The block of window 11 at an index. -/
theorem blk_11 (e : Fin 4) (he : e.val = ea m (bat m hO t)) (k : Fin 192) (d : Fin 128) :
    iblk m hO c 11 t (ix3 (0 : Fin 1) k d) = V m c main_cst (ix3 e k d) := by
  refine congrArg (V m c main_cst) (funext fun a => Fin.ext ?_)
  refine (Pipeline.Window.rect_emb_val ((cfgM m hO).win 11) t _ a).trans ?_
  have hi : ((cfgM m hO).win 11).index t = ![ea m (bat m hO t), 0, 0] := index_a m hO t
  rw [hi, ← he]
  fin_cases a
  · show e.val * 1 + 0 = e.val
    omega
  · show 0 * 192 + k.val = k.val
    omega
  · show 0 * 128 + d.val = d.val
    omega

/-- The block of window 12 at an index. -/
theorem blk_12 (e : Fin 4) (he : e.val = ea m (bat m hO t)) (d : Fin 128) :
    iblk m hO c 12 t (ix3 (0 : Fin 1) (0 : Fin 1) d) = V m c main_cst_0 (ix3 e (0 : Fin 1) d) := by
  refine congrArg (V m c main_cst_0) (funext fun a => Fin.ext ?_)
  refine (Pipeline.Window.rect_emb_val ((cfgM m hO).win 12) t _ a).trans ?_
  have hi : ((cfgM m hO).win 12).index t = ![ea m (bat m hO t), 0, 0] := index_a m hO t
  rw [hi, ← he]
  fin_cases a
  · show e.val * 1 + 0 = e.val
    omega
  · show 0 * 1 + 0 = 0
    omega
  · show 0 * 128 + d.val = d.val
    omega

/-- The block of window 13 at an index. -/
theorem blk_13 (e : Fin 4) (he : e.val = eb m (bat m hO t)) (k : Fin 128) (d : Fin 128) :
    iblk m hO c 13 t (ix3 (0 : Fin 1) k d) = V m c main_arg3 (ix3 e k d) := by
  refine congrArg (V m c main_arg3) (funext fun a => Fin.ext ?_)
  refine (Pipeline.Window.rect_emb_val ((cfgM m hO).win 13) t _ a).trans ?_
  have hi : ((cfgM m hO).win 13).index t = ![eb m (bat m hO t), 0, 0] := index_b m hO t
  rw [hi, ← he]
  fin_cases a
  · show e.val * 1 + 0 = e.val
    omega
  · show 0 * 128 + k.val = k.val
    omega
  · show 0 * 128 + d.val = d.val
    omega

/-- The block of window 14 at an index. -/
theorem blk_14 (e : Fin 4) (he : e.val = eb m (bat m hO t)) (k : Fin 128) (d : Fin 128) :
    iblk m hO c 14 t (ix3 (0 : Fin 1) k d) = V m c main_arg4 (ix3 e k d) := by
  refine congrArg (V m c main_arg4) (funext fun a => Fin.ext ?_)
  refine (Pipeline.Window.rect_emb_val ((cfgM m hO).win 14) t _ a).trans ?_
  have hi : ((cfgM m hO).win 14).index t = ![eb m (bat m hO t), 0, 0] := index_b m hO t
  rw [hi, ← he]
  fin_cases a
  · show e.val * 1 + 0 = e.val
    omega
  · show 0 * 128 + k.val = k.val
    omega
  · show 0 * 128 + d.val = d.val
    omega

/-- The block of window 15 at an index. -/
theorem blk_15 (e : Fin 4) (he : e.val = eb m (bat m hO t)) (k : Fin 128) (d : Fin 128) :
    iblk m hO c 15 t (ix3 (0 : Fin 1) k d) = V m c main_arg5 (ix3 e k d) := by
  refine congrArg (V m c main_arg5) (funext fun a => Fin.ext ?_)
  refine (Pipeline.Window.rect_emb_val ((cfgM m hO).win 15) t _ a).trans ?_
  have hi : ((cfgM m hO).win 15).index t = ![eb m (bat m hO t), 0, 0] := index_b m hO t
  rw [hi, ← he]
  fin_cases a
  · show e.val * 1 + 0 = e.val
    omega
  · show 0 * 128 + k.val = k.val
    omega
  · show 0 * 128 + d.val = d.val
    omega

/-- The block of window 16 at an index. -/
theorem blk_16 (e : Fin 4) (he : e.val = eb m (bat m hO t)) (k : Fin 128) (d : Fin 128) :
    iblk m hO c 16 t (ix3 (0 : Fin 1) k d) = V m c main_arg6 (ix3 e k d) := by
  refine congrArg (V m c main_arg6) (funext fun a => Fin.ext ?_)
  refine (Pipeline.Window.rect_emb_val ((cfgM m hO).win 16) t _ a).trans ?_
  have hi : ((cfgM m hO).win 16).index t = ![eb m (bat m hO t), 0, 0] := index_b m hO t
  rw [hi, ← he]
  fin_cases a
  · show e.val * 1 + 0 = e.val
    omega
  · show 0 * 128 + k.val = k.val
    omega
  · show 0 * 128 + d.val = d.val
    omega

/-- The block of window 17 at an index. -/
theorem blk_17 (e : Fin 4) (he : e.val = eb m (bat m hO t)) (k : Fin 128) (d : Fin 256) :
    iblk m hO c 17 t (ix3 (0 : Fin 1) k d) = V m c main_arg7 (ix3 e k d) := by
  refine congrArg (V m c main_arg7) (funext fun a => Fin.ext ?_)
  refine (Pipeline.Window.rect_emb_val ((cfgM m hO).win 17) t _ a).trans ?_
  have hi : ((cfgM m hO).win 17).index t = ![eb m (bat m hO t), 0, 0] := index_b m hO t
  rw [hi, ← he]
  fin_cases a
  · show e.val * 1 + 0 = e.val
    omega
  · show 0 * 128 + k.val = k.val
    omega
  · show 0 * 256 + d.val = d.val
    omega

/-- The block of window 18 at an index. -/
theorem blk_18 (e : Fin 4) (he : e.val = eb m (bat m hO t)) (d : Fin 256) :
    iblk m hO c 18 t (ix3 (0 : Fin 1) (0 : Fin 1) d) = V m c main_v3 (ix3 e (0 : Fin 1) d) := by
  refine congrArg (V m c main_v3) (funext fun a => Fin.ext ?_)
  refine (Pipeline.Window.rect_emb_val ((cfgM m hO).win 18) t _ a).trans ?_
  have hi : ((cfgM m hO).win 18).index t = ![eb m (bat m hO t), 0, 0] := index_b m hO t
  rw [hi, ← he]
  fin_cases a
  · show e.val * 1 + 0 = e.val
    omega
  · show 0 * 1 + 0 = 0
    omega
  · show 0 * 256 + d.val = d.val
    omega

/-- The block of window 19 at an index. -/
theorem blk_19 (e : Fin 4) (he : e.val = eb m (bat m hO t)) (k : Fin 256) (d : Fin 128) :
    iblk m hO c 19 t (ix3 (0 : Fin 1) k d) = V m c main_arg9 (ix3 e k d) := by
  refine congrArg (V m c main_arg9) (funext fun a => Fin.ext ?_)
  refine (Pipeline.Window.rect_emb_val ((cfgM m hO).win 19) t _ a).trans ?_
  have hi : ((cfgM m hO).win 19).index t = ![eb m (bat m hO t), 0, 0] := index_b m hO t
  rw [hi, ← he]
  fin_cases a
  · show e.val * 1 + 0 = e.val
    omega
  · show 0 * 256 + k.val = k.val
    omega
  · show 0 * 128 + d.val = d.val
    omega

/-- The block of window 20 at an index. -/
theorem blk_20 (e : Fin 4) (he : e.val = eb m (bat m hO t)) (d : Fin 128) :
    iblk m hO c 20 t (ix3 (0 : Fin 1) (0 : Fin 1) d) = V m c main_v4 (ix3 e (0 : Fin 1) d) := by
  refine congrArg (V m c main_v4) (funext fun a => Fin.ext ?_)
  refine (Pipeline.Window.rect_emb_val ((cfgM m hO).win 20) t _ a).trans ?_
  have hi : ((cfgM m hO).win 20).index t = ![eb m (bat m hO t), 0, 0] := index_b m hO t
  rw [hi, ← he]
  fin_cases a
  · show e.val * 1 + 0 = e.val
    omega
  · show 0 * 1 + 0 = 0
    omega
  · show 0 * 128 + d.val = d.val
    omega

/-- The block of window 21 at an index. -/
theorem blk_21 (e : Fin 4) (he : e.val = eb m (bat m hO t)) (k : Fin 96) (d : Fin 192) :
    iblk m hO c 21 t (ix3 (0 : Fin 1) k d) = V m c main_v23 (ix3 e k d) := by
  refine congrArg (V m c main_v23) (funext fun a => Fin.ext ?_)
  refine (Pipeline.Window.rect_emb_val ((cfgM m hO).win 21) t _ a).trans ?_
  have hi : ((cfgM m hO).win 21).index t = ![eb m (bat m hO t), 0, 0] := index_b m hO t
  rw [hi, ← he]
  fin_cases a
  · show e.val * 1 + 0 = e.val
    omega
  · show 0 * 96 + k.val = k.val
    omega
  · show 0 * 192 + d.val = d.val
    omega

/-- The block of window 22 at an index. -/
theorem blk_22 (e : Fin 4) (he : e.val = eb m (bat m hO t)) (k : Fin 192) (d : Fin 128) :
    iblk m hO c 22 t (ix3 (0 : Fin 1) k d) = V m c main_cst (ix3 e k d) := by
  refine congrArg (V m c main_cst) (funext fun a => Fin.ext ?_)
  refine (Pipeline.Window.rect_emb_val ((cfgM m hO).win 22) t _ a).trans ?_
  have hi : ((cfgM m hO).win 22).index t = ![eb m (bat m hO t), 0, 0] := index_b m hO t
  rw [hi, ← he]
  fin_cases a
  · show e.val * 1 + 0 = e.val
    omega
  · show 0 * 192 + k.val = k.val
    omega
  · show 0 * 128 + d.val = d.val
    omega

/-- The block of window 23 at an index. -/
theorem blk_23 (e : Fin 4) (he : e.val = eb m (bat m hO t)) (d : Fin 128) :
    iblk m hO c 23 t (ix3 (0 : Fin 1) (0 : Fin 1) d) = V m c main_cst_0 (ix3 e (0 : Fin 1) d) := by
  refine congrArg (V m c main_cst_0) (funext fun a => Fin.ext ?_)
  refine (Pipeline.Window.rect_emb_val ((cfgM m hO).win 23) t _ a).trans ?_
  have hi : ((cfgM m hO).win 23).index t = ![eb m (bat m hO t), 0, 0] := index_b m hO t
  rw [hi, ← he]
  fin_cases a
  · show e.val * 1 + 0 = e.val
    omega
  · show 0 * 1 + 0 = 0
    omega
  · show 0 * 128 + d.val = d.val
    omega

end Cert.Moe.KernelIdeal

end
-- ==== Proof.Block.lean ====
/-
  What the kernel's body computes from its input blocks, as vector operations: the sixteen series' stages written once, over
  the series' number. `Proof/BlockEq.lean` identifies the body's stored value with it.
-/
module

public import proofs.«01_k».proof.Proof.Gen.KernelIdeal.Skeleton

@[expose] public section

set_option synthInstance.maxSize 4096

noncomputable section

namespace Cert.Moe

open Idealize.ShloMosaic Cert.KernelIdeal Cert.KernelIdeal.Gen

variable {F : FTy → Type} [FloatOps F] [Named F]

theorem slices_series (n : Fin 16) : S16x192x128.Slices ![n.val, 0, 0] S1x192x128 := by revert n; decide +kernel
theorem slices_rows (n : Fin 16) : S1536x128.Slices ![96 * n.val, 0] S96x128 := by revert n; decide +kernel
theorem slices_steps (n : Fin 16) : S3072x128.Slices ![192 * n.val, 0] S192x128 := by revert n; decide +kernel

/-- Series `n` of the block, 192 time steps by 128 channels. -/
def seriesV (x : Vec F S1x192x16x128 .f32) (n : Fin 16) : FVec F S192x128 .f32 :=
  shapeCast S192x128 (extractStridedSlice S1x192x128 ![n.val, 0, 0] (k0_pay4 x) (slices_series n)) shapeCasts_S1x192x128_S192x128

/-- Sixteen 96-row pieces one under another. -/
def stack96 (f : Fin 16 → FVec F S96x128 .f32) : FVec F S1536x128 .f32 :=
  concatenate S1536x128 0 (List.ofFn fun n : Fin 16 => (⟨S96x128, f n⟩ : (s : Shape) × (s.Idx → F .f32)))
    concatenates_S96x128_S96x128_S96x128_S96x128_S96x128_S96x128_S96x128_S96x128_S96x128_S96x128_S96x128_S96x128_S96x128_S96x128_S96x128_S96x128_S1536x128_d0

/-- Sixteen 192-row pieces one under another. -/
def stack192 (f : Fin 16 → FVec F S192x128 .f32) : FVec F S3072x128 .f32 :=
  concatenate S3072x128 0 (List.ofFn fun n : Fin 16 => (⟨S192x128, f n⟩ : (s : Shape) × (s.Idx → F .f32)))
    concatenates_S192x128_S192x128_S192x128_S192x128_S192x128_S192x128_S192x128_S192x128_S192x128_S192x128_S192x128_S192x128_S192x128_S192x128_S192x128_S192x128_S3072x128_d0

/-- The sixteen series' patch rows: the averaging table times each series. -/
def poolV (A : FVec F S96x192 .bf16) (x : Fin 16 → FVec F S192x128 .f32) : FVec F S1536x128 .bf16 :=
  truncf .bf16 (stack96 fun n => matmul dot_S96x192_S192x128_S96x128_1_0_0_1_n_n none A (truncf .bf16 (x n) bitsLt_bf16_f32)
    (constant S96x128 .f32 0x00000000#32)) bitsLt_bf16_f32

/-- A projection of all the patch rows. -/
def projV (y : FVec F S1536x128 .bf16) (w : FVec F S128x128 .bf16) : FVec F S1536x128 .bf16 :=
  truncf .bf16 (matmul dot_S1536x128_S128x128_S1536x128_1_0_0_1_n_n none y w (constant S1536x128 .f32 0x00000000#32)) bitsLt_bf16_f32

/-- Series `n`'s 96 rows. -/
def rowsV (v : FVec F S1536x128 .bf16) (n : Fin 16) : FVec F S96x128 .bf16 :=
  extractStridedSlice S96x128 ![96 * n.val, 0] v (slices_rows n)

/-- Series `n`'s 96 rows over 32 rows of zeros. -/
def padV (v : FVec F S1536x128 .bf16) (n : Fin 16) : FVec F S128x128 .bf16 :=
  concatenate S128x128 0 [⟨S96x128, rowsV v n⟩, ⟨S32x128, k0_pay42 (F := F)⟩] concatenates_S96x128_S32x128_S128x128_d0

/-- The scaled scores of all the series. -/
def scoreV (q k : FVec F S1536x128 .bf16) : FVec F S1536x128 .f32 :=
  mulf (stack96 fun n => matmul dot_S96x128_S128x128_S96x128_1_1_0_0_n_n none (rowsV q n) (padV k n) (constant S96x128 .f32 0x00000000#32))
    (broadcast S1536x128 (Named.named κ "scale" 0x3DB504F3#32))

/-- The attention rows of all the series. -/
def attnV (p v : FVec F S1536x128 .bf16) : FVec F S1536x128 .bf16 :=
  truncf .bf16 (stack96 fun n => matmul dot_S96x128_S128x128_S96x128_1_0_0_1_n_n none (rowsV p n) (padV v n) (constant S96x128 .f32 0x00000000#32))
    bitsLt_bf16_f32

/-- One series with the attention's output repeated over each patch's steps and added. -/
def stepV (R : FVec F S192x128 .bf16) (xn : FVec F S192x128 .f32) (o : FVec F S1536x128 .bf16) (n : Fin 16) : FVec F S192x128 .f32 :=
  addf xn (matmul dot_S192x128_S128x128_S192x128_1_0_0_1_n_n none R (padV o n) (constant S192x128 .f32 0x00000000#32))

/-- The same of all the series. -/
def addRepV (R : FVec F S192x128 .bf16) (x : Fin 16 → FVec F S192x128 .f32) (o : FVec F S1536x128 .bf16) : FVec F S3072x128 .f32 :=
  stack192 fun n => stepV R (x n) o n

/-- The perceptron with its residual, all times the gate. -/
def ffnV (h : FVec F S3072x128 .f32) (w1 : Vec F S1x128x256 .f32) (b1 : Vec F S1x1x256 .f32) (w2 : Vec F S1x256x128 .f32)
    (b2 : Vec F S1x1x128 .f32) (g : F .f32) : FVec F S3072x128 .f32 :=
  mulf (addf h (addf (matmul dot_S3072x256_S256x128_S3072x128_1_0_0_1_n_n none
      (truncf .bf16 (maximumf (addf (matmul dot_S3072x128_S128x256_S3072x256_1_0_0_1_n_n none (truncf .bf16 h bitsLt_bf16_f32)
          (truncf .bf16 (shapeCast S128x256 w1 shapeCasts_S1x128x256_S128x256) bitsLt_bf16_f32) (constant S3072x256 .f32 0x00000000#32))
        (broadcastTo S3072x256 (shapeCast S1x256 b1 shapeCasts_S1x1x256_S1x256) broadcasts_S1x256_S3072x256))
        (broadcast S3072x256 (Scalar.ofBits .f32 0x00000000#32))) bitsLt_bf16_f32)
      (truncf .bf16 (shapeCast S256x128 w2 shapeCasts_S1x256x128_S256x128) bitsLt_bf16_f32) (constant S3072x128 .f32 0x00000000#32))
    (broadcastTo S3072x128 (shapeCast S1x128 b2 shapeCasts_S1x1x128_S1x128) broadcasts_S1x128_S3072x128)))
    (broadcast S3072x128 g)

/-- One expert on the sixteen series, times its gate. -/
def expertV (x : Fin 16 → FVec F S192x128 .f32) (g : F .f32) (wq wk wv wo : Vec F S1x128x128 .f32) (w1 : Vec F S1x128x256 .f32)
    (b1 : Vec F S1x1x256 .f32) (w2 : Vec F S1x256x128 .f32) (b2 : Vec F S1x1x128 .f32) (A : Vec F S1x96x192 .f32)
    (R : Vec F S1x192x128 .f32) (km : Vec F S1x1x128 .f32) : FVec F S3072x128 .f32 :=
  ffnV (addRepV (k0_pay23 R) x
    (projV (attnV (k0_pay50 (scoreV (projV (poolV (k0_pay22 A) x) (k0_pay25 wq)) (projV (poolV (k0_pay22 A) x) (k0_pay25 wk))) (k0_pay49 (k0_pay24 km)))
      (projV (poolV (k0_pay22 A) x) (k0_pay25 wv))) (k0_pay25 wo))) w1 b1 w2 b2 g

/-- One series' rows of the result: its end projection and bias, and its rows of the experts' sum. -/
def outV (ew : Vec F S192x192 .f32) (eb : Vec F S192x128 .f32) (xn : FVec F S192x128 .f32) (tot : FVec F S3072x128 .f32) (n : Fin 16) :
    FVec F S192x128 .f32 :=
  addf (addf (matmul dot_S192x192_S192x128_S192x128_1_0_0_1_n_n none (k0_pay130 ew) xn (constant S192x128 .f32 0x00000000#32)) (k0_pay131 eb))
    (extractStridedSlice S192x128 ![192 * n.val, 0] tot (slices_steps n))

/-- The stored block: the end projection of each series and its bias, and the two experts' sum. -/
def blockV (x : Fin 16 → FVec F S192x128 .f32) (tot : FVec F S3072x128 .f32) (ew : Vec F S192x192 .f32) (eb : Vec F S192x128 .f32) :
    Vec F S1x192x16x128 .f32 :=
  shapeCast S1x192x16x128 (transpose S192x16x128 [1, 0, 2] (concatenate S16x192x128 0
    (List.ofFn fun n : Fin 16 => (⟨S1x192x128, shapeCast S1x192x128 (outV ew eb (x n) tot n) shapeCasts_S192x128_S1x192x128⟩ : (s : Shape) × (s.Idx → F .f32)))
    concatenates_S1x192x128_S1x192x128_S1x192x128_S1x192x128_S1x192x128_S1x192x128_S1x192x128_S1x192x128_S1x192x128_S1x192x128_S1x192x128_S1x192x128_S1x192x128_S1x192x128_S1x192x128_S1x192x128_S16x192x128_d0)
    transposes_S16x192x128_p1_0_2_S192x16x128) shapeCasts_S192x16x128_S1x192x16x128

end Cert.Moe

end
-- ==== Proof.BlockEq.lean ====
/-
  The body's stored value is the block of `Proof/Block.lean`: stage by stage, each by unfolding, the sixteen series' copies
  gathered into one family.
-/
module

public import proofs.«01_k».proof.Proof.Block

@[expose] public section

set_option synthInstance.maxSize 4096
set_option maxRecDepth 16384

noncomputable section

namespace Cert.Moe.Eq

open Idealize.ShloMosaic Cert.KernelIdeal Cert.KernelIdeal.Gen

variable {F : FTy → Type} [FloatOps F] [Named F]

theorem series_0 (v0 : Vec F S1x192x16x128 .f32) :
    k0_pay5 v0
      = seriesV v0 0 := rfl

theorem series_1 (v0 : Vec F S1x192x16x128 .f32) :
    k0_pay6 v0
      = seriesV v0 1 := rfl

theorem series_2 (v0 : Vec F S1x192x16x128 .f32) :
    k0_pay7 v0
      = seriesV v0 2 := rfl

theorem series_3 (v0 : Vec F S1x192x16x128 .f32) :
    k0_pay8 v0
      = seriesV v0 3 := rfl

theorem series_4 (v0 : Vec F S1x192x16x128 .f32) :
    k0_pay9 v0
      = seriesV v0 4 := rfl

theorem series_5 (v0 : Vec F S1x192x16x128 .f32) :
    k0_pay10 v0
      = seriesV v0 5 := rfl

theorem series_6 (v0 : Vec F S1x192x16x128 .f32) :
    k0_pay11 v0
      = seriesV v0 6 := rfl

theorem series_7 (v0 : Vec F S1x192x16x128 .f32) :
    k0_pay12 v0
      = seriesV v0 7 := rfl

theorem series_8 (v0 : Vec F S1x192x16x128 .f32) :
    k0_pay13 v0
      = seriesV v0 8 := rfl

theorem series_9 (v0 : Vec F S1x192x16x128 .f32) :
    k0_pay14 v0
      = seriesV v0 9 := rfl

theorem series_10 (v0 : Vec F S1x192x16x128 .f32) :
    k0_pay15 v0
      = seriesV v0 10 := rfl

theorem series_11 (v0 : Vec F S1x192x16x128 .f32) :
    k0_pay16 v0
      = seriesV v0 11 := rfl

theorem series_12 (v0 : Vec F S1x192x16x128 .f32) :
    k0_pay17 v0
      = seriesV v0 12 := rfl

theorem series_13 (v0 : Vec F S1x192x16x128 .f32) :
    k0_pay18 v0
      = seriesV v0 13 := rfl

theorem series_14 (v0 : Vec F S1x192x16x128 .f32) :
    k0_pay19 v0
      = seriesV v0 14 := rfl

theorem series_15 (v0 : Vec F S1x192x16x128 .f32) :
    k0_pay20 v0
      = seriesV v0 15 := rfl

theorem q_a (v0 : Vec F S1x192x16x128 .f32) (A : FVec F S96x192 .bf16) (w : FVec F S128x128 .bf16) :
    k0_pay39 (seriesV v0 9) (seriesV v0 10) (seriesV v0 11) (seriesV v0 12) (seriesV v0 13) (seriesV v0 14) (seriesV v0 15) A w (k0_pay29 (seriesV v0 0) A) (k0_pay30 (seriesV v0 1) A) (k0_pay31 (seriesV v0 2) A) (k0_pay32 (seriesV v0 3) A) (k0_pay33 (seriesV v0 4) A) (k0_pay34 (seriesV v0 5) A) (k0_pay35 (seriesV v0 6) A) (k0_pay36 (seriesV v0 7) A) (k0_pay37 (seriesV v0 8)) (constant S96x128 .f32 0x00000000#32)
      = projV (poolV A (seriesV v0)) w := rfl

theorem k_a (v0 : Vec F S1x192x16x128 .f32) (A : FVec F S96x192 .bf16) (w : FVec F S128x128 .bf16) :
    k0_pay40 (seriesV v0 9) (seriesV v0 10) (seriesV v0 11) (seriesV v0 12) (seriesV v0 13) (seriesV v0 14) (seriesV v0 15) A w (k0_pay29 (seriesV v0 0) A) (k0_pay30 (seriesV v0 1) A) (k0_pay31 (seriesV v0 2) A) (k0_pay32 (seriesV v0 3) A) (k0_pay33 (seriesV v0 4) A) (k0_pay34 (seriesV v0 5) A) (k0_pay35 (seriesV v0 6) A) (k0_pay36 (seriesV v0 7) A) (k0_pay37 (seriesV v0 8)) (constant S96x128 .f32 0x00000000#32)
      = projV (poolV A (seriesV v0)) w := rfl

theorem v_a (v0 : Vec F S1x192x16x128 .f32) (A : FVec F S96x192 .bf16) (w : FVec F S128x128 .bf16) :
    k0_pay41 (seriesV v0 9) (seriesV v0 10) (seriesV v0 11) (seriesV v0 12) (seriesV v0 13) (seriesV v0 14) (seriesV v0 15) A w (k0_pay29 (seriesV v0 0) A) (k0_pay30 (seriesV v0 1) A) (k0_pay31 (seriesV v0 2) A) (k0_pay32 (seriesV v0 3) A) (k0_pay33 (seriesV v0 4) A) (k0_pay34 (seriesV v0 5) A) (k0_pay35 (seriesV v0 6) A) (k0_pay36 (seriesV v0 7) A) (k0_pay37 (seriesV v0 8)) (constant S96x128 .f32 0x00000000#32)
      = projV (poolV A (seriesV v0)) w := rfl

theorem q_b (v0 : Vec F S1x192x16x128 .f32) (A : FVec F S96x192 .bf16) (w : FVec F S128x128 .bf16) :
    k0_pay98 (seriesV v0 9) (seriesV v0 10) (seriesV v0 11) (seriesV v0 12) (seriesV v0 13) (seriesV v0 14) (seriesV v0 15) A w (k0_pay88 (seriesV v0 0) A) (k0_pay89 (seriesV v0 1) A) (k0_pay90 (seriesV v0 2) A) (k0_pay91 (seriesV v0 3) A) (k0_pay92 (seriesV v0 4) A) (k0_pay93 (seriesV v0 5) A) (k0_pay94 (seriesV v0 6) A) (k0_pay95 (seriesV v0 7) A) (k0_pay96 (seriesV v0 8) A)
      = projV (poolV A (seriesV v0)) w := rfl

theorem k_b (v0 : Vec F S1x192x16x128 .f32) (A : FVec F S96x192 .bf16) (w : FVec F S128x128 .bf16) :
    k0_pay99 (seriesV v0 9) (seriesV v0 10) (seriesV v0 11) (seriesV v0 12) (seriesV v0 13) (seriesV v0 14) (seriesV v0 15) A w (k0_pay88 (seriesV v0 0) A) (k0_pay89 (seriesV v0 1) A) (k0_pay90 (seriesV v0 2) A) (k0_pay91 (seriesV v0 3) A) (k0_pay92 (seriesV v0 4) A) (k0_pay93 (seriesV v0 5) A) (k0_pay94 (seriesV v0 6) A) (k0_pay95 (seriesV v0 7) A) (k0_pay96 (seriesV v0 8) A)
      = projV (poolV A (seriesV v0)) w := rfl

theorem v_b (v0 : Vec F S1x192x16x128 .f32) (A : FVec F S96x192 .bf16) (w : FVec F S128x128 .bf16) :
    k0_pay100 (seriesV v0 9) (seriesV v0 10) (seriesV v0 11) (seriesV v0 12) (seriesV v0 13) (seriesV v0 14) (seriesV v0 15) A w (k0_pay88 (seriesV v0 0) A) (k0_pay89 (seriesV v0 1) A) (k0_pay90 (seriesV v0 2) A) (k0_pay91 (seriesV v0 3) A) (k0_pay92 (seriesV v0 4) A) (k0_pay93 (seriesV v0 5) A) (k0_pay94 (seriesV v0 6) A) (k0_pay95 (seriesV v0 7) A) (k0_pay96 (seriesV v0 8) A)
      = projV (poolV A (seriesV v0)) w := rfl

theorem score_a (v0 : Vec F S1x192x16x128 .f32) (A : FVec F S96x192 .bf16) (wq wk : FVec F S128x128 .bf16) :
    k0_pay48 (projV (poolV A (seriesV v0)) wq) (projV (poolV A (seriesV v0)) wk) (k0_pay42 (F := F)) (k0_pay43 (seriesV v0 9) (seriesV v0 10) (seriesV v0 11) (seriesV v0 12) (seriesV v0 13) (seriesV v0 14) (seriesV v0 15) A wq wk (k0_pay29 (seriesV v0 0) A) (k0_pay30 (seriesV v0 1) A) (k0_pay31 (seriesV v0 2) A) (k0_pay32 (seriesV v0 3) A) (k0_pay33 (seriesV v0 4) A) (k0_pay34 (seriesV v0 5) A) (k0_pay35 (seriesV v0 6) A) (k0_pay36 (seriesV v0 7) A) (k0_pay37 (seriesV v0 8)) (constant S96x128 .f32 0x00000000#32)) (k0_pay44 (seriesV v0 9) (seriesV v0 10) (seriesV v0 11) (seriesV v0 12) (seriesV v0 13) (seriesV v0 14) (seriesV v0 15) A wq wk (k0_pay29 (seriesV v0 0) A) (k0_pay30 (seriesV v0 1) A) (k0_pay31 (seriesV v0 2) A) (k0_pay32 (seriesV v0 3) A) (k0_pay33 (seriesV v0 4) A) (k0_pay34 (seriesV v0 5) A) (k0_pay35 (seriesV v0 6) A) (k0_pay36 (seriesV v0 7) A) (k0_pay37 (seriesV v0 8)) (constant S96x128 .f32 0x00000000#32)) (k0_pay45 (seriesV v0 9) (seriesV v0 10) (seriesV v0 11) (seriesV v0 12) (seriesV v0 13) (seriesV v0 14) (seriesV v0 15) A wq wk (k0_pay29 (seriesV v0 0) A) (k0_pay30 (seriesV v0 1) A) (k0_pay31 (seriesV v0 2) A) (k0_pay32 (seriesV v0 3) A) (k0_pay33 (seriesV v0 4) A) (k0_pay34 (seriesV v0 5) A) (k0_pay35 (seriesV v0 6) A) (k0_pay36 (seriesV v0 7) A) (k0_pay37 (seriesV v0 8)) (constant S96x128 .f32 0x00000000#32)) (k0_pay46 (seriesV v0 9) (seriesV v0 10) (seriesV v0 11) (seriesV v0 12) (seriesV v0 13) (seriesV v0 14) (seriesV v0 15) A wq wk (k0_pay29 (seriesV v0 0) A) (k0_pay30 (seriesV v0 1) A) (k0_pay31 (seriesV v0 2) A) (k0_pay32 (seriesV v0 3) A) (k0_pay33 (seriesV v0 4) A) (k0_pay34 (seriesV v0 5) A) (k0_pay35 (seriesV v0 6) A) (k0_pay36 (seriesV v0 7) A) (k0_pay37 (seriesV v0 8)) (constant S96x128 .f32 0x00000000#32)) (k0_pay47 (seriesV v0 9) (seriesV v0 10) (seriesV v0 11) (seriesV v0 12) (seriesV v0 13) (seriesV v0 14) (seriesV v0 15) A wq wk (k0_pay29 (seriesV v0 0) A) (k0_pay30 (seriesV v0 1) A) (k0_pay31 (seriesV v0 2) A) (k0_pay32 (seriesV v0 3) A) (k0_pay33 (seriesV v0 4) A) (k0_pay34 (seriesV v0 5) A) (k0_pay35 (seriesV v0 6) A) (k0_pay36 (seriesV v0 7) A) (k0_pay37 (seriesV v0 8)) (constant S96x128 .f32 0x00000000#32))
      = scoreV (projV (poolV A (seriesV v0)) wq) (projV (poolV A (seriesV v0)) wk) := rfl

theorem score_b (v0 : Vec F S1x192x16x128 .f32) (A : FVec F S96x192 .bf16) (wq wk : FVec F S128x128 .bf16) (km : FVec F S1x128 .f32) :
    k0_pay108 km (projV (poolV A (seriesV v0)) wq) (projV (poolV A (seriesV v0)) wk) (k0_pay42 (F := F)) (k0_pay102 (seriesV v0 9) (seriesV v0 10) (seriesV v0 11) (seriesV v0 12) (seriesV v0 13) (seriesV v0 14) (seriesV v0 15) A wq wk (k0_pay88 (seriesV v0 0) A) (k0_pay89 (seriesV v0 1) A) (k0_pay90 (seriesV v0 2) A) (k0_pay91 (seriesV v0 3) A) (k0_pay92 (seriesV v0 4) A) (k0_pay93 (seriesV v0 5) A) (k0_pay94 (seriesV v0 6) A) (k0_pay95 (seriesV v0 7) A) (k0_pay96 (seriesV v0 8) A)) (k0_pay103 (seriesV v0 9) (seriesV v0 10) (seriesV v0 11) (seriesV v0 12) (seriesV v0 13) (seriesV v0 14) (seriesV v0 15) A wq wk (k0_pay88 (seriesV v0 0) A) (k0_pay89 (seriesV v0 1) A) (k0_pay90 (seriesV v0 2) A) (k0_pay91 (seriesV v0 3) A) (k0_pay92 (seriesV v0 4) A) (k0_pay93 (seriesV v0 5) A) (k0_pay94 (seriesV v0 6) A) (k0_pay95 (seriesV v0 7) A) (k0_pay96 (seriesV v0 8) A)) (k0_pay104 (seriesV v0 9) (seriesV v0 10) (seriesV v0 11) (seriesV v0 12) (seriesV v0 13) (seriesV v0 14) (seriesV v0 15) A wq wk (k0_pay88 (seriesV v0 0) A) (k0_pay89 (seriesV v0 1) A) (k0_pay90 (seriesV v0 2) A) (k0_pay91 (seriesV v0 3) A) (k0_pay92 (seriesV v0 4) A) (k0_pay93 (seriesV v0 5) A) (k0_pay94 (seriesV v0 6) A) (k0_pay95 (seriesV v0 7) A) (k0_pay96 (seriesV v0 8) A)) (k0_pay105 (seriesV v0 9) (seriesV v0 10) (seriesV v0 11) (seriesV v0 12) (seriesV v0 13) (seriesV v0 14) (seriesV v0 15) A wq wk (k0_pay88 (seriesV v0 0) A) (k0_pay89 (seriesV v0 1) A) (k0_pay90 (seriesV v0 2) A) (k0_pay91 (seriesV v0 3) A) (k0_pay92 (seriesV v0 4) A) (k0_pay93 (seriesV v0 5) A) (k0_pay94 (seriesV v0 6) A) (k0_pay95 (seriesV v0 7) A) (k0_pay96 (seriesV v0 8) A)) (k0_pay106 (seriesV v0 9) (seriesV v0 10) (seriesV v0 11) (seriesV v0 12) (seriesV v0 13) (seriesV v0 14) (seriesV v0 15) A wq wk (k0_pay88 (seriesV v0 0) A) (k0_pay89 (seriesV v0 1) A) (k0_pay90 (seriesV v0 2) A) (k0_pay91 (seriesV v0 3) A) (k0_pay92 (seriesV v0 4) A) (k0_pay93 (seriesV v0 5) A) (k0_pay94 (seriesV v0 6) A) (k0_pay95 (seriesV v0 7) A) (k0_pay96 (seriesV v0 8) A)) (k0_pay107 (seriesV v0 9) (seriesV v0 10) (seriesV v0 11) (seriesV v0 12) (seriesV v0 13) (seriesV v0 14) (seriesV v0 15) A wq (k0_pay88 (seriesV v0 0) A) (k0_pay89 (seriesV v0 1) A) (k0_pay90 (seriesV v0 2) A) (k0_pay91 (seriesV v0 3) A) (k0_pay92 (seriesV v0 4) A) (k0_pay93 (seriesV v0 5) A) (k0_pay94 (seriesV v0 6) A) (k0_pay95 (seriesV v0 7) A) (k0_pay96 (seriesV v0 8) A))
      = addf (scoreV (projV (poolV A (seriesV v0)) wq) (projV (poolV A (seriesV v0)) wk)) (k0_pay49 km) := rfl

theorem o_a (v : FVec F S1536x128 .bf16) (s m : FVec F S1536x128 .f32) (wo : FVec F S128x128 .bf16) :
    k0_pay61 wo v (k0_pay42 (F := F)) (k0_pay50 s m) (k0_pay51 v (k0_pay42 (F := F)) s m) (k0_pay52 v (k0_pay42 (F := F)) s m) (k0_pay53 v (k0_pay42 (F := F)) s m) (k0_pay54 v (k0_pay42 (F := F)) s m) (k0_pay55 v (k0_pay42 (F := F)) s m) (k0_pay56 v (k0_pay42 (F := F)) s m) (k0_pay57 v (k0_pay42 (F := F)) s m) (k0_pay58 v (k0_pay42 (F := F)) s m) (k0_pay59 v (k0_pay42 (F := F)) s m) (k0_pay60 v (k0_pay42 (F := F)))
      = projV (attnV (k0_pay50 s m) v) wo := rfl

theorem o_b (v : FVec F S1536x128 .bf16) (s m : FVec F S1536x128 .f32) (wo : FVec F S128x128 .bf16) :
    k0_pay121 wo v (k0_pay42 (F := F)) (k0_pay109 (addf s m)) (k0_pay110 v (k0_pay42 (F := F)) (addf s m)) (k0_pay111 v (k0_pay42 (F := F)) (addf s m)) (k0_pay112 v (k0_pay42 (F := F)) (addf s m)) (k0_pay113 v (k0_pay42 (F := F)) (addf s m)) (k0_pay114 v (k0_pay42 (F := F)) (addf s m)) (k0_pay115 v (k0_pay42 (F := F)) (addf s m)) (k0_pay116 v (k0_pay42 (F := F)) (addf s m)) (k0_pay117 v (k0_pay42 (F := F)) (addf s m)) (k0_pay118 v (k0_pay42 (F := F)) (addf s m)) (k0_pay119 v (k0_pay42 (F := F))) (k0_pay120 (addf s m))
      = projV (attnV (k0_pay50 s m) v) wo := rfl

theorem step_a0 (x : FVec F S192x128 .f32) (R : FVec F S192x128 .bf16) (v : FVec F S1536x128 .bf16) (s m : FVec F S1536x128 .f32) (wo : FVec F S128x128 .bf16) :
    k0_pay63 x R wo v (k0_pay42 (F := F)) (k0_pay50 s m) (k0_pay51 v (k0_pay42 (F := F)) s m) (k0_pay52 v (k0_pay42 (F := F)) s m) (k0_pay53 v (k0_pay42 (F := F)) s m) (k0_pay54 v (k0_pay42 (F := F)) s m) (k0_pay55 v (k0_pay42 (F := F)) s m) (k0_pay56 v (k0_pay42 (F := F)) s m) (k0_pay57 v (k0_pay42 (F := F)) s m) (k0_pay58 v (k0_pay42 (F := F)) s m) (k0_pay59 v (k0_pay42 (F := F)) s m) (k0_pay60 v (k0_pay42 (F := F)))
      = stepV R x (projV (attnV (k0_pay50 s m) v) wo) 0 := rfl

theorem step_a1 (x : FVec F S192x128 .f32) (R : FVec F S192x128 .bf16) (v : FVec F S1536x128 .bf16) (s m : FVec F S1536x128 .f32) (wo : FVec F S128x128 .bf16) :
    k0_pay64 x R wo v (k0_pay42 (F := F)) (k0_pay50 s m) (k0_pay51 v (k0_pay42 (F := F)) s m) (k0_pay52 v (k0_pay42 (F := F)) s m) (k0_pay53 v (k0_pay42 (F := F)) s m) (k0_pay54 v (k0_pay42 (F := F)) s m) (k0_pay55 v (k0_pay42 (F := F)) s m) (k0_pay56 v (k0_pay42 (F := F)) s m) (k0_pay57 v (k0_pay42 (F := F)) s m) (k0_pay58 v (k0_pay42 (F := F)) s m) (k0_pay59 v (k0_pay42 (F := F)) s m) (k0_pay60 v (k0_pay42 (F := F)))
      = stepV R x (projV (attnV (k0_pay50 s m) v) wo) 1 := rfl

theorem step_a2 (x : FVec F S192x128 .f32) (R : FVec F S192x128 .bf16) (v : FVec F S1536x128 .bf16) (s m : FVec F S1536x128 .f32) (wo : FVec F S128x128 .bf16) :
    k0_pay65 x R wo v (k0_pay42 (F := F)) (k0_pay50 s m) (k0_pay51 v (k0_pay42 (F := F)) s m) (k0_pay52 v (k0_pay42 (F := F)) s m) (k0_pay53 v (k0_pay42 (F := F)) s m) (k0_pay54 v (k0_pay42 (F := F)) s m) (k0_pay55 v (k0_pay42 (F := F)) s m) (k0_pay56 v (k0_pay42 (F := F)) s m) (k0_pay57 v (k0_pay42 (F := F)) s m) (k0_pay58 v (k0_pay42 (F := F)) s m) (k0_pay59 v (k0_pay42 (F := F)) s m) (k0_pay60 v (k0_pay42 (F := F)))
      = stepV R x (projV (attnV (k0_pay50 s m) v) wo) 2 := rfl

theorem step_a3 (x : FVec F S192x128 .f32) (R : FVec F S192x128 .bf16) (v : FVec F S1536x128 .bf16) (s m : FVec F S1536x128 .f32) (wo : FVec F S128x128 .bf16) :
    k0_pay66 x R wo v (k0_pay42 (F := F)) (k0_pay50 s m) (k0_pay51 v (k0_pay42 (F := F)) s m) (k0_pay52 v (k0_pay42 (F := F)) s m) (k0_pay53 v (k0_pay42 (F := F)) s m) (k0_pay54 v (k0_pay42 (F := F)) s m) (k0_pay55 v (k0_pay42 (F := F)) s m) (k0_pay56 v (k0_pay42 (F := F)) s m) (k0_pay57 v (k0_pay42 (F := F)) s m) (k0_pay58 v (k0_pay42 (F := F)) s m) (k0_pay59 v (k0_pay42 (F := F)) s m) (k0_pay60 v (k0_pay42 (F := F)))
      = stepV R x (projV (attnV (k0_pay50 s m) v) wo) 3 := rfl

theorem step_b0 (x : FVec F S192x128 .f32) (R : FVec F S192x128 .bf16) (v : FVec F S1536x128 .bf16) (s m : FVec F S1536x128 .f32) (wo : FVec F S128x128 .bf16) :
    k0_pay123 x R wo v (k0_pay42 (F := F)) (k0_pay109 (addf s m)) (k0_pay110 v (k0_pay42 (F := F)) (addf s m)) (k0_pay111 v (k0_pay42 (F := F)) (addf s m)) (k0_pay112 v (k0_pay42 (F := F)) (addf s m)) (k0_pay113 v (k0_pay42 (F := F)) (addf s m)) (k0_pay114 v (k0_pay42 (F := F)) (addf s m)) (k0_pay115 v (k0_pay42 (F := F)) (addf s m)) (k0_pay116 v (k0_pay42 (F := F)) (addf s m)) (k0_pay117 v (k0_pay42 (F := F)) (addf s m)) (k0_pay118 v (k0_pay42 (F := F)) (addf s m)) (k0_pay119 v (k0_pay42 (F := F))) (k0_pay120 (addf s m))
      = stepV R x (projV (attnV (k0_pay50 s m) v) wo) 0 := rfl

theorem step_b1 (x : FVec F S192x128 .f32) (R : FVec F S192x128 .bf16) (v : FVec F S1536x128 .bf16) (s m : FVec F S1536x128 .f32) (wo : FVec F S128x128 .bf16) :
    k0_pay124 x R wo v (k0_pay42 (F := F)) (k0_pay109 (addf s m)) (k0_pay110 v (k0_pay42 (F := F)) (addf s m)) (k0_pay111 v (k0_pay42 (F := F)) (addf s m)) (k0_pay112 v (k0_pay42 (F := F)) (addf s m)) (k0_pay113 v (k0_pay42 (F := F)) (addf s m)) (k0_pay114 v (k0_pay42 (F := F)) (addf s m)) (k0_pay115 v (k0_pay42 (F := F)) (addf s m)) (k0_pay116 v (k0_pay42 (F := F)) (addf s m)) (k0_pay117 v (k0_pay42 (F := F)) (addf s m)) (k0_pay118 v (k0_pay42 (F := F)) (addf s m)) (k0_pay119 v (k0_pay42 (F := F))) (k0_pay120 (addf s m))
      = stepV R x (projV (attnV (k0_pay50 s m) v) wo) 1 := rfl

theorem step_b2 (x : FVec F S192x128 .f32) (R : FVec F S192x128 .bf16) (v : FVec F S1536x128 .bf16) (s m : FVec F S1536x128 .f32) (wo : FVec F S128x128 .bf16) :
    k0_pay125 x R wo v (k0_pay42 (F := F)) (k0_pay109 (addf s m)) (k0_pay110 v (k0_pay42 (F := F)) (addf s m)) (k0_pay111 v (k0_pay42 (F := F)) (addf s m)) (k0_pay112 v (k0_pay42 (F := F)) (addf s m)) (k0_pay113 v (k0_pay42 (F := F)) (addf s m)) (k0_pay114 v (k0_pay42 (F := F)) (addf s m)) (k0_pay115 v (k0_pay42 (F := F)) (addf s m)) (k0_pay116 v (k0_pay42 (F := F)) (addf s m)) (k0_pay117 v (k0_pay42 (F := F)) (addf s m)) (k0_pay118 v (k0_pay42 (F := F)) (addf s m)) (k0_pay119 v (k0_pay42 (F := F))) (k0_pay120 (addf s m))
      = stepV R x (projV (attnV (k0_pay50 s m) v) wo) 2 := rfl

theorem step_b3 (x : FVec F S192x128 .f32) (R : FVec F S192x128 .bf16) (v : FVec F S1536x128 .bf16) (s m : FVec F S1536x128 .f32) (wo : FVec F S128x128 .bf16) :
    k0_pay126 x R wo v (k0_pay42 (F := F)) (k0_pay109 (addf s m)) (k0_pay110 v (k0_pay42 (F := F)) (addf s m)) (k0_pay111 v (k0_pay42 (F := F)) (addf s m)) (k0_pay112 v (k0_pay42 (F := F)) (addf s m)) (k0_pay113 v (k0_pay42 (F := F)) (addf s m)) (k0_pay114 v (k0_pay42 (F := F)) (addf s m)) (k0_pay115 v (k0_pay42 (F := F)) (addf s m)) (k0_pay116 v (k0_pay42 (F := F)) (addf s m)) (k0_pay117 v (k0_pay42 (F := F)) (addf s m)) (k0_pay118 v (k0_pay42 (F := F)) (addf s m)) (k0_pay119 v (k0_pay42 (F := F))) (k0_pay120 (addf s m))
      = stepV R x (projV (attnV (k0_pay50 s m) v) wo) 3 := rfl

theorem step_a4 (x : FVec F S192x128 .f32) (R : FVec F S192x128 .bf16) (o : FVec F S1536x128 .bf16) :
    k0_pay67 x R o (k0_pay42 (F := F))
      = stepV R x o 4 := rfl

theorem step_a5 (x : FVec F S192x128 .f32) (R : FVec F S192x128 .bf16) (o : FVec F S1536x128 .bf16) :
    k0_pay68 x R o (k0_pay42 (F := F))
      = stepV R x o 5 := rfl

theorem step_a6 (x : FVec F S192x128 .f32) (R : FVec F S192x128 .bf16) (o : FVec F S1536x128 .bf16) :
    k0_pay69 x R o (k0_pay42 (F := F))
      = stepV R x o 6 := rfl

theorem step_a7 (x : FVec F S192x128 .f32) (R : FVec F S192x128 .bf16) (o : FVec F S1536x128 .bf16) :
    k0_pay70 x R o (k0_pay42 (F := F))
      = stepV R x o 7 := rfl

theorem step_a8 (x : FVec F S192x128 .f32) (R : FVec F S192x128 .bf16) (o : FVec F S1536x128 .bf16) :
    k0_pay71 x R o (k0_pay42 (F := F))
      = stepV R x o 8 := rfl

theorem step_a9 (x : FVec F S192x128 .f32) (R : FVec F S192x128 .bf16) (o : FVec F S1536x128 .bf16) :
    k0_pay72 x R o (k0_pay42 (F := F))
      = stepV R x o 9 := rfl

theorem step_a10 (x : FVec F S192x128 .f32) (R : FVec F S192x128 .bf16) (o : FVec F S1536x128 .bf16) :
    k0_pay73 x R o (k0_pay42 (F := F))
      = stepV R x o 10 := rfl

theorem step_a11 (x : FVec F S192x128 .f32) (R : FVec F S192x128 .bf16) (o : FVec F S1536x128 .bf16) :
    k0_pay74 x R o (k0_pay42 (F := F))
      = stepV R x o 11 := rfl

theorem step_a12 (x : FVec F S192x128 .f32) (R : FVec F S192x128 .bf16) (o : FVec F S1536x128 .bf16) :
    k0_pay75 x R o (k0_pay42 (F := F))
      = stepV R x o 12 := rfl

theorem step_a13 (x : FVec F S192x128 .f32) (R : FVec F S192x128 .bf16) (o : FVec F S1536x128 .bf16) :
    k0_pay76 x R o (k0_pay42 (F := F))
      = stepV R x o 13 := rfl

theorem step_a14 (x : FVec F S192x128 .f32) (R : FVec F S192x128 .bf16) (o : FVec F S1536x128 .bf16) :
    k0_pay77 x R o (k0_pay42 (F := F))
      = stepV R x o 14 := rfl

theorem step_a15 (x : FVec F S192x128 .f32) (R : FVec F S192x128 .bf16) (o : FVec F S1536x128 .bf16) :
    k0_pay78 x R o (k0_pay42 (F := F))
      = stepV R x o 15 := rfl

theorem ffn_a (v0 : Vec F S1x192x16x128 .f32) (R : FVec F S192x128 .bf16) (o : FVec F S1536x128 .bf16) (w1 : Vec F S1x128x256 .f32) (b1 : Vec F S1x1x256 .f32) (w2 : Vec F S1x256x128 .f32) (b2 : Vec F S1x1x128 .f32) (g : F .f32) :
    k0_pay79 g (stepV R (seriesV v0 0) o 0) (stepV R (seriesV v0 1) o 1) (stepV R (seriesV v0 2) o 2) (stepV R (seriesV v0 3) o 3) (stepV R (seriesV v0 4) o 4) (stepV R (seriesV v0 5) o 5) (stepV R (seriesV v0 6) o 6) (stepV R (seriesV v0 7) o 7) (stepV R (seriesV v0 8) o 8) (stepV R (seriesV v0 9) o 9) (stepV R (seriesV v0 10) o 10) (stepV R (seriesV v0 11) o 11) (stepV R (seriesV v0 12) o 12) (stepV R (seriesV v0 13) o 13) (stepV R (seriesV v0 14) o 14) (stepV R (seriesV v0 15) o 15) w1 b1 w2 b2
      = ffnV (addRepV R (seriesV v0) o) w1 b1 w2 b2 g := rfl

theorem rep_b (v0 : Vec F S1x192x16x128 .f32) (R : FVec F S192x128 .bf16) (v : FVec F S1536x128 .bf16) (s m : FVec F S1536x128 .f32) (wo : FVec F S128x128 .bf16) :
    k0_pay128 (seriesV v0 4) (seriesV v0 5) (seriesV v0 6) (seriesV v0 7) (seriesV v0 8) (seriesV v0 9) (seriesV v0 10) (seriesV v0 11) (seriesV v0 12) (seriesV v0 13) (seriesV v0 14) (seriesV v0 15) R (projV (attnV (k0_pay50 s m) v) wo) (k0_pay42 (F := F)) (stepV R (seriesV v0 0) (projV (attnV (k0_pay50 s m) v) wo) 0) (stepV R (seriesV v0 1) (projV (attnV (k0_pay50 s m) v) wo) 1) (stepV R (seriesV v0 2) (projV (attnV (k0_pay50 s m) v) wo) 2) (stepV R (seriesV v0 3) (projV (attnV (k0_pay50 s m) v) wo) 3) (k0_pay127 wo v (k0_pay42 (F := F)) (k0_pay109 (addf s m)) (k0_pay110 v (k0_pay42 (F := F)) (addf s m)) (k0_pay111 v (k0_pay42 (F := F)) (addf s m)) (k0_pay112 v (k0_pay42 (F := F)) (addf s m)) (k0_pay113 v (k0_pay42 (F := F)) (addf s m)) (k0_pay114 v (k0_pay42 (F := F)) (addf s m)) (k0_pay115 v (k0_pay42 (F := F)) (addf s m)) (k0_pay116 v (k0_pay42 (F := F)) (addf s m)) (k0_pay117 v (k0_pay42 (F := F)) (addf s m)) (k0_pay118 v (k0_pay42 (F := F)) (addf s m)) (k0_pay119 v (k0_pay42 (F := F))) (k0_pay120 (addf s m)))
      = addRepV R (seriesV v0) (projV (attnV (k0_pay50 s m) v) wo) := rfl

theorem total (t h : FVec F S3072x128 .f32) (w1 : Vec F S1x128x256 .f32) (b1 : Vec F S1x1x256 .f32) (w2 : Vec F S1x256x128 .f32) (b2 : Vec F S1x1x128 .f32) (g : F .f32) :
    k0_pay129 t g h w1 b1 w2 b2
      = addf t (ffnV h w1 b1 w2 b2 g) := rfl

theorem out_0 (x : FVec F S192x128 .f32) (t h : FVec F S3072x128 .f32) (w1 : Vec F S1x128x256 .f32) (b1 : Vec F S1x1x256 .f32) (w2 : Vec F S1x256x128 .f32) (b2 : Vec F S1x1x128 .f32) (g : F .f32) (ew : Vec F S192x192 .f32) (eb : Vec F S192x128 .f32) :
    k0_pay132 x t g h w1 b1 w2 b2 ew eb
      = outV ew eb x (addf t (ffnV h w1 b1 w2 b2 g)) 0 := rfl

theorem out_1 (x : FVec F S192x128 .f32) (t h : FVec F S3072x128 .f32) (w1 : Vec F S1x128x256 .f32) (b1 : Vec F S1x1x256 .f32) (w2 : Vec F S1x256x128 .f32) (b2 : Vec F S1x1x128 .f32) (g : F .f32) (ew : Vec F S192x192 .f32) (eb : Vec F S192x128 .f32) :
    k0_pay133 x t g h w1 b1 w2 b2 ew eb
      = outV ew eb x (addf t (ffnV h w1 b1 w2 b2 g)) 1 := rfl

theorem out_2 (x : FVec F S192x128 .f32) (t : FVec F S3072x128 .f32) (ew : Vec F S192x192 .f32) (eb : Vec F S192x128 .f32) :
    k0_pay135 t (k0_pay134 x ew eb)
      = outV ew eb x t 2 := rfl

theorem out_3 (x : FVec F S192x128 .f32) (t : FVec F S3072x128 .f32) (ew : Vec F S192x192 .f32) (eb : Vec F S192x128 .f32) :
    k0_pay136 x t (k0_pay130 ew) (k0_pay131 eb)
      = outV ew eb x t 3 := rfl

theorem out_4 (x : FVec F S192x128 .f32) (t : FVec F S3072x128 .f32) (ew : Vec F S192x192 .f32) (eb : Vec F S192x128 .f32) :
    k0_pay137 x t (k0_pay130 ew) (k0_pay131 eb)
      = outV ew eb x t 4 := rfl

theorem out_5 (x : FVec F S192x128 .f32) (t : FVec F S3072x128 .f32) (ew : Vec F S192x192 .f32) (eb : Vec F S192x128 .f32) :
    k0_pay138 x t (k0_pay130 ew) (k0_pay131 eb)
      = outV ew eb x t 5 := rfl

theorem out_6 (x : FVec F S192x128 .f32) (t : FVec F S3072x128 .f32) (ew : Vec F S192x192 .f32) (eb : Vec F S192x128 .f32) :
    k0_pay139 x t (k0_pay130 ew) (k0_pay131 eb)
      = outV ew eb x t 6 := rfl

theorem out_7 (x : FVec F S192x128 .f32) (t : FVec F S3072x128 .f32) (ew : Vec F S192x192 .f32) (eb : Vec F S192x128 .f32) :
    k0_pay140 x t (k0_pay130 ew) (k0_pay131 eb)
      = outV ew eb x t 7 := rfl

theorem out_8 (x : FVec F S192x128 .f32) (t : FVec F S3072x128 .f32) (ew : Vec F S192x192 .f32) (eb : Vec F S192x128 .f32) :
    k0_pay141 x t (k0_pay130 ew) (k0_pay131 eb)
      = outV ew eb x t 8 := rfl

theorem out_9 (x : FVec F S192x128 .f32) (t : FVec F S3072x128 .f32) (ew : Vec F S192x192 .f32) (eb : Vec F S192x128 .f32) :
    k0_pay142 x t (k0_pay130 ew) (k0_pay131 eb)
      = outV ew eb x t 9 := rfl

theorem out_10 (x : FVec F S192x128 .f32) (t : FVec F S3072x128 .f32) (ew : Vec F S192x192 .f32) (eb : Vec F S192x128 .f32) :
    k0_pay143 x t (k0_pay130 ew) (k0_pay131 eb)
      = outV ew eb x t 10 := rfl

theorem out_11 (x : FVec F S192x128 .f32) (t : FVec F S3072x128 .f32) (ew : Vec F S192x192 .f32) (eb : Vec F S192x128 .f32) :
    k0_pay144 x t (k0_pay130 ew) (k0_pay131 eb)
      = outV ew eb x t 11 := rfl

theorem out_12 (x : FVec F S192x128 .f32) (t : FVec F S3072x128 .f32) (ew : Vec F S192x192 .f32) (eb : Vec F S192x128 .f32) :
    k0_pay145 x t (k0_pay130 ew) (k0_pay131 eb)
      = outV ew eb x t 12 := rfl

theorem out_13 (x : FVec F S192x128 .f32) (t : FVec F S3072x128 .f32) (ew : Vec F S192x192 .f32) (eb : Vec F S192x128 .f32) :
    k0_pay146 x t (k0_pay130 ew) (k0_pay131 eb)
      = outV ew eb x t 13 := rfl

theorem out_14 (x : FVec F S192x128 .f32) (t : FVec F S3072x128 .f32) (ew : Vec F S192x192 .f32) (eb : Vec F S192x128 .f32) :
    k0_pay1 t (k0_pay147 x (k0_pay130 ew) (k0_pay131 eb))
      = outV ew eb x t 14 := rfl

theorem out_15 (x : FVec F S192x128 .f32) (t : FVec F S3072x128 .f32) (ew : Vec F S192x192 .f32) (eb : Vec F S192x128 .f32) :
    k0_pay2 x t (k0_pay130 ew) (k0_pay131 eb)
      = outV ew eb x t 15 := rfl

theorem block (v0 : Vec F S1x192x16x128 .f32) (t : FVec F S3072x128 .f32) (ew : Vec F S192x192 .f32) (eb : Vec F S192x128 .f32) :
    k0_pay3 (outV ew eb (seriesV v0 0) t 0) (outV ew eb (seriesV v0 1) t 1) (outV ew eb (seriesV v0 2) t 2) (outV ew eb (seriesV v0 3) t 3) (outV ew eb (seriesV v0 4) t 4) (outV ew eb (seriesV v0 5) t 5) (outV ew eb (seriesV v0 6) t 6) (outV ew eb (seriesV v0 7) t 7) (outV ew eb (seriesV v0 8) t 8) (outV ew eb (seriesV v0 9) t 9) (outV ew eb (seriesV v0 10) t 10) (outV ew eb (seriesV v0 11) t 11) (outV ew eb (seriesV v0 12) t 12) (outV ew eb (seriesV v0 13) t 13) (outV ew eb (seriesV v0 14) t 14) (outV ew eb (seriesV v0 15) t 15)
      = blockV (seriesV v0) t ew eb := rfl

theorem same_80 (v : Vec F S1x1x1 .f32) :
    k0_pay80 v
      = k0_pay21 v := rfl

theorem same_81 (v : Vec F S1x96x192 .f32) :
    k0_pay81 v
      = k0_pay22 v := rfl

theorem same_82 (v : Vec F S1x192x128 .f32) :
    k0_pay82 v
      = k0_pay23 v := rfl

theorem same_83 (v : Vec F S1x1x128 .f32) :
    k0_pay83 v
      = k0_pay24 v := rfl

theorem same_84 (v : Vec F S1x128x128 .f32) :
    k0_pay84 v
      = k0_pay25 v := rfl

theorem same_85 (v : Vec F S1x128x128 .f32) :
    k0_pay85 v
      = k0_pay26 v := rfl

theorem same_86 (v : Vec F S1x128x128 .f32) :
    k0_pay86 v
      = k0_pay27 v := rfl

theorem same_87 (v : Vec F S1x128x128 .f32) :
    k0_pay87 v
      = k0_pay28 v := rfl

theorem same_62  :
    k0_pay62 (F := F)
      = k0_pay42 := rfl

theorem same_101  :
    k0_pay101 (F := F)
      = k0_pay42 := rfl

theorem same_122  :
    k0_pay122 (F := F)
      = k0_pay42 := rfl

end Cert.Moe.Eq

end
-- ==== Proof.KernelOut.lean ====
/-
  What the run leaves in the output's buffer is the block of `Proof/Block.lean` over the input blocks.
-/
module

public import proofs.«01_k».proof.Proof.KernelIdealFrame
public import proofs.«01_k».proof.Proof.BlockEq
import Idealize.ShloMosaic.Lib.Pipeline.ValueKit

@[expose] public section

set_option maxHeartbeats 8000000
set_option maxRecDepth 100000

noncomputable section

namespace Cert.Moe

open Idealize.ShloMosaic Idealize.ShloMosaic.TcCoe Cert.KernelIdeal Cert.KernelIdeal.Gen Cert.Moe.Eq

variable {F : FTy → Type} [FloatOps F] [Named F]

theorem w26 (v : Vec F S1x128x128 .f32) : k0_pay26 v = k0_pay25 v := rfl
theorem w27 (v : Vec F S1x128x128 .f32) : k0_pay27 v = k0_pay25 v := rfl
theorem w28 (v : Vec F S1x128x128 .f32) : k0_pay28 v = k0_pay25 v := rfl

/-- The output's buffer after the body: the two experts that the batch chose, and the end projection. -/
theorem out_block (c : Dev nD) (i : grid0.Coords) (arg2 : Memref sig .tc .vmem S1x192x16x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x128x256 .f32) (harg8 : arg8.IsWhole) (arg9 : Memref sig .tc .vmem S1x1x256 .f32) (harg9 : arg9.IsWhole) (arg10 : Memref sig .tc .vmem S1x256x128 .f32) (harg10 : arg10.IsWhole) (arg11 : Memref sig .tc .vmem S1x1x128 .f32) (harg11 : arg11.IsWhole) (arg12 : Memref sig .tc .vmem S1x96x192 .f32) (harg12 : arg12.IsWhole) (arg13 : Memref sig .tc .vmem S1x192x128 .f32) (harg13 : arg13.IsWhole) (arg14 : Memref sig .tc .vmem S1x1x128 .f32) (harg14 : arg14.IsWhole) (arg15 : Memref sig .tc .vmem S1x128x128 .f32) (harg15 : arg15.IsWhole) (arg16 : Memref sig .tc .vmem S1x128x128 .f32) (harg16 : arg16.IsWhole) (arg17 : Memref sig .tc .vmem S1x128x128 .f32) (harg17 : arg17.IsWhole) (arg18 : Memref sig .tc .vmem S1x128x128 .f32) (harg18 : arg18.IsWhole) (arg19 : Memref sig .tc .vmem S1x128x256 .f32) (harg19 : arg19.IsWhole) (arg20 : Memref sig .tc .vmem S1x1x256 .f32) (harg20 : arg20.IsWhole) (arg21 : Memref sig .tc .vmem S1x256x128 .f32) (harg21 : arg21.IsWhole) (arg22 : Memref sig .tc .vmem S1x1x128 .f32) (harg22 : arg22.IsWhole) (arg23 : Memref sig .tc .vmem S1x96x192 .f32) (harg23 : arg23.IsWhole) (arg24 : Memref sig .tc .vmem S1x192x128 .f32) (harg24 : arg24.IsWhole) (arg25 : Memref sig .tc .vmem S1x1x128 .f32) (harg25 : arg25.IsWhole) (arg26 : Memref sig .tc .vmem S192x192 .f32) (harg26 : arg26.IsWhole) (arg27 : Memref sig .tc .vmem S192x128 .f32) (harg27 : arg27.IsWhole) (arg28 : Memref sig .tc .vmem S1x192x16x128 .f32) (harg28 : arg28.IsWhole)
    (x0 : Vec F S1x192x16x128 .f32) (x1 : Vec F S1x1x128 .f32) (x2 : Vec F S1x128x128 .f32) (x3 : Vec F S1x128x128 .f32) (x4 : Vec F S1x128x128 .f32) (x5 : Vec F S1x128x128 .f32) (x6 : Vec F S1x128x256 .f32) (x7 : Vec F S1x1x256 .f32) (x8 : Vec F S1x256x128 .f32) (x9 : Vec F S1x1x128 .f32) (x10 : Vec F S1x96x192 .f32) (x11 : Vec F S1x192x128 .f32) (x12 : Vec F S1x1x128 .f32) (x13 : Vec F S1x128x128 .f32) (x14 : Vec F S1x128x128 .f32) (x15 : Vec F S1x128x128 .f32) (x16 : Vec F S1x128x128 .f32) (x17 : Vec F S1x128x256 .f32) (x18 : Vec F S1x1x256 .f32) (x19 : Vec F S1x256x128 .f32) (x20 : Vec F S1x1x128 .f32) (x21 : Vec F S1x96x192 .f32) (x22 : Vec F S1x192x128 .f32) (x23 : Vec F S1x1x128 .f32) (x24 : Vec F S192x192 .f32) (x25 : Vec F S192x128 .f32) (xt0 : TbBuf0 (F := F) c tbM0_0)  :
    out0_A_26 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25 xt0
      = blockV (seriesV x0) (addf
          (expertV (seriesV x0) (k0_pay21 (View.ld x1 (Rect.unit ![0, 0, 0] ![1, 1, 1] inb_S1x1x128_S1x1x1_0_0_0))) x2 x3 x4 x5 x6 x7 x8 x9 x10 x11 x12)
          (expertV (seriesV x0) (k0_pay21 (View.ld x1 (Rect.unit ![0, 0, 1] ![1, 1, 1] inb_S1x1x128_S1x1x1_0_0_1))) x13 x14 x15 x16 x17 x18 x19 x20 x21 x22 x23)) x24 x25 := by
  frame_out
  simp only [series_0, series_1, series_2, series_3, series_4, series_5, series_6, series_7, series_8, series_9, series_10, series_11, series_12, series_13, series_14, series_15, q_a, k_a, v_a, q_b, k_b, v_b, score_a, score_b, o_a, o_b, step_a0, step_a1, step_a2, step_a3, step_b0, step_b1, step_b2, step_b3, step_a4, step_a5, step_a6, step_a7, step_a8, step_a9, step_a10, step_a11, step_a12, step_a13, step_a14, step_a15, ffn_a, rep_b, total, out_0, out_1, out_2, out_3, out_4, out_5, out_6, out_7, out_8, out_9, out_10, out_11, out_12, out_13, out_14, out_15, block, same_80, same_81, same_82, same_83, same_84, same_85, same_86, same_87, same_62, same_101, same_122]
  simp only [w26, w27, w28]
  rfl

end Cert.Moe

end
-- ==== Proof.Spec.lean ====
/-
  The mathematics of one patch-attention expert on one series (192 time steps, 128 channels), twice: as the reference
  states it, over the expert's own number of patches, and in the padded form, with the averaging and repeating tables and
  96 patch rows under 128 lanes whatever the expert. `Proof/SpecEq.lean` proves the two equal.
-/
module

public import Idealize.ShloMosaic.PureOps.Ideal
public import Idealize.ShloMosaic.PureOps.Ideal.Laws

@[expose] public section

noncomputable section

namespace Cert.Moe

open Idealize.ShloMosaic

/-- A matrix of extended reals. -/
abbrev Mat (a b : ℕ) : Type := Fin a → Fin b → EReal

/-- The weights of one expert. -/
structure Weights where
  wq : Mat 128 128
  wk : Mat 128 128
  wv : Mat 128 128
  wo : Mat 128 128
  w1 : Mat 128 256
  b1 : Fin 256 → EReal
  w2 : Mat 256 128
  b2 : Fin 128 → EReal

/-- The matrix product. -/
def proj {a b c : ℕ} (Y : Mat a b) (W : Mat b c) : Mat a c := fun i d => ∑ k, Y i k * W k d

/-- The maximum of a row. -/
def rowMax {n : ℕ} (s : Fin n → EReal) : EReal := Finset.univ.fold max ⊥ s

/-- The weights of a softmax over a row, its maximum subtracted first. -/
def softmaxW {n : ℕ} (s : Fin n → EReal) : Fin n → EReal := fun j =>
  Ideal.div (Ideal.exp (s j - rowMax s)) (∑ k, Ideal.exp (s k - rowMax s))

/-- The two-layer perceptron with its residual. -/
def ffn {n : ℕ} (w : Weights) (H : Mat n 128) : Mat n 128 := fun l d =>
  H l d + ((∑ f, max (proj H w.w1 l f + w.b1 f) 0 * w.w2 f d) + w.b2 d)

/-- The mean over each of the `P` patches of `p` consecutive time steps. -/
def pooled (p P : ℕ) (h : P * p = 192) (X : Mat 192 128) : Mat P 128 := fun i d =>
  Ideal.div (∑ j : Fin p, X ⟨i.val * p + j.val, by
    have h1 := i.isLt
    have h2 := j.isLt
    calc i.val * p + j.val < i.val * p + p := by omega
      _ = (i.val + 1) * p := by ring
      _ ≤ P * p := Nat.mul_le_mul_right p h1
      _ = 192 := h⟩ d) ((p : ℝ) : EReal)

/-- The attention scores: the products of queries and keys over the root of the width. -/
def scores {P : ℕ} (q k : Mat P 128) : Mat P P := fun i j =>
  Ideal.div (∑ d, q i d * k j d) ((Real.sqrt 128 : ℝ) : EReal)

/-- One expert: patch means, attention among the patches, the result repeated over each patch's time steps and added to the
input, then the perceptron. -/
def expert (p P : ℕ) (h : P * p = 192) (hp : 0 < p) (w : Weights) (X : Mat 192 128) : Mat 192 128 :=
  let Y := pooled p P h X
  let s := scores (proj Y w.wq) (proj Y w.wk)
  let a : Mat P 128 := fun i d => ∑ j, softmaxW (s i) j * proj Y w.wv j d
  let o := proj a w.wo
  ffn w fun l d => X l d + o ⟨l.val / p, by
    have := l.isLt
    rw [Nat.div_lt_iff_lt_mul hp]; omega⟩ d

/-- 96 rows under 32 rows of zeros. -/
def padRows (v : Mat 96 128) : Mat 128 128 := fun j d => if h : j.val < 96 then v ⟨j.val, h⟩ d else 0

/-- One expert in the padded form: `A` averages, `R` repeats, `km` masks the lanes beyond the expert's patches, `c` scales the
scores. -/
def padExpert (A : Mat 96 192) (R : Mat 192 128) (km : Fin 128 → EReal) (c : EReal) (w : Weights) (X : Mat 192 128) :
    Mat 192 128 :=
  let Y := proj A X
  let s : Mat 96 128 := fun i j => (∑ d, proj Y w.wq i d * padRows (proj Y w.wk) j d) * c + km j
  let a : Mat 96 128 := proj (fun i => softmaxW (s i)) (padRows (proj Y w.wv))
  let o := proj a w.wo
  ffn w fun l d => X l d + proj R (padRows o) l d

/-- The two chosen experts' gated outputs in a sum over all experts, the others' gates zero. -/
def gateSum (F g : Fin 4 → EReal) : EReal := F 0 * g 0 + F 1 * g 1 + F 2 * g 2 + F 3 * g 3

end Cert.Moe

end
-- ==== Proof.BlockRead.lean ====
/-
  The stored block read at an index, over the extended reals: the end projection with its bias, and the two experts in their
  padded form times their gates.
-/
module

public import proofs.«01_k».proof.Proof.Block
public import proofs.«01_k».proof.Proof.Spec
public import Idealize.ShloMosaic.Lib.Pointwise
public import Idealize.ShloMosaic.Lib.Pipeline.Value

@[expose] public section

noncomputable section

namespace Cert.Moe

open Idealize.ShloMosaic Idealize.ShloMosaic.Pointwise Cert.KernelIdeal Cert.KernelIdeal.Gen

/-- Row `i` of series `n` among the 96-row pieces. -/
abbrev rp (n : Fin 16) (i : Fin 96) : Fin 1536 := ⟨96 * n.val + i.val, by omega⟩
/-- Step `l` of series `n` among the 192-row pieces. -/
abbrev rs (n : Fin 16) (l : Fin 192) : Fin 3072 := ⟨192 * n.val + l.val, by omega⟩

/-- The word of `-∞` reads as `-∞`. -/
theorem ofBits_neg_inf : Ideal.ofBits .f32 0xFF800000#32 = ⊥ := by
  simp [Ideal.ofBits, Ideal.ieee]
/-- The named mask reads as `-∞`. -/
theorem mask_val : (Named.named (F := Ideal) κ "mask" (φ := .f32) 0xF149F2CA#32 : EReal) = ⊥ := rfl
/-- The named scale reads as the inverse root of the width. -/
theorem scale_val : (Named.named (F := Ideal) κ "scale" (φ := .f32) 0x3DB504F3#32 : EReal) = (((Real.sqrt 128)⁻¹ : ℝ) : EReal) := rfl

/-- A series at a step and a channel. -/
theorem series_at (x : Vec Ideal S1x192x16x128 .f32) (n : Fin 16) (l : Fin 192) (d : Fin 128) :
    seriesV (F := Ideal) x n (ix2 l d) = x (ix4 (0 : Fin 1) l n d) := by
  unfold seriesV k0_pay4
  pointwise

/-- The stack of 96-row pieces at a row. -/
theorem stack96_at (f : Fin 16 → FVec Ideal S96x128 .f32) (n : Fin 16) (i : Fin 96) (d : Fin 128) :
    stack96 f (ix2 (rp n i) d) = f n (ix2 i d) := by
  unfold stack96
  refine concatenate_ofFn_apply (t := S1536x128) (s₁ := S96x128) 0 f _ rfl 96 rfl _ n ?_ _ ?_ ?_
  · show (96 * n.val + i.val) / 96 = n.val; omega
  · show i.val = (96 * n.val + i.val) % 96; omega
  · intro b hb
    fin_cases b
    · exact absurd rfl hb
    · rfl

/-- The stack of 192-row pieces at a row. -/
theorem stack192_at (f : Fin 16 → FVec Ideal S192x128 .f32) (n : Fin 16) (i : Fin 192) (d : Fin 128) :
    stack192 f (ix2 (rs n i) d) = f n (ix2 i d) := by
  unfold stack192
  refine concatenate_ofFn_apply (t := S3072x128) (s₁ := S192x128) 0 f _ rfl 192 rfl _ n ?_ _ ?_ ?_
  · show (192 * n.val + i.val) / 192 = n.val; omega
  · show i.val = (192 * n.val + i.val) % 192; omega
  · intro b hb
    fin_cases b
    · exact absurd rfl hb
    · rfl

/-- The patch rows: the averaging table times the series. -/
theorem pool_at (A : FVec Ideal S96x192 .bf16) (x : Fin 16 → FVec Ideal S192x128 .f32) (n : Fin 16) (i : Fin 96) (d : Fin 128) :
    poolV A x (ix2 (rp n i) d) = ∑ l : Fin 192, A (ix2 i l) * x n (ix2 l d) := by
  unfold poolV
  rw [show ∀ v : FVec Ideal S1536x128 .f32, truncf .bf16 v bitsLt_bf16_f32 (ix2 (rp n i) d) = v (ix2 (rp n i) d) from fun v => rfl, stack96_at]
  pointwise

/-- A projection at a row. -/
theorem proj_at (y : FVec Ideal S1536x128 .bf16) (w : FVec Ideal S128x128 .bf16) (r : Fin 1536) (d : Fin 128) :
    projV y w (ix2 r d) = ∑ k : Fin 128, y (ix2 r k) * w (ix2 k d) := by
  unfold projV
  pointwise

/-- A series' 96 rows. -/
theorem rows_at (v : FVec Ideal S1536x128 .bf16) (n : Fin 16) (i : Fin 96) (d : Fin 128) :
    rowsV v n (ix2 i d) = v (ix2 (rp n i) d) := by
  unfold rowsV
  pointwise

/-- A series' 96 rows over zeros. -/
theorem pad_at (v : FVec Ideal S1536x128 .bf16) (n : Fin 16) (j d : Fin 128) :
    padV v n (ix2 j d) = padRows (fun i d => v (ix2 (rp n i) d)) j d := by
  unfold padV padRows k0_pay42
  pointwise
  simp only [rows_at]

/-- The scaled scores. -/
theorem score_at (q k : FVec Ideal S1536x128 .bf16) (n : Fin 16) (i : Fin 96) (j : Fin 128) :
    scoreV q k (ix2 (rp n i) j) = (∑ d : Fin 128, q (ix2 (rp n i) d) * padRows (fun i d => k (ix2 (rp n i) d)) j d) * (((Real.sqrt 128)⁻¹ : ℝ) : EReal) := by
  unfold scoreV
  rw [show ∀ a b : FVec Ideal S1536x128 .f32, mulf a b (ix2 (rp n i) j) = a (ix2 (rp n i) j) * b (ix2 (rp n i) j) from fun a b => rfl, stack96_at]
  pointwise
  simp only [rows_at, pad_at]
  rfl

/-- The attention's rows. -/
theorem attn_at (p v : FVec Ideal S1536x128 .bf16) (n : Fin 16) (i : Fin 96) (d : Fin 128) :
    attnV p v (ix2 (rp n i) d) = ∑ j : Fin 128, p (ix2 (rp n i) j) * padRows (fun i d => v (ix2 (rp n i) d)) j d := by
  unfold attnV
  rw [show ∀ v : FVec Ideal S1536x128 .f32, truncf .bf16 v bitsLt_bf16_f32 (ix2 (rp n i) d) = v (ix2 (rp n i) d) from fun v => rfl, stack96_at]
  pointwise
  simp only [rows_at, pad_at]

/-- A step of a series with the repeated rows added. -/
theorem step_at (R : FVec Ideal S192x128 .bf16) (xn : FVec Ideal S192x128 .f32) (o : FVec Ideal S1536x128 .bf16) (n : Fin 16) (l : Fin 192) (d : Fin 128) :
    stepV R xn o n (ix2 l d) = xn (ix2 l d) + ∑ j : Fin 128, R (ix2 l j) * padRows (fun i d => o (ix2 (rp n i) d)) j d := by
  unfold stepV
  pointwise
  simp only [pad_at]

/-- The softmax of a row. -/
theorem softmax_at (s m : FVec Ideal S1536x128 .f32) (r : Fin 1536) (j : Fin 128) :
    k0_pay50 (F := Ideal) s m (ix2 r j) = softmaxW (fun j => s (ix2 r j) + m (ix2 r j)) j := by
  unfold k0_pay50 softmaxW rowMax
  pointwise
  rw [ofBits_neg_inf]

/-- The mask: `-∞` where the table is negative. -/
theorem mask_at (km : Vec Ideal S1x1x128 .f32) (r : Fin 1536) (j : Fin 128) :
    k0_pay49 (F := Ideal) (k0_pay24 (F := Ideal) km) (ix2 r j) = if km (ix3 (0 : Fin 1) (0 : Fin 1) j) < 0 then (⊥ : EReal) else 0 := by
  unfold k0_pay49 k0_pay24
  pointwise
  rw [mask_val]

/-- The perceptron at a row, times the gate. -/
theorem ffn_at (h : FVec Ideal S3072x128 .f32) (w1 : Vec Ideal S1x128x256 .f32) (b1 : Vec Ideal S1x1x256 .f32) (w2 : Vec Ideal S1x256x128 .f32)
    (b2 : Vec Ideal S1x1x128 .f32) (g : Ideal .f32) (r : Fin 3072) (d : Fin 128) :
    ffnV h w1 b1 w2 b2 g (ix2 r d) = (h (ix2 r d) + ((∑ f : Fin 256, max ((∑ k : Fin 128, h (ix2 r k) * w1 (ix3 (0 : Fin 1) k f)) + b1 (ix3 (0 : Fin 1) (0 : Fin 1) f)) 0
      * w2 (ix3 (0 : Fin 1) f d)) + b2 (ix3 (0 : Fin 1) (0 : Fin 1) d))) * g := by
  unfold ffnV
  pointwise

/-- The weights of one expert as the kernel's blocks hold them. -/
def weightsV (wq wk wv wo : Vec Ideal S1x128x128 .f32) (w1 : Vec Ideal S1x128x256 .f32)
    (b1 : Vec Ideal S1x1x256 .f32) (w2 : Vec Ideal S1x256x128 .f32) (b2 : Vec Ideal S1x1x128 .f32) : Weights where
  wq := fun k d => wq (ix3 (0 : Fin 1) k d)
  wk := fun k d => wk (ix3 (0 : Fin 1) k d)
  wv := fun k d => wv (ix3 (0 : Fin 1) k d)
  wo := fun k d => wo (ix3 (0 : Fin 1) k d)
  w1 := fun k f => w1 (ix3 (0 : Fin 1) k f)
  b1 := fun f => b1 (ix3 (0 : Fin 1) (0 : Fin 1) f)
  w2 := fun f d => w2 (ix3 (0 : Fin 1) f d)
  b2 := fun d => b2 (ix3 (0 : Fin 1) (0 : Fin 1) d)

theorem weight_at (w : Vec Ideal S1x128x128 .f32) (k d : Fin 128) : k0_pay25 (F := Ideal) w (ix2 k d) = w (ix3 (0 : Fin 1) k d) := by
  unfold k0_pay25
  pointwise
theorem avg_at (A : Vec Ideal S1x96x192 .f32) (i : Fin 96) (l : Fin 192) : k0_pay22 (F := Ideal) A (ix2 i l) = A (ix3 (0 : Fin 1) i l) := by
  unfold k0_pay22
  pointwise
theorem rep_at (R : Vec Ideal S1x192x128 .f32) (l : Fin 192) (j : Fin 128) : k0_pay23 (F := Ideal) R (ix2 l j) = R (ix3 (0 : Fin 1) l j) := by
  unfold k0_pay23
  pointwise

/-- One expert's stage at a step of a series is the padded form of the expert, times its gate. -/
theorem expert_at (x : Fin 16 → FVec Ideal S192x128 .f32) (g : Ideal .f32) (wq wk wv wo : Vec Ideal S1x128x128 .f32) (w1 : Vec Ideal S1x128x256 .f32)
    (b1 : Vec Ideal S1x1x256 .f32) (w2 : Vec Ideal S1x256x128 .f32) (b2 : Vec Ideal S1x1x128 .f32) (A : Vec Ideal S1x96x192 .f32)
    (R : Vec Ideal S1x192x128 .f32) (km : Vec Ideal S1x1x128 .f32) (n : Fin 16) (l : Fin 192) (d : Fin 128) :
    expertV x g wq wk wv wo w1 b1 w2 b2 A R km (ix2 (rs n l) d) =
      padExpert (fun i l => A (ix3 (0 : Fin 1) i l)) (fun l j => R (ix3 (0 : Fin 1) l j))
        (fun j => if km (ix3 (0 : Fin 1) (0 : Fin 1) j) < 0 then (⊥ : EReal) else 0) (((Real.sqrt 128)⁻¹ : ℝ) : EReal)
        (weightsV wq wk wv wo w1 b1 w2 b2) (fun l d => x n (ix2 l d)) l d * g := by
  unfold expertV
  rw [ffn_at]
  unfold addRepV
  simp only [stack192_at, step_at, proj_at, attn_at, softmax_at, score_at, mask_at, pool_at, weight_at, avg_at, rep_at]
  rfl

/-- The stored block at an index. -/
theorem block_at (x : Fin 16 → FVec Ideal S192x128 .f32) (tot : FVec Ideal S3072x128 .f32) (ew : Vec Ideal S192x192 .f32) (eb : Vec Ideal S192x128 .f32)
    (l : Fin 192) (n : Fin 16) (d : Fin 128) :
    blockV x tot ew eb (ix4 (0 : Fin 1) l n d) = (∑ k : Fin 192, ew (ix2 l k) * x n (ix2 k d)) + eb (ix2 l d) + tot (ix2 (rs n l) d) := by
  have hc : ∀ f : Fin 16 → FVec Ideal S192x128 .f32, ∀ h, concatenate S16x192x128 0
      (List.ofFn fun n : Fin 16 => (⟨S1x192x128, shapeCast S1x192x128 (f n) shapeCasts_S192x128_S1x192x128⟩ : (s : Shape) × (s.Idx → Ideal .f32))) h
      (ix3 n l d) = f n (ix2 l d) := by
    intro f h
    refine (concatenate_ofFn_apply (t := S16x192x128) (s₁ := S1x192x128) 0 (fun n => shapeCast S1x192x128 (f n) shapeCasts_S192x128_S1x192x128) _ rfl 1 rfl _ n ?_ (ix3 (0 : Fin 1) l d) ?_ ?_).trans ?_
    · show n.val / 1 = n.val; omega
    · show 0 = n.val % 1; omega
    · intro b hb
      fin_cases b
      · exact absurd rfl hb
      · rfl
      · rfl
    · pointwise
  have ho : outV ew eb (x n) tot n (ix2 l d) = (∑ k : Fin 192, ew (ix2 l k) * x n (ix2 k d)) + eb (ix2 l d) + tot (ix2 (rs n l) d) := by
    unfold outV k0_pay130 k0_pay131
    pointwise
  rw [← ho]
  unfold blockV
  pointwise

end Cert.Moe

end
-- ==== Proof.RowUnit0.lean ====
/- The rows of the repetition table that are distinct (0 to 23): row `q` holds a one at column `q` and zeros elsewhere. -/
module

public import proofs.«01_k».proof.KernelIdeal

@[expose] public section

set_option maxRecDepth 100000

namespace Cert.Moe

open Cert.KernelIdeal

theorem unit_0 : ∀ j : Fin 128, lit1t0_576 j.val = if j.val = 0 then 0x3F800000#32 else 0#32 := by decide +kernel
theorem unit_1 : ∀ j : Fin 128, lit1t0_578 j.val = if j.val = 1 then 0x3F800000#32 else 0#32 := by decide +kernel
theorem unit_2 : ∀ j : Fin 128, lit1t0_580 j.val = if j.val = 2 then 0x3F800000#32 else 0#32 := by decide +kernel
theorem unit_3 : ∀ j : Fin 128, lit1t0_582 j.val = if j.val = 3 then 0x3F800000#32 else 0#32 := by decide +kernel
theorem unit_4 : ∀ j : Fin 128, lit1t0_584 j.val = if j.val = 4 then 0x3F800000#32 else 0#32 := by decide +kernel
theorem unit_5 : ∀ j : Fin 128, lit1t0_586 j.val = if j.val = 5 then 0x3F800000#32 else 0#32 := by decide +kernel
theorem unit_6 : ∀ j : Fin 128, lit1t0_588 j.val = if j.val = 6 then 0x3F800000#32 else 0#32 := by decide +kernel
theorem unit_7 : ∀ j : Fin 128, lit1t0_590 j.val = if j.val = 7 then 0x3F800000#32 else 0#32 := by decide +kernel
theorem unit_8 : ∀ j : Fin 128, lit1t0_592 j.val = if j.val = 8 then 0x3F800000#32 else 0#32 := by decide +kernel
theorem unit_9 : ∀ j : Fin 128, lit1t0_594 j.val = if j.val = 9 then 0x3F800000#32 else 0#32 := by decide +kernel
theorem unit_10 : ∀ j : Fin 128, lit1t0_596 j.val = if j.val = 10 then 0x3F800000#32 else 0#32 := by decide +kernel
theorem unit_11 : ∀ j : Fin 128, lit1t0_598 j.val = if j.val = 11 then 0x3F800000#32 else 0#32 := by decide +kernel
theorem unit_12 : ∀ j : Fin 128, lit1t0_600 j.val = if j.val = 12 then 0x3F800000#32 else 0#32 := by decide +kernel
theorem unit_13 : ∀ j : Fin 128, lit1t0_602 j.val = if j.val = 13 then 0x3F800000#32 else 0#32 := by decide +kernel
theorem unit_14 : ∀ j : Fin 128, lit1t0_604 j.val = if j.val = 14 then 0x3F800000#32 else 0#32 := by decide +kernel
theorem unit_15 : ∀ j : Fin 128, lit1t0_606 j.val = if j.val = 15 then 0x3F800000#32 else 0#32 := by decide +kernel
theorem unit_16 : ∀ j : Fin 128, lit1t0_608 j.val = if j.val = 16 then 0x3F800000#32 else 0#32 := by decide +kernel
theorem unit_17 : ∀ j : Fin 128, lit1t0_610 j.val = if j.val = 17 then 0x3F800000#32 else 0#32 := by decide +kernel
theorem unit_18 : ∀ j : Fin 128, lit1t0_612 j.val = if j.val = 18 then 0x3F800000#32 else 0#32 := by decide +kernel
theorem unit_19 : ∀ j : Fin 128, lit1t0_614 j.val = if j.val = 19 then 0x3F800000#32 else 0#32 := by decide +kernel
theorem unit_20 : ∀ j : Fin 128, lit1t0_616 j.val = if j.val = 20 then 0x3F800000#32 else 0#32 := by decide +kernel
theorem unit_21 : ∀ j : Fin 128, lit1t0_618 j.val = if j.val = 21 then 0x3F800000#32 else 0#32 := by decide +kernel
theorem unit_22 : ∀ j : Fin 128, lit1t0_620 j.val = if j.val = 22 then 0x3F800000#32 else 0#32 := by decide +kernel
theorem unit_23 : ∀ j : Fin 128, lit1t0_622 j.val = if j.val = 23 then 0x3F800000#32 else 0#32 := by decide +kernel

end Cert.Moe

end
-- ==== Proof.RowUnit1.lean ====
/- The rows of the repetition table that are distinct (24 to 47): row `q` holds a one at column `q` and zeros elsewhere. -/
module

public import proofs.«01_k».proof.KernelIdeal

@[expose] public section

set_option maxRecDepth 100000

namespace Cert.Moe

open Cert.KernelIdeal

theorem unit_24 : ∀ j : Fin 128, lit1t0_624 j.val = if j.val = 24 then 0x3F800000#32 else 0#32 := by decide +kernel
theorem unit_25 : ∀ j : Fin 128, lit1t0_626 j.val = if j.val = 25 then 0x3F800000#32 else 0#32 := by decide +kernel
theorem unit_26 : ∀ j : Fin 128, lit1t0_628 j.val = if j.val = 26 then 0x3F800000#32 else 0#32 := by decide +kernel
theorem unit_27 : ∀ j : Fin 128, lit1t0_630 j.val = if j.val = 27 then 0x3F800000#32 else 0#32 := by decide +kernel
theorem unit_28 : ∀ j : Fin 128, lit1t0_632 j.val = if j.val = 28 then 0x3F800000#32 else 0#32 := by decide +kernel
theorem unit_29 : ∀ j : Fin 128, lit1t0_634 j.val = if j.val = 29 then 0x3F800000#32 else 0#32 := by decide +kernel
theorem unit_30 : ∀ j : Fin 128, lit1t0_636 j.val = if j.val = 30 then 0x3F800000#32 else 0#32 := by decide +kernel
theorem unit_31 : ∀ j : Fin 128, lit1t0_638 j.val = if j.val = 31 then 0x3F800000#32 else 0#32 := by decide +kernel
theorem unit_32 : ∀ j : Fin 128, lit1t0_640 j.val = if j.val = 32 then 0x3F800000#32 else 0#32 := by decide +kernel
theorem unit_33 : ∀ j : Fin 128, lit1t0_642 j.val = if j.val = 33 then 0x3F800000#32 else 0#32 := by decide +kernel
theorem unit_34 : ∀ j : Fin 128, lit1t0_644 j.val = if j.val = 34 then 0x3F800000#32 else 0#32 := by decide +kernel
theorem unit_35 : ∀ j : Fin 128, lit1t0_646 j.val = if j.val = 35 then 0x3F800000#32 else 0#32 := by decide +kernel
theorem unit_36 : ∀ j : Fin 128, lit1t0_648 j.val = if j.val = 36 then 0x3F800000#32 else 0#32 := by decide +kernel
theorem unit_37 : ∀ j : Fin 128, lit1t0_650 j.val = if j.val = 37 then 0x3F800000#32 else 0#32 := by decide +kernel
theorem unit_38 : ∀ j : Fin 128, lit1t0_652 j.val = if j.val = 38 then 0x3F800000#32 else 0#32 := by decide +kernel
theorem unit_39 : ∀ j : Fin 128, lit1t0_654 j.val = if j.val = 39 then 0x3F800000#32 else 0#32 := by decide +kernel
theorem unit_40 : ∀ j : Fin 128, lit1t0_656 j.val = if j.val = 40 then 0x3F800000#32 else 0#32 := by decide +kernel
theorem unit_41 : ∀ j : Fin 128, lit1t0_658 j.val = if j.val = 41 then 0x3F800000#32 else 0#32 := by decide +kernel
theorem unit_42 : ∀ j : Fin 128, lit1t0_660 j.val = if j.val = 42 then 0x3F800000#32 else 0#32 := by decide +kernel
theorem unit_43 : ∀ j : Fin 128, lit1t0_662 j.val = if j.val = 43 then 0x3F800000#32 else 0#32 := by decide +kernel
theorem unit_44 : ∀ j : Fin 128, lit1t0_664 j.val = if j.val = 44 then 0x3F800000#32 else 0#32 := by decide +kernel
theorem unit_45 : ∀ j : Fin 128, lit1t0_666 j.val = if j.val = 45 then 0x3F800000#32 else 0#32 := by decide +kernel
theorem unit_46 : ∀ j : Fin 128, lit1t0_668 j.val = if j.val = 46 then 0x3F800000#32 else 0#32 := by decide +kernel
theorem unit_47 : ∀ j : Fin 128, lit1t0_670 j.val = if j.val = 47 then 0x3F800000#32 else 0#32 := by decide +kernel

end Cert.Moe

end
-- ==== Proof.RowUnit2.lean ====
/- The rows of the repetition table that are distinct (48 to 71): row `q` holds a one at column `q` and zeros elsewhere. -/
module

public import proofs.«01_k».proof.KernelIdeal

@[expose] public section

set_option maxRecDepth 100000

namespace Cert.Moe

open Cert.KernelIdeal

theorem unit_48 : ∀ j : Fin 128, lit1t0_672 j.val = if j.val = 48 then 0x3F800000#32 else 0#32 := by decide +kernel
theorem unit_49 : ∀ j : Fin 128, lit1t0_674 j.val = if j.val = 49 then 0x3F800000#32 else 0#32 := by decide +kernel
theorem unit_50 : ∀ j : Fin 128, lit1t0_676 j.val = if j.val = 50 then 0x3F800000#32 else 0#32 := by decide +kernel
theorem unit_51 : ∀ j : Fin 128, lit1t0_678 j.val = if j.val = 51 then 0x3F800000#32 else 0#32 := by decide +kernel
theorem unit_52 : ∀ j : Fin 128, lit1t0_680 j.val = if j.val = 52 then 0x3F800000#32 else 0#32 := by decide +kernel
theorem unit_53 : ∀ j : Fin 128, lit1t0_682 j.val = if j.val = 53 then 0x3F800000#32 else 0#32 := by decide +kernel
theorem unit_54 : ∀ j : Fin 128, lit1t0_684 j.val = if j.val = 54 then 0x3F800000#32 else 0#32 := by decide +kernel
theorem unit_55 : ∀ j : Fin 128, lit1t0_686 j.val = if j.val = 55 then 0x3F800000#32 else 0#32 := by decide +kernel
theorem unit_56 : ∀ j : Fin 128, lit1t0_688 j.val = if j.val = 56 then 0x3F800000#32 else 0#32 := by decide +kernel
theorem unit_57 : ∀ j : Fin 128, lit1t0_690 j.val = if j.val = 57 then 0x3F800000#32 else 0#32 := by decide +kernel
theorem unit_58 : ∀ j : Fin 128, lit1t0_692 j.val = if j.val = 58 then 0x3F800000#32 else 0#32 := by decide +kernel
theorem unit_59 : ∀ j : Fin 128, lit1t0_694 j.val = if j.val = 59 then 0x3F800000#32 else 0#32 := by decide +kernel
theorem unit_60 : ∀ j : Fin 128, lit1t0_696 j.val = if j.val = 60 then 0x3F800000#32 else 0#32 := by decide +kernel
theorem unit_61 : ∀ j : Fin 128, lit1t0_698 j.val = if j.val = 61 then 0x3F800000#32 else 0#32 := by decide +kernel
theorem unit_62 : ∀ j : Fin 128, lit1t0_700 j.val = if j.val = 62 then 0x3F800000#32 else 0#32 := by decide +kernel
theorem unit_63 : ∀ j : Fin 128, lit1t0_702 j.val = if j.val = 63 then 0x3F800000#32 else 0#32 := by decide +kernel
theorem unit_64 : ∀ j : Fin 128, lit1t0_704 j.val = if j.val = 64 then 0x3F800000#32 else 0#32 := by decide +kernel
theorem unit_65 : ∀ j : Fin 128, lit1t0_706 j.val = if j.val = 65 then 0x3F800000#32 else 0#32 := by decide +kernel
theorem unit_66 : ∀ j : Fin 128, lit1t0_708 j.val = if j.val = 66 then 0x3F800000#32 else 0#32 := by decide +kernel
theorem unit_67 : ∀ j : Fin 128, lit1t0_710 j.val = if j.val = 67 then 0x3F800000#32 else 0#32 := by decide +kernel
theorem unit_68 : ∀ j : Fin 128, lit1t0_712 j.val = if j.val = 68 then 0x3F800000#32 else 0#32 := by decide +kernel
theorem unit_69 : ∀ j : Fin 128, lit1t0_714 j.val = if j.val = 69 then 0x3F800000#32 else 0#32 := by decide +kernel
theorem unit_70 : ∀ j : Fin 128, lit1t0_716 j.val = if j.val = 70 then 0x3F800000#32 else 0#32 := by decide +kernel
theorem unit_71 : ∀ j : Fin 128, lit1t0_718 j.val = if j.val = 71 then 0x3F800000#32 else 0#32 := by decide +kernel

end Cert.Moe

end
-- ==== Proof.RowUnit3.lean ====
/- The rows of the repetition table that are distinct (72 to 95): row `q` holds a one at column `q` and zeros elsewhere. -/
module

public import proofs.«01_k».proof.KernelIdeal

@[expose] public section

set_option maxRecDepth 100000

namespace Cert.Moe

open Cert.KernelIdeal

theorem unit_72 : ∀ j : Fin 128, lit1t0_720 j.val = if j.val = 72 then 0x3F800000#32 else 0#32 := by decide +kernel
theorem unit_73 : ∀ j : Fin 128, lit1t0_722 j.val = if j.val = 73 then 0x3F800000#32 else 0#32 := by decide +kernel
theorem unit_74 : ∀ j : Fin 128, lit1t0_724 j.val = if j.val = 74 then 0x3F800000#32 else 0#32 := by decide +kernel
theorem unit_75 : ∀ j : Fin 128, lit1t0_726 j.val = if j.val = 75 then 0x3F800000#32 else 0#32 := by decide +kernel
theorem unit_76 : ∀ j : Fin 128, lit1t0_728 j.val = if j.val = 76 then 0x3F800000#32 else 0#32 := by decide +kernel
theorem unit_77 : ∀ j : Fin 128, lit1t0_730 j.val = if j.val = 77 then 0x3F800000#32 else 0#32 := by decide +kernel
theorem unit_78 : ∀ j : Fin 128, lit1t0_732 j.val = if j.val = 78 then 0x3F800000#32 else 0#32 := by decide +kernel
theorem unit_79 : ∀ j : Fin 128, lit1t0_734 j.val = if j.val = 79 then 0x3F800000#32 else 0#32 := by decide +kernel
theorem unit_80 : ∀ j : Fin 128, lit1t0_736 j.val = if j.val = 80 then 0x3F800000#32 else 0#32 := by decide +kernel
theorem unit_81 : ∀ j : Fin 128, lit1t0_738 j.val = if j.val = 81 then 0x3F800000#32 else 0#32 := by decide +kernel
theorem unit_82 : ∀ j : Fin 128, lit1t0_740 j.val = if j.val = 82 then 0x3F800000#32 else 0#32 := by decide +kernel
theorem unit_83 : ∀ j : Fin 128, lit1t0_742 j.val = if j.val = 83 then 0x3F800000#32 else 0#32 := by decide +kernel
theorem unit_84 : ∀ j : Fin 128, lit1t0_744 j.val = if j.val = 84 then 0x3F800000#32 else 0#32 := by decide +kernel
theorem unit_85 : ∀ j : Fin 128, lit1t0_746 j.val = if j.val = 85 then 0x3F800000#32 else 0#32 := by decide +kernel
theorem unit_86 : ∀ j : Fin 128, lit1t0_748 j.val = if j.val = 86 then 0x3F800000#32 else 0#32 := by decide +kernel
theorem unit_87 : ∀ j : Fin 128, lit1t0_750 j.val = if j.val = 87 then 0x3F800000#32 else 0#32 := by decide +kernel
theorem unit_88 : ∀ j : Fin 128, lit1t0_752 j.val = if j.val = 88 then 0x3F800000#32 else 0#32 := by decide +kernel
theorem unit_89 : ∀ j : Fin 128, lit1t0_754 j.val = if j.val = 89 then 0x3F800000#32 else 0#32 := by decide +kernel
theorem unit_90 : ∀ j : Fin 128, lit1t0_756 j.val = if j.val = 90 then 0x3F800000#32 else 0#32 := by decide +kernel
theorem unit_91 : ∀ j : Fin 128, lit1t0_758 j.val = if j.val = 91 then 0x3F800000#32 else 0#32 := by decide +kernel
theorem unit_92 : ∀ j : Fin 128, lit1t0_760 j.val = if j.val = 92 then 0x3F800000#32 else 0#32 := by decide +kernel
theorem unit_93 : ∀ j : Fin 128, lit1t0_762 j.val = if j.val = 93 then 0x3F800000#32 else 0#32 := by decide +kernel
theorem unit_94 : ∀ j : Fin 128, lit1t0_764 j.val = if j.val = 94 then 0x3F800000#32 else 0#32 := by decide +kernel
theorem unit_95 : ∀ j : Fin 128, lit1t0_766 j.val = if j.val = 95 then 0x3F800000#32 else 0#32 := by decide +kernel

end Cert.Moe

end
-- ==== Proof.RowPart.lean ====
/- How a repetition table entry is found: a row at a time. -/
module

public import proofs.«01_k».proof.Proof.RowUnit0
public import proofs.«01_k».proof.Proof.RowUnit1
public import proofs.«01_k».proof.Proof.RowUnit2
public import proofs.«01_k».proof.Proof.RowUnit3

@[expose] public section

set_option maxRecDepth 100000

namespace Cert.Moe

open Cert.KernelIdeal

/-- Entries 0 to 16383 are in part 0 of the table. -/
theorem part_0 (i : ℕ) (h : i / 16384 = 0) : lit1t i = lit1t1_0 i := by
  unfold lit1t; rw [h]; rfl

/-- Entries 16384 to 32767 are in part 1 of the table. -/
theorem part_1 (i : ℕ) (h : i / 16384 = 1) : lit1t i = lit1t1_1 i := by
  unfold lit1t; rw [h]; rfl

/-- Entries 32768 to 49151 are in part 2 of the table. -/
theorem part_2 (i : ℕ) (h : i / 16384 = 2) : lit1t i = lit1t1_2 i := by
  unfold lit1t; rw [h]; rfl

/-- Entries 49152 to 65535 are in part 3 of the table. -/
theorem part_3 (i : ℕ) (h : i / 16384 = 3) : lit1t i = lit1t1_3 i := by
  unfold lit1t; rw [h]; rfl

/-- Entries 65536 to 81919 are in part 4 of the table. -/
theorem part_4 (i : ℕ) (h : i / 16384 = 4) : lit1t i = lit1t1_4 i := by
  unfold lit1t; rw [h]; rfl

/-- Entries 81920 to 98303 are in part 5 of the table. -/
theorem part_5 (i : ℕ) (h : i / 16384 = 5) : lit1t i = lit1t1_5 i := by
  unfold lit1t; rw [h]; rfl

/-- Row `k` of the table holds a one at column `q` and zeros elsewhere. -/
abbrev OneAt (k q : ℕ) : Prop := ∀ j : ℕ, j < 128 → lit1t (k * 128 + j) = if j = q then 0x3F800000#32 else 0#32

/-- A row of the table's part `g` that one of the rows `f` gives. -/
theorem row_of (f g : ℕ → BitVec 32) (q k : ℕ) (hu : ∀ j : Fin 128, f j.val = if j.val = q then 0x3F800000#32 else 0#32)
    (hp : ∀ j < 128, lit1t (k * 128 + j) = g (k * 128 + j)) (hf : ∀ j < 128, g (k * 128 + j) = f (k * 128 + j)) (hm : ∀ i, f i = f (i % 128)) : OneAt k q := by
  intro j hj
  rw [hp j hj, hf j hj, hm, show (k * 128 + j) % 128 = j by omega]
  exact hu ⟨j, hj⟩

/-- The row of an entry, within its part. -/
theorem row_in (k r : ℕ) {j : ℕ} (hj : j < 128) (h : k % 128 = r) : (k * 128 + j) / 128 % 128 = r := by
  omega

end Cert.Moe

end
-- ==== Proof.RowTab0.lean ====
/- The repetition table of the expert of patch length 8: row `l` holds a one at column `l / 8` and zeros elsewhere. -/
module

public import proofs.«01_k».proof.Proof.RowPart

@[expose] public section

set_option maxRecDepth 100000

namespace Cert.Moe

open Cert.KernelIdeal

theorem row_0 : OneAt 0 0 :=
  row_of lit1t0_576 lit1t1_0 _ _ unit_0 (fun _ _ => part_0 _ (by omega)) (fun _ hj => by unfold lit1t1_0; rw [row_in 0 0 hj rfl]; rfl) fun i => by unfold lit1t0_576; rw [Nat.mod_mod]
theorem row_1 : OneAt 1 0 :=
  row_of lit1t0_576 lit1t1_0 _ _ unit_0 (fun _ _ => part_0 _ (by omega)) (fun _ hj => by unfold lit1t1_0; rw [row_in 1 1 hj rfl]; rfl) fun i => by unfold lit1t0_576; rw [Nat.mod_mod]
theorem row_2 : OneAt 2 0 :=
  row_of lit1t0_576 lit1t1_0 _ _ unit_0 (fun _ _ => part_0 _ (by omega)) (fun _ hj => by unfold lit1t1_0; rw [row_in 2 2 hj rfl]; rfl) fun i => by unfold lit1t0_576; rw [Nat.mod_mod]
theorem row_3 : OneAt 3 0 :=
  row_of lit1t0_576 lit1t1_0 _ _ unit_0 (fun _ _ => part_0 _ (by omega)) (fun _ hj => by unfold lit1t1_0; rw [row_in 3 3 hj rfl]; rfl) fun i => by unfold lit1t0_576; rw [Nat.mod_mod]
theorem row_4 : OneAt 4 0 :=
  row_of lit1t0_576 lit1t1_0 _ _ unit_0 (fun _ _ => part_0 _ (by omega)) (fun _ hj => by unfold lit1t1_0; rw [row_in 4 4 hj rfl]; rfl) fun i => by unfold lit1t0_576; rw [Nat.mod_mod]
theorem row_5 : OneAt 5 0 :=
  row_of lit1t0_576 lit1t1_0 _ _ unit_0 (fun _ _ => part_0 _ (by omega)) (fun _ hj => by unfold lit1t1_0; rw [row_in 5 5 hj rfl]; rfl) fun i => by unfold lit1t0_576; rw [Nat.mod_mod]
theorem row_6 : OneAt 6 0 :=
  row_of lit1t0_576 lit1t1_0 _ _ unit_0 (fun _ _ => part_0 _ (by omega)) (fun _ hj => by unfold lit1t1_0; rw [row_in 6 6 hj rfl]; rfl) fun i => by unfold lit1t0_576; rw [Nat.mod_mod]
theorem row_7 : OneAt 7 0 :=
  row_of lit1t0_576 lit1t1_0 _ _ unit_0 (fun _ _ => part_0 _ (by omega)) (fun _ hj => by unfold lit1t1_0; rw [row_in 7 7 hj rfl]; rfl) fun i => by unfold lit1t0_576; rw [Nat.mod_mod]
theorem row_8 : OneAt 8 1 :=
  row_of lit1t0_578 lit1t1_0 _ _ unit_1 (fun _ _ => part_0 _ (by omega)) (fun _ hj => by unfold lit1t1_0; rw [row_in 8 8 hj rfl]; rfl) fun i => by unfold lit1t0_578; rw [Nat.mod_mod]
theorem row_9 : OneAt 9 1 :=
  row_of lit1t0_578 lit1t1_0 _ _ unit_1 (fun _ _ => part_0 _ (by omega)) (fun _ hj => by unfold lit1t1_0; rw [row_in 9 9 hj rfl]; rfl) fun i => by unfold lit1t0_578; rw [Nat.mod_mod]
theorem row_10 : OneAt 10 1 :=
  row_of lit1t0_578 lit1t1_0 _ _ unit_1 (fun _ _ => part_0 _ (by omega)) (fun _ hj => by unfold lit1t1_0; rw [row_in 10 10 hj rfl]; rfl) fun i => by unfold lit1t0_578; rw [Nat.mod_mod]
theorem row_11 : OneAt 11 1 :=
  row_of lit1t0_578 lit1t1_0 _ _ unit_1 (fun _ _ => part_0 _ (by omega)) (fun _ hj => by unfold lit1t1_0; rw [row_in 11 11 hj rfl]; rfl) fun i => by unfold lit1t0_578; rw [Nat.mod_mod]
theorem row_12 : OneAt 12 1 :=
  row_of lit1t0_578 lit1t1_0 _ _ unit_1 (fun _ _ => part_0 _ (by omega)) (fun _ hj => by unfold lit1t1_0; rw [row_in 12 12 hj rfl]; rfl) fun i => by unfold lit1t0_578; rw [Nat.mod_mod]
theorem row_13 : OneAt 13 1 :=
  row_of lit1t0_578 lit1t1_0 _ _ unit_1 (fun _ _ => part_0 _ (by omega)) (fun _ hj => by unfold lit1t1_0; rw [row_in 13 13 hj rfl]; rfl) fun i => by unfold lit1t0_578; rw [Nat.mod_mod]
theorem row_14 : OneAt 14 1 :=
  row_of lit1t0_578 lit1t1_0 _ _ unit_1 (fun _ _ => part_0 _ (by omega)) (fun _ hj => by unfold lit1t1_0; rw [row_in 14 14 hj rfl]; rfl) fun i => by unfold lit1t0_578; rw [Nat.mod_mod]
theorem row_15 : OneAt 15 1 :=
  row_of lit1t0_578 lit1t1_0 _ _ unit_1 (fun _ _ => part_0 _ (by omega)) (fun _ hj => by unfold lit1t1_0; rw [row_in 15 15 hj rfl]; rfl) fun i => by unfold lit1t0_578; rw [Nat.mod_mod]
theorem row_16 : OneAt 16 2 :=
  row_of lit1t0_580 lit1t1_0 _ _ unit_2 (fun _ _ => part_0 _ (by omega)) (fun _ hj => by unfold lit1t1_0; rw [row_in 16 16 hj rfl]; rfl) fun i => by unfold lit1t0_580; rw [Nat.mod_mod]
theorem row_17 : OneAt 17 2 :=
  row_of lit1t0_580 lit1t1_0 _ _ unit_2 (fun _ _ => part_0 _ (by omega)) (fun _ hj => by unfold lit1t1_0; rw [row_in 17 17 hj rfl]; rfl) fun i => by unfold lit1t0_580; rw [Nat.mod_mod]
theorem row_18 : OneAt 18 2 :=
  row_of lit1t0_580 lit1t1_0 _ _ unit_2 (fun _ _ => part_0 _ (by omega)) (fun _ hj => by unfold lit1t1_0; rw [row_in 18 18 hj rfl]; rfl) fun i => by unfold lit1t0_580; rw [Nat.mod_mod]
theorem row_19 : OneAt 19 2 :=
  row_of lit1t0_580 lit1t1_0 _ _ unit_2 (fun _ _ => part_0 _ (by omega)) (fun _ hj => by unfold lit1t1_0; rw [row_in 19 19 hj rfl]; rfl) fun i => by unfold lit1t0_580; rw [Nat.mod_mod]
theorem row_20 : OneAt 20 2 :=
  row_of lit1t0_580 lit1t1_0 _ _ unit_2 (fun _ _ => part_0 _ (by omega)) (fun _ hj => by unfold lit1t1_0; rw [row_in 20 20 hj rfl]; rfl) fun i => by unfold lit1t0_580; rw [Nat.mod_mod]
theorem row_21 : OneAt 21 2 :=
  row_of lit1t0_580 lit1t1_0 _ _ unit_2 (fun _ _ => part_0 _ (by omega)) (fun _ hj => by unfold lit1t1_0; rw [row_in 21 21 hj rfl]; rfl) fun i => by unfold lit1t0_580; rw [Nat.mod_mod]
theorem row_22 : OneAt 22 2 :=
  row_of lit1t0_580 lit1t1_0 _ _ unit_2 (fun _ _ => part_0 _ (by omega)) (fun _ hj => by unfold lit1t1_0; rw [row_in 22 22 hj rfl]; rfl) fun i => by unfold lit1t0_580; rw [Nat.mod_mod]
theorem row_23 : OneAt 23 2 :=
  row_of lit1t0_580 lit1t1_0 _ _ unit_2 (fun _ _ => part_0 _ (by omega)) (fun _ hj => by unfold lit1t1_0; rw [row_in 23 23 hj rfl]; rfl) fun i => by unfold lit1t0_580; rw [Nat.mod_mod]
theorem row_24 : OneAt 24 3 :=
  row_of lit1t0_582 lit1t1_0 _ _ unit_3 (fun _ _ => part_0 _ (by omega)) (fun _ hj => by unfold lit1t1_0; rw [row_in 24 24 hj rfl]; rfl) fun i => by unfold lit1t0_582; rw [Nat.mod_mod]
theorem row_25 : OneAt 25 3 :=
  row_of lit1t0_582 lit1t1_0 _ _ unit_3 (fun _ _ => part_0 _ (by omega)) (fun _ hj => by unfold lit1t1_0; rw [row_in 25 25 hj rfl]; rfl) fun i => by unfold lit1t0_582; rw [Nat.mod_mod]
theorem row_26 : OneAt 26 3 :=
  row_of lit1t0_582 lit1t1_0 _ _ unit_3 (fun _ _ => part_0 _ (by omega)) (fun _ hj => by unfold lit1t1_0; rw [row_in 26 26 hj rfl]; rfl) fun i => by unfold lit1t0_582; rw [Nat.mod_mod]
theorem row_27 : OneAt 27 3 :=
  row_of lit1t0_582 lit1t1_0 _ _ unit_3 (fun _ _ => part_0 _ (by omega)) (fun _ hj => by unfold lit1t1_0; rw [row_in 27 27 hj rfl]; rfl) fun i => by unfold lit1t0_582; rw [Nat.mod_mod]
theorem row_28 : OneAt 28 3 :=
  row_of lit1t0_582 lit1t1_0 _ _ unit_3 (fun _ _ => part_0 _ (by omega)) (fun _ hj => by unfold lit1t1_0; rw [row_in 28 28 hj rfl]; rfl) fun i => by unfold lit1t0_582; rw [Nat.mod_mod]
theorem row_29 : OneAt 29 3 :=
  row_of lit1t0_582 lit1t1_0 _ _ unit_3 (fun _ _ => part_0 _ (by omega)) (fun _ hj => by unfold lit1t1_0; rw [row_in 29 29 hj rfl]; rfl) fun i => by unfold lit1t0_582; rw [Nat.mod_mod]
theorem row_30 : OneAt 30 3 :=
  row_of lit1t0_582 lit1t1_0 _ _ unit_3 (fun _ _ => part_0 _ (by omega)) (fun _ hj => by unfold lit1t1_0; rw [row_in 30 30 hj rfl]; rfl) fun i => by unfold lit1t0_582; rw [Nat.mod_mod]
theorem row_31 : OneAt 31 3 :=
  row_of lit1t0_582 lit1t1_0 _ _ unit_3 (fun _ _ => part_0 _ (by omega)) (fun _ hj => by unfold lit1t1_0; rw [row_in 31 31 hj rfl]; rfl) fun i => by unfold lit1t0_582; rw [Nat.mod_mod]
theorem row_32 : OneAt 32 4 :=
  row_of lit1t0_584 lit1t1_0 _ _ unit_4 (fun _ _ => part_0 _ (by omega)) (fun _ hj => by unfold lit1t1_0; rw [row_in 32 32 hj rfl]; rfl) fun i => by unfold lit1t0_584; rw [Nat.mod_mod]
theorem row_33 : OneAt 33 4 :=
  row_of lit1t0_584 lit1t1_0 _ _ unit_4 (fun _ _ => part_0 _ (by omega)) (fun _ hj => by unfold lit1t1_0; rw [row_in 33 33 hj rfl]; rfl) fun i => by unfold lit1t0_584; rw [Nat.mod_mod]
theorem row_34 : OneAt 34 4 :=
  row_of lit1t0_584 lit1t1_0 _ _ unit_4 (fun _ _ => part_0 _ (by omega)) (fun _ hj => by unfold lit1t1_0; rw [row_in 34 34 hj rfl]; rfl) fun i => by unfold lit1t0_584; rw [Nat.mod_mod]
theorem row_35 : OneAt 35 4 :=
  row_of lit1t0_584 lit1t1_0 _ _ unit_4 (fun _ _ => part_0 _ (by omega)) (fun _ hj => by unfold lit1t1_0; rw [row_in 35 35 hj rfl]; rfl) fun i => by unfold lit1t0_584; rw [Nat.mod_mod]
theorem row_36 : OneAt 36 4 :=
  row_of lit1t0_584 lit1t1_0 _ _ unit_4 (fun _ _ => part_0 _ (by omega)) (fun _ hj => by unfold lit1t1_0; rw [row_in 36 36 hj rfl]; rfl) fun i => by unfold lit1t0_584; rw [Nat.mod_mod]
theorem row_37 : OneAt 37 4 :=
  row_of lit1t0_584 lit1t1_0 _ _ unit_4 (fun _ _ => part_0 _ (by omega)) (fun _ hj => by unfold lit1t1_0; rw [row_in 37 37 hj rfl]; rfl) fun i => by unfold lit1t0_584; rw [Nat.mod_mod]
theorem row_38 : OneAt 38 4 :=
  row_of lit1t0_584 lit1t1_0 _ _ unit_4 (fun _ _ => part_0 _ (by omega)) (fun _ hj => by unfold lit1t1_0; rw [row_in 38 38 hj rfl]; rfl) fun i => by unfold lit1t0_584; rw [Nat.mod_mod]
theorem row_39 : OneAt 39 4 :=
  row_of lit1t0_584 lit1t1_0 _ _ unit_4 (fun _ _ => part_0 _ (by omega)) (fun _ hj => by unfold lit1t1_0; rw [row_in 39 39 hj rfl]; rfl) fun i => by unfold lit1t0_584; rw [Nat.mod_mod]
theorem row_40 : OneAt 40 5 :=
  row_of lit1t0_586 lit1t1_0 _ _ unit_5 (fun _ _ => part_0 _ (by omega)) (fun _ hj => by unfold lit1t1_0; rw [row_in 40 40 hj rfl]; rfl) fun i => by unfold lit1t0_586; rw [Nat.mod_mod]
theorem row_41 : OneAt 41 5 :=
  row_of lit1t0_586 lit1t1_0 _ _ unit_5 (fun _ _ => part_0 _ (by omega)) (fun _ hj => by unfold lit1t1_0; rw [row_in 41 41 hj rfl]; rfl) fun i => by unfold lit1t0_586; rw [Nat.mod_mod]
theorem row_42 : OneAt 42 5 :=
  row_of lit1t0_586 lit1t1_0 _ _ unit_5 (fun _ _ => part_0 _ (by omega)) (fun _ hj => by unfold lit1t1_0; rw [row_in 42 42 hj rfl]; rfl) fun i => by unfold lit1t0_586; rw [Nat.mod_mod]
theorem row_43 : OneAt 43 5 :=
  row_of lit1t0_586 lit1t1_0 _ _ unit_5 (fun _ _ => part_0 _ (by omega)) (fun _ hj => by unfold lit1t1_0; rw [row_in 43 43 hj rfl]; rfl) fun i => by unfold lit1t0_586; rw [Nat.mod_mod]
theorem row_44 : OneAt 44 5 :=
  row_of lit1t0_586 lit1t1_0 _ _ unit_5 (fun _ _ => part_0 _ (by omega)) (fun _ hj => by unfold lit1t1_0; rw [row_in 44 44 hj rfl]; rfl) fun i => by unfold lit1t0_586; rw [Nat.mod_mod]
theorem row_45 : OneAt 45 5 :=
  row_of lit1t0_586 lit1t1_0 _ _ unit_5 (fun _ _ => part_0 _ (by omega)) (fun _ hj => by unfold lit1t1_0; rw [row_in 45 45 hj rfl]; rfl) fun i => by unfold lit1t0_586; rw [Nat.mod_mod]
theorem row_46 : OneAt 46 5 :=
  row_of lit1t0_586 lit1t1_0 _ _ unit_5 (fun _ _ => part_0 _ (by omega)) (fun _ hj => by unfold lit1t1_0; rw [row_in 46 46 hj rfl]; rfl) fun i => by unfold lit1t0_586; rw [Nat.mod_mod]
theorem row_47 : OneAt 47 5 :=
  row_of lit1t0_586 lit1t1_0 _ _ unit_5 (fun _ _ => part_0 _ (by omega)) (fun _ hj => by unfold lit1t1_0; rw [row_in 47 47 hj rfl]; rfl) fun i => by unfold lit1t0_586; rw [Nat.mod_mod]
theorem row_48 : OneAt 48 6 :=
  row_of lit1t0_588 lit1t1_0 _ _ unit_6 (fun _ _ => part_0 _ (by omega)) (fun _ hj => by unfold lit1t1_0; rw [row_in 48 48 hj rfl]; rfl) fun i => by unfold lit1t0_588; rw [Nat.mod_mod]
theorem row_49 : OneAt 49 6 :=
  row_of lit1t0_588 lit1t1_0 _ _ unit_6 (fun _ _ => part_0 _ (by omega)) (fun _ hj => by unfold lit1t1_0; rw [row_in 49 49 hj rfl]; rfl) fun i => by unfold lit1t0_588; rw [Nat.mod_mod]
theorem row_50 : OneAt 50 6 :=
  row_of lit1t0_588 lit1t1_0 _ _ unit_6 (fun _ _ => part_0 _ (by omega)) (fun _ hj => by unfold lit1t1_0; rw [row_in 50 50 hj rfl]; rfl) fun i => by unfold lit1t0_588; rw [Nat.mod_mod]
theorem row_51 : OneAt 51 6 :=
  row_of lit1t0_588 lit1t1_0 _ _ unit_6 (fun _ _ => part_0 _ (by omega)) (fun _ hj => by unfold lit1t1_0; rw [row_in 51 51 hj rfl]; rfl) fun i => by unfold lit1t0_588; rw [Nat.mod_mod]
theorem row_52 : OneAt 52 6 :=
  row_of lit1t0_588 lit1t1_0 _ _ unit_6 (fun _ _ => part_0 _ (by omega)) (fun _ hj => by unfold lit1t1_0; rw [row_in 52 52 hj rfl]; rfl) fun i => by unfold lit1t0_588; rw [Nat.mod_mod]
theorem row_53 : OneAt 53 6 :=
  row_of lit1t0_588 lit1t1_0 _ _ unit_6 (fun _ _ => part_0 _ (by omega)) (fun _ hj => by unfold lit1t1_0; rw [row_in 53 53 hj rfl]; rfl) fun i => by unfold lit1t0_588; rw [Nat.mod_mod]
theorem row_54 : OneAt 54 6 :=
  row_of lit1t0_588 lit1t1_0 _ _ unit_6 (fun _ _ => part_0 _ (by omega)) (fun _ hj => by unfold lit1t1_0; rw [row_in 54 54 hj rfl]; rfl) fun i => by unfold lit1t0_588; rw [Nat.mod_mod]
theorem row_55 : OneAt 55 6 :=
  row_of lit1t0_588 lit1t1_0 _ _ unit_6 (fun _ _ => part_0 _ (by omega)) (fun _ hj => by unfold lit1t1_0; rw [row_in 55 55 hj rfl]; rfl) fun i => by unfold lit1t0_588; rw [Nat.mod_mod]
theorem row_56 : OneAt 56 7 :=
  row_of lit1t0_590 lit1t1_0 _ _ unit_7 (fun _ _ => part_0 _ (by omega)) (fun _ hj => by unfold lit1t1_0; rw [row_in 56 56 hj rfl]; rfl) fun i => by unfold lit1t0_590; rw [Nat.mod_mod]
theorem row_57 : OneAt 57 7 :=
  row_of lit1t0_590 lit1t1_0 _ _ unit_7 (fun _ _ => part_0 _ (by omega)) (fun _ hj => by unfold lit1t1_0; rw [row_in 57 57 hj rfl]; rfl) fun i => by unfold lit1t0_590; rw [Nat.mod_mod]
theorem row_58 : OneAt 58 7 :=
  row_of lit1t0_590 lit1t1_0 _ _ unit_7 (fun _ _ => part_0 _ (by omega)) (fun _ hj => by unfold lit1t1_0; rw [row_in 58 58 hj rfl]; rfl) fun i => by unfold lit1t0_590; rw [Nat.mod_mod]
theorem row_59 : OneAt 59 7 :=
  row_of lit1t0_590 lit1t1_0 _ _ unit_7 (fun _ _ => part_0 _ (by omega)) (fun _ hj => by unfold lit1t1_0; rw [row_in 59 59 hj rfl]; rfl) fun i => by unfold lit1t0_590; rw [Nat.mod_mod]
theorem row_60 : OneAt 60 7 :=
  row_of lit1t0_590 lit1t1_0 _ _ unit_7 (fun _ _ => part_0 _ (by omega)) (fun _ hj => by unfold lit1t1_0; rw [row_in 60 60 hj rfl]; rfl) fun i => by unfold lit1t0_590; rw [Nat.mod_mod]
theorem row_61 : OneAt 61 7 :=
  row_of lit1t0_590 lit1t1_0 _ _ unit_7 (fun _ _ => part_0 _ (by omega)) (fun _ hj => by unfold lit1t1_0; rw [row_in 61 61 hj rfl]; rfl) fun i => by unfold lit1t0_590; rw [Nat.mod_mod]
theorem row_62 : OneAt 62 7 :=
  row_of lit1t0_590 lit1t1_0 _ _ unit_7 (fun _ _ => part_0 _ (by omega)) (fun _ hj => by unfold lit1t1_0; rw [row_in 62 62 hj rfl]; rfl) fun i => by unfold lit1t0_590; rw [Nat.mod_mod]
theorem row_63 : OneAt 63 7 :=
  row_of lit1t0_590 lit1t1_0 _ _ unit_7 (fun _ _ => part_0 _ (by omega)) (fun _ hj => by unfold lit1t1_0; rw [row_in 63 63 hj rfl]; rfl) fun i => by unfold lit1t0_590; rw [Nat.mod_mod]
theorem row_64 : OneAt 64 8 :=
  row_of lit1t0_592 lit1t1_0 _ _ unit_8 (fun _ _ => part_0 _ (by omega)) (fun _ hj => by unfold lit1t1_0; rw [row_in 64 64 hj rfl]; rfl) fun i => by unfold lit1t0_592; rw [Nat.mod_mod]
theorem row_65 : OneAt 65 8 :=
  row_of lit1t0_592 lit1t1_0 _ _ unit_8 (fun _ _ => part_0 _ (by omega)) (fun _ hj => by unfold lit1t1_0; rw [row_in 65 65 hj rfl]; rfl) fun i => by unfold lit1t0_592; rw [Nat.mod_mod]
theorem row_66 : OneAt 66 8 :=
  row_of lit1t0_592 lit1t1_0 _ _ unit_8 (fun _ _ => part_0 _ (by omega)) (fun _ hj => by unfold lit1t1_0; rw [row_in 66 66 hj rfl]; rfl) fun i => by unfold lit1t0_592; rw [Nat.mod_mod]
theorem row_67 : OneAt 67 8 :=
  row_of lit1t0_592 lit1t1_0 _ _ unit_8 (fun _ _ => part_0 _ (by omega)) (fun _ hj => by unfold lit1t1_0; rw [row_in 67 67 hj rfl]; rfl) fun i => by unfold lit1t0_592; rw [Nat.mod_mod]
theorem row_68 : OneAt 68 8 :=
  row_of lit1t0_592 lit1t1_0 _ _ unit_8 (fun _ _ => part_0 _ (by omega)) (fun _ hj => by unfold lit1t1_0; rw [row_in 68 68 hj rfl]; rfl) fun i => by unfold lit1t0_592; rw [Nat.mod_mod]
theorem row_69 : OneAt 69 8 :=
  row_of lit1t0_592 lit1t1_0 _ _ unit_8 (fun _ _ => part_0 _ (by omega)) (fun _ hj => by unfold lit1t1_0; rw [row_in 69 69 hj rfl]; rfl) fun i => by unfold lit1t0_592; rw [Nat.mod_mod]
theorem row_70 : OneAt 70 8 :=
  row_of lit1t0_592 lit1t1_0 _ _ unit_8 (fun _ _ => part_0 _ (by omega)) (fun _ hj => by unfold lit1t1_0; rw [row_in 70 70 hj rfl]; rfl) fun i => by unfold lit1t0_592; rw [Nat.mod_mod]
theorem row_71 : OneAt 71 8 :=
  row_of lit1t0_592 lit1t1_0 _ _ unit_8 (fun _ _ => part_0 _ (by omega)) (fun _ hj => by unfold lit1t1_0; rw [row_in 71 71 hj rfl]; rfl) fun i => by unfold lit1t0_592; rw [Nat.mod_mod]
theorem row_72 : OneAt 72 9 :=
  row_of lit1t0_594 lit1t1_0 _ _ unit_9 (fun _ _ => part_0 _ (by omega)) (fun _ hj => by unfold lit1t1_0; rw [row_in 72 72 hj rfl]; rfl) fun i => by unfold lit1t0_594; rw [Nat.mod_mod]
theorem row_73 : OneAt 73 9 :=
  row_of lit1t0_594 lit1t1_0 _ _ unit_9 (fun _ _ => part_0 _ (by omega)) (fun _ hj => by unfold lit1t1_0; rw [row_in 73 73 hj rfl]; rfl) fun i => by unfold lit1t0_594; rw [Nat.mod_mod]
theorem row_74 : OneAt 74 9 :=
  row_of lit1t0_594 lit1t1_0 _ _ unit_9 (fun _ _ => part_0 _ (by omega)) (fun _ hj => by unfold lit1t1_0; rw [row_in 74 74 hj rfl]; rfl) fun i => by unfold lit1t0_594; rw [Nat.mod_mod]
theorem row_75 : OneAt 75 9 :=
  row_of lit1t0_594 lit1t1_0 _ _ unit_9 (fun _ _ => part_0 _ (by omega)) (fun _ hj => by unfold lit1t1_0; rw [row_in 75 75 hj rfl]; rfl) fun i => by unfold lit1t0_594; rw [Nat.mod_mod]
theorem row_76 : OneAt 76 9 :=
  row_of lit1t0_594 lit1t1_0 _ _ unit_9 (fun _ _ => part_0 _ (by omega)) (fun _ hj => by unfold lit1t1_0; rw [row_in 76 76 hj rfl]; rfl) fun i => by unfold lit1t0_594; rw [Nat.mod_mod]
theorem row_77 : OneAt 77 9 :=
  row_of lit1t0_594 lit1t1_0 _ _ unit_9 (fun _ _ => part_0 _ (by omega)) (fun _ hj => by unfold lit1t1_0; rw [row_in 77 77 hj rfl]; rfl) fun i => by unfold lit1t0_594; rw [Nat.mod_mod]
theorem row_78 : OneAt 78 9 :=
  row_of lit1t0_594 lit1t1_0 _ _ unit_9 (fun _ _ => part_0 _ (by omega)) (fun _ hj => by unfold lit1t1_0; rw [row_in 78 78 hj rfl]; rfl) fun i => by unfold lit1t0_594; rw [Nat.mod_mod]
theorem row_79 : OneAt 79 9 :=
  row_of lit1t0_594 lit1t1_0 _ _ unit_9 (fun _ _ => part_0 _ (by omega)) (fun _ hj => by unfold lit1t1_0; rw [row_in 79 79 hj rfl]; rfl) fun i => by unfold lit1t0_594; rw [Nat.mod_mod]
theorem row_80 : OneAt 80 10 :=
  row_of lit1t0_596 lit1t1_0 _ _ unit_10 (fun _ _ => part_0 _ (by omega)) (fun _ hj => by unfold lit1t1_0; rw [row_in 80 80 hj rfl]; rfl) fun i => by unfold lit1t0_596; rw [Nat.mod_mod]
theorem row_81 : OneAt 81 10 :=
  row_of lit1t0_596 lit1t1_0 _ _ unit_10 (fun _ _ => part_0 _ (by omega)) (fun _ hj => by unfold lit1t1_0; rw [row_in 81 81 hj rfl]; rfl) fun i => by unfold lit1t0_596; rw [Nat.mod_mod]
theorem row_82 : OneAt 82 10 :=
  row_of lit1t0_596 lit1t1_0 _ _ unit_10 (fun _ _ => part_0 _ (by omega)) (fun _ hj => by unfold lit1t1_0; rw [row_in 82 82 hj rfl]; rfl) fun i => by unfold lit1t0_596; rw [Nat.mod_mod]
theorem row_83 : OneAt 83 10 :=
  row_of lit1t0_596 lit1t1_0 _ _ unit_10 (fun _ _ => part_0 _ (by omega)) (fun _ hj => by unfold lit1t1_0; rw [row_in 83 83 hj rfl]; rfl) fun i => by unfold lit1t0_596; rw [Nat.mod_mod]
theorem row_84 : OneAt 84 10 :=
  row_of lit1t0_596 lit1t1_0 _ _ unit_10 (fun _ _ => part_0 _ (by omega)) (fun _ hj => by unfold lit1t1_0; rw [row_in 84 84 hj rfl]; rfl) fun i => by unfold lit1t0_596; rw [Nat.mod_mod]
theorem row_85 : OneAt 85 10 :=
  row_of lit1t0_596 lit1t1_0 _ _ unit_10 (fun _ _ => part_0 _ (by omega)) (fun _ hj => by unfold lit1t1_0; rw [row_in 85 85 hj rfl]; rfl) fun i => by unfold lit1t0_596; rw [Nat.mod_mod]
theorem row_86 : OneAt 86 10 :=
  row_of lit1t0_596 lit1t1_0 _ _ unit_10 (fun _ _ => part_0 _ (by omega)) (fun _ hj => by unfold lit1t1_0; rw [row_in 86 86 hj rfl]; rfl) fun i => by unfold lit1t0_596; rw [Nat.mod_mod]
theorem row_87 : OneAt 87 10 :=
  row_of lit1t0_596 lit1t1_0 _ _ unit_10 (fun _ _ => part_0 _ (by omega)) (fun _ hj => by unfold lit1t1_0; rw [row_in 87 87 hj rfl]; rfl) fun i => by unfold lit1t0_596; rw [Nat.mod_mod]
theorem row_88 : OneAt 88 11 :=
  row_of lit1t0_598 lit1t1_0 _ _ unit_11 (fun _ _ => part_0 _ (by omega)) (fun _ hj => by unfold lit1t1_0; rw [row_in 88 88 hj rfl]; rfl) fun i => by unfold lit1t0_598; rw [Nat.mod_mod]
theorem row_89 : OneAt 89 11 :=
  row_of lit1t0_598 lit1t1_0 _ _ unit_11 (fun _ _ => part_0 _ (by omega)) (fun _ hj => by unfold lit1t1_0; rw [row_in 89 89 hj rfl]; rfl) fun i => by unfold lit1t0_598; rw [Nat.mod_mod]
theorem row_90 : OneAt 90 11 :=
  row_of lit1t0_598 lit1t1_0 _ _ unit_11 (fun _ _ => part_0 _ (by omega)) (fun _ hj => by unfold lit1t1_0; rw [row_in 90 90 hj rfl]; rfl) fun i => by unfold lit1t0_598; rw [Nat.mod_mod]
theorem row_91 : OneAt 91 11 :=
  row_of lit1t0_598 lit1t1_0 _ _ unit_11 (fun _ _ => part_0 _ (by omega)) (fun _ hj => by unfold lit1t1_0; rw [row_in 91 91 hj rfl]; rfl) fun i => by unfold lit1t0_598; rw [Nat.mod_mod]
theorem row_92 : OneAt 92 11 :=
  row_of lit1t0_598 lit1t1_0 _ _ unit_11 (fun _ _ => part_0 _ (by omega)) (fun _ hj => by unfold lit1t1_0; rw [row_in 92 92 hj rfl]; rfl) fun i => by unfold lit1t0_598; rw [Nat.mod_mod]
theorem row_93 : OneAt 93 11 :=
  row_of lit1t0_598 lit1t1_0 _ _ unit_11 (fun _ _ => part_0 _ (by omega)) (fun _ hj => by unfold lit1t1_0; rw [row_in 93 93 hj rfl]; rfl) fun i => by unfold lit1t0_598; rw [Nat.mod_mod]
theorem row_94 : OneAt 94 11 :=
  row_of lit1t0_598 lit1t1_0 _ _ unit_11 (fun _ _ => part_0 _ (by omega)) (fun _ hj => by unfold lit1t1_0; rw [row_in 94 94 hj rfl]; rfl) fun i => by unfold lit1t0_598; rw [Nat.mod_mod]
theorem row_95 : OneAt 95 11 :=
  row_of lit1t0_598 lit1t1_0 _ _ unit_11 (fun _ _ => part_0 _ (by omega)) (fun _ hj => by unfold lit1t1_0; rw [row_in 95 95 hj rfl]; rfl) fun i => by unfold lit1t0_598; rw [Nat.mod_mod]
theorem row_96 : OneAt 96 12 :=
  row_of lit1t0_600 lit1t1_0 _ _ unit_12 (fun _ _ => part_0 _ (by omega)) (fun _ hj => by unfold lit1t1_0; rw [row_in 96 96 hj rfl]; rfl) fun i => by unfold lit1t0_600; rw [Nat.mod_mod]
theorem row_97 : OneAt 97 12 :=
  row_of lit1t0_600 lit1t1_0 _ _ unit_12 (fun _ _ => part_0 _ (by omega)) (fun _ hj => by unfold lit1t1_0; rw [row_in 97 97 hj rfl]; rfl) fun i => by unfold lit1t0_600; rw [Nat.mod_mod]
theorem row_98 : OneAt 98 12 :=
  row_of lit1t0_600 lit1t1_0 _ _ unit_12 (fun _ _ => part_0 _ (by omega)) (fun _ hj => by unfold lit1t1_0; rw [row_in 98 98 hj rfl]; rfl) fun i => by unfold lit1t0_600; rw [Nat.mod_mod]
theorem row_99 : OneAt 99 12 :=
  row_of lit1t0_600 lit1t1_0 _ _ unit_12 (fun _ _ => part_0 _ (by omega)) (fun _ hj => by unfold lit1t1_0; rw [row_in 99 99 hj rfl]; rfl) fun i => by unfold lit1t0_600; rw [Nat.mod_mod]
theorem row_100 : OneAt 100 12 :=
  row_of lit1t0_600 lit1t1_0 _ _ unit_12 (fun _ _ => part_0 _ (by omega)) (fun _ hj => by unfold lit1t1_0; rw [row_in 100 100 hj rfl]; rfl) fun i => by unfold lit1t0_600; rw [Nat.mod_mod]
theorem row_101 : OneAt 101 12 :=
  row_of lit1t0_600 lit1t1_0 _ _ unit_12 (fun _ _ => part_0 _ (by omega)) (fun _ hj => by unfold lit1t1_0; rw [row_in 101 101 hj rfl]; rfl) fun i => by unfold lit1t0_600; rw [Nat.mod_mod]
theorem row_102 : OneAt 102 12 :=
  row_of lit1t0_600 lit1t1_0 _ _ unit_12 (fun _ _ => part_0 _ (by omega)) (fun _ hj => by unfold lit1t1_0; rw [row_in 102 102 hj rfl]; rfl) fun i => by unfold lit1t0_600; rw [Nat.mod_mod]
theorem row_103 : OneAt 103 12 :=
  row_of lit1t0_600 lit1t1_0 _ _ unit_12 (fun _ _ => part_0 _ (by omega)) (fun _ hj => by unfold lit1t1_0; rw [row_in 103 103 hj rfl]; rfl) fun i => by unfold lit1t0_600; rw [Nat.mod_mod]
theorem row_104 : OneAt 104 13 :=
  row_of lit1t0_602 lit1t1_0 _ _ unit_13 (fun _ _ => part_0 _ (by omega)) (fun _ hj => by unfold lit1t1_0; rw [row_in 104 104 hj rfl]; rfl) fun i => by unfold lit1t0_602; rw [Nat.mod_mod]
theorem row_105 : OneAt 105 13 :=
  row_of lit1t0_602 lit1t1_0 _ _ unit_13 (fun _ _ => part_0 _ (by omega)) (fun _ hj => by unfold lit1t1_0; rw [row_in 105 105 hj rfl]; rfl) fun i => by unfold lit1t0_602; rw [Nat.mod_mod]
theorem row_106 : OneAt 106 13 :=
  row_of lit1t0_602 lit1t1_0 _ _ unit_13 (fun _ _ => part_0 _ (by omega)) (fun _ hj => by unfold lit1t1_0; rw [row_in 106 106 hj rfl]; rfl) fun i => by unfold lit1t0_602; rw [Nat.mod_mod]
theorem row_107 : OneAt 107 13 :=
  row_of lit1t0_602 lit1t1_0 _ _ unit_13 (fun _ _ => part_0 _ (by omega)) (fun _ hj => by unfold lit1t1_0; rw [row_in 107 107 hj rfl]; rfl) fun i => by unfold lit1t0_602; rw [Nat.mod_mod]
theorem row_108 : OneAt 108 13 :=
  row_of lit1t0_602 lit1t1_0 _ _ unit_13 (fun _ _ => part_0 _ (by omega)) (fun _ hj => by unfold lit1t1_0; rw [row_in 108 108 hj rfl]; rfl) fun i => by unfold lit1t0_602; rw [Nat.mod_mod]
theorem row_109 : OneAt 109 13 :=
  row_of lit1t0_602 lit1t1_0 _ _ unit_13 (fun _ _ => part_0 _ (by omega)) (fun _ hj => by unfold lit1t1_0; rw [row_in 109 109 hj rfl]; rfl) fun i => by unfold lit1t0_602; rw [Nat.mod_mod]
theorem row_110 : OneAt 110 13 :=
  row_of lit1t0_602 lit1t1_0 _ _ unit_13 (fun _ _ => part_0 _ (by omega)) (fun _ hj => by unfold lit1t1_0; rw [row_in 110 110 hj rfl]; rfl) fun i => by unfold lit1t0_602; rw [Nat.mod_mod]
theorem row_111 : OneAt 111 13 :=
  row_of lit1t0_602 lit1t1_0 _ _ unit_13 (fun _ _ => part_0 _ (by omega)) (fun _ hj => by unfold lit1t1_0; rw [row_in 111 111 hj rfl]; rfl) fun i => by unfold lit1t0_602; rw [Nat.mod_mod]
theorem row_112 : OneAt 112 14 :=
  row_of lit1t0_604 lit1t1_0 _ _ unit_14 (fun _ _ => part_0 _ (by omega)) (fun _ hj => by unfold lit1t1_0; rw [row_in 112 112 hj rfl]; rfl) fun i => by unfold lit1t0_604; rw [Nat.mod_mod]
theorem row_113 : OneAt 113 14 :=
  row_of lit1t0_604 lit1t1_0 _ _ unit_14 (fun _ _ => part_0 _ (by omega)) (fun _ hj => by unfold lit1t1_0; rw [row_in 113 113 hj rfl]; rfl) fun i => by unfold lit1t0_604; rw [Nat.mod_mod]
theorem row_114 : OneAt 114 14 :=
  row_of lit1t0_604 lit1t1_0 _ _ unit_14 (fun _ _ => part_0 _ (by omega)) (fun _ hj => by unfold lit1t1_0; rw [row_in 114 114 hj rfl]; rfl) fun i => by unfold lit1t0_604; rw [Nat.mod_mod]
theorem row_115 : OneAt 115 14 :=
  row_of lit1t0_604 lit1t1_0 _ _ unit_14 (fun _ _ => part_0 _ (by omega)) (fun _ hj => by unfold lit1t1_0; rw [row_in 115 115 hj rfl]; rfl) fun i => by unfold lit1t0_604; rw [Nat.mod_mod]
theorem row_116 : OneAt 116 14 :=
  row_of lit1t0_604 lit1t1_0 _ _ unit_14 (fun _ _ => part_0 _ (by omega)) (fun _ hj => by unfold lit1t1_0; rw [row_in 116 116 hj rfl]; rfl) fun i => by unfold lit1t0_604; rw [Nat.mod_mod]
theorem row_117 : OneAt 117 14 :=
  row_of lit1t0_604 lit1t1_0 _ _ unit_14 (fun _ _ => part_0 _ (by omega)) (fun _ hj => by unfold lit1t1_0; rw [row_in 117 117 hj rfl]; rfl) fun i => by unfold lit1t0_604; rw [Nat.mod_mod]
theorem row_118 : OneAt 118 14 :=
  row_of lit1t0_604 lit1t1_0 _ _ unit_14 (fun _ _ => part_0 _ (by omega)) (fun _ hj => by unfold lit1t1_0; rw [row_in 118 118 hj rfl]; rfl) fun i => by unfold lit1t0_604; rw [Nat.mod_mod]
theorem row_119 : OneAt 119 14 :=
  row_of lit1t0_604 lit1t1_0 _ _ unit_14 (fun _ _ => part_0 _ (by omega)) (fun _ hj => by unfold lit1t1_0; rw [row_in 119 119 hj rfl]; rfl) fun i => by unfold lit1t0_604; rw [Nat.mod_mod]
theorem row_120 : OneAt 120 15 :=
  row_of lit1t0_606 lit1t1_0 _ _ unit_15 (fun _ _ => part_0 _ (by omega)) (fun _ hj => by unfold lit1t1_0; rw [row_in 120 120 hj rfl]; rfl) fun i => by unfold lit1t0_606; rw [Nat.mod_mod]
theorem row_121 : OneAt 121 15 :=
  row_of lit1t0_606 lit1t1_0 _ _ unit_15 (fun _ _ => part_0 _ (by omega)) (fun _ hj => by unfold lit1t1_0; rw [row_in 121 121 hj rfl]; rfl) fun i => by unfold lit1t0_606; rw [Nat.mod_mod]
theorem row_122 : OneAt 122 15 :=
  row_of lit1t0_606 lit1t1_0 _ _ unit_15 (fun _ _ => part_0 _ (by omega)) (fun _ hj => by unfold lit1t1_0; rw [row_in 122 122 hj rfl]; rfl) fun i => by unfold lit1t0_606; rw [Nat.mod_mod]
theorem row_123 : OneAt 123 15 :=
  row_of lit1t0_606 lit1t1_0 _ _ unit_15 (fun _ _ => part_0 _ (by omega)) (fun _ hj => by unfold lit1t1_0; rw [row_in 123 123 hj rfl]; rfl) fun i => by unfold lit1t0_606; rw [Nat.mod_mod]
theorem row_124 : OneAt 124 15 :=
  row_of lit1t0_606 lit1t1_0 _ _ unit_15 (fun _ _ => part_0 _ (by omega)) (fun _ hj => by unfold lit1t1_0; rw [row_in 124 124 hj rfl]; rfl) fun i => by unfold lit1t0_606; rw [Nat.mod_mod]
theorem row_125 : OneAt 125 15 :=
  row_of lit1t0_606 lit1t1_0 _ _ unit_15 (fun _ _ => part_0 _ (by omega)) (fun _ hj => by unfold lit1t1_0; rw [row_in 125 125 hj rfl]; rfl) fun i => by unfold lit1t0_606; rw [Nat.mod_mod]
theorem row_126 : OneAt 126 15 :=
  row_of lit1t0_606 lit1t1_0 _ _ unit_15 (fun _ _ => part_0 _ (by omega)) (fun _ hj => by unfold lit1t1_0; rw [row_in 126 126 hj rfl]; rfl) fun i => by unfold lit1t0_606; rw [Nat.mod_mod]
theorem row_127 : OneAt 127 15 :=
  row_of lit1t0_606 lit1t1_0 _ _ unit_15 (fun _ _ => part_0 _ (by omega)) (fun _ hj => by unfold lit1t1_0; rw [row_in 127 127 hj rfl]; rfl) fun i => by unfold lit1t0_606; rw [Nat.mod_mod]
theorem row_128 : OneAt 128 16 :=
  row_of lit1t0_608 lit1t1_1 _ _ unit_16 (fun _ _ => part_1 _ (by omega)) (fun _ hj => by unfold lit1t1_1; rw [row_in 128 0 hj rfl]; rfl) fun i => by unfold lit1t0_608; rw [Nat.mod_mod]
theorem row_129 : OneAt 129 16 :=
  row_of lit1t0_608 lit1t1_1 _ _ unit_16 (fun _ _ => part_1 _ (by omega)) (fun _ hj => by unfold lit1t1_1; rw [row_in 129 1 hj rfl]; rfl) fun i => by unfold lit1t0_608; rw [Nat.mod_mod]
theorem row_130 : OneAt 130 16 :=
  row_of lit1t0_608 lit1t1_1 _ _ unit_16 (fun _ _ => part_1 _ (by omega)) (fun _ hj => by unfold lit1t1_1; rw [row_in 130 2 hj rfl]; rfl) fun i => by unfold lit1t0_608; rw [Nat.mod_mod]
theorem row_131 : OneAt 131 16 :=
  row_of lit1t0_608 lit1t1_1 _ _ unit_16 (fun _ _ => part_1 _ (by omega)) (fun _ hj => by unfold lit1t1_1; rw [row_in 131 3 hj rfl]; rfl) fun i => by unfold lit1t0_608; rw [Nat.mod_mod]
theorem row_132 : OneAt 132 16 :=
  row_of lit1t0_608 lit1t1_1 _ _ unit_16 (fun _ _ => part_1 _ (by omega)) (fun _ hj => by unfold lit1t1_1; rw [row_in 132 4 hj rfl]; rfl) fun i => by unfold lit1t0_608; rw [Nat.mod_mod]
theorem row_133 : OneAt 133 16 :=
  row_of lit1t0_608 lit1t1_1 _ _ unit_16 (fun _ _ => part_1 _ (by omega)) (fun _ hj => by unfold lit1t1_1; rw [row_in 133 5 hj rfl]; rfl) fun i => by unfold lit1t0_608; rw [Nat.mod_mod]
theorem row_134 : OneAt 134 16 :=
  row_of lit1t0_608 lit1t1_1 _ _ unit_16 (fun _ _ => part_1 _ (by omega)) (fun _ hj => by unfold lit1t1_1; rw [row_in 134 6 hj rfl]; rfl) fun i => by unfold lit1t0_608; rw [Nat.mod_mod]
theorem row_135 : OneAt 135 16 :=
  row_of lit1t0_608 lit1t1_1 _ _ unit_16 (fun _ _ => part_1 _ (by omega)) (fun _ hj => by unfold lit1t1_1; rw [row_in 135 7 hj rfl]; rfl) fun i => by unfold lit1t0_608; rw [Nat.mod_mod]
theorem row_136 : OneAt 136 17 :=
  row_of lit1t0_610 lit1t1_1 _ _ unit_17 (fun _ _ => part_1 _ (by omega)) (fun _ hj => by unfold lit1t1_1; rw [row_in 136 8 hj rfl]; rfl) fun i => by unfold lit1t0_610; rw [Nat.mod_mod]
theorem row_137 : OneAt 137 17 :=
  row_of lit1t0_610 lit1t1_1 _ _ unit_17 (fun _ _ => part_1 _ (by omega)) (fun _ hj => by unfold lit1t1_1; rw [row_in 137 9 hj rfl]; rfl) fun i => by unfold lit1t0_610; rw [Nat.mod_mod]
theorem row_138 : OneAt 138 17 :=
  row_of lit1t0_610 lit1t1_1 _ _ unit_17 (fun _ _ => part_1 _ (by omega)) (fun _ hj => by unfold lit1t1_1; rw [row_in 138 10 hj rfl]; rfl) fun i => by unfold lit1t0_610; rw [Nat.mod_mod]
theorem row_139 : OneAt 139 17 :=
  row_of lit1t0_610 lit1t1_1 _ _ unit_17 (fun _ _ => part_1 _ (by omega)) (fun _ hj => by unfold lit1t1_1; rw [row_in 139 11 hj rfl]; rfl) fun i => by unfold lit1t0_610; rw [Nat.mod_mod]
theorem row_140 : OneAt 140 17 :=
  row_of lit1t0_610 lit1t1_1 _ _ unit_17 (fun _ _ => part_1 _ (by omega)) (fun _ hj => by unfold lit1t1_1; rw [row_in 140 12 hj rfl]; rfl) fun i => by unfold lit1t0_610; rw [Nat.mod_mod]
theorem row_141 : OneAt 141 17 :=
  row_of lit1t0_610 lit1t1_1 _ _ unit_17 (fun _ _ => part_1 _ (by omega)) (fun _ hj => by unfold lit1t1_1; rw [row_in 141 13 hj rfl]; rfl) fun i => by unfold lit1t0_610; rw [Nat.mod_mod]
theorem row_142 : OneAt 142 17 :=
  row_of lit1t0_610 lit1t1_1 _ _ unit_17 (fun _ _ => part_1 _ (by omega)) (fun _ hj => by unfold lit1t1_1; rw [row_in 142 14 hj rfl]; rfl) fun i => by unfold lit1t0_610; rw [Nat.mod_mod]
theorem row_143 : OneAt 143 17 :=
  row_of lit1t0_610 lit1t1_1 _ _ unit_17 (fun _ _ => part_1 _ (by omega)) (fun _ hj => by unfold lit1t1_1; rw [row_in 143 15 hj rfl]; rfl) fun i => by unfold lit1t0_610; rw [Nat.mod_mod]
theorem row_144 : OneAt 144 18 :=
  row_of lit1t0_612 lit1t1_1 _ _ unit_18 (fun _ _ => part_1 _ (by omega)) (fun _ hj => by unfold lit1t1_1; rw [row_in 144 16 hj rfl]; rfl) fun i => by unfold lit1t0_612; rw [Nat.mod_mod]
theorem row_145 : OneAt 145 18 :=
  row_of lit1t0_612 lit1t1_1 _ _ unit_18 (fun _ _ => part_1 _ (by omega)) (fun _ hj => by unfold lit1t1_1; rw [row_in 145 17 hj rfl]; rfl) fun i => by unfold lit1t0_612; rw [Nat.mod_mod]
theorem row_146 : OneAt 146 18 :=
  row_of lit1t0_612 lit1t1_1 _ _ unit_18 (fun _ _ => part_1 _ (by omega)) (fun _ hj => by unfold lit1t1_1; rw [row_in 146 18 hj rfl]; rfl) fun i => by unfold lit1t0_612; rw [Nat.mod_mod]
theorem row_147 : OneAt 147 18 :=
  row_of lit1t0_612 lit1t1_1 _ _ unit_18 (fun _ _ => part_1 _ (by omega)) (fun _ hj => by unfold lit1t1_1; rw [row_in 147 19 hj rfl]; rfl) fun i => by unfold lit1t0_612; rw [Nat.mod_mod]
theorem row_148 : OneAt 148 18 :=
  row_of lit1t0_612 lit1t1_1 _ _ unit_18 (fun _ _ => part_1 _ (by omega)) (fun _ hj => by unfold lit1t1_1; rw [row_in 148 20 hj rfl]; rfl) fun i => by unfold lit1t0_612; rw [Nat.mod_mod]
theorem row_149 : OneAt 149 18 :=
  row_of lit1t0_612 lit1t1_1 _ _ unit_18 (fun _ _ => part_1 _ (by omega)) (fun _ hj => by unfold lit1t1_1; rw [row_in 149 21 hj rfl]; rfl) fun i => by unfold lit1t0_612; rw [Nat.mod_mod]
theorem row_150 : OneAt 150 18 :=
  row_of lit1t0_612 lit1t1_1 _ _ unit_18 (fun _ _ => part_1 _ (by omega)) (fun _ hj => by unfold lit1t1_1; rw [row_in 150 22 hj rfl]; rfl) fun i => by unfold lit1t0_612; rw [Nat.mod_mod]
theorem row_151 : OneAt 151 18 :=
  row_of lit1t0_612 lit1t1_1 _ _ unit_18 (fun _ _ => part_1 _ (by omega)) (fun _ hj => by unfold lit1t1_1; rw [row_in 151 23 hj rfl]; rfl) fun i => by unfold lit1t0_612; rw [Nat.mod_mod]
theorem row_152 : OneAt 152 19 :=
  row_of lit1t0_614 lit1t1_1 _ _ unit_19 (fun _ _ => part_1 _ (by omega)) (fun _ hj => by unfold lit1t1_1; rw [row_in 152 24 hj rfl]; rfl) fun i => by unfold lit1t0_614; rw [Nat.mod_mod]
theorem row_153 : OneAt 153 19 :=
  row_of lit1t0_614 lit1t1_1 _ _ unit_19 (fun _ _ => part_1 _ (by omega)) (fun _ hj => by unfold lit1t1_1; rw [row_in 153 25 hj rfl]; rfl) fun i => by unfold lit1t0_614; rw [Nat.mod_mod]
theorem row_154 : OneAt 154 19 :=
  row_of lit1t0_614 lit1t1_1 _ _ unit_19 (fun _ _ => part_1 _ (by omega)) (fun _ hj => by unfold lit1t1_1; rw [row_in 154 26 hj rfl]; rfl) fun i => by unfold lit1t0_614; rw [Nat.mod_mod]
theorem row_155 : OneAt 155 19 :=
  row_of lit1t0_614 lit1t1_1 _ _ unit_19 (fun _ _ => part_1 _ (by omega)) (fun _ hj => by unfold lit1t1_1; rw [row_in 155 27 hj rfl]; rfl) fun i => by unfold lit1t0_614; rw [Nat.mod_mod]
theorem row_156 : OneAt 156 19 :=
  row_of lit1t0_614 lit1t1_1 _ _ unit_19 (fun _ _ => part_1 _ (by omega)) (fun _ hj => by unfold lit1t1_1; rw [row_in 156 28 hj rfl]; rfl) fun i => by unfold lit1t0_614; rw [Nat.mod_mod]
theorem row_157 : OneAt 157 19 :=
  row_of lit1t0_614 lit1t1_1 _ _ unit_19 (fun _ _ => part_1 _ (by omega)) (fun _ hj => by unfold lit1t1_1; rw [row_in 157 29 hj rfl]; rfl) fun i => by unfold lit1t0_614; rw [Nat.mod_mod]
theorem row_158 : OneAt 158 19 :=
  row_of lit1t0_614 lit1t1_1 _ _ unit_19 (fun _ _ => part_1 _ (by omega)) (fun _ hj => by unfold lit1t1_1; rw [row_in 158 30 hj rfl]; rfl) fun i => by unfold lit1t0_614; rw [Nat.mod_mod]
theorem row_159 : OneAt 159 19 :=
  row_of lit1t0_614 lit1t1_1 _ _ unit_19 (fun _ _ => part_1 _ (by omega)) (fun _ hj => by unfold lit1t1_1; rw [row_in 159 31 hj rfl]; rfl) fun i => by unfold lit1t0_614; rw [Nat.mod_mod]
theorem row_160 : OneAt 160 20 :=
  row_of lit1t0_616 lit1t1_1 _ _ unit_20 (fun _ _ => part_1 _ (by omega)) (fun _ hj => by unfold lit1t1_1; rw [row_in 160 32 hj rfl]; rfl) fun i => by unfold lit1t0_616; rw [Nat.mod_mod]
theorem row_161 : OneAt 161 20 :=
  row_of lit1t0_616 lit1t1_1 _ _ unit_20 (fun _ _ => part_1 _ (by omega)) (fun _ hj => by unfold lit1t1_1; rw [row_in 161 33 hj rfl]; rfl) fun i => by unfold lit1t0_616; rw [Nat.mod_mod]
theorem row_162 : OneAt 162 20 :=
  row_of lit1t0_616 lit1t1_1 _ _ unit_20 (fun _ _ => part_1 _ (by omega)) (fun _ hj => by unfold lit1t1_1; rw [row_in 162 34 hj rfl]; rfl) fun i => by unfold lit1t0_616; rw [Nat.mod_mod]
theorem row_163 : OneAt 163 20 :=
  row_of lit1t0_616 lit1t1_1 _ _ unit_20 (fun _ _ => part_1 _ (by omega)) (fun _ hj => by unfold lit1t1_1; rw [row_in 163 35 hj rfl]; rfl) fun i => by unfold lit1t0_616; rw [Nat.mod_mod]
theorem row_164 : OneAt 164 20 :=
  row_of lit1t0_616 lit1t1_1 _ _ unit_20 (fun _ _ => part_1 _ (by omega)) (fun _ hj => by unfold lit1t1_1; rw [row_in 164 36 hj rfl]; rfl) fun i => by unfold lit1t0_616; rw [Nat.mod_mod]
theorem row_165 : OneAt 165 20 :=
  row_of lit1t0_616 lit1t1_1 _ _ unit_20 (fun _ _ => part_1 _ (by omega)) (fun _ hj => by unfold lit1t1_1; rw [row_in 165 37 hj rfl]; rfl) fun i => by unfold lit1t0_616; rw [Nat.mod_mod]
theorem row_166 : OneAt 166 20 :=
  row_of lit1t0_616 lit1t1_1 _ _ unit_20 (fun _ _ => part_1 _ (by omega)) (fun _ hj => by unfold lit1t1_1; rw [row_in 166 38 hj rfl]; rfl) fun i => by unfold lit1t0_616; rw [Nat.mod_mod]
theorem row_167 : OneAt 167 20 :=
  row_of lit1t0_616 lit1t1_1 _ _ unit_20 (fun _ _ => part_1 _ (by omega)) (fun _ hj => by unfold lit1t1_1; rw [row_in 167 39 hj rfl]; rfl) fun i => by unfold lit1t0_616; rw [Nat.mod_mod]
theorem row_168 : OneAt 168 21 :=
  row_of lit1t0_618 lit1t1_1 _ _ unit_21 (fun _ _ => part_1 _ (by omega)) (fun _ hj => by unfold lit1t1_1; rw [row_in 168 40 hj rfl]; rfl) fun i => by unfold lit1t0_618; rw [Nat.mod_mod]
theorem row_169 : OneAt 169 21 :=
  row_of lit1t0_618 lit1t1_1 _ _ unit_21 (fun _ _ => part_1 _ (by omega)) (fun _ hj => by unfold lit1t1_1; rw [row_in 169 41 hj rfl]; rfl) fun i => by unfold lit1t0_618; rw [Nat.mod_mod]
theorem row_170 : OneAt 170 21 :=
  row_of lit1t0_618 lit1t1_1 _ _ unit_21 (fun _ _ => part_1 _ (by omega)) (fun _ hj => by unfold lit1t1_1; rw [row_in 170 42 hj rfl]; rfl) fun i => by unfold lit1t0_618; rw [Nat.mod_mod]
theorem row_171 : OneAt 171 21 :=
  row_of lit1t0_618 lit1t1_1 _ _ unit_21 (fun _ _ => part_1 _ (by omega)) (fun _ hj => by unfold lit1t1_1; rw [row_in 171 43 hj rfl]; rfl) fun i => by unfold lit1t0_618; rw [Nat.mod_mod]
theorem row_172 : OneAt 172 21 :=
  row_of lit1t0_618 lit1t1_1 _ _ unit_21 (fun _ _ => part_1 _ (by omega)) (fun _ hj => by unfold lit1t1_1; rw [row_in 172 44 hj rfl]; rfl) fun i => by unfold lit1t0_618; rw [Nat.mod_mod]
theorem row_173 : OneAt 173 21 :=
  row_of lit1t0_618 lit1t1_1 _ _ unit_21 (fun _ _ => part_1 _ (by omega)) (fun _ hj => by unfold lit1t1_1; rw [row_in 173 45 hj rfl]; rfl) fun i => by unfold lit1t0_618; rw [Nat.mod_mod]
theorem row_174 : OneAt 174 21 :=
  row_of lit1t0_618 lit1t1_1 _ _ unit_21 (fun _ _ => part_1 _ (by omega)) (fun _ hj => by unfold lit1t1_1; rw [row_in 174 46 hj rfl]; rfl) fun i => by unfold lit1t0_618; rw [Nat.mod_mod]
theorem row_175 : OneAt 175 21 :=
  row_of lit1t0_618 lit1t1_1 _ _ unit_21 (fun _ _ => part_1 _ (by omega)) (fun _ hj => by unfold lit1t1_1; rw [row_in 175 47 hj rfl]; rfl) fun i => by unfold lit1t0_618; rw [Nat.mod_mod]
theorem row_176 : OneAt 176 22 :=
  row_of lit1t0_620 lit1t1_1 _ _ unit_22 (fun _ _ => part_1 _ (by omega)) (fun _ hj => by unfold lit1t1_1; rw [row_in 176 48 hj rfl]; rfl) fun i => by unfold lit1t0_620; rw [Nat.mod_mod]
theorem row_177 : OneAt 177 22 :=
  row_of lit1t0_620 lit1t1_1 _ _ unit_22 (fun _ _ => part_1 _ (by omega)) (fun _ hj => by unfold lit1t1_1; rw [row_in 177 49 hj rfl]; rfl) fun i => by unfold lit1t0_620; rw [Nat.mod_mod]
theorem row_178 : OneAt 178 22 :=
  row_of lit1t0_620 lit1t1_1 _ _ unit_22 (fun _ _ => part_1 _ (by omega)) (fun _ hj => by unfold lit1t1_1; rw [row_in 178 50 hj rfl]; rfl) fun i => by unfold lit1t0_620; rw [Nat.mod_mod]
theorem row_179 : OneAt 179 22 :=
  row_of lit1t0_620 lit1t1_1 _ _ unit_22 (fun _ _ => part_1 _ (by omega)) (fun _ hj => by unfold lit1t1_1; rw [row_in 179 51 hj rfl]; rfl) fun i => by unfold lit1t0_620; rw [Nat.mod_mod]
theorem row_180 : OneAt 180 22 :=
  row_of lit1t0_620 lit1t1_1 _ _ unit_22 (fun _ _ => part_1 _ (by omega)) (fun _ hj => by unfold lit1t1_1; rw [row_in 180 52 hj rfl]; rfl) fun i => by unfold lit1t0_620; rw [Nat.mod_mod]
theorem row_181 : OneAt 181 22 :=
  row_of lit1t0_620 lit1t1_1 _ _ unit_22 (fun _ _ => part_1 _ (by omega)) (fun _ hj => by unfold lit1t1_1; rw [row_in 181 53 hj rfl]; rfl) fun i => by unfold lit1t0_620; rw [Nat.mod_mod]
theorem row_182 : OneAt 182 22 :=
  row_of lit1t0_620 lit1t1_1 _ _ unit_22 (fun _ _ => part_1 _ (by omega)) (fun _ hj => by unfold lit1t1_1; rw [row_in 182 54 hj rfl]; rfl) fun i => by unfold lit1t0_620; rw [Nat.mod_mod]
theorem row_183 : OneAt 183 22 :=
  row_of lit1t0_620 lit1t1_1 _ _ unit_22 (fun _ _ => part_1 _ (by omega)) (fun _ hj => by unfold lit1t1_1; rw [row_in 183 55 hj rfl]; rfl) fun i => by unfold lit1t0_620; rw [Nat.mod_mod]
theorem row_184 : OneAt 184 23 :=
  row_of lit1t0_622 lit1t1_1 _ _ unit_23 (fun _ _ => part_1 _ (by omega)) (fun _ hj => by unfold lit1t1_1; rw [row_in 184 56 hj rfl]; rfl) fun i => by unfold lit1t0_622; rw [Nat.mod_mod]
theorem row_185 : OneAt 185 23 :=
  row_of lit1t0_622 lit1t1_1 _ _ unit_23 (fun _ _ => part_1 _ (by omega)) (fun _ hj => by unfold lit1t1_1; rw [row_in 185 57 hj rfl]; rfl) fun i => by unfold lit1t0_622; rw [Nat.mod_mod]
theorem row_186 : OneAt 186 23 :=
  row_of lit1t0_622 lit1t1_1 _ _ unit_23 (fun _ _ => part_1 _ (by omega)) (fun _ hj => by unfold lit1t1_1; rw [row_in 186 58 hj rfl]; rfl) fun i => by unfold lit1t0_622; rw [Nat.mod_mod]
theorem row_187 : OneAt 187 23 :=
  row_of lit1t0_622 lit1t1_1 _ _ unit_23 (fun _ _ => part_1 _ (by omega)) (fun _ hj => by unfold lit1t1_1; rw [row_in 187 59 hj rfl]; rfl) fun i => by unfold lit1t0_622; rw [Nat.mod_mod]
theorem row_188 : OneAt 188 23 :=
  row_of lit1t0_622 lit1t1_1 _ _ unit_23 (fun _ _ => part_1 _ (by omega)) (fun _ hj => by unfold lit1t1_1; rw [row_in 188 60 hj rfl]; rfl) fun i => by unfold lit1t0_622; rw [Nat.mod_mod]
theorem row_189 : OneAt 189 23 :=
  row_of lit1t0_622 lit1t1_1 _ _ unit_23 (fun _ _ => part_1 _ (by omega)) (fun _ hj => by unfold lit1t1_1; rw [row_in 189 61 hj rfl]; rfl) fun i => by unfold lit1t0_622; rw [Nat.mod_mod]
theorem row_190 : OneAt 190 23 :=
  row_of lit1t0_622 lit1t1_1 _ _ unit_23 (fun _ _ => part_1 _ (by omega)) (fun _ hj => by unfold lit1t1_1; rw [row_in 190 62 hj rfl]; rfl) fun i => by unfold lit1t0_622; rw [Nat.mod_mod]
theorem row_191 : OneAt 191 23 :=
  row_of lit1t0_622 lit1t1_1 _ _ unit_23 (fun _ _ => part_1 _ (by omega)) (fun _ hj => by unfold lit1t1_1; rw [row_in 191 63 hj rfl]; rfl) fun i => by unfold lit1t0_622; rw [Nat.mod_mod]

end Cert.Moe

end
-- ==== Proof.RowTab1.lean ====
/- The repetition table of the expert of patch length 6: row `l` holds a one at column `l / 6` and zeros elsewhere. -/
module

public import proofs.«01_k».proof.Proof.RowPart

@[expose] public section

set_option maxRecDepth 100000

namespace Cert.Moe

open Cert.KernelIdeal

theorem row_192 : OneAt 192 0 :=
  row_of lit1t0_576 lit1t1_1 _ _ unit_0 (fun _ _ => part_1 _ (by omega)) (fun _ hj => by unfold lit1t1_1; rw [row_in 192 64 hj rfl]; rfl) fun i => by unfold lit1t0_576; rw [Nat.mod_mod]
theorem row_193 : OneAt 193 0 :=
  row_of lit1t0_576 lit1t1_1 _ _ unit_0 (fun _ _ => part_1 _ (by omega)) (fun _ hj => by unfold lit1t1_1; rw [row_in 193 65 hj rfl]; rfl) fun i => by unfold lit1t0_576; rw [Nat.mod_mod]
theorem row_194 : OneAt 194 0 :=
  row_of lit1t0_576 lit1t1_1 _ _ unit_0 (fun _ _ => part_1 _ (by omega)) (fun _ hj => by unfold lit1t1_1; rw [row_in 194 66 hj rfl]; rfl) fun i => by unfold lit1t0_576; rw [Nat.mod_mod]
theorem row_195 : OneAt 195 0 :=
  row_of lit1t0_576 lit1t1_1 _ _ unit_0 (fun _ _ => part_1 _ (by omega)) (fun _ hj => by unfold lit1t1_1; rw [row_in 195 67 hj rfl]; rfl) fun i => by unfold lit1t0_576; rw [Nat.mod_mod]
theorem row_196 : OneAt 196 0 :=
  row_of lit1t0_576 lit1t1_1 _ _ unit_0 (fun _ _ => part_1 _ (by omega)) (fun _ hj => by unfold lit1t1_1; rw [row_in 196 68 hj rfl]; rfl) fun i => by unfold lit1t0_576; rw [Nat.mod_mod]
theorem row_197 : OneAt 197 0 :=
  row_of lit1t0_576 lit1t1_1 _ _ unit_0 (fun _ _ => part_1 _ (by omega)) (fun _ hj => by unfold lit1t1_1; rw [row_in 197 69 hj rfl]; rfl) fun i => by unfold lit1t0_576; rw [Nat.mod_mod]
theorem row_198 : OneAt 198 1 :=
  row_of lit1t0_578 lit1t1_1 _ _ unit_1 (fun _ _ => part_1 _ (by omega)) (fun _ hj => by unfold lit1t1_1; rw [row_in 198 70 hj rfl]; rfl) fun i => by unfold lit1t0_578; rw [Nat.mod_mod]
theorem row_199 : OneAt 199 1 :=
  row_of lit1t0_578 lit1t1_1 _ _ unit_1 (fun _ _ => part_1 _ (by omega)) (fun _ hj => by unfold lit1t1_1; rw [row_in 199 71 hj rfl]; rfl) fun i => by unfold lit1t0_578; rw [Nat.mod_mod]
theorem row_200 : OneAt 200 1 :=
  row_of lit1t0_578 lit1t1_1 _ _ unit_1 (fun _ _ => part_1 _ (by omega)) (fun _ hj => by unfold lit1t1_1; rw [row_in 200 72 hj rfl]; rfl) fun i => by unfold lit1t0_578; rw [Nat.mod_mod]
theorem row_201 : OneAt 201 1 :=
  row_of lit1t0_578 lit1t1_1 _ _ unit_1 (fun _ _ => part_1 _ (by omega)) (fun _ hj => by unfold lit1t1_1; rw [row_in 201 73 hj rfl]; rfl) fun i => by unfold lit1t0_578; rw [Nat.mod_mod]
theorem row_202 : OneAt 202 1 :=
  row_of lit1t0_578 lit1t1_1 _ _ unit_1 (fun _ _ => part_1 _ (by omega)) (fun _ hj => by unfold lit1t1_1; rw [row_in 202 74 hj rfl]; rfl) fun i => by unfold lit1t0_578; rw [Nat.mod_mod]
theorem row_203 : OneAt 203 1 :=
  row_of lit1t0_578 lit1t1_1 _ _ unit_1 (fun _ _ => part_1 _ (by omega)) (fun _ hj => by unfold lit1t1_1; rw [row_in 203 75 hj rfl]; rfl) fun i => by unfold lit1t0_578; rw [Nat.mod_mod]
theorem row_204 : OneAt 204 2 :=
  row_of lit1t0_580 lit1t1_1 _ _ unit_2 (fun _ _ => part_1 _ (by omega)) (fun _ hj => by unfold lit1t1_1; rw [row_in 204 76 hj rfl]; rfl) fun i => by unfold lit1t0_580; rw [Nat.mod_mod]
theorem row_205 : OneAt 205 2 :=
  row_of lit1t0_580 lit1t1_1 _ _ unit_2 (fun _ _ => part_1 _ (by omega)) (fun _ hj => by unfold lit1t1_1; rw [row_in 205 77 hj rfl]; rfl) fun i => by unfold lit1t0_580; rw [Nat.mod_mod]
theorem row_206 : OneAt 206 2 :=
  row_of lit1t0_580 lit1t1_1 _ _ unit_2 (fun _ _ => part_1 _ (by omega)) (fun _ hj => by unfold lit1t1_1; rw [row_in 206 78 hj rfl]; rfl) fun i => by unfold lit1t0_580; rw [Nat.mod_mod]
theorem row_207 : OneAt 207 2 :=
  row_of lit1t0_580 lit1t1_1 _ _ unit_2 (fun _ _ => part_1 _ (by omega)) (fun _ hj => by unfold lit1t1_1; rw [row_in 207 79 hj rfl]; rfl) fun i => by unfold lit1t0_580; rw [Nat.mod_mod]
theorem row_208 : OneAt 208 2 :=
  row_of lit1t0_580 lit1t1_1 _ _ unit_2 (fun _ _ => part_1 _ (by omega)) (fun _ hj => by unfold lit1t1_1; rw [row_in 208 80 hj rfl]; rfl) fun i => by unfold lit1t0_580; rw [Nat.mod_mod]
theorem row_209 : OneAt 209 2 :=
  row_of lit1t0_580 lit1t1_1 _ _ unit_2 (fun _ _ => part_1 _ (by omega)) (fun _ hj => by unfold lit1t1_1; rw [row_in 209 81 hj rfl]; rfl) fun i => by unfold lit1t0_580; rw [Nat.mod_mod]
theorem row_210 : OneAt 210 3 :=
  row_of lit1t0_582 lit1t1_1 _ _ unit_3 (fun _ _ => part_1 _ (by omega)) (fun _ hj => by unfold lit1t1_1; rw [row_in 210 82 hj rfl]; rfl) fun i => by unfold lit1t0_582; rw [Nat.mod_mod]
theorem row_211 : OneAt 211 3 :=
  row_of lit1t0_582 lit1t1_1 _ _ unit_3 (fun _ _ => part_1 _ (by omega)) (fun _ hj => by unfold lit1t1_1; rw [row_in 211 83 hj rfl]; rfl) fun i => by unfold lit1t0_582; rw [Nat.mod_mod]
theorem row_212 : OneAt 212 3 :=
  row_of lit1t0_582 lit1t1_1 _ _ unit_3 (fun _ _ => part_1 _ (by omega)) (fun _ hj => by unfold lit1t1_1; rw [row_in 212 84 hj rfl]; rfl) fun i => by unfold lit1t0_582; rw [Nat.mod_mod]
theorem row_213 : OneAt 213 3 :=
  row_of lit1t0_582 lit1t1_1 _ _ unit_3 (fun _ _ => part_1 _ (by omega)) (fun _ hj => by unfold lit1t1_1; rw [row_in 213 85 hj rfl]; rfl) fun i => by unfold lit1t0_582; rw [Nat.mod_mod]
theorem row_214 : OneAt 214 3 :=
  row_of lit1t0_582 lit1t1_1 _ _ unit_3 (fun _ _ => part_1 _ (by omega)) (fun _ hj => by unfold lit1t1_1; rw [row_in 214 86 hj rfl]; rfl) fun i => by unfold lit1t0_582; rw [Nat.mod_mod]
theorem row_215 : OneAt 215 3 :=
  row_of lit1t0_582 lit1t1_1 _ _ unit_3 (fun _ _ => part_1 _ (by omega)) (fun _ hj => by unfold lit1t1_1; rw [row_in 215 87 hj rfl]; rfl) fun i => by unfold lit1t0_582; rw [Nat.mod_mod]
theorem row_216 : OneAt 216 4 :=
  row_of lit1t0_584 lit1t1_1 _ _ unit_4 (fun _ _ => part_1 _ (by omega)) (fun _ hj => by unfold lit1t1_1; rw [row_in 216 88 hj rfl]; rfl) fun i => by unfold lit1t0_584; rw [Nat.mod_mod]
theorem row_217 : OneAt 217 4 :=
  row_of lit1t0_584 lit1t1_1 _ _ unit_4 (fun _ _ => part_1 _ (by omega)) (fun _ hj => by unfold lit1t1_1; rw [row_in 217 89 hj rfl]; rfl) fun i => by unfold lit1t0_584; rw [Nat.mod_mod]
theorem row_218 : OneAt 218 4 :=
  row_of lit1t0_584 lit1t1_1 _ _ unit_4 (fun _ _ => part_1 _ (by omega)) (fun _ hj => by unfold lit1t1_1; rw [row_in 218 90 hj rfl]; rfl) fun i => by unfold lit1t0_584; rw [Nat.mod_mod]
theorem row_219 : OneAt 219 4 :=
  row_of lit1t0_584 lit1t1_1 _ _ unit_4 (fun _ _ => part_1 _ (by omega)) (fun _ hj => by unfold lit1t1_1; rw [row_in 219 91 hj rfl]; rfl) fun i => by unfold lit1t0_584; rw [Nat.mod_mod]
theorem row_220 : OneAt 220 4 :=
  row_of lit1t0_584 lit1t1_1 _ _ unit_4 (fun _ _ => part_1 _ (by omega)) (fun _ hj => by unfold lit1t1_1; rw [row_in 220 92 hj rfl]; rfl) fun i => by unfold lit1t0_584; rw [Nat.mod_mod]
theorem row_221 : OneAt 221 4 :=
  row_of lit1t0_584 lit1t1_1 _ _ unit_4 (fun _ _ => part_1 _ (by omega)) (fun _ hj => by unfold lit1t1_1; rw [row_in 221 93 hj rfl]; rfl) fun i => by unfold lit1t0_584; rw [Nat.mod_mod]
theorem row_222 : OneAt 222 5 :=
  row_of lit1t0_586 lit1t1_1 _ _ unit_5 (fun _ _ => part_1 _ (by omega)) (fun _ hj => by unfold lit1t1_1; rw [row_in 222 94 hj rfl]; rfl) fun i => by unfold lit1t0_586; rw [Nat.mod_mod]
theorem row_223 : OneAt 223 5 :=
  row_of lit1t0_586 lit1t1_1 _ _ unit_5 (fun _ _ => part_1 _ (by omega)) (fun _ hj => by unfold lit1t1_1; rw [row_in 223 95 hj rfl]; rfl) fun i => by unfold lit1t0_586; rw [Nat.mod_mod]
theorem row_224 : OneAt 224 5 :=
  row_of lit1t0_586 lit1t1_1 _ _ unit_5 (fun _ _ => part_1 _ (by omega)) (fun _ hj => by unfold lit1t1_1; rw [row_in 224 96 hj rfl]; rfl) fun i => by unfold lit1t0_586; rw [Nat.mod_mod]
theorem row_225 : OneAt 225 5 :=
  row_of lit1t0_586 lit1t1_1 _ _ unit_5 (fun _ _ => part_1 _ (by omega)) (fun _ hj => by unfold lit1t1_1; rw [row_in 225 97 hj rfl]; rfl) fun i => by unfold lit1t0_586; rw [Nat.mod_mod]
theorem row_226 : OneAt 226 5 :=
  row_of lit1t0_586 lit1t1_1 _ _ unit_5 (fun _ _ => part_1 _ (by omega)) (fun _ hj => by unfold lit1t1_1; rw [row_in 226 98 hj rfl]; rfl) fun i => by unfold lit1t0_586; rw [Nat.mod_mod]
theorem row_227 : OneAt 227 5 :=
  row_of lit1t0_586 lit1t1_1 _ _ unit_5 (fun _ _ => part_1 _ (by omega)) (fun _ hj => by unfold lit1t1_1; rw [row_in 227 99 hj rfl]; rfl) fun i => by unfold lit1t0_586; rw [Nat.mod_mod]
theorem row_228 : OneAt 228 6 :=
  row_of lit1t0_588 lit1t1_1 _ _ unit_6 (fun _ _ => part_1 _ (by omega)) (fun _ hj => by unfold lit1t1_1; rw [row_in 228 100 hj rfl]; rfl) fun i => by unfold lit1t0_588; rw [Nat.mod_mod]
theorem row_229 : OneAt 229 6 :=
  row_of lit1t0_588 lit1t1_1 _ _ unit_6 (fun _ _ => part_1 _ (by omega)) (fun _ hj => by unfold lit1t1_1; rw [row_in 229 101 hj rfl]; rfl) fun i => by unfold lit1t0_588; rw [Nat.mod_mod]
theorem row_230 : OneAt 230 6 :=
  row_of lit1t0_588 lit1t1_1 _ _ unit_6 (fun _ _ => part_1 _ (by omega)) (fun _ hj => by unfold lit1t1_1; rw [row_in 230 102 hj rfl]; rfl) fun i => by unfold lit1t0_588; rw [Nat.mod_mod]
theorem row_231 : OneAt 231 6 :=
  row_of lit1t0_588 lit1t1_1 _ _ unit_6 (fun _ _ => part_1 _ (by omega)) (fun _ hj => by unfold lit1t1_1; rw [row_in 231 103 hj rfl]; rfl) fun i => by unfold lit1t0_588; rw [Nat.mod_mod]
theorem row_232 : OneAt 232 6 :=
  row_of lit1t0_588 lit1t1_1 _ _ unit_6 (fun _ _ => part_1 _ (by omega)) (fun _ hj => by unfold lit1t1_1; rw [row_in 232 104 hj rfl]; rfl) fun i => by unfold lit1t0_588; rw [Nat.mod_mod]
theorem row_233 : OneAt 233 6 :=
  row_of lit1t0_588 lit1t1_1 _ _ unit_6 (fun _ _ => part_1 _ (by omega)) (fun _ hj => by unfold lit1t1_1; rw [row_in 233 105 hj rfl]; rfl) fun i => by unfold lit1t0_588; rw [Nat.mod_mod]
theorem row_234 : OneAt 234 7 :=
  row_of lit1t0_590 lit1t1_1 _ _ unit_7 (fun _ _ => part_1 _ (by omega)) (fun _ hj => by unfold lit1t1_1; rw [row_in 234 106 hj rfl]; rfl) fun i => by unfold lit1t0_590; rw [Nat.mod_mod]
theorem row_235 : OneAt 235 7 :=
  row_of lit1t0_590 lit1t1_1 _ _ unit_7 (fun _ _ => part_1 _ (by omega)) (fun _ hj => by unfold lit1t1_1; rw [row_in 235 107 hj rfl]; rfl) fun i => by unfold lit1t0_590; rw [Nat.mod_mod]
theorem row_236 : OneAt 236 7 :=
  row_of lit1t0_590 lit1t1_1 _ _ unit_7 (fun _ _ => part_1 _ (by omega)) (fun _ hj => by unfold lit1t1_1; rw [row_in 236 108 hj rfl]; rfl) fun i => by unfold lit1t0_590; rw [Nat.mod_mod]
theorem row_237 : OneAt 237 7 :=
  row_of lit1t0_590 lit1t1_1 _ _ unit_7 (fun _ _ => part_1 _ (by omega)) (fun _ hj => by unfold lit1t1_1; rw [row_in 237 109 hj rfl]; rfl) fun i => by unfold lit1t0_590; rw [Nat.mod_mod]
theorem row_238 : OneAt 238 7 :=
  row_of lit1t0_590 lit1t1_1 _ _ unit_7 (fun _ _ => part_1 _ (by omega)) (fun _ hj => by unfold lit1t1_1; rw [row_in 238 110 hj rfl]; rfl) fun i => by unfold lit1t0_590; rw [Nat.mod_mod]
theorem row_239 : OneAt 239 7 :=
  row_of lit1t0_590 lit1t1_1 _ _ unit_7 (fun _ _ => part_1 _ (by omega)) (fun _ hj => by unfold lit1t1_1; rw [row_in 239 111 hj rfl]; rfl) fun i => by unfold lit1t0_590; rw [Nat.mod_mod]
theorem row_240 : OneAt 240 8 :=
  row_of lit1t0_592 lit1t1_1 _ _ unit_8 (fun _ _ => part_1 _ (by omega)) (fun _ hj => by unfold lit1t1_1; rw [row_in 240 112 hj rfl]; rfl) fun i => by unfold lit1t0_592; rw [Nat.mod_mod]
theorem row_241 : OneAt 241 8 :=
  row_of lit1t0_592 lit1t1_1 _ _ unit_8 (fun _ _ => part_1 _ (by omega)) (fun _ hj => by unfold lit1t1_1; rw [row_in 241 113 hj rfl]; rfl) fun i => by unfold lit1t0_592; rw [Nat.mod_mod]
theorem row_242 : OneAt 242 8 :=
  row_of lit1t0_592 lit1t1_1 _ _ unit_8 (fun _ _ => part_1 _ (by omega)) (fun _ hj => by unfold lit1t1_1; rw [row_in 242 114 hj rfl]; rfl) fun i => by unfold lit1t0_592; rw [Nat.mod_mod]
theorem row_243 : OneAt 243 8 :=
  row_of lit1t0_592 lit1t1_1 _ _ unit_8 (fun _ _ => part_1 _ (by omega)) (fun _ hj => by unfold lit1t1_1; rw [row_in 243 115 hj rfl]; rfl) fun i => by unfold lit1t0_592; rw [Nat.mod_mod]
theorem row_244 : OneAt 244 8 :=
  row_of lit1t0_592 lit1t1_1 _ _ unit_8 (fun _ _ => part_1 _ (by omega)) (fun _ hj => by unfold lit1t1_1; rw [row_in 244 116 hj rfl]; rfl) fun i => by unfold lit1t0_592; rw [Nat.mod_mod]
theorem row_245 : OneAt 245 8 :=
  row_of lit1t0_592 lit1t1_1 _ _ unit_8 (fun _ _ => part_1 _ (by omega)) (fun _ hj => by unfold lit1t1_1; rw [row_in 245 117 hj rfl]; rfl) fun i => by unfold lit1t0_592; rw [Nat.mod_mod]
theorem row_246 : OneAt 246 9 :=
  row_of lit1t0_594 lit1t1_1 _ _ unit_9 (fun _ _ => part_1 _ (by omega)) (fun _ hj => by unfold lit1t1_1; rw [row_in 246 118 hj rfl]; rfl) fun i => by unfold lit1t0_594; rw [Nat.mod_mod]
theorem row_247 : OneAt 247 9 :=
  row_of lit1t0_594 lit1t1_1 _ _ unit_9 (fun _ _ => part_1 _ (by omega)) (fun _ hj => by unfold lit1t1_1; rw [row_in 247 119 hj rfl]; rfl) fun i => by unfold lit1t0_594; rw [Nat.mod_mod]
theorem row_248 : OneAt 248 9 :=
  row_of lit1t0_594 lit1t1_1 _ _ unit_9 (fun _ _ => part_1 _ (by omega)) (fun _ hj => by unfold lit1t1_1; rw [row_in 248 120 hj rfl]; rfl) fun i => by unfold lit1t0_594; rw [Nat.mod_mod]
theorem row_249 : OneAt 249 9 :=
  row_of lit1t0_594 lit1t1_1 _ _ unit_9 (fun _ _ => part_1 _ (by omega)) (fun _ hj => by unfold lit1t1_1; rw [row_in 249 121 hj rfl]; rfl) fun i => by unfold lit1t0_594; rw [Nat.mod_mod]
theorem row_250 : OneAt 250 9 :=
  row_of lit1t0_594 lit1t1_1 _ _ unit_9 (fun _ _ => part_1 _ (by omega)) (fun _ hj => by unfold lit1t1_1; rw [row_in 250 122 hj rfl]; rfl) fun i => by unfold lit1t0_594; rw [Nat.mod_mod]
theorem row_251 : OneAt 251 9 :=
  row_of lit1t0_594 lit1t1_1 _ _ unit_9 (fun _ _ => part_1 _ (by omega)) (fun _ hj => by unfold lit1t1_1; rw [row_in 251 123 hj rfl]; rfl) fun i => by unfold lit1t0_594; rw [Nat.mod_mod]
theorem row_252 : OneAt 252 10 :=
  row_of lit1t0_596 lit1t1_1 _ _ unit_10 (fun _ _ => part_1 _ (by omega)) (fun _ hj => by unfold lit1t1_1; rw [row_in 252 124 hj rfl]; rfl) fun i => by unfold lit1t0_596; rw [Nat.mod_mod]
theorem row_253 : OneAt 253 10 :=
  row_of lit1t0_596 lit1t1_1 _ _ unit_10 (fun _ _ => part_1 _ (by omega)) (fun _ hj => by unfold lit1t1_1; rw [row_in 253 125 hj rfl]; rfl) fun i => by unfold lit1t0_596; rw [Nat.mod_mod]
theorem row_254 : OneAt 254 10 :=
  row_of lit1t0_596 lit1t1_1 _ _ unit_10 (fun _ _ => part_1 _ (by omega)) (fun _ hj => by unfold lit1t1_1; rw [row_in 254 126 hj rfl]; rfl) fun i => by unfold lit1t0_596; rw [Nat.mod_mod]
theorem row_255 : OneAt 255 10 :=
  row_of lit1t0_596 lit1t1_1 _ _ unit_10 (fun _ _ => part_1 _ (by omega)) (fun _ hj => by unfold lit1t1_1; rw [row_in 255 127 hj rfl]; rfl) fun i => by unfold lit1t0_596; rw [Nat.mod_mod]
theorem row_256 : OneAt 256 10 :=
  row_of lit1t0_596 lit1t1_2 _ _ unit_10 (fun _ _ => part_2 _ (by omega)) (fun _ hj => by unfold lit1t1_2; rw [row_in 256 0 hj rfl]; rfl) fun i => by unfold lit1t0_596; rw [Nat.mod_mod]
theorem row_257 : OneAt 257 10 :=
  row_of lit1t0_596 lit1t1_2 _ _ unit_10 (fun _ _ => part_2 _ (by omega)) (fun _ hj => by unfold lit1t1_2; rw [row_in 257 1 hj rfl]; rfl) fun i => by unfold lit1t0_596; rw [Nat.mod_mod]
theorem row_258 : OneAt 258 11 :=
  row_of lit1t0_598 lit1t1_2 _ _ unit_11 (fun _ _ => part_2 _ (by omega)) (fun _ hj => by unfold lit1t1_2; rw [row_in 258 2 hj rfl]; rfl) fun i => by unfold lit1t0_598; rw [Nat.mod_mod]
theorem row_259 : OneAt 259 11 :=
  row_of lit1t0_598 lit1t1_2 _ _ unit_11 (fun _ _ => part_2 _ (by omega)) (fun _ hj => by unfold lit1t1_2; rw [row_in 259 3 hj rfl]; rfl) fun i => by unfold lit1t0_598; rw [Nat.mod_mod]
theorem row_260 : OneAt 260 11 :=
  row_of lit1t0_598 lit1t1_2 _ _ unit_11 (fun _ _ => part_2 _ (by omega)) (fun _ hj => by unfold lit1t1_2; rw [row_in 260 4 hj rfl]; rfl) fun i => by unfold lit1t0_598; rw [Nat.mod_mod]
theorem row_261 : OneAt 261 11 :=
  row_of lit1t0_598 lit1t1_2 _ _ unit_11 (fun _ _ => part_2 _ (by omega)) (fun _ hj => by unfold lit1t1_2; rw [row_in 261 5 hj rfl]; rfl) fun i => by unfold lit1t0_598; rw [Nat.mod_mod]
theorem row_262 : OneAt 262 11 :=
  row_of lit1t0_598 lit1t1_2 _ _ unit_11 (fun _ _ => part_2 _ (by omega)) (fun _ hj => by unfold lit1t1_2; rw [row_in 262 6 hj rfl]; rfl) fun i => by unfold lit1t0_598; rw [Nat.mod_mod]
theorem row_263 : OneAt 263 11 :=
  row_of lit1t0_598 lit1t1_2 _ _ unit_11 (fun _ _ => part_2 _ (by omega)) (fun _ hj => by unfold lit1t1_2; rw [row_in 263 7 hj rfl]; rfl) fun i => by unfold lit1t0_598; rw [Nat.mod_mod]
theorem row_264 : OneAt 264 12 :=
  row_of lit1t0_600 lit1t1_2 _ _ unit_12 (fun _ _ => part_2 _ (by omega)) (fun _ hj => by unfold lit1t1_2; rw [row_in 264 8 hj rfl]; rfl) fun i => by unfold lit1t0_600; rw [Nat.mod_mod]
theorem row_265 : OneAt 265 12 :=
  row_of lit1t0_600 lit1t1_2 _ _ unit_12 (fun _ _ => part_2 _ (by omega)) (fun _ hj => by unfold lit1t1_2; rw [row_in 265 9 hj rfl]; rfl) fun i => by unfold lit1t0_600; rw [Nat.mod_mod]
theorem row_266 : OneAt 266 12 :=
  row_of lit1t0_600 lit1t1_2 _ _ unit_12 (fun _ _ => part_2 _ (by omega)) (fun _ hj => by unfold lit1t1_2; rw [row_in 266 10 hj rfl]; rfl) fun i => by unfold lit1t0_600; rw [Nat.mod_mod]
theorem row_267 : OneAt 267 12 :=
  row_of lit1t0_600 lit1t1_2 _ _ unit_12 (fun _ _ => part_2 _ (by omega)) (fun _ hj => by unfold lit1t1_2; rw [row_in 267 11 hj rfl]; rfl) fun i => by unfold lit1t0_600; rw [Nat.mod_mod]
theorem row_268 : OneAt 268 12 :=
  row_of lit1t0_600 lit1t1_2 _ _ unit_12 (fun _ _ => part_2 _ (by omega)) (fun _ hj => by unfold lit1t1_2; rw [row_in 268 12 hj rfl]; rfl) fun i => by unfold lit1t0_600; rw [Nat.mod_mod]
theorem row_269 : OneAt 269 12 :=
  row_of lit1t0_600 lit1t1_2 _ _ unit_12 (fun _ _ => part_2 _ (by omega)) (fun _ hj => by unfold lit1t1_2; rw [row_in 269 13 hj rfl]; rfl) fun i => by unfold lit1t0_600; rw [Nat.mod_mod]
theorem row_270 : OneAt 270 13 :=
  row_of lit1t0_602 lit1t1_2 _ _ unit_13 (fun _ _ => part_2 _ (by omega)) (fun _ hj => by unfold lit1t1_2; rw [row_in 270 14 hj rfl]; rfl) fun i => by unfold lit1t0_602; rw [Nat.mod_mod]
theorem row_271 : OneAt 271 13 :=
  row_of lit1t0_602 lit1t1_2 _ _ unit_13 (fun _ _ => part_2 _ (by omega)) (fun _ hj => by unfold lit1t1_2; rw [row_in 271 15 hj rfl]; rfl) fun i => by unfold lit1t0_602; rw [Nat.mod_mod]
theorem row_272 : OneAt 272 13 :=
  row_of lit1t0_602 lit1t1_2 _ _ unit_13 (fun _ _ => part_2 _ (by omega)) (fun _ hj => by unfold lit1t1_2; rw [row_in 272 16 hj rfl]; rfl) fun i => by unfold lit1t0_602; rw [Nat.mod_mod]
theorem row_273 : OneAt 273 13 :=
  row_of lit1t0_602 lit1t1_2 _ _ unit_13 (fun _ _ => part_2 _ (by omega)) (fun _ hj => by unfold lit1t1_2; rw [row_in 273 17 hj rfl]; rfl) fun i => by unfold lit1t0_602; rw [Nat.mod_mod]
theorem row_274 : OneAt 274 13 :=
  row_of lit1t0_602 lit1t1_2 _ _ unit_13 (fun _ _ => part_2 _ (by omega)) (fun _ hj => by unfold lit1t1_2; rw [row_in 274 18 hj rfl]; rfl) fun i => by unfold lit1t0_602; rw [Nat.mod_mod]
theorem row_275 : OneAt 275 13 :=
  row_of lit1t0_602 lit1t1_2 _ _ unit_13 (fun _ _ => part_2 _ (by omega)) (fun _ hj => by unfold lit1t1_2; rw [row_in 275 19 hj rfl]; rfl) fun i => by unfold lit1t0_602; rw [Nat.mod_mod]
theorem row_276 : OneAt 276 14 :=
  row_of lit1t0_604 lit1t1_2 _ _ unit_14 (fun _ _ => part_2 _ (by omega)) (fun _ hj => by unfold lit1t1_2; rw [row_in 276 20 hj rfl]; rfl) fun i => by unfold lit1t0_604; rw [Nat.mod_mod]
theorem row_277 : OneAt 277 14 :=
  row_of lit1t0_604 lit1t1_2 _ _ unit_14 (fun _ _ => part_2 _ (by omega)) (fun _ hj => by unfold lit1t1_2; rw [row_in 277 21 hj rfl]; rfl) fun i => by unfold lit1t0_604; rw [Nat.mod_mod]
theorem row_278 : OneAt 278 14 :=
  row_of lit1t0_604 lit1t1_2 _ _ unit_14 (fun _ _ => part_2 _ (by omega)) (fun _ hj => by unfold lit1t1_2; rw [row_in 278 22 hj rfl]; rfl) fun i => by unfold lit1t0_604; rw [Nat.mod_mod]
theorem row_279 : OneAt 279 14 :=
  row_of lit1t0_604 lit1t1_2 _ _ unit_14 (fun _ _ => part_2 _ (by omega)) (fun _ hj => by unfold lit1t1_2; rw [row_in 279 23 hj rfl]; rfl) fun i => by unfold lit1t0_604; rw [Nat.mod_mod]
theorem row_280 : OneAt 280 14 :=
  row_of lit1t0_604 lit1t1_2 _ _ unit_14 (fun _ _ => part_2 _ (by omega)) (fun _ hj => by unfold lit1t1_2; rw [row_in 280 24 hj rfl]; rfl) fun i => by unfold lit1t0_604; rw [Nat.mod_mod]
theorem row_281 : OneAt 281 14 :=
  row_of lit1t0_604 lit1t1_2 _ _ unit_14 (fun _ _ => part_2 _ (by omega)) (fun _ hj => by unfold lit1t1_2; rw [row_in 281 25 hj rfl]; rfl) fun i => by unfold lit1t0_604; rw [Nat.mod_mod]
theorem row_282 : OneAt 282 15 :=
  row_of lit1t0_606 lit1t1_2 _ _ unit_15 (fun _ _ => part_2 _ (by omega)) (fun _ hj => by unfold lit1t1_2; rw [row_in 282 26 hj rfl]; rfl) fun i => by unfold lit1t0_606; rw [Nat.mod_mod]
theorem row_283 : OneAt 283 15 :=
  row_of lit1t0_606 lit1t1_2 _ _ unit_15 (fun _ _ => part_2 _ (by omega)) (fun _ hj => by unfold lit1t1_2; rw [row_in 283 27 hj rfl]; rfl) fun i => by unfold lit1t0_606; rw [Nat.mod_mod]
theorem row_284 : OneAt 284 15 :=
  row_of lit1t0_606 lit1t1_2 _ _ unit_15 (fun _ _ => part_2 _ (by omega)) (fun _ hj => by unfold lit1t1_2; rw [row_in 284 28 hj rfl]; rfl) fun i => by unfold lit1t0_606; rw [Nat.mod_mod]
theorem row_285 : OneAt 285 15 :=
  row_of lit1t0_606 lit1t1_2 _ _ unit_15 (fun _ _ => part_2 _ (by omega)) (fun _ hj => by unfold lit1t1_2; rw [row_in 285 29 hj rfl]; rfl) fun i => by unfold lit1t0_606; rw [Nat.mod_mod]
theorem row_286 : OneAt 286 15 :=
  row_of lit1t0_606 lit1t1_2 _ _ unit_15 (fun _ _ => part_2 _ (by omega)) (fun _ hj => by unfold lit1t1_2; rw [row_in 286 30 hj rfl]; rfl) fun i => by unfold lit1t0_606; rw [Nat.mod_mod]
theorem row_287 : OneAt 287 15 :=
  row_of lit1t0_606 lit1t1_2 _ _ unit_15 (fun _ _ => part_2 _ (by omega)) (fun _ hj => by unfold lit1t1_2; rw [row_in 287 31 hj rfl]; rfl) fun i => by unfold lit1t0_606; rw [Nat.mod_mod]
theorem row_288 : OneAt 288 16 :=
  row_of lit1t0_608 lit1t1_2 _ _ unit_16 (fun _ _ => part_2 _ (by omega)) (fun _ hj => by unfold lit1t1_2; rw [row_in 288 32 hj rfl]; rfl) fun i => by unfold lit1t0_608; rw [Nat.mod_mod]
theorem row_289 : OneAt 289 16 :=
  row_of lit1t0_608 lit1t1_2 _ _ unit_16 (fun _ _ => part_2 _ (by omega)) (fun _ hj => by unfold lit1t1_2; rw [row_in 289 33 hj rfl]; rfl) fun i => by unfold lit1t0_608; rw [Nat.mod_mod]
theorem row_290 : OneAt 290 16 :=
  row_of lit1t0_608 lit1t1_2 _ _ unit_16 (fun _ _ => part_2 _ (by omega)) (fun _ hj => by unfold lit1t1_2; rw [row_in 290 34 hj rfl]; rfl) fun i => by unfold lit1t0_608; rw [Nat.mod_mod]
theorem row_291 : OneAt 291 16 :=
  row_of lit1t0_608 lit1t1_2 _ _ unit_16 (fun _ _ => part_2 _ (by omega)) (fun _ hj => by unfold lit1t1_2; rw [row_in 291 35 hj rfl]; rfl) fun i => by unfold lit1t0_608; rw [Nat.mod_mod]
theorem row_292 : OneAt 292 16 :=
  row_of lit1t0_608 lit1t1_2 _ _ unit_16 (fun _ _ => part_2 _ (by omega)) (fun _ hj => by unfold lit1t1_2; rw [row_in 292 36 hj rfl]; rfl) fun i => by unfold lit1t0_608; rw [Nat.mod_mod]
theorem row_293 : OneAt 293 16 :=
  row_of lit1t0_608 lit1t1_2 _ _ unit_16 (fun _ _ => part_2 _ (by omega)) (fun _ hj => by unfold lit1t1_2; rw [row_in 293 37 hj rfl]; rfl) fun i => by unfold lit1t0_608; rw [Nat.mod_mod]
theorem row_294 : OneAt 294 17 :=
  row_of lit1t0_610 lit1t1_2 _ _ unit_17 (fun _ _ => part_2 _ (by omega)) (fun _ hj => by unfold lit1t1_2; rw [row_in 294 38 hj rfl]; rfl) fun i => by unfold lit1t0_610; rw [Nat.mod_mod]
theorem row_295 : OneAt 295 17 :=
  row_of lit1t0_610 lit1t1_2 _ _ unit_17 (fun _ _ => part_2 _ (by omega)) (fun _ hj => by unfold lit1t1_2; rw [row_in 295 39 hj rfl]; rfl) fun i => by unfold lit1t0_610; rw [Nat.mod_mod]
theorem row_296 : OneAt 296 17 :=
  row_of lit1t0_610 lit1t1_2 _ _ unit_17 (fun _ _ => part_2 _ (by omega)) (fun _ hj => by unfold lit1t1_2; rw [row_in 296 40 hj rfl]; rfl) fun i => by unfold lit1t0_610; rw [Nat.mod_mod]
theorem row_297 : OneAt 297 17 :=
  row_of lit1t0_610 lit1t1_2 _ _ unit_17 (fun _ _ => part_2 _ (by omega)) (fun _ hj => by unfold lit1t1_2; rw [row_in 297 41 hj rfl]; rfl) fun i => by unfold lit1t0_610; rw [Nat.mod_mod]
theorem row_298 : OneAt 298 17 :=
  row_of lit1t0_610 lit1t1_2 _ _ unit_17 (fun _ _ => part_2 _ (by omega)) (fun _ hj => by unfold lit1t1_2; rw [row_in 298 42 hj rfl]; rfl) fun i => by unfold lit1t0_610; rw [Nat.mod_mod]
theorem row_299 : OneAt 299 17 :=
  row_of lit1t0_610 lit1t1_2 _ _ unit_17 (fun _ _ => part_2 _ (by omega)) (fun _ hj => by unfold lit1t1_2; rw [row_in 299 43 hj rfl]; rfl) fun i => by unfold lit1t0_610; rw [Nat.mod_mod]
theorem row_300 : OneAt 300 18 :=
  row_of lit1t0_612 lit1t1_2 _ _ unit_18 (fun _ _ => part_2 _ (by omega)) (fun _ hj => by unfold lit1t1_2; rw [row_in 300 44 hj rfl]; rfl) fun i => by unfold lit1t0_612; rw [Nat.mod_mod]
theorem row_301 : OneAt 301 18 :=
  row_of lit1t0_612 lit1t1_2 _ _ unit_18 (fun _ _ => part_2 _ (by omega)) (fun _ hj => by unfold lit1t1_2; rw [row_in 301 45 hj rfl]; rfl) fun i => by unfold lit1t0_612; rw [Nat.mod_mod]
theorem row_302 : OneAt 302 18 :=
  row_of lit1t0_612 lit1t1_2 _ _ unit_18 (fun _ _ => part_2 _ (by omega)) (fun _ hj => by unfold lit1t1_2; rw [row_in 302 46 hj rfl]; rfl) fun i => by unfold lit1t0_612; rw [Nat.mod_mod]
theorem row_303 : OneAt 303 18 :=
  row_of lit1t0_612 lit1t1_2 _ _ unit_18 (fun _ _ => part_2 _ (by omega)) (fun _ hj => by unfold lit1t1_2; rw [row_in 303 47 hj rfl]; rfl) fun i => by unfold lit1t0_612; rw [Nat.mod_mod]
theorem row_304 : OneAt 304 18 :=
  row_of lit1t0_612 lit1t1_2 _ _ unit_18 (fun _ _ => part_2 _ (by omega)) (fun _ hj => by unfold lit1t1_2; rw [row_in 304 48 hj rfl]; rfl) fun i => by unfold lit1t0_612; rw [Nat.mod_mod]
theorem row_305 : OneAt 305 18 :=
  row_of lit1t0_612 lit1t1_2 _ _ unit_18 (fun _ _ => part_2 _ (by omega)) (fun _ hj => by unfold lit1t1_2; rw [row_in 305 49 hj rfl]; rfl) fun i => by unfold lit1t0_612; rw [Nat.mod_mod]
theorem row_306 : OneAt 306 19 :=
  row_of lit1t0_614 lit1t1_2 _ _ unit_19 (fun _ _ => part_2 _ (by omega)) (fun _ hj => by unfold lit1t1_2; rw [row_in 306 50 hj rfl]; rfl) fun i => by unfold lit1t0_614; rw [Nat.mod_mod]
theorem row_307 : OneAt 307 19 :=
  row_of lit1t0_614 lit1t1_2 _ _ unit_19 (fun _ _ => part_2 _ (by omega)) (fun _ hj => by unfold lit1t1_2; rw [row_in 307 51 hj rfl]; rfl) fun i => by unfold lit1t0_614; rw [Nat.mod_mod]
theorem row_308 : OneAt 308 19 :=
  row_of lit1t0_614 lit1t1_2 _ _ unit_19 (fun _ _ => part_2 _ (by omega)) (fun _ hj => by unfold lit1t1_2; rw [row_in 308 52 hj rfl]; rfl) fun i => by unfold lit1t0_614; rw [Nat.mod_mod]
theorem row_309 : OneAt 309 19 :=
  row_of lit1t0_614 lit1t1_2 _ _ unit_19 (fun _ _ => part_2 _ (by omega)) (fun _ hj => by unfold lit1t1_2; rw [row_in 309 53 hj rfl]; rfl) fun i => by unfold lit1t0_614; rw [Nat.mod_mod]
theorem row_310 : OneAt 310 19 :=
  row_of lit1t0_614 lit1t1_2 _ _ unit_19 (fun _ _ => part_2 _ (by omega)) (fun _ hj => by unfold lit1t1_2; rw [row_in 310 54 hj rfl]; rfl) fun i => by unfold lit1t0_614; rw [Nat.mod_mod]
theorem row_311 : OneAt 311 19 :=
  row_of lit1t0_614 lit1t1_2 _ _ unit_19 (fun _ _ => part_2 _ (by omega)) (fun _ hj => by unfold lit1t1_2; rw [row_in 311 55 hj rfl]; rfl) fun i => by unfold lit1t0_614; rw [Nat.mod_mod]
theorem row_312 : OneAt 312 20 :=
  row_of lit1t0_616 lit1t1_2 _ _ unit_20 (fun _ _ => part_2 _ (by omega)) (fun _ hj => by unfold lit1t1_2; rw [row_in 312 56 hj rfl]; rfl) fun i => by unfold lit1t0_616; rw [Nat.mod_mod]
theorem row_313 : OneAt 313 20 :=
  row_of lit1t0_616 lit1t1_2 _ _ unit_20 (fun _ _ => part_2 _ (by omega)) (fun _ hj => by unfold lit1t1_2; rw [row_in 313 57 hj rfl]; rfl) fun i => by unfold lit1t0_616; rw [Nat.mod_mod]
theorem row_314 : OneAt 314 20 :=
  row_of lit1t0_616 lit1t1_2 _ _ unit_20 (fun _ _ => part_2 _ (by omega)) (fun _ hj => by unfold lit1t1_2; rw [row_in 314 58 hj rfl]; rfl) fun i => by unfold lit1t0_616; rw [Nat.mod_mod]
theorem row_315 : OneAt 315 20 :=
  row_of lit1t0_616 lit1t1_2 _ _ unit_20 (fun _ _ => part_2 _ (by omega)) (fun _ hj => by unfold lit1t1_2; rw [row_in 315 59 hj rfl]; rfl) fun i => by unfold lit1t0_616; rw [Nat.mod_mod]
theorem row_316 : OneAt 316 20 :=
  row_of lit1t0_616 lit1t1_2 _ _ unit_20 (fun _ _ => part_2 _ (by omega)) (fun _ hj => by unfold lit1t1_2; rw [row_in 316 60 hj rfl]; rfl) fun i => by unfold lit1t0_616; rw [Nat.mod_mod]
theorem row_317 : OneAt 317 20 :=
  row_of lit1t0_616 lit1t1_2 _ _ unit_20 (fun _ _ => part_2 _ (by omega)) (fun _ hj => by unfold lit1t1_2; rw [row_in 317 61 hj rfl]; rfl) fun i => by unfold lit1t0_616; rw [Nat.mod_mod]
theorem row_318 : OneAt 318 21 :=
  row_of lit1t0_618 lit1t1_2 _ _ unit_21 (fun _ _ => part_2 _ (by omega)) (fun _ hj => by unfold lit1t1_2; rw [row_in 318 62 hj rfl]; rfl) fun i => by unfold lit1t0_618; rw [Nat.mod_mod]
theorem row_319 : OneAt 319 21 :=
  row_of lit1t0_618 lit1t1_2 _ _ unit_21 (fun _ _ => part_2 _ (by omega)) (fun _ hj => by unfold lit1t1_2; rw [row_in 319 63 hj rfl]; rfl) fun i => by unfold lit1t0_618; rw [Nat.mod_mod]
theorem row_320 : OneAt 320 21 :=
  row_of lit1t0_618 lit1t1_2 _ _ unit_21 (fun _ _ => part_2 _ (by omega)) (fun _ hj => by unfold lit1t1_2; rw [row_in 320 64 hj rfl]; rfl) fun i => by unfold lit1t0_618; rw [Nat.mod_mod]
theorem row_321 : OneAt 321 21 :=
  row_of lit1t0_618 lit1t1_2 _ _ unit_21 (fun _ _ => part_2 _ (by omega)) (fun _ hj => by unfold lit1t1_2; rw [row_in 321 65 hj rfl]; rfl) fun i => by unfold lit1t0_618; rw [Nat.mod_mod]
theorem row_322 : OneAt 322 21 :=
  row_of lit1t0_618 lit1t1_2 _ _ unit_21 (fun _ _ => part_2 _ (by omega)) (fun _ hj => by unfold lit1t1_2; rw [row_in 322 66 hj rfl]; rfl) fun i => by unfold lit1t0_618; rw [Nat.mod_mod]
theorem row_323 : OneAt 323 21 :=
  row_of lit1t0_618 lit1t1_2 _ _ unit_21 (fun _ _ => part_2 _ (by omega)) (fun _ hj => by unfold lit1t1_2; rw [row_in 323 67 hj rfl]; rfl) fun i => by unfold lit1t0_618; rw [Nat.mod_mod]
theorem row_324 : OneAt 324 22 :=
  row_of lit1t0_620 lit1t1_2 _ _ unit_22 (fun _ _ => part_2 _ (by omega)) (fun _ hj => by unfold lit1t1_2; rw [row_in 324 68 hj rfl]; rfl) fun i => by unfold lit1t0_620; rw [Nat.mod_mod]
theorem row_325 : OneAt 325 22 :=
  row_of lit1t0_620 lit1t1_2 _ _ unit_22 (fun _ _ => part_2 _ (by omega)) (fun _ hj => by unfold lit1t1_2; rw [row_in 325 69 hj rfl]; rfl) fun i => by unfold lit1t0_620; rw [Nat.mod_mod]
theorem row_326 : OneAt 326 22 :=
  row_of lit1t0_620 lit1t1_2 _ _ unit_22 (fun _ _ => part_2 _ (by omega)) (fun _ hj => by unfold lit1t1_2; rw [row_in 326 70 hj rfl]; rfl) fun i => by unfold lit1t0_620; rw [Nat.mod_mod]
theorem row_327 : OneAt 327 22 :=
  row_of lit1t0_620 lit1t1_2 _ _ unit_22 (fun _ _ => part_2 _ (by omega)) (fun _ hj => by unfold lit1t1_2; rw [row_in 327 71 hj rfl]; rfl) fun i => by unfold lit1t0_620; rw [Nat.mod_mod]
theorem row_328 : OneAt 328 22 :=
  row_of lit1t0_620 lit1t1_2 _ _ unit_22 (fun _ _ => part_2 _ (by omega)) (fun _ hj => by unfold lit1t1_2; rw [row_in 328 72 hj rfl]; rfl) fun i => by unfold lit1t0_620; rw [Nat.mod_mod]
theorem row_329 : OneAt 329 22 :=
  row_of lit1t0_620 lit1t1_2 _ _ unit_22 (fun _ _ => part_2 _ (by omega)) (fun _ hj => by unfold lit1t1_2; rw [row_in 329 73 hj rfl]; rfl) fun i => by unfold lit1t0_620; rw [Nat.mod_mod]
theorem row_330 : OneAt 330 23 :=
  row_of lit1t0_622 lit1t1_2 _ _ unit_23 (fun _ _ => part_2 _ (by omega)) (fun _ hj => by unfold lit1t1_2; rw [row_in 330 74 hj rfl]; rfl) fun i => by unfold lit1t0_622; rw [Nat.mod_mod]
theorem row_331 : OneAt 331 23 :=
  row_of lit1t0_622 lit1t1_2 _ _ unit_23 (fun _ _ => part_2 _ (by omega)) (fun _ hj => by unfold lit1t1_2; rw [row_in 331 75 hj rfl]; rfl) fun i => by unfold lit1t0_622; rw [Nat.mod_mod]
theorem row_332 : OneAt 332 23 :=
  row_of lit1t0_622 lit1t1_2 _ _ unit_23 (fun _ _ => part_2 _ (by omega)) (fun _ hj => by unfold lit1t1_2; rw [row_in 332 76 hj rfl]; rfl) fun i => by unfold lit1t0_622; rw [Nat.mod_mod]
theorem row_333 : OneAt 333 23 :=
  row_of lit1t0_622 lit1t1_2 _ _ unit_23 (fun _ _ => part_2 _ (by omega)) (fun _ hj => by unfold lit1t1_2; rw [row_in 333 77 hj rfl]; rfl) fun i => by unfold lit1t0_622; rw [Nat.mod_mod]
theorem row_334 : OneAt 334 23 :=
  row_of lit1t0_622 lit1t1_2 _ _ unit_23 (fun _ _ => part_2 _ (by omega)) (fun _ hj => by unfold lit1t1_2; rw [row_in 334 78 hj rfl]; rfl) fun i => by unfold lit1t0_622; rw [Nat.mod_mod]
theorem row_335 : OneAt 335 23 :=
  row_of lit1t0_622 lit1t1_2 _ _ unit_23 (fun _ _ => part_2 _ (by omega)) (fun _ hj => by unfold lit1t1_2; rw [row_in 335 79 hj rfl]; rfl) fun i => by unfold lit1t0_622; rw [Nat.mod_mod]
theorem row_336 : OneAt 336 24 :=
  row_of lit1t0_624 lit1t1_2 _ _ unit_24 (fun _ _ => part_2 _ (by omega)) (fun _ hj => by unfold lit1t1_2; rw [row_in 336 80 hj rfl]; rfl) fun i => by unfold lit1t0_624; rw [Nat.mod_mod]
theorem row_337 : OneAt 337 24 :=
  row_of lit1t0_624 lit1t1_2 _ _ unit_24 (fun _ _ => part_2 _ (by omega)) (fun _ hj => by unfold lit1t1_2; rw [row_in 337 81 hj rfl]; rfl) fun i => by unfold lit1t0_624; rw [Nat.mod_mod]
theorem row_338 : OneAt 338 24 :=
  row_of lit1t0_624 lit1t1_2 _ _ unit_24 (fun _ _ => part_2 _ (by omega)) (fun _ hj => by unfold lit1t1_2; rw [row_in 338 82 hj rfl]; rfl) fun i => by unfold lit1t0_624; rw [Nat.mod_mod]
theorem row_339 : OneAt 339 24 :=
  row_of lit1t0_624 lit1t1_2 _ _ unit_24 (fun _ _ => part_2 _ (by omega)) (fun _ hj => by unfold lit1t1_2; rw [row_in 339 83 hj rfl]; rfl) fun i => by unfold lit1t0_624; rw [Nat.mod_mod]
theorem row_340 : OneAt 340 24 :=
  row_of lit1t0_624 lit1t1_2 _ _ unit_24 (fun _ _ => part_2 _ (by omega)) (fun _ hj => by unfold lit1t1_2; rw [row_in 340 84 hj rfl]; rfl) fun i => by unfold lit1t0_624; rw [Nat.mod_mod]
theorem row_341 : OneAt 341 24 :=
  row_of lit1t0_624 lit1t1_2 _ _ unit_24 (fun _ _ => part_2 _ (by omega)) (fun _ hj => by unfold lit1t1_2; rw [row_in 341 85 hj rfl]; rfl) fun i => by unfold lit1t0_624; rw [Nat.mod_mod]
theorem row_342 : OneAt 342 25 :=
  row_of lit1t0_626 lit1t1_2 _ _ unit_25 (fun _ _ => part_2 _ (by omega)) (fun _ hj => by unfold lit1t1_2; rw [row_in 342 86 hj rfl]; rfl) fun i => by unfold lit1t0_626; rw [Nat.mod_mod]
theorem row_343 : OneAt 343 25 :=
  row_of lit1t0_626 lit1t1_2 _ _ unit_25 (fun _ _ => part_2 _ (by omega)) (fun _ hj => by unfold lit1t1_2; rw [row_in 343 87 hj rfl]; rfl) fun i => by unfold lit1t0_626; rw [Nat.mod_mod]
theorem row_344 : OneAt 344 25 :=
  row_of lit1t0_626 lit1t1_2 _ _ unit_25 (fun _ _ => part_2 _ (by omega)) (fun _ hj => by unfold lit1t1_2; rw [row_in 344 88 hj rfl]; rfl) fun i => by unfold lit1t0_626; rw [Nat.mod_mod]
theorem row_345 : OneAt 345 25 :=
  row_of lit1t0_626 lit1t1_2 _ _ unit_25 (fun _ _ => part_2 _ (by omega)) (fun _ hj => by unfold lit1t1_2; rw [row_in 345 89 hj rfl]; rfl) fun i => by unfold lit1t0_626; rw [Nat.mod_mod]
theorem row_346 : OneAt 346 25 :=
  row_of lit1t0_626 lit1t1_2 _ _ unit_25 (fun _ _ => part_2 _ (by omega)) (fun _ hj => by unfold lit1t1_2; rw [row_in 346 90 hj rfl]; rfl) fun i => by unfold lit1t0_626; rw [Nat.mod_mod]
theorem row_347 : OneAt 347 25 :=
  row_of lit1t0_626 lit1t1_2 _ _ unit_25 (fun _ _ => part_2 _ (by omega)) (fun _ hj => by unfold lit1t1_2; rw [row_in 347 91 hj rfl]; rfl) fun i => by unfold lit1t0_626; rw [Nat.mod_mod]
theorem row_348 : OneAt 348 26 :=
  row_of lit1t0_628 lit1t1_2 _ _ unit_26 (fun _ _ => part_2 _ (by omega)) (fun _ hj => by unfold lit1t1_2; rw [row_in 348 92 hj rfl]; rfl) fun i => by unfold lit1t0_628; rw [Nat.mod_mod]
theorem row_349 : OneAt 349 26 :=
  row_of lit1t0_628 lit1t1_2 _ _ unit_26 (fun _ _ => part_2 _ (by omega)) (fun _ hj => by unfold lit1t1_2; rw [row_in 349 93 hj rfl]; rfl) fun i => by unfold lit1t0_628; rw [Nat.mod_mod]
theorem row_350 : OneAt 350 26 :=
  row_of lit1t0_628 lit1t1_2 _ _ unit_26 (fun _ _ => part_2 _ (by omega)) (fun _ hj => by unfold lit1t1_2; rw [row_in 350 94 hj rfl]; rfl) fun i => by unfold lit1t0_628; rw [Nat.mod_mod]
theorem row_351 : OneAt 351 26 :=
  row_of lit1t0_628 lit1t1_2 _ _ unit_26 (fun _ _ => part_2 _ (by omega)) (fun _ hj => by unfold lit1t1_2; rw [row_in 351 95 hj rfl]; rfl) fun i => by unfold lit1t0_628; rw [Nat.mod_mod]
theorem row_352 : OneAt 352 26 :=
  row_of lit1t0_628 lit1t1_2 _ _ unit_26 (fun _ _ => part_2 _ (by omega)) (fun _ hj => by unfold lit1t1_2; rw [row_in 352 96 hj rfl]; rfl) fun i => by unfold lit1t0_628; rw [Nat.mod_mod]
theorem row_353 : OneAt 353 26 :=
  row_of lit1t0_628 lit1t1_2 _ _ unit_26 (fun _ _ => part_2 _ (by omega)) (fun _ hj => by unfold lit1t1_2; rw [row_in 353 97 hj rfl]; rfl) fun i => by unfold lit1t0_628; rw [Nat.mod_mod]
theorem row_354 : OneAt 354 27 :=
  row_of lit1t0_630 lit1t1_2 _ _ unit_27 (fun _ _ => part_2 _ (by omega)) (fun _ hj => by unfold lit1t1_2; rw [row_in 354 98 hj rfl]; rfl) fun i => by unfold lit1t0_630; rw [Nat.mod_mod]
theorem row_355 : OneAt 355 27 :=
  row_of lit1t0_630 lit1t1_2 _ _ unit_27 (fun _ _ => part_2 _ (by omega)) (fun _ hj => by unfold lit1t1_2; rw [row_in 355 99 hj rfl]; rfl) fun i => by unfold lit1t0_630; rw [Nat.mod_mod]
theorem row_356 : OneAt 356 27 :=
  row_of lit1t0_630 lit1t1_2 _ _ unit_27 (fun _ _ => part_2 _ (by omega)) (fun _ hj => by unfold lit1t1_2; rw [row_in 356 100 hj rfl]; rfl) fun i => by unfold lit1t0_630; rw [Nat.mod_mod]
theorem row_357 : OneAt 357 27 :=
  row_of lit1t0_630 lit1t1_2 _ _ unit_27 (fun _ _ => part_2 _ (by omega)) (fun _ hj => by unfold lit1t1_2; rw [row_in 357 101 hj rfl]; rfl) fun i => by unfold lit1t0_630; rw [Nat.mod_mod]
theorem row_358 : OneAt 358 27 :=
  row_of lit1t0_630 lit1t1_2 _ _ unit_27 (fun _ _ => part_2 _ (by omega)) (fun _ hj => by unfold lit1t1_2; rw [row_in 358 102 hj rfl]; rfl) fun i => by unfold lit1t0_630; rw [Nat.mod_mod]
theorem row_359 : OneAt 359 27 :=
  row_of lit1t0_630 lit1t1_2 _ _ unit_27 (fun _ _ => part_2 _ (by omega)) (fun _ hj => by unfold lit1t1_2; rw [row_in 359 103 hj rfl]; rfl) fun i => by unfold lit1t0_630; rw [Nat.mod_mod]
theorem row_360 : OneAt 360 28 :=
  row_of lit1t0_632 lit1t1_2 _ _ unit_28 (fun _ _ => part_2 _ (by omega)) (fun _ hj => by unfold lit1t1_2; rw [row_in 360 104 hj rfl]; rfl) fun i => by unfold lit1t0_632; rw [Nat.mod_mod]
theorem row_361 : OneAt 361 28 :=
  row_of lit1t0_632 lit1t1_2 _ _ unit_28 (fun _ _ => part_2 _ (by omega)) (fun _ hj => by unfold lit1t1_2; rw [row_in 361 105 hj rfl]; rfl) fun i => by unfold lit1t0_632; rw [Nat.mod_mod]
theorem row_362 : OneAt 362 28 :=
  row_of lit1t0_632 lit1t1_2 _ _ unit_28 (fun _ _ => part_2 _ (by omega)) (fun _ hj => by unfold lit1t1_2; rw [row_in 362 106 hj rfl]; rfl) fun i => by unfold lit1t0_632; rw [Nat.mod_mod]
theorem row_363 : OneAt 363 28 :=
  row_of lit1t0_632 lit1t1_2 _ _ unit_28 (fun _ _ => part_2 _ (by omega)) (fun _ hj => by unfold lit1t1_2; rw [row_in 363 107 hj rfl]; rfl) fun i => by unfold lit1t0_632; rw [Nat.mod_mod]
theorem row_364 : OneAt 364 28 :=
  row_of lit1t0_632 lit1t1_2 _ _ unit_28 (fun _ _ => part_2 _ (by omega)) (fun _ hj => by unfold lit1t1_2; rw [row_in 364 108 hj rfl]; rfl) fun i => by unfold lit1t0_632; rw [Nat.mod_mod]
theorem row_365 : OneAt 365 28 :=
  row_of lit1t0_632 lit1t1_2 _ _ unit_28 (fun _ _ => part_2 _ (by omega)) (fun _ hj => by unfold lit1t1_2; rw [row_in 365 109 hj rfl]; rfl) fun i => by unfold lit1t0_632; rw [Nat.mod_mod]
theorem row_366 : OneAt 366 29 :=
  row_of lit1t0_634 lit1t1_2 _ _ unit_29 (fun _ _ => part_2 _ (by omega)) (fun _ hj => by unfold lit1t1_2; rw [row_in 366 110 hj rfl]; rfl) fun i => by unfold lit1t0_634; rw [Nat.mod_mod]
theorem row_367 : OneAt 367 29 :=
  row_of lit1t0_634 lit1t1_2 _ _ unit_29 (fun _ _ => part_2 _ (by omega)) (fun _ hj => by unfold lit1t1_2; rw [row_in 367 111 hj rfl]; rfl) fun i => by unfold lit1t0_634; rw [Nat.mod_mod]
theorem row_368 : OneAt 368 29 :=
  row_of lit1t0_634 lit1t1_2 _ _ unit_29 (fun _ _ => part_2 _ (by omega)) (fun _ hj => by unfold lit1t1_2; rw [row_in 368 112 hj rfl]; rfl) fun i => by unfold lit1t0_634; rw [Nat.mod_mod]
theorem row_369 : OneAt 369 29 :=
  row_of lit1t0_634 lit1t1_2 _ _ unit_29 (fun _ _ => part_2 _ (by omega)) (fun _ hj => by unfold lit1t1_2; rw [row_in 369 113 hj rfl]; rfl) fun i => by unfold lit1t0_634; rw [Nat.mod_mod]
theorem row_370 : OneAt 370 29 :=
  row_of lit1t0_634 lit1t1_2 _ _ unit_29 (fun _ _ => part_2 _ (by omega)) (fun _ hj => by unfold lit1t1_2; rw [row_in 370 114 hj rfl]; rfl) fun i => by unfold lit1t0_634; rw [Nat.mod_mod]
theorem row_371 : OneAt 371 29 :=
  row_of lit1t0_634 lit1t1_2 _ _ unit_29 (fun _ _ => part_2 _ (by omega)) (fun _ hj => by unfold lit1t1_2; rw [row_in 371 115 hj rfl]; rfl) fun i => by unfold lit1t0_634; rw [Nat.mod_mod]
theorem row_372 : OneAt 372 30 :=
  row_of lit1t0_636 lit1t1_2 _ _ unit_30 (fun _ _ => part_2 _ (by omega)) (fun _ hj => by unfold lit1t1_2; rw [row_in 372 116 hj rfl]; rfl) fun i => by unfold lit1t0_636; rw [Nat.mod_mod]
theorem row_373 : OneAt 373 30 :=
  row_of lit1t0_636 lit1t1_2 _ _ unit_30 (fun _ _ => part_2 _ (by omega)) (fun _ hj => by unfold lit1t1_2; rw [row_in 373 117 hj rfl]; rfl) fun i => by unfold lit1t0_636; rw [Nat.mod_mod]
theorem row_374 : OneAt 374 30 :=
  row_of lit1t0_636 lit1t1_2 _ _ unit_30 (fun _ _ => part_2 _ (by omega)) (fun _ hj => by unfold lit1t1_2; rw [row_in 374 118 hj rfl]; rfl) fun i => by unfold lit1t0_636; rw [Nat.mod_mod]
theorem row_375 : OneAt 375 30 :=
  row_of lit1t0_636 lit1t1_2 _ _ unit_30 (fun _ _ => part_2 _ (by omega)) (fun _ hj => by unfold lit1t1_2; rw [row_in 375 119 hj rfl]; rfl) fun i => by unfold lit1t0_636; rw [Nat.mod_mod]
theorem row_376 : OneAt 376 30 :=
  row_of lit1t0_636 lit1t1_2 _ _ unit_30 (fun _ _ => part_2 _ (by omega)) (fun _ hj => by unfold lit1t1_2; rw [row_in 376 120 hj rfl]; rfl) fun i => by unfold lit1t0_636; rw [Nat.mod_mod]
theorem row_377 : OneAt 377 30 :=
  row_of lit1t0_636 lit1t1_2 _ _ unit_30 (fun _ _ => part_2 _ (by omega)) (fun _ hj => by unfold lit1t1_2; rw [row_in 377 121 hj rfl]; rfl) fun i => by unfold lit1t0_636; rw [Nat.mod_mod]
theorem row_378 : OneAt 378 31 :=
  row_of lit1t0_638 lit1t1_2 _ _ unit_31 (fun _ _ => part_2 _ (by omega)) (fun _ hj => by unfold lit1t1_2; rw [row_in 378 122 hj rfl]; rfl) fun i => by unfold lit1t0_638; rw [Nat.mod_mod]
theorem row_379 : OneAt 379 31 :=
  row_of lit1t0_638 lit1t1_2 _ _ unit_31 (fun _ _ => part_2 _ (by omega)) (fun _ hj => by unfold lit1t1_2; rw [row_in 379 123 hj rfl]; rfl) fun i => by unfold lit1t0_638; rw [Nat.mod_mod]
theorem row_380 : OneAt 380 31 :=
  row_of lit1t0_638 lit1t1_2 _ _ unit_31 (fun _ _ => part_2 _ (by omega)) (fun _ hj => by unfold lit1t1_2; rw [row_in 380 124 hj rfl]; rfl) fun i => by unfold lit1t0_638; rw [Nat.mod_mod]
theorem row_381 : OneAt 381 31 :=
  row_of lit1t0_638 lit1t1_2 _ _ unit_31 (fun _ _ => part_2 _ (by omega)) (fun _ hj => by unfold lit1t1_2; rw [row_in 381 125 hj rfl]; rfl) fun i => by unfold lit1t0_638; rw [Nat.mod_mod]
theorem row_382 : OneAt 382 31 :=
  row_of lit1t0_638 lit1t1_2 _ _ unit_31 (fun _ _ => part_2 _ (by omega)) (fun _ hj => by unfold lit1t1_2; rw [row_in 382 126 hj rfl]; rfl) fun i => by unfold lit1t0_638; rw [Nat.mod_mod]
theorem row_383 : OneAt 383 31 :=
  row_of lit1t0_638 lit1t1_2 _ _ unit_31 (fun _ _ => part_2 _ (by omega)) (fun _ hj => by unfold lit1t1_2; rw [row_in 383 127 hj rfl]; rfl) fun i => by unfold lit1t0_638; rw [Nat.mod_mod]

end Cert.Moe

end
-- ==== Proof.RowTab2.lean ====
/- The repetition table of the expert of patch length 4: row `l` holds a one at column `l / 4` and zeros elsewhere. -/
module

public import proofs.«01_k».proof.Proof.RowPart

@[expose] public section

set_option maxRecDepth 100000

namespace Cert.Moe

open Cert.KernelIdeal

theorem row_384 : OneAt 384 0 :=
  row_of lit1t0_576 lit1t1_3 _ _ unit_0 (fun _ _ => part_3 _ (by omega)) (fun _ hj => by unfold lit1t1_3; rw [row_in 384 0 hj rfl]; rfl) fun i => by unfold lit1t0_576; rw [Nat.mod_mod]
theorem row_385 : OneAt 385 0 :=
  row_of lit1t0_576 lit1t1_3 _ _ unit_0 (fun _ _ => part_3 _ (by omega)) (fun _ hj => by unfold lit1t1_3; rw [row_in 385 1 hj rfl]; rfl) fun i => by unfold lit1t0_576; rw [Nat.mod_mod]
theorem row_386 : OneAt 386 0 :=
  row_of lit1t0_576 lit1t1_3 _ _ unit_0 (fun _ _ => part_3 _ (by omega)) (fun _ hj => by unfold lit1t1_3; rw [row_in 386 2 hj rfl]; rfl) fun i => by unfold lit1t0_576; rw [Nat.mod_mod]
theorem row_387 : OneAt 387 0 :=
  row_of lit1t0_576 lit1t1_3 _ _ unit_0 (fun _ _ => part_3 _ (by omega)) (fun _ hj => by unfold lit1t1_3; rw [row_in 387 3 hj rfl]; rfl) fun i => by unfold lit1t0_576; rw [Nat.mod_mod]
theorem row_388 : OneAt 388 1 :=
  row_of lit1t0_578 lit1t1_3 _ _ unit_1 (fun _ _ => part_3 _ (by omega)) (fun _ hj => by unfold lit1t1_3; rw [row_in 388 4 hj rfl]; rfl) fun i => by unfold lit1t0_578; rw [Nat.mod_mod]
theorem row_389 : OneAt 389 1 :=
  row_of lit1t0_578 lit1t1_3 _ _ unit_1 (fun _ _ => part_3 _ (by omega)) (fun _ hj => by unfold lit1t1_3; rw [row_in 389 5 hj rfl]; rfl) fun i => by unfold lit1t0_578; rw [Nat.mod_mod]
theorem row_390 : OneAt 390 1 :=
  row_of lit1t0_578 lit1t1_3 _ _ unit_1 (fun _ _ => part_3 _ (by omega)) (fun _ hj => by unfold lit1t1_3; rw [row_in 390 6 hj rfl]; rfl) fun i => by unfold lit1t0_578; rw [Nat.mod_mod]
theorem row_391 : OneAt 391 1 :=
  row_of lit1t0_578 lit1t1_3 _ _ unit_1 (fun _ _ => part_3 _ (by omega)) (fun _ hj => by unfold lit1t1_3; rw [row_in 391 7 hj rfl]; rfl) fun i => by unfold lit1t0_578; rw [Nat.mod_mod]
theorem row_392 : OneAt 392 2 :=
  row_of lit1t0_580 lit1t1_3 _ _ unit_2 (fun _ _ => part_3 _ (by omega)) (fun _ hj => by unfold lit1t1_3; rw [row_in 392 8 hj rfl]; rfl) fun i => by unfold lit1t0_580; rw [Nat.mod_mod]
theorem row_393 : OneAt 393 2 :=
  row_of lit1t0_580 lit1t1_3 _ _ unit_2 (fun _ _ => part_3 _ (by omega)) (fun _ hj => by unfold lit1t1_3; rw [row_in 393 9 hj rfl]; rfl) fun i => by unfold lit1t0_580; rw [Nat.mod_mod]
theorem row_394 : OneAt 394 2 :=
  row_of lit1t0_580 lit1t1_3 _ _ unit_2 (fun _ _ => part_3 _ (by omega)) (fun _ hj => by unfold lit1t1_3; rw [row_in 394 10 hj rfl]; rfl) fun i => by unfold lit1t0_580; rw [Nat.mod_mod]
theorem row_395 : OneAt 395 2 :=
  row_of lit1t0_580 lit1t1_3 _ _ unit_2 (fun _ _ => part_3 _ (by omega)) (fun _ hj => by unfold lit1t1_3; rw [row_in 395 11 hj rfl]; rfl) fun i => by unfold lit1t0_580; rw [Nat.mod_mod]
theorem row_396 : OneAt 396 3 :=
  row_of lit1t0_582 lit1t1_3 _ _ unit_3 (fun _ _ => part_3 _ (by omega)) (fun _ hj => by unfold lit1t1_3; rw [row_in 396 12 hj rfl]; rfl) fun i => by unfold lit1t0_582; rw [Nat.mod_mod]
theorem row_397 : OneAt 397 3 :=
  row_of lit1t0_582 lit1t1_3 _ _ unit_3 (fun _ _ => part_3 _ (by omega)) (fun _ hj => by unfold lit1t1_3; rw [row_in 397 13 hj rfl]; rfl) fun i => by unfold lit1t0_582; rw [Nat.mod_mod]
theorem row_398 : OneAt 398 3 :=
  row_of lit1t0_582 lit1t1_3 _ _ unit_3 (fun _ _ => part_3 _ (by omega)) (fun _ hj => by unfold lit1t1_3; rw [row_in 398 14 hj rfl]; rfl) fun i => by unfold lit1t0_582; rw [Nat.mod_mod]
theorem row_399 : OneAt 399 3 :=
  row_of lit1t0_582 lit1t1_3 _ _ unit_3 (fun _ _ => part_3 _ (by omega)) (fun _ hj => by unfold lit1t1_3; rw [row_in 399 15 hj rfl]; rfl) fun i => by unfold lit1t0_582; rw [Nat.mod_mod]
theorem row_400 : OneAt 400 4 :=
  row_of lit1t0_584 lit1t1_3 _ _ unit_4 (fun _ _ => part_3 _ (by omega)) (fun _ hj => by unfold lit1t1_3; rw [row_in 400 16 hj rfl]; rfl) fun i => by unfold lit1t0_584; rw [Nat.mod_mod]
theorem row_401 : OneAt 401 4 :=
  row_of lit1t0_584 lit1t1_3 _ _ unit_4 (fun _ _ => part_3 _ (by omega)) (fun _ hj => by unfold lit1t1_3; rw [row_in 401 17 hj rfl]; rfl) fun i => by unfold lit1t0_584; rw [Nat.mod_mod]
theorem row_402 : OneAt 402 4 :=
  row_of lit1t0_584 lit1t1_3 _ _ unit_4 (fun _ _ => part_3 _ (by omega)) (fun _ hj => by unfold lit1t1_3; rw [row_in 402 18 hj rfl]; rfl) fun i => by unfold lit1t0_584; rw [Nat.mod_mod]
theorem row_403 : OneAt 403 4 :=
  row_of lit1t0_584 lit1t1_3 _ _ unit_4 (fun _ _ => part_3 _ (by omega)) (fun _ hj => by unfold lit1t1_3; rw [row_in 403 19 hj rfl]; rfl) fun i => by unfold lit1t0_584; rw [Nat.mod_mod]
theorem row_404 : OneAt 404 5 :=
  row_of lit1t0_586 lit1t1_3 _ _ unit_5 (fun _ _ => part_3 _ (by omega)) (fun _ hj => by unfold lit1t1_3; rw [row_in 404 20 hj rfl]; rfl) fun i => by unfold lit1t0_586; rw [Nat.mod_mod]
theorem row_405 : OneAt 405 5 :=
  row_of lit1t0_586 lit1t1_3 _ _ unit_5 (fun _ _ => part_3 _ (by omega)) (fun _ hj => by unfold lit1t1_3; rw [row_in 405 21 hj rfl]; rfl) fun i => by unfold lit1t0_586; rw [Nat.mod_mod]
theorem row_406 : OneAt 406 5 :=
  row_of lit1t0_586 lit1t1_3 _ _ unit_5 (fun _ _ => part_3 _ (by omega)) (fun _ hj => by unfold lit1t1_3; rw [row_in 406 22 hj rfl]; rfl) fun i => by unfold lit1t0_586; rw [Nat.mod_mod]
theorem row_407 : OneAt 407 5 :=
  row_of lit1t0_586 lit1t1_3 _ _ unit_5 (fun _ _ => part_3 _ (by omega)) (fun _ hj => by unfold lit1t1_3; rw [row_in 407 23 hj rfl]; rfl) fun i => by unfold lit1t0_586; rw [Nat.mod_mod]
theorem row_408 : OneAt 408 6 :=
  row_of lit1t0_588 lit1t1_3 _ _ unit_6 (fun _ _ => part_3 _ (by omega)) (fun _ hj => by unfold lit1t1_3; rw [row_in 408 24 hj rfl]; rfl) fun i => by unfold lit1t0_588; rw [Nat.mod_mod]
theorem row_409 : OneAt 409 6 :=
  row_of lit1t0_588 lit1t1_3 _ _ unit_6 (fun _ _ => part_3 _ (by omega)) (fun _ hj => by unfold lit1t1_3; rw [row_in 409 25 hj rfl]; rfl) fun i => by unfold lit1t0_588; rw [Nat.mod_mod]
theorem row_410 : OneAt 410 6 :=
  row_of lit1t0_588 lit1t1_3 _ _ unit_6 (fun _ _ => part_3 _ (by omega)) (fun _ hj => by unfold lit1t1_3; rw [row_in 410 26 hj rfl]; rfl) fun i => by unfold lit1t0_588; rw [Nat.mod_mod]
theorem row_411 : OneAt 411 6 :=
  row_of lit1t0_588 lit1t1_3 _ _ unit_6 (fun _ _ => part_3 _ (by omega)) (fun _ hj => by unfold lit1t1_3; rw [row_in 411 27 hj rfl]; rfl) fun i => by unfold lit1t0_588; rw [Nat.mod_mod]
theorem row_412 : OneAt 412 7 :=
  row_of lit1t0_590 lit1t1_3 _ _ unit_7 (fun _ _ => part_3 _ (by omega)) (fun _ hj => by unfold lit1t1_3; rw [row_in 412 28 hj rfl]; rfl) fun i => by unfold lit1t0_590; rw [Nat.mod_mod]
theorem row_413 : OneAt 413 7 :=
  row_of lit1t0_590 lit1t1_3 _ _ unit_7 (fun _ _ => part_3 _ (by omega)) (fun _ hj => by unfold lit1t1_3; rw [row_in 413 29 hj rfl]; rfl) fun i => by unfold lit1t0_590; rw [Nat.mod_mod]
theorem row_414 : OneAt 414 7 :=
  row_of lit1t0_590 lit1t1_3 _ _ unit_7 (fun _ _ => part_3 _ (by omega)) (fun _ hj => by unfold lit1t1_3; rw [row_in 414 30 hj rfl]; rfl) fun i => by unfold lit1t0_590; rw [Nat.mod_mod]
theorem row_415 : OneAt 415 7 :=
  row_of lit1t0_590 lit1t1_3 _ _ unit_7 (fun _ _ => part_3 _ (by omega)) (fun _ hj => by unfold lit1t1_3; rw [row_in 415 31 hj rfl]; rfl) fun i => by unfold lit1t0_590; rw [Nat.mod_mod]
theorem row_416 : OneAt 416 8 :=
  row_of lit1t0_592 lit1t1_3 _ _ unit_8 (fun _ _ => part_3 _ (by omega)) (fun _ hj => by unfold lit1t1_3; rw [row_in 416 32 hj rfl]; rfl) fun i => by unfold lit1t0_592; rw [Nat.mod_mod]
theorem row_417 : OneAt 417 8 :=
  row_of lit1t0_592 lit1t1_3 _ _ unit_8 (fun _ _ => part_3 _ (by omega)) (fun _ hj => by unfold lit1t1_3; rw [row_in 417 33 hj rfl]; rfl) fun i => by unfold lit1t0_592; rw [Nat.mod_mod]
theorem row_418 : OneAt 418 8 :=
  row_of lit1t0_592 lit1t1_3 _ _ unit_8 (fun _ _ => part_3 _ (by omega)) (fun _ hj => by unfold lit1t1_3; rw [row_in 418 34 hj rfl]; rfl) fun i => by unfold lit1t0_592; rw [Nat.mod_mod]
theorem row_419 : OneAt 419 8 :=
  row_of lit1t0_592 lit1t1_3 _ _ unit_8 (fun _ _ => part_3 _ (by omega)) (fun _ hj => by unfold lit1t1_3; rw [row_in 419 35 hj rfl]; rfl) fun i => by unfold lit1t0_592; rw [Nat.mod_mod]
theorem row_420 : OneAt 420 9 :=
  row_of lit1t0_594 lit1t1_3 _ _ unit_9 (fun _ _ => part_3 _ (by omega)) (fun _ hj => by unfold lit1t1_3; rw [row_in 420 36 hj rfl]; rfl) fun i => by unfold lit1t0_594; rw [Nat.mod_mod]
theorem row_421 : OneAt 421 9 :=
  row_of lit1t0_594 lit1t1_3 _ _ unit_9 (fun _ _ => part_3 _ (by omega)) (fun _ hj => by unfold lit1t1_3; rw [row_in 421 37 hj rfl]; rfl) fun i => by unfold lit1t0_594; rw [Nat.mod_mod]
theorem row_422 : OneAt 422 9 :=
  row_of lit1t0_594 lit1t1_3 _ _ unit_9 (fun _ _ => part_3 _ (by omega)) (fun _ hj => by unfold lit1t1_3; rw [row_in 422 38 hj rfl]; rfl) fun i => by unfold lit1t0_594; rw [Nat.mod_mod]
theorem row_423 : OneAt 423 9 :=
  row_of lit1t0_594 lit1t1_3 _ _ unit_9 (fun _ _ => part_3 _ (by omega)) (fun _ hj => by unfold lit1t1_3; rw [row_in 423 39 hj rfl]; rfl) fun i => by unfold lit1t0_594; rw [Nat.mod_mod]
theorem row_424 : OneAt 424 10 :=
  row_of lit1t0_596 lit1t1_3 _ _ unit_10 (fun _ _ => part_3 _ (by omega)) (fun _ hj => by unfold lit1t1_3; rw [row_in 424 40 hj rfl]; rfl) fun i => by unfold lit1t0_596; rw [Nat.mod_mod]
theorem row_425 : OneAt 425 10 :=
  row_of lit1t0_596 lit1t1_3 _ _ unit_10 (fun _ _ => part_3 _ (by omega)) (fun _ hj => by unfold lit1t1_3; rw [row_in 425 41 hj rfl]; rfl) fun i => by unfold lit1t0_596; rw [Nat.mod_mod]
theorem row_426 : OneAt 426 10 :=
  row_of lit1t0_596 lit1t1_3 _ _ unit_10 (fun _ _ => part_3 _ (by omega)) (fun _ hj => by unfold lit1t1_3; rw [row_in 426 42 hj rfl]; rfl) fun i => by unfold lit1t0_596; rw [Nat.mod_mod]
theorem row_427 : OneAt 427 10 :=
  row_of lit1t0_596 lit1t1_3 _ _ unit_10 (fun _ _ => part_3 _ (by omega)) (fun _ hj => by unfold lit1t1_3; rw [row_in 427 43 hj rfl]; rfl) fun i => by unfold lit1t0_596; rw [Nat.mod_mod]
theorem row_428 : OneAt 428 11 :=
  row_of lit1t0_598 lit1t1_3 _ _ unit_11 (fun _ _ => part_3 _ (by omega)) (fun _ hj => by unfold lit1t1_3; rw [row_in 428 44 hj rfl]; rfl) fun i => by unfold lit1t0_598; rw [Nat.mod_mod]
theorem row_429 : OneAt 429 11 :=
  row_of lit1t0_598 lit1t1_3 _ _ unit_11 (fun _ _ => part_3 _ (by omega)) (fun _ hj => by unfold lit1t1_3; rw [row_in 429 45 hj rfl]; rfl) fun i => by unfold lit1t0_598; rw [Nat.mod_mod]
theorem row_430 : OneAt 430 11 :=
  row_of lit1t0_598 lit1t1_3 _ _ unit_11 (fun _ _ => part_3 _ (by omega)) (fun _ hj => by unfold lit1t1_3; rw [row_in 430 46 hj rfl]; rfl) fun i => by unfold lit1t0_598; rw [Nat.mod_mod]
theorem row_431 : OneAt 431 11 :=
  row_of lit1t0_598 lit1t1_3 _ _ unit_11 (fun _ _ => part_3 _ (by omega)) (fun _ hj => by unfold lit1t1_3; rw [row_in 431 47 hj rfl]; rfl) fun i => by unfold lit1t0_598; rw [Nat.mod_mod]
theorem row_432 : OneAt 432 12 :=
  row_of lit1t0_600 lit1t1_3 _ _ unit_12 (fun _ _ => part_3 _ (by omega)) (fun _ hj => by unfold lit1t1_3; rw [row_in 432 48 hj rfl]; rfl) fun i => by unfold lit1t0_600; rw [Nat.mod_mod]
theorem row_433 : OneAt 433 12 :=
  row_of lit1t0_600 lit1t1_3 _ _ unit_12 (fun _ _ => part_3 _ (by omega)) (fun _ hj => by unfold lit1t1_3; rw [row_in 433 49 hj rfl]; rfl) fun i => by unfold lit1t0_600; rw [Nat.mod_mod]
theorem row_434 : OneAt 434 12 :=
  row_of lit1t0_600 lit1t1_3 _ _ unit_12 (fun _ _ => part_3 _ (by omega)) (fun _ hj => by unfold lit1t1_3; rw [row_in 434 50 hj rfl]; rfl) fun i => by unfold lit1t0_600; rw [Nat.mod_mod]
theorem row_435 : OneAt 435 12 :=
  row_of lit1t0_600 lit1t1_3 _ _ unit_12 (fun _ _ => part_3 _ (by omega)) (fun _ hj => by unfold lit1t1_3; rw [row_in 435 51 hj rfl]; rfl) fun i => by unfold lit1t0_600; rw [Nat.mod_mod]
theorem row_436 : OneAt 436 13 :=
  row_of lit1t0_602 lit1t1_3 _ _ unit_13 (fun _ _ => part_3 _ (by omega)) (fun _ hj => by unfold lit1t1_3; rw [row_in 436 52 hj rfl]; rfl) fun i => by unfold lit1t0_602; rw [Nat.mod_mod]
theorem row_437 : OneAt 437 13 :=
  row_of lit1t0_602 lit1t1_3 _ _ unit_13 (fun _ _ => part_3 _ (by omega)) (fun _ hj => by unfold lit1t1_3; rw [row_in 437 53 hj rfl]; rfl) fun i => by unfold lit1t0_602; rw [Nat.mod_mod]
theorem row_438 : OneAt 438 13 :=
  row_of lit1t0_602 lit1t1_3 _ _ unit_13 (fun _ _ => part_3 _ (by omega)) (fun _ hj => by unfold lit1t1_3; rw [row_in 438 54 hj rfl]; rfl) fun i => by unfold lit1t0_602; rw [Nat.mod_mod]
theorem row_439 : OneAt 439 13 :=
  row_of lit1t0_602 lit1t1_3 _ _ unit_13 (fun _ _ => part_3 _ (by omega)) (fun _ hj => by unfold lit1t1_3; rw [row_in 439 55 hj rfl]; rfl) fun i => by unfold lit1t0_602; rw [Nat.mod_mod]
theorem row_440 : OneAt 440 14 :=
  row_of lit1t0_604 lit1t1_3 _ _ unit_14 (fun _ _ => part_3 _ (by omega)) (fun _ hj => by unfold lit1t1_3; rw [row_in 440 56 hj rfl]; rfl) fun i => by unfold lit1t0_604; rw [Nat.mod_mod]
theorem row_441 : OneAt 441 14 :=
  row_of lit1t0_604 lit1t1_3 _ _ unit_14 (fun _ _ => part_3 _ (by omega)) (fun _ hj => by unfold lit1t1_3; rw [row_in 441 57 hj rfl]; rfl) fun i => by unfold lit1t0_604; rw [Nat.mod_mod]
theorem row_442 : OneAt 442 14 :=
  row_of lit1t0_604 lit1t1_3 _ _ unit_14 (fun _ _ => part_3 _ (by omega)) (fun _ hj => by unfold lit1t1_3; rw [row_in 442 58 hj rfl]; rfl) fun i => by unfold lit1t0_604; rw [Nat.mod_mod]
theorem row_443 : OneAt 443 14 :=
  row_of lit1t0_604 lit1t1_3 _ _ unit_14 (fun _ _ => part_3 _ (by omega)) (fun _ hj => by unfold lit1t1_3; rw [row_in 443 59 hj rfl]; rfl) fun i => by unfold lit1t0_604; rw [Nat.mod_mod]
theorem row_444 : OneAt 444 15 :=
  row_of lit1t0_606 lit1t1_3 _ _ unit_15 (fun _ _ => part_3 _ (by omega)) (fun _ hj => by unfold lit1t1_3; rw [row_in 444 60 hj rfl]; rfl) fun i => by unfold lit1t0_606; rw [Nat.mod_mod]
theorem row_445 : OneAt 445 15 :=
  row_of lit1t0_606 lit1t1_3 _ _ unit_15 (fun _ _ => part_3 _ (by omega)) (fun _ hj => by unfold lit1t1_3; rw [row_in 445 61 hj rfl]; rfl) fun i => by unfold lit1t0_606; rw [Nat.mod_mod]
theorem row_446 : OneAt 446 15 :=
  row_of lit1t0_606 lit1t1_3 _ _ unit_15 (fun _ _ => part_3 _ (by omega)) (fun _ hj => by unfold lit1t1_3; rw [row_in 446 62 hj rfl]; rfl) fun i => by unfold lit1t0_606; rw [Nat.mod_mod]
theorem row_447 : OneAt 447 15 :=
  row_of lit1t0_606 lit1t1_3 _ _ unit_15 (fun _ _ => part_3 _ (by omega)) (fun _ hj => by unfold lit1t1_3; rw [row_in 447 63 hj rfl]; rfl) fun i => by unfold lit1t0_606; rw [Nat.mod_mod]
theorem row_448 : OneAt 448 16 :=
  row_of lit1t0_608 lit1t1_3 _ _ unit_16 (fun _ _ => part_3 _ (by omega)) (fun _ hj => by unfold lit1t1_3; rw [row_in 448 64 hj rfl]; rfl) fun i => by unfold lit1t0_608; rw [Nat.mod_mod]
theorem row_449 : OneAt 449 16 :=
  row_of lit1t0_608 lit1t1_3 _ _ unit_16 (fun _ _ => part_3 _ (by omega)) (fun _ hj => by unfold lit1t1_3; rw [row_in 449 65 hj rfl]; rfl) fun i => by unfold lit1t0_608; rw [Nat.mod_mod]
theorem row_450 : OneAt 450 16 :=
  row_of lit1t0_608 lit1t1_3 _ _ unit_16 (fun _ _ => part_3 _ (by omega)) (fun _ hj => by unfold lit1t1_3; rw [row_in 450 66 hj rfl]; rfl) fun i => by unfold lit1t0_608; rw [Nat.mod_mod]
theorem row_451 : OneAt 451 16 :=
  row_of lit1t0_608 lit1t1_3 _ _ unit_16 (fun _ _ => part_3 _ (by omega)) (fun _ hj => by unfold lit1t1_3; rw [row_in 451 67 hj rfl]; rfl) fun i => by unfold lit1t0_608; rw [Nat.mod_mod]
theorem row_452 : OneAt 452 17 :=
  row_of lit1t0_610 lit1t1_3 _ _ unit_17 (fun _ _ => part_3 _ (by omega)) (fun _ hj => by unfold lit1t1_3; rw [row_in 452 68 hj rfl]; rfl) fun i => by unfold lit1t0_610; rw [Nat.mod_mod]
theorem row_453 : OneAt 453 17 :=
  row_of lit1t0_610 lit1t1_3 _ _ unit_17 (fun _ _ => part_3 _ (by omega)) (fun _ hj => by unfold lit1t1_3; rw [row_in 453 69 hj rfl]; rfl) fun i => by unfold lit1t0_610; rw [Nat.mod_mod]
theorem row_454 : OneAt 454 17 :=
  row_of lit1t0_610 lit1t1_3 _ _ unit_17 (fun _ _ => part_3 _ (by omega)) (fun _ hj => by unfold lit1t1_3; rw [row_in 454 70 hj rfl]; rfl) fun i => by unfold lit1t0_610; rw [Nat.mod_mod]
theorem row_455 : OneAt 455 17 :=
  row_of lit1t0_610 lit1t1_3 _ _ unit_17 (fun _ _ => part_3 _ (by omega)) (fun _ hj => by unfold lit1t1_3; rw [row_in 455 71 hj rfl]; rfl) fun i => by unfold lit1t0_610; rw [Nat.mod_mod]
theorem row_456 : OneAt 456 18 :=
  row_of lit1t0_612 lit1t1_3 _ _ unit_18 (fun _ _ => part_3 _ (by omega)) (fun _ hj => by unfold lit1t1_3; rw [row_in 456 72 hj rfl]; rfl) fun i => by unfold lit1t0_612; rw [Nat.mod_mod]
theorem row_457 : OneAt 457 18 :=
  row_of lit1t0_612 lit1t1_3 _ _ unit_18 (fun _ _ => part_3 _ (by omega)) (fun _ hj => by unfold lit1t1_3; rw [row_in 457 73 hj rfl]; rfl) fun i => by unfold lit1t0_612; rw [Nat.mod_mod]
theorem row_458 : OneAt 458 18 :=
  row_of lit1t0_612 lit1t1_3 _ _ unit_18 (fun _ _ => part_3 _ (by omega)) (fun _ hj => by unfold lit1t1_3; rw [row_in 458 74 hj rfl]; rfl) fun i => by unfold lit1t0_612; rw [Nat.mod_mod]
theorem row_459 : OneAt 459 18 :=
  row_of lit1t0_612 lit1t1_3 _ _ unit_18 (fun _ _ => part_3 _ (by omega)) (fun _ hj => by unfold lit1t1_3; rw [row_in 459 75 hj rfl]; rfl) fun i => by unfold lit1t0_612; rw [Nat.mod_mod]
theorem row_460 : OneAt 460 19 :=
  row_of lit1t0_614 lit1t1_3 _ _ unit_19 (fun _ _ => part_3 _ (by omega)) (fun _ hj => by unfold lit1t1_3; rw [row_in 460 76 hj rfl]; rfl) fun i => by unfold lit1t0_614; rw [Nat.mod_mod]
theorem row_461 : OneAt 461 19 :=
  row_of lit1t0_614 lit1t1_3 _ _ unit_19 (fun _ _ => part_3 _ (by omega)) (fun _ hj => by unfold lit1t1_3; rw [row_in 461 77 hj rfl]; rfl) fun i => by unfold lit1t0_614; rw [Nat.mod_mod]
theorem row_462 : OneAt 462 19 :=
  row_of lit1t0_614 lit1t1_3 _ _ unit_19 (fun _ _ => part_3 _ (by omega)) (fun _ hj => by unfold lit1t1_3; rw [row_in 462 78 hj rfl]; rfl) fun i => by unfold lit1t0_614; rw [Nat.mod_mod]
theorem row_463 : OneAt 463 19 :=
  row_of lit1t0_614 lit1t1_3 _ _ unit_19 (fun _ _ => part_3 _ (by omega)) (fun _ hj => by unfold lit1t1_3; rw [row_in 463 79 hj rfl]; rfl) fun i => by unfold lit1t0_614; rw [Nat.mod_mod]
theorem row_464 : OneAt 464 20 :=
  row_of lit1t0_616 lit1t1_3 _ _ unit_20 (fun _ _ => part_3 _ (by omega)) (fun _ hj => by unfold lit1t1_3; rw [row_in 464 80 hj rfl]; rfl) fun i => by unfold lit1t0_616; rw [Nat.mod_mod]
theorem row_465 : OneAt 465 20 :=
  row_of lit1t0_616 lit1t1_3 _ _ unit_20 (fun _ _ => part_3 _ (by omega)) (fun _ hj => by unfold lit1t1_3; rw [row_in 465 81 hj rfl]; rfl) fun i => by unfold lit1t0_616; rw [Nat.mod_mod]
theorem row_466 : OneAt 466 20 :=
  row_of lit1t0_616 lit1t1_3 _ _ unit_20 (fun _ _ => part_3 _ (by omega)) (fun _ hj => by unfold lit1t1_3; rw [row_in 466 82 hj rfl]; rfl) fun i => by unfold lit1t0_616; rw [Nat.mod_mod]
theorem row_467 : OneAt 467 20 :=
  row_of lit1t0_616 lit1t1_3 _ _ unit_20 (fun _ _ => part_3 _ (by omega)) (fun _ hj => by unfold lit1t1_3; rw [row_in 467 83 hj rfl]; rfl) fun i => by unfold lit1t0_616; rw [Nat.mod_mod]
theorem row_468 : OneAt 468 21 :=
  row_of lit1t0_618 lit1t1_3 _ _ unit_21 (fun _ _ => part_3 _ (by omega)) (fun _ hj => by unfold lit1t1_3; rw [row_in 468 84 hj rfl]; rfl) fun i => by unfold lit1t0_618; rw [Nat.mod_mod]
theorem row_469 : OneAt 469 21 :=
  row_of lit1t0_618 lit1t1_3 _ _ unit_21 (fun _ _ => part_3 _ (by omega)) (fun _ hj => by unfold lit1t1_3; rw [row_in 469 85 hj rfl]; rfl) fun i => by unfold lit1t0_618; rw [Nat.mod_mod]
theorem row_470 : OneAt 470 21 :=
  row_of lit1t0_618 lit1t1_3 _ _ unit_21 (fun _ _ => part_3 _ (by omega)) (fun _ hj => by unfold lit1t1_3; rw [row_in 470 86 hj rfl]; rfl) fun i => by unfold lit1t0_618; rw [Nat.mod_mod]
theorem row_471 : OneAt 471 21 :=
  row_of lit1t0_618 lit1t1_3 _ _ unit_21 (fun _ _ => part_3 _ (by omega)) (fun _ hj => by unfold lit1t1_3; rw [row_in 471 87 hj rfl]; rfl) fun i => by unfold lit1t0_618; rw [Nat.mod_mod]
theorem row_472 : OneAt 472 22 :=
  row_of lit1t0_620 lit1t1_3 _ _ unit_22 (fun _ _ => part_3 _ (by omega)) (fun _ hj => by unfold lit1t1_3; rw [row_in 472 88 hj rfl]; rfl) fun i => by unfold lit1t0_620; rw [Nat.mod_mod]
theorem row_473 : OneAt 473 22 :=
  row_of lit1t0_620 lit1t1_3 _ _ unit_22 (fun _ _ => part_3 _ (by omega)) (fun _ hj => by unfold lit1t1_3; rw [row_in 473 89 hj rfl]; rfl) fun i => by unfold lit1t0_620; rw [Nat.mod_mod]
theorem row_474 : OneAt 474 22 :=
  row_of lit1t0_620 lit1t1_3 _ _ unit_22 (fun _ _ => part_3 _ (by omega)) (fun _ hj => by unfold lit1t1_3; rw [row_in 474 90 hj rfl]; rfl) fun i => by unfold lit1t0_620; rw [Nat.mod_mod]
theorem row_475 : OneAt 475 22 :=
  row_of lit1t0_620 lit1t1_3 _ _ unit_22 (fun _ _ => part_3 _ (by omega)) (fun _ hj => by unfold lit1t1_3; rw [row_in 475 91 hj rfl]; rfl) fun i => by unfold lit1t0_620; rw [Nat.mod_mod]
theorem row_476 : OneAt 476 23 :=
  row_of lit1t0_622 lit1t1_3 _ _ unit_23 (fun _ _ => part_3 _ (by omega)) (fun _ hj => by unfold lit1t1_3; rw [row_in 476 92 hj rfl]; rfl) fun i => by unfold lit1t0_622; rw [Nat.mod_mod]
theorem row_477 : OneAt 477 23 :=
  row_of lit1t0_622 lit1t1_3 _ _ unit_23 (fun _ _ => part_3 _ (by omega)) (fun _ hj => by unfold lit1t1_3; rw [row_in 477 93 hj rfl]; rfl) fun i => by unfold lit1t0_622; rw [Nat.mod_mod]
theorem row_478 : OneAt 478 23 :=
  row_of lit1t0_622 lit1t1_3 _ _ unit_23 (fun _ _ => part_3 _ (by omega)) (fun _ hj => by unfold lit1t1_3; rw [row_in 478 94 hj rfl]; rfl) fun i => by unfold lit1t0_622; rw [Nat.mod_mod]
theorem row_479 : OneAt 479 23 :=
  row_of lit1t0_622 lit1t1_3 _ _ unit_23 (fun _ _ => part_3 _ (by omega)) (fun _ hj => by unfold lit1t1_3; rw [row_in 479 95 hj rfl]; rfl) fun i => by unfold lit1t0_622; rw [Nat.mod_mod]
theorem row_480 : OneAt 480 24 :=
  row_of lit1t0_624 lit1t1_3 _ _ unit_24 (fun _ _ => part_3 _ (by omega)) (fun _ hj => by unfold lit1t1_3; rw [row_in 480 96 hj rfl]; rfl) fun i => by unfold lit1t0_624; rw [Nat.mod_mod]
theorem row_481 : OneAt 481 24 :=
  row_of lit1t0_624 lit1t1_3 _ _ unit_24 (fun _ _ => part_3 _ (by omega)) (fun _ hj => by unfold lit1t1_3; rw [row_in 481 97 hj rfl]; rfl) fun i => by unfold lit1t0_624; rw [Nat.mod_mod]
theorem row_482 : OneAt 482 24 :=
  row_of lit1t0_624 lit1t1_3 _ _ unit_24 (fun _ _ => part_3 _ (by omega)) (fun _ hj => by unfold lit1t1_3; rw [row_in 482 98 hj rfl]; rfl) fun i => by unfold lit1t0_624; rw [Nat.mod_mod]
theorem row_483 : OneAt 483 24 :=
  row_of lit1t0_624 lit1t1_3 _ _ unit_24 (fun _ _ => part_3 _ (by omega)) (fun _ hj => by unfold lit1t1_3; rw [row_in 483 99 hj rfl]; rfl) fun i => by unfold lit1t0_624; rw [Nat.mod_mod]
theorem row_484 : OneAt 484 25 :=
  row_of lit1t0_626 lit1t1_3 _ _ unit_25 (fun _ _ => part_3 _ (by omega)) (fun _ hj => by unfold lit1t1_3; rw [row_in 484 100 hj rfl]; rfl) fun i => by unfold lit1t0_626; rw [Nat.mod_mod]
theorem row_485 : OneAt 485 25 :=
  row_of lit1t0_626 lit1t1_3 _ _ unit_25 (fun _ _ => part_3 _ (by omega)) (fun _ hj => by unfold lit1t1_3; rw [row_in 485 101 hj rfl]; rfl) fun i => by unfold lit1t0_626; rw [Nat.mod_mod]
theorem row_486 : OneAt 486 25 :=
  row_of lit1t0_626 lit1t1_3 _ _ unit_25 (fun _ _ => part_3 _ (by omega)) (fun _ hj => by unfold lit1t1_3; rw [row_in 486 102 hj rfl]; rfl) fun i => by unfold lit1t0_626; rw [Nat.mod_mod]
theorem row_487 : OneAt 487 25 :=
  row_of lit1t0_626 lit1t1_3 _ _ unit_25 (fun _ _ => part_3 _ (by omega)) (fun _ hj => by unfold lit1t1_3; rw [row_in 487 103 hj rfl]; rfl) fun i => by unfold lit1t0_626; rw [Nat.mod_mod]
theorem row_488 : OneAt 488 26 :=
  row_of lit1t0_628 lit1t1_3 _ _ unit_26 (fun _ _ => part_3 _ (by omega)) (fun _ hj => by unfold lit1t1_3; rw [row_in 488 104 hj rfl]; rfl) fun i => by unfold lit1t0_628; rw [Nat.mod_mod]
theorem row_489 : OneAt 489 26 :=
  row_of lit1t0_628 lit1t1_3 _ _ unit_26 (fun _ _ => part_3 _ (by omega)) (fun _ hj => by unfold lit1t1_3; rw [row_in 489 105 hj rfl]; rfl) fun i => by unfold lit1t0_628; rw [Nat.mod_mod]
theorem row_490 : OneAt 490 26 :=
  row_of lit1t0_628 lit1t1_3 _ _ unit_26 (fun _ _ => part_3 _ (by omega)) (fun _ hj => by unfold lit1t1_3; rw [row_in 490 106 hj rfl]; rfl) fun i => by unfold lit1t0_628; rw [Nat.mod_mod]
theorem row_491 : OneAt 491 26 :=
  row_of lit1t0_628 lit1t1_3 _ _ unit_26 (fun _ _ => part_3 _ (by omega)) (fun _ hj => by unfold lit1t1_3; rw [row_in 491 107 hj rfl]; rfl) fun i => by unfold lit1t0_628; rw [Nat.mod_mod]
theorem row_492 : OneAt 492 27 :=
  row_of lit1t0_630 lit1t1_3 _ _ unit_27 (fun _ _ => part_3 _ (by omega)) (fun _ hj => by unfold lit1t1_3; rw [row_in 492 108 hj rfl]; rfl) fun i => by unfold lit1t0_630; rw [Nat.mod_mod]
theorem row_493 : OneAt 493 27 :=
  row_of lit1t0_630 lit1t1_3 _ _ unit_27 (fun _ _ => part_3 _ (by omega)) (fun _ hj => by unfold lit1t1_3; rw [row_in 493 109 hj rfl]; rfl) fun i => by unfold lit1t0_630; rw [Nat.mod_mod]
theorem row_494 : OneAt 494 27 :=
  row_of lit1t0_630 lit1t1_3 _ _ unit_27 (fun _ _ => part_3 _ (by omega)) (fun _ hj => by unfold lit1t1_3; rw [row_in 494 110 hj rfl]; rfl) fun i => by unfold lit1t0_630; rw [Nat.mod_mod]
theorem row_495 : OneAt 495 27 :=
  row_of lit1t0_630 lit1t1_3 _ _ unit_27 (fun _ _ => part_3 _ (by omega)) (fun _ hj => by unfold lit1t1_3; rw [row_in 495 111 hj rfl]; rfl) fun i => by unfold lit1t0_630; rw [Nat.mod_mod]
theorem row_496 : OneAt 496 28 :=
  row_of lit1t0_632 lit1t1_3 _ _ unit_28 (fun _ _ => part_3 _ (by omega)) (fun _ hj => by unfold lit1t1_3; rw [row_in 496 112 hj rfl]; rfl) fun i => by unfold lit1t0_632; rw [Nat.mod_mod]
theorem row_497 : OneAt 497 28 :=
  row_of lit1t0_632 lit1t1_3 _ _ unit_28 (fun _ _ => part_3 _ (by omega)) (fun _ hj => by unfold lit1t1_3; rw [row_in 497 113 hj rfl]; rfl) fun i => by unfold lit1t0_632; rw [Nat.mod_mod]
theorem row_498 : OneAt 498 28 :=
  row_of lit1t0_632 lit1t1_3 _ _ unit_28 (fun _ _ => part_3 _ (by omega)) (fun _ hj => by unfold lit1t1_3; rw [row_in 498 114 hj rfl]; rfl) fun i => by unfold lit1t0_632; rw [Nat.mod_mod]
theorem row_499 : OneAt 499 28 :=
  row_of lit1t0_632 lit1t1_3 _ _ unit_28 (fun _ _ => part_3 _ (by omega)) (fun _ hj => by unfold lit1t1_3; rw [row_in 499 115 hj rfl]; rfl) fun i => by unfold lit1t0_632; rw [Nat.mod_mod]
theorem row_500 : OneAt 500 29 :=
  row_of lit1t0_634 lit1t1_3 _ _ unit_29 (fun _ _ => part_3 _ (by omega)) (fun _ hj => by unfold lit1t1_3; rw [row_in 500 116 hj rfl]; rfl) fun i => by unfold lit1t0_634; rw [Nat.mod_mod]
theorem row_501 : OneAt 501 29 :=
  row_of lit1t0_634 lit1t1_3 _ _ unit_29 (fun _ _ => part_3 _ (by omega)) (fun _ hj => by unfold lit1t1_3; rw [row_in 501 117 hj rfl]; rfl) fun i => by unfold lit1t0_634; rw [Nat.mod_mod]
theorem row_502 : OneAt 502 29 :=
  row_of lit1t0_634 lit1t1_3 _ _ unit_29 (fun _ _ => part_3 _ (by omega)) (fun _ hj => by unfold lit1t1_3; rw [row_in 502 118 hj rfl]; rfl) fun i => by unfold lit1t0_634; rw [Nat.mod_mod]
theorem row_503 : OneAt 503 29 :=
  row_of lit1t0_634 lit1t1_3 _ _ unit_29 (fun _ _ => part_3 _ (by omega)) (fun _ hj => by unfold lit1t1_3; rw [row_in 503 119 hj rfl]; rfl) fun i => by unfold lit1t0_634; rw [Nat.mod_mod]
theorem row_504 : OneAt 504 30 :=
  row_of lit1t0_636 lit1t1_3 _ _ unit_30 (fun _ _ => part_3 _ (by omega)) (fun _ hj => by unfold lit1t1_3; rw [row_in 504 120 hj rfl]; rfl) fun i => by unfold lit1t0_636; rw [Nat.mod_mod]
theorem row_505 : OneAt 505 30 :=
  row_of lit1t0_636 lit1t1_3 _ _ unit_30 (fun _ _ => part_3 _ (by omega)) (fun _ hj => by unfold lit1t1_3; rw [row_in 505 121 hj rfl]; rfl) fun i => by unfold lit1t0_636; rw [Nat.mod_mod]
theorem row_506 : OneAt 506 30 :=
  row_of lit1t0_636 lit1t1_3 _ _ unit_30 (fun _ _ => part_3 _ (by omega)) (fun _ hj => by unfold lit1t1_3; rw [row_in 506 122 hj rfl]; rfl) fun i => by unfold lit1t0_636; rw [Nat.mod_mod]
theorem row_507 : OneAt 507 30 :=
  row_of lit1t0_636 lit1t1_3 _ _ unit_30 (fun _ _ => part_3 _ (by omega)) (fun _ hj => by unfold lit1t1_3; rw [row_in 507 123 hj rfl]; rfl) fun i => by unfold lit1t0_636; rw [Nat.mod_mod]
theorem row_508 : OneAt 508 31 :=
  row_of lit1t0_638 lit1t1_3 _ _ unit_31 (fun _ _ => part_3 _ (by omega)) (fun _ hj => by unfold lit1t1_3; rw [row_in 508 124 hj rfl]; rfl) fun i => by unfold lit1t0_638; rw [Nat.mod_mod]
theorem row_509 : OneAt 509 31 :=
  row_of lit1t0_638 lit1t1_3 _ _ unit_31 (fun _ _ => part_3 _ (by omega)) (fun _ hj => by unfold lit1t1_3; rw [row_in 509 125 hj rfl]; rfl) fun i => by unfold lit1t0_638; rw [Nat.mod_mod]
theorem row_510 : OneAt 510 31 :=
  row_of lit1t0_638 lit1t1_3 _ _ unit_31 (fun _ _ => part_3 _ (by omega)) (fun _ hj => by unfold lit1t1_3; rw [row_in 510 126 hj rfl]; rfl) fun i => by unfold lit1t0_638; rw [Nat.mod_mod]
theorem row_511 : OneAt 511 31 :=
  row_of lit1t0_638 lit1t1_3 _ _ unit_31 (fun _ _ => part_3 _ (by omega)) (fun _ hj => by unfold lit1t1_3; rw [row_in 511 127 hj rfl]; rfl) fun i => by unfold lit1t0_638; rw [Nat.mod_mod]
theorem row_512 : OneAt 512 32 :=
  row_of lit1t0_640 lit1t1_4 _ _ unit_32 (fun _ _ => part_4 _ (by omega)) (fun _ hj => by unfold lit1t1_4; rw [row_in 512 0 hj rfl]; rfl) fun i => by unfold lit1t0_640; rw [Nat.mod_mod]
theorem row_513 : OneAt 513 32 :=
  row_of lit1t0_640 lit1t1_4 _ _ unit_32 (fun _ _ => part_4 _ (by omega)) (fun _ hj => by unfold lit1t1_4; rw [row_in 513 1 hj rfl]; rfl) fun i => by unfold lit1t0_640; rw [Nat.mod_mod]
theorem row_514 : OneAt 514 32 :=
  row_of lit1t0_640 lit1t1_4 _ _ unit_32 (fun _ _ => part_4 _ (by omega)) (fun _ hj => by unfold lit1t1_4; rw [row_in 514 2 hj rfl]; rfl) fun i => by unfold lit1t0_640; rw [Nat.mod_mod]
theorem row_515 : OneAt 515 32 :=
  row_of lit1t0_640 lit1t1_4 _ _ unit_32 (fun _ _ => part_4 _ (by omega)) (fun _ hj => by unfold lit1t1_4; rw [row_in 515 3 hj rfl]; rfl) fun i => by unfold lit1t0_640; rw [Nat.mod_mod]
theorem row_516 : OneAt 516 33 :=
  row_of lit1t0_642 lit1t1_4 _ _ unit_33 (fun _ _ => part_4 _ (by omega)) (fun _ hj => by unfold lit1t1_4; rw [row_in 516 4 hj rfl]; rfl) fun i => by unfold lit1t0_642; rw [Nat.mod_mod]
theorem row_517 : OneAt 517 33 :=
  row_of lit1t0_642 lit1t1_4 _ _ unit_33 (fun _ _ => part_4 _ (by omega)) (fun _ hj => by unfold lit1t1_4; rw [row_in 517 5 hj rfl]; rfl) fun i => by unfold lit1t0_642; rw [Nat.mod_mod]
theorem row_518 : OneAt 518 33 :=
  row_of lit1t0_642 lit1t1_4 _ _ unit_33 (fun _ _ => part_4 _ (by omega)) (fun _ hj => by unfold lit1t1_4; rw [row_in 518 6 hj rfl]; rfl) fun i => by unfold lit1t0_642; rw [Nat.mod_mod]
theorem row_519 : OneAt 519 33 :=
  row_of lit1t0_642 lit1t1_4 _ _ unit_33 (fun _ _ => part_4 _ (by omega)) (fun _ hj => by unfold lit1t1_4; rw [row_in 519 7 hj rfl]; rfl) fun i => by unfold lit1t0_642; rw [Nat.mod_mod]
theorem row_520 : OneAt 520 34 :=
  row_of lit1t0_644 lit1t1_4 _ _ unit_34 (fun _ _ => part_4 _ (by omega)) (fun _ hj => by unfold lit1t1_4; rw [row_in 520 8 hj rfl]; rfl) fun i => by unfold lit1t0_644; rw [Nat.mod_mod]
theorem row_521 : OneAt 521 34 :=
  row_of lit1t0_644 lit1t1_4 _ _ unit_34 (fun _ _ => part_4 _ (by omega)) (fun _ hj => by unfold lit1t1_4; rw [row_in 521 9 hj rfl]; rfl) fun i => by unfold lit1t0_644; rw [Nat.mod_mod]
theorem row_522 : OneAt 522 34 :=
  row_of lit1t0_644 lit1t1_4 _ _ unit_34 (fun _ _ => part_4 _ (by omega)) (fun _ hj => by unfold lit1t1_4; rw [row_in 522 10 hj rfl]; rfl) fun i => by unfold lit1t0_644; rw [Nat.mod_mod]
theorem row_523 : OneAt 523 34 :=
  row_of lit1t0_644 lit1t1_4 _ _ unit_34 (fun _ _ => part_4 _ (by omega)) (fun _ hj => by unfold lit1t1_4; rw [row_in 523 11 hj rfl]; rfl) fun i => by unfold lit1t0_644; rw [Nat.mod_mod]
theorem row_524 : OneAt 524 35 :=
  row_of lit1t0_646 lit1t1_4 _ _ unit_35 (fun _ _ => part_4 _ (by omega)) (fun _ hj => by unfold lit1t1_4; rw [row_in 524 12 hj rfl]; rfl) fun i => by unfold lit1t0_646; rw [Nat.mod_mod]
theorem row_525 : OneAt 525 35 :=
  row_of lit1t0_646 lit1t1_4 _ _ unit_35 (fun _ _ => part_4 _ (by omega)) (fun _ hj => by unfold lit1t1_4; rw [row_in 525 13 hj rfl]; rfl) fun i => by unfold lit1t0_646; rw [Nat.mod_mod]
theorem row_526 : OneAt 526 35 :=
  row_of lit1t0_646 lit1t1_4 _ _ unit_35 (fun _ _ => part_4 _ (by omega)) (fun _ hj => by unfold lit1t1_4; rw [row_in 526 14 hj rfl]; rfl) fun i => by unfold lit1t0_646; rw [Nat.mod_mod]
theorem row_527 : OneAt 527 35 :=
  row_of lit1t0_646 lit1t1_4 _ _ unit_35 (fun _ _ => part_4 _ (by omega)) (fun _ hj => by unfold lit1t1_4; rw [row_in 527 15 hj rfl]; rfl) fun i => by unfold lit1t0_646; rw [Nat.mod_mod]
theorem row_528 : OneAt 528 36 :=
  row_of lit1t0_648 lit1t1_4 _ _ unit_36 (fun _ _ => part_4 _ (by omega)) (fun _ hj => by unfold lit1t1_4; rw [row_in 528 16 hj rfl]; rfl) fun i => by unfold lit1t0_648; rw [Nat.mod_mod]
theorem row_529 : OneAt 529 36 :=
  row_of lit1t0_648 lit1t1_4 _ _ unit_36 (fun _ _ => part_4 _ (by omega)) (fun _ hj => by unfold lit1t1_4; rw [row_in 529 17 hj rfl]; rfl) fun i => by unfold lit1t0_648; rw [Nat.mod_mod]
theorem row_530 : OneAt 530 36 :=
  row_of lit1t0_648 lit1t1_4 _ _ unit_36 (fun _ _ => part_4 _ (by omega)) (fun _ hj => by unfold lit1t1_4; rw [row_in 530 18 hj rfl]; rfl) fun i => by unfold lit1t0_648; rw [Nat.mod_mod]
theorem row_531 : OneAt 531 36 :=
  row_of lit1t0_648 lit1t1_4 _ _ unit_36 (fun _ _ => part_4 _ (by omega)) (fun _ hj => by unfold lit1t1_4; rw [row_in 531 19 hj rfl]; rfl) fun i => by unfold lit1t0_648; rw [Nat.mod_mod]
theorem row_532 : OneAt 532 37 :=
  row_of lit1t0_650 lit1t1_4 _ _ unit_37 (fun _ _ => part_4 _ (by omega)) (fun _ hj => by unfold lit1t1_4; rw [row_in 532 20 hj rfl]; rfl) fun i => by unfold lit1t0_650; rw [Nat.mod_mod]
theorem row_533 : OneAt 533 37 :=
  row_of lit1t0_650 lit1t1_4 _ _ unit_37 (fun _ _ => part_4 _ (by omega)) (fun _ hj => by unfold lit1t1_4; rw [row_in 533 21 hj rfl]; rfl) fun i => by unfold lit1t0_650; rw [Nat.mod_mod]
theorem row_534 : OneAt 534 37 :=
  row_of lit1t0_650 lit1t1_4 _ _ unit_37 (fun _ _ => part_4 _ (by omega)) (fun _ hj => by unfold lit1t1_4; rw [row_in 534 22 hj rfl]; rfl) fun i => by unfold lit1t0_650; rw [Nat.mod_mod]
theorem row_535 : OneAt 535 37 :=
  row_of lit1t0_650 lit1t1_4 _ _ unit_37 (fun _ _ => part_4 _ (by omega)) (fun _ hj => by unfold lit1t1_4; rw [row_in 535 23 hj rfl]; rfl) fun i => by unfold lit1t0_650; rw [Nat.mod_mod]
theorem row_536 : OneAt 536 38 :=
  row_of lit1t0_652 lit1t1_4 _ _ unit_38 (fun _ _ => part_4 _ (by omega)) (fun _ hj => by unfold lit1t1_4; rw [row_in 536 24 hj rfl]; rfl) fun i => by unfold lit1t0_652; rw [Nat.mod_mod]
theorem row_537 : OneAt 537 38 :=
  row_of lit1t0_652 lit1t1_4 _ _ unit_38 (fun _ _ => part_4 _ (by omega)) (fun _ hj => by unfold lit1t1_4; rw [row_in 537 25 hj rfl]; rfl) fun i => by unfold lit1t0_652; rw [Nat.mod_mod]
theorem row_538 : OneAt 538 38 :=
  row_of lit1t0_652 lit1t1_4 _ _ unit_38 (fun _ _ => part_4 _ (by omega)) (fun _ hj => by unfold lit1t1_4; rw [row_in 538 26 hj rfl]; rfl) fun i => by unfold lit1t0_652; rw [Nat.mod_mod]
theorem row_539 : OneAt 539 38 :=
  row_of lit1t0_652 lit1t1_4 _ _ unit_38 (fun _ _ => part_4 _ (by omega)) (fun _ hj => by unfold lit1t1_4; rw [row_in 539 27 hj rfl]; rfl) fun i => by unfold lit1t0_652; rw [Nat.mod_mod]
theorem row_540 : OneAt 540 39 :=
  row_of lit1t0_654 lit1t1_4 _ _ unit_39 (fun _ _ => part_4 _ (by omega)) (fun _ hj => by unfold lit1t1_4; rw [row_in 540 28 hj rfl]; rfl) fun i => by unfold lit1t0_654; rw [Nat.mod_mod]
theorem row_541 : OneAt 541 39 :=
  row_of lit1t0_654 lit1t1_4 _ _ unit_39 (fun _ _ => part_4 _ (by omega)) (fun _ hj => by unfold lit1t1_4; rw [row_in 541 29 hj rfl]; rfl) fun i => by unfold lit1t0_654; rw [Nat.mod_mod]
theorem row_542 : OneAt 542 39 :=
  row_of lit1t0_654 lit1t1_4 _ _ unit_39 (fun _ _ => part_4 _ (by omega)) (fun _ hj => by unfold lit1t1_4; rw [row_in 542 30 hj rfl]; rfl) fun i => by unfold lit1t0_654; rw [Nat.mod_mod]
theorem row_543 : OneAt 543 39 :=
  row_of lit1t0_654 lit1t1_4 _ _ unit_39 (fun _ _ => part_4 _ (by omega)) (fun _ hj => by unfold lit1t1_4; rw [row_in 543 31 hj rfl]; rfl) fun i => by unfold lit1t0_654; rw [Nat.mod_mod]
theorem row_544 : OneAt 544 40 :=
  row_of lit1t0_656 lit1t1_4 _ _ unit_40 (fun _ _ => part_4 _ (by omega)) (fun _ hj => by unfold lit1t1_4; rw [row_in 544 32 hj rfl]; rfl) fun i => by unfold lit1t0_656; rw [Nat.mod_mod]
theorem row_545 : OneAt 545 40 :=
  row_of lit1t0_656 lit1t1_4 _ _ unit_40 (fun _ _ => part_4 _ (by omega)) (fun _ hj => by unfold lit1t1_4; rw [row_in 545 33 hj rfl]; rfl) fun i => by unfold lit1t0_656; rw [Nat.mod_mod]
theorem row_546 : OneAt 546 40 :=
  row_of lit1t0_656 lit1t1_4 _ _ unit_40 (fun _ _ => part_4 _ (by omega)) (fun _ hj => by unfold lit1t1_4; rw [row_in 546 34 hj rfl]; rfl) fun i => by unfold lit1t0_656; rw [Nat.mod_mod]
theorem row_547 : OneAt 547 40 :=
  row_of lit1t0_656 lit1t1_4 _ _ unit_40 (fun _ _ => part_4 _ (by omega)) (fun _ hj => by unfold lit1t1_4; rw [row_in 547 35 hj rfl]; rfl) fun i => by unfold lit1t0_656; rw [Nat.mod_mod]
theorem row_548 : OneAt 548 41 :=
  row_of lit1t0_658 lit1t1_4 _ _ unit_41 (fun _ _ => part_4 _ (by omega)) (fun _ hj => by unfold lit1t1_4; rw [row_in 548 36 hj rfl]; rfl) fun i => by unfold lit1t0_658; rw [Nat.mod_mod]
theorem row_549 : OneAt 549 41 :=
  row_of lit1t0_658 lit1t1_4 _ _ unit_41 (fun _ _ => part_4 _ (by omega)) (fun _ hj => by unfold lit1t1_4; rw [row_in 549 37 hj rfl]; rfl) fun i => by unfold lit1t0_658; rw [Nat.mod_mod]
theorem row_550 : OneAt 550 41 :=
  row_of lit1t0_658 lit1t1_4 _ _ unit_41 (fun _ _ => part_4 _ (by omega)) (fun _ hj => by unfold lit1t1_4; rw [row_in 550 38 hj rfl]; rfl) fun i => by unfold lit1t0_658; rw [Nat.mod_mod]
theorem row_551 : OneAt 551 41 :=
  row_of lit1t0_658 lit1t1_4 _ _ unit_41 (fun _ _ => part_4 _ (by omega)) (fun _ hj => by unfold lit1t1_4; rw [row_in 551 39 hj rfl]; rfl) fun i => by unfold lit1t0_658; rw [Nat.mod_mod]
theorem row_552 : OneAt 552 42 :=
  row_of lit1t0_660 lit1t1_4 _ _ unit_42 (fun _ _ => part_4 _ (by omega)) (fun _ hj => by unfold lit1t1_4; rw [row_in 552 40 hj rfl]; rfl) fun i => by unfold lit1t0_660; rw [Nat.mod_mod]
theorem row_553 : OneAt 553 42 :=
  row_of lit1t0_660 lit1t1_4 _ _ unit_42 (fun _ _ => part_4 _ (by omega)) (fun _ hj => by unfold lit1t1_4; rw [row_in 553 41 hj rfl]; rfl) fun i => by unfold lit1t0_660; rw [Nat.mod_mod]
theorem row_554 : OneAt 554 42 :=
  row_of lit1t0_660 lit1t1_4 _ _ unit_42 (fun _ _ => part_4 _ (by omega)) (fun _ hj => by unfold lit1t1_4; rw [row_in 554 42 hj rfl]; rfl) fun i => by unfold lit1t0_660; rw [Nat.mod_mod]
theorem row_555 : OneAt 555 42 :=
  row_of lit1t0_660 lit1t1_4 _ _ unit_42 (fun _ _ => part_4 _ (by omega)) (fun _ hj => by unfold lit1t1_4; rw [row_in 555 43 hj rfl]; rfl) fun i => by unfold lit1t0_660; rw [Nat.mod_mod]
theorem row_556 : OneAt 556 43 :=
  row_of lit1t0_662 lit1t1_4 _ _ unit_43 (fun _ _ => part_4 _ (by omega)) (fun _ hj => by unfold lit1t1_4; rw [row_in 556 44 hj rfl]; rfl) fun i => by unfold lit1t0_662; rw [Nat.mod_mod]
theorem row_557 : OneAt 557 43 :=
  row_of lit1t0_662 lit1t1_4 _ _ unit_43 (fun _ _ => part_4 _ (by omega)) (fun _ hj => by unfold lit1t1_4; rw [row_in 557 45 hj rfl]; rfl) fun i => by unfold lit1t0_662; rw [Nat.mod_mod]
theorem row_558 : OneAt 558 43 :=
  row_of lit1t0_662 lit1t1_4 _ _ unit_43 (fun _ _ => part_4 _ (by omega)) (fun _ hj => by unfold lit1t1_4; rw [row_in 558 46 hj rfl]; rfl) fun i => by unfold lit1t0_662; rw [Nat.mod_mod]
theorem row_559 : OneAt 559 43 :=
  row_of lit1t0_662 lit1t1_4 _ _ unit_43 (fun _ _ => part_4 _ (by omega)) (fun _ hj => by unfold lit1t1_4; rw [row_in 559 47 hj rfl]; rfl) fun i => by unfold lit1t0_662; rw [Nat.mod_mod]
theorem row_560 : OneAt 560 44 :=
  row_of lit1t0_664 lit1t1_4 _ _ unit_44 (fun _ _ => part_4 _ (by omega)) (fun _ hj => by unfold lit1t1_4; rw [row_in 560 48 hj rfl]; rfl) fun i => by unfold lit1t0_664; rw [Nat.mod_mod]
theorem row_561 : OneAt 561 44 :=
  row_of lit1t0_664 lit1t1_4 _ _ unit_44 (fun _ _ => part_4 _ (by omega)) (fun _ hj => by unfold lit1t1_4; rw [row_in 561 49 hj rfl]; rfl) fun i => by unfold lit1t0_664; rw [Nat.mod_mod]
theorem row_562 : OneAt 562 44 :=
  row_of lit1t0_664 lit1t1_4 _ _ unit_44 (fun _ _ => part_4 _ (by omega)) (fun _ hj => by unfold lit1t1_4; rw [row_in 562 50 hj rfl]; rfl) fun i => by unfold lit1t0_664; rw [Nat.mod_mod]
theorem row_563 : OneAt 563 44 :=
  row_of lit1t0_664 lit1t1_4 _ _ unit_44 (fun _ _ => part_4 _ (by omega)) (fun _ hj => by unfold lit1t1_4; rw [row_in 563 51 hj rfl]; rfl) fun i => by unfold lit1t0_664; rw [Nat.mod_mod]
theorem row_564 : OneAt 564 45 :=
  row_of lit1t0_666 lit1t1_4 _ _ unit_45 (fun _ _ => part_4 _ (by omega)) (fun _ hj => by unfold lit1t1_4; rw [row_in 564 52 hj rfl]; rfl) fun i => by unfold lit1t0_666; rw [Nat.mod_mod]
theorem row_565 : OneAt 565 45 :=
  row_of lit1t0_666 lit1t1_4 _ _ unit_45 (fun _ _ => part_4 _ (by omega)) (fun _ hj => by unfold lit1t1_4; rw [row_in 565 53 hj rfl]; rfl) fun i => by unfold lit1t0_666; rw [Nat.mod_mod]
theorem row_566 : OneAt 566 45 :=
  row_of lit1t0_666 lit1t1_4 _ _ unit_45 (fun _ _ => part_4 _ (by omega)) (fun _ hj => by unfold lit1t1_4; rw [row_in 566 54 hj rfl]; rfl) fun i => by unfold lit1t0_666; rw [Nat.mod_mod]
theorem row_567 : OneAt 567 45 :=
  row_of lit1t0_666 lit1t1_4 _ _ unit_45 (fun _ _ => part_4 _ (by omega)) (fun _ hj => by unfold lit1t1_4; rw [row_in 567 55 hj rfl]; rfl) fun i => by unfold lit1t0_666; rw [Nat.mod_mod]
theorem row_568 : OneAt 568 46 :=
  row_of lit1t0_668 lit1t1_4 _ _ unit_46 (fun _ _ => part_4 _ (by omega)) (fun _ hj => by unfold lit1t1_4; rw [row_in 568 56 hj rfl]; rfl) fun i => by unfold lit1t0_668; rw [Nat.mod_mod]
theorem row_569 : OneAt 569 46 :=
  row_of lit1t0_668 lit1t1_4 _ _ unit_46 (fun _ _ => part_4 _ (by omega)) (fun _ hj => by unfold lit1t1_4; rw [row_in 569 57 hj rfl]; rfl) fun i => by unfold lit1t0_668; rw [Nat.mod_mod]
theorem row_570 : OneAt 570 46 :=
  row_of lit1t0_668 lit1t1_4 _ _ unit_46 (fun _ _ => part_4 _ (by omega)) (fun _ hj => by unfold lit1t1_4; rw [row_in 570 58 hj rfl]; rfl) fun i => by unfold lit1t0_668; rw [Nat.mod_mod]
theorem row_571 : OneAt 571 46 :=
  row_of lit1t0_668 lit1t1_4 _ _ unit_46 (fun _ _ => part_4 _ (by omega)) (fun _ hj => by unfold lit1t1_4; rw [row_in 571 59 hj rfl]; rfl) fun i => by unfold lit1t0_668; rw [Nat.mod_mod]
theorem row_572 : OneAt 572 47 :=
  row_of lit1t0_670 lit1t1_4 _ _ unit_47 (fun _ _ => part_4 _ (by omega)) (fun _ hj => by unfold lit1t1_4; rw [row_in 572 60 hj rfl]; rfl) fun i => by unfold lit1t0_670; rw [Nat.mod_mod]
theorem row_573 : OneAt 573 47 :=
  row_of lit1t0_670 lit1t1_4 _ _ unit_47 (fun _ _ => part_4 _ (by omega)) (fun _ hj => by unfold lit1t1_4; rw [row_in 573 61 hj rfl]; rfl) fun i => by unfold lit1t0_670; rw [Nat.mod_mod]
theorem row_574 : OneAt 574 47 :=
  row_of lit1t0_670 lit1t1_4 _ _ unit_47 (fun _ _ => part_4 _ (by omega)) (fun _ hj => by unfold lit1t1_4; rw [row_in 574 62 hj rfl]; rfl) fun i => by unfold lit1t0_670; rw [Nat.mod_mod]
theorem row_575 : OneAt 575 47 :=
  row_of lit1t0_670 lit1t1_4 _ _ unit_47 (fun _ _ => part_4 _ (by omega)) (fun _ hj => by unfold lit1t1_4; rw [row_in 575 63 hj rfl]; rfl) fun i => by unfold lit1t0_670; rw [Nat.mod_mod]

end Cert.Moe

end
-- ==== Proof.RowTab3.lean ====
/- The repetition table of the expert of patch length 2: row `l` holds a one at column `l / 2` and zeros elsewhere. -/
module

public import proofs.«01_k».proof.Proof.RowPart

@[expose] public section

set_option maxRecDepth 100000

namespace Cert.Moe

open Cert.KernelIdeal

theorem row_576 : OneAt 576 0 :=
  row_of lit1t0_576 lit1t1_4 _ _ unit_0 (fun _ _ => part_4 _ (by omega)) (fun _ hj => by unfold lit1t1_4; rw [row_in 576 64 hj rfl]; rfl) fun i => by unfold lit1t0_576; rw [Nat.mod_mod]
theorem row_577 : OneAt 577 0 :=
  row_of lit1t0_576 lit1t1_4 _ _ unit_0 (fun _ _ => part_4 _ (by omega)) (fun _ hj => by unfold lit1t1_4; rw [row_in 577 65 hj rfl]; rfl) fun i => by unfold lit1t0_576; rw [Nat.mod_mod]
theorem row_578 : OneAt 578 1 :=
  row_of lit1t0_578 lit1t1_4 _ _ unit_1 (fun _ _ => part_4 _ (by omega)) (fun _ hj => by unfold lit1t1_4; rw [row_in 578 66 hj rfl]; rfl) fun i => by unfold lit1t0_578; rw [Nat.mod_mod]
theorem row_579 : OneAt 579 1 :=
  row_of lit1t0_578 lit1t1_4 _ _ unit_1 (fun _ _ => part_4 _ (by omega)) (fun _ hj => by unfold lit1t1_4; rw [row_in 579 67 hj rfl]; rfl) fun i => by unfold lit1t0_578; rw [Nat.mod_mod]
theorem row_580 : OneAt 580 2 :=
  row_of lit1t0_580 lit1t1_4 _ _ unit_2 (fun _ _ => part_4 _ (by omega)) (fun _ hj => by unfold lit1t1_4; rw [row_in 580 68 hj rfl]; rfl) fun i => by unfold lit1t0_580; rw [Nat.mod_mod]
theorem row_581 : OneAt 581 2 :=
  row_of lit1t0_580 lit1t1_4 _ _ unit_2 (fun _ _ => part_4 _ (by omega)) (fun _ hj => by unfold lit1t1_4; rw [row_in 581 69 hj rfl]; rfl) fun i => by unfold lit1t0_580; rw [Nat.mod_mod]
theorem row_582 : OneAt 582 3 :=
  row_of lit1t0_582 lit1t1_4 _ _ unit_3 (fun _ _ => part_4 _ (by omega)) (fun _ hj => by unfold lit1t1_4; rw [row_in 582 70 hj rfl]; rfl) fun i => by unfold lit1t0_582; rw [Nat.mod_mod]
theorem row_583 : OneAt 583 3 :=
  row_of lit1t0_582 lit1t1_4 _ _ unit_3 (fun _ _ => part_4 _ (by omega)) (fun _ hj => by unfold lit1t1_4; rw [row_in 583 71 hj rfl]; rfl) fun i => by unfold lit1t0_582; rw [Nat.mod_mod]
theorem row_584 : OneAt 584 4 :=
  row_of lit1t0_584 lit1t1_4 _ _ unit_4 (fun _ _ => part_4 _ (by omega)) (fun _ hj => by unfold lit1t1_4; rw [row_in 584 72 hj rfl]; rfl) fun i => by unfold lit1t0_584; rw [Nat.mod_mod]
theorem row_585 : OneAt 585 4 :=
  row_of lit1t0_584 lit1t1_4 _ _ unit_4 (fun _ _ => part_4 _ (by omega)) (fun _ hj => by unfold lit1t1_4; rw [row_in 585 73 hj rfl]; rfl) fun i => by unfold lit1t0_584; rw [Nat.mod_mod]
theorem row_586 : OneAt 586 5 :=
  row_of lit1t0_586 lit1t1_4 _ _ unit_5 (fun _ _ => part_4 _ (by omega)) (fun _ hj => by unfold lit1t1_4; rw [row_in 586 74 hj rfl]; rfl) fun i => by unfold lit1t0_586; rw [Nat.mod_mod]
theorem row_587 : OneAt 587 5 :=
  row_of lit1t0_586 lit1t1_4 _ _ unit_5 (fun _ _ => part_4 _ (by omega)) (fun _ hj => by unfold lit1t1_4; rw [row_in 587 75 hj rfl]; rfl) fun i => by unfold lit1t0_586; rw [Nat.mod_mod]
theorem row_588 : OneAt 588 6 :=
  row_of lit1t0_588 lit1t1_4 _ _ unit_6 (fun _ _ => part_4 _ (by omega)) (fun _ hj => by unfold lit1t1_4; rw [row_in 588 76 hj rfl]; rfl) fun i => by unfold lit1t0_588; rw [Nat.mod_mod]
theorem row_589 : OneAt 589 6 :=
  row_of lit1t0_588 lit1t1_4 _ _ unit_6 (fun _ _ => part_4 _ (by omega)) (fun _ hj => by unfold lit1t1_4; rw [row_in 589 77 hj rfl]; rfl) fun i => by unfold lit1t0_588; rw [Nat.mod_mod]
theorem row_590 : OneAt 590 7 :=
  row_of lit1t0_590 lit1t1_4 _ _ unit_7 (fun _ _ => part_4 _ (by omega)) (fun _ hj => by unfold lit1t1_4; rw [row_in 590 78 hj rfl]; rfl) fun i => by unfold lit1t0_590; rw [Nat.mod_mod]
theorem row_591 : OneAt 591 7 :=
  row_of lit1t0_590 lit1t1_4 _ _ unit_7 (fun _ _ => part_4 _ (by omega)) (fun _ hj => by unfold lit1t1_4; rw [row_in 591 79 hj rfl]; rfl) fun i => by unfold lit1t0_590; rw [Nat.mod_mod]
theorem row_592 : OneAt 592 8 :=
  row_of lit1t0_592 lit1t1_4 _ _ unit_8 (fun _ _ => part_4 _ (by omega)) (fun _ hj => by unfold lit1t1_4; rw [row_in 592 80 hj rfl]; rfl) fun i => by unfold lit1t0_592; rw [Nat.mod_mod]
theorem row_593 : OneAt 593 8 :=
  row_of lit1t0_592 lit1t1_4 _ _ unit_8 (fun _ _ => part_4 _ (by omega)) (fun _ hj => by unfold lit1t1_4; rw [row_in 593 81 hj rfl]; rfl) fun i => by unfold lit1t0_592; rw [Nat.mod_mod]
theorem row_594 : OneAt 594 9 :=
  row_of lit1t0_594 lit1t1_4 _ _ unit_9 (fun _ _ => part_4 _ (by omega)) (fun _ hj => by unfold lit1t1_4; rw [row_in 594 82 hj rfl]; rfl) fun i => by unfold lit1t0_594; rw [Nat.mod_mod]
theorem row_595 : OneAt 595 9 :=
  row_of lit1t0_594 lit1t1_4 _ _ unit_9 (fun _ _ => part_4 _ (by omega)) (fun _ hj => by unfold lit1t1_4; rw [row_in 595 83 hj rfl]; rfl) fun i => by unfold lit1t0_594; rw [Nat.mod_mod]
theorem row_596 : OneAt 596 10 :=
  row_of lit1t0_596 lit1t1_4 _ _ unit_10 (fun _ _ => part_4 _ (by omega)) (fun _ hj => by unfold lit1t1_4; rw [row_in 596 84 hj rfl]; rfl) fun i => by unfold lit1t0_596; rw [Nat.mod_mod]
theorem row_597 : OneAt 597 10 :=
  row_of lit1t0_596 lit1t1_4 _ _ unit_10 (fun _ _ => part_4 _ (by omega)) (fun _ hj => by unfold lit1t1_4; rw [row_in 597 85 hj rfl]; rfl) fun i => by unfold lit1t0_596; rw [Nat.mod_mod]
theorem row_598 : OneAt 598 11 :=
  row_of lit1t0_598 lit1t1_4 _ _ unit_11 (fun _ _ => part_4 _ (by omega)) (fun _ hj => by unfold lit1t1_4; rw [row_in 598 86 hj rfl]; rfl) fun i => by unfold lit1t0_598; rw [Nat.mod_mod]
theorem row_599 : OneAt 599 11 :=
  row_of lit1t0_598 lit1t1_4 _ _ unit_11 (fun _ _ => part_4 _ (by omega)) (fun _ hj => by unfold lit1t1_4; rw [row_in 599 87 hj rfl]; rfl) fun i => by unfold lit1t0_598; rw [Nat.mod_mod]
theorem row_600 : OneAt 600 12 :=
  row_of lit1t0_600 lit1t1_4 _ _ unit_12 (fun _ _ => part_4 _ (by omega)) (fun _ hj => by unfold lit1t1_4; rw [row_in 600 88 hj rfl]; rfl) fun i => by unfold lit1t0_600; rw [Nat.mod_mod]
theorem row_601 : OneAt 601 12 :=
  row_of lit1t0_600 lit1t1_4 _ _ unit_12 (fun _ _ => part_4 _ (by omega)) (fun _ hj => by unfold lit1t1_4; rw [row_in 601 89 hj rfl]; rfl) fun i => by unfold lit1t0_600; rw [Nat.mod_mod]
theorem row_602 : OneAt 602 13 :=
  row_of lit1t0_602 lit1t1_4 _ _ unit_13 (fun _ _ => part_4 _ (by omega)) (fun _ hj => by unfold lit1t1_4; rw [row_in 602 90 hj rfl]; rfl) fun i => by unfold lit1t0_602; rw [Nat.mod_mod]
theorem row_603 : OneAt 603 13 :=
  row_of lit1t0_602 lit1t1_4 _ _ unit_13 (fun _ _ => part_4 _ (by omega)) (fun _ hj => by unfold lit1t1_4; rw [row_in 603 91 hj rfl]; rfl) fun i => by unfold lit1t0_602; rw [Nat.mod_mod]
theorem row_604 : OneAt 604 14 :=
  row_of lit1t0_604 lit1t1_4 _ _ unit_14 (fun _ _ => part_4 _ (by omega)) (fun _ hj => by unfold lit1t1_4; rw [row_in 604 92 hj rfl]; rfl) fun i => by unfold lit1t0_604; rw [Nat.mod_mod]
theorem row_605 : OneAt 605 14 :=
  row_of lit1t0_604 lit1t1_4 _ _ unit_14 (fun _ _ => part_4 _ (by omega)) (fun _ hj => by unfold lit1t1_4; rw [row_in 605 93 hj rfl]; rfl) fun i => by unfold lit1t0_604; rw [Nat.mod_mod]
theorem row_606 : OneAt 606 15 :=
  row_of lit1t0_606 lit1t1_4 _ _ unit_15 (fun _ _ => part_4 _ (by omega)) (fun _ hj => by unfold lit1t1_4; rw [row_in 606 94 hj rfl]; rfl) fun i => by unfold lit1t0_606; rw [Nat.mod_mod]
theorem row_607 : OneAt 607 15 :=
  row_of lit1t0_606 lit1t1_4 _ _ unit_15 (fun _ _ => part_4 _ (by omega)) (fun _ hj => by unfold lit1t1_4; rw [row_in 607 95 hj rfl]; rfl) fun i => by unfold lit1t0_606; rw [Nat.mod_mod]
theorem row_608 : OneAt 608 16 :=
  row_of lit1t0_608 lit1t1_4 _ _ unit_16 (fun _ _ => part_4 _ (by omega)) (fun _ hj => by unfold lit1t1_4; rw [row_in 608 96 hj rfl]; rfl) fun i => by unfold lit1t0_608; rw [Nat.mod_mod]
theorem row_609 : OneAt 609 16 :=
  row_of lit1t0_608 lit1t1_4 _ _ unit_16 (fun _ _ => part_4 _ (by omega)) (fun _ hj => by unfold lit1t1_4; rw [row_in 609 97 hj rfl]; rfl) fun i => by unfold lit1t0_608; rw [Nat.mod_mod]
theorem row_610 : OneAt 610 17 :=
  row_of lit1t0_610 lit1t1_4 _ _ unit_17 (fun _ _ => part_4 _ (by omega)) (fun _ hj => by unfold lit1t1_4; rw [row_in 610 98 hj rfl]; rfl) fun i => by unfold lit1t0_610; rw [Nat.mod_mod]
theorem row_611 : OneAt 611 17 :=
  row_of lit1t0_610 lit1t1_4 _ _ unit_17 (fun _ _ => part_4 _ (by omega)) (fun _ hj => by unfold lit1t1_4; rw [row_in 611 99 hj rfl]; rfl) fun i => by unfold lit1t0_610; rw [Nat.mod_mod]
theorem row_612 : OneAt 612 18 :=
  row_of lit1t0_612 lit1t1_4 _ _ unit_18 (fun _ _ => part_4 _ (by omega)) (fun _ hj => by unfold lit1t1_4; rw [row_in 612 100 hj rfl]; rfl) fun i => by unfold lit1t0_612; rw [Nat.mod_mod]
theorem row_613 : OneAt 613 18 :=
  row_of lit1t0_612 lit1t1_4 _ _ unit_18 (fun _ _ => part_4 _ (by omega)) (fun _ hj => by unfold lit1t1_4; rw [row_in 613 101 hj rfl]; rfl) fun i => by unfold lit1t0_612; rw [Nat.mod_mod]
theorem row_614 : OneAt 614 19 :=
  row_of lit1t0_614 lit1t1_4 _ _ unit_19 (fun _ _ => part_4 _ (by omega)) (fun _ hj => by unfold lit1t1_4; rw [row_in 614 102 hj rfl]; rfl) fun i => by unfold lit1t0_614; rw [Nat.mod_mod]
theorem row_615 : OneAt 615 19 :=
  row_of lit1t0_614 lit1t1_4 _ _ unit_19 (fun _ _ => part_4 _ (by omega)) (fun _ hj => by unfold lit1t1_4; rw [row_in 615 103 hj rfl]; rfl) fun i => by unfold lit1t0_614; rw [Nat.mod_mod]
theorem row_616 : OneAt 616 20 :=
  row_of lit1t0_616 lit1t1_4 _ _ unit_20 (fun _ _ => part_4 _ (by omega)) (fun _ hj => by unfold lit1t1_4; rw [row_in 616 104 hj rfl]; rfl) fun i => by unfold lit1t0_616; rw [Nat.mod_mod]
theorem row_617 : OneAt 617 20 :=
  row_of lit1t0_616 lit1t1_4 _ _ unit_20 (fun _ _ => part_4 _ (by omega)) (fun _ hj => by unfold lit1t1_4; rw [row_in 617 105 hj rfl]; rfl) fun i => by unfold lit1t0_616; rw [Nat.mod_mod]
theorem row_618 : OneAt 618 21 :=
  row_of lit1t0_618 lit1t1_4 _ _ unit_21 (fun _ _ => part_4 _ (by omega)) (fun _ hj => by unfold lit1t1_4; rw [row_in 618 106 hj rfl]; rfl) fun i => by unfold lit1t0_618; rw [Nat.mod_mod]
theorem row_619 : OneAt 619 21 :=
  row_of lit1t0_618 lit1t1_4 _ _ unit_21 (fun _ _ => part_4 _ (by omega)) (fun _ hj => by unfold lit1t1_4; rw [row_in 619 107 hj rfl]; rfl) fun i => by unfold lit1t0_618; rw [Nat.mod_mod]
theorem row_620 : OneAt 620 22 :=
  row_of lit1t0_620 lit1t1_4 _ _ unit_22 (fun _ _ => part_4 _ (by omega)) (fun _ hj => by unfold lit1t1_4; rw [row_in 620 108 hj rfl]; rfl) fun i => by unfold lit1t0_620; rw [Nat.mod_mod]
theorem row_621 : OneAt 621 22 :=
  row_of lit1t0_620 lit1t1_4 _ _ unit_22 (fun _ _ => part_4 _ (by omega)) (fun _ hj => by unfold lit1t1_4; rw [row_in 621 109 hj rfl]; rfl) fun i => by unfold lit1t0_620; rw [Nat.mod_mod]
theorem row_622 : OneAt 622 23 :=
  row_of lit1t0_622 lit1t1_4 _ _ unit_23 (fun _ _ => part_4 _ (by omega)) (fun _ hj => by unfold lit1t1_4; rw [row_in 622 110 hj rfl]; rfl) fun i => by unfold lit1t0_622; rw [Nat.mod_mod]
theorem row_623 : OneAt 623 23 :=
  row_of lit1t0_622 lit1t1_4 _ _ unit_23 (fun _ _ => part_4 _ (by omega)) (fun _ hj => by unfold lit1t1_4; rw [row_in 623 111 hj rfl]; rfl) fun i => by unfold lit1t0_622; rw [Nat.mod_mod]
theorem row_624 : OneAt 624 24 :=
  row_of lit1t0_624 lit1t1_4 _ _ unit_24 (fun _ _ => part_4 _ (by omega)) (fun _ hj => by unfold lit1t1_4; rw [row_in 624 112 hj rfl]; rfl) fun i => by unfold lit1t0_624; rw [Nat.mod_mod]
theorem row_625 : OneAt 625 24 :=
  row_of lit1t0_624 lit1t1_4 _ _ unit_24 (fun _ _ => part_4 _ (by omega)) (fun _ hj => by unfold lit1t1_4; rw [row_in 625 113 hj rfl]; rfl) fun i => by unfold lit1t0_624; rw [Nat.mod_mod]
theorem row_626 : OneAt 626 25 :=
  row_of lit1t0_626 lit1t1_4 _ _ unit_25 (fun _ _ => part_4 _ (by omega)) (fun _ hj => by unfold lit1t1_4; rw [row_in 626 114 hj rfl]; rfl) fun i => by unfold lit1t0_626; rw [Nat.mod_mod]
theorem row_627 : OneAt 627 25 :=
  row_of lit1t0_626 lit1t1_4 _ _ unit_25 (fun _ _ => part_4 _ (by omega)) (fun _ hj => by unfold lit1t1_4; rw [row_in 627 115 hj rfl]; rfl) fun i => by unfold lit1t0_626; rw [Nat.mod_mod]
theorem row_628 : OneAt 628 26 :=
  row_of lit1t0_628 lit1t1_4 _ _ unit_26 (fun _ _ => part_4 _ (by omega)) (fun _ hj => by unfold lit1t1_4; rw [row_in 628 116 hj rfl]; rfl) fun i => by unfold lit1t0_628; rw [Nat.mod_mod]
theorem row_629 : OneAt 629 26 :=
  row_of lit1t0_628 lit1t1_4 _ _ unit_26 (fun _ _ => part_4 _ (by omega)) (fun _ hj => by unfold lit1t1_4; rw [row_in 629 117 hj rfl]; rfl) fun i => by unfold lit1t0_628; rw [Nat.mod_mod]
theorem row_630 : OneAt 630 27 :=
  row_of lit1t0_630 lit1t1_4 _ _ unit_27 (fun _ _ => part_4 _ (by omega)) (fun _ hj => by unfold lit1t1_4; rw [row_in 630 118 hj rfl]; rfl) fun i => by unfold lit1t0_630; rw [Nat.mod_mod]
theorem row_631 : OneAt 631 27 :=
  row_of lit1t0_630 lit1t1_4 _ _ unit_27 (fun _ _ => part_4 _ (by omega)) (fun _ hj => by unfold lit1t1_4; rw [row_in 631 119 hj rfl]; rfl) fun i => by unfold lit1t0_630; rw [Nat.mod_mod]
theorem row_632 : OneAt 632 28 :=
  row_of lit1t0_632 lit1t1_4 _ _ unit_28 (fun _ _ => part_4 _ (by omega)) (fun _ hj => by unfold lit1t1_4; rw [row_in 632 120 hj rfl]; rfl) fun i => by unfold lit1t0_632; rw [Nat.mod_mod]
theorem row_633 : OneAt 633 28 :=
  row_of lit1t0_632 lit1t1_4 _ _ unit_28 (fun _ _ => part_4 _ (by omega)) (fun _ hj => by unfold lit1t1_4; rw [row_in 633 121 hj rfl]; rfl) fun i => by unfold lit1t0_632; rw [Nat.mod_mod]
theorem row_634 : OneAt 634 29 :=
  row_of lit1t0_634 lit1t1_4 _ _ unit_29 (fun _ _ => part_4 _ (by omega)) (fun _ hj => by unfold lit1t1_4; rw [row_in 634 122 hj rfl]; rfl) fun i => by unfold lit1t0_634; rw [Nat.mod_mod]
theorem row_635 : OneAt 635 29 :=
  row_of lit1t0_634 lit1t1_4 _ _ unit_29 (fun _ _ => part_4 _ (by omega)) (fun _ hj => by unfold lit1t1_4; rw [row_in 635 123 hj rfl]; rfl) fun i => by unfold lit1t0_634; rw [Nat.mod_mod]
theorem row_636 : OneAt 636 30 :=
  row_of lit1t0_636 lit1t1_4 _ _ unit_30 (fun _ _ => part_4 _ (by omega)) (fun _ hj => by unfold lit1t1_4; rw [row_in 636 124 hj rfl]; rfl) fun i => by unfold lit1t0_636; rw [Nat.mod_mod]
theorem row_637 : OneAt 637 30 :=
  row_of lit1t0_636 lit1t1_4 _ _ unit_30 (fun _ _ => part_4 _ (by omega)) (fun _ hj => by unfold lit1t1_4; rw [row_in 637 125 hj rfl]; rfl) fun i => by unfold lit1t0_636; rw [Nat.mod_mod]
theorem row_638 : OneAt 638 31 :=
  row_of lit1t0_638 lit1t1_4 _ _ unit_31 (fun _ _ => part_4 _ (by omega)) (fun _ hj => by unfold lit1t1_4; rw [row_in 638 126 hj rfl]; rfl) fun i => by unfold lit1t0_638; rw [Nat.mod_mod]
theorem row_639 : OneAt 639 31 :=
  row_of lit1t0_638 lit1t1_4 _ _ unit_31 (fun _ _ => part_4 _ (by omega)) (fun _ hj => by unfold lit1t1_4; rw [row_in 639 127 hj rfl]; rfl) fun i => by unfold lit1t0_638; rw [Nat.mod_mod]
theorem row_640 : OneAt 640 32 :=
  row_of lit1t0_640 lit1t1_5 _ _ unit_32 (fun _ _ => part_5 _ (by omega)) (fun _ hj => by unfold lit1t1_5; rw [row_in 640 0 hj rfl]; rfl) fun i => by unfold lit1t0_640; rw [Nat.mod_mod]
theorem row_641 : OneAt 641 32 :=
  row_of lit1t0_640 lit1t1_5 _ _ unit_32 (fun _ _ => part_5 _ (by omega)) (fun _ hj => by unfold lit1t1_5; rw [row_in 641 1 hj rfl]; rfl) fun i => by unfold lit1t0_640; rw [Nat.mod_mod]
theorem row_642 : OneAt 642 33 :=
  row_of lit1t0_642 lit1t1_5 _ _ unit_33 (fun _ _ => part_5 _ (by omega)) (fun _ hj => by unfold lit1t1_5; rw [row_in 642 2 hj rfl]; rfl) fun i => by unfold lit1t0_642; rw [Nat.mod_mod]
theorem row_643 : OneAt 643 33 :=
  row_of lit1t0_642 lit1t1_5 _ _ unit_33 (fun _ _ => part_5 _ (by omega)) (fun _ hj => by unfold lit1t1_5; rw [row_in 643 3 hj rfl]; rfl) fun i => by unfold lit1t0_642; rw [Nat.mod_mod]
theorem row_644 : OneAt 644 34 :=
  row_of lit1t0_644 lit1t1_5 _ _ unit_34 (fun _ _ => part_5 _ (by omega)) (fun _ hj => by unfold lit1t1_5; rw [row_in 644 4 hj rfl]; rfl) fun i => by unfold lit1t0_644; rw [Nat.mod_mod]
theorem row_645 : OneAt 645 34 :=
  row_of lit1t0_644 lit1t1_5 _ _ unit_34 (fun _ _ => part_5 _ (by omega)) (fun _ hj => by unfold lit1t1_5; rw [row_in 645 5 hj rfl]; rfl) fun i => by unfold lit1t0_644; rw [Nat.mod_mod]
theorem row_646 : OneAt 646 35 :=
  row_of lit1t0_646 lit1t1_5 _ _ unit_35 (fun _ _ => part_5 _ (by omega)) (fun _ hj => by unfold lit1t1_5; rw [row_in 646 6 hj rfl]; rfl) fun i => by unfold lit1t0_646; rw [Nat.mod_mod]
theorem row_647 : OneAt 647 35 :=
  row_of lit1t0_646 lit1t1_5 _ _ unit_35 (fun _ _ => part_5 _ (by omega)) (fun _ hj => by unfold lit1t1_5; rw [row_in 647 7 hj rfl]; rfl) fun i => by unfold lit1t0_646; rw [Nat.mod_mod]
theorem row_648 : OneAt 648 36 :=
  row_of lit1t0_648 lit1t1_5 _ _ unit_36 (fun _ _ => part_5 _ (by omega)) (fun _ hj => by unfold lit1t1_5; rw [row_in 648 8 hj rfl]; rfl) fun i => by unfold lit1t0_648; rw [Nat.mod_mod]
theorem row_649 : OneAt 649 36 :=
  row_of lit1t0_648 lit1t1_5 _ _ unit_36 (fun _ _ => part_5 _ (by omega)) (fun _ hj => by unfold lit1t1_5; rw [row_in 649 9 hj rfl]; rfl) fun i => by unfold lit1t0_648; rw [Nat.mod_mod]
theorem row_650 : OneAt 650 37 :=
  row_of lit1t0_650 lit1t1_5 _ _ unit_37 (fun _ _ => part_5 _ (by omega)) (fun _ hj => by unfold lit1t1_5; rw [row_in 650 10 hj rfl]; rfl) fun i => by unfold lit1t0_650; rw [Nat.mod_mod]
theorem row_651 : OneAt 651 37 :=
  row_of lit1t0_650 lit1t1_5 _ _ unit_37 (fun _ _ => part_5 _ (by omega)) (fun _ hj => by unfold lit1t1_5; rw [row_in 651 11 hj rfl]; rfl) fun i => by unfold lit1t0_650; rw [Nat.mod_mod]
theorem row_652 : OneAt 652 38 :=
  row_of lit1t0_652 lit1t1_5 _ _ unit_38 (fun _ _ => part_5 _ (by omega)) (fun _ hj => by unfold lit1t1_5; rw [row_in 652 12 hj rfl]; rfl) fun i => by unfold lit1t0_652; rw [Nat.mod_mod]
theorem row_653 : OneAt 653 38 :=
  row_of lit1t0_652 lit1t1_5 _ _ unit_38 (fun _ _ => part_5 _ (by omega)) (fun _ hj => by unfold lit1t1_5; rw [row_in 653 13 hj rfl]; rfl) fun i => by unfold lit1t0_652; rw [Nat.mod_mod]
theorem row_654 : OneAt 654 39 :=
  row_of lit1t0_654 lit1t1_5 _ _ unit_39 (fun _ _ => part_5 _ (by omega)) (fun _ hj => by unfold lit1t1_5; rw [row_in 654 14 hj rfl]; rfl) fun i => by unfold lit1t0_654; rw [Nat.mod_mod]
theorem row_655 : OneAt 655 39 :=
  row_of lit1t0_654 lit1t1_5 _ _ unit_39 (fun _ _ => part_5 _ (by omega)) (fun _ hj => by unfold lit1t1_5; rw [row_in 655 15 hj rfl]; rfl) fun i => by unfold lit1t0_654; rw [Nat.mod_mod]
theorem row_656 : OneAt 656 40 :=
  row_of lit1t0_656 lit1t1_5 _ _ unit_40 (fun _ _ => part_5 _ (by omega)) (fun _ hj => by unfold lit1t1_5; rw [row_in 656 16 hj rfl]; rfl) fun i => by unfold lit1t0_656; rw [Nat.mod_mod]
theorem row_657 : OneAt 657 40 :=
  row_of lit1t0_656 lit1t1_5 _ _ unit_40 (fun _ _ => part_5 _ (by omega)) (fun _ hj => by unfold lit1t1_5; rw [row_in 657 17 hj rfl]; rfl) fun i => by unfold lit1t0_656; rw [Nat.mod_mod]
theorem row_658 : OneAt 658 41 :=
  row_of lit1t0_658 lit1t1_5 _ _ unit_41 (fun _ _ => part_5 _ (by omega)) (fun _ hj => by unfold lit1t1_5; rw [row_in 658 18 hj rfl]; rfl) fun i => by unfold lit1t0_658; rw [Nat.mod_mod]
theorem row_659 : OneAt 659 41 :=
  row_of lit1t0_658 lit1t1_5 _ _ unit_41 (fun _ _ => part_5 _ (by omega)) (fun _ hj => by unfold lit1t1_5; rw [row_in 659 19 hj rfl]; rfl) fun i => by unfold lit1t0_658; rw [Nat.mod_mod]
theorem row_660 : OneAt 660 42 :=
  row_of lit1t0_660 lit1t1_5 _ _ unit_42 (fun _ _ => part_5 _ (by omega)) (fun _ hj => by unfold lit1t1_5; rw [row_in 660 20 hj rfl]; rfl) fun i => by unfold lit1t0_660; rw [Nat.mod_mod]
theorem row_661 : OneAt 661 42 :=
  row_of lit1t0_660 lit1t1_5 _ _ unit_42 (fun _ _ => part_5 _ (by omega)) (fun _ hj => by unfold lit1t1_5; rw [row_in 661 21 hj rfl]; rfl) fun i => by unfold lit1t0_660; rw [Nat.mod_mod]
theorem row_662 : OneAt 662 43 :=
  row_of lit1t0_662 lit1t1_5 _ _ unit_43 (fun _ _ => part_5 _ (by omega)) (fun _ hj => by unfold lit1t1_5; rw [row_in 662 22 hj rfl]; rfl) fun i => by unfold lit1t0_662; rw [Nat.mod_mod]
theorem row_663 : OneAt 663 43 :=
  row_of lit1t0_662 lit1t1_5 _ _ unit_43 (fun _ _ => part_5 _ (by omega)) (fun _ hj => by unfold lit1t1_5; rw [row_in 663 23 hj rfl]; rfl) fun i => by unfold lit1t0_662; rw [Nat.mod_mod]
theorem row_664 : OneAt 664 44 :=
  row_of lit1t0_664 lit1t1_5 _ _ unit_44 (fun _ _ => part_5 _ (by omega)) (fun _ hj => by unfold lit1t1_5; rw [row_in 664 24 hj rfl]; rfl) fun i => by unfold lit1t0_664; rw [Nat.mod_mod]
theorem row_665 : OneAt 665 44 :=
  row_of lit1t0_664 lit1t1_5 _ _ unit_44 (fun _ _ => part_5 _ (by omega)) (fun _ hj => by unfold lit1t1_5; rw [row_in 665 25 hj rfl]; rfl) fun i => by unfold lit1t0_664; rw [Nat.mod_mod]
theorem row_666 : OneAt 666 45 :=
  row_of lit1t0_666 lit1t1_5 _ _ unit_45 (fun _ _ => part_5 _ (by omega)) (fun _ hj => by unfold lit1t1_5; rw [row_in 666 26 hj rfl]; rfl) fun i => by unfold lit1t0_666; rw [Nat.mod_mod]
theorem row_667 : OneAt 667 45 :=
  row_of lit1t0_666 lit1t1_5 _ _ unit_45 (fun _ _ => part_5 _ (by omega)) (fun _ hj => by unfold lit1t1_5; rw [row_in 667 27 hj rfl]; rfl) fun i => by unfold lit1t0_666; rw [Nat.mod_mod]
theorem row_668 : OneAt 668 46 :=
  row_of lit1t0_668 lit1t1_5 _ _ unit_46 (fun _ _ => part_5 _ (by omega)) (fun _ hj => by unfold lit1t1_5; rw [row_in 668 28 hj rfl]; rfl) fun i => by unfold lit1t0_668; rw [Nat.mod_mod]
theorem row_669 : OneAt 669 46 :=
  row_of lit1t0_668 lit1t1_5 _ _ unit_46 (fun _ _ => part_5 _ (by omega)) (fun _ hj => by unfold lit1t1_5; rw [row_in 669 29 hj rfl]; rfl) fun i => by unfold lit1t0_668; rw [Nat.mod_mod]
theorem row_670 : OneAt 670 47 :=
  row_of lit1t0_670 lit1t1_5 _ _ unit_47 (fun _ _ => part_5 _ (by omega)) (fun _ hj => by unfold lit1t1_5; rw [row_in 670 30 hj rfl]; rfl) fun i => by unfold lit1t0_670; rw [Nat.mod_mod]
theorem row_671 : OneAt 671 47 :=
  row_of lit1t0_670 lit1t1_5 _ _ unit_47 (fun _ _ => part_5 _ (by omega)) (fun _ hj => by unfold lit1t1_5; rw [row_in 671 31 hj rfl]; rfl) fun i => by unfold lit1t0_670; rw [Nat.mod_mod]
theorem row_672 : OneAt 672 48 :=
  row_of lit1t0_672 lit1t1_5 _ _ unit_48 (fun _ _ => part_5 _ (by omega)) (fun _ hj => by unfold lit1t1_5; rw [row_in 672 32 hj rfl]; rfl) fun i => by unfold lit1t0_672; rw [Nat.mod_mod]
theorem row_673 : OneAt 673 48 :=
  row_of lit1t0_672 lit1t1_5 _ _ unit_48 (fun _ _ => part_5 _ (by omega)) (fun _ hj => by unfold lit1t1_5; rw [row_in 673 33 hj rfl]; rfl) fun i => by unfold lit1t0_672; rw [Nat.mod_mod]
theorem row_674 : OneAt 674 49 :=
  row_of lit1t0_674 lit1t1_5 _ _ unit_49 (fun _ _ => part_5 _ (by omega)) (fun _ hj => by unfold lit1t1_5; rw [row_in 674 34 hj rfl]; rfl) fun i => by unfold lit1t0_674; rw [Nat.mod_mod]
theorem row_675 : OneAt 675 49 :=
  row_of lit1t0_674 lit1t1_5 _ _ unit_49 (fun _ _ => part_5 _ (by omega)) (fun _ hj => by unfold lit1t1_5; rw [row_in 675 35 hj rfl]; rfl) fun i => by unfold lit1t0_674; rw [Nat.mod_mod]
theorem row_676 : OneAt 676 50 :=
  row_of lit1t0_676 lit1t1_5 _ _ unit_50 (fun _ _ => part_5 _ (by omega)) (fun _ hj => by unfold lit1t1_5; rw [row_in 676 36 hj rfl]; rfl) fun i => by unfold lit1t0_676; rw [Nat.mod_mod]
theorem row_677 : OneAt 677 50 :=
  row_of lit1t0_676 lit1t1_5 _ _ unit_50 (fun _ _ => part_5 _ (by omega)) (fun _ hj => by unfold lit1t1_5; rw [row_in 677 37 hj rfl]; rfl) fun i => by unfold lit1t0_676; rw [Nat.mod_mod]
theorem row_678 : OneAt 678 51 :=
  row_of lit1t0_678 lit1t1_5 _ _ unit_51 (fun _ _ => part_5 _ (by omega)) (fun _ hj => by unfold lit1t1_5; rw [row_in 678 38 hj rfl]; rfl) fun i => by unfold lit1t0_678; rw [Nat.mod_mod]
theorem row_679 : OneAt 679 51 :=
  row_of lit1t0_678 lit1t1_5 _ _ unit_51 (fun _ _ => part_5 _ (by omega)) (fun _ hj => by unfold lit1t1_5; rw [row_in 679 39 hj rfl]; rfl) fun i => by unfold lit1t0_678; rw [Nat.mod_mod]
theorem row_680 : OneAt 680 52 :=
  row_of lit1t0_680 lit1t1_5 _ _ unit_52 (fun _ _ => part_5 _ (by omega)) (fun _ hj => by unfold lit1t1_5; rw [row_in 680 40 hj rfl]; rfl) fun i => by unfold lit1t0_680; rw [Nat.mod_mod]
theorem row_681 : OneAt 681 52 :=
  row_of lit1t0_680 lit1t1_5 _ _ unit_52 (fun _ _ => part_5 _ (by omega)) (fun _ hj => by unfold lit1t1_5; rw [row_in 681 41 hj rfl]; rfl) fun i => by unfold lit1t0_680; rw [Nat.mod_mod]
theorem row_682 : OneAt 682 53 :=
  row_of lit1t0_682 lit1t1_5 _ _ unit_53 (fun _ _ => part_5 _ (by omega)) (fun _ hj => by unfold lit1t1_5; rw [row_in 682 42 hj rfl]; rfl) fun i => by unfold lit1t0_682; rw [Nat.mod_mod]
theorem row_683 : OneAt 683 53 :=
  row_of lit1t0_682 lit1t1_5 _ _ unit_53 (fun _ _ => part_5 _ (by omega)) (fun _ hj => by unfold lit1t1_5; rw [row_in 683 43 hj rfl]; rfl) fun i => by unfold lit1t0_682; rw [Nat.mod_mod]
theorem row_684 : OneAt 684 54 :=
  row_of lit1t0_684 lit1t1_5 _ _ unit_54 (fun _ _ => part_5 _ (by omega)) (fun _ hj => by unfold lit1t1_5; rw [row_in 684 44 hj rfl]; rfl) fun i => by unfold lit1t0_684; rw [Nat.mod_mod]
theorem row_685 : OneAt 685 54 :=
  row_of lit1t0_684 lit1t1_5 _ _ unit_54 (fun _ _ => part_5 _ (by omega)) (fun _ hj => by unfold lit1t1_5; rw [row_in 685 45 hj rfl]; rfl) fun i => by unfold lit1t0_684; rw [Nat.mod_mod]
theorem row_686 : OneAt 686 55 :=
  row_of lit1t0_686 lit1t1_5 _ _ unit_55 (fun _ _ => part_5 _ (by omega)) (fun _ hj => by unfold lit1t1_5; rw [row_in 686 46 hj rfl]; rfl) fun i => by unfold lit1t0_686; rw [Nat.mod_mod]
theorem row_687 : OneAt 687 55 :=
  row_of lit1t0_686 lit1t1_5 _ _ unit_55 (fun _ _ => part_5 _ (by omega)) (fun _ hj => by unfold lit1t1_5; rw [row_in 687 47 hj rfl]; rfl) fun i => by unfold lit1t0_686; rw [Nat.mod_mod]
theorem row_688 : OneAt 688 56 :=
  row_of lit1t0_688 lit1t1_5 _ _ unit_56 (fun _ _ => part_5 _ (by omega)) (fun _ hj => by unfold lit1t1_5; rw [row_in 688 48 hj rfl]; rfl) fun i => by unfold lit1t0_688; rw [Nat.mod_mod]
theorem row_689 : OneAt 689 56 :=
  row_of lit1t0_688 lit1t1_5 _ _ unit_56 (fun _ _ => part_5 _ (by omega)) (fun _ hj => by unfold lit1t1_5; rw [row_in 689 49 hj rfl]; rfl) fun i => by unfold lit1t0_688; rw [Nat.mod_mod]
theorem row_690 : OneAt 690 57 :=
  row_of lit1t0_690 lit1t1_5 _ _ unit_57 (fun _ _ => part_5 _ (by omega)) (fun _ hj => by unfold lit1t1_5; rw [row_in 690 50 hj rfl]; rfl) fun i => by unfold lit1t0_690; rw [Nat.mod_mod]
theorem row_691 : OneAt 691 57 :=
  row_of lit1t0_690 lit1t1_5 _ _ unit_57 (fun _ _ => part_5 _ (by omega)) (fun _ hj => by unfold lit1t1_5; rw [row_in 691 51 hj rfl]; rfl) fun i => by unfold lit1t0_690; rw [Nat.mod_mod]
theorem row_692 : OneAt 692 58 :=
  row_of lit1t0_692 lit1t1_5 _ _ unit_58 (fun _ _ => part_5 _ (by omega)) (fun _ hj => by unfold lit1t1_5; rw [row_in 692 52 hj rfl]; rfl) fun i => by unfold lit1t0_692; rw [Nat.mod_mod]
theorem row_693 : OneAt 693 58 :=
  row_of lit1t0_692 lit1t1_5 _ _ unit_58 (fun _ _ => part_5 _ (by omega)) (fun _ hj => by unfold lit1t1_5; rw [row_in 693 53 hj rfl]; rfl) fun i => by unfold lit1t0_692; rw [Nat.mod_mod]
theorem row_694 : OneAt 694 59 :=
  row_of lit1t0_694 lit1t1_5 _ _ unit_59 (fun _ _ => part_5 _ (by omega)) (fun _ hj => by unfold lit1t1_5; rw [row_in 694 54 hj rfl]; rfl) fun i => by unfold lit1t0_694; rw [Nat.mod_mod]
theorem row_695 : OneAt 695 59 :=
  row_of lit1t0_694 lit1t1_5 _ _ unit_59 (fun _ _ => part_5 _ (by omega)) (fun _ hj => by unfold lit1t1_5; rw [row_in 695 55 hj rfl]; rfl) fun i => by unfold lit1t0_694; rw [Nat.mod_mod]
theorem row_696 : OneAt 696 60 :=
  row_of lit1t0_696 lit1t1_5 _ _ unit_60 (fun _ _ => part_5 _ (by omega)) (fun _ hj => by unfold lit1t1_5; rw [row_in 696 56 hj rfl]; rfl) fun i => by unfold lit1t0_696; rw [Nat.mod_mod]
theorem row_697 : OneAt 697 60 :=
  row_of lit1t0_696 lit1t1_5 _ _ unit_60 (fun _ _ => part_5 _ (by omega)) (fun _ hj => by unfold lit1t1_5; rw [row_in 697 57 hj rfl]; rfl) fun i => by unfold lit1t0_696; rw [Nat.mod_mod]
theorem row_698 : OneAt 698 61 :=
  row_of lit1t0_698 lit1t1_5 _ _ unit_61 (fun _ _ => part_5 _ (by omega)) (fun _ hj => by unfold lit1t1_5; rw [row_in 698 58 hj rfl]; rfl) fun i => by unfold lit1t0_698; rw [Nat.mod_mod]
theorem row_699 : OneAt 699 61 :=
  row_of lit1t0_698 lit1t1_5 _ _ unit_61 (fun _ _ => part_5 _ (by omega)) (fun _ hj => by unfold lit1t1_5; rw [row_in 699 59 hj rfl]; rfl) fun i => by unfold lit1t0_698; rw [Nat.mod_mod]
theorem row_700 : OneAt 700 62 :=
  row_of lit1t0_700 lit1t1_5 _ _ unit_62 (fun _ _ => part_5 _ (by omega)) (fun _ hj => by unfold lit1t1_5; rw [row_in 700 60 hj rfl]; rfl) fun i => by unfold lit1t0_700; rw [Nat.mod_mod]
theorem row_701 : OneAt 701 62 :=
  row_of lit1t0_700 lit1t1_5 _ _ unit_62 (fun _ _ => part_5 _ (by omega)) (fun _ hj => by unfold lit1t1_5; rw [row_in 701 61 hj rfl]; rfl) fun i => by unfold lit1t0_700; rw [Nat.mod_mod]
theorem row_702 : OneAt 702 63 :=
  row_of lit1t0_702 lit1t1_5 _ _ unit_63 (fun _ _ => part_5 _ (by omega)) (fun _ hj => by unfold lit1t1_5; rw [row_in 702 62 hj rfl]; rfl) fun i => by unfold lit1t0_702; rw [Nat.mod_mod]
theorem row_703 : OneAt 703 63 :=
  row_of lit1t0_702 lit1t1_5 _ _ unit_63 (fun _ _ => part_5 _ (by omega)) (fun _ hj => by unfold lit1t1_5; rw [row_in 703 63 hj rfl]; rfl) fun i => by unfold lit1t0_702; rw [Nat.mod_mod]
theorem row_704 : OneAt 704 64 :=
  row_of lit1t0_704 lit1t1_5 _ _ unit_64 (fun _ _ => part_5 _ (by omega)) (fun _ hj => by unfold lit1t1_5; rw [row_in 704 64 hj rfl]; rfl) fun i => by unfold lit1t0_704; rw [Nat.mod_mod]
theorem row_705 : OneAt 705 64 :=
  row_of lit1t0_704 lit1t1_5 _ _ unit_64 (fun _ _ => part_5 _ (by omega)) (fun _ hj => by unfold lit1t1_5; rw [row_in 705 65 hj rfl]; rfl) fun i => by unfold lit1t0_704; rw [Nat.mod_mod]
theorem row_706 : OneAt 706 65 :=
  row_of lit1t0_706 lit1t1_5 _ _ unit_65 (fun _ _ => part_5 _ (by omega)) (fun _ hj => by unfold lit1t1_5; rw [row_in 706 66 hj rfl]; rfl) fun i => by unfold lit1t0_706; rw [Nat.mod_mod]
theorem row_707 : OneAt 707 65 :=
  row_of lit1t0_706 lit1t1_5 _ _ unit_65 (fun _ _ => part_5 _ (by omega)) (fun _ hj => by unfold lit1t1_5; rw [row_in 707 67 hj rfl]; rfl) fun i => by unfold lit1t0_706; rw [Nat.mod_mod]
theorem row_708 : OneAt 708 66 :=
  row_of lit1t0_708 lit1t1_5 _ _ unit_66 (fun _ _ => part_5 _ (by omega)) (fun _ hj => by unfold lit1t1_5; rw [row_in 708 68 hj rfl]; rfl) fun i => by unfold lit1t0_708; rw [Nat.mod_mod]
theorem row_709 : OneAt 709 66 :=
  row_of lit1t0_708 lit1t1_5 _ _ unit_66 (fun _ _ => part_5 _ (by omega)) (fun _ hj => by unfold lit1t1_5; rw [row_in 709 69 hj rfl]; rfl) fun i => by unfold lit1t0_708; rw [Nat.mod_mod]
theorem row_710 : OneAt 710 67 :=
  row_of lit1t0_710 lit1t1_5 _ _ unit_67 (fun _ _ => part_5 _ (by omega)) (fun _ hj => by unfold lit1t1_5; rw [row_in 710 70 hj rfl]; rfl) fun i => by unfold lit1t0_710; rw [Nat.mod_mod]
theorem row_711 : OneAt 711 67 :=
  row_of lit1t0_710 lit1t1_5 _ _ unit_67 (fun _ _ => part_5 _ (by omega)) (fun _ hj => by unfold lit1t1_5; rw [row_in 711 71 hj rfl]; rfl) fun i => by unfold lit1t0_710; rw [Nat.mod_mod]
theorem row_712 : OneAt 712 68 :=
  row_of lit1t0_712 lit1t1_5 _ _ unit_68 (fun _ _ => part_5 _ (by omega)) (fun _ hj => by unfold lit1t1_5; rw [row_in 712 72 hj rfl]; rfl) fun i => by unfold lit1t0_712; rw [Nat.mod_mod]
theorem row_713 : OneAt 713 68 :=
  row_of lit1t0_712 lit1t1_5 _ _ unit_68 (fun _ _ => part_5 _ (by omega)) (fun _ hj => by unfold lit1t1_5; rw [row_in 713 73 hj rfl]; rfl) fun i => by unfold lit1t0_712; rw [Nat.mod_mod]
theorem row_714 : OneAt 714 69 :=
  row_of lit1t0_714 lit1t1_5 _ _ unit_69 (fun _ _ => part_5 _ (by omega)) (fun _ hj => by unfold lit1t1_5; rw [row_in 714 74 hj rfl]; rfl) fun i => by unfold lit1t0_714; rw [Nat.mod_mod]
theorem row_715 : OneAt 715 69 :=
  row_of lit1t0_714 lit1t1_5 _ _ unit_69 (fun _ _ => part_5 _ (by omega)) (fun _ hj => by unfold lit1t1_5; rw [row_in 715 75 hj rfl]; rfl) fun i => by unfold lit1t0_714; rw [Nat.mod_mod]
theorem row_716 : OneAt 716 70 :=
  row_of lit1t0_716 lit1t1_5 _ _ unit_70 (fun _ _ => part_5 _ (by omega)) (fun _ hj => by unfold lit1t1_5; rw [row_in 716 76 hj rfl]; rfl) fun i => by unfold lit1t0_716; rw [Nat.mod_mod]
theorem row_717 : OneAt 717 70 :=
  row_of lit1t0_716 lit1t1_5 _ _ unit_70 (fun _ _ => part_5 _ (by omega)) (fun _ hj => by unfold lit1t1_5; rw [row_in 717 77 hj rfl]; rfl) fun i => by unfold lit1t0_716; rw [Nat.mod_mod]
theorem row_718 : OneAt 718 71 :=
  row_of lit1t0_718 lit1t1_5 _ _ unit_71 (fun _ _ => part_5 _ (by omega)) (fun _ hj => by unfold lit1t1_5; rw [row_in 718 78 hj rfl]; rfl) fun i => by unfold lit1t0_718; rw [Nat.mod_mod]
theorem row_719 : OneAt 719 71 :=
  row_of lit1t0_718 lit1t1_5 _ _ unit_71 (fun _ _ => part_5 _ (by omega)) (fun _ hj => by unfold lit1t1_5; rw [row_in 719 79 hj rfl]; rfl) fun i => by unfold lit1t0_718; rw [Nat.mod_mod]
theorem row_720 : OneAt 720 72 :=
  row_of lit1t0_720 lit1t1_5 _ _ unit_72 (fun _ _ => part_5 _ (by omega)) (fun _ hj => by unfold lit1t1_5; rw [row_in 720 80 hj rfl]; rfl) fun i => by unfold lit1t0_720; rw [Nat.mod_mod]
theorem row_721 : OneAt 721 72 :=
  row_of lit1t0_720 lit1t1_5 _ _ unit_72 (fun _ _ => part_5 _ (by omega)) (fun _ hj => by unfold lit1t1_5; rw [row_in 721 81 hj rfl]; rfl) fun i => by unfold lit1t0_720; rw [Nat.mod_mod]
theorem row_722 : OneAt 722 73 :=
  row_of lit1t0_722 lit1t1_5 _ _ unit_73 (fun _ _ => part_5 _ (by omega)) (fun _ hj => by unfold lit1t1_5; rw [row_in 722 82 hj rfl]; rfl) fun i => by unfold lit1t0_722; rw [Nat.mod_mod]
theorem row_723 : OneAt 723 73 :=
  row_of lit1t0_722 lit1t1_5 _ _ unit_73 (fun _ _ => part_5 _ (by omega)) (fun _ hj => by unfold lit1t1_5; rw [row_in 723 83 hj rfl]; rfl) fun i => by unfold lit1t0_722; rw [Nat.mod_mod]
theorem row_724 : OneAt 724 74 :=
  row_of lit1t0_724 lit1t1_5 _ _ unit_74 (fun _ _ => part_5 _ (by omega)) (fun _ hj => by unfold lit1t1_5; rw [row_in 724 84 hj rfl]; rfl) fun i => by unfold lit1t0_724; rw [Nat.mod_mod]
theorem row_725 : OneAt 725 74 :=
  row_of lit1t0_724 lit1t1_5 _ _ unit_74 (fun _ _ => part_5 _ (by omega)) (fun _ hj => by unfold lit1t1_5; rw [row_in 725 85 hj rfl]; rfl) fun i => by unfold lit1t0_724; rw [Nat.mod_mod]
theorem row_726 : OneAt 726 75 :=
  row_of lit1t0_726 lit1t1_5 _ _ unit_75 (fun _ _ => part_5 _ (by omega)) (fun _ hj => by unfold lit1t1_5; rw [row_in 726 86 hj rfl]; rfl) fun i => by unfold lit1t0_726; rw [Nat.mod_mod]
theorem row_727 : OneAt 727 75 :=
  row_of lit1t0_726 lit1t1_5 _ _ unit_75 (fun _ _ => part_5 _ (by omega)) (fun _ hj => by unfold lit1t1_5; rw [row_in 727 87 hj rfl]; rfl) fun i => by unfold lit1t0_726; rw [Nat.mod_mod]
theorem row_728 : OneAt 728 76 :=
  row_of lit1t0_728 lit1t1_5 _ _ unit_76 (fun _ _ => part_5 _ (by omega)) (fun _ hj => by unfold lit1t1_5; rw [row_in 728 88 hj rfl]; rfl) fun i => by unfold lit1t0_728; rw [Nat.mod_mod]
theorem row_729 : OneAt 729 76 :=
  row_of lit1t0_728 lit1t1_5 _ _ unit_76 (fun _ _ => part_5 _ (by omega)) (fun _ hj => by unfold lit1t1_5; rw [row_in 729 89 hj rfl]; rfl) fun i => by unfold lit1t0_728; rw [Nat.mod_mod]
theorem row_730 : OneAt 730 77 :=
  row_of lit1t0_730 lit1t1_5 _ _ unit_77 (fun _ _ => part_5 _ (by omega)) (fun _ hj => by unfold lit1t1_5; rw [row_in 730 90 hj rfl]; rfl) fun i => by unfold lit1t0_730; rw [Nat.mod_mod]
theorem row_731 : OneAt 731 77 :=
  row_of lit1t0_730 lit1t1_5 _ _ unit_77 (fun _ _ => part_5 _ (by omega)) (fun _ hj => by unfold lit1t1_5; rw [row_in 731 91 hj rfl]; rfl) fun i => by unfold lit1t0_730; rw [Nat.mod_mod]
theorem row_732 : OneAt 732 78 :=
  row_of lit1t0_732 lit1t1_5 _ _ unit_78 (fun _ _ => part_5 _ (by omega)) (fun _ hj => by unfold lit1t1_5; rw [row_in 732 92 hj rfl]; rfl) fun i => by unfold lit1t0_732; rw [Nat.mod_mod]
theorem row_733 : OneAt 733 78 :=
  row_of lit1t0_732 lit1t1_5 _ _ unit_78 (fun _ _ => part_5 _ (by omega)) (fun _ hj => by unfold lit1t1_5; rw [row_in 733 93 hj rfl]; rfl) fun i => by unfold lit1t0_732; rw [Nat.mod_mod]
theorem row_734 : OneAt 734 79 :=
  row_of lit1t0_734 lit1t1_5 _ _ unit_79 (fun _ _ => part_5 _ (by omega)) (fun _ hj => by unfold lit1t1_5; rw [row_in 734 94 hj rfl]; rfl) fun i => by unfold lit1t0_734; rw [Nat.mod_mod]
theorem row_735 : OneAt 735 79 :=
  row_of lit1t0_734 lit1t1_5 _ _ unit_79 (fun _ _ => part_5 _ (by omega)) (fun _ hj => by unfold lit1t1_5; rw [row_in 735 95 hj rfl]; rfl) fun i => by unfold lit1t0_734; rw [Nat.mod_mod]
theorem row_736 : OneAt 736 80 :=
  row_of lit1t0_736 lit1t1_5 _ _ unit_80 (fun _ _ => part_5 _ (by omega)) (fun _ hj => by unfold lit1t1_5; rw [row_in 736 96 hj rfl]; rfl) fun i => by unfold lit1t0_736; rw [Nat.mod_mod]
theorem row_737 : OneAt 737 80 :=
  row_of lit1t0_736 lit1t1_5 _ _ unit_80 (fun _ _ => part_5 _ (by omega)) (fun _ hj => by unfold lit1t1_5; rw [row_in 737 97 hj rfl]; rfl) fun i => by unfold lit1t0_736; rw [Nat.mod_mod]
theorem row_738 : OneAt 738 81 :=
  row_of lit1t0_738 lit1t1_5 _ _ unit_81 (fun _ _ => part_5 _ (by omega)) (fun _ hj => by unfold lit1t1_5; rw [row_in 738 98 hj rfl]; rfl) fun i => by unfold lit1t0_738; rw [Nat.mod_mod]
theorem row_739 : OneAt 739 81 :=
  row_of lit1t0_738 lit1t1_5 _ _ unit_81 (fun _ _ => part_5 _ (by omega)) (fun _ hj => by unfold lit1t1_5; rw [row_in 739 99 hj rfl]; rfl) fun i => by unfold lit1t0_738; rw [Nat.mod_mod]
theorem row_740 : OneAt 740 82 :=
  row_of lit1t0_740 lit1t1_5 _ _ unit_82 (fun _ _ => part_5 _ (by omega)) (fun _ hj => by unfold lit1t1_5; rw [row_in 740 100 hj rfl]; rfl) fun i => by unfold lit1t0_740; rw [Nat.mod_mod]
theorem row_741 : OneAt 741 82 :=
  row_of lit1t0_740 lit1t1_5 _ _ unit_82 (fun _ _ => part_5 _ (by omega)) (fun _ hj => by unfold lit1t1_5; rw [row_in 741 101 hj rfl]; rfl) fun i => by unfold lit1t0_740; rw [Nat.mod_mod]
theorem row_742 : OneAt 742 83 :=
  row_of lit1t0_742 lit1t1_5 _ _ unit_83 (fun _ _ => part_5 _ (by omega)) (fun _ hj => by unfold lit1t1_5; rw [row_in 742 102 hj rfl]; rfl) fun i => by unfold lit1t0_742; rw [Nat.mod_mod]
theorem row_743 : OneAt 743 83 :=
  row_of lit1t0_742 lit1t1_5 _ _ unit_83 (fun _ _ => part_5 _ (by omega)) (fun _ hj => by unfold lit1t1_5; rw [row_in 743 103 hj rfl]; rfl) fun i => by unfold lit1t0_742; rw [Nat.mod_mod]
theorem row_744 : OneAt 744 84 :=
  row_of lit1t0_744 lit1t1_5 _ _ unit_84 (fun _ _ => part_5 _ (by omega)) (fun _ hj => by unfold lit1t1_5; rw [row_in 744 104 hj rfl]; rfl) fun i => by unfold lit1t0_744; rw [Nat.mod_mod]
theorem row_745 : OneAt 745 84 :=
  row_of lit1t0_744 lit1t1_5 _ _ unit_84 (fun _ _ => part_5 _ (by omega)) (fun _ hj => by unfold lit1t1_5; rw [row_in 745 105 hj rfl]; rfl) fun i => by unfold lit1t0_744; rw [Nat.mod_mod]
theorem row_746 : OneAt 746 85 :=
  row_of lit1t0_746 lit1t1_5 _ _ unit_85 (fun _ _ => part_5 _ (by omega)) (fun _ hj => by unfold lit1t1_5; rw [row_in 746 106 hj rfl]; rfl) fun i => by unfold lit1t0_746; rw [Nat.mod_mod]
theorem row_747 : OneAt 747 85 :=
  row_of lit1t0_746 lit1t1_5 _ _ unit_85 (fun _ _ => part_5 _ (by omega)) (fun _ hj => by unfold lit1t1_5; rw [row_in 747 107 hj rfl]; rfl) fun i => by unfold lit1t0_746; rw [Nat.mod_mod]
theorem row_748 : OneAt 748 86 :=
  row_of lit1t0_748 lit1t1_5 _ _ unit_86 (fun _ _ => part_5 _ (by omega)) (fun _ hj => by unfold lit1t1_5; rw [row_in 748 108 hj rfl]; rfl) fun i => by unfold lit1t0_748; rw [Nat.mod_mod]
theorem row_749 : OneAt 749 86 :=
  row_of lit1t0_748 lit1t1_5 _ _ unit_86 (fun _ _ => part_5 _ (by omega)) (fun _ hj => by unfold lit1t1_5; rw [row_in 749 109 hj rfl]; rfl) fun i => by unfold lit1t0_748; rw [Nat.mod_mod]
theorem row_750 : OneAt 750 87 :=
  row_of lit1t0_750 lit1t1_5 _ _ unit_87 (fun _ _ => part_5 _ (by omega)) (fun _ hj => by unfold lit1t1_5; rw [row_in 750 110 hj rfl]; rfl) fun i => by unfold lit1t0_750; rw [Nat.mod_mod]
theorem row_751 : OneAt 751 87 :=
  row_of lit1t0_750 lit1t1_5 _ _ unit_87 (fun _ _ => part_5 _ (by omega)) (fun _ hj => by unfold lit1t1_5; rw [row_in 751 111 hj rfl]; rfl) fun i => by unfold lit1t0_750; rw [Nat.mod_mod]
theorem row_752 : OneAt 752 88 :=
  row_of lit1t0_752 lit1t1_5 _ _ unit_88 (fun _ _ => part_5 _ (by omega)) (fun _ hj => by unfold lit1t1_5; rw [row_in 752 112 hj rfl]; rfl) fun i => by unfold lit1t0_752; rw [Nat.mod_mod]
theorem row_753 : OneAt 753 88 :=
  row_of lit1t0_752 lit1t1_5 _ _ unit_88 (fun _ _ => part_5 _ (by omega)) (fun _ hj => by unfold lit1t1_5; rw [row_in 753 113 hj rfl]; rfl) fun i => by unfold lit1t0_752; rw [Nat.mod_mod]
theorem row_754 : OneAt 754 89 :=
  row_of lit1t0_754 lit1t1_5 _ _ unit_89 (fun _ _ => part_5 _ (by omega)) (fun _ hj => by unfold lit1t1_5; rw [row_in 754 114 hj rfl]; rfl) fun i => by unfold lit1t0_754; rw [Nat.mod_mod]
theorem row_755 : OneAt 755 89 :=
  row_of lit1t0_754 lit1t1_5 _ _ unit_89 (fun _ _ => part_5 _ (by omega)) (fun _ hj => by unfold lit1t1_5; rw [row_in 755 115 hj rfl]; rfl) fun i => by unfold lit1t0_754; rw [Nat.mod_mod]
theorem row_756 : OneAt 756 90 :=
  row_of lit1t0_756 lit1t1_5 _ _ unit_90 (fun _ _ => part_5 _ (by omega)) (fun _ hj => by unfold lit1t1_5; rw [row_in 756 116 hj rfl]; rfl) fun i => by unfold lit1t0_756; rw [Nat.mod_mod]
theorem row_757 : OneAt 757 90 :=
  row_of lit1t0_756 lit1t1_5 _ _ unit_90 (fun _ _ => part_5 _ (by omega)) (fun _ hj => by unfold lit1t1_5; rw [row_in 757 117 hj rfl]; rfl) fun i => by unfold lit1t0_756; rw [Nat.mod_mod]
theorem row_758 : OneAt 758 91 :=
  row_of lit1t0_758 lit1t1_5 _ _ unit_91 (fun _ _ => part_5 _ (by omega)) (fun _ hj => by unfold lit1t1_5; rw [row_in 758 118 hj rfl]; rfl) fun i => by unfold lit1t0_758; rw [Nat.mod_mod]
theorem row_759 : OneAt 759 91 :=
  row_of lit1t0_758 lit1t1_5 _ _ unit_91 (fun _ _ => part_5 _ (by omega)) (fun _ hj => by unfold lit1t1_5; rw [row_in 759 119 hj rfl]; rfl) fun i => by unfold lit1t0_758; rw [Nat.mod_mod]
theorem row_760 : OneAt 760 92 :=
  row_of lit1t0_760 lit1t1_5 _ _ unit_92 (fun _ _ => part_5 _ (by omega)) (fun _ hj => by unfold lit1t1_5; rw [row_in 760 120 hj rfl]; rfl) fun i => by unfold lit1t0_760; rw [Nat.mod_mod]
theorem row_761 : OneAt 761 92 :=
  row_of lit1t0_760 lit1t1_5 _ _ unit_92 (fun _ _ => part_5 _ (by omega)) (fun _ hj => by unfold lit1t1_5; rw [row_in 761 121 hj rfl]; rfl) fun i => by unfold lit1t0_760; rw [Nat.mod_mod]
theorem row_762 : OneAt 762 93 :=
  row_of lit1t0_762 lit1t1_5 _ _ unit_93 (fun _ _ => part_5 _ (by omega)) (fun _ hj => by unfold lit1t1_5; rw [row_in 762 122 hj rfl]; rfl) fun i => by unfold lit1t0_762; rw [Nat.mod_mod]
theorem row_763 : OneAt 763 93 :=
  row_of lit1t0_762 lit1t1_5 _ _ unit_93 (fun _ _ => part_5 _ (by omega)) (fun _ hj => by unfold lit1t1_5; rw [row_in 763 123 hj rfl]; rfl) fun i => by unfold lit1t0_762; rw [Nat.mod_mod]
theorem row_764 : OneAt 764 94 :=
  row_of lit1t0_764 lit1t1_5 _ _ unit_94 (fun _ _ => part_5 _ (by omega)) (fun _ hj => by unfold lit1t1_5; rw [row_in 764 124 hj rfl]; rfl) fun i => by unfold lit1t0_764; rw [Nat.mod_mod]
theorem row_765 : OneAt 765 94 :=
  row_of lit1t0_764 lit1t1_5 _ _ unit_94 (fun _ _ => part_5 _ (by omega)) (fun _ hj => by unfold lit1t1_5; rw [row_in 765 125 hj rfl]; rfl) fun i => by unfold lit1t0_764; rw [Nat.mod_mod]
theorem row_766 : OneAt 766 95 :=
  row_of lit1t0_766 lit1t1_5 _ _ unit_95 (fun _ _ => part_5 _ (by omega)) (fun _ hj => by unfold lit1t1_5; rw [row_in 766 126 hj rfl]; rfl) fun i => by unfold lit1t0_766; rw [Nat.mod_mod]
theorem row_767 : OneAt 767 95 :=
  row_of lit1t0_766 lit1t1_5 _ _ unit_95 (fun _ _ => part_5 _ (by omega)) (fun _ hj => by unfold lit1t1_5; rw [row_in 767 127 hj rfl]; rfl) fun i => by unfold lit1t0_766; rw [Nat.mod_mod]

end Cert.Moe

end
-- ==== Proof.SpecEq.lean ====
/-
  The padded form of an expert computes what the expert computes.
-/
module

public import proofs.«01_k».proof.Proof.Spec

@[expose] public section

noncomputable section

namespace Cert.Moe

open Idealize.ShloMosaic

/-- A sum whose terms vanish from `P` on is the sum of the first `P` terms. -/
theorem sum_castLE {P n : ℕ} (h : P ≤ n) (f : Fin n → EReal) (hz : ∀ j : Fin n, P ≤ j.val → f j = 0) :
    ∑ j, f j = ∑ j : Fin P, f (Fin.castLE h j) := by
  symm
  refine Finset.sum_of_injOn (Fin.castLE h) (fun a _ b _ e => Fin.castLE_injective h e) (fun _ _ => Finset.mem_univ _)
    (fun j _ hj => hz j ?_) (fun _ _ => rfl)
  by_contra hlt
  exact hj ⟨⟨j.val, by omega⟩, by simp, by ext; rfl⟩

/-- A nonnegative real factor goes into a sum of extended reals. -/
theorem mul_sum_coe {ι : Type} (s : Finset ι) (c : ℝ) (hc : 0 ≤ c) (f : ι → EReal) :
    (c : EReal) * ∑ j ∈ s, f j = ∑ j ∈ s, (c : EReal) * f j := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- What the averaging table holds for patches of length `p`. -/
def IsAvg (p : ℕ) (A : Mat 96 192) : Prop := ∀ (i : Fin 96) (l : Fin 192),
  A i l = if i.val * p ≤ l.val ∧ l.val < (i.val + 1) * p then ((1 / p : ℝ) : EReal) else 0

/-- What the repeating table holds for patches of length `p`. -/
def IsRep (p : ℕ) (R : Mat 192 128) : Prop := ∀ (l : Fin 192) (j : Fin 128), R l j = if j.val = l.val / p then 1 else 0

/-- What the mask holds for `P` patches. -/
def IsMask (P : ℕ) (km : Fin 128 → EReal) : Prop := ∀ j : Fin 128, km j = if j.val < P then 0 else ⊥

variable {p P : ℕ}

/-- The averaging table's product is the patch means, on the expert's own rows. -/
theorem avg_eq (h : P * p = 192) (hp : 0 < p) (A : Mat 96 192) (hA : IsAvg p A) (X : Mat 192 128) (hP : P ≤ 96) (i : Fin P) (d : Fin 128) :
    proj A X (Fin.castLE hP i) d = pooled p P h X i d := by
  unfold proj pooled
  have hp0 : (p : ℝ) ≠ 0 := by exact_mod_cast hp.ne'
  rw [Ideal.div_coe hp0, mul_comm, mul_sum_coe _ _ (by positivity)]
  symm
  have hi : (i.val + 1) * p ≤ 192 := by rw [← h]; exact Nat.mul_le_mul_right p i.isLt
  have hi' : (i.val + 1) * p = i.val * p + p := by ring
  refine Finset.sum_of_injOn (fun j : Fin p => (⟨i.val * p + j.val, by omega⟩ : Fin 192)) ?_ (fun _ _ => Finset.mem_univ _)
    ?_ ?_
  · intro a _ b _ e
    simp only [Fin.mk.injEq] at e
    ext; omega
  · intro l _ hl
    rw [hA, if_neg, zero_mul]
    rintro ⟨h1, h2⟩
    simp only [Fin.val_castLE] at h1 h2
    exact hl ⟨⟨l.val - i.val * p, by omega⟩, by simp, by ext; simp; omega⟩
  · intro j _
    have := j.isLt
    rw [hA, if_pos ⟨by simp, by simp only [Fin.val_castLE]; omega⟩]

/-- Beyond the expert's patches the averaging table's product is zero. -/
theorem avg_zero (h : P * p = 192) (A : Mat 96 192) (hA : IsAvg p A) (X : Mat 192 128) (i : Fin 96) (hi : P ≤ i.val) (d : Fin 128) :
    proj A X i d = 0 := by
  unfold proj
  refine Finset.sum_eq_zero fun l _ => ?_
  have h1 : 192 ≤ i.val * p := by rw [← h]; exact Nat.mul_le_mul_right p hi
  have := l.isLt
  rw [hA, if_neg (by omega), zero_mul]

/-- A product of a zero row is zero. -/
theorem proj_zero {a b c : ℕ} (Y : Mat a b) (W : Mat b c) (i : Fin a) (hz : ∀ k, Y i k = 0) (d : Fin c) :
    proj Y W i d = 0 := Finset.sum_eq_zero fun k _ => by rw [hz, zero_mul]

/-- Products of equal rows are equal. -/
theorem proj_congr {a a' b c : ℕ} (Y : Mat a b) (Y' : Mat a' b) (W : Mat b c) (i : Fin a) (i' : Fin a')
    (he : ∀ k, Y i k = Y' i' k) (d : Fin c) : proj Y W i d = proj Y' W i' d :=
  Finset.sum_congr rfl fun k _ => by rw [he]

/-- The exponential of a masked lane is zero. -/
theorem exp_bot_sub (m : EReal) : Ideal.exp (⊥ - m) = 0 := by rw [EReal.bot_sub]; rfl

/-- Lanes at `-∞` leave the row's maximum. -/
theorem rowMax_castLE {n : ℕ} (hn : P ≤ n) (s : Fin n → EReal) (t : Fin P → EReal) (ht : ∀ j, s (Fin.castLE hn j) = t j)
    (hb : ∀ j : Fin n, P ≤ j.val → s j = ⊥) : rowMax s = rowMax t := by
  have e1 : rowMax s = Finset.univ.sup s := rfl
  have e2 : rowMax t = Finset.univ.sup t := rfl
  rw [e1, e2]
  apply le_antisymm
  · refine Finset.sup_le fun j _ => ?_
    by_cases hj : P ≤ j.val
    · rw [hb j hj]; exact bot_le
    · have : s j = t ⟨j.val, by omega⟩ := by rw [← ht]; rfl
      rw [this]; exact Finset.le_sup (f := t) (Finset.mem_univ _)
  · refine Finset.sup_le fun j _ => ?_
    rw [← ht]; exact Finset.le_sup (f := s) (Finset.mem_univ _)

/-- The softmax under masked lanes is the softmax of the others. -/
theorem softmaxW_castLE {n : ℕ} (hn : P ≤ n) (s : Fin n → EReal) (t : Fin P → EReal)
    (ht : ∀ j, s (Fin.castLE hn j) = t j) (hb : ∀ j : Fin n, P ≤ j.val → s j = ⊥) (j : Fin P) :
    softmaxW s (Fin.castLE hn j) = softmaxW t j := by
  unfold softmaxW
  rw [rowMax_castLE hn s t ht hb, ht, sum_castLE hn _ (fun k hk => by rw [hb k hk, exp_bot_sub])]
  simp only [ht]

/-- The padded form of an expert is the expert. -/
theorem padExpert_eq (h : P * p = 192) (hp : 0 < p) (hP : P ≤ 96) (A : Mat 96 192) (hA : IsAvg p A) (R : Mat 192 128) (hR : IsRep p R)
    (km : Fin 128 → EReal) (hkm : IsMask P km) (w : Weights) (X : Mat 192 128) :
    padExpert A R km (((Real.sqrt 128)⁻¹ : ℝ) : EReal) w X = expert p P h hp w X := by
  have hP' : P ≤ 128 := by omega
  have hY : ∀ (i : Fin P) k, proj A X (Fin.castLE hP i) k = pooled p P h X i k := fun i k => avg_eq h hp A hA X hP i k
  have hrow : ∀ (W : Mat 128 128) (i : Fin P) d,
      proj (proj A X) W (Fin.castLE hP i) d = proj (pooled p P h X) W i d := fun W i d =>
    proj_congr _ _ W _ _ (hY i) d
  have hpad : ∀ (W : Mat 128 128) (j : Fin P) d,
      padRows (proj (proj A X) W) (Fin.castLE hP' j) d = proj (pooled p P h X) W j d := fun W j d => by
    unfold padRows
    rw [dif_pos (by simp; omega)]
    exact hrow W j d
  have hpad0 : ∀ (W : Mat 128 128) (j : Fin 128) d, P ≤ j.val → padRows (proj (proj A X) W) j d = 0 := fun W j d hj => by
    unfold padRows
    split
    · exact proj_zero _ _ _ (fun k => avg_zero h A hA X _ hj k) d
    · rfl
  have hsq : Real.sqrt 128 ≠ 0 := by positivity
  unfold padExpert expert
  simp only []
  congr 1
  funext l d
  congr 1
  have hl : l.val / p < P := by
    have := l.isLt
    rw [Nat.div_lt_iff_lt_mul hp]; omega
  have : proj R (padRows (proj (proj (fun i => softmaxW fun j =>
        (∑ d, proj (proj A X) w.wq i d * padRows (proj (proj A X) w.wk) j d) * (((Real.sqrt 128)⁻¹ : ℝ) : EReal) + km j)
        (padRows (proj (proj A X) w.wv))) w.wo)) l d
      = proj (proj (fun i => softmaxW fun j =>
        (∑ d, proj (proj A X) w.wq i d * padRows (proj (proj A X) w.wk) j d) * (((Real.sqrt 128)⁻¹ : ℝ) : EReal) + km j)
        (padRows (proj (proj A X) w.wv))) w.wo (Fin.castLE hP ⟨l.val / p, hl⟩) d := by
    generalize proj (proj _ _) w.wo = o
    unfold proj
    rw [Finset.sum_eq_single (Fin.castLE hP' ⟨l.val / p, hl⟩)]
    · rw [hR, if_pos (show (Fin.castLE hP' ⟨l.val / p, hl⟩).val = l.val / p from rfl), one_mul]
      unfold padRows
      rw [dif_pos (by simp; omega)]
      rfl
    · intro j _ hj
      rw [hR, if_neg, zero_mul]
      intro e
      exact hj (by ext; simpa using e)
    · intro hj; exact absurd (Finset.mem_univ _) hj
  rw [this]
  refine proj_congr _ _ _ _ _ (fun k => ?_) d
  unfold proj
  rw [sum_castLE hP' _ (fun j hj => by rw [show padRows (fun i d => ∑ k, (∑ k, A i k * X k _) * w.wv k d) j k = 0 from hpad0 w.wv j k hj, mul_zero])]
  refine Finset.sum_congr rfl fun j _ => ?_
  congr 1
  · refine softmaxW_castLE hP' _ _ (fun j => ?_) (fun j hj => ?_) j
    · rw [hkm, if_pos (by simp), add_zero]
      unfold scores
      rw [Ideal.div_coe hsq, one_div]
      congr 1
      refine Finset.sum_congr rfl fun d _ => ?_
      congr 1
      · exact hrow w.wq _ d
      · exact hpad w.wk _ d
    · rw [hkm, if_neg (by omega), EReal.add_bot]
  · exact hpad w.wv j k

/-- The sum over all experts with the chosen two's gates in place. -/
theorem gateSum_eq (F g : Fin 4 → EReal) (a b : Fin 4) (hab : a ≠ b) (u v : EReal) (ha : g a = u) (hb : g b = v)
    (hz : ∀ i, i ≠ a → i ≠ b → g i = 0) : gateSum F g = F a * u + F b * v := by
  have hs : gateSum F g = ∑ i, F i * g i := by rw [Fin.sum_univ_four]; rfl
  rw [hs, ← ha, ← hb, ← Finset.sum_pair (f := fun i => F i * g i) hab]
  symm
  refine Finset.sum_subset (Finset.subset_univ _) fun i _ hi => ?_
  simp only [Finset.mem_insert, Finset.mem_singleton, not_or] at hi
  rw [hz i hi.1 hi.2, mul_zero]

end Cert.Moe

end
-- ==== Proof.HostTables.lean ====
/-
  What the host lines before the kernel leave in the arrays that the kernel's windows read, at an index.
-/
module

public import proofs.«01_k».proof.Proof.Gen.KernelIdeal.Launch
public import proofs.«01_k».proof.Proof.Gen.KernelIdeal.Frame.Runs
public import proofs.«01_k».proof.Proof.SpecEq
public import Idealize.ShloMosaic.Lib.Claim
public import Idealize.ShloMosaic.Lib.StableHlo.ReadAt
public import Idealize.ShloMosaic.Lib.Pointwise

@[expose] public section

set_option maxRecDepth 10000

noncomputable section

namespace Cert.Moe

open Idealize.ShloMosaic Idealize.ShloMosaic.TcCoe Idealize.ShloMosaic.Pointwise Cert.KernelIdeal Cert.KernelIdeal.Gen

variable (m : (ℓ : Loc nD τ sig) → Buf (Elt Ideal) ℓ) (c : Dev nD)

/-- The number of time steps in a patch of each expert. -/
def psz : Fin 4 → ℕ := ![8, 6, 4, 2]
/-- The number of patches of each expert. -/
def pct : Fin 4 → ℕ := ![24, 32, 48, 96]

/-- A signed comparison of two words below `2³¹`. -/
theorem sle_small (a b : ℕ) (ha : a < 2 ^ 31) (hb : b < 2 ^ 31) :
    IntOp.cmpi .sle (BitVec.ofNat 32 a) (BitVec.ofNat 32 b) = if a ≤ b then 1#1 else 0#1 := by
  simp only [IntOp.cmpi]
  by_cases h : a ≤ b
  · rw [if_pos h, show (BitVec.ofNat 32 a).sle (BitVec.ofNat 32 b) = true from by
      rw [BitVec.sle_iff_toInt_le, BitVec.toInt_eq_toNat_cond, BitVec.toInt_eq_toNat_cond]
      simp only [BitVec.toNat_ofNat]
      omega]
    rfl
  · rw [if_neg h, show (BitVec.ofNat 32 a).sle (BitVec.ofNat 32 b) = false from by
      rw [← Bool.not_eq_true, BitVec.sle_iff_toInt_le, BitVec.toInt_eq_toNat_cond, BitVec.toInt_eq_toNat_cond]
      simp only [BitVec.toNat_ofNat]
      omega]
    rfl
/-- The strict one. -/
theorem slt_small (a b : ℕ) (ha : a < 2 ^ 31) (hb : b < 2 ^ 31) :
    IntOp.cmpi .slt (BitVec.ofNat 32 a) (BitVec.ofNat 32 b) = if a < b then 1#1 else 0#1 := by
  simp only [IntOp.cmpi]
  by_cases h : a < b
  · rw [if_pos h, show (BitVec.ofNat 32 a).slt (BitVec.ofNat 32 b) = true from by
      rw [BitVec.slt_iff_toInt_lt, BitVec.toInt_eq_toNat_cond, BitVec.toInt_eq_toNat_cond]
      simp only [BitVec.toNat_ofNat]
      omega]
    rfl
  · rw [if_neg h, show (BitVec.ofNat 32 a).slt (BitVec.ofNat 32 b) = false from by
      rw [← Bool.not_eq_true, BitVec.slt_iff_toInt_lt, BitVec.toInt_eq_toNat_cond, BitVec.toInt_eq_toNat_cond]
      simp only [BitVec.toNat_ofNat]
      omega]
    rfl

/-- The patch sizes as the host's array holds them. -/
theorem sizes_word (e : Fin 4) : lit0 (S4.rowMajor (ix1 e)) = BitVec.ofNat 32 (psz e) := by
  revert e; decide

/-- The averaging table holds `1/p` at each patch's own steps and zero elsewhere. -/
theorem avg_table (e : Fin 4) : IsAvg (psz e) fun i l => V m c main_v23 (ix3 e i l) := by
  intro i l
  have hp : psz e ≤ 8 ∧ 0 < psz e := by revert e; decide
  beta_reduce
  unfold V
  after_reads_at
  rw [sizes_word]
  have h1 : (i.val + 1) * psz e ≤ 97 * 8 := Nat.mul_le_mul (by omega) hp.1
  have h0 : i.val * psz e ≤ 97 * 8 := Nat.mul_le_mul (by omega) hp.1
  rw [show IntOp.muli (BitVec.ofNat 32 i.val) (BitVec.ofNat 32 (psz e)) = BitVec.ofNat 32 (i.val * psz e) from (BitVec.ofNat_mul _ _).symm,
    show IntOp.muli (IntOp.addi (BitVec.ofNat 32 i.val) 1#32) (BitVec.ofNat 32 (psz e)) = BitVec.ofNat 32 ((i.val + 1) * psz e) from by
      rw [BitVec.ofNat_mul, BitVec.ofNat_add]; rfl,
    sle_small _ _ (by omega) (by omega), slt_small _ _ (by omega) (by omega)]
  have hs : (FloatOps.sitofp (F := Ideal) FTy.f32 (BitVec.ofNat 32 (psz e)) : EReal) = ((psz e : ℝ) : EReal) := by
    have ht : (BitVec.ofNat 32 (psz e)).toInt = (psz e : ℤ) := by
      rw [BitVec.toInt_eq_toNat_cond]; simp only [BitVec.toNat_ofNat]; omega
    show (((BitVec.ofNat 32 (psz e)).toInt : ℝ) : EReal) = _
    rw [ht]; rfl
  rw [hs, Ideal.div_coe (by exact_mod_cast hp.2.ne'), one_mul]
  have hz : (id (constant (F := Ideal) S_ FTy.f32 0#32) Idealize.ShloMosaic.ix0 : EReal) = 0 := by
    show Ideal.ofBits .f32 0#32 = 0
    simp [Ideal.ofBits, Ideal.ieee]
  rw [hz]
  by_cases ha : i.val * psz e ≤ l.val <;> by_cases hb : l.val < (i.val + 1) * psz e <;> simp [ha, hb, Scalar.select, IntOp.andi]

/-- The repeating table's words. -/
theorem rep_table (e : Fin 4) (l : Fin 192) (j : Fin 128) :
    V m c main_cst (ix3 e l j) = Ideal.ofBits .f32 (lit1t ((192 * e.val + l.val) * 128 + j.val)) := by
  unfold V
  after_reads_at
  have h : (S4x192x128.rowMajor (ix3 e l j)).val = (192 * e.val + l.val) * 128 + j.val := by
    refine (Shape.rowMajor_val_three _).trans ?_
    show (e.val * 192 + l.val) * 128 + j.val = _
    omega
  rw [← h]

/-- The mask table's words. -/
theorem mask_table (e : Fin 4) (j : Fin 128) :
    V m c main_cst_0 (ix3 e (0 : Fin 1) j) = Ideal.ofBits .f32 (lit2t (e.val * 128 + j.val)) := by
  unfold V
  after_reads_at
  have h : (S4x1x128.rowMajor (ix3 e (0 : Fin 1) j)).val = e.val * 128 + j.val := by
    refine (Shape.rowMajor_val_three _).trans ?_
    show (e.val * 1 + 0) * 128 + j.val = _
    omega
  rw [← h]

/-- The mask table: zero at the expert's own patches, `-10³⁰` at the others. -/
theorem mask_words : ∀ (e : Fin 4) (j : Fin 128), lit2t (e.val * 128 + j.val) = if j.val < pct e then 0#32 else 0xF149F2CA#32 := by
  decide +kernel

/-- A mask from the sign of the mask table is `-∞` beyond the expert's patches. -/
theorem mask_sign (e : Fin 4) (km : Fin 128 → EReal) (hkm : ∀ j, km j = V m c main_cst_0 (ix3 e (0 : Fin 1) j)) :
    IsMask (pct e) fun j => if km j < 0 then (⊥ : EReal) else 0 := by
  intro j
  beta_reduce
  rw [hkm, mask_table, mask_words]
  by_cases h : j.val < pct e
  · rw [if_pos h, if_pos h, if_neg]
    simp [Ideal.ofBits, Ideal.ieee]
  · rw [if_neg h, if_neg h, if_pos]
    simp [Ideal.ofBits, Ideal.ieee, -EReal.coe_mul]

theorem gate_rows (b : Fin 16) (j : Fin 128) :
    V m c main_v2 (ix3 b (0 : Fin 1) j) = m ((c : Thread nD τ).loc main_arg1) (ix2 b j) := by
  unfold V
  after_reads_at
theorem b1_rows (e : Fin 4) (f : Fin 256) :
    V m c main_v3 (ix3 e (0 : Fin 1) f) = m ((c : Thread nD τ).loc main_arg8) (ix2 e f) := by
  unfold V
  after_reads_at
theorem b2_rows (e : Fin 4) (d : Fin 128) :
    V m c main_v4 (ix3 e (0 : Fin 1) d) = m ((c : Thread nD τ).loc main_arg10) (ix2 e d) := by
  unfold V
  after_reads_at
theorem endw_rows (l k : Fin 192) :
    V m c main_v5 (ix2 l k) = m ((c : Thread nD τ).loc main_arg11) (ix2 k l) := by
  unfold V
  after_reads_at
theorem endb_rows (l : Fin 192) (d : Fin 128) :
    V m c main_v7 (ix2 l d) = m ((c : Thread nD τ).loc main_arg12) (ix1 l) := by
  unfold V
  after_reads_at

end Cert.Moe

end
-- ==== Proof.RepTable.lean ====
/-
  The repeating table, all rows: entry `(l, j)` is one where `j` is the patch of step `l`, else zero.
-/
module

public import proofs.«01_k».proof.Proof.RowTab0
public import proofs.«01_k».proof.Proof.RowTab1
public import proofs.«01_k».proof.Proof.RowTab2
public import proofs.«01_k».proof.Proof.RowTab3
public import proofs.«01_k».proof.Proof.HostTables

@[expose] public section

namespace Cert.Moe

open Idealize.ShloMosaic Idealize.ShloMosaic.TcCoe Idealize.ShloMosaic.Pointwise Cert.KernelIdeal Cert.KernelIdeal.Gen

/-- Row `k` of the table, the rows of the expert with patches of `p` steps starting at row `s`. -/
def RowIs (s p k : ℕ) : Prop := ∀ j, j < 128 → lit1t (k * 128 + j) = if j = (k - s) / p then 0x3F800000#32 else 0#32

/-- One more row. -/
theorem snoc {s p a : ℕ} (n : ℕ) (h : ∀ k, a ≤ k → k < n → RowIs s p k) (r : RowIs s p n) : ∀ k, a ≤ k → k < n + 1 → RowIs s p k :=
  fun k ha hk => (Nat.lt_succ_iff_lt_or_eq.mp hk).elim (h k ha) fun e => e ▸ r

/-- Rows 0 to 23. -/
theorem rows_0_0 : ∀ k, 0 ≤ k → k < 24 → RowIs 0 8 k := by
  refine snoc 23 ?_ row_23
  refine snoc 22 ?_ row_22
  refine snoc 21 ?_ row_21
  refine snoc 20 ?_ row_20
  refine snoc 19 ?_ row_19
  refine snoc 18 ?_ row_18
  refine snoc 17 ?_ row_17
  refine snoc 16 ?_ row_16
  refine snoc 15 ?_ row_15
  refine snoc 14 ?_ row_14
  refine snoc 13 ?_ row_13
  refine snoc 12 ?_ row_12
  refine snoc 11 ?_ row_11
  refine snoc 10 ?_ row_10
  refine snoc 9 ?_ row_9
  refine snoc 8 ?_ row_8
  refine snoc 7 ?_ row_7
  refine snoc 6 ?_ row_6
  refine snoc 5 ?_ row_5
  refine snoc 4 ?_ row_4
  refine snoc 3 ?_ row_3
  refine snoc 2 ?_ row_2
  refine snoc 1 ?_ row_1
  refine snoc 0 ?_ row_0
  exact fun k h h2 => absurd h2 (by omega)
/-- Rows 24 to 47. -/
theorem rows_0_1 : ∀ k, 24 ≤ k → k < 48 → RowIs 0 8 k := by
  refine snoc 47 ?_ row_47
  refine snoc 46 ?_ row_46
  refine snoc 45 ?_ row_45
  refine snoc 44 ?_ row_44
  refine snoc 43 ?_ row_43
  refine snoc 42 ?_ row_42
  refine snoc 41 ?_ row_41
  refine snoc 40 ?_ row_40
  refine snoc 39 ?_ row_39
  refine snoc 38 ?_ row_38
  refine snoc 37 ?_ row_37
  refine snoc 36 ?_ row_36
  refine snoc 35 ?_ row_35
  refine snoc 34 ?_ row_34
  refine snoc 33 ?_ row_33
  refine snoc 32 ?_ row_32
  refine snoc 31 ?_ row_31
  refine snoc 30 ?_ row_30
  refine snoc 29 ?_ row_29
  refine snoc 28 ?_ row_28
  refine snoc 27 ?_ row_27
  refine snoc 26 ?_ row_26
  refine snoc 25 ?_ row_25
  refine snoc 24 ?_ row_24
  exact fun k h h2 => absurd h2 (by omega)
/-- Rows 48 to 71. -/
theorem rows_0_2 : ∀ k, 48 ≤ k → k < 72 → RowIs 0 8 k := by
  refine snoc 71 ?_ row_71
  refine snoc 70 ?_ row_70
  refine snoc 69 ?_ row_69
  refine snoc 68 ?_ row_68
  refine snoc 67 ?_ row_67
  refine snoc 66 ?_ row_66
  refine snoc 65 ?_ row_65
  refine snoc 64 ?_ row_64
  refine snoc 63 ?_ row_63
  refine snoc 62 ?_ row_62
  refine snoc 61 ?_ row_61
  refine snoc 60 ?_ row_60
  refine snoc 59 ?_ row_59
  refine snoc 58 ?_ row_58
  refine snoc 57 ?_ row_57
  refine snoc 56 ?_ row_56
  refine snoc 55 ?_ row_55
  refine snoc 54 ?_ row_54
  refine snoc 53 ?_ row_53
  refine snoc 52 ?_ row_52
  refine snoc 51 ?_ row_51
  refine snoc 50 ?_ row_50
  refine snoc 49 ?_ row_49
  refine snoc 48 ?_ row_48
  exact fun k h h2 => absurd h2 (by omega)
/-- Rows 72 to 95. -/
theorem rows_0_3 : ∀ k, 72 ≤ k → k < 96 → RowIs 0 8 k := by
  refine snoc 95 ?_ row_95
  refine snoc 94 ?_ row_94
  refine snoc 93 ?_ row_93
  refine snoc 92 ?_ row_92
  refine snoc 91 ?_ row_91
  refine snoc 90 ?_ row_90
  refine snoc 89 ?_ row_89
  refine snoc 88 ?_ row_88
  refine snoc 87 ?_ row_87
  refine snoc 86 ?_ row_86
  refine snoc 85 ?_ row_85
  refine snoc 84 ?_ row_84
  refine snoc 83 ?_ row_83
  refine snoc 82 ?_ row_82
  refine snoc 81 ?_ row_81
  refine snoc 80 ?_ row_80
  refine snoc 79 ?_ row_79
  refine snoc 78 ?_ row_78
  refine snoc 77 ?_ row_77
  refine snoc 76 ?_ row_76
  refine snoc 75 ?_ row_75
  refine snoc 74 ?_ row_74
  refine snoc 73 ?_ row_73
  refine snoc 72 ?_ row_72
  exact fun k h h2 => absurd h2 (by omega)
/-- Rows 96 to 119. -/
theorem rows_0_4 : ∀ k, 96 ≤ k → k < 120 → RowIs 0 8 k := by
  refine snoc 119 ?_ row_119
  refine snoc 118 ?_ row_118
  refine snoc 117 ?_ row_117
  refine snoc 116 ?_ row_116
  refine snoc 115 ?_ row_115
  refine snoc 114 ?_ row_114
  refine snoc 113 ?_ row_113
  refine snoc 112 ?_ row_112
  refine snoc 111 ?_ row_111
  refine snoc 110 ?_ row_110
  refine snoc 109 ?_ row_109
  refine snoc 108 ?_ row_108
  refine snoc 107 ?_ row_107
  refine snoc 106 ?_ row_106
  refine snoc 105 ?_ row_105
  refine snoc 104 ?_ row_104
  refine snoc 103 ?_ row_103
  refine snoc 102 ?_ row_102
  refine snoc 101 ?_ row_101
  refine snoc 100 ?_ row_100
  refine snoc 99 ?_ row_99
  refine snoc 98 ?_ row_98
  refine snoc 97 ?_ row_97
  refine snoc 96 ?_ row_96
  exact fun k h h2 => absurd h2 (by omega)
/-- Rows 120 to 143. -/
theorem rows_0_5 : ∀ k, 120 ≤ k → k < 144 → RowIs 0 8 k := by
  refine snoc 143 ?_ row_143
  refine snoc 142 ?_ row_142
  refine snoc 141 ?_ row_141
  refine snoc 140 ?_ row_140
  refine snoc 139 ?_ row_139
  refine snoc 138 ?_ row_138
  refine snoc 137 ?_ row_137
  refine snoc 136 ?_ row_136
  refine snoc 135 ?_ row_135
  refine snoc 134 ?_ row_134
  refine snoc 133 ?_ row_133
  refine snoc 132 ?_ row_132
  refine snoc 131 ?_ row_131
  refine snoc 130 ?_ row_130
  refine snoc 129 ?_ row_129
  refine snoc 128 ?_ row_128
  refine snoc 127 ?_ row_127
  refine snoc 126 ?_ row_126
  refine snoc 125 ?_ row_125
  refine snoc 124 ?_ row_124
  refine snoc 123 ?_ row_123
  refine snoc 122 ?_ row_122
  refine snoc 121 ?_ row_121
  refine snoc 120 ?_ row_120
  exact fun k h h2 => absurd h2 (by omega)
/-- Rows 144 to 167. -/
theorem rows_0_6 : ∀ k, 144 ≤ k → k < 168 → RowIs 0 8 k := by
  refine snoc 167 ?_ row_167
  refine snoc 166 ?_ row_166
  refine snoc 165 ?_ row_165
  refine snoc 164 ?_ row_164
  refine snoc 163 ?_ row_163
  refine snoc 162 ?_ row_162
  refine snoc 161 ?_ row_161
  refine snoc 160 ?_ row_160
  refine snoc 159 ?_ row_159
  refine snoc 158 ?_ row_158
  refine snoc 157 ?_ row_157
  refine snoc 156 ?_ row_156
  refine snoc 155 ?_ row_155
  refine snoc 154 ?_ row_154
  refine snoc 153 ?_ row_153
  refine snoc 152 ?_ row_152
  refine snoc 151 ?_ row_151
  refine snoc 150 ?_ row_150
  refine snoc 149 ?_ row_149
  refine snoc 148 ?_ row_148
  refine snoc 147 ?_ row_147
  refine snoc 146 ?_ row_146
  refine snoc 145 ?_ row_145
  refine snoc 144 ?_ row_144
  exact fun k h h2 => absurd h2 (by omega)
/-- Rows 168 to 191. -/
theorem rows_0_7 : ∀ k, 168 ≤ k → k < 192 → RowIs 0 8 k := by
  refine snoc 191 ?_ row_191
  refine snoc 190 ?_ row_190
  refine snoc 189 ?_ row_189
  refine snoc 188 ?_ row_188
  refine snoc 187 ?_ row_187
  refine snoc 186 ?_ row_186
  refine snoc 185 ?_ row_185
  refine snoc 184 ?_ row_184
  refine snoc 183 ?_ row_183
  refine snoc 182 ?_ row_182
  refine snoc 181 ?_ row_181
  refine snoc 180 ?_ row_180
  refine snoc 179 ?_ row_179
  refine snoc 178 ?_ row_178
  refine snoc 177 ?_ row_177
  refine snoc 176 ?_ row_176
  refine snoc 175 ?_ row_175
  refine snoc 174 ?_ row_174
  refine snoc 173 ?_ row_173
  refine snoc 172 ?_ row_172
  refine snoc 171 ?_ row_171
  refine snoc 170 ?_ row_170
  refine snoc 169 ?_ row_169
  refine snoc 168 ?_ row_168
  exact fun k h h2 => absurd h2 (by omega)
/-- The rows of expert 0, patches of 8 steps. -/
theorem rows_0 (l : Fin 192) (j : ℕ) (hj : j < 128) :
    lit1t ((192 * 0 + l.val) * 128 + j) = if j = l.val / 8 then 0x3F800000#32 else 0#32 := by
  have hl := l.isLt
  have h : RowIs 0 8 (192 * 0 + l.val) := by
    by_cases h0 : 192 * 0 + l.val < 24
    · exact rows_0_0 _ (by omega) h0
    by_cases h1 : 192 * 0 + l.val < 48
    · exact rows_0_1 _ (by omega) h1
    by_cases h2 : 192 * 0 + l.val < 72
    · exact rows_0_2 _ (by omega) h2
    by_cases h3 : 192 * 0 + l.val < 96
    · exact rows_0_3 _ (by omega) h3
    by_cases h4 : 192 * 0 + l.val < 120
    · exact rows_0_4 _ (by omega) h4
    by_cases h5 : 192 * 0 + l.val < 144
    · exact rows_0_5 _ (by omega) h5
    by_cases h6 : 192 * 0 + l.val < 168
    · exact rows_0_6 _ (by omega) h6
    exact rows_0_7 _ (by omega) (by omega)
  have h' := h j hj
  rwa [show 192 * 0 + l.val - 0 = l.val by omega] at h'

/-- Rows 192 to 215. -/
theorem rows_1_0 : ∀ k, 192 ≤ k → k < 216 → RowIs 192 6 k := by
  refine snoc 215 ?_ row_215
  refine snoc 214 ?_ row_214
  refine snoc 213 ?_ row_213
  refine snoc 212 ?_ row_212
  refine snoc 211 ?_ row_211
  refine snoc 210 ?_ row_210
  refine snoc 209 ?_ row_209
  refine snoc 208 ?_ row_208
  refine snoc 207 ?_ row_207
  refine snoc 206 ?_ row_206
  refine snoc 205 ?_ row_205
  refine snoc 204 ?_ row_204
  refine snoc 203 ?_ row_203
  refine snoc 202 ?_ row_202
  refine snoc 201 ?_ row_201
  refine snoc 200 ?_ row_200
  refine snoc 199 ?_ row_199
  refine snoc 198 ?_ row_198
  refine snoc 197 ?_ row_197
  refine snoc 196 ?_ row_196
  refine snoc 195 ?_ row_195
  refine snoc 194 ?_ row_194
  refine snoc 193 ?_ row_193
  refine snoc 192 ?_ row_192
  exact fun k h h2 => absurd h2 (by omega)
/-- Rows 216 to 239. -/
theorem rows_1_1 : ∀ k, 216 ≤ k → k < 240 → RowIs 192 6 k := by
  refine snoc 239 ?_ row_239
  refine snoc 238 ?_ row_238
  refine snoc 237 ?_ row_237
  refine snoc 236 ?_ row_236
  refine snoc 235 ?_ row_235
  refine snoc 234 ?_ row_234
  refine snoc 233 ?_ row_233
  refine snoc 232 ?_ row_232
  refine snoc 231 ?_ row_231
  refine snoc 230 ?_ row_230
  refine snoc 229 ?_ row_229
  refine snoc 228 ?_ row_228
  refine snoc 227 ?_ row_227
  refine snoc 226 ?_ row_226
  refine snoc 225 ?_ row_225
  refine snoc 224 ?_ row_224
  refine snoc 223 ?_ row_223
  refine snoc 222 ?_ row_222
  refine snoc 221 ?_ row_221
  refine snoc 220 ?_ row_220
  refine snoc 219 ?_ row_219
  refine snoc 218 ?_ row_218
  refine snoc 217 ?_ row_217
  refine snoc 216 ?_ row_216
  exact fun k h h2 => absurd h2 (by omega)
/-- Rows 240 to 263. -/
theorem rows_1_2 : ∀ k, 240 ≤ k → k < 264 → RowIs 192 6 k := by
  refine snoc 263 ?_ row_263
  refine snoc 262 ?_ row_262
  refine snoc 261 ?_ row_261
  refine snoc 260 ?_ row_260
  refine snoc 259 ?_ row_259
  refine snoc 258 ?_ row_258
  refine snoc 257 ?_ row_257
  refine snoc 256 ?_ row_256
  refine snoc 255 ?_ row_255
  refine snoc 254 ?_ row_254
  refine snoc 253 ?_ row_253
  refine snoc 252 ?_ row_252
  refine snoc 251 ?_ row_251
  refine snoc 250 ?_ row_250
  refine snoc 249 ?_ row_249
  refine snoc 248 ?_ row_248
  refine snoc 247 ?_ row_247
  refine snoc 246 ?_ row_246
  refine snoc 245 ?_ row_245
  refine snoc 244 ?_ row_244
  refine snoc 243 ?_ row_243
  refine snoc 242 ?_ row_242
  refine snoc 241 ?_ row_241
  refine snoc 240 ?_ row_240
  exact fun k h h2 => absurd h2 (by omega)
/-- Rows 264 to 287. -/
theorem rows_1_3 : ∀ k, 264 ≤ k → k < 288 → RowIs 192 6 k := by
  refine snoc 287 ?_ row_287
  refine snoc 286 ?_ row_286
  refine snoc 285 ?_ row_285
  refine snoc 284 ?_ row_284
  refine snoc 283 ?_ row_283
  refine snoc 282 ?_ row_282
  refine snoc 281 ?_ row_281
  refine snoc 280 ?_ row_280
  refine snoc 279 ?_ row_279
  refine snoc 278 ?_ row_278
  refine snoc 277 ?_ row_277
  refine snoc 276 ?_ row_276
  refine snoc 275 ?_ row_275
  refine snoc 274 ?_ row_274
  refine snoc 273 ?_ row_273
  refine snoc 272 ?_ row_272
  refine snoc 271 ?_ row_271
  refine snoc 270 ?_ row_270
  refine snoc 269 ?_ row_269
  refine snoc 268 ?_ row_268
  refine snoc 267 ?_ row_267
  refine snoc 266 ?_ row_266
  refine snoc 265 ?_ row_265
  refine snoc 264 ?_ row_264
  exact fun k h h2 => absurd h2 (by omega)
/-- Rows 288 to 311. -/
theorem rows_1_4 : ∀ k, 288 ≤ k → k < 312 → RowIs 192 6 k := by
  refine snoc 311 ?_ row_311
  refine snoc 310 ?_ row_310
  refine snoc 309 ?_ row_309
  refine snoc 308 ?_ row_308
  refine snoc 307 ?_ row_307
  refine snoc 306 ?_ row_306
  refine snoc 305 ?_ row_305
  refine snoc 304 ?_ row_304
  refine snoc 303 ?_ row_303
  refine snoc 302 ?_ row_302
  refine snoc 301 ?_ row_301
  refine snoc 300 ?_ row_300
  refine snoc 299 ?_ row_299
  refine snoc 298 ?_ row_298
  refine snoc 297 ?_ row_297
  refine snoc 296 ?_ row_296
  refine snoc 295 ?_ row_295
  refine snoc 294 ?_ row_294
  refine snoc 293 ?_ row_293
  refine snoc 292 ?_ row_292
  refine snoc 291 ?_ row_291
  refine snoc 290 ?_ row_290
  refine snoc 289 ?_ row_289
  refine snoc 288 ?_ row_288
  exact fun k h h2 => absurd h2 (by omega)
/-- Rows 312 to 335. -/
theorem rows_1_5 : ∀ k, 312 ≤ k → k < 336 → RowIs 192 6 k := by
  refine snoc 335 ?_ row_335
  refine snoc 334 ?_ row_334
  refine snoc 333 ?_ row_333
  refine snoc 332 ?_ row_332
  refine snoc 331 ?_ row_331
  refine snoc 330 ?_ row_330
  refine snoc 329 ?_ row_329
  refine snoc 328 ?_ row_328
  refine snoc 327 ?_ row_327
  refine snoc 326 ?_ row_326
  refine snoc 325 ?_ row_325
  refine snoc 324 ?_ row_324
  refine snoc 323 ?_ row_323
  refine snoc 322 ?_ row_322
  refine snoc 321 ?_ row_321
  refine snoc 320 ?_ row_320
  refine snoc 319 ?_ row_319
  refine snoc 318 ?_ row_318
  refine snoc 317 ?_ row_317
  refine snoc 316 ?_ row_316
  refine snoc 315 ?_ row_315
  refine snoc 314 ?_ row_314
  refine snoc 313 ?_ row_313
  refine snoc 312 ?_ row_312
  exact fun k h h2 => absurd h2 (by omega)
/-- Rows 336 to 359. -/
theorem rows_1_6 : ∀ k, 336 ≤ k → k < 360 → RowIs 192 6 k := by
  refine snoc 359 ?_ row_359
  refine snoc 358 ?_ row_358
  refine snoc 357 ?_ row_357
  refine snoc 356 ?_ row_356
  refine snoc 355 ?_ row_355
  refine snoc 354 ?_ row_354
  refine snoc 353 ?_ row_353
  refine snoc 352 ?_ row_352
  refine snoc 351 ?_ row_351
  refine snoc 350 ?_ row_350
  refine snoc 349 ?_ row_349
  refine snoc 348 ?_ row_348
  refine snoc 347 ?_ row_347
  refine snoc 346 ?_ row_346
  refine snoc 345 ?_ row_345
  refine snoc 344 ?_ row_344
  refine snoc 343 ?_ row_343
  refine snoc 342 ?_ row_342
  refine snoc 341 ?_ row_341
  refine snoc 340 ?_ row_340
  refine snoc 339 ?_ row_339
  refine snoc 338 ?_ row_338
  refine snoc 337 ?_ row_337
  refine snoc 336 ?_ row_336
  exact fun k h h2 => absurd h2 (by omega)
/-- Rows 360 to 383. -/
theorem rows_1_7 : ∀ k, 360 ≤ k → k < 384 → RowIs 192 6 k := by
  refine snoc 383 ?_ row_383
  refine snoc 382 ?_ row_382
  refine snoc 381 ?_ row_381
  refine snoc 380 ?_ row_380
  refine snoc 379 ?_ row_379
  refine snoc 378 ?_ row_378
  refine snoc 377 ?_ row_377
  refine snoc 376 ?_ row_376
  refine snoc 375 ?_ row_375
  refine snoc 374 ?_ row_374
  refine snoc 373 ?_ row_373
  refine snoc 372 ?_ row_372
  refine snoc 371 ?_ row_371
  refine snoc 370 ?_ row_370
  refine snoc 369 ?_ row_369
  refine snoc 368 ?_ row_368
  refine snoc 367 ?_ row_367
  refine snoc 366 ?_ row_366
  refine snoc 365 ?_ row_365
  refine snoc 364 ?_ row_364
  refine snoc 363 ?_ row_363
  refine snoc 362 ?_ row_362
  refine snoc 361 ?_ row_361
  refine snoc 360 ?_ row_360
  exact fun k h h2 => absurd h2 (by omega)
/-- The rows of expert 1, patches of 6 steps. -/
theorem rows_1 (l : Fin 192) (j : ℕ) (hj : j < 128) :
    lit1t ((192 * 1 + l.val) * 128 + j) = if j = l.val / 6 then 0x3F800000#32 else 0#32 := by
  have hl := l.isLt
  have h : RowIs 192 6 (192 * 1 + l.val) := by
    by_cases h0 : 192 * 1 + l.val < 216
    · exact rows_1_0 _ (by omega) h0
    by_cases h1 : 192 * 1 + l.val < 240
    · exact rows_1_1 _ (by omega) h1
    by_cases h2 : 192 * 1 + l.val < 264
    · exact rows_1_2 _ (by omega) h2
    by_cases h3 : 192 * 1 + l.val < 288
    · exact rows_1_3 _ (by omega) h3
    by_cases h4 : 192 * 1 + l.val < 312
    · exact rows_1_4 _ (by omega) h4
    by_cases h5 : 192 * 1 + l.val < 336
    · exact rows_1_5 _ (by omega) h5
    by_cases h6 : 192 * 1 + l.val < 360
    · exact rows_1_6 _ (by omega) h6
    exact rows_1_7 _ (by omega) (by omega)
  have h' := h j hj
  rwa [show 192 * 1 + l.val - 192 = l.val by omega] at h'

/-- Rows 384 to 407. -/
theorem rows_2_0 : ∀ k, 384 ≤ k → k < 408 → RowIs 384 4 k := by
  refine snoc 407 ?_ row_407
  refine snoc 406 ?_ row_406
  refine snoc 405 ?_ row_405
  refine snoc 404 ?_ row_404
  refine snoc 403 ?_ row_403
  refine snoc 402 ?_ row_402
  refine snoc 401 ?_ row_401
  refine snoc 400 ?_ row_400
  refine snoc 399 ?_ row_399
  refine snoc 398 ?_ row_398
  refine snoc 397 ?_ row_397
  refine snoc 396 ?_ row_396
  refine snoc 395 ?_ row_395
  refine snoc 394 ?_ row_394
  refine snoc 393 ?_ row_393
  refine snoc 392 ?_ row_392
  refine snoc 391 ?_ row_391
  refine snoc 390 ?_ row_390
  refine snoc 389 ?_ row_389
  refine snoc 388 ?_ row_388
  refine snoc 387 ?_ row_387
  refine snoc 386 ?_ row_386
  refine snoc 385 ?_ row_385
  refine snoc 384 ?_ row_384
  exact fun k h h2 => absurd h2 (by omega)
/-- Rows 408 to 431. -/
theorem rows_2_1 : ∀ k, 408 ≤ k → k < 432 → RowIs 384 4 k := by
  refine snoc 431 ?_ row_431
  refine snoc 430 ?_ row_430
  refine snoc 429 ?_ row_429
  refine snoc 428 ?_ row_428
  refine snoc 427 ?_ row_427
  refine snoc 426 ?_ row_426
  refine snoc 425 ?_ row_425
  refine snoc 424 ?_ row_424
  refine snoc 423 ?_ row_423
  refine snoc 422 ?_ row_422
  refine snoc 421 ?_ row_421
  refine snoc 420 ?_ row_420
  refine snoc 419 ?_ row_419
  refine snoc 418 ?_ row_418
  refine snoc 417 ?_ row_417
  refine snoc 416 ?_ row_416
  refine snoc 415 ?_ row_415
  refine snoc 414 ?_ row_414
  refine snoc 413 ?_ row_413
  refine snoc 412 ?_ row_412
  refine snoc 411 ?_ row_411
  refine snoc 410 ?_ row_410
  refine snoc 409 ?_ row_409
  refine snoc 408 ?_ row_408
  exact fun k h h2 => absurd h2 (by omega)
/-- Rows 432 to 455. -/
theorem rows_2_2 : ∀ k, 432 ≤ k → k < 456 → RowIs 384 4 k := by
  refine snoc 455 ?_ row_455
  refine snoc 454 ?_ row_454
  refine snoc 453 ?_ row_453
  refine snoc 452 ?_ row_452
  refine snoc 451 ?_ row_451
  refine snoc 450 ?_ row_450
  refine snoc 449 ?_ row_449
  refine snoc 448 ?_ row_448
  refine snoc 447 ?_ row_447
  refine snoc 446 ?_ row_446
  refine snoc 445 ?_ row_445
  refine snoc 444 ?_ row_444
  refine snoc 443 ?_ row_443
  refine snoc 442 ?_ row_442
  refine snoc 441 ?_ row_441
  refine snoc 440 ?_ row_440
  refine snoc 439 ?_ row_439
  refine snoc 438 ?_ row_438
  refine snoc 437 ?_ row_437
  refine snoc 436 ?_ row_436
  refine snoc 435 ?_ row_435
  refine snoc 434 ?_ row_434
  refine snoc 433 ?_ row_433
  refine snoc 432 ?_ row_432
  exact fun k h h2 => absurd h2 (by omega)
/-- Rows 456 to 479. -/
theorem rows_2_3 : ∀ k, 456 ≤ k → k < 480 → RowIs 384 4 k := by
  refine snoc 479 ?_ row_479
  refine snoc 478 ?_ row_478
  refine snoc 477 ?_ row_477
  refine snoc 476 ?_ row_476
  refine snoc 475 ?_ row_475
  refine snoc 474 ?_ row_474
  refine snoc 473 ?_ row_473
  refine snoc 472 ?_ row_472
  refine snoc 471 ?_ row_471
  refine snoc 470 ?_ row_470
  refine snoc 469 ?_ row_469
  refine snoc 468 ?_ row_468
  refine snoc 467 ?_ row_467
  refine snoc 466 ?_ row_466
  refine snoc 465 ?_ row_465
  refine snoc 464 ?_ row_464
  refine snoc 463 ?_ row_463
  refine snoc 462 ?_ row_462
  refine snoc 461 ?_ row_461
  refine snoc 460 ?_ row_460
  refine snoc 459 ?_ row_459
  refine snoc 458 ?_ row_458
  refine snoc 457 ?_ row_457
  refine snoc 456 ?_ row_456
  exact fun k h h2 => absurd h2 (by omega)
/-- Rows 480 to 503. -/
theorem rows_2_4 : ∀ k, 480 ≤ k → k < 504 → RowIs 384 4 k := by
  refine snoc 503 ?_ row_503
  refine snoc 502 ?_ row_502
  refine snoc 501 ?_ row_501
  refine snoc 500 ?_ row_500
  refine snoc 499 ?_ row_499
  refine snoc 498 ?_ row_498
  refine snoc 497 ?_ row_497
  refine snoc 496 ?_ row_496
  refine snoc 495 ?_ row_495
  refine snoc 494 ?_ row_494
  refine snoc 493 ?_ row_493
  refine snoc 492 ?_ row_492
  refine snoc 491 ?_ row_491
  refine snoc 490 ?_ row_490
  refine snoc 489 ?_ row_489
  refine snoc 488 ?_ row_488
  refine snoc 487 ?_ row_487
  refine snoc 486 ?_ row_486
  refine snoc 485 ?_ row_485
  refine snoc 484 ?_ row_484
  refine snoc 483 ?_ row_483
  refine snoc 482 ?_ row_482
  refine snoc 481 ?_ row_481
  refine snoc 480 ?_ row_480
  exact fun k h h2 => absurd h2 (by omega)
/-- Rows 504 to 527. -/
theorem rows_2_5 : ∀ k, 504 ≤ k → k < 528 → RowIs 384 4 k := by
  refine snoc 527 ?_ row_527
  refine snoc 526 ?_ row_526
  refine snoc 525 ?_ row_525
  refine snoc 524 ?_ row_524
  refine snoc 523 ?_ row_523
  refine snoc 522 ?_ row_522
  refine snoc 521 ?_ row_521
  refine snoc 520 ?_ row_520
  refine snoc 519 ?_ row_519
  refine snoc 518 ?_ row_518
  refine snoc 517 ?_ row_517
  refine snoc 516 ?_ row_516
  refine snoc 515 ?_ row_515
  refine snoc 514 ?_ row_514
  refine snoc 513 ?_ row_513
  refine snoc 512 ?_ row_512
  refine snoc 511 ?_ row_511
  refine snoc 510 ?_ row_510
  refine snoc 509 ?_ row_509
  refine snoc 508 ?_ row_508
  refine snoc 507 ?_ row_507
  refine snoc 506 ?_ row_506
  refine snoc 505 ?_ row_505
  refine snoc 504 ?_ row_504
  exact fun k h h2 => absurd h2 (by omega)
/-- Rows 528 to 551. -/
theorem rows_2_6 : ∀ k, 528 ≤ k → k < 552 → RowIs 384 4 k := by
  refine snoc 551 ?_ row_551
  refine snoc 550 ?_ row_550
  refine snoc 549 ?_ row_549
  refine snoc 548 ?_ row_548
  refine snoc 547 ?_ row_547
  refine snoc 546 ?_ row_546
  refine snoc 545 ?_ row_545
  refine snoc 544 ?_ row_544
  refine snoc 543 ?_ row_543
  refine snoc 542 ?_ row_542
  refine snoc 541 ?_ row_541
  refine snoc 540 ?_ row_540
  refine snoc 539 ?_ row_539
  refine snoc 538 ?_ row_538
  refine snoc 537 ?_ row_537
  refine snoc 536 ?_ row_536
  refine snoc 535 ?_ row_535
  refine snoc 534 ?_ row_534
  refine snoc 533 ?_ row_533
  refine snoc 532 ?_ row_532
  refine snoc 531 ?_ row_531
  refine snoc 530 ?_ row_530
  refine snoc 529 ?_ row_529
  refine snoc 528 ?_ row_528
  exact fun k h h2 => absurd h2 (by omega)
/-- Rows 552 to 575. -/
theorem rows_2_7 : ∀ k, 552 ≤ k → k < 576 → RowIs 384 4 k := by
  refine snoc 575 ?_ row_575
  refine snoc 574 ?_ row_574
  refine snoc 573 ?_ row_573
  refine snoc 572 ?_ row_572
  refine snoc 571 ?_ row_571
  refine snoc 570 ?_ row_570
  refine snoc 569 ?_ row_569
  refine snoc 568 ?_ row_568
  refine snoc 567 ?_ row_567
  refine snoc 566 ?_ row_566
  refine snoc 565 ?_ row_565
  refine snoc 564 ?_ row_564
  refine snoc 563 ?_ row_563
  refine snoc 562 ?_ row_562
  refine snoc 561 ?_ row_561
  refine snoc 560 ?_ row_560
  refine snoc 559 ?_ row_559
  refine snoc 558 ?_ row_558
  refine snoc 557 ?_ row_557
  refine snoc 556 ?_ row_556
  refine snoc 555 ?_ row_555
  refine snoc 554 ?_ row_554
  refine snoc 553 ?_ row_553
  refine snoc 552 ?_ row_552
  exact fun k h h2 => absurd h2 (by omega)
/-- The rows of expert 2, patches of 4 steps. -/
theorem rows_2 (l : Fin 192) (j : ℕ) (hj : j < 128) :
    lit1t ((192 * 2 + l.val) * 128 + j) = if j = l.val / 4 then 0x3F800000#32 else 0#32 := by
  have hl := l.isLt
  have h : RowIs 384 4 (192 * 2 + l.val) := by
    by_cases h0 : 192 * 2 + l.val < 408
    · exact rows_2_0 _ (by omega) h0
    by_cases h1 : 192 * 2 + l.val < 432
    · exact rows_2_1 _ (by omega) h1
    by_cases h2 : 192 * 2 + l.val < 456
    · exact rows_2_2 _ (by omega) h2
    by_cases h3 : 192 * 2 + l.val < 480
    · exact rows_2_3 _ (by omega) h3
    by_cases h4 : 192 * 2 + l.val < 504
    · exact rows_2_4 _ (by omega) h4
    by_cases h5 : 192 * 2 + l.val < 528
    · exact rows_2_5 _ (by omega) h5
    by_cases h6 : 192 * 2 + l.val < 552
    · exact rows_2_6 _ (by omega) h6
    exact rows_2_7 _ (by omega) (by omega)
  have h' := h j hj
  rwa [show 192 * 2 + l.val - 384 = l.val by omega] at h'

/-- Rows 576 to 599. -/
theorem rows_3_0 : ∀ k, 576 ≤ k → k < 600 → RowIs 576 2 k := by
  refine snoc 599 ?_ row_599
  refine snoc 598 ?_ row_598
  refine snoc 597 ?_ row_597
  refine snoc 596 ?_ row_596
  refine snoc 595 ?_ row_595
  refine snoc 594 ?_ row_594
  refine snoc 593 ?_ row_593
  refine snoc 592 ?_ row_592
  refine snoc 591 ?_ row_591
  refine snoc 590 ?_ row_590
  refine snoc 589 ?_ row_589
  refine snoc 588 ?_ row_588
  refine snoc 587 ?_ row_587
  refine snoc 586 ?_ row_586
  refine snoc 585 ?_ row_585
  refine snoc 584 ?_ row_584
  refine snoc 583 ?_ row_583
  refine snoc 582 ?_ row_582
  refine snoc 581 ?_ row_581
  refine snoc 580 ?_ row_580
  refine snoc 579 ?_ row_579
  refine snoc 578 ?_ row_578
  refine snoc 577 ?_ row_577
  refine snoc 576 ?_ row_576
  exact fun k h h2 => absurd h2 (by omega)
/-- Rows 600 to 623. -/
theorem rows_3_1 : ∀ k, 600 ≤ k → k < 624 → RowIs 576 2 k := by
  refine snoc 623 ?_ row_623
  refine snoc 622 ?_ row_622
  refine snoc 621 ?_ row_621
  refine snoc 620 ?_ row_620
  refine snoc 619 ?_ row_619
  refine snoc 618 ?_ row_618
  refine snoc 617 ?_ row_617
  refine snoc 616 ?_ row_616
  refine snoc 615 ?_ row_615
  refine snoc 614 ?_ row_614
  refine snoc 613 ?_ row_613
  refine snoc 612 ?_ row_612
  refine snoc 611 ?_ row_611
  refine snoc 610 ?_ row_610
  refine snoc 609 ?_ row_609
  refine snoc 608 ?_ row_608
  refine snoc 607 ?_ row_607
  refine snoc 606 ?_ row_606
  refine snoc 605 ?_ row_605
  refine snoc 604 ?_ row_604
  refine snoc 603 ?_ row_603
  refine snoc 602 ?_ row_602
  refine snoc 601 ?_ row_601
  refine snoc 600 ?_ row_600
  exact fun k h h2 => absurd h2 (by omega)
/-- Rows 624 to 647. -/
theorem rows_3_2 : ∀ k, 624 ≤ k → k < 648 → RowIs 576 2 k := by
  refine snoc 647 ?_ row_647
  refine snoc 646 ?_ row_646
  refine snoc 645 ?_ row_645
  refine snoc 644 ?_ row_644
  refine snoc 643 ?_ row_643
  refine snoc 642 ?_ row_642
  refine snoc 641 ?_ row_641
  refine snoc 640 ?_ row_640
  refine snoc 639 ?_ row_639
  refine snoc 638 ?_ row_638
  refine snoc 637 ?_ row_637
  refine snoc 636 ?_ row_636
  refine snoc 635 ?_ row_635
  refine snoc 634 ?_ row_634
  refine snoc 633 ?_ row_633
  refine snoc 632 ?_ row_632
  refine snoc 631 ?_ row_631
  refine snoc 630 ?_ row_630
  refine snoc 629 ?_ row_629
  refine snoc 628 ?_ row_628
  refine snoc 627 ?_ row_627
  refine snoc 626 ?_ row_626
  refine snoc 625 ?_ row_625
  refine snoc 624 ?_ row_624
  exact fun k h h2 => absurd h2 (by omega)
/-- Rows 648 to 671. -/
theorem rows_3_3 : ∀ k, 648 ≤ k → k < 672 → RowIs 576 2 k := by
  refine snoc 671 ?_ row_671
  refine snoc 670 ?_ row_670
  refine snoc 669 ?_ row_669
  refine snoc 668 ?_ row_668
  refine snoc 667 ?_ row_667
  refine snoc 666 ?_ row_666
  refine snoc 665 ?_ row_665
  refine snoc 664 ?_ row_664
  refine snoc 663 ?_ row_663
  refine snoc 662 ?_ row_662
  refine snoc 661 ?_ row_661
  refine snoc 660 ?_ row_660
  refine snoc 659 ?_ row_659
  refine snoc 658 ?_ row_658
  refine snoc 657 ?_ row_657
  refine snoc 656 ?_ row_656
  refine snoc 655 ?_ row_655
  refine snoc 654 ?_ row_654
  refine snoc 653 ?_ row_653
  refine snoc 652 ?_ row_652
  refine snoc 651 ?_ row_651
  refine snoc 650 ?_ row_650
  refine snoc 649 ?_ row_649
  refine snoc 648 ?_ row_648
  exact fun k h h2 => absurd h2 (by omega)
/-- Rows 672 to 695. -/
theorem rows_3_4 : ∀ k, 672 ≤ k → k < 696 → RowIs 576 2 k := by
  refine snoc 695 ?_ row_695
  refine snoc 694 ?_ row_694
  refine snoc 693 ?_ row_693
  refine snoc 692 ?_ row_692
  refine snoc 691 ?_ row_691
  refine snoc 690 ?_ row_690
  refine snoc 689 ?_ row_689
  refine snoc 688 ?_ row_688
  refine snoc 687 ?_ row_687
  refine snoc 686 ?_ row_686
  refine snoc 685 ?_ row_685
  refine snoc 684 ?_ row_684
  refine snoc 683 ?_ row_683
  refine snoc 682 ?_ row_682
  refine snoc 681 ?_ row_681
  refine snoc 680 ?_ row_680
  refine snoc 679 ?_ row_679
  refine snoc 678 ?_ row_678
  refine snoc 677 ?_ row_677
  refine snoc 676 ?_ row_676
  refine snoc 675 ?_ row_675
  refine snoc 674 ?_ row_674
  refine snoc 673 ?_ row_673
  refine snoc 672 ?_ row_672
  exact fun k h h2 => absurd h2 (by omega)
/-- Rows 696 to 719. -/
theorem rows_3_5 : ∀ k, 696 ≤ k → k < 720 → RowIs 576 2 k := by
  refine snoc 719 ?_ row_719
  refine snoc 718 ?_ row_718
  refine snoc 717 ?_ row_717
  refine snoc 716 ?_ row_716
  refine snoc 715 ?_ row_715
  refine snoc 714 ?_ row_714
  refine snoc 713 ?_ row_713
  refine snoc 712 ?_ row_712
  refine snoc 711 ?_ row_711
  refine snoc 710 ?_ row_710
  refine snoc 709 ?_ row_709
  refine snoc 708 ?_ row_708
  refine snoc 707 ?_ row_707
  refine snoc 706 ?_ row_706
  refine snoc 705 ?_ row_705
  refine snoc 704 ?_ row_704
  refine snoc 703 ?_ row_703
  refine snoc 702 ?_ row_702
  refine snoc 701 ?_ row_701
  refine snoc 700 ?_ row_700
  refine snoc 699 ?_ row_699
  refine snoc 698 ?_ row_698
  refine snoc 697 ?_ row_697
  refine snoc 696 ?_ row_696
  exact fun k h h2 => absurd h2 (by omega)
/-- Rows 720 to 743. -/
theorem rows_3_6 : ∀ k, 720 ≤ k → k < 744 → RowIs 576 2 k := by
  refine snoc 743 ?_ row_743
  refine snoc 742 ?_ row_742
  refine snoc 741 ?_ row_741
  refine snoc 740 ?_ row_740
  refine snoc 739 ?_ row_739
  refine snoc 738 ?_ row_738
  refine snoc 737 ?_ row_737
  refine snoc 736 ?_ row_736
  refine snoc 735 ?_ row_735
  refine snoc 734 ?_ row_734
  refine snoc 733 ?_ row_733
  refine snoc 732 ?_ row_732
  refine snoc 731 ?_ row_731
  refine snoc 730 ?_ row_730
  refine snoc 729 ?_ row_729
  refine snoc 728 ?_ row_728
  refine snoc 727 ?_ row_727
  refine snoc 726 ?_ row_726
  refine snoc 725 ?_ row_725
  refine snoc 724 ?_ row_724
  refine snoc 723 ?_ row_723
  refine snoc 722 ?_ row_722
  refine snoc 721 ?_ row_721
  refine snoc 720 ?_ row_720
  exact fun k h h2 => absurd h2 (by omega)
/-- Rows 744 to 767. -/
theorem rows_3_7 : ∀ k, 744 ≤ k → k < 768 → RowIs 576 2 k := by
  refine snoc 767 ?_ row_767
  refine snoc 766 ?_ row_766
  refine snoc 765 ?_ row_765
  refine snoc 764 ?_ row_764
  refine snoc 763 ?_ row_763
  refine snoc 762 ?_ row_762
  refine snoc 761 ?_ row_761
  refine snoc 760 ?_ row_760
  refine snoc 759 ?_ row_759
  refine snoc 758 ?_ row_758
  refine snoc 757 ?_ row_757
  refine snoc 756 ?_ row_756
  refine snoc 755 ?_ row_755
  refine snoc 754 ?_ row_754
  refine snoc 753 ?_ row_753
  refine snoc 752 ?_ row_752
  refine snoc 751 ?_ row_751
  refine snoc 750 ?_ row_750
  refine snoc 749 ?_ row_749
  refine snoc 748 ?_ row_748
  refine snoc 747 ?_ row_747
  refine snoc 746 ?_ row_746
  refine snoc 745 ?_ row_745
  refine snoc 744 ?_ row_744
  exact fun k h h2 => absurd h2 (by omega)
/-- The rows of expert 3, patches of 2 steps. -/
theorem rows_3 (l : Fin 192) (j : ℕ) (hj : j < 128) :
    lit1t ((192 * 3 + l.val) * 128 + j) = if j = l.val / 2 then 0x3F800000#32 else 0#32 := by
  have hl := l.isLt
  have h : RowIs 576 2 (192 * 3 + l.val) := by
    by_cases h0 : 192 * 3 + l.val < 600
    · exact rows_3_0 _ (by omega) h0
    by_cases h1 : 192 * 3 + l.val < 624
    · exact rows_3_1 _ (by omega) h1
    by_cases h2 : 192 * 3 + l.val < 648
    · exact rows_3_2 _ (by omega) h2
    by_cases h3 : 192 * 3 + l.val < 672
    · exact rows_3_3 _ (by omega) h3
    by_cases h4 : 192 * 3 + l.val < 696
    · exact rows_3_4 _ (by omega) h4
    by_cases h5 : 192 * 3 + l.val < 720
    · exact rows_3_5 _ (by omega) h5
    by_cases h6 : 192 * 3 + l.val < 744
    · exact rows_3_6 _ (by omega) h6
    exact rows_3_7 _ (by omega) (by omega)
  have h' := h j hj
  rwa [show 192 * 3 + l.val - 576 = l.val by omega] at h'

/-- The repeating table holds one at each step's patch and zero elsewhere. -/
theorem rep_is (m : (ℓ : Loc nD τ sig) → Buf (Elt Ideal) ℓ) (c : Dev nD) (e : Fin 4) :
    IsRep (psz e) fun l j => V m c main_cst (ix3 e l j) := by
  intro l j
  have one : Ideal.ofBits .f32 0x3F800000#32 = 1 := by simp [Ideal.ofBits, Ideal.ieee, -EReal.coe_mul]; norm_num
  have zero : Ideal.ofBits .f32 0#32 = 0 := by simp [Ideal.ofBits, Ideal.ieee]
  have hw : ∀ (e : Fin 4) (v p : ℕ), e.val = v → psz e = p →
      (lit1t ((192 * v + l.val) * 128 + j.val) = if j.val = l.val / p then 0x3F800000#32 else 0#32) →
      lit1t ((192 * e.val + l.val) * 128 + j.val) = if j.val = l.val / psz e then 0x3F800000#32 else 0#32 := by
    intro e v p hv hp h
    rw [hv, hp, h]
  have hw : ∀ e : Fin 4, lit1t ((192 * e.val + l.val) * 128 + j.val) = if j.val = l.val / psz e then 0x3F800000#32 else 0#32
    | 0 => hw 0 0 8 rfl rfl (rows_0 l _ j.isLt)
    | 1 => hw 1 1 6 rfl rfl (rows_1 l _ j.isLt)
    | 2 => hw 2 2 4 rfl rfl (rows_2 l _ j.isLt)
    | 3 => hw 3 3 2 rfl rfl (rows_3 l _ j.isLt)
  refine ((rep_table m c e l j).trans (congrArg (Ideal.ofBits .f32) (hw e))).trans ?_
  by_cases h : j.val = l.val / psz e
  · rw [if_pos h, if_pos h, one]
  · rw [if_neg h, if_neg h, zero]

end Cert.Moe
-- ==== Proof.Answer.lean ====
/-
  The function that kernel and reference both compute, of the argument arrays.
-/
module

public import proofs.«01_k».proof.Proof.Spec
public import Idealize.ShloMosaic.Lib.Pointwise

@[expose] public section

noncomputable section

namespace Cert.Moe

open Idealize.ShloMosaic Idealize.ShloMosaic.Pointwise

/-- The argument arrays. -/
structure Args where
  idx : (⟨2, ![16, 128]⟩ : Shape).Idx → BitVec 32
  gate : (⟨2, ![16, 128]⟩ : Shape).Idx → EReal
  x : (⟨4, ![16, 192, 16, 128]⟩ : Shape).Idx → EReal
  wq : (⟨3, ![4, 128, 128]⟩ : Shape).Idx → EReal
  wk : (⟨3, ![4, 128, 128]⟩ : Shape).Idx → EReal
  wv : (⟨3, ![4, 128, 128]⟩ : Shape).Idx → EReal
  wo : (⟨3, ![4, 128, 128]⟩ : Shape).Idx → EReal
  w1 : (⟨3, ![4, 128, 256]⟩ : Shape).Idx → EReal
  b1 : (⟨2, ![4, 256]⟩ : Shape).Idx → EReal
  w2 : (⟨3, ![4, 256, 128]⟩ : Shape).Idx → EReal
  b2 : (⟨2, ![4, 128]⟩ : Shape).Idx → EReal
  endW : (⟨2, ![192, 192]⟩ : Shape).Idx → EReal
  endB : (⟨1, ![192]⟩ : Shape).Idx → EReal

namespace Args

variable (a : Args)

/-- The weights of expert `e`. -/
def weights (e : Fin 4) : Weights where
  wq := fun k d => a.wq (ix3 e k d)
  wk := fun k d => a.wk (ix3 e k d)
  wv := fun k d => a.wv (ix3 e k d)
  wo := fun k d => a.wo (ix3 e k d)
  w1 := fun k f => a.w1 (ix3 e k f)
  b1 := fun f => a.b1 (ix2 e f)
  w2 := fun f d => a.w2 (ix3 e f d)
  b2 := fun d => a.b2 (ix2 e d)

/-- The series of batch `b` and variable `n`. -/
def series (b n : Fin 16) : Mat 192 128 := fun l d => a.x (ix4 b l n d)

/-- Expert `e`'s output on a series. -/
def out (e : Fin 4) (X : Mat 192 128) : Mat 192 128 :=
  match e with
  | 0 => expert 8 24 rfl (by decide) (a.weights 0) X
  | 1 => expert 6 32 rfl (by decide) (a.weights 1) X
  | 2 => expert 4 48 rfl (by decide) (a.weights 2) X
  | 3 => expert 2 96 rfl (by decide) (a.weights 3) X

/-- The end projection of a series, over time. -/
def proj (b n : Fin 16) (l : Fin 192) (d : Fin 128) : EReal :=
  (∑ k : Fin 192, a.endW (ix2 k l) * a.x (ix4 b k n d)) + a.endB (ix1 l)

/-- The result: of each batch the two chosen experts' outputs, each times its gate, and the end projection. -/
def answer (ea eb : Fin 16 → Fin 4) (b : Fin 16) (l : Fin 192) (n : Fin 16) (d : Fin 128) : EReal :=
  (a.out (ea b) (a.series b n) l d * a.gate (ix2 b (0 : Fin 128)) + a.out (eb b) (a.series b n) l d * a.gate (ix2 b (1 : Fin 128)))
    + a.proj b n l d

end Args

end Cert.Moe

end
-- ==== Proof.KernelValue.lean ====
/-
  What the kernel leaves in its result array: the two chosen experts' gated outputs and the end projection.
-/
module

public import proofs.«01_k».proof.Proof.Blocks
public import proofs.«01_k».proof.Proof.KernelOut
public import proofs.«01_k».proof.Proof.BlockRead
public import proofs.«01_k».proof.Proof.RepTable
public import proofs.«01_k».proof.Proof.Answer

@[expose] public section

set_option maxRecDepth 10000

noncomputable section

namespace Cert.Moe.KernelIdeal

open Idealize.ShloMosaic Idealize.ShloMosaic.TcCoe Idealize.ShloMosaic.Pointwise Cert.KernelIdeal Cert.KernelIdeal.Gen

variable (m : (ℓ : Loc nD τ sig) → Buf (Elt Ideal) ℓ) (hO : Ok m) (c : Dev nD) (t : Fin (cfgM m hO).N)

/-- The argument arrays on core `c`. -/
def args : Args where
  idx := m ((c : Thread nD τ).loc main_arg0)
  gate := m ((c : Thread nD τ).loc main_arg1)
  x := m ((c : Thread nD τ).loc main_arg2)
  wq := m ((c : Thread nD τ).loc main_arg3)
  wk := m ((c : Thread nD τ).loc main_arg4)
  wv := m ((c : Thread nD τ).loc main_arg5)
  wo := m ((c : Thread nD τ).loc main_arg6)
  w1 := m ((c : Thread nD τ).loc main_arg7)
  b1 := m ((c : Thread nD τ).loc main_arg8)
  w2 := m ((c : Thread nD τ).loc main_arg9)
  b2 := m ((c : Thread nD τ).loc main_arg10)
  endW := m ((c : Thread nD τ).loc main_arg11)
  endB := m ((c : Thread nD τ).loc main_arg12)

/-- The padded form of expert `e` over tables as the host lines leave them is the expert. -/
theorem padded (e : Fin 4) (A : Mat 96 192) (hA : IsAvg (psz e) A) (R : Mat 192 128) (hR : IsRep (psz e) R) (km : Fin 128 → EReal)
    (hkm : IsMask (pct e) km) (a : Args) (X : Mat 192 128) :
    padExpert A R km (((Real.sqrt 128)⁻¹ : ℝ) : EReal) (a.weights e) X = a.out e X := by
  match e with
  | 0 => exact padExpert_eq (p := 8) (P := 24) rfl (by decide) (by decide) A hA R hR km hkm _ X
  | 1 => exact padExpert_eq (p := 6) (P := 32) rfl (by decide) (by decide) A hA R hR km hkm _ X
  | 2 => exact padExpert_eq (p := 4) (P := 48) rfl (by decide) (by decide) A hA R hR km hkm _ X
  | 3 => exact padExpert_eq (p := 2) (P := 96) rfl (by decide) (by decide) A hA R hR km hkm _ X

/-- A gate read from the gates' block. -/
theorem gate_0 (v : Vec Ideal S1x1x128 .f32) :
    k0_pay21 (F := Ideal) (View.ld v (Rect.unit ![0, 0, 0] ![1, 1, 1] inb_S1x1x128_S1x1x1_0_0_0)) = v (ix3 (0 : Fin 1) (0 : Fin 1) (0 : Fin 128)) := by
  unfold k0_pay21
  pointwise
/-- The other gate. -/
theorem gate_1 (v : Vec Ideal S1x1x128 .f32) :
    k0_pay21 (F := Ideal) (View.ld v (Rect.unit ![0, 0, 1] ![1, 1, 1] inb_S1x1x128_S1x1x1_0_0_1)) = v (ix3 (0 : Fin 1) (0 : Fin 1) (1 : Fin 128)) := by
  unfold k0_pay21
  pointwise

/-- A block that holds expert `e`'s averaging table. -/
theorem avg_of (e : Fin 4) (A : Mat 96 192) (h : ∀ i l, A i l = V m c main_v23 (ix3 e i l)) : IsAvg (psz e) A := by
  have := avg_table m c e
  rwa [← show A = _ from funext fun i => funext fun l => h i l] at this
/-- A block that holds expert `e`'s repeating table. -/
theorem rep_of (e : Fin 4) (R : Mat 192 128) (h : ∀ l j, R l j = V m c main_cst (ix3 e l j)) : IsRep (psz e) R := by
  have := rep_is m c e
  rwa [← show R = _ from funext fun l => funext fun j => h l j] at this

/-- One expert's stage over blocks that hold its batch's series, its weights and its tables. -/
theorem stage (a : Args) (b : Fin 16) (e : Fin 4) (x0 : Vec Ideal S1x192x16x128 .f32) (g : Ideal .f32) (wq wk wv wo : Vec Ideal S1x128x128 .f32)
    (w1 : Vec Ideal S1x128x256 .f32) (b1 : Vec Ideal S1x1x256 .f32) (w2 : Vec Ideal S1x256x128 .f32) (b2 : Vec Ideal S1x1x128 .f32)
    (A : Vec Ideal S1x96x192 .f32) (R : Vec Ideal S1x192x128 .f32) (km : Vec Ideal S1x1x128 .f32)
    (hx : ∀ l n d, x0 (ix4 (0 : Fin 1) l n d) = a.x (ix4 b l n d))
    (hq : ∀ k d, wq (ix3 (0 : Fin 1) k d) = a.wq (ix3 e k d)) (hk : ∀ k d, wk (ix3 (0 : Fin 1) k d) = a.wk (ix3 e k d))
    (hv : ∀ k d, wv (ix3 (0 : Fin 1) k d) = a.wv (ix3 e k d)) (ho : ∀ k d, wo (ix3 (0 : Fin 1) k d) = a.wo (ix3 e k d))
    (h1 : ∀ k f, w1 (ix3 (0 : Fin 1) k f) = a.w1 (ix3 e k f)) (hb1 : ∀ f, b1 (ix3 (0 : Fin 1) (0 : Fin 1) f) = a.b1 (ix2 e f))
    (h2 : ∀ f d, w2 (ix3 (0 : Fin 1) f d) = a.w2 (ix3 e f d)) (hb2 : ∀ d, b2 (ix3 (0 : Fin 1) (0 : Fin 1) d) = a.b2 (ix2 e d))
    (hA : IsAvg (psz e) fun i l => A (ix3 (0 : Fin 1) i l)) (hR : IsRep (psz e) fun l j => R (ix3 (0 : Fin 1) l j))
    (hm : IsMask (pct e) fun j => if km (ix3 (0 : Fin 1) (0 : Fin 1) j) < 0 then (⊥ : EReal) else 0)
    (l : Fin 192) (n : Fin 16) (d : Fin 128) :
    expertV (seriesV x0) g wq wk wv wo w1 b1 w2 b2 A R km (ix2 (rs n l) d) = a.out e (a.series b n) l d * g := by
  rw [expert_at]
  have hs : (fun l d => seriesV (F := Ideal) x0 n (ix2 l d)) = a.series b n := by
    funext l d
    rw [series_at, hx]
    rfl
  have hw : weightsV wq wk wv wo w1 b1 w2 b2 = a.weights e := by
    unfold weightsV Args.weights
    simp only [hq, hk, hv, ho, h1, hb1, h2, hb2]
  rw [hs, hw, padded e _ hA _ hR _ hm]

/-- The output block over such blocks, at an index. -/
theorem block_value (a : Args) (b : Fin 16) (u v : Fin 4) (x0 : Vec Ideal S1x192x16x128 .f32) (x1 : Vec Ideal S1x1x128 .f32) (x2 x3 x4 x5 : Vec Ideal S1x128x128 .f32)
    (x6 : Vec Ideal S1x128x256 .f32) (x7 : Vec Ideal S1x1x256 .f32) (x8 : Vec Ideal S1x256x128 .f32) (x9 : Vec Ideal S1x1x128 .f32)
    (x10 : Vec Ideal S1x96x192 .f32) (x11 : Vec Ideal S1x192x128 .f32) (x12 : Vec Ideal S1x1x128 .f32) (x13 x14 x15 x16 : Vec Ideal S1x128x128 .f32)
    (x17 : Vec Ideal S1x128x256 .f32) (x18 : Vec Ideal S1x1x256 .f32) (x19 : Vec Ideal S1x256x128 .f32) (x20 : Vec Ideal S1x1x128 .f32)
    (x21 : Vec Ideal S1x96x192 .f32) (x22 : Vec Ideal S1x192x128 .f32) (x23 : Vec Ideal S1x1x128 .f32) (x24 : Vec Ideal S192x192 .f32) (x25 : Vec Ideal S192x128 .f32)
    (hx : ∀ l n d, x0 (ix4 (0 : Fin 1) l n d) = a.x (ix4 b l n d)) (hg : ∀ j, x1 (ix3 (0 : Fin 1) (0 : Fin 1) j) = a.gate (ix2 b j))
    (l : Fin 192) (n : Fin 16) (d : Fin 128)
    (hu : ∀ g, expertV (seriesV x0) g x2 x3 x4 x5 x6 x7 x8 x9 x10 x11 x12 (ix2 (rs n l) d) = a.out u (a.series b n) l d * g)
    (hv : ∀ g, expertV (seriesV x0) g x13 x14 x15 x16 x17 x18 x19 x20 x21 x22 x23 (ix2 (rs n l) d) = a.out v (a.series b n) l d * g)
    (hew : ∀ l k, x24 (ix2 l k) = a.endW (ix2 k l)) (heb : ∀ l d, x25 (ix2 l d) = a.endB (ix1 l)) (ia ib : Fin 16 → Fin 4) (hia : ia b = u) (hib : ib b = v) :
    blockV (seriesV x0) (addf
          (expertV (seriesV x0) (k0_pay21 (View.ld x1 (Rect.unit ![0, 0, 0] ![1, 1, 1] inb_S1x1x128_S1x1x1_0_0_0))) x2 x3 x4 x5 x6 x7 x8 x9 x10 x11 x12)
          (expertV (seriesV x0) (k0_pay21 (View.ld x1 (Rect.unit ![0, 0, 1] ![1, 1, 1] inb_S1x1x128_S1x1x1_0_0_1))) x13 x14 x15 x16 x17 x18 x19 x20 x21 x22 x23)) x24 x25
        (ix4 (0 : Fin 1) l n d) = a.answer ia ib b l n d := by
  rw [block_at]
  rw [show ∀ u v : FVec Ideal S3072x128 .f32, addf u v (ix2 (rs n l) d) = u (ix2 (rs n l) d) + v (ix2 (rs n l) d) from fun u v => rfl]
  rw [hu, hv, gate_0, gate_1, hg, hg]
  simp only [series_at, hx, hew, heb]
  unfold Args.answer Args.proj
  rw [hia, hib, add_comm]

/-- The output block of a point, at an index. -/
theorem point (ia ib : Fin 16 → Fin 4) (ha : ∀ b, (ia b).val = ea m b) (hb : ∀ b, (ib b).val = eb m b)
    (l : Fin 192) (n : Fin 16) (d : Fin 128) :
    outsAt0 m hO c t (ix4 (0 : Fin 1) l n d) = (args m c).answer ia ib (bat m hO t) l n d := by
  have hx : ∀ l n d, iblk m hO c 0 t (ix4 (0 : Fin 1) l n d) = (args m c).x (ix4 (bat m hO t) l n d) := fun l n d =>
    (blk_0 m hO c t l n d).trans (congrFun (V_main_arg2 m c) _)
  have a := ha (bat m hO t)
  have b := hb (bat m hO t)
  refine (congrFun (out_block (F := Ideal) c (grid0.coords t) _ _ _ _ _ _ _ _ _ _ _ _ _ _ _ _ _ _ _ _ _ _ _ _ _ _ _ _ _ _ _ _ _ _ _ _ _ _ _ _ _ _ _ _ _ _ _ _ _ _ _ _ _ _
    (iblk m hO c 0 t) (iblk m hO c 1 t) (iblk m hO c 2 t) (iblk m hO c 3 t) (iblk m hO c 4 t) (iblk m hO c 5 t)
      (iblk m hO c 6 t) (iblk m hO c 7 t) (iblk m hO c 8 t) (iblk m hO c 9 t) (iblk m hO c 10 t) (iblk m hO c 11 t) (iblk m hO c 12 t)
      (iblk m hO c 13 t) (iblk m hO c 14 t) (iblk m hO c 15 t) (iblk m hO c 16 t) (iblk m hO c 17 t) (iblk m hO c 18 t) (iblk m hO c 19 t)
      (iblk m hO c 20 t) (iblk m hO c 21 t) (iblk m hO c 22 t) (iblk m hO c 23 t) (iblk m hO c 24 t) (iblk m hO c 25 t) _) (ix4 (0 : Fin 1) l n d)).trans ?_
  refine block_value (args m c) (bat m hO t) (ia (bat m hO t)) (ib (bat m hO t)) _ _ _ _ _ _ _ _ _ _ _ _ _ _ _ _ _ _ _ _ _ _ _ _ _ _
    hx (fun j => (blk_1 m hO c t j).trans (gate_rows m c _ j)) l n d (fun g => ?_) (fun g => ?_)
    (fun l k => (blk_24 m hO c t l k).trans (endw_rows m c l k)) (fun l d => (blk_25 m hO c t l d).trans (endb_rows m c l d)) ia ib rfl rfl
  · exact stage (args m c) (bat m hO t) (ia (bat m hO t)) _ g _ _ _ _ _ _ _ _ _ _ _ hx
      (fun k d => (blk_2 m hO c t _ a k d).trans (congrFun (V_main_arg3 m c) _)) (fun k d => (blk_3 m hO c t _ a k d).trans (congrFun (V_main_arg4 m c) _))
      (fun k d => (blk_4 m hO c t _ a k d).trans (congrFun (V_main_arg5 m c) _)) (fun k d => (blk_5 m hO c t _ a k d).trans (congrFun (V_main_arg6 m c) _))
      (fun k f => (blk_6 m hO c t _ a k f).trans (congrFun (V_main_arg7 m c) _)) (fun f => (blk_7 m hO c t _ a f).trans (b1_rows m c _ f))
      (fun f d => (blk_8 m hO c t _ a f d).trans (congrFun (V_main_arg9 m c) _)) (fun d => (blk_9 m hO c t _ a d).trans (b2_rows m c _ d))
      (avg_of m c _ _ fun i l => blk_10 m hO c t _ a i l) (rep_of m c _ _ fun l j => blk_11 m hO c t _ a l j)
      (mask_sign m c _ _ fun j => blk_12 m hO c t _ a j) l n d
  · exact stage (args m c) (bat m hO t) (ib (bat m hO t)) _ g _ _ _ _ _ _ _ _ _ _ _ hx
      (fun k d => (blk_13 m hO c t _ b k d).trans (congrFun (V_main_arg3 m c) _)) (fun k d => (blk_14 m hO c t _ b k d).trans (congrFun (V_main_arg4 m c) _))
      (fun k d => (blk_15 m hO c t _ b k d).trans (congrFun (V_main_arg5 m c) _)) (fun k d => (blk_16 m hO c t _ b k d).trans (congrFun (V_main_arg6 m c) _))
      (fun k f => (blk_17 m hO c t _ b k f).trans (congrFun (V_main_arg7 m c) _)) (fun f => (blk_18 m hO c t _ b f).trans (b1_rows m c _ f))
      (fun f d => (blk_19 m hO c t _ b f d).trans (congrFun (V_main_arg9 m c) _)) (fun d => (blk_20 m hO c t _ b d).trans (b2_rows m c _ d))
      (avg_of m c _ _ fun i l => blk_21 m hO c t _ b i l) (rep_of m c _ _ fun l j => blk_22 m hO c t _ b l j)
      (mask_sign m c _ _ fun j => blk_23 m hO c t _ b j) l n d

/-- The result array as a function of the arguments. -/
def result (ia ib : Fin 16 → Fin 4) : Buf (Elt Ideal) ((c : Thread nD τ).loc main_v24) :=
  fun i : S16x192x16x128.Idx => (args m c).answer ia ib (i 0) (i 1) (i 2) (i 3)

/-- Where the output block of a point lies. -/
theorem emb_26 (l : Fin 192) (n : Fin 16) (d : Fin 128) :
    (((cfgM m hO).win 26).blk t).view.emb (ix4 (0 : Fin 1) l n d) = ix4 (bat m hO t) l n d := by
  funext a
  apply Fin.ext
  refine (Pipeline.Window.rect_emb_val ((cfgM m hO).win 26) t _ a).trans ?_
  have hc := coord_word m hO t
  fin_cases a
  · show (BitVec.ofNat 32 (grid0.coords t 0).val).toNat * 1 + 0 = t.val
    omega
  · show 0 * 192 + l.val = l.val
    omega
  · show 0 * 16 + n.val = n.val
    omega
  · show 0 * 128 + d.val = d.val
    omega

/-- An index of an output block by its coordinates. -/
theorem split_1 (j : S1x192x16x128.Idx) : ∃ (l : Fin 192) (n : Fin 16) (d : Fin 128), j = ix4 (0 : Fin 1) l n d :=
  ⟨j 1, j 2, j 3, by
    funext x
    match x with
    | ⟨0, _⟩ => exact Subsingleton.elim (α := Fin 1) _ _
    | ⟨1, _⟩ => rfl
    | ⟨2, _⟩ => rfl
    | ⟨3, _⟩ => rfl⟩
/-- An index of the result by its coordinates. -/
theorem split_16 (i : S16x192x16x128.Idx) : ∃ (b : Fin 16) (l : Fin 192) (n : Fin 16) (d : Fin 128), i = ix4 b l n d :=
  ⟨i 0, i 1, i 2, i 3, by
    funext x
    match x with
    | ⟨0, _⟩ => rfl
    | ⟨1, _⟩ => rfl
    | ⟨2, _⟩ => rfl
    | ⟨3, _⟩ => rfl⟩

/-- The kernel's result array after the run. -/
theorem final (ia ib : Fin 16 → Fin 4) (ha : ∀ b, (ia b).val = ea m b) (hb : ∀ b, (ib b).val = eb m b) :
    (dats m hO 0 c).arrAt 26 (cfgM m hO).N = result m c ia ib := by
  refine (dats m hO 0 c).arrAt_eq_of_cover 26 (result m c ia ib) (fun t _ => ?_) (fun i => ?_)
  · refine funext fun j => ?_
    obtain ⟨l, n, d, rfl⟩ := split_1 j
    refine (congrFun (after0_26 m hO c t) (ix4 (0 : Fin 1) l n d)).trans ((point m hO c t ia ib ha hb l n d).trans ?_)
    exact (congrArg (result m c ia ib) (emb_26 m hO t l n d)).symm
  · obtain ⟨b, l, n, d, rfl⟩ := split_16 i
    have hb : b.val < (cfgM m hO).N := lt_of_lt_of_eq b.isLt (N_0 : grid0.N = 16).symm
    refine ⟨⟨b.val, hb⟩, flush0_26 _ _, ?_⟩
    have h := (((cfgM m hO).win 26).blk ⟨b.val, hb⟩).view.emb_mem_set (ix4 (0 : Fin 1) l n d)
    rw [emb_26] at h
    exact h

end Cert.Moe.KernelIdeal

end
-- ==== Proof.RefCommon.lean ====
/-
  The constants that the reference's lines hold, as extended reals.
-/
module

public import proofs.«01_k».proof.Proof.Gen.ReferenceIdeal.Read
public import proofs.«01_k».proof.Proof.Answer
public import Idealize.ShloMosaic.Lib.Pointwise

@[expose] public section

namespace Cert.Moe

open Idealize.ShloMosaic Idealize.ShloMosaic.Pointwise Cert.ReferenceIdeal

/-- The word of eight. -/
theorem lit_8 : Ideal.ofBits .f32 1090519040#32 = (((8 : ℕ) : ℝ) : EReal) := by
  simp [Ideal.ofBits, Ideal.ieee, -EReal.coe_mul]; norm_num
/-- The word of six. -/
theorem lit_6 : Ideal.ofBits .f32 1086324736#32 = (((6 : ℕ) : ℝ) : EReal) := by
  simp [Ideal.ofBits, Ideal.ieee, -EReal.coe_mul]; norm_num
/-- The word of four. -/
theorem lit_4 : Ideal.ofBits .f32 1082130432#32 = (((4 : ℕ) : ℝ) : EReal) := by
  simp [Ideal.ofBits, Ideal.ieee, -EReal.coe_mul]; norm_num
/-- The word of two. -/
theorem lit_2 : Ideal.ofBits .f32 1073741824#32 = (((2 : ℕ) : ℝ) : EReal) := by
  simp [Ideal.ofBits, Ideal.ieee, -EReal.coe_mul]; norm_num
/-- The word of minus infinity. -/
theorem lit_bot : Ideal.ofBits .f32 4286578688#32 = ⊥ := by
  simp [Ideal.ofBits, Ideal.ieee]
/-- The word of 128. -/
theorem lit_128 : Ideal.ofBits .f32 1124073472#32 = ((128 : ℝ) : EReal) := by
  simp [Ideal.ofBits, Ideal.ieee, -EReal.coe_mul]; norm_num

/-- The reference's root of the width. -/
theorem root : (Host.sqrt (F := Ideal) (constant (F := Ideal) S_ .f32 1124073472#32) ix0 : EReal) = ((Real.sqrt 128 : ℝ) : EReal) := by
  show Ideal.sqrt (Ideal.ofBits .f32 1124073472#32) = _
  rw [lit_128, Ideal.sqrt_coe, if_neg (by norm_num)]

end Cert.Moe
-- ==== Proof.RefExpert0.lean ====
/-
  The reference's expert 0 (patches of 8 steps), stage by stage at an index.
-/
module

public import proofs.«01_k».proof.Proof.RefCommon

@[expose] public section

set_option maxRecDepth 10000

noncomputable section

namespace Cert.Moe.Ref0

open Idealize.ShloMosaic Idealize.ShloMosaic.TcCoe Idealize.ShloMosaic.Pointwise Cert.ReferenceIdeal Cert.ReferenceIdeal.Gen Cert.ReferenceIdeal.Read

variable (a : Args)

/-- The patch means of a series. -/
abbrev Y (b n : Fin 16) : Mat 24 128 := pooled 8 24 rfl (a.series b n)

/-- The means. -/
theorem mean_at (b n : Fin 16) (i : Fin 24) (d : Fin 128) :
    val_main_v41 (F := Ideal) a.x (ix4 b n i d) = Y a b n i d := by
  unfold val_main_v41 val_main_v40 val_main_v39 val_main_cst_5 val_main_v38 val_main_v37 val_main_cst_4 Y pooled Args.series
  pointwise
  rw [lit_8]
theorem q_at (b n : Fin 16) (i : Fin 24) (d : Fin 128) :
    val_main_v42 (F := Ideal) a.x a.wq (ix4 b n i d) = proj (Y a b n) (a.weights 0).wq i d := by
  unfold val_main_v42 val_main_v22 val_main_v21 proj
  pointwise
  simp only [mean_at]
  rfl
theorem k_at (b n : Fin 16) (i : Fin 24) (d : Fin 128) :
    val_main_v43 (F := Ideal) a.x a.wk (ix4 b n i d) = proj (Y a b n) (a.weights 0).wk i d := by
  unfold val_main_v43 val_main_v24 val_main_v23 proj
  pointwise
  simp only [mean_at]
  rfl
theorem v_at (b n : Fin 16) (i : Fin 24) (d : Fin 128) :
    val_main_v44 (F := Ideal) a.x a.wv (ix4 b n i d) = proj (Y a b n) (a.weights 0).wv i d := by
  unfold val_main_v44 val_main_v26 val_main_v25 proj
  pointwise
  simp only [mean_at]
  rfl
/-- The scores. -/
theorem score_at (b n : Fin 16) (i j : Fin 24) :
    val_main_v49 (F := Ideal) a.x a.wq a.wk (ix4 b n i j)
      = scores (proj (Y a b n) (a.weights 0).wq) (proj (Y a b n) (a.weights 0).wk) i j := by
  unfold val_main_v49 val_main_v48 val_main_v47 val_main_v46 val_main_cst_6 val_main_v45 scores
  pointwise
  simp only [q_at, k_at]
  congr 1
  exact root
/-- The softmax weights. -/
theorem weight_at (b n : Fin 16) (i j : Fin 24) :
    val_main_v60 (F := Ideal) a.x a.wq a.wk (ix4 b n i j)
      = softmaxW (scores (proj (Y a b n) (a.weights 0).wq) (proj (Y a b n) (a.weights 0).wk) i) j := by
  unfold val_main_v60 val_main_v59 val_main_v58 val_main_v57 val_main_cst_9 val_main_v56 val_main_v55 val_main_v54 val_main_v53 val_main_v52 val_main_v51 val_main_cst_8 val_main_v50 val_main_cst_7 softmaxW rowMax
  pointwise
  simp only [score_at]
  rw [lit_bot]
  simp only [max_bot_left]
/-- The attention's output, projected. -/
theorem attn_at (b n : Fin 16) (i : Fin 24) (d : Fin 128) :
    val_main_v62 (F := Ideal) a.x a.wq a.wk a.wv a.wo (ix4 b n i d)
      = proj (fun i d => ∑ j, softmaxW (scores (proj (Y a b n) (a.weights 0).wq) (proj (Y a b n) (a.weights 0).wk) i) j
          * proj (Y a b n) (a.weights 0).wv j d) (a.weights 0).wo i d := by
  unfold val_main_v62 val_main_v61 val_main_v28 val_main_v27
  pointwise
  simp only [weight_at, v_at]
  rfl
/-- The input with each patch's attention output added to its steps. -/
theorem step_at (b n : Fin 16) (l : Fin 192) (d : Fin 128) :
    val_main_v68 (F := Ideal) a.x a.wq a.wk a.wv a.wo (ix4 b l n d)
      = a.series b n l d + val_main_v62 (F := Ideal) a.x a.wq a.wk a.wv a.wo (ix4 b n (⟨l.val / 8, by omega⟩ : Fin 24) d) := by
  unfold val_main_v68 val_main_v67 val_main_v66 val_main_v65 val_main_v64 val_main_v63
  pointwise
  rfl
/-- The expert's output. -/
theorem out_at (b n : Fin 16) (l : Fin 192) (d : Fin 128) :
    val_main_v78 (F := Ideal) a.x a.wq a.wk a.wv a.wo a.w1 a.b1 a.w2 a.b2 (ix4 b l n d) = a.out 0 (a.series b n) l d := by
  unfold val_main_v78 val_main_v77 val_main_v76 val_main_v75 val_main_v74 val_main_v73 val_main_call0_v0 val_main_call0_cst val_main_v72 val_main_v71 val_main_v70 val_main_v69 val_main_v36 val_main_v35 val_main_v34 val_main_v33 val_main_v32 val_main_v31 val_main_v30 val_main_v29
  pointwise
  simp only [step_at, attn_at]
  rfl

end Cert.Moe.Ref0

end
-- ==== Proof.RefExpert1.lean ====
/-
  The reference's expert 1 (patches of 6 steps), stage by stage at an index.
-/
module

public import proofs.«01_k».proof.Proof.RefCommon

@[expose] public section

set_option maxRecDepth 10000

noncomputable section

namespace Cert.Moe.Ref1

open Idealize.ShloMosaic Idealize.ShloMosaic.TcCoe Idealize.ShloMosaic.Pointwise Cert.ReferenceIdeal Cert.ReferenceIdeal.Gen Cert.ReferenceIdeal.Read

variable (a : Args)

/-- The patch means of a series. -/
abbrev Y (b n : Fin 16) : Mat 32 128 := pooled 6 32 rfl (a.series b n)

/-- The means. -/
theorem mean_at (b n : Fin 16) (i : Fin 32) (d : Fin 128) :
    val_main_v105 (F := Ideal) a.x (ix4 b n i d) = Y a b n i d := by
  unfold val_main_v105 val_main_v104 val_main_v103 val_main_cst_11 val_main_v102 val_main_v101 val_main_cst_10 Y pooled Args.series
  pointwise
  rw [lit_6]
theorem q_at (b n : Fin 16) (i : Fin 32) (d : Fin 128) :
    val_main_v106 (F := Ideal) a.x a.wq (ix4 b n i d) = proj (Y a b n) (a.weights 1).wq i d := by
  unfold val_main_v106 val_main_v86 val_main_v85 proj
  pointwise
  simp only [mean_at]
  rfl
theorem k_at (b n : Fin 16) (i : Fin 32) (d : Fin 128) :
    val_main_v107 (F := Ideal) a.x a.wk (ix4 b n i d) = proj (Y a b n) (a.weights 1).wk i d := by
  unfold val_main_v107 val_main_v88 val_main_v87 proj
  pointwise
  simp only [mean_at]
  rfl
theorem v_at (b n : Fin 16) (i : Fin 32) (d : Fin 128) :
    val_main_v108 (F := Ideal) a.x a.wv (ix4 b n i d) = proj (Y a b n) (a.weights 1).wv i d := by
  unfold val_main_v108 val_main_v90 val_main_v89 proj
  pointwise
  simp only [mean_at]
  rfl
/-- The scores. -/
theorem score_at (b n : Fin 16) (i j : Fin 32) :
    val_main_v113 (F := Ideal) a.x a.wq a.wk (ix4 b n i j)
      = scores (proj (Y a b n) (a.weights 1).wq) (proj (Y a b n) (a.weights 1).wk) i j := by
  unfold val_main_v113 val_main_v112 val_main_v111 val_main_v110 val_main_cst_12 val_main_v109 scores
  pointwise
  simp only [q_at, k_at]
  congr 1
  exact root
/-- The softmax weights. -/
theorem weight_at (b n : Fin 16) (i j : Fin 32) :
    val_main_v124 (F := Ideal) a.x a.wq a.wk (ix4 b n i j)
      = softmaxW (scores (proj (Y a b n) (a.weights 1).wq) (proj (Y a b n) (a.weights 1).wk) i) j := by
  unfold val_main_v124 val_main_v123 val_main_v122 val_main_v121 val_main_cst_15 val_main_v120 val_main_v119 val_main_v118 val_main_v117 val_main_v116 val_main_v115 val_main_cst_14 val_main_v114 val_main_cst_13 softmaxW rowMax
  pointwise
  simp only [score_at]
  rw [lit_bot]
  simp only [max_bot_left]
/-- The attention's output, projected. -/
theorem attn_at (b n : Fin 16) (i : Fin 32) (d : Fin 128) :
    val_main_v126 (F := Ideal) a.x a.wq a.wk a.wv a.wo (ix4 b n i d)
      = proj (fun i d => ∑ j, softmaxW (scores (proj (Y a b n) (a.weights 1).wq) (proj (Y a b n) (a.weights 1).wk) i) j
          * proj (Y a b n) (a.weights 1).wv j d) (a.weights 1).wo i d := by
  unfold val_main_v126 val_main_v125 val_main_v92 val_main_v91
  pointwise
  simp only [weight_at, v_at]
  rfl
/-- The input with each patch's attention output added to its steps. -/
theorem step_at (b n : Fin 16) (l : Fin 192) (d : Fin 128) :
    val_main_v132 (F := Ideal) a.x a.wq a.wk a.wv a.wo (ix4 b l n d)
      = a.series b n l d + val_main_v126 (F := Ideal) a.x a.wq a.wk a.wv a.wo (ix4 b n (⟨l.val / 6, by omega⟩ : Fin 32) d) := by
  unfold val_main_v132 val_main_v131 val_main_v130 val_main_v129 val_main_v128 val_main_v127
  pointwise
  rfl
/-- The expert's output. -/
theorem out_at (b n : Fin 16) (l : Fin 192) (d : Fin 128) :
    val_main_v142 (F := Ideal) a.x a.wq a.wk a.wv a.wo a.w1 a.b1 a.w2 a.b2 (ix4 b l n d) = a.out 1 (a.series b n) l d := by
  unfold val_main_v142 val_main_v141 val_main_v140 val_main_v139 val_main_v138 val_main_v137 val_main_call1_v0 val_main_call1_cst val_main_v136 val_main_v135 val_main_v134 val_main_v133 val_main_v100 val_main_v99 val_main_v98 val_main_v97 val_main_v96 val_main_v95 val_main_v94 val_main_v93
  pointwise
  simp only [step_at, attn_at]
  rfl

end Cert.Moe.Ref1

end
-- ==== Proof.RefExpert2.lean ====
/-
  The reference's expert 2 (patches of 4 steps), stage by stage at an index.
-/
module

public import proofs.«01_k».proof.Proof.RefCommon

@[expose] public section

set_option maxRecDepth 10000

noncomputable section

namespace Cert.Moe.Ref2

open Idealize.ShloMosaic Idealize.ShloMosaic.TcCoe Idealize.ShloMosaic.Pointwise Cert.ReferenceIdeal Cert.ReferenceIdeal.Gen Cert.ReferenceIdeal.Read

variable (a : Args)

/-- The patch means of a series. -/
abbrev Y (b n : Fin 16) : Mat 48 128 := pooled 4 48 rfl (a.series b n)

/-- The means. -/
theorem mean_at (b n : Fin 16) (i : Fin 48) (d : Fin 128) :
    val_main_v169 (F := Ideal) a.x (ix4 b n i d) = Y a b n i d := by
  unfold val_main_v169 val_main_v168 val_main_v167 val_main_cst_17 val_main_v166 val_main_v165 val_main_cst_16 Y pooled Args.series
  pointwise
  rw [lit_4]
theorem q_at (b n : Fin 16) (i : Fin 48) (d : Fin 128) :
    val_main_v170 (F := Ideal) a.x a.wq (ix4 b n i d) = proj (Y a b n) (a.weights 2).wq i d := by
  unfold val_main_v170 val_main_v150 val_main_v149 proj
  pointwise
  simp only [mean_at]
  rfl
theorem k_at (b n : Fin 16) (i : Fin 48) (d : Fin 128) :
    val_main_v171 (F := Ideal) a.x a.wk (ix4 b n i d) = proj (Y a b n) (a.weights 2).wk i d := by
  unfold val_main_v171 val_main_v152 val_main_v151 proj
  pointwise
  simp only [mean_at]
  rfl
theorem v_at (b n : Fin 16) (i : Fin 48) (d : Fin 128) :
    val_main_v172 (F := Ideal) a.x a.wv (ix4 b n i d) = proj (Y a b n) (a.weights 2).wv i d := by
  unfold val_main_v172 val_main_v154 val_main_v153 proj
  pointwise
  simp only [mean_at]
  rfl
/-- The scores. -/
theorem score_at (b n : Fin 16) (i j : Fin 48) :
    val_main_v177 (F := Ideal) a.x a.wq a.wk (ix4 b n i j)
      = scores (proj (Y a b n) (a.weights 2).wq) (proj (Y a b n) (a.weights 2).wk) i j := by
  unfold val_main_v177 val_main_v176 val_main_v175 val_main_v174 val_main_cst_18 val_main_v173 scores
  pointwise
  simp only [q_at, k_at]
  congr 1
  exact root
/-- The softmax weights. -/
theorem weight_at (b n : Fin 16) (i j : Fin 48) :
    val_main_v188 (F := Ideal) a.x a.wq a.wk (ix4 b n i j)
      = softmaxW (scores (proj (Y a b n) (a.weights 2).wq) (proj (Y a b n) (a.weights 2).wk) i) j := by
  unfold val_main_v188 val_main_v187 val_main_v186 val_main_v185 val_main_cst_21 val_main_v184 val_main_v183 val_main_v182 val_main_v181 val_main_v180 val_main_v179 val_main_cst_20 val_main_v178 val_main_cst_19 softmaxW rowMax
  pointwise
  simp only [score_at]
  rw [lit_bot]
  simp only [max_bot_left]
/-- The attention's output, projected. -/
theorem attn_at (b n : Fin 16) (i : Fin 48) (d : Fin 128) :
    val_main_v190 (F := Ideal) a.x a.wq a.wk a.wv a.wo (ix4 b n i d)
      = proj (fun i d => ∑ j, softmaxW (scores (proj (Y a b n) (a.weights 2).wq) (proj (Y a b n) (a.weights 2).wk) i) j
          * proj (Y a b n) (a.weights 2).wv j d) (a.weights 2).wo i d := by
  unfold val_main_v190 val_main_v189 val_main_v156 val_main_v155
  pointwise
  simp only [weight_at, v_at]
  rfl
/-- The input with each patch's attention output added to its steps. -/
theorem step_at (b n : Fin 16) (l : Fin 192) (d : Fin 128) :
    val_main_v196 (F := Ideal) a.x a.wq a.wk a.wv a.wo (ix4 b l n d)
      = a.series b n l d + val_main_v190 (F := Ideal) a.x a.wq a.wk a.wv a.wo (ix4 b n (⟨l.val / 4, by omega⟩ : Fin 48) d) := by
  unfold val_main_v196 val_main_v195 val_main_v194 val_main_v193 val_main_v192 val_main_v191
  pointwise
  rfl
/-- The expert's output. -/
theorem out_at (b n : Fin 16) (l : Fin 192) (d : Fin 128) :
    val_main_v206 (F := Ideal) a.x a.wq a.wk a.wv a.wo a.w1 a.b1 a.w2 a.b2 (ix4 b l n d) = a.out 2 (a.series b n) l d := by
  unfold val_main_v206 val_main_v205 val_main_v204 val_main_v203 val_main_v202 val_main_v201 val_main_call2_v0 val_main_call2_cst val_main_v200 val_main_v199 val_main_v198 val_main_v197 val_main_v164 val_main_v163 val_main_v162 val_main_v161 val_main_v160 val_main_v159 val_main_v158 val_main_v157
  pointwise
  simp only [step_at, attn_at]
  rfl

end Cert.Moe.Ref2

end
-- ==== Proof.RefExpert3.lean ====
/-
  The reference's expert 3 (patches of 2 steps), stage by stage at an index.
-/
module

public import proofs.«01_k».proof.Proof.RefCommon

@[expose] public section

set_option maxRecDepth 10000

noncomputable section

namespace Cert.Moe.Ref3

open Idealize.ShloMosaic Idealize.ShloMosaic.TcCoe Idealize.ShloMosaic.Pointwise Cert.ReferenceIdeal Cert.ReferenceIdeal.Gen Cert.ReferenceIdeal.Read

variable (a : Args)

/-- The patch means of a series. -/
abbrev Y (b n : Fin 16) : Mat 96 128 := pooled 2 96 rfl (a.series b n)

/-- The means. -/
theorem mean_at (b n : Fin 16) (i : Fin 96) (d : Fin 128) :
    val_main_v233 (F := Ideal) a.x (ix4 b n i d) = Y a b n i d := by
  unfold val_main_v233 val_main_v232 val_main_v231 val_main_cst_23 val_main_v230 val_main_v229 val_main_cst_22 Y pooled Args.series
  pointwise
  rw [lit_2]
theorem q_at (b n : Fin 16) (i : Fin 96) (d : Fin 128) :
    val_main_v234 (F := Ideal) a.x a.wq (ix4 b n i d) = proj (Y a b n) (a.weights 3).wq i d := by
  unfold val_main_v234 val_main_v214 val_main_v213 proj
  pointwise
  simp only [mean_at]
  rfl
theorem k_at (b n : Fin 16) (i : Fin 96) (d : Fin 128) :
    val_main_v235 (F := Ideal) a.x a.wk (ix4 b n i d) = proj (Y a b n) (a.weights 3).wk i d := by
  unfold val_main_v235 val_main_v216 val_main_v215 proj
  pointwise
  simp only [mean_at]
  rfl
theorem v_at (b n : Fin 16) (i : Fin 96) (d : Fin 128) :
    val_main_v236 (F := Ideal) a.x a.wv (ix4 b n i d) = proj (Y a b n) (a.weights 3).wv i d := by
  unfold val_main_v236 val_main_v218 val_main_v217 proj
  pointwise
  simp only [mean_at]
  rfl
/-- The scores. -/
theorem score_at (b n : Fin 16) (i j : Fin 96) :
    val_main_v241 (F := Ideal) a.x a.wq a.wk (ix4 b n i j)
      = scores (proj (Y a b n) (a.weights 3).wq) (proj (Y a b n) (a.weights 3).wk) i j := by
  unfold val_main_v241 val_main_v240 val_main_v239 val_main_v238 val_main_cst_24 val_main_v237 scores
  pointwise
  simp only [q_at, k_at]
  congr 1
  exact root
/-- The softmax weights. -/
theorem weight_at (b n : Fin 16) (i j : Fin 96) :
    val_main_v252 (F := Ideal) a.x a.wq a.wk (ix4 b n i j)
      = softmaxW (scores (proj (Y a b n) (a.weights 3).wq) (proj (Y a b n) (a.weights 3).wk) i) j := by
  unfold val_main_v252 val_main_v251 val_main_v250 val_main_v249 val_main_cst_27 val_main_v248 val_main_v247 val_main_v246 val_main_v245 val_main_v244 val_main_v243 val_main_cst_26 val_main_v242 val_main_cst_25 softmaxW rowMax
  pointwise
  simp only [score_at]
  rw [lit_bot]
  simp only [max_bot_left]
/-- The attention's output, projected. -/
theorem attn_at (b n : Fin 16) (i : Fin 96) (d : Fin 128) :
    val_main_v254 (F := Ideal) a.x a.wq a.wk a.wv a.wo (ix4 b n i d)
      = proj (fun i d => ∑ j, softmaxW (scores (proj (Y a b n) (a.weights 3).wq) (proj (Y a b n) (a.weights 3).wk) i) j
          * proj (Y a b n) (a.weights 3).wv j d) (a.weights 3).wo i d := by
  unfold val_main_v254 val_main_v253 val_main_v220 val_main_v219
  pointwise
  simp only [weight_at, v_at]
  rfl
/-- The input with each patch's attention output added to its steps. -/
theorem step_at (b n : Fin 16) (l : Fin 192) (d : Fin 128) :
    val_main_v260 (F := Ideal) a.x a.wq a.wk a.wv a.wo (ix4 b l n d)
      = a.series b n l d + val_main_v254 (F := Ideal) a.x a.wq a.wk a.wv a.wo (ix4 b n (⟨l.val / 2, by omega⟩ : Fin 96) d) := by
  unfold val_main_v260 val_main_v259 val_main_v258 val_main_v257 val_main_v256 val_main_v255
  pointwise
  rfl
/-- The expert's output. -/
theorem out_at (b n : Fin 16) (l : Fin 192) (d : Fin 128) :
    val_main_v270 (F := Ideal) a.x a.wq a.wk a.wv a.wo a.w1 a.b1 a.w2 a.b2 (ix4 b l n d) = a.out 3 (a.series b n) l d := by
  unfold val_main_v270 val_main_v269 val_main_v268 val_main_v267 val_main_v266 val_main_v265 val_main_call3_v0 val_main_call3_cst val_main_v264 val_main_v263 val_main_v262 val_main_v261 val_main_v228 val_main_v227 val_main_v226 val_main_v225 val_main_v224 val_main_v223 val_main_v222 val_main_v221
  pointwise
  simp only [step_at, attn_at]
  rfl

end Cert.Moe.Ref3

end
-- ==== Proof.RefGates.lean ====
/-
  The reference's gates: a row per batch, the two chosen experts' gates at their indices and zero elsewhere.
-/
module

public import proofs.«01_k».proof.Proof.RefCommon
public import Idealize.ShloMosaic.Lib.Routing.OpsSet
public import Idealize.ShloMosaic.Lib.Routing.OpsPair

@[expose] public section

set_option maxRecDepth 10000

noncomputable section

namespace Cert.Moe.Gates

open Idealize.ShloMosaic Idealize.ShloMosaic.TcCoe Idealize.ShloMosaic.Pointwise Cert.ReferenceIdeal Cert.ReferenceIdeal.Gen Cert.ReferenceIdeal.Read

variable (a : Args)

/-- The scatter's first index is the batch. -/
theorem row_at (b : Fin 16) (k : Fin 2) : val_main_v18 (F := Ideal) a.idx (ix3 b k (0 : Fin 2)) = BitVec.ofNat 32 b.val := by
  unfold val_main_v18 val_main_v16 val_main_v15 val_main_v9 val_main_v8 val_main_v7 val_main_c_0 val_main_v6 val_main_v5 val_main_c val_main_v2 val_main_v1
  pointwise
  revert b
  decide
/-- Its second is the word of the chosen expert. -/
theorem col_at (b : Fin 16) (k : Fin 2) (h : (a.idx (ix2 b (⟨k.val, by omega⟩ : Fin 128))).toNat < 4) :
    val_main_v18 (F := Ideal) a.idx (ix3 b k (1 : Fin 2)) = a.idx (ix2 b (⟨k.val, by omega⟩ : Fin 128)) := by
  unfold val_main_v18 val_main_v17 val_main_v14 val_main_v13 val_main_v12 val_main_c_2 val_main_v11 val_main_v10 val_main_c_1 val_main_v3
  pointwise
  exact Idealize.ShloMosaic.Routing.wrap_of_lt _ _ (by omega)
/-- The scattered values. -/
theorem val_at (b : Fin 16) (k : Fin 2) : val_main_v4 (F := Ideal) a.gate (ix2 b k) = a.gate (ix2 b (⟨k.val, by omega⟩ : Fin 128)) := by
  unfold val_main_v4
  pointwise
/-- What they are scattered into. -/
theorem zero_at (b : Fin 16) (e : Fin 4) : val_main_v0 (F := Ideal) (ix2 b e) = 0 := by
  unfold val_main_v0 val_main_cst
  pointwise

/-- Where an update lands. -/
theorem lands (b b' : Fin 16) (k : Fin 2) (e : Fin 4) (h : (a.idx (ix2 b (⟨k.val, by omega⟩ : Fin 128))).toNat < 4) :
    scatter_S16x4_S16x2x2_S16x2_n_01_01_2.resultIdx? (ix2 b k) (val_main_v18 (F := Ideal) a.idx) = some (ix2 b' e)
      ↔ b = b' ∧ (a.idx (ix2 b (⟨k.val, by omega⟩ : Fin 128))).toNat = e.val := by
  refine (Idealize.ShloMosaic.Routing.scatter_lands2 (R := 16) (C := 4) (A := 16) (B := 2) scatter_S16x4_S16x2x2_S16x2_n_01_01_2 rfl rfl rfl
    (val_main_v18 (F := Ideal) a.idx) b k b' e).trans ?_
  show (val_main_v18 (F := Ideal) a.idx (ix3 b k (0 : Fin 2))).toInt = _ ∧ (val_main_v18 (F := Ideal) a.idx (ix3 b k (1 : Fin 2))).toInt = _ ↔ _
  rw [row_at, col_at a b k h]
  have hb := b.isLt
  rw [BitVec.toInt_eq_toNat_cond, BitVec.toInt_eq_toNat_cond, BitVec.toNat_ofNat, Fin.ext_iff]
  constructor
  · intro ⟨h1, h2⟩
    constructor <;> omega
  · intro ⟨h1, h2⟩
    constructor <;> omega

/-- The gates row of a batch. -/
theorem gate_at (b : Fin 16) (u v : Fin 4) (huv : u ≠ v) (hw : ∀ b : Fin 16, (a.idx (ix2 b (0 : Fin 128))).toNat < 4 ∧ (a.idx (ix2 b (1 : Fin 128))).toNat < 4)
    (hu : (a.idx (ix2 b (0 : Fin 128))).toNat = u.val) (hv : (a.idx (ix2 b (1 : Fin 128))).toNat = v.val) :
    val_main_v19 (F := Ideal) a.idx a.gate (ix2 b u) = a.gate (ix2 b (0 : Fin 128))
      ∧ val_main_v19 (F := Ideal) a.idx a.gate (ix2 b v) = a.gate (ix2 b (1 : Fin 128))
      ∧ ∀ e : Fin 4, e ≠ u → e ≠ v → val_main_v19 (F := Ideal) a.idx a.gate (ix2 b e) = 0 := by
  have hl : ∀ (b : Fin 16) (k : Fin 2), (a.idx (ix2 b (⟨k.val, by omega⟩ : Fin 128))).toNat < 4 := by
    intro b k
    fin_cases k
    · exact (hw b).1
    · exact (hw b).2
  have hne : u.val ≠ v.val := fun h => huv (Fin.ext h)
  unfold val_main_v19
  refine ⟨?_, ?_, fun e h1 h2 => ?_⟩
  · refine Idealize.ShloMosaic.Routing.scatter_set_hit _ _ _ _ _ _ (fun k hk => ?_) (ix2 b (0 : Fin 2)) ((lands a b b 0 u (hl b 0)).2 ⟨rfl, hu⟩)
    obtain ⟨b', k', rfl⟩ : ∃ (b' : Fin 16) (k' : Fin 2), k = ix2 b' k' := ⟨k 0, k 1, by funext x; fin_cases x <;> rfl⟩
    obtain ⟨h1, h2⟩ := (lands a b' b k' u (hl b' k')).1 hk
    subst h1
    rw [val_at]
    fin_cases k'
    · rfl
    · exact absurd (h2.symm.trans hv) hne
  · refine Idealize.ShloMosaic.Routing.scatter_set_hit _ _ _ _ _ _ (fun k hk => ?_) (ix2 b (1 : Fin 2)) ((lands a b b 1 v (hl b 1)).2 ⟨rfl, hv⟩)
    obtain ⟨b', k', rfl⟩ : ∃ (b' : Fin 16) (k' : Fin 2), k = ix2 b' k' := ⟨k 0, k 1, by funext x; fin_cases x <;> rfl⟩
    obtain ⟨h1, h2⟩ := (lands a b' b k' v (hl b' k')).1 hk
    subst h1
    rw [val_at]
    fin_cases k'
    · exact absurd (hu.symm.trans h2) hne
    · rfl
  · refine (Idealize.ShloMosaic.Routing.scatter_set_miss _ _ _ _ _ fun k hk => ?_).trans (zero_at b e)
    obtain ⟨b', k', rfl⟩ : ∃ (b' : Fin 16) (k' : Fin 2), k = ix2 b' k' := ⟨k 0, k 1, by funext x; fin_cases x <;> rfl⟩
    obtain ⟨h3, h4⟩ := (lands a b' b k' e (hl b' k')).1 hk
    subst h3
    fin_cases k'
    · exact h1 (Fin.ext (h4.symm.trans hu))
    · exact h2 (Fin.ext (h4.symm.trans hv))

end Cert.Moe.Gates

end
-- ==== Proof.RefValue.lean ====
/-
  What the reference leaves in its result array: the same function of the arguments as the kernel's.
-/
module

public import proofs.«01_k».proof.Proof.RefExpert0
public import proofs.«01_k».proof.Proof.RefExpert1
public import proofs.«01_k».proof.Proof.RefExpert2
public import proofs.«01_k».proof.Proof.RefExpert3
public import proofs.«01_k».proof.Proof.RefGates
public import proofs.«01_k».proof.Proof.SpecEq

@[expose] public section

set_option maxRecDepth 10000

noncomputable section

namespace Cert.Moe.Ref

open Idealize.ShloMosaic Idealize.ShloMosaic.TcCoe Idealize.ShloMosaic.Pointwise Cert.ReferenceIdeal Cert.ReferenceIdeal.Gen Cert.ReferenceIdeal.Read

variable (a : Args)

/-- The first expert's term added to zero. -/
theorem sum_0 (b : Fin 16) (l : Fin 192) (n : Fin 16) (d : Fin 128) :
    val_main_v84 (F := Ideal) a.idx a.gate a.x a.wq a.wk a.wv a.wo a.w1 a.b1 a.w2 a.b2 (ix4 b l n d)
      = val_main_v19 (F := Ideal) a.idx a.gate (ix2 b (0 : Fin 4)) * a.out 0 (a.series b n) l d := by
  unfold val_main_v84 val_main_v20 val_main_cst_3 val_main_v83 val_main_v82 val_main_v81 val_main_v80 val_main_v79
  pointwise
  rw [Ref0.out_at]

/-- The second's added to that. -/
theorem sum_1 (b : Fin 16) (l : Fin 192) (n : Fin 16) (d : Fin 128) :
    val_main_v148 (F := Ideal) a.idx a.gate a.x a.wq a.wk a.wv a.wo a.w1 a.b1 a.w2 a.b2 (ix4 b l n d)
      = val_main_v19 (F := Ideal) a.idx a.gate (ix2 b (0 : Fin 4)) * a.out 0 (a.series b n) l d
        + val_main_v19 (F := Ideal) a.idx a.gate (ix2 b (1 : Fin 4)) * a.out 1 (a.series b n) l d := by
  unfold val_main_v148 val_main_v147 val_main_v146 val_main_v145 val_main_v144 val_main_v143
  pointwise
  rw [Ref1.out_at, sum_0]

/-- The third's. -/
theorem sum_2 (b : Fin 16) (l : Fin 192) (n : Fin 16) (d : Fin 128) :
    val_main_v212 (F := Ideal) a.idx a.gate a.x a.wq a.wk a.wv a.wo a.w1 a.b1 a.w2 a.b2 (ix4 b l n d)
      = val_main_v19 (F := Ideal) a.idx a.gate (ix2 b (0 : Fin 4)) * a.out 0 (a.series b n) l d
        + val_main_v19 (F := Ideal) a.idx a.gate (ix2 b (1 : Fin 4)) * a.out 1 (a.series b n) l d
        + val_main_v19 (F := Ideal) a.idx a.gate (ix2 b (2 : Fin 4)) * a.out 2 (a.series b n) l d := by
  unfold val_main_v212 val_main_v211 val_main_v210 val_main_v209 val_main_v208 val_main_v207
  pointwise
  rw [Ref2.out_at, sum_1]

/-- The fourth's: the sum over all experts. -/
theorem sum_3 (b : Fin 16) (l : Fin 192) (n : Fin 16) (d : Fin 128) :
    val_main_v276 (F := Ideal) a.idx a.gate a.x a.wq a.wk a.wv a.wo a.w1 a.b1 a.w2 a.b2 (ix4 b l n d)
      = gateSum (fun e => a.out e (a.series b n) l d) (fun e => val_main_v19 (F := Ideal) a.idx a.gate (ix2 b e)) := by
  unfold val_main_v276 val_main_v275 val_main_v274 val_main_v273 val_main_v272 val_main_v271 gateSum
  pointwise
  rw [Ref3.out_at, sum_2]
  rw [mul_comm (a.out 0 (a.series b n) l d), mul_comm (a.out 1 (a.series b n) l d), mul_comm (a.out 2 (a.series b n) l d),
    mul_comm (a.out 3 (a.series b n) l d)]

/-- The end projection. -/
theorem end_at (b : Fin 16) (l : Fin 192) (n : Fin 16) (d : Fin 128) :
    val_main_v281 (F := Ideal) a.x a.endW a.endB (ix4 b l n d) = a.proj b n l d := by
  unfold val_main_v281 val_main_v280 val_main_v279 val_main_v278 val_main_v277 Args.proj
  pointwise

/-- The reference's result at an index. -/
theorem result_at (ia ib : Fin 16 → Fin 4) (hab : ∀ b, ia b ≠ ib b) (ha : ∀ b, (a.idx (ix2 b (0 : Fin 128))).toNat = (ia b).val)
    (hb : ∀ b, (a.idx (ix2 b (1 : Fin 128))).toNat = (ib b).val) (b : Fin 16) (l : Fin 192) (n : Fin 16) (d : Fin 128) :
    val_main_v282 (F := Ideal) a.idx a.gate a.x a.wq a.wk a.wv a.wo a.w1 a.b1 a.w2 a.b2 a.endW a.endB (ix4 b l n d)
      = a.answer ia ib b l n d := by
  have hw : ∀ b : Fin 16, (a.idx (ix2 b (0 : Fin 128))).toNat < 4 ∧ (a.idx (ix2 b (1 : Fin 128))).toNat < 4 := fun b =>
    ⟨by rw [ha b]; exact (ia b).isLt, by rw [hb b]; exact (ib b).isLt⟩
  obtain ⟨h1, h2, h3⟩ := Gates.gate_at a b (ia b) (ib b) (hab b) hw (ha b) (hb b)
  unfold val_main_v282
  pointwise
  rw [sum_3, end_at, gateSum_eq _ _ (ia b) (ib b) (hab b) _ _ h1 h2 h3]
  rfl

end Cert.Moe.Ref

end
-- ==== Proof.TopRounds.lean ====
/-
  Repeated first maxima and sorting: the greatest entry, taken repeatedly with its first position removed each time, walks the
  stably sorted positions.
-/
module

public import Idealize.ShloMosaic.Lib.SortPrefix
public import Idealize.ShloMosaic.Lib.Pointwise
public import Idealize.ShloMosaic.PureOps.Ideal

@[expose] public section

noncomputable section

namespace Cert.Moe

open Idealize.ShloMosaic

/-- The stable sort looks at a pair only with the later position first. -/
theorem stableSort_congr_lt {n : ℕ} (R R' : Fin n → Fin n → Bool) (h : ∀ a b : Fin n, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    refine insertBefore_congr R R' a _ fun b hb => h a b (hl.1 b ?_)
    exact (perm_stableSort R' l).mem_iff.1 hb

/-- The sorted positions when every pair agrees with the later position first. -/
theorem sortedFrom_congr_lt {n : ℕ} (R R' : Fin n → Fin n → Bool) (h : ∀ a b : Fin n, a < b → R b a = R' b a) :
    sortedFrom R = sortedFrom R' := by
  have hp : sortPositions n R = sortPositions n R' := stableSort_congr_lt R R' h _ (List.pairwise_lt_finRange n)
  funext k
  unfold sortedFrom
  rw [List.get_of_eq hp]
  rfl

/-- Position `i` of the keys sorted from the greatest, equal keys in order of position. -/
def ranked {n : ℕ} (key : Fin n → EReal) (i : Fin n) : Fin n := sortedFrom (fun k k' => decide (key k' < key k)) i

/-- Two positions of the order: the greater key first, or equal keys and the smaller position first. -/
theorem ranked_order {n : ℕ} (key : Fin n → EReal) (i j : Fin n) (hij : i < j) :
    key (ranked key j) < key (ranked key i) ∨ (key (ranked key i) = key (ranked key j) ∧ ranked key i < ranked key j) := by
  classical
  have hB := StrictTotalBefore.of_key_then_position (fun a b : EReal => decide (b < a)) key (fun a => by simp)
    (fun a b c h1 h2 => by simp only [decide_eq_true_eq] at *; exact lt_trans h2 h1)
    (fun a b => by
      simp only [decide_eq_true_eq]
      rcases lt_trichotomy a b with h | h | h
      · exact Or.inr (Or.inr h)
      · exact Or.inr (Or.inl h)
      · exact Or.inl h)
  have heq : ranked key = sortedFrom fun k k' : Fin n => decide (key k' < key k) || (decide (key k = key k') && decide (k < k')) :=
    sortedFrom_congr_lt _ _ fun a b hab => by
      have : decide (b < a) = false := by simp [hab.le]
      rw [this, Bool.and_false, Bool.or_false]
  have hno := sortedFrom_noInversion _ _ (fun a b h => hB.asymm a b h) (fun _ _ h => h) hB.negTrans i j hij
  have hne : ranked key i ≠ ranked key j := fun e => hij.ne (sortedFrom_injective _ e)
  rw [heq] at hne ⊢
  rcases hB.total _ _ hne with h | h
  · simpa only [Bool.or_eq_true, Bool.and_eq_true, decide_eq_true_eq] using h
  · rw [hno] at h
    exact absurd h (by decide)

theorem ranked_surjective {n : ℕ} (key : Fin n → EReal) : Function.Surjective (ranked key) := sortedFrom_surjective _
theorem ranked_injective {n : ℕ} (key : Fin n → EReal) : Function.Injective (ranked key) := sortedFrom_injective _

/-- The lanes where a row of 128 takes its greatest value. -/
def tops (a : Fin 128 → EReal) : Finset (Fin 128) := Finset.univ.filter fun l => ∀ k, a k ≤ a l

theorem tops_nonempty (a : Fin 128 → EReal) : (tops a).Nonempty := by
  obtain ⟨l, hl⟩ := Finite.exists_max a
  exact ⟨l, Finset.mem_filter.2 ⟨Finset.mem_univ _, hl⟩⟩

/-- The first lane where a row takes its greatest value. -/
def pick (a : Fin 128 → EReal) : Fin 128 := (tops a).min' (tops_nonempty a)

theorem pick_max (a : Fin 128 → EReal) (k : Fin 128) : a k ≤ a (pick a) :=
  (Finset.mem_filter.1 ((tops a).min'_mem (tops_nonempty a))).2 k

theorem pick_first (a : Fin 128 → EReal) (l : Fin 128) (h : a l = a (pick a)) : pick a ≤ l :=
  (tops a).min'_le l (Finset.mem_filter.2 ⟨Finset.mem_univ _, fun k => h ▸ pick_max a k⟩)

theorem pick_unique (a : Fin 128 → EReal) (p : Fin 128) (h : ∀ l, a l ≤ a p) (hf : ∀ l, l < p → a l < a p) : pick a = p := by
  refine le_antisymm (pick_first a p (le_antisymm (pick_max a p) (h _))) ?_
  by_contra hlt
  exact absurd (pick_max a p) (not_le.2 (hf _ (not_le.1 hlt)))

/-- With the first `i` of the order pushed below every key, the first maximum is the order's position `i`. -/
theorem pick_ranked {n : ℕ} (hn : n ≤ 128) (key : Fin n → EReal) (lo : EReal) (hlo : ∀ f, lo < key f) (i : Fin n) (a : Fin 128 → EReal)
    (h1 : ∀ l : Fin 128, (∀ j : Fin n, i ≤ j → l ≠ (ranked key j).castLE hn) → a l ≤ lo)
    (h2 : ∀ j : Fin n, i ≤ j → a ((ranked key j).castLE hn) = key (ranked key j)) : pick a = (ranked key i).castLE hn := by
  have hcase : ∀ l : Fin 128, a l ≤ lo ∨ ∃ j : Fin n, i ≤ j ∧ l = (ranked key j).castLE hn := by
    intro l
    by_cases h : ∃ j : Fin n, i ≤ j ∧ l = (ranked key j).castLE hn
    · exact Or.inr h
    · exact Or.inl (h1 l fun j hj he => h ⟨j, hj, he⟩)
  refine pick_unique a _ (fun l => ?_) fun l hl => ?_
  · rw [h2 i le_rfl]
    rcases hcase l with h | ⟨j, hj, rfl⟩
    · exact h.trans (hlo _).le
    · rw [h2 j hj]
      rcases hj.lt_or_eq with hj | rfl
      · rcases ranked_order key i j hj with h | h
        · exact h.le
        · exact h.1.ge
      · exact le_rfl
  · rw [h2 i le_rfl]
    rcases hcase l with h | ⟨j, hj, rfl⟩
    · exact h.trans_lt (hlo _)
    · rw [h2 j hj]
      rcases hj.lt_or_eq with hj | rfl
      · rcases ranked_order key i j hj with h | h
        · exact h
        · exact absurd h.2 (not_lt.2 (le_of_lt hl))
      · exact absurd hl (lt_irrefl _)

/-- A row with one lane overwritten. -/
def strike (a : Fin 128 → EReal) (p : Fin 128) (d : EReal) : Fin 128 → EReal := fun l => if l = p then d else a l

section
variable {n : ℕ} (hn : n ≤ 128) (key : Fin n → EReal) (lo d : EReal) (hlo : ∀ f, lo < key f) (hd : d ≤ lo) (a : Fin 128 → EReal)
  (hpad : ∀ l : Fin 128, n ≤ l.val → a l ≤ lo) (hkey : ∀ f : Fin n, a (f.castLE hn) = key f)
include hlo hpad hkey

/-- The first round. -/
theorem round0 (h0 : 0 < n) : pick a = (ranked key ⟨0, h0⟩).castLE hn := by
  refine pick_ranked hn key lo hlo _ a (fun l h => hpad l ?_) fun j _ => hkey _
  by_contra hl
  obtain ⟨j, hj⟩ := ranked_surjective key ⟨l.val, not_le.1 hl⟩
  exact h j (Fin.mk_le_of_le_val (Nat.zero_le _)) (by rw [hj]; rfl)

include hd
/-- The second. -/
theorem round1 (h1 : 1 < n) : pick (strike a (pick a) d) = (ranked key ⟨1, h1⟩).castLE hn := by
  have e0 := round0 hn key lo hlo a hpad hkey (by omega)
  refine pick_ranked hn key lo hlo _ _ (fun l h => ?_) fun j hj => ?_
  · unfold strike
    split
    · exact hd
    · next hne =>
      refine hpad l ?_
      by_contra hl
      obtain ⟨j, hj⟩ := ranked_surjective key ⟨l.val, not_le.1 hl⟩
      rcases Nat.eq_zero_or_pos j.val with hz | hz
      · refine hne ?_
        rw [e0, show (⟨0, by omega⟩ : Fin n) = j from Fin.ext hz.symm, hj]
        rfl
      · exact h j (Fin.mk_le_of_le_val hz) (by rw [hj]; rfl)
  · unfold strike
    rw [if_neg, hkey]
    rw [e0]
    intro he
    have := ranked_injective key (Fin.castLE_injective hn he)
    rw [this] at hj
    exact absurd (Fin.le_def.1 hj) (by simp)

/-- The third. -/
theorem round2 (h2 : 2 < n) : pick (strike (strike a (pick a) d) (pick (strike a (pick a) d)) d) = (ranked key ⟨2, h2⟩).castLE hn := by
  have e0 := round0 hn key lo hlo a hpad hkey (by omega)
  have e1 := round1 hn key lo d hlo hd a hpad hkey (by omega)
  rw [e1, e0]
  refine pick_ranked hn key lo hlo _ _ (fun l h => ?_) fun j hj => ?_
  · unfold strike
    split
    · exact hd
    · next hne1 =>
      split
      · exact hd
      · next hne0 =>
        refine hpad l ?_
        by_contra hl
        obtain ⟨j, hj⟩ := ranked_surjective key ⟨l.val, not_le.1 hl⟩
        rcases Nat.lt_or_ge j.val 2 with hz | hz
        · rcases Nat.eq_zero_or_pos j.val with hz0 | hz0
          · refine hne0 ?_
            rw [show (⟨0, by omega⟩ : Fin n) = j from Fin.ext hz0.symm, hj]
            rfl
          · refine hne1 ?_
            rw [show (⟨1, by omega⟩ : Fin n) = j from Fin.ext (by show 1 = j.val; omega), hj]
            rfl
        · exact h j (Fin.mk_le_of_le_val hz) (by rw [hj]; rfl)
  · have hj2 : 2 ≤ j.val := Fin.le_def.1 hj
    unfold strike
    rw [if_neg, if_neg, hkey]
    · intro he
      have := congrArg Fin.val (ranked_injective key (Fin.castLE_injective hn he))
      simp at this
      omega
    · intro he
      have := congrArg Fin.val (ranked_injective key (Fin.castLE_injective hn he))
      simp at this
      omega
end

/-- A minimum of words folded over lanes is one of them or the start, and below each. -/
theorem fold_minsi {ι : Type} [DecidableEq ι] (s : Finset ι) (b : BitVec 32) (f : ι → BitVec 32) :
    (s.fold IntOp.minsi b f = b ∨ ∃ k ∈ s, s.fold IntOp.minsi b f = f k) ∧ (s.fold IntOp.minsi b f).toInt ≤ b.toInt
      ∧ ∀ k ∈ s, (s.fold IntOp.minsi b f).toInt ≤ (f k).toInt := by
  have hm : ∀ x y : BitVec 32, (IntOp.minsi x y = x ∧ x.toInt ≤ y.toInt) ∨ (IntOp.minsi x y = y ∧ y.toInt ≤ x.toInt) := by
    intro x y
    unfold IntOp.minsi
    cases hs : x.slt y
    · right
      simp only [BitVec.slt, decide_eq_false_iff_not] at hs
      exact ⟨by simp, by omega⟩
    · left
      simp only [BitVec.slt, decide_eq_true_eq] at hs
      exact ⟨by simp, by omega⟩
  induction s using Finset.induction_on with
  | empty => simp
  | insert x s hx ih =>
    rw [Finset.fold_insert hx]
    obtain ⟨i1, i2, i3⟩ := ih
    rcases hm (f x) (s.fold IntOp.minsi b f) with ⟨h, hle⟩ | ⟨h, hle⟩
    · rw [h]
      refine ⟨Or.inr ⟨x, Finset.mem_insert_self _ _, rfl⟩, hle.trans i2, fun k hk => ?_⟩
      rcases Finset.mem_insert.1 hk with rfl | hk
      · exact le_rfl
      · exact hle.trans (i3 k hk)
    · rw [h]
      refine ⟨?_, i2, fun k hk => ?_⟩
      · rcases i1 with i1 | ⟨k, hk, i1⟩
        · exact Or.inl i1
        · exact Or.inr ⟨k, Finset.mem_insert_of_mem hk, i1⟩
      · rcases Finset.mem_insert.1 hk with rfl | hk
        · exact hle
        · exact i3 k hk

theorem lane_toInt (k : Fin 128) : (BitVec.ofNat 32 k.val).toInt = k.val := by
  have := k.isLt
  rw [BitVec.toInt_eq_toNat_cond, BitVec.toNat_ofNat]
  omega

/-- The least lane among those holding the greatest value, every other lane counted as 128. -/
theorem fold_first (a : Fin 128 → EReal) (f : Fin 128 → BitVec 32)
    (hf : ∀ k, f k = if a k = a (pick a) then BitVec.ofNat 32 k.val else 128#32) :
    (Finset.univ : Finset (Fin 128)).fold IntOp.minsi 2147483647#32 f = BitVec.ofNat 32 (pick a).val := by
  obtain ⟨h1, h2, h3⟩ := fold_minsi (Finset.univ : Finset (Fin 128)) 2147483647#32 f
  have hp := h3 (pick a) (Finset.mem_univ _)
  rw [hf (pick a), if_pos rfl, lane_toInt] at hp
  have hlt := (pick a).isLt
  rcases h1 with h | ⟨k, _, h⟩
  · rw [h] at hp
    exact absurd hp (by rw [show (2147483647#32 : BitVec 32).toInt = 2147483647 from rfl]; omega)
  · rw [h, hf k] at hp ⊢
    split at hp
    · next he =>
      rw [if_pos he]
      rw [lane_toInt] at hp
      have := Fin.le_def.1 (pick_first a k he)
      rw [show k.val = (pick a).val by omega]
    · exact absurd hp (by rw [show (128#32 : BitVec 32).toInt = 128 from rfl]; omega)

/-- The greatest value of a row, folded. -/
theorem fold_top (a : Fin 128 → EReal) : (Finset.univ : Finset (Fin 128)).fold max ⊥ a = a (pick a) := by
  refine le_antisymm ?_ ?_
  · exact Finset.fold_max_le _ |>.2 ⟨bot_le, fun k _ => pick_max a k⟩
  · exact Finset.le_fold_max _ |>.2 (Or.inr ⟨pick a, Finset.mem_univ _, le_rfl⟩)

end Cert.Moe

end
-- ==== Proof.ChoiceRound.lean ====
/-
  One round of the gate kernel's selection: a row's greatest value, the first lane that holds it, and the lanes equal to it.
-/
module

public import proofs.«01_k».proof.Proof.TopRounds
public import proofs.«01_k».proof.Proof.Gen.GateIdeal.Skeleton
public import Idealize.ShloMosaic.Lib.Pointwise
public import Idealize.ShloMosaic.Lib.Pipeline.Value
public import Idealize.ShloMosaic.Lib.IdealHost

@[expose] public section

noncomputable section

namespace Cert.Moe.Choice

open Idealize.ShloMosaic Idealize.ShloMosaic.Pointwise Cert.GateIdeal Cert.GateIdeal.Gen

/-- The word of `-∞`. -/
theorem bits_neg_inf : Ideal.ofBits .f32 0xFF800000#32 = ⊥ := by
  simp [Ideal.ofBits, Ideal.ieee]

/-- Two lanes compared as words. -/
theorem lane_eq (l p : Fin 128) : IntOp.cmpi .eq (BitVec.ofNat 32 l.val) (BitVec.ofNat 32 p.val) = BitVec.ofBool (decide (l = p)) := by
  have hl := l.isLt
  have hp := p.isLt
  have : (BitVec.ofNat 32 l.val == BitVec.ofNat 32 p.val) = decide (l = p) := by
    rw [Bool.eq_iff_iff, beq_iff_eq, decide_eq_true_eq, ← BitVec.toNat_inj, BitVec.toNat_ofNat, BitVec.toNat_ofNat, Fin.ext_iff]
    omega
  rw [← this]
  rfl

/-- A lane below a bound, compared as words. -/
theorem lane_lt (l : Fin 128) (n : ℕ) (hn : n < 128) : IntOp.cmpi .slt (BitVec.ofNat 32 l.val) (BitVec.ofNat 32 n) = BitVec.ofBool (decide (l.val < n)) := by
  have hl := l.isLt
  have h2 : (BitVec.ofNat 32 n).toInt = n := lane_toInt ⟨n, hn⟩
  have : (BitVec.ofNat 32 l.val).slt (BitVec.ofNat 32 n) = decide (l.val < n) := by
    unfold BitVec.slt
    rw [lane_toInt l, h2]
    simp
  rw [← this]
  rfl

/-- A choice by a decided bit. -/
theorem sel_bool {α : Type} (c : Prop) [Decidable c] (x y : α) : Scalar.select (BitVec.ofBool (decide c)) x y = if c then x else y := by
  by_cases h : c <;> simp [h, Scalar.select]

/-- The lanes of 256 rows that hold the row's greatest value. -/
abbrev eqMax256 (v : FVec Ideal S256x128 .f32) : IVec S256x128 1 :=
  cmpf .oeq v (broadcastTo S256x128 (shapeCast S256x1 (multiReduction .maximumf [1] S256 v 0xFF800000#32 reduces_S256x128_S256 (.inl rfl) rfl) shapeCasts_S256_S256x1) broadcasts_S256x1_S256x128)
/-- The lanes. -/
abbrev lanes256 : IVec S256x128 32 := iota .tc S256x128 32 [1] iota_S256x128_d1_w32
/-- The first of them, by rows. -/
abbrev firstOf256 (e : IVec S256x128 1) (w : BitVec 32) : IVec S256 32 :=
  multiReductionI .minsi [1] S256 (select e lanes256 (broadcast S256x128 w)) 2147483647#32 reduces_S256x128_S256 rfl
/-- The lane equal to the first. -/
abbrev at256 (i : IVec S256 32) : IVec S256x128 1 :=
  cmpi .eq lanes256 (broadcastTo S256x128 (shapeCast S256x1 i shapeCasts_S256_S256x1) broadcasts_S256x1_S256x128)

/-- The greatest value of a row. -/
theorem top256_at (v : FVec Ideal S256x128 .f32) (r : Fin 256) :
    multiReduction .maximumf [1] S256 v 0xFF800000#32 reduces_S256x128_S256 (.inl rfl) rfl (ix1 r) = v (ix2 r (pick fun k => v (ix2 r k))) := by
  pointwise
  rw [bits_neg_inf]
  exact fold_top fun k => v (ix2 r k)

theorem firstOf256_at (v : FVec Ideal S256x128 .f32) (r : Fin 256) :
    firstOf256 (eqMax256 v) 128#32 (ix1 r) = BitVec.ofNat 32 (pick fun k => v (ix2 r k)).val := by
  unfold firstOf256 eqMax256 lanes256
  pointwise
  rw [bits_neg_inf, fold_top fun k => v (ix2 r k)]
  exact fold_first _ _ fun k => rfl

theorem at256_at (i : IVec S256 32) (r : Fin 256) (l : Fin 128) (p : Fin 128) (hi : i (ix1 r) = BitVec.ofNat 32 p.val) :
    at256 i (ix2 r l) = BitVec.ofBool (decide (l = p)) := by
  unfold at256 lanes256
  pointwise
  rw [hi]
  exact lane_eq l p

/-- The lane of the first greatest value. -/
theorem first256_at (v : FVec Ideal S256x128 .f32) (r : Fin 256) (l : Fin 128) :
    at256 (firstOf256 (eqMax256 v) 128#32) (ix2 r l) = BitVec.ofBool (decide (l = pick fun k => v (ix2 r k))) :=
  at256_at _ r l _ (firstOf256_at v r)

/-- The lanes of 16 rows that hold the row's greatest value. -/
abbrev eqMax16 (v : FVec Ideal S16x128 .f32) : IVec S16x128 1 :=
  cmpf .oeq v (broadcastTo S16x128 (shapeCast S16x1 (multiReduction .maximumf [1] S16 v 0xFF800000#32 reduces_S16x128_S16 (.inl rfl) rfl) shapeCasts_S16_S16x1) broadcasts_S16x1_S16x128)
/-- The lanes. -/
abbrev lanes16 : IVec S16x128 32 := iota .tc S16x128 32 [1] iota_S16x128_d1_w32
/-- The first of them, by rows. -/
abbrev firstOf16 (e : IVec S16x128 1) (w : BitVec 32) : IVec S16 32 :=
  multiReductionI .minsi [1] S16 (select e lanes16 (broadcast S16x128 w)) 2147483647#32 reduces_S16x128_S16 rfl
/-- The lane equal to the first. -/
abbrev at16 (i : IVec S16 32) : IVec S16x128 1 :=
  cmpi .eq lanes16 (broadcastTo S16x128 (shapeCast S16x1 i shapeCasts_S16_S16x1) broadcasts_S16x1_S16x128)

/-- The greatest value of a row. -/
theorem top16_at (v : FVec Ideal S16x128 .f32) (r : Fin 16) :
    multiReduction .maximumf [1] S16 v 0xFF800000#32 reduces_S16x128_S16 (.inl rfl) rfl (ix1 r) = v (ix2 r (pick fun k => v (ix2 r k))) := by
  pointwise
  rw [bits_neg_inf]
  exact fold_top fun k => v (ix2 r k)

theorem firstOf16_at (v : FVec Ideal S16x128 .f32) (r : Fin 16) :
    firstOf16 (eqMax16 v) 128#32 (ix1 r) = BitVec.ofNat 32 (pick fun k => v (ix2 r k)).val := by
  unfold firstOf16 eqMax16 lanes16
  pointwise
  rw [bits_neg_inf, fold_top fun k => v (ix2 r k)]
  exact fold_first _ _ fun k => rfl

theorem at16_at (i : IVec S16 32) (r : Fin 16) (l : Fin 128) (p : Fin 128) (hi : i (ix1 r) = BitVec.ofNat 32 p.val) :
    at16 i (ix2 r l) = BitVec.ofBool (decide (l = p)) := by
  unfold at16 lanes16
  pointwise
  rw [hi]
  exact lane_eq l p

/-- The lane of the first greatest value. -/
theorem first16_at (v : FVec Ideal S16x128 .f32) (r : Fin 16) (l : Fin 128) :
    at16 (firstOf16 (eqMax16 v) 128#32) (ix2 r l) = BitVec.ofBool (decide (l = pick fun k => v (ix2 r k))) :=
  at16_at _ r l _ (firstOf16_at v r)

theorem bits_one : Ideal.ofBits .f32 0x3F800000#32 = 1 := by
  rw [show (1 : EReal) = ((1 : ℝ) : EReal) by norm_cast]
  simp [Ideal.ofBits, Ideal.ieee, -EReal.coe_mul]; norm_num
theorem bits_zero : Ideal.ofBits .f32 0x00000000#32 = 0 := by
  simp [Ideal.ofBits, Ideal.ieee]
theorem bits_neg_one : Ideal.ofBits .f32 0xBF800000#32 = ((-1 : ℝ) : EReal) := by
  simp [Ideal.ofBits, Ideal.ieee, -EReal.coe_mul, -EReal.coe_neg]; norm_num
theorem bits_neg_two : Ideal.ofBits .f32 0xC0000000#32 = ((-2 : ℝ) : EReal) := by
  simp [Ideal.ofBits, Ideal.ieee, -EReal.coe_mul, -EReal.coe_neg]; norm_num

end Cert.Moe.Choice

end
-- ==== Proof.ChoiceRows.lean ====
/-
  The gate kernel's rows read at an index: the moving average, the transform and its three kept frequencies, the sum of the parts.
-/
module

public import proofs.«01_k».proof.Proof.ChoiceRound

@[expose] public section

noncomputable section

namespace Cert.Moe.Choice

open Idealize.ShloMosaic Idealize.ShloMosaic.Pointwise Cert.GateIdeal Cert.GateIdeal.Gen

/-- A row of a product with a table. -/
def times {m n : ℕ} (x : Fin m → EReal) (t : Fin m → Fin n → EReal) (j : Fin n) : EReal := ∑ l, x l * t l j

/-- The amplitudes in 128 lanes, the lanes past the frequencies holding `-1`. -/
def ampRow (re im : Fin 128 → EReal) (f : Fin 128) : EReal :=
  if f.val < 97 then Ideal.sqrt (re f * re f + im f * im f) else ((-1 : ℝ) : EReal)

variable (v0 : Vec Ideal S256x192 .f32) (v2 : Vec Ideal S192x192 .f32) (v5 v8 : Vec Ideal S192x128 .f32) (v62 v66 : Vec Ideal S128x192 .f32)

theorem pay3_at (r : Fin 256) (l : Fin 192) : k0_pay3 v0 (ix2 r l) = v0 (ix2 r l) := by
  unfold k0_pay3
  pointwise
theorem pay4_at (r : Fin 256) (l : Fin 192) : k0_pay4 v0 v2 (ix2 r l) = times (fun j => v0 (ix2 r j)) (fun j l => v2 (ix2 j l)) l := by
  unfold k0_pay4 k0_pay3 times
  pointwise
theorem pay5_at (r : Fin 256) (f : Fin 128) : k0_pay5 v0 v5 (ix2 r f) = times (fun j => v0 (ix2 r j)) (fun j l => v5 (ix2 j l)) f := by
  unfold k0_pay5 k0_pay3 times
  pointwise
theorem pay6_at (r : Fin 256) (f : Fin 128) : k0_pay6 v0 v8 (ix2 r f) = times (fun j => v0 (ix2 r j)) (fun j l => v8 (ix2 j l)) f := by
  unfold k0_pay6 k0_pay3 times
  pointwise
theorem pay7_at (r : Fin 256) (f : Fin 128) : k0_pay7 v0 v5 v8 (ix2 r f) = ampRow (fun f => k0_pay5 v0 v5 (ix2 r f)) (fun f => k0_pay6 v0 v8 (ix2 r f)) f := by
  unfold k0_pay7 ampRow
  generalize k0_pay5 v0 v5 = a
  generalize k0_pay6 v0 v8 = b
  pointwise
  rw [lane_lt f 97 (by decide), sel_bool, bits_neg_one]

theorem pay8_at (r : Fin 256) (f : Fin 128) :
    k0_pay8 v0 v5 v8 (ix2 r f) = BitVec.ofBool (decide (f = pick fun k => k0_pay7 v0 v5 v8 (ix2 r k))) :=
  first256_at (k0_pay7 v0 v5 v8) r f

theorem pay9_at (r : Fin 256) (f : Fin 128) :
    k0_pay9 v0 v5 v8 (ix2 r f) = if f = pick (fun k => k0_pay7 v0 v5 v8 (ix2 r k)) then 1 else 0 := by
  unfold k0_pay9
  show Scalar.select (k0_pay8 v0 v5 v8 (ix2 r f)) (Ideal.ofBits .f32 0x3F800000#32) (Ideal.ofBits .f32 0x00000000#32) = _
  rw [pay8_at, sel_bool, bits_one, bits_zero]

theorem pay10_at (r : Fin 256) (f : Fin 128) :
    k0_pay10 v0 v5 v8 (ix2 r f) = strike (fun k => k0_pay7 v0 v5 v8 (ix2 r k)) (pick fun k => k0_pay7 v0 v5 v8 (ix2 r k)) ((-2 : ℝ) : EReal) f := by
  unfold k0_pay10
  show Scalar.select (k0_pay8 v0 v5 v8 (ix2 r f)) (Ideal.ofBits .f32 0xC0000000#32) (k0_pay7 v0 v5 v8 (ix2 r f)) = _
  rw [pay8_at, sel_bool, bits_neg_two]
  rfl

/-- The rows with the kept frequencies transformed back. -/
theorem pay12_at (v1 v4 : FVec Ideal S256x192 .f32) (v7 v10 v32 v34 : FVec Ideal S256x128 .f32) (r : Fin 256) (l : Fin 192)
    (a : Fin 128 → EReal) (ha : ∀ k, v34 (ix2 r k) = a k) :
    k0_pay12 v1 v4 v7 v10 lanes256 v32 v34 (eqMax256 v34) 128#32 v62 v66 (ix2 r l)
      = (v1 (ix2 r l) + v4 (ix2 r l))
        + (∑ f : Fin 128, v7 (ix2 r f) * (if f = pick (strike a (pick a) ((-2 : ℝ) : EReal)) then 1 else if f = pick a then 1 else v32 (ix2 r f)) * v62 (ix2 f l)
          + ∑ f : Fin 128, v10 (ix2 r f) * (if f = pick (strike a (pick a) ((-2 : ℝ) : EReal)) then 1 else if f = pick a then 1 else v32 (ix2 r f)) * v66 (ix2 f l)) := by
  obtain rfl : (fun k => v34 (ix2 r k)) = a := funext ha
  have e1 : ∀ f, at256 (firstOf256 (eqMax256 v34) 128#32) (ix2 r f) = _ := first256_at v34 r
  generalize hs : at256 (firstOf256 (eqMax256 v34) 128#32) = s at e1
  have h48 : ∀ f, select s (broadcast S256x128 (Ideal.ofBits .f32 0xC0000000#32)) v34 (ix2 r f)
      = strike (fun k => v34 (ix2 r k)) (pick fun k => v34 (ix2 r k)) ((-2 : ℝ) : EReal) f := fun f => by
    show Scalar.select (s (ix2 r f)) _ _ = _
    rw [e1, sel_bool, bits_neg_two]
    rfl
  generalize hw : select s (broadcast S256x128 (Ideal.ofBits .f32 0xC0000000#32)) v34 = w at h48
  have e2 : ∀ f, at256 (firstOf256 (eqMax256 w) 128#32) (ix2 r f) = _ := first256_at w r
  simp only [h48] at e2
  generalize ht : at256 (firstOf256 (eqMax256 w) 128#32) = t at e2
  have hm : ∀ f, select t (broadcast S256x128 (Ideal.ofBits .f32 0x3F800000#32)) (select s (broadcast S256x128 (Ideal.ofBits .f32 0x3F800000#32)) v32) (ix2 r f)
      = if f = pick (strike (fun k => v34 (ix2 r k)) (pick fun k => v34 (ix2 r k)) ((-2 : ℝ) : EReal)) then 1 else if f = (pick fun k => v34 (ix2 r k)) then 1 else v32 (ix2 r f) := fun f => by
    show Scalar.select (t (ix2 r f)) _ (Scalar.select (s (ix2 r f)) _ _) = _
    rw [e1, e2, sel_bool, sel_bool, bits_one]
    rfl
  simp only [← hm]
  generalize hM : select t (broadcast S256x128 (Ideal.ofBits .f32 0x3F800000#32)) (select s (broadcast S256x128 (Ideal.ofBits .f32 0x3F800000#32)) v32) = M
  have hk : k0_pay12 (F := Ideal) v1 v4 v7 v10 lanes256 v32 v34 (eqMax256 v34) 128#32 v62 v66
      = (addf (addf v1 v4) (addf (matmul dot_S256x128_S128x192_S256x192_1_0_0_1_n_n none (mulf v7 M : FVec Ideal S256x128 .f32) (shapeCast S128x192 v62 shapeCasts_S128x192_S128x192 : FVec Ideal S128x192 .f32) (constant (F := Ideal) S256x192 .f32 0x00000000#32))
          (matmul dot_S256x128_S128x192_S256x192_1_0_0_1_n_n none (mulf v10 M : FVec Ideal S256x128 .f32) (shapeCast S128x192 v66 shapeCasts_S128x192_S128x192 : FVec Ideal S128x192 .f32) (constant (F := Ideal) S256x192 .f32 0x00000000#32))) : FVec Ideal S256x192 .f32) := by
    subst hM ht hw hs
    rfl
  rw [hk]
  pointwise

end Cert.Moe.Choice

end
-- ==== Proof.ChoiceLogits.lean ====
/-
  The gate kernel's logits read at an index: the series mixed within each batch, the bias, the gate matrix, the lanes past the experts
  masked; then its two greatest lanes.
-/
module

public import proofs.«01_k».proof.Proof.ChoiceRound

@[expose] public section

noncomputable section

namespace Cert.Moe.Choice

open Idealize.ShloMosaic Idealize.ShloMosaic.Pointwise Cert.GateIdeal Cert.GateIdeal.Gen

/-- The batch of a row, as the kernel divides it. -/
theorem batch_of (b : Fin 16) (q : Fin 256) :
    IntOp.cmpi .eq (BitVec.ofNat 32 b.val) (BitVec.ofNat 32 (q.val / 16)) = BitVec.ofBool (decide (q.val / 16 = b.val)) := by
  have h := lane_eq ⟨b.val, by omega⟩ ⟨q.val / 16, by omega⟩
  rw [h]
  congr 1
  simp only [Fin.mk.injEq]
  exact decide_eq_decide.2 eq_comm

/-- The kernel's floor division of a row by the batch's extent. -/
theorem row_div (q : Fin 256) :
    Scalar.select (IntOp.andi (IntOp.cmpi CmpIPredicate.ne
        (IntOp.subi (BitVec.setWidth 32 (IntOp.cmpi CmpIPredicate.sgt (BitVec.ofNat 32 q.val) 0#32)) (BitVec.setWidth 32 (IntOp.cmpi CmpIPredicate.slt (BitVec.ofNat 32 q.val) 0#32)))
        (Scalar.subi (Scalar.extui (Scalar.cmpi CmpIPredicate.sgt 16#32 0#32)) (Scalar.extui (Scalar.cmpi CmpIPredicate.slt 16#32 0#32))))
      (IntOp.cmpi CmpIPredicate.ne (IntOp.remsi ArithUnit.vector (BitVec.ofNat 32 q.val) 16#32) 0#32))
      (IntOp.subi (IntOp.divsi ArithUnit.vector (BitVec.ofNat 32 q.val) 16#32) 1#32)
      (IntOp.divsi ArithUnit.vector (BitVec.ofNat 32 q.val) 16#32) = BitVec.ofNat 32 (q.val / 16) := by
  revert q
  decide +kernel

/-- The mask's value. -/
theorem mask_bot : (Named.named (F := Ideal) κ "mask" (φ := .f32) 0xF149F2CA#32 : EReal) = ⊥ := rfl

/-- The mixed series of a batch at a step. -/
def mixed (w : Fin 256 → EReal) (y : Fin 256 → Fin 192 → EReal) (s : EReal) (b : Fin 16) (l : Fin 192) : EReal :=
  (∑ q : Fin 256, if q.val / 16 = b.val then w q * y q l else 0) + s

/-- The logits in 128 lanes. -/
def logitRow (w : Fin 256 → EReal) (y : Fin 256 → Fin 192 → EReal) (s : EReal) (g : Fin 192 → Fin 128 → EReal) (b : Fin 16) (e : Fin 128) : EReal :=
  if e.val < 4 then ∑ l : Fin 192, mixed w y s b l * g l e else ⊥

theorem pay15_at (v71 : FVec Ideal S256x192 .f32) (v98 : Vec Ideal S1x256 .f32) (v106 : Vec Ideal S1x1 .f32) (v110 : Vec Ideal S192x128 .f32) (b : Fin 16) (e : Fin 128) :
    k0_pay15 v71 (iota .tc S16x256 32 [0] iota_S16x256_d0_w32) (iota .tc S16x256 32 [1] iota_S16x256_d1_w32) 16#32 k0_pay13 k0_pay14 v98 v106 v110 (ix2 b e)
      = logitRow (fun q => v98 (ix2 (0 : Fin 1) q)) (fun q l => v71 (ix2 q l)) (v106 (ix2 (0 : Fin 1) (0 : Fin 1))) (fun l e => v110 (ix2 l e)) b e := by
  unfold k0_pay15 k0_pay13 k0_pay14 logitRow mixed
  pointwise
  rw [lane_lt e 4 (by decide), sel_bool]
  refine if_congr Iff.rfl (Finset.sum_congr rfl fun l _ => ?_) rfl
  congr 2
  refine Finset.sum_congr rfl fun q _ => ?_
  rw [row_div, batch_of, sel_bool]

end Cert.Moe.Choice

end
-- ==== Proof.ChoiceGates.lean ====
/-
  The gate kernel's gates, loads and loss read at an index, over the logits' rows.
-/
module

public import proofs.«01_k».proof.Proof.ChoiceLogits

@[expose] public section

noncomputable section

namespace Cert.Moe.Choice

open Idealize.ShloMosaic Idealize.ShloMosaic.Pointwise Cert.GateIdeal Cert.GateIdeal.Gen

/-- The first choice of a row of logits, the second, and their gates. -/
def one (a : Fin 128 → EReal) : Fin 128 := pick a
def two (a : Fin 128 → EReal) : Fin 128 := pick (strike a (pick a) ⊥)
def gap (a : Fin 128 → EReal) : EReal := Ideal.exp (strike a (pick a) ⊥ (two a) - a (one a))
def gateOne (a : Fin 128 → EReal) : EReal := Ideal.div 1 (1 + gap a)
def gateTwo (a : Fin 128 → EReal) : EReal := Ideal.div (gap a) (1 + gap a)

theorem sel_or (c d : Prop) [Decidable c] [Decidable d] (x y : EReal) :
    Scalar.select (IntOp.ori (BitVec.ofBool (decide c)) (BitVec.ofBool (decide d))) x y = if c ∨ d then x else y := by
  have e : IntOp.ori (BitVec.ofBool (decide c)) (BitVec.ofBool (decide d)) = BitVec.ofBool (decide (c ∨ d)) := by
    rw [Bool.decide_or]
    generalize decide c = u
    generalize decide d = v
    revert u v
    decide
  rw [e, sel_bool]

/-- The lanes that stand for an expert. -/
def lane (e : Fin 128) : EReal := if e.val < 4 then 1 else 0

/-- The squared coefficient of variation over the expert lanes. -/
def spread (u : Fin 128 → EReal) : EReal :=
  Ideal.div (Ideal.div (∑ e, (u e - Ideal.div (∑ k, u k * lane k) (Ideal.ofBits .f32 0x40800000#32)) * (u e - Ideal.div (∑ k, u k * lane k) (Ideal.ofBits .f32 0x40800000#32)) * lane e)
      (Ideal.ofBits .f32 0x40400000#32))
    (Ideal.div (∑ k, u k * lane k) (Ideal.ofBits .f32 0x40800000#32) * Ideal.div (∑ k, u k * lane k) (Ideal.ofBits .f32 0x40800000#32) + Ideal.ofBits .f32 0x2EDBE6FF#32)

theorem pay17_at (v71 : FVec Ideal S256x192 .f32) (v72 v73 : IVec S16x256 32) (c : BitVec 32) (v75 v82 : IVec S16x256 32) (v98 : Vec Ideal S1x256 .f32) (v106 : Vec Ideal S1x1 .f32) (v110 : Vec Ideal S192x128 .f32) (b : Fin 16) :
    k0_pay17 v71 v72 v73 c v75 v82 v98 v106 v110 (ix1 b) = BitVec.ofNat 32 (one fun e => k0_pay15 v71 v72 v73 c v75 v82 v98 v106 v110 (ix2 b e)).val :=
  firstOf16_at (k0_pay15 v71 v72 v73 c v75 v82 v98 v106 v110) b

theorem pay16_at (v71 : FVec Ideal S256x192 .f32) (v72 v73 : IVec S16x256 32) (c : BitVec 32) (v75 v82 : IVec S16x256 32) (v98 : Vec Ideal S1x256 .f32) (v106 : Vec Ideal S1x1 .f32) (v110 : Vec Ideal S192x128 .f32) (b : Fin 16) :
    k0_pay16 v71 v72 v73 c v75 v82 v98 v106 v110 (ix2 b (0 : Fin 1))
      = (fun e => k0_pay15 v71 v72 v73 c v75 v82 v98 v106 v110 (ix2 b e)) (one fun e => k0_pay15 v71 v72 v73 c v75 v82 v98 v106 v110 (ix2 b e)) := by
  unfold k0_pay16
  generalize k0_pay15 v71 v72 v73 c v75 v82 v98 v106 v110 = v
  refine Eq.trans ?_ (top16_at v b)
  generalize multiReduction .maximumf [1] S16 v 0xFF800000#32 reduces_S16x128_S16 (.inl rfl) rfl = w
  pointwise

variable (v117 : FVec Ideal S16x128 .f32) (v119 : FVec Ideal S16x1 .f32) (v124 : IVec S16 32) (a : Fin 16 → Fin 128 → EReal)
  (ha : ∀ b e, v117 (ix2 b e) = a b e) (hi : ∀ b, v124 (ix1 b) = BitVec.ofNat 32 (one (a b)).val) (hm : ∀ b, v119 (ix2 b (0 : Fin 1)) = a b (one (a b)))
include ha hi

theorem pay19_at (b : Fin 16) (e : Fin 128) : k0_pay19 lanes16 v124 (ix2 b e) = BitVec.ofBool (decide (e = one (a b))) :=
  at16_at v124 b e _ (hi b)

theorem pay20_at (b : Fin 16) (e : Fin 128) : k0_pay20 lanes16 v117 v124 (ix2 b e) = strike (a b) (pick (a b)) ⊥ e := by
  unfold k0_pay20
  show Scalar.select (k0_pay19 lanes16 v124 (ix2 b e)) (Named.named (F := Ideal) κ "mask" (φ := .f32) 0xF149F2CA#32 : EReal) (v117 (ix2 b e)) = _
  rw [pay19_at v117 v124 a ha hi, sel_bool, mask_bot, ha]
  rfl

theorem pay21_at (b : Fin 16) : k0_pay21 lanes16 v117 v124 (ix2 b (0 : Fin 1)) = strike (a b) (pick (a b)) ⊥ (two (a b)) := by
  have h := top16_at (k0_pay20 lanes16 v117 v124) b
  simp only [pay20_at v117 v124 a ha hi] at h
  unfold k0_pay21
  refine Eq.trans ?_ h
  generalize multiReduction .maximumf [1] S16 (k0_pay20 lanes16 v117 v124) 0xFF800000#32 reduces_S16x128_S16 (.inl rfl) rfl = w
  pointwise

theorem second_at (b : Fin 16) : firstOf16 (eqMax16 (k0_pay20 lanes16 v117 v124)) 128#32 (ix1 b) = BitVec.ofNat 32 (two (a b)).val := by
  have h := firstOf16_at (k0_pay20 lanes16 v117 v124) b
  simp only [pay20_at v117 v124 a ha hi] at h
  exact h

theorem pay22_at (b : Fin 16) : k0_pay22 lanes16 v117 v124 (ix2 b (0 : Fin 1)) = BitVec.ofNat 32 (two (a b)).val := by
  have h := second_at v117 v124 a ha hi b
  have e : k0_pay22 lanes16 v117 v124 = shapeCast S16x1 (firstOf16 (eqMax16 (k0_pay20 lanes16 v117 v124)) 128#32) shapeCasts_S16_S16x1 := rfl
  rw [e]
  refine Eq.trans ?_ h
  generalize firstOf16 (eqMax16 (k0_pay20 lanes16 v117 v124)) 128#32 = w
  pointwise

theorem pay23_at (b : Fin 16) (e : Fin 128) : k0_pay23 lanes16 v117 v124 (ix2 b e) = BitVec.ofBool (decide (e = two (a b))) :=
  at16_at (firstOf16 (eqMax16 (k0_pay20 lanes16 v117 v124)) 128#32) b e _ (second_at v117 v124 a ha hi b)

include hm
theorem pay24_at (b : Fin 16) : k0_pay24 lanes16 v117 v119 v124 (ix2 b (0 : Fin 1)) = gap (a b) := by
  unfold k0_pay24
  show Ideal.exp (k0_pay21 lanes16 v117 v124 (ix2 b (0 : Fin 1)) - v119 (ix2 b (0 : Fin 1))) = _
  rw [pay21_at v117 v124 a ha hi, hm]
  rfl
theorem pay25_at (b : Fin 16) : k0_pay25 lanes16 v117 v119 v124 (ix2 b (0 : Fin 1)) = 1 + gap (a b) := by
  unfold k0_pay25
  show Ideal.ofBits .f32 0x3F800000#32 + k0_pay24 lanes16 v117 v119 v124 (ix2 b (0 : Fin 1)) = _
  rw [pay24_at v117 v119 v124 a ha hi hm, bits_one]
theorem pay26_at (b : Fin 16) : k0_pay26 lanes16 v117 v119 v124 (ix2 b (0 : Fin 1)) = gateOne (a b) := by
  unfold k0_pay26
  show Ideal.div (Ideal.ofBits .f32 0x3F800000#32) (k0_pay25 lanes16 v117 v119 v124 (ix2 b (0 : Fin 1))) = _
  rw [pay25_at v117 v119 v124 a ha hi hm, bits_one]
  rfl
theorem pay27_at (b : Fin 16) : k0_pay27 lanes16 v117 v119 v124 (ix2 b (0 : Fin 1)) = gateTwo (a b) := by
  unfold k0_pay27
  show Ideal.div (k0_pay24 lanes16 v117 v119 v124 (ix2 b (0 : Fin 1))) (k0_pay25 lanes16 v117 v119 v124 (ix2 b (0 : Fin 1))) = _
  rw [pay24_at v117 v119 v124 a ha hi hm, pay25_at v117 v119 v124 a ha hi hm]
  rfl

/-- The gates of an expert, summed over the batch. -/
theorem pay29_at (e : Fin 128) : k0_pay29 lanes16 v117 v119 v124 (ix2 (0 : Fin 1) e)
    = ∑ b : Fin 16, ((if e = one (a b) then gateOne (a b) else 0) + if e = two (a b) then gateTwo (a b) else 0) := by
  have e19 := pay19_at v117 v124 a ha hi
  have e23 := pay23_at v117 v124 a ha hi
  have e26 := pay26_at v117 v119 v124 a ha hi hm
  have e27 := pay27_at v117 v119 v124 a ha hi hm
  unfold k0_pay29
  generalize k0_pay19 lanes16 v124 = x19 at e19 ⊢
  generalize k0_pay23 lanes16 v117 v124 = x23 at e23 ⊢
  generalize k0_pay26 lanes16 v117 v119 v124 = x26 at e26 ⊢
  generalize k0_pay27 lanes16 v117 v119 v124 = x27 at e27 ⊢
  pointwise
  simp only [e19, e23, e26, e27, sel_bool]
omit hm

/-- The number of batches that choose an expert. -/
theorem pay30_at (e : Fin 128) : k0_pay30 (F := Ideal) lanes16 v117 v124 (ix2 (0 : Fin 1) e)
    = ∑ b : Fin 16, if e = one (a b) ∨ e = two (a b) then 1 else 0 := by
  have e19 := pay19_at v117 v124 a ha hi
  have e23 := pay23_at v117 v124 a ha hi
  unfold k0_pay30
  generalize k0_pay19 lanes16 v124 = x19 at e19 ⊢
  generalize k0_pay23 lanes16 v117 v124 = x23 at e23 ⊢
  pointwise
  simp only [e19, e23]
  refine Finset.sum_congr rfl fun b _ => ?_
  exact sel_or _ _ _ _
omit ha hi

theorem pay28_at (e : Fin 128) : k0_pay28 (F := Ideal) lanes16 (ix2 (0 : Fin 1) e) = lane e := by
  unfold k0_pay28 lane
  pointwise
  rw [lane_lt e 4 (by norm_num)]
  by_cases h : e.val < 4 <;> simp [h, FloatOps.sitofp]

theorem pay32_at (x160 x162 x168 : FVec Ideal S1x128 .f32) (x170 : FVec Ideal S1x1x128 .f32) (h160 : ∀ e, x160 (ix2 (0 : Fin 1) e) = lane e)
    (h170 : ∀ e, x170 (ix3 (0 : Fin 1) (0 : Fin 1) e) = x162 (ix2 (0 : Fin 1) e) * lane e) (i : Fin 8) (k : Fin 128) :
    k0_pay32 x160 x162 x168 x170 (ix2 i k)
      = Ideal.ofBits .f32 0x3C23D70A#32 * (spread (fun e => x162 (ix2 (0 : Fin 1) e)) + spread (fun e => x168 (ix2 (0 : Fin 1) e))) := by
  unfold k0_pay32 spread
  pointwise
  simp only [Fin.sum_univ_one, h160, h170]

end Cert.Moe.Choice

end
-- ==== Proof.ChoiceBlock.lean ====
/-
  What the gate kernel leaves in its three output blocks, over its input blocks, at an index.
-/
module

public import proofs.«01_k».proof.Proof.ChoiceRows
public import proofs.«01_k».proof.Proof.ChoiceGates
public import proofs.«01_k».proof.Proof.Gen.GateIdeal.Frame
import Idealize.ShloMosaic.Lib.Pipeline.ValueKit

@[expose] public section

noncomputable section

namespace Cert.Moe.Choice

open Idealize.ShloMosaic Idealize.ShloMosaic.Pointwise Cert.GateIdeal Cert.GateIdeal.Gen

/-- The mask of the three greatest amplitudes. -/
def mask3 (a : Fin 128 → EReal) (f : Fin 128) : EReal :=
  if f = pick (strike (strike a (pick a) ((-2 : ℝ) : EReal)) (pick (strike a (pick a) ((-2 : ℝ) : EReal))) ((-2 : ℝ) : EReal)) then 1
  else if f = pick (strike a (pick a) ((-2 : ℝ) : EReal)) then 1 else if f = pick a then 1 else 0

/-- The amplitudes of a series. -/
def ampOf (x : Fin 192 → EReal) (cs sn : Fin 192 → Fin 128 → EReal) : Fin 128 → EReal := ampRow (times x cs) (times x sn)

/-- A series with its trend and its season added. -/
def newRow (x : Fin 192 → EReal) (t : Fin 192 → Fin 192 → EReal) (cs sn : Fin 192 → Fin 128 → EReal) (ci si : Fin 128 → Fin 192 → EReal) (l : Fin 192) : EReal :=
  (x l + times x t l) + (∑ f, times x cs f * mask3 (ampOf x cs sn) f * ci f l + ∑ f, times x sn f * mask3 (ampOf x cs sn) f * si f l)

/-- The contents of the two choices' lanes. -/
def idxLane (a : Fin 128 → EReal) (e : Fin 128) : BitVec 32 :=
  if e.val = 0 then BitVec.ofNat 32 (one a).val else if e.val = 1 then BitVec.ofNat 32 (two a).val else 0#32
def gateLane (a : Fin 128 → EReal) (e : Fin 128) : EReal :=
  if e.val = 0 then gateOne a else if e.val = 1 then gateTwo a else 0
/-- The gates and the number of choices of an expert, over the batch, and the loss. -/
def importance (a : Fin 16 → Fin 128 → EReal) (e : Fin 128) : EReal :=
  ∑ b : Fin 16, ((if e = one (a b) then gateOne (a b) else 0) + if e = two (a b) then gateTwo (a b) else 0)
def load (a : Fin 16 → Fin 128 → EReal) (e : Fin 128) : EReal := ∑ b : Fin 16, if e = one (a b) ∨ e = two (a b) then 1 else 0
def loss (a : Fin 16 → Fin 128 → EReal) : EReal :=
  Ideal.ofBits .f32 0x3C23D70A#32 * (spread (importance a) + spread (load a))

theorem lane_is (e : Fin 128) (n : ℕ) (hn : n < 128) :
    IntOp.cmpi .eq (BitVec.ofNat 32 e.val) (BitVec.ofNat 32 n) = BitVec.ofBool (decide (e.val = n)) :=
  (lane_eq e ⟨n, hn⟩).trans (congrArg BitVec.ofBool (decide_eq_decide.mpr Fin.ext_iff))

section outputs
variable (v117 : FVec Ideal S16x128 .f32) (v119 : FVec Ideal S16x1 .f32) (v124 : IVec S16 32) (a : Fin 16 → Fin 128 → EReal)
  (ha : ∀ b e, v117 (ix2 b e) = a b e) (hi : ∀ b, v124 (ix1 b) = BitVec.ofNat 32 (one (a b)).val) (hm : ∀ b, v119 (ix2 b (0 : Fin 1)) = a b (one (a b)))
include ha hi

theorem idx_at (b : Fin 16) (e : Fin 128) :
    k0_pay1 (k0_pay33 lanes16) (k0_pay34 (k0_pay18 v124)) (k0_pay35 lanes16) (k0_pay36 (k0_pay22 lanes16 v117 v124)) (ix2 b e) = idxLane (a b) e := by
  have h := pay22_at v117 v124 a ha hi b
  generalize k0_pay22 lanes16 v117 v124 = w at h ⊢
  unfold k0_pay1 k0_pay33 k0_pay34 k0_pay35 k0_pay36 k0_pay18 idxLane
  pointwise
  rw [hi, h, lane_is e 0 (by decide), lane_is e 1 (by decide)]
  by_cases h0 : e.val = 0 <;> by_cases h1 : e.val = 1 <;> simp [h0, h1, Scalar.select]

include hm
theorem gate_at (b : Fin 16) (e : Fin 128) :
    k0_pay2 lanes16 (k0_pay26 lanes16 v117 v119 v124) (k0_pay27 lanes16 v117 v119 v124) (ix2 b e) = gateLane (a b) e := by
  have h26 := pay26_at v117 v119 v124 a ha hi hm b
  have h27 := pay27_at v117 v119 v124 a ha hi hm b
  generalize k0_pay26 lanes16 v117 v119 v124 = w at h26 ⊢
  generalize k0_pay27 lanes16 v117 v119 v124 = u at h27 ⊢
  unfold k0_pay2 gateLane
  pointwise
  rw [h26, h27, lane_is e 0 (by decide), lane_is e 1 (by decide), sel_bool, sel_bool]

theorem loss_at (i : Fin 8) (k : Fin 128) :
    k0_pay32 (k0_pay28 (F := Ideal) lanes16) (k0_pay29 lanes16 v117 v119 v124) (k0_pay30 lanes16 v117 v124) (k0_pay31 lanes16 v117 v119 v124) (ix2 i k) = loss a := by
  refine (pay32_at _ _ _ _ pay28_at (fun e => ?_) i k).trans ?_
  · have h28 := pay28_at e
    unfold k0_pay31
    generalize k0_pay28 (F := Ideal) lanes16 = w at h28 ⊢
    generalize k0_pay29 lanes16 v117 v119 v124 = u
    pointwise
    rw [h28]
  · simp only [pay29_at v117 v119 v124 a ha hi hm, pay30_at v117 v124 a ha hi]
    rfl
end outputs

variable (x0 : Vec Ideal S256x192 .f32) (x1 : Vec Ideal S192x192 .f32) (x2 x3 : Vec Ideal S192x128 .f32) (x4 x5 : Vec Ideal S128x192 .f32) (x6 : Vec Ideal S8x256 .f32) (x7 : Vec Ideal S8x128 .f32) (x8 : Vec Ideal S192x128 .f32)

/-- The logits over the blocks. -/
def logitOf (b : Fin 16) (e : Fin 128) : EReal :=
  logitRow (fun q => x6 (ix2 (0 : Fin 8) q))
    (fun q => newRow (fun j => x0 (ix2 q j)) (fun j l => x1 (ix2 j l)) (fun j f => x2 (ix2 j f)) (fun j f => x3 (ix2 j f)) (fun f l => x4 (ix2 f l)) (fun f l => x5 (ix2 f l)))
    (x7 (ix2 (0 : Fin 8) (0 : Fin 128))) (fun l e => x8 (ix2 l e)) b e

theorem ld0 : View.ld x0 r0_0 = x0 := View.ld_unit_lit _ x0 (by decide)
theorem ld1 : View.ld x1 r0_1 = x1 := View.ld_unit_lit _ x1 (by decide)
theorem ld2 : View.ld x2 r0_2 = x2 := View.ld_unit_lit _ x2 (by decide)
theorem ld4 : View.ld x4 r0_3 = x4 := View.ld_unit_lit _ x4 (by decide)
theorem ld6 (q : Fin 256) : View.ld x6 r0_4 (ix2 (0 : Fin 1) q) = x6 (ix2 (0 : Fin 8) q) :=
  congrArg x6 (funext fun a => Fin.ext (by fin_cases a <;> simp [Rect.unit] <;> rfl))
theorem ld7 : View.ld x7 r0_5 (ix2 (0 : Fin 1) (0 : Fin 1)) = x7 (ix2 (0 : Fin 8) (0 : Fin 128)) :=
  congrArg x7 (funext fun a => Fin.ext (by fin_cases a <;> simp [Rect.unit] <;> rfl))

theorem new_at (r : Fin 256) (l : Fin 192) : k0_pay39 x0 x1 x2 x3 x4 x5 x6 x7 x8 (ix2 r l)
    = newRow (fun j => x0 (ix2 r j)) (fun j l => x1 (ix2 j l)) (fun j f => x2 (ix2 j f)) (fun j f => x3 (ix2 j f)) (fun f l => x4 (ix2 f l)) (fun f l => x5 (ix2 f l)) l := by
  unfold k0_pay39
  rw [ld0, ld1, ld2, ld2, ld4, ld4]
  have h7 : (fun k => k0_pay7 x0 x2 x3 (ix2 r k)) = ampOf (fun j => x0 (ix2 r j)) (fun j f => x2 (ix2 j f)) fun j f => x3 (ix2 j f) := funext fun k => by
    rw [pay7_at]
    simp only [pay5_at, pay6_at]
    rfl
  refine (pay12_at _ _ _ _ _ _ _ _ r l _ fun k => pay10_at x0 x2 x3 r k).trans ?_
  simp only [pay3_at, pay4_at, pay5_at, pay6_at, pay9_at, h7]
  rfl

theorem v117_at (b : Fin 16) (e : Fin 128) : k0_pay43 x0 x1 x2 x3 x4 x5 x6 x7 x8 (ix2 b e) = logitOf x0 x1 x2 x3 x4 x5 x6 x7 x8 b e := by
  refine (pay15_at _ _ _ _ b e).trans ?_
  unfold logitOf
  rw [ld2 x8, ld7, funext (ld6 x6)]
  simp only [new_at]

theorem v124_at (b : Fin 16) : k0_pay45 x0 x1 x2 x3 x4 x5 x6 x7 x8 (ix1 b) = BitVec.ofNat 32 (one (logitOf x0 x1 x2 x3 x4 x5 x6 x7 x8 b)).val :=
  (pay17_at _ _ _ _ _ _ _ _ _ b).trans (congrArg (fun a => BitVec.ofNat 32 (one a).val) (funext fun e => v117_at x0 x1 x2 x3 x4 x5 x6 x7 x8 b e))

theorem v119_at (b : Fin 16) : k0_pay44 x0 x1 x2 x3 x4 x5 x6 x7 x8 (ix2 b (0 : Fin 1)) = logitOf x0 x1 x2 x3 x4 x5 x6 x7 x8 b (one (logitOf x0 x1 x2 x3 x4 x5 x6 x7 x8 b)) :=
  (pay16_at _ _ _ _ _ _ _ _ _ b).trans (congrArg (fun a : Fin 128 → EReal => a (one a)) (funext fun e => v117_at x0 x1 x2 x3 x4 x5 x6 x7 x8 b e))

theorem out9 (b : Fin 16) (e : Fin 128) : out0_9 x0 x1 x2 x3 x4 x5 x6 x7 x8 (ix2 b e) = idxLane (logitOf x0 x1 x2 x3 x4 x5 x6 x7 x8 b) e :=
  (congrFun (View.canon_cons_unit_lit _ _ _ (by decide)) _).trans
    (idx_at _ _ _ (v117_at x0 x1 x2 x3 x4 x5 x6 x7 x8) (v124_at x0 x1 x2 x3 x4 x5 x6 x7 x8) b e)
theorem out10 (b : Fin 16) (e : Fin 128) : out0_10 x0 x1 x2 x3 x4 x5 x6 x7 x8 (ix2 b e) = gateLane (logitOf x0 x1 x2 x3 x4 x5 x6 x7 x8 b) e :=
  (congrFun (View.canon_cons_unit_lit _ _ _ (by decide)) _).trans
    (gate_at _ _ _ _ (v117_at x0 x1 x2 x3 x4 x5 x6 x7 x8) (v124_at x0 x1 x2 x3 x4 x5 x6 x7 x8) (v119_at x0 x1 x2 x3 x4 x5 x6 x7 x8) b e)
theorem out11 (i : Fin 8) (e : Fin 128) : out0_11 x0 x1 x2 x3 x4 x5 x6 x7 x8 (ix2 i e) = loss (logitOf x0 x1 x2 x3 x4 x5 x6 x7 x8) :=
  (congrFun (View.canon_cons_unit_lit _ _ _ (by decide)) _).trans
    (loss_at _ _ _ _ (v117_at x0 x1 x2 x3 x4 x5 x6 x7 x8) (v124_at x0 x1 x2 x3 x4 x5 x6 x7 x8) (v119_at x0 x1 x2 x3 x4 x5 x6 x7 x8) i e)

end Cert.Moe.Choice

end
-- ==== Proof.ChoiceTopK.lean ====
/-
  The reference's top-k read at an index: the values and the positions of the ranked keys.
-/
module

public import proofs.«01_k».proof.Proof.TopRounds
public import proofs.«01_k».proof.Proof.Gen.GateReferenceIdeal.Read
public import Idealize.ShloMosaic.Lib.Pointwise

@[expose] public section

noncomputable section

namespace Cert.Moe.ChoiceRef

open Idealize.ShloMosaic Idealize.ShloMosaic.Pointwise Cert.GateReferenceIdeal Cert.GateReferenceIdeal.Gen Cert.GateReferenceIdeal.Read

theorem along3 (b n : Fin 16) (i k : Fin 97) : (ix3 b n i : S16x16x97.Idx).along 2 k = ix3 b n k := by
  funext a
  fin_cases a <;> rfl
theorem along2 (b : Fin 16) (i k : Fin 4) : (ix2 b i : S16x4.Idx).along 1 k = ix2 b k := by
  funext a
  fin_cases a <;> rfl

theorem gt_bool (u v : Ideal .f32) : (FloatOps.cmpfTotal (F := Ideal) (φ := .f32) .gt u v == 1#1) = decide (@LT.lt EReal _ v u) := by
  show (BitVec.ofBool (decide (@LT.lt EReal _ v u)) == 1#1) = _
  generalize decide (@LT.lt EReal _ v u) = c
  revert c
  decide

theorem order3 {β : Type} (x : FVec Ideal S16x16x97 .f32) (y : S16x16x97.Idx → β) (b n : Fin 16) (i : Fin 97) :
    (Host.sort2 S16x16x97 2 (fun l r => FloatOps.cmpfTotal (F := Ideal) (φ := .f32) .gt l.1 r.1) x y).2 (ix3 b n i)
      = y (ix3 b n (ranked (fun f => x (ix3 b n f)) i)) := by
  have e : (fun k k' => FloatOps.cmpfTotal (F := Ideal) (φ := .f32) .gt (x ((ix3 b n i : S16x16x97.Idx).along 2 k)) (x ((ix3 b n i : S16x16x97.Idx).along 2 k')) == 1#1)
      = fun k k' => decide (@LT.lt EReal _ (x (ix3 b n k')) (x (ix3 b n k))) := by
    funext k k'
    exact (gt_bool _ _).trans (congrArg₂ (fun u v => decide (@LT.lt EReal _ (x u) (x v))) (along3 b n i k') (along3 b n i k))
  exact (congrArg (fun B => y ((ix3 b n i : S16x16x97.Idx).along 2 (sortedFrom B i))) e).trans (congrArg y (along3 b n i _))
theorem order2 {β : Type} (x : FVec Ideal S16x4 .f32) (y : S16x4.Idx → β) (b : Fin 16) (i : Fin 4) :
    (Host.sort2 S16x4 1 (fun l r => FloatOps.cmpfTotal (F := Ideal) (φ := .f32) .gt l.1 r.1) x y).2 (ix2 b i)
      = y (ix2 b (ranked (fun f => x (ix2 b f)) i)) := by
  have e : (fun k k' => FloatOps.cmpfTotal (F := Ideal) (φ := .f32) .gt (x ((ix2 b i : S16x4.Idx).along 1 k)) (x ((ix2 b i : S16x4.Idx).along 1 k')) == 1#1)
      = fun k k' => decide (@LT.lt EReal _ (x (ix2 b k')) (x (ix2 b k))) := by
    funext k k'
    exact (gt_bool _ _).trans (congrArg₂ (fun u v => decide (@LT.lt EReal _ (x u) (x v))) (along2 b i k') (along2 b i k))
  exact (congrArg (fun B => y ((ix2 b i : S16x4.Idx).along 1 (sortedFrom B i))) e).trans (congrArg y (along2 b i _))
theorem sorted2 {β : Type} (x : FVec Ideal S16x4 .f32) (y : S16x4.Idx → β) (b : Fin 16) (i : Fin 4) :
    (Host.sort2 S16x4 1 (fun l r => FloatOps.cmpfTotal (F := Ideal) (φ := .f32) .gt l.1 r.1) x y).1 (ix2 b i)
      = x (ix2 b (ranked (fun f => x (ix2 b f)) i)) := by
  have e : (fun k k' => FloatOps.cmpfTotal (F := Ideal) (φ := .f32) .gt (x ((ix2 b i : S16x4.Idx).along 1 k)) (x ((ix2 b i : S16x4.Idx).along 1 k')) == 1#1)
      = fun k k' => decide (@LT.lt EReal _ (x (ix2 b k')) (x (ix2 b k))) := by
    funext k k'
    exact (gt_bool _ _).trans (congrArg₂ (fun u v => decide (@LT.lt EReal _ (x u) (x v))) (along2 b i k') (along2 b i k))
  exact (congrArg (fun B => x ((ix2 b i : S16x4.Idx).along 1 (sortedFrom B i))) e).trans (congrArg x (along2 b i _))

/-- The positions of the three greatest frequencies. -/
theorem top3_at (x : FVec Ideal S16x16x97 .f32) (b n : Fin 16) (i : Fin 3) :
    (Host.topK S16x16x3 2 (FloatOps.cmpfTotal (F := Ideal) (φ := .f32) .gt) x sliceFits_S16x16x97_S16x16x3).2 (ix3 b n i)
      = BitVec.ofNat 32 (ranked (fun f => x (ix3 b n f)) (i.castLE (by decide))).val := by
  refine Eq.trans ?_ ((order3 x (iotaInDim S16x16x97 32 2) b n (i.castLE (by decide))).trans ?_)
  · refine congrArg (Host.sort2 S16x16x97 2 (fun l r => FloatOps.cmpfTotal (F := Ideal) (φ := .f32) .gt l.1 r.1) x (iotaInDim S16x16x97 32 2)).2 ?_
    funext a
    apply Fin.ext
    fin_cases a <;> simp <;> rfl
  · rfl

/-- The positions of the three greatest logits, and their values. -/
theorem top2_at (x : FVec Ideal S16x4 .f32) (b : Fin 16) (i : Fin 3) :
    (Host.topK S16x3 1 (FloatOps.cmpfTotal (F := Ideal) (φ := .f32) .gt) x sliceFits_S16x4_S16x3).2 (ix2 b i)
      = BitVec.ofNat 32 (ranked (fun f => x (ix2 b f)) (i.castLE (by decide))).val := by
  refine Eq.trans ?_ ((order2 x (iotaInDim S16x4 32 1) b (i.castLE (by decide))).trans ?_)
  · refine congrArg (Host.sort2 S16x4 1 (fun l r => FloatOps.cmpfTotal (F := Ideal) (φ := .f32) .gt l.1 r.1) x (iotaInDim S16x4 32 1)).2 ?_
    funext a
    apply Fin.ext
    fin_cases a <;> simp <;> rfl
  · rfl
theorem best2_at (x : FVec Ideal S16x4 .f32) (b : Fin 16) (i : Fin 3) :
    (Host.topK S16x3 1 (FloatOps.cmpfTotal (F := Ideal) (φ := .f32) .gt) x sliceFits_S16x4_S16x3).1 (ix2 b i)
      = x (ix2 b (ranked (fun f => x (ix2 b f)) (i.castLE (by decide)))) := by
  refine Eq.trans ?_ (sorted2 x (iotaInDim S16x4 32 1) b (i.castLE (by decide)))
  refine congrArg (Host.sort2 S16x4 1 (fun l r => FloatOps.cmpfTotal (F := Ideal) (φ := .f32) .gt l.1 r.1) x (iotaInDim S16x4 32 1)).1 ?_
  funext a
  apply Fin.ext
  fin_cases a <;> simp <;> rfl

end Cert.Moe.ChoiceRef

end
-- ==== Proof.ChoiceRef.lean ====
/-
  The reference's logits read at an index.
-/
module

public import proofs.«01_k».proof.Proof.ChoiceBlock
public import proofs.«01_k».proof.Proof.ChoiceTopK

@[expose] public section

noncomputable section

namespace Cert.Moe.ChoiceRef

open Idealize.ShloMosaic Idealize.ShloMosaic.Pointwise Cert.GateReferenceIdeal Cert.GateReferenceIdeal.Gen Cert.GateReferenceIdeal.Read Cert.Moe.Choice

/-- The amplitudes of a series, and the mask of the three greatest. -/
def ampK (x : Fin 192 → EReal) (cs sn : Fin 192 → Fin 97 → EReal) (f : Fin 97) : EReal :=
  Ideal.sqrt (times x cs f * times x cs f + times x sn f * times x sn f)
def maskK (key : Fin 97 → EReal) (f : Fin 97) : EReal :=
  if f = ranked key 0 ∨ f = ranked key 1 ∨ f = ranked key 2 then 1 else 0
/-- The place in the series of a place in the padded series: the ends repeat. -/
def nearK (a t : ℕ) : Fin 192 := ⟨min (t - a) 191, by omega⟩
/-- The trend: the mean of the moving averages over 4, 8 and 12 places. -/
def trendK (x : Fin 192 → EReal) (l : Fin 192) : EReal :=
  Ideal.div (Ideal.div (∑ o : Fin 4, x (nearK 1 (o.val + l.val))) (Ideal.ofBits .f32 0x40800000#32) + Ideal.div (∑ o : Fin 8, x (nearK 3 (o.val + l.val))) (Ideal.ofBits .f32 0x41000000#32)
    + Ideal.div (∑ o : Fin 12, x (nearK 5 (o.val + l.val))) (Ideal.ofBits .f32 0x41400000#32)) (Ideal.ofBits .f32 0x40400000#32)
/-- The Fourier transform's matrices, there and back. -/
abbrev cosT (l : Fin 192) (f : Fin 97) : EReal := val_main_v90 (F := Ideal) (ix2 f l)
abbrev sinT (l : Fin 192) (f : Fin 97) : EReal := val_main_v92 (F := Ideal) (ix2 f l)
abbrev cosB (f : Fin 97) (l : Fin 192) : EReal := val_main_v95 (F := Ideal) (ix2 f l)
abbrev sinB (f : Fin 97) (l : Fin 192) : EReal := val_main_v98 (F := Ideal) (ix2 f l)
/-- A series with its season and its trend added. -/
def newK (x : Fin 192 → EReal) (cs sn : Fin 192 → Fin 97 → EReal) (ci si : Fin 97 → Fin 192 → EReal) (l : Fin 192) : EReal :=
  x l + (∑ f, ci f l * (times x cs f * maskK (ampK x cs sn) f) + ∑ f, si f l * (times x sn f * maskK (ampK x cs sn) f)) + trendK x l

variable (x0 : (⟨S16x192x16x128, .f32⟩ : BufTy).Contents (Elt Ideal)) (x1 : (⟨S16x1, .f32⟩ : BufTy).Contents (Elt Ideal)) (x2 : (⟨S1, .f32⟩ : BufTy).Contents (Elt Ideal))
  (x3 : (⟨S192x4, .f32⟩ : BufTy).Contents (Elt Ideal))

theorem x_at (b n : Fin 16) (l : Fin 192) : val_main_v1 (F := Ideal) x0 (ix3 b l n) = x0 (ix4 b l n (0 : Fin 128)) := by
  unfold val_main_v1 val_main_v0
  pointwise
theorem re_at (b n : Fin 16) (f : Fin 97) : val_main_v100 (F := Ideal) x0 (ix3 b f n) = times (fun l => x0 (ix4 b l n (0 : Fin 128))) cosT f := by
  unfold val_main_v100 val_main_v99 times
  pointwise
  simp only [x_at]
theorem im_at (b n : Fin 16) (f : Fin 97) : val_main_v102 (F := Ideal) x0 (ix3 b f n) = times (fun l => x0 (ix4 b l n (0 : Fin 128))) sinT f := by
  unfold val_main_v102 val_main_v101 times
  pointwise
  simp only [x_at]

theorem amp_at (b n : Fin 16) (f : Fin 97) : val_main_v107 (F := Ideal) x0 (ix3 b n f)
    = ampK (fun l => x0 (ix4 b l n (0 : Fin 128))) cosT sinT f := by
  unfold val_main_v107 val_main_v106 val_main_v105 val_main_v104 val_main_v103 ampK
  pointwise
  simp only [re_at, im_at]

theorem bit_value (c : Prop) [Decidable c] : (FloatOps.uitofp (F := Ideal) .f32 (BitVec.ofBool (decide c)) : EReal) = if c then 1 else 0 := by
  by_cases h : c <;> simp [h, FloatOps.uitofp]

theorem freq_eq (i f : Fin 97) : IntOp.cmpi .eq (BitVec.ofNat 32 i.val) (BitVec.ofNat 32 f.val) = BitVec.ofBool (decide (i = f)) :=
  (lane_eq (i.castLE (by decide)) (f.castLE (by decide))).trans (congrArg BitVec.ofBool (decide_eq_decide.mpr (by rw [Fin.ext_iff, Fin.ext_iff]; rfl)))

theorem mask_word (key : Fin 97 → EReal) (f : Fin 97) :
    (FloatOps.uitofp (F := Ideal) .f32 (BitVec.ofBool (decide ((0 : EReal) < ∑ x : Fin 3, (FloatOps.uitofp (F := Ideal) .f32
      (IntOp.cmpi .eq (BitVec.ofNat 32 (ranked key (x.castLE (by decide))).val) (BitVec.ofNat 32 f.val)) : EReal)))) : EReal) = maskK key f := by
  rw [bit_value, maskK]
  refine if_congr ?_ rfl rfl
  simp only [freq_eq, bit_value, Fin.sum_univ_three]
  show (0 : EReal) < (if ranked key 0 = f then 1 else 0) + (if ranked key 1 = f then 1 else 0) + (if ranked key 2 = f then 1 else 0) ↔ _
  have p0 : (0 : EReal) ≤ if ranked key 0 = f then 1 else 0 := by split <;> norm_num
  have p1 : (0 : EReal) ≤ if ranked key 1 = f then 1 else 0 := by split <;> norm_num
  have p2 : (0 : EReal) ≤ if ranked key 2 = f then 1 else 0 := by split <;> norm_num
  by_cases h0 : ranked key 0 = f
  · rw [if_pos h0]
    exact iff_of_true (lt_of_lt_of_le zero_lt_one ((le_add_of_nonneg_right p1).trans (le_add_of_nonneg_right p2))) (Or.inl h0.symm)
  · rw [if_neg h0, zero_add]
    by_cases h1 : ranked key 1 = f
    · rw [if_pos h1]
      exact iff_of_true (lt_of_lt_of_le zero_lt_one (le_add_of_nonneg_right p2)) (Or.inr (Or.inl h1.symm))
    · rw [if_neg h1, zero_add]
      by_cases h2 : ranked key 2 = f
      · rw [if_pos h2]
        exact iff_of_true zero_lt_one (Or.inr (Or.inr h2.symm))
      · rw [if_neg h2]
        refine iff_of_false (lt_irrefl _) ?_
        rintro (h | h | h)
        · exact h0 h.symm
        · exact h1 h.symm
        · exact h2 h.symm

theorem mask_at (b n : Fin 16) (f : Fin 97) : val_main_v113 (F := Ideal) x0 (ix3 b f n)
    = maskK (ampK (fun l => x0 (ix4 b l n (0 : Fin 128))) cosT sinT) f := by
  have hi : ∀ i : Fin 3, val_main_indices (F := Ideal) x0 (ix3 b n i) = BitVec.ofNat 32 (ranked (ampK (fun l => x0 (ix4 b l n (0 : Fin 128))) cosT sinT) (i.castLE (by decide))).val := fun i => by
    unfold val_main_indices
    refine (top3_at _ b n i).trans ?_
    simp only [amp_at]
  unfold val_main_v113 val_main_v112 val_main_v111 val_main_v110 val_main_v109 val_main_v108 val_main_call0_v4 val_main_call0_v3 val_main_call0_v2 val_main_call0_v1 val_main_call0_v0 val_main_cst_10 val_main_cst_11
  pointwise
  simp only [hi]
  exact mask_word _ f

theorem pad4_at (b n : Fin 16) (t : Fin 195) : val_main_v5 (F := Ideal) x0 (ix3 b t n) = x0 (ix4 b (nearK 1 t.val) n (0 : Fin 128)) := by
  unfold val_main_v5 val_main_v4 val_main_v3 val_main_v2
  pointwise
  simp only [x_at]
  split_ifs <;> refine congrArg (fun l => x0 (ix4 b l n (0 : Fin 128))) (Fin.ext ?_) <;> simp only [nearK, Fin.val_zero] <;> omega
theorem pad8_at (b n : Fin 16) (t : Fin 199) : val_main_v19 (F := Ideal) x0 (ix3 b t n) = x0 (ix4 b (nearK 3 t.val) n (0 : Fin 128)) := by
  unfold val_main_v19 val_main_v18 val_main_v17 val_main_v16 val_main_v15
  pointwise
  simp only [x_at]
  split_ifs <;> refine congrArg (fun l => x0 (ix4 b l n (0 : Fin 128))) (Fin.ext ?_) <;> simp only [nearK, Fin.val_zero] <;> omega
theorem pad12_at (b n : Fin 16) (t : Fin 203) : val_main_v42 (F := Ideal) x0 (ix3 b t n) = x0 (ix4 b (nearK 5 t.val) n (0 : Fin 128)) := by
  unfold val_main_v42 val_main_v41 val_main_v40 val_main_v39 val_main_v38
  pointwise
  simp only [x_at]
  split_ifs <;> refine congrArg (fun l => x0 (ix4 b l n (0 : Fin 128))) (Fin.ext ?_) <;> simp only [nearK, Fin.val_zero] <;> omega
theorem sum_4 (g : ℕ → EReal) : ∑ o : Fin 4, g o.val = g 0 + g 1 + g 2 + g 3 := Fin.sum_univ_four _
theorem sum_8 (g : ℕ → EReal) : ∑ o : Fin 8, g o.val = g 0 + g 1 + g 2 + g 3 + g 4 + g 5 + g 6 + g 7 := Fin.sum_univ_eight _
theorem sum_12 (g : ℕ → EReal) : ∑ o : Fin 12, g o.val = g 0 + g 1 + g 2 + g 3 + g 4 + g 5 + g 6 + g 7 + g 8 + g 9 + g 10 + g 11 := by
  rw [Fin.sum_univ_castSucc, Fin.sum_univ_castSucc, Fin.sum_univ_castSucc, Fin.sum_univ_castSucc]
  exact congrArg (· + g 8 + g 9 + g 10 + g 11) (sum_8 g)
theorem trend_at (b n : Fin 16) (l : Fin 192) : val_main_v70 (F := Ideal) x0 (ix3 b l n) = trendK (fun l => x0 (ix4 b l n (0 : Fin 128))) l := by
  have h4 : val_main_v14 (F := Ideal) x0 (ix3 b l n) = Ideal.div (∑ o : Fin 4, x0 (ix4 b (nearK 1 (o.val + l.val)) n (0 : Fin 128))) (Ideal.ofBits .f32 0x40800000#32) := by
    rw [sum_4 fun o => x0 (ix4 b (nearK 1 (o + l.val)) n (0 : Fin 128)), zero_add]
    unfold val_main_v14 val_main_v13 val_main_v12 val_main_v11 val_main_v10 val_main_v9 val_main_v8 val_main_v7 val_main_v6 val_main_cst
    pointwise
    simp only [pad4_at]
  have h8 : val_main_v36 (F := Ideal) x0 (ix3 b l n) = Ideal.div (∑ o : Fin 8, x0 (ix4 b (nearK 3 (o.val + l.val)) n (0 : Fin 128))) (Ideal.ofBits .f32 0x41000000#32) := by
    rw [sum_8 fun o => x0 (ix4 b (nearK 3 (o + l.val)) n (0 : Fin 128)), zero_add]
    unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_cst_0
    pointwise
    simp only [pad8_at]
  have h12 : val_main_v67 (F := Ideal) x0 (ix3 b l n) = Ideal.div (∑ o : Fin 12, x0 (ix4 b (nearK 5 (o.val + l.val)) n (0 : Fin 128))) (Ideal.ofBits .f32 0x41400000#32) := by
    rw [sum_12 fun o => x0 (ix4 b (nearK 5 (o + l.val)) n (0 : Fin 128)), zero_add]
    unfold val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_cst_1
    pointwise
    simp only [pad12_at]
  unfold val_main_v70 val_main_v69 val_main_v68 val_main_v37 val_main_cst_2 trendK
  pointwise
  rw [h4, h8, h12]

theorem new_at (b n : Fin 16) (l : Fin 192) : val_main_v122 (F := Ideal) x0 (ix3 b l n)
    = newK (fun l => x0 (ix4 b l n (0 : Fin 128))) cosT sinT cosB sinB l := by
  unfold val_main_v122 val_main_v121 val_main_v120 val_main_v119 val_main_v118 val_main_v117 val_main_v116 val_main_v115 val_main_v114 newK
  pointwise
  simp only [x_at, re_at, im_at, mask_at, trend_at]

/-- The logits of a batch. -/
def logitK (b : Fin 16) (e : Fin 4) : EReal :=
  ∑ l : Fin 192, ((∑ n : Fin 16, newK (fun l => x0 (ix4 b l n (0 : Fin 128))) cosT sinT cosB sinB l * x1 (ix2 n (0 : Fin 1))) + x2 (ix1 (0 : Fin 1))) * x3 (ix2 l e)

theorem logit_at (b : Fin 16) (e : Fin 4) : val_main_v128 (F := Ideal) x0 x1 x2 x3 (ix2 b e) = logitK x0 x1 x2 x3 b e := by
  unfold val_main_v128 val_main_v127 val_main_v126 val_main_v125 val_main_v124 val_main_v123 logitK
  pointwise
  simp only [new_at]

end Cert.Moe.ChoiceRef

end
-- ==== Proof.ChoiceSoft.lean ====
/-
  The reference's gates, loads and loss read at an index, over the logits.
-/
module

public import proofs.«01_k».proof.Proof.ChoiceRef
public import Idealize.ShloMosaic.Lib.Routing.OpsSet
public import Idealize.ShloMosaic.Lib.Routing.OpsPair

@[expose] public section

noncomputable section

namespace Cert.Moe.ChoiceRef

open Idealize.ShloMosaic Idealize.ShloMosaic.Pointwise Cert.GateReferenceIdeal Cert.GateReferenceIdeal.Gen Cert.GateReferenceIdeal.Read Cert.Moe.Choice

/-- The first and the second choice of a batch, and their gates. -/
def gapK (q : Fin 4 → EReal) : EReal := Ideal.exp (q (ranked q 1) - q (ranked q 0))
def gate1 (q : Fin 4 → EReal) : EReal := Ideal.div 1 (1 + gapK q)
def gate2 (q : Fin 4 → EReal) : EReal := Ideal.div (gapK q) (1 + gapK q)
def gatesK (q : Fin 4 → EReal) (e : Fin 4) : EReal := if e = ranked q 0 then gate1 q else if e = ranked q 1 then gate2 q else 0
/-- The squared coefficient of variation. -/
def spreadK (u : Fin 4 → EReal) : EReal :=
  Ideal.div (Ideal.div (∑ e, (u e - Ideal.div (∑ k, u k) (Ideal.ofBits .f32 0x40800000#32)) * (u e - Ideal.div (∑ k, u k) (Ideal.ofBits .f32 0x40800000#32)))
      (Ideal.ofBits .f32 0x40400000#32))
    (Ideal.div (∑ k, u k) (Ideal.ofBits .f32 0x40800000#32) * Ideal.div (∑ k, u k) (Ideal.ofBits .f32 0x40800000#32) + Ideal.ofBits .f32 0x2EDBE6FF#32)

theorem gap_pos (q : Fin 4 → EReal) (hq : ∀ e, ∃ r : ℝ, q e = r) : ∃ r : ℝ, 0 < r ∧ gapK q = r := by
  obtain ⟨r0, h0⟩ := hq (ranked q 0)
  obtain ⟨r1, h1⟩ := hq (ranked q 1)
  refine ⟨Real.exp (r1 - r0), Real.exp_pos _, ?_⟩
  rw [gapK, h0, h1, ← EReal.coe_sub, Ideal.exp_coe]
theorem gates_pos (q : Fin 4 → EReal) (hq : ∀ e, ∃ r : ℝ, q e = r) : 0 < gate1 q ∧ 0 < gate2 q := by
  obtain ⟨r, hr, h⟩ := gap_pos q hq
  have h1 : (1 : EReal) + (r : EReal) = ((1 + r : ℝ) : EReal) := by rw [EReal.coe_add, EReal.coe_one]
  have hp : 0 < 1 / (1 + r) := by positivity
  constructor
  · rw [gate1, h, h1, Ideal.div_coe (by positivity), one_mul]
    exact EReal.coe_pos.mpr hp
  · rw [gate2, h, h1, Ideal.div_coe (by positivity), ← EReal.coe_mul]
    exact EReal.coe_pos.mpr (mul_pos hr hp)

/-- A softmax of two. -/
theorem soft_pair (q : Fin 4 → EReal) (hq : ∀ e, ∃ r : ℝ, q e = r) (y : Fin 2 → EReal) (h0 : y 0 = q (ranked q 0)) (h1 : y 1 = q (ranked q 1))
    (bot : EReal) (hb : bot = ⊥) (M : EReal) (hM : M = max bot (Finset.fold max bot y Finset.univ)) :
    Ideal.div (Ideal.exp (y 0 - M)) (∑ x, Ideal.exp (y x - M)) = gate1 q ∧ Ideal.div (Ideal.exp (y 1 - M)) (∑ x, Ideal.exp (y x - M)) = gate2 q := by
  have hle : y 1 ≤ y 0 := by
    rw [h0, h1]
    rcases ranked_order q 0 1 (by decide) with h | ⟨h, _⟩
    · exact h.le
    · exact h.ge
  have hM' : M = y 0 := by
    rw [hM, hb, show (Finset.univ : Finset (Fin 2)) = {0, 1} from rfl, Finset.fold_insert (by decide), Finset.fold_singleton]
    simp [hle]
  obtain ⟨r0, hr0⟩ := hq (ranked q 0)
  have e0 : Ideal.exp (y 0 - y 0) = 1 := by
    rw [h0, hr0, ← EReal.coe_sub, sub_self, Ideal.exp_coe, Real.exp_zero, EReal.coe_one]
  have e1 : Ideal.exp (y 1 - y 0) = gapK q := by rw [h0, h1, gapK]
  rw [hM', Fin.sum_univ_two, e0, e1]
  exact ⟨rfl, rfl⟩

theorem word_inf : Ideal.ofBits .f32 4286578688#32 = ⊥ := by
  simp [Ideal.ofBits, Ideal.ieee]
theorem word_4 : Ideal.ofBits .f32 1082130432#32 = ((4 : ℝ) : EReal) := by
  simp [Ideal.ofBits, Ideal.ieee, -EReal.coe_mul]; norm_num
theorem word_3 : Ideal.ofBits .f32 1077936128#32 = ((3 : ℝ) : EReal) := by
  simp [Ideal.ofBits, Ideal.ieee, -EReal.coe_mul]; norm_num
theorem four_less_one : Ideal.ofBits .f32 1082130432#32 - (FloatOps.sitofp (F := Ideal) .f32 1#32 : EReal) = Ideal.ofBits .f32 1077936128#32 := by
  have h : (FloatOps.sitofp (F := Ideal) .f32 1#32 : EReal) = ((1 : ℝ) : EReal) := by
    show (((1#32).toInt : ℝ) : EReal) = _
    norm_num
  rw [h, word_4, word_3, ← EReal.coe_sub]
  norm_num

variable (x0 : (⟨S16x192x16x128, .f32⟩ : BufTy).Contents (Elt Ideal)) (x1 : (⟨S16x1, .f32⟩ : BufTy).Contents (Elt Ideal)) (x2 : (⟨S1, .f32⟩ : BufTy).Contents (Elt Ideal))
  (x3 : (⟨S192x4, .f32⟩ : BufTy).Contents (Elt Ideal))

theorem best_at (b : Fin 16) (j : Fin 2) : val_main_v129 (F := Ideal) x0 x1 x2 x3 (ix2 b j)
    = logitK x0 x1 x2 x3 b (ranked (logitK x0 x1 x2 x3 b) (j.castLE (by decide))) := by
  have h : ∀ i : Fin 3, val_main_values_12 (F := Ideal) x0 x1 x2 x3 (ix2 b i) = logitK x0 x1 x2 x3 b (ranked (logitK x0 x1 x2 x3 b) (i.castLE (by decide))) := fun i => by
    unfold val_main_values_12
    refine (best2_at _ b i).trans ?_
    simp only [logit_at]
  unfold val_main_v129
  pointwise
  rw [h]
  rfl
theorem place_at (b : Fin 16) (j : Fin 2) : val_main_v144 (F := Ideal) x0 x1 x2 x3 (ix2 b j)
    = BitVec.ofNat 32 (ranked (logitK x0 x1 x2 x3 b) (j.castLE (by decide))).val := by
  have h : ∀ i : Fin 3, val_main_indices_13 (F := Ideal) x0 x1 x2 x3 (ix2 b i) = BitVec.ofNat 32 (ranked (logitK x0 x1 x2 x3 b) (i.castLE (by decide))).val := fun i => by
    unfold val_main_indices_13
    refine (top2_at _ b i).trans ?_
    simp only [logit_at]
  unfold val_main_v144
  pointwise
  rw [h]
  rfl

variable (hq : ∀ b e, ∃ r : ℝ, logitK x0 x1 x2 x3 b e = r)

include hq in
theorem soft_at (b : Fin 16) : val_main_v140 (F := Ideal) x0 x1 x2 x3 (ix2 b (0 : Fin 2)) = gate1 (logitK x0 x1 x2 x3 b)
    ∧ val_main_v140 (F := Ideal) x0 x1 x2 x3 (ix2 b (1 : Fin 2)) = gate2 (logitK x0 x1 x2 x3 b) := by
  have hb := best_at x0 x1 x2 x3 b
  have hs := soft_pair _ (hq b) (fun j => val_main_v129 (F := Ideal) x0 x1 x2 x3 (ix2 b j)) (hb 0) (hb 1) _ word_inf _ rfl
  unfold val_main_v140 val_main_v139 val_main_v138 val_main_v137 val_main_v136 val_main_v135 val_main_v134 val_main_v133 val_main_v132 val_main_v131 val_main_v130 val_main_cst_14 val_main_cst_15 val_main_cst_16
  generalize val_main_v129 (F := Ideal) x0 x1 x2 x3 = y at hs ⊢
  constructor
  · refine Eq.trans ?_ hs.1
    pointwise
  · refine Eq.trans ?_ hs.2
    pointwise

/-- The scatter's first index is the batch. -/
theorem row_at (b : Fin 16) (k : Fin 2) : val_main_v158 (F := Ideal) x0 x1 x2 x3 (ix3 b k (0 : Fin 2)) = BitVec.ofNat 32 b.val := by
  unfold val_main_v158 val_main_v156 val_main_v155 val_main_v149 val_main_v148 val_main_v147 val_main_c_19 val_main_v146 val_main_v145 val_main_c_18 val_main_v143 val_main_v142
  pointwise
  revert b
  decide
/-- Its second is the word of the chosen expert. -/
theorem col_at (b : Fin 16) (k : Fin 2) : val_main_v158 (F := Ideal) x0 x1 x2 x3 (ix3 b k (1 : Fin 2)) = BitVec.ofNat 32 (ranked (logitK x0 x1 x2 x3 b) (k.castLE (by decide))).val := by
  have h := place_at x0 x1 x2 x3 b k
  unfold val_main_v158 val_main_v157 val_main_v154 val_main_v153 val_main_v152 val_main_c_21 val_main_v151 val_main_v150 val_main_c_20
  generalize val_main_v144 (F := Ideal) x0 x1 x2 x3 = w at h ⊢
  pointwise
  rw [h]
  refine Idealize.ShloMosaic.Routing.wrap_of_lt _ _ ?_
  rw [BitVec.toNat_ofNat]
  omega
theorem zero_at (b : Fin 16) (e : Fin 4) : val_main_v141 (F := Ideal) (ix2 b e) = 0 := by
  unfold val_main_v141 val_main_cst_17
  pointwise

/-- Where an update lands. -/
theorem lands (b b' : Fin 16) (k : Fin 2) (e : Fin 4) :
    scatter_S16x4_S16x2x2_S16x2_n_01_01_2.resultIdx? (ix2 b k) (val_main_v158 (F := Ideal) x0 x1 x2 x3) = some (ix2 b' e)
      ↔ b = b' ∧ ranked (logitK x0 x1 x2 x3 b) (k.castLE (by decide)) = e := by
  refine (Idealize.ShloMosaic.Routing.scatter_lands2 (R := 16) (C := 4) (A := 16) (B := 2) scatter_S16x4_S16x2x2_S16x2_n_01_01_2 rfl rfl rfl
    (val_main_v158 (F := Ideal) x0 x1 x2 x3) b k b' e).trans ?_
  show (val_main_v158 (F := Ideal) x0 x1 x2 x3 (ix3 b k (0 : Fin 2))).toInt = _ ∧ (val_main_v158 (F := Ideal) x0 x1 x2 x3 (ix3 b k (1 : Fin 2))).toInt = _ ↔ _
  rw [row_at, col_at]
  generalize ranked (logitK x0 x1 x2 x3 b) (k.castLE (by decide)) = u
  have hb := b.isLt
  have hu := u.isLt
  rw [BitVec.toInt_eq_toNat_cond, BitVec.toInt_eq_toNat_cond, BitVec.toNat_ofNat, BitVec.toNat_ofNat, Fin.ext_iff, Fin.ext_iff]
  constructor
  · intro ⟨h1, h2⟩
    constructor <;> omega
  · intro ⟨h1, h2⟩
    constructor <;> omega

include hq in
/-- The gates row of a batch. -/
theorem gates_at (b : Fin 16) (e : Fin 4) : val_main_v159 (F := Ideal) x0 x1 x2 x3 (ix2 b e) = gatesK (logitK x0 x1 x2 x3 b) e := by
  have hl := lands x0 x1 x2 x3
  have hne : ∀ b, ranked (logitK x0 x1 x2 x3 b) 0 ≠ ranked (logitK x0 x1 x2 x3 b) 1 := fun b h =>
    absurd (ranked_injective _ h) (by decide)
  unfold val_main_v159 gatesK
  by_cases h0 : e = ranked (logitK x0 x1 x2 x3 b) 0
  · rw [if_pos h0]
    refine Eq.trans ?_ (soft_at x0 x1 x2 x3 hq b).1
    refine Idealize.ShloMosaic.Routing.scatter_set_hit _ _ _ _ _ _ (fun k hk => ?_) (ix2 b (0 : Fin 2)) ((hl b b 0 e).2 ⟨rfl, h0.symm⟩)
    obtain ⟨b', k', rfl⟩ : ∃ (b' : Fin 16) (k' : Fin 2), k = ix2 b' k' := ⟨k 0, k 1, by funext x; fin_cases x <;> rfl⟩
    obtain ⟨h1, h2⟩ := (hl b' b k' e).1 hk
    subst h1
    fin_cases k'
    · rfl
    · exact absurd (h0.symm.trans h2.symm) (hne _)
  · rw [if_neg h0]
    by_cases h1 : e = ranked (logitK x0 x1 x2 x3 b) 1
    · rw [if_pos h1]
      refine Eq.trans ?_ (soft_at x0 x1 x2 x3 hq b).2
      refine Idealize.ShloMosaic.Routing.scatter_set_hit _ _ _ _ _ _ (fun k hk => ?_) (ix2 b (1 : Fin 2)) ((hl b b 1 e).2 ⟨rfl, h1.symm⟩)
      obtain ⟨b', k', rfl⟩ : ∃ (b' : Fin 16) (k' : Fin 2), k = ix2 b' k' := ⟨k 0, k 1, by funext x; fin_cases x <;> rfl⟩
      obtain ⟨h3, h2⟩ := (hl b' b k' e).1 hk
      subst h3
      fin_cases k'
      · exact absurd h2.symm h0
      · rfl
    · rw [if_neg h1]
      refine (Idealize.ShloMosaic.Routing.scatter_set_miss _ _ _ _ _ fun k hk => ?_).trans (zero_at b e)
      obtain ⟨b', k', rfl⟩ : ∃ (b' : Fin 16) (k' : Fin 2), k = ix2 b' k' := ⟨k 0, k 1, by funext x; fin_cases x <;> rfl⟩
      obtain ⟨h3, h4⟩ := (hl b' b k' e).1 hk
      subst h3
      fin_cases k'
      · exact h0 h4.symm
      · exact h1 h4.symm

/-- The importance and the load of an expert. -/
def importanceK (e : Fin 4) : EReal := ∑ b : Fin 16, gatesK (logitK x0 x1 x2 x3 b) e
def loadK (e : Fin 4) : EReal := ∑ b : Fin 16, if 0 < gatesK (logitK x0 x1 x2 x3 b) e then 1 else 0

include hq in
theorem importance_at (e : Fin 4) : val_main_v160 (F := Ideal) x0 x1 x2 x3 (ix1 e) = importanceK x0 x1 x2 x3 e := by
  unfold val_main_v160 val_main_cst_22
  pointwise
  simp only [gates_at x0 x1 x2 x3 hq]
  rfl
include hq in
theorem load_at (e : Fin 4) : val_main_v164 (F := Ideal) x0 x1 x2 x3 (ix1 e) = loadK x0 x1 x2 x3 e := by
  unfold val_main_v164 val_main_v163 val_main_v162 val_main_v161 val_main_cst_23 val_main_cst_24
  pointwise
  simp only [gates_at x0 x1 x2 x3 hq, bit_value]
  rfl

theorem spread_1 (u : Fin 4 → EReal) (h : ∀ e, val_main_v160 (F := Ideal) x0 x1 x2 x3 (ix1 e) = u e) :
    val_main_v170 (F := Ideal) x0 x1 x2 x3 ix0 = spreadK u := by
  unfold val_main_v170 val_main_v169 val_main_v168 val_main_v167 val_main_v166 val_main_v165 val_main_call1_v11 val_main_call1_v10 val_main_call1_call0_v0 val_main_call1_v9 val_main_call1_v8 val_main_call1_v7 val_main_call1_v6 val_main_call1_v5 val_main_call1_v4 val_main_call1_v3 val_main_call1_v2 val_main_call1_v1 val_main_call1_v0 val_main_call1_cst val_main_call1_cst_0 val_main_call1_cst_1 val_main_call1_cst_2 val_main_call1_cst_3 val_main_call1_cst_4 val_main_cst_26 val_main_cst_27 val_main_cst_28 val_main_c_25 spreadK
  generalize val_main_v160 (F := Ideal) x0 x1 x2 x3 = y at h ⊢
  pointwise
  simp only [h]
  rw [four_less_one, if_pos]
  rw [word_3]
  exact EReal.coe_pos.mpr (by norm_num)

theorem spread_2 (u : Fin 4 → EReal) (h : ∀ e, val_main_v164 (F := Ideal) x0 x1 x2 x3 (ix1 e) = u e) :
    val_main_v176 (F := Ideal) x0 x1 x2 x3 ix0 = spreadK u := by
  unfold val_main_v176 val_main_v175 val_main_v174 val_main_v173 val_main_v172 val_main_v171 val_main_call2_v11 val_main_call2_v10 val_main_call2_call0_v0 val_main_call2_v9 val_main_call2_v8 val_main_call2_v7 val_main_call2_v6 val_main_call2_v5 val_main_call2_v4 val_main_call2_v3 val_main_call2_v2 val_main_call2_v1 val_main_call2_v0 val_main_call2_cst val_main_call2_cst_0 val_main_call2_cst_1 val_main_call2_cst_2 val_main_call2_cst_3 val_main_call2_cst_4 val_main_cst_30 val_main_cst_31 val_main_cst_32 val_main_c_29 spreadK
  generalize val_main_v164 (F := Ideal) x0 x1 x2 x3 = y at h ⊢
  pointwise
  simp only [h]
  rw [four_less_one, if_pos]
  rw [word_3]
  exact EReal.coe_pos.mpr (by norm_num)

theorem idx_at (b : Fin 16) (k : Fin 128) : val_main_v180 (F := Ideal) x0 x1 x2 x3 (ix2 b k)
    = if k.val = 0 then BitVec.ofNat 32 (ranked (logitK x0 x1 x2 x3 b) 0).val else if k.val = 1 then BitVec.ofNat 32 (ranked (logitK x0 x1 x2 x3 b) 1).val else 0#32 := by
  have h : ∀ j, val_main_v179 (F := Ideal) x0 x1 x2 x3 (ix2 b j) = _ := place_at x0 x1 x2 x3 b
  unfold val_main_v180 val_main_call3_v0 val_main_c_34
  generalize val_main_v179 (F := Ideal) x0 x1 x2 x3 = w at h ⊢
  pointwise
  by_cases h2 : k.val < 2
  · rw [dif_pos h2, h]
    by_cases h0 : k.val = 0
    · rw [if_pos h0]
      exact congrArg (fun i => BitVec.ofNat 32 (ranked (logitK x0 x1 x2 x3 b) i).val) (Fin.ext h0)
    · have h1 : k.val = 1 := by omega
      rw [if_neg h0, if_pos h1]
      exact congrArg (fun i => BitVec.ofNat 32 (ranked (logitK x0 x1 x2 x3 b) i).val) (Fin.ext h1)
  · rw [dif_neg h2, if_neg (by omega), if_neg (by omega)]
    rfl

include hq in
theorem gate_at (b : Fin 16) (k : Fin 128) : val_main_v181 (F := Ideal) x0 x1 x2 x3 (ix2 b k)
    = if k.val = 0 then gate1 (logitK x0 x1 x2 x3 b) else if k.val = 1 then gate2 (logitK x0 x1 x2 x3 b) else 0 := by
  have h := soft_at x0 x1 x2 x3 hq b
  unfold val_main_v181 val_main_call4_v0 val_main_c_35
  generalize val_main_v140 (F := Ideal) x0 x1 x2 x3 = y at h ⊢
  pointwise
  by_cases h2 : k.val < 2
  · rw [dif_pos h2]
    by_cases h0 : k.val = 0
    · rw [if_pos h0, ← h.1]
      exact congrArg (fun i => y (ix2 b i)) (Fin.ext h0)
    · have h1 : k.val = 1 := by omega
      rw [if_neg h0, if_pos h1, ← h.2]
      exact congrArg (fun i => y (ix2 b i)) (Fin.ext h1)
  · rw [dif_neg h2, if_neg (by omega), if_neg (by omega)]
    show (((0#32).toInt : ℝ) : EReal) = 0
    simp

/-- The loss of a batch, in every place. -/
def lossK : EReal := Ideal.ofBits .f32 0x3C23D70A#32 * (spreadK (importanceK x0 x1 x2 x3) + spreadK (loadK x0 x1 x2 x3))
include hq in
theorem loss_at (i : S8x128.Idx) : val_main_v182 (F := Ideal) x0 x1 x2 x3 i = lossK x0 x1 x2 x3 := by
  have h1 := spread_1 x0 x1 x2 x3 _ (importance_at x0 x1 x2 x3 hq)
  have h2 := spread_2 x0 x1 x2 x3 _ (load_at x0 x1 x2 x3 hq)
  unfold val_main_v182 val_main_v178 val_main_v177 val_main_cst_33 lossK
  generalize val_main_v170 (F := Ideal) x0 x1 x2 x3 = y at h1 ⊢
  generalize val_main_v176 (F := Ideal) x0 x1 x2 x3 = z at h2 ⊢
  pointwise
  rw [h1, h2, mul_comm]

end Cert.Moe.ChoiceRef

end
-- ==== Proof.ChoiceMeet.lean ====
/-
  The kernel's rows of 128 lanes against the reference's rows of 97 frequencies and of 4 experts.
-/
module

public import proofs.«01_k».proof.Proof.ChoiceBlock
public import proofs.«01_k».proof.Proof.ChoiceSoft

@[expose] public section

noncomputable section

namespace Cert.Moe.ChoiceMeet

open Idealize.ShloMosaic Idealize.ShloMosaic.Pointwise Cert.Moe.Choice Cert.Moe.ChoiceRef

/-- A value that is a real number. -/
def IsR (a : EReal) : Prop := ∃ r : ℝ, a = r
theorem isR_zero : IsR 0 := ⟨0, EReal.coe_zero.symm⟩
theorem isR_one : IsR 1 := ⟨1, EReal.coe_one.symm⟩
theorem isR_add {a b : EReal} (ha : IsR a) (hb : IsR b) : IsR (a + b) := by
  obtain ⟨r, rfl⟩ := ha
  obtain ⟨s, rfl⟩ := hb
  exact ⟨r + s, (EReal.coe_add r s).symm⟩
theorem isR_mul {a b : EReal} (ha : IsR a) (hb : IsR b) : IsR (a * b) := by
  obtain ⟨r, rfl⟩ := ha
  obtain ⟨s, rfl⟩ := hb
  exact ⟨r * s, (EReal.coe_mul r s).symm⟩
theorem isR_sum {ι : Type} (s : Finset ι) (f : ι → EReal) (h : ∀ i, IsR (f i)) : IsR (∑ i ∈ s, f i) := by
  classical
  induction s using Finset.induction_on with
  | empty => exact isR_zero
  | insert a s ha ih => rw [Finset.sum_insert ha]; exact isR_add (h a) ih
theorem isR_times {m n : ℕ} (x : Fin m → EReal) (t : Fin m → Fin n → EReal) (hx : ∀ l, IsR (x l)) (ht : ∀ l j, IsR (t l j)) (j : Fin n) : IsR (times x t j) :=
  isR_sum _ _ fun l => isR_mul (hx l) (ht l j)
theorem isR_maskK {n : ℕ} (key : Fin 97 → EReal) (f : Fin 97) : IsR (maskK key f) := by
  unfold maskK
  split
  · exact isR_one
  · exact isR_zero

/-! ## The matrices hold real numbers, and the matrix of the trend takes the mean of the moving averages -/

/-- The matrix of the trend: at a place and an end, how often the end's windows hold the place. -/
def trendT (j l : Fin 192) : EReal :=
  Ideal.div (∑ o : Fin 4, if nearK 1 (o.val + l.val) = j then 1 else 0) (Ideal.ofBits .f32 0x41400000#32) + Ideal.div (∑ o : Fin 8, if nearK 3 (o.val + l.val) = j then 1 else 0) (Ideal.ofBits .f32 0x41C00000#32)
    + Ideal.div (∑ o : Fin 12, if nearK 5 (o.val + l.val) = j then 1 else 0) (Ideal.ofBits .f32 0x42100000#32)

theorem coe_sum {ι : Type} (s : Finset ι) (f : ι → ℝ) : ((∑ i ∈ s, f i : ℝ) : EReal) = ∑ i ∈ s, (f i : EReal) := by
  classical
  induction s using Finset.induction_on with
  | empty => exact EReal.coe_zero
  | insert a s ha ih => rw [Finset.sum_insert ha, Finset.sum_insert ha, EReal.coe_add, ih]
theorem div_real (r s : ℝ) (hs : s ≠ 0) : Ideal.div (r : EReal) (s : EReal) = ((r / s : ℝ) : EReal) := by
  rw [Ideal.div_coe hs, ← EReal.coe_mul, mul_one_div]
theorem word_3 : Ideal.ofBits .f32 0x40400000#32 = ((3 : ℝ) : EReal) := by
  simp [Ideal.ofBits, Ideal.ieee, Nat.shiftRight_eq_div_pow, zpow_neg]
  norm_num
  rw [← EReal.coe_mul]
  norm_num
theorem word_4 : Ideal.ofBits .f32 0x40800000#32 = ((4 : ℝ) : EReal) := by
  simp [Ideal.ofBits, Ideal.ieee, Nat.shiftRight_eq_div_pow, zpow_neg]
  norm_num
  rw [← EReal.coe_mul]
  norm_num
theorem word_8 : Ideal.ofBits .f32 0x41000000#32 = ((8 : ℝ) : EReal) := by
  simp [Ideal.ofBits, Ideal.ieee, Nat.shiftRight_eq_div_pow, zpow_neg]
  norm_num
  rw [← EReal.coe_mul]
  norm_num
theorem word_12 : Ideal.ofBits .f32 0x41400000#32 = ((12 : ℝ) : EReal) := by
  simp [Ideal.ofBits, Ideal.ieee, Nat.shiftRight_eq_div_pow, zpow_neg]
  norm_num
  rw [← EReal.coe_mul]
  norm_num
theorem word_24 : Ideal.ofBits .f32 0x41C00000#32 = ((24 : ℝ) : EReal) := by
  simp [Ideal.ofBits, Ideal.ieee, Nat.shiftRight_eq_div_pow, zpow_neg]
  norm_num
  rw [← EReal.coe_mul]
  norm_num
theorem word_36 : Ideal.ofBits .f32 0x42100000#32 = ((36 : ℝ) : EReal) := by
  simp [Ideal.ofBits, Ideal.ieee, Nat.shiftRight_eq_div_pow, zpow_neg]
  norm_num
  rw [← EReal.coe_mul]
  norm_num
theorem word_192 : Ideal.ofBits .f32 0x43400000#32 = ((192 : ℝ) : EReal) := by
  simp [Ideal.ofBits, Ideal.ieee, Nat.shiftRight_eq_div_pow, zpow_neg]
  norm_num
  rw [← EReal.coe_mul]
  norm_num
theorem word_96 : Ideal.ofBits .f32 0x42C00000#32 = ((96 : ℝ) : EReal) := by
  simp [Ideal.ofBits, Ideal.ieee, Nat.shiftRight_eq_div_pow, zpow_neg]
  norm_num
  rw [← EReal.coe_mul]
  norm_num
theorem word_2 : Ideal.ofBits .f32 0x40000000#32 = ((2 : ℝ) : EReal) := by
  simp [Ideal.ofBits, Ideal.ieee, Nat.shiftRight_eq_div_pow, zpow_neg]
  norm_num
  rw [← EReal.coe_mul]
  norm_num
theorem word_neg : Ideal.ofBits .f32 0xBF800000#32 = ((-1 : ℝ) : EReal) := by
  simp [Ideal.ofBits, Ideal.ieee, Nat.shiftRight_eq_div_pow, zpow_neg]
  norm_num
  rw [← EReal.coe_mul]
  norm_num

/-- The matrix over the reals. -/
def trendR (j l : Fin 192) : ℝ :=
  (∑ o : Fin 4, if nearK 1 (o.val + l.val) = j then 1 else 0) / 12 + (∑ o : Fin 8, if nearK 3 (o.val + l.val) = j then 1 else 0) / 24 + (∑ o : Fin 12, if nearK 5 (o.val + l.val) = j then 1 else 0) / 36
theorem count_coe {k : ℕ} (p : Fin k → Fin 192) (j : Fin 192) : (∑ o, if p o = j then (1 : EReal) else 0) = ((∑ o, if p o = j then (1 : ℝ) else 0 : ℝ) : EReal) := by
  rw [coe_sum]
  refine Finset.sum_congr rfl fun o _ => ?_
  split
  · exact EReal.coe_one.symm
  · exact EReal.coe_zero.symm
theorem trendT_coe (j l : Fin 192) : trendT j l = (trendR j l : EReal) := by
  unfold trendT trendR
  rw [count_coe, count_coe, count_coe, word_12, word_24, word_36, div_real _ _ (by norm_num), div_real _ _ (by norm_num), div_real _ _ (by norm_num), ← EReal.coe_add, ← EReal.coe_add]
theorem trendT_real (j l : Fin 192) : IsR (trendT j l) := ⟨_, trendT_coe j l⟩
theorem window_sum {k : ℕ} (y : Fin 192 → ℝ) (p : Fin k → Fin 192) : ∑ j, y j * (∑ o, if p o = j then (1 : ℝ) else 0) = ∑ o, y (p o) := by
  simp only [Finset.mul_sum, mul_ite, mul_one, mul_zero]
  rw [Finset.sum_comm]
  refine Finset.sum_congr rfl fun o _ => ?_
  rw [Finset.sum_ite_eq, if_pos (Finset.mem_univ _)]
theorem trend_meet (x : Fin 192 → EReal) (hx : ∀ l, IsR (x l)) (l : Fin 192) : times x trendT l = trendK x l := by
  choose y hy using hx
  unfold times trendK
  simp only [hy, trendT_coe, ← EReal.coe_mul, ← coe_sum, word_3, word_4, word_8, word_12]
  rw [div_real _ _ (by norm_num), div_real _ _ (by norm_num), div_real _ _ (by norm_num), ← EReal.coe_add, ← EReal.coe_add, div_real _ _ (by norm_num)]
  refine congrArg _ ?_
  have h4 := window_sum y fun o : Fin 4 => nearK 1 (o.val + l.val)
  have h8 := window_sum y fun o : Fin 8 => nearK 3 (o.val + l.val)
  have h12 := window_sum y fun o : Fin 12 => nearK 5 (o.val + l.val)
  rw [← h4, ← h8, ← h12]
  simp only [Finset.sum_div, ← Finset.sum_add_distrib]
  refine Finset.sum_congr rfl fun j _ => ?_
  unfold trendR
  ring

theorem isR_neg {a : EReal} (ha : IsR a) : IsR (-a) := by
  obtain ⟨r, rfl⟩ := ha
  exact ⟨-r, (EReal.coe_neg r).symm⟩
theorem isR_sub {a b : EReal} (ha : IsR a) (hb : IsR b) : IsR (a - b) := by
  obtain ⟨r, rfl⟩ := ha
  obtain ⟨s, rfl⟩ := hb
  exact ⟨r - s, (EReal.coe_sub r s).symm⟩
theorem isR_div {a : EReal} (ha : IsR a) (s : ℝ) (hs : s ≠ 0) : IsR (Ideal.div a s) := by
  obtain ⟨r, rfl⟩ := ha
  exact ⟨r / s, div_real r s hs⟩
open Cert.GateReferenceIdeal Cert.GateReferenceIdeal.Gen Cert.GateReferenceIdeal.Read
/-- The angle and the weight of a frequency, and the four matrices, read at an index. -/
def angle (f : Fin 97) (l : Fin 192) : EReal :=
  (FloatOps.sitofp (F := Ideal) .f32 (IntOp.muli (BitVec.ofNat 32 f.val) (BitVec.ofNat 32 l.val)) : EReal) * Ideal.div (Ideal.atan2 0 (Ideal.ofBits .f32 0xBF800000#32)) (Ideal.ofBits .f32 0x42C00000#32)
def weight (f : Fin 97) : EReal :=
  Ideal.ofBits .f32 0x40000000#32 - (FloatOps.uitofp (F := Ideal) .f32 (IntOp.cmpi .eq (BitVec.ofNat 32 f.val) 0#32) : EReal) - (FloatOps.uitofp (F := Ideal) .f32 (IntOp.cmpi .eq (BitVec.ofNat 32 f.val) 96#32) : EReal)
theorem angle_at (f : Fin 97) (l : Fin 192) : val_main_v80 (F := Ideal) (ix2 f l) = angle f l := by
  unfold val_main_v80 val_main_v79 val_main_v78 val_main_v77 val_main_v76 val_main_v75 val_main_v74 val_main_v73 val_main_v72 val_main_v71 val_main_cst_3 val_main_cst_4 val_main_cst_5 angle
  pointwise
theorem weight_at (f : Fin 97) (l : Fin 192) : val_main_v89 (F := Ideal) (ix2 f l) = weight f := by
  unfold val_main_v89 val_main_v88 val_main_v87 val_main_v86 val_main_v85 val_main_v84 val_main_v83 val_main_v82 val_main_v81 val_main_v71 val_main_c val_main_c_7 val_main_cst_6 weight
  pointwise
theorem cosT_at (f : Fin 97) (l : Fin 192) : cosT l f = Ideal.cos (angle f l) := by
  unfold cosT val_main_v90
  pointwise
  rw [angle_at]
theorem sinT_at (f : Fin 97) (l : Fin 192) : sinT l f = -Ideal.sin (angle f l) := by
  unfold sinT val_main_v92 val_main_v91
  pointwise
  rw [angle_at]
theorem cosB_at (f : Fin 97) (l : Fin 192) : cosB f l = Ideal.div (weight f * Ideal.cos (angle f l)) (Ideal.ofBits .f32 0x43400000#32) := by
  unfold cosB val_main_v95 val_main_v94 val_main_v93 val_main_cst_8
  pointwise
  rw [weight_at]
  exact congrArg (fun y => Ideal.div (weight f * y) _) (cosT_at f l)
theorem sinB_at (f : Fin 97) (l : Fin 192) : sinB f l = Ideal.div (weight f * -Ideal.sin (angle f l)) (Ideal.ofBits .f32 0x43400000#32) := by
  unfold sinB val_main_v98 val_main_v97 val_main_v96 val_main_cst_9
  pointwise
  rw [weight_at]
  exact congrArg (fun y => Ideal.div (weight f * y) _) (sinT_at f l)
theorem angle_real (f : Fin 97) (l : Fin 192) : IsR (angle f l) := by
  unfold angle
  rw [word_96, word_neg, ← EReal.coe_zero]
  exact isR_mul ⟨_, rfl⟩ (isR_div ⟨_, rfl⟩ _ (by norm_num))
theorem weight_real (f : Fin 97) : IsR (weight f) := by
  unfold weight
  rw [word_2]
  exact isR_sub (isR_sub ⟨_, rfl⟩ ⟨_, rfl⟩) ⟨_, rfl⟩
theorem cosT_real (l : Fin 192) (f : Fin 97) : IsR (cosT l f) := by
  obtain ⟨r, hr⟩ := angle_real f l
  rw [cosT_at, hr]
  exact ⟨_, rfl⟩
theorem sinT_real (l : Fin 192) (f : Fin 97) : IsR (sinT l f) := by
  obtain ⟨r, hr⟩ := angle_real f l
  rw [sinT_at, hr]
  exact isR_neg ⟨_, rfl⟩
theorem cosB_real (f : Fin 97) (l : Fin 192) : IsR (cosB f l) := by
  rw [cosB_at, ← cosT_at, word_192]
  exact isR_div (isR_mul (weight_real f) (cosT_real l f)) _ (by norm_num)
theorem sinB_real (f : Fin 97) (l : Fin 192) : IsR (sinB f l) := by
  rw [sinB_at, ← sinT_at, word_192]
  exact isR_div (isR_mul (weight_real f) (sinT_real l f)) _ (by norm_num)

/-- A sum over 128 lanes whose lanes past `n` are zero. -/
theorem sum_pad {n : ℕ} (hn : n ≤ 128) (g : Fin 128 → EReal) (h : ∀ f : Fin 128, n ≤ f.val → g f = 0) : ∑ f, g f = ∑ f : Fin n, g (f.castLE hn) := by
  refine (Finset.sum_of_injOn (Fin.castLE hn) (fun a _ b _ hab => Fin.castLE_injective hn hab) (fun _ _ => Finset.mem_coe.2 (Finset.mem_univ _)) (fun f _ hf => h f ?_) fun _ _ => rfl).symm
  by_contra hl
  exact hf ⟨⟨f.val, not_le.1 hl⟩, Finset.mem_coe.2 (Finset.mem_univ _), rfl⟩

/-- A sum over 256 rows of which those of one batch count. -/
theorem sum_rows (b : Fin 16) (g : Fin 256 → EReal) :
    (∑ q : Fin 256, if q.val / 16 = b.val then g q else 0) = ∑ n : Fin 16, g ⟨b.val * 16 + n.val, by omega⟩ := by
  refine (Finset.sum_of_injOn (fun n : Fin 16 => (⟨b.val * 16 + n.val, by omega⟩ : Fin 256)) (fun a _ c _ hac => ?_) (fun _ _ => Finset.mem_coe.2 (Finset.mem_univ _)) (fun q _ hq => ?_) fun n _ => ?_).symm
  · have h := congrArg Fin.val hac
    exact Fin.ext (by simp only at h; omega)
  · refine if_neg fun h => hq ⟨⟨q.val % 16, Nat.mod_lt _ (by decide)⟩, Finset.mem_coe.2 (Finset.mem_univ _), Fin.ext ?_⟩
    simp only
    omega
  · exact (if_pos (by simp only; omega)).symm

section series
variable (x : Fin 192 → EReal) (t : Fin 192 → Fin 192 → EReal) (cs sn : Fin 192 → Fin 97 → EReal) (ci si : Fin 97 → Fin 192 → EReal)
  (cs' sn' : Fin 192 → Fin 128 → EReal) (ci' si' : Fin 128 → Fin 192 → EReal)
  (hcs : ∀ l f, cs' l f = if h : f.val < 97 then cs l ⟨f.val, h⟩ else 0) (hsn : ∀ l f, sn' l f = if h : f.val < 97 then sn l ⟨f.val, h⟩ else 0)
  (hci : ∀ f l, ci' f l = if h : f.val < 97 then ci ⟨f.val, h⟩ l else 0) (hsi : ∀ f l, si' f l = if h : f.val < 97 then si ⟨f.val, h⟩ l else 0)
  (rx : ∀ l, IsR (x l)) (rc : ∀ l f, IsR (cs l f)) (rs : ∀ l f, IsR (sn l f))

include rx rc rs in
theorem amp_low (f : Fin 97) : ((-1 : ℝ) : EReal) < ampK x cs sn f := by
  obtain ⟨r, hr⟩ := isR_times x cs rx rc f
  obtain ⟨s, hs⟩ := isR_times x sn rx rs f
  unfold ampK
  rw [hr, hs, ← EReal.coe_mul, ← EReal.coe_mul, ← EReal.coe_add, Ideal.sqrt_coe, if_neg (by nlinarith [mul_self_nonneg r, mul_self_nonneg s])]
  exact EReal.coe_lt_coe_iff.2 (lt_of_lt_of_le (by norm_num) (Real.sqrt_nonneg _))

include hcs in
theorem times_in (f : Fin 97) : times x cs' (f.castLE (by decide)) = times x cs f :=
  Finset.sum_congr rfl fun l _ => congrArg (x l * ·) ((hcs l _).trans (dif_pos f.isLt))

include hcs hsn rx rc rs in
theorem mask_meet (f : Fin 97) : mask3 (ampOf x cs' sn') (f.castLE (by decide)) = maskK (ampK x cs sn) f := by
  have hlo := amp_low x cs sn rx rc rs
  have hpad : ∀ l : Fin 128, 97 ≤ l.val → ampOf x cs' sn' l ≤ ((-1 : ℝ) : EReal) := fun l h => le_of_eq (if_neg (by omega))
  have hkey : ∀ f : Fin 97, ampOf x cs' sn' (f.castLE (by decide)) = ampK x cs sn f := fun f => by
    unfold ampOf ampRow ampK
    rw [if_pos (by exact f.isLt), times_in x cs cs' hcs, times_in x sn sn' hsn]
  have hd : ((-2 : ℝ) : EReal) ≤ ((-1 : ℝ) : EReal) := EReal.coe_le_coe_iff.2 (by norm_num)
  have e0 := round0 (by decide) _ _ hlo _ hpad hkey (by decide)
  have e1 := round1 (by decide) _ _ _ hlo hd _ hpad hkey (by decide)
  have e2 := round2 (by decide) _ _ _ hlo hd _ hpad hkey (by decide)
  unfold mask3 maskK
  rw [e2, e1, e0]
  have hi : ∀ g : Fin 97, ((f.castLE (by decide) : Fin 128) = g.castLE (by decide)) = (f = g) := fun g => propext (Fin.castLE_inj)
  simp only [hi]
  show (if f = ranked (ampK x cs sn) 2 then (1 : EReal) else if f = ranked (ampK x cs sn) 1 then 1 else if f = ranked (ampK x cs sn) 0 then 1 else 0) = _
  by_cases h0 : f = ranked (ampK x cs sn) 0 <;> by_cases h1 : f = ranked (ampK x cs sn) 1 <;> by_cases h2 : f = ranked (ampK x cs sn) 2 <;> simp only [h0, h1, h2, if_true, if_false, true_or, or_true, or_self, ite_self]

include hcs hsn hci hsi rx rc rs in
theorem new_meet (l : Fin 192) (ht : times x t l = trendK x l) : newRow x t cs' sn' ci' si' l = newK x cs sn ci si l := by
  unfold newRow newK
  rw [sum_pad (n := 97) (by decide) _ fun f hf => by rw [hci, dif_neg (by omega), mul_zero],
    sum_pad (n := 97) (by decide) _ fun f hf => by rw [hsi, dif_neg (by omega), mul_zero]]
  rw [add_assoc, add_comm (times x t l), ← add_assoc, ht]
  have hc : ∀ f : Fin 97, ci' (f.castLE (by decide)) l = ci f l := fun f => (hci _ l).trans (dif_pos f.isLt)
  have hs : ∀ f : Fin 97, si' (f.castLE (by decide)) l = si f l := fun f => (hsi _ l).trans (dif_pos f.isLt)
  simp only [mask_meet x cs sn cs' sn' hcs hsn rx rc rs, times_in x cs cs' hcs, times_in x sn sn' hsn, hc, hs, mul_comm (ci _ l), mul_comm (si _ l)]
end series

section logits
variable (x0 : FVec Ideal Cert.GateReferenceIdeal.S16x192x16x128 .f32) (x1 : FVec Ideal Cert.GateReferenceIdeal.S16x1 .f32) (x2 : FVec Ideal Cert.GateReferenceIdeal.S1 .f32)
  (x3 : FVec Ideal Cert.GateReferenceIdeal.S192x4 .f32)
  (r0 : ∀ i, IsR (x0 i)) (r1 : ∀ i, IsR (x1 i)) (r2 : ∀ i, IsR (x2 i)) (r3 : ∀ i, IsR (x3 i))

include r0 r1 r2 r3 in
/-- From real arguments, real logits. -/
theorem logit_real (b : Fin 16) (e : Fin 4) : IsR (logitK x0 x1 x2 x3 b e) := by
  unfold logitK newK
  refine isR_sum _ _ fun l => isR_mul (isR_add (isR_sum _ _ fun n => isR_mul (isR_add (isR_add (r0 _) (isR_add (isR_sum _ _ fun f => ?_) (isR_sum _ _ fun f => ?_))) ?_) (r1 _)) (r2 _)) (r3 _)
  · exact isR_mul (cosB_real f l) (isR_mul (isR_times _ _ (fun _ => r0 _) cosT_real f) (isR_maskK (n := 97) _ f))
  · exact isR_mul (sinB_real f l) (isR_mul (isR_times _ _ (fun _ => r0 _) sinT_real f) (isR_maskK (n := 97) _ f))
  · rw [← trend_meet _ fun _ => r0 _]
    exact isR_times _ _ (fun _ => r0 _) trendT_real l

variable (y0 : Vec Ideal Cert.GateIdeal.S256x192 .f32) (y1 : Vec Ideal Cert.GateIdeal.S192x192 .f32) (y2 y3 : Vec Ideal Cert.GateIdeal.S192x128 .f32) (y4 y5 : Vec Ideal Cert.GateIdeal.S128x192 .f32)
  (y6 : Vec Ideal Cert.GateIdeal.S8x256 .f32) (y7 : Vec Ideal Cert.GateIdeal.S8x128 .f32) (y8 : Vec Ideal Cert.GateIdeal.S192x128 .f32)
  (h0 : ∀ (b n : Fin 16) (q : Fin 256), q.val = b.val * 16 + n.val → ∀ l : Fin 192, y0 (ix2 q l) = x0 (ix4 b l n (0 : Fin 128)))
  (h1 : ∀ j l : Fin 192, y1 (ix2 j l) = trendT j l)
  (h2 : ∀ (l : Fin 192) (f : Fin 128), y2 (ix2 l f) = if h : f.val < 97 then cosT l (⟨f.val, h⟩ : Fin 97) else (0 : EReal))
  (h3 : ∀ (l : Fin 192) (f : Fin 128), y3 (ix2 l f) = if h : f.val < 97 then sinT l (⟨f.val, h⟩ : Fin 97) else (0 : EReal))
  (h4 : ∀ (l : Fin 192) (f : Fin 128), y4 (ix2 f l) = if h : f.val < 97 then cosB (⟨f.val, h⟩ : Fin 97) l else (0 : EReal))
  (h5 : ∀ (l : Fin 192) (f : Fin 128), y5 (ix2 f l) = if h : f.val < 97 then sinB (⟨f.val, h⟩ : Fin 97) l else (0 : EReal))
  (h6 : ∀ (b n : Fin 16) (q : Fin 256), q.val = b.val * 16 + n.val → y6 (ix2 (0 : Fin 8) q) = x1 (ix2 n (0 : Fin 1)))
  (h7 : y7 (ix2 (0 : Fin 8) (0 : Fin 128)) = x2 (ix1 (0 : Fin 1)))
  (h8 : ∀ (l : Fin 192) (f : Fin 128), y8 (ix2 l f) = if h : f.val < 4 then x3 (ix2 l (⟨f.val, h⟩ : Fin 4)) else (0 : EReal))

include h0 h1 h2 h3 h4 h5 h6 h7 h8 r0 in
theorem logit_meet (b : Fin 16) (e : Fin 4) : logitOf y0 y1 y2 y3 y4 y5 y6 y7 y8 b (e.castLE (by decide)) = logitK x0 x1 x2 x3 b e := by
  unfold logitOf logitRow logitK
  rw [if_pos (by exact e.isLt)]
  refine Finset.sum_congr rfl fun l _ => ?_
  refine congrArg₂ (· * ·) ?_ ((h8 l _).trans (dif_pos e.isLt))
  unfold mixed
  refine congrArg₂ (· + ·) ?_ h7
  rw [sum_rows b]
  refine Finset.sum_congr rfl fun n _ => ?_
  rw [mul_comm]
  refine congrArg₂ (· * ·) ?_ (h6 b n _ rfl)
  have hx : (fun j : Fin 192 => y0 (ix2 (⟨b.val * 16 + n.val, by omega⟩ : Fin 256) j)) = fun l => x0 (ix4 b l n (0 : Fin 128)) := funext fun j => h0 b n _ rfl j
  have ht : (fun j l : Fin 192 => y1 (ix2 j l)) = trendT := funext fun j => funext fun l => h1 j l
  beta_reduce
  rw [hx, ht]
  exact new_meet _ _ cosT sinT cosB sinB _ _ _ _ h2 h3 (fun f l => h4 l f) (fun f l => h5 l f) (fun _ => r0 _) cosT_real sinT_real l (trend_meet _ (fun _ => r0 _) l)
theorem logit_pad (b : Fin 16) (e : Fin 128) (h : 4 ≤ e.val) : logitOf y0 y1 y2 y3 y4 y5 y6 y7 y8 b e = ⊥ := if_neg (by omega)
end logits

section choice
variable (a : Fin 128 → EReal) (q : Fin 4 → EReal) (hq : ∀ e, IsR (q e)) (ha : ∀ e : Fin 4, a (e.castLE (by decide)) = q e) (hp : ∀ e : Fin 128, 4 ≤ e.val → a e = ⊥)
include hq ha hp

theorem one_meet : one a = (ranked q 0).castLE (by decide) := by
  refine round0 (by decide) q ⊥ (fun f => ?_) a (fun l h => (hp l h).le) ha (by decide)
  obtain ⟨r, hr⟩ := hq f
  rw [hr]
  exact EReal.bot_lt_coe r
theorem two_meet : two a = (ranked q 1).castLE (by decide) := by
  refine round1 (by decide) q ⊥ ⊥ (fun f => ?_) le_rfl a (fun l h => (hp l h).le) ha (by decide)
  obtain ⟨r, hr⟩ := hq f
  rw [hr]
  exact EReal.bot_lt_coe r
omit hq ha hp in
theorem ranked_ne : ranked q 1 ≠ ranked q 0 := fun h => absurd (ranked_injective q h) (by decide)
theorem gap_meet : gap a = gapK q := by
  have h1 := one_meet a q hq ha hp
  have h2 := two_meet a q hq ha hp
  unfold gap gapK
  rw [h2, h1, ha]
  have : pick a = (ranked q 0).castLE (by decide) := h1
  unfold strike
  rw [this, if_neg (fun h => ranked_ne q (Fin.castLE_injective _ h)), ha]
theorem gateOne_meet : gateOne a = gate1 q := by
  unfold gateOne gate1
  rw [gap_meet a q hq ha hp]
theorem gateTwo_meet : gateTwo a = gate2 q := by
  unfold gateTwo gate2
  rw [gap_meet a q hq ha hp]
theorem lane_gates (e : Fin 4) : ((if (e.castLE (by decide) : Fin 128) = one a then gateOne a else 0) + if (e.castLE (by decide) : Fin 128) = two a then gateTwo a else 0) = gatesK q e := by
  rw [one_meet a q hq ha hp, two_meet a q hq ha hp, gateOne_meet a q hq ha hp, gateTwo_meet a q hq ha hp]
  have hi : ∀ g : Fin 4, ((e.castLE (by decide) : Fin 128) = g.castLE (by decide)) = (e = g) := fun g => propext (Fin.castLE_inj)
  simp only [hi]
  unfold gatesK
  by_cases h0 : e = ranked q 0
  · rw [if_pos h0, if_pos h0, if_neg (fun h => ranked_ne q (h.symm.trans h0)), add_zero]
  · rw [if_neg h0, if_neg h0, zero_add]
theorem lane_load (e : Fin 4) : (if (e.castLE (by decide) : Fin 128) = one a ∨ (e.castLE (by decide) : Fin 128) = two a then (1 : EReal) else 0) = if 0 < gatesK q e then 1 else 0 := by
  rw [one_meet a q hq ha hp, two_meet a q hq ha hp]
  have hi : ∀ g : Fin 4, ((e.castLE (by decide) : Fin 128) = g.castLE (by decide)) = (e = g) := fun g => propext (Fin.castLE_inj)
  simp only [hi]
  obtain ⟨p1, p2⟩ := gates_pos q hq
  unfold gatesK
  by_cases h0 : e = ranked q 0
  · rw [if_pos h0, if_pos (Or.inl h0), if_pos p1]
  · by_cases h1 : e = ranked q 1
    · rw [if_neg h0, if_pos h1, if_pos (Or.inr h1), if_pos p2]
    · rw [if_neg h0, if_neg h1, if_neg (by tauto), if_neg (lt_irrefl _)]
end choice

/-- The coefficient of variation over 128 lanes of which four count. -/
theorem spread_meet (u : Fin 128 → EReal) (w : Fin 4 → EReal) (h : ∀ e : Fin 4, u (e.castLE (by decide)) = w e) : spread u = spreadK w := by
  have hl : ∀ e : Fin 4, lane (e.castLE (by decide)) = 1 := fun e => if_pos e.isLt
  have hz : ∀ e : Fin 128, 4 ≤ e.val → lane e = 0 := fun e he => if_neg (by omega)
  have hs : ∑ k, u k * lane k = ∑ k, w k := by
    rw [sum_pad (n := 4) (by decide) _ fun f hf => by rw [hz f hf, mul_zero]]
    simp only [hl, h, mul_one]
  unfold spread spreadK
  rw [hs, sum_pad (n := 4) (by decide) _ fun f hf => by rw [hz f hf, mul_zero]]
  simp only [hl, h, mul_one]

end Cert.Moe.ChoiceMeet

end
-- ==== Proof.ChoiceTables.lean ====
/-
  What the host lines before the gate kernel leave in the arrays that its windows read, at an index.
-/
module

public import proofs.«01_k».proof.Proof.ChoiceMeet
public import Idealize.ShloMosaic.Lib.Claim
public import Idealize.ShloMosaic.Lib.StableHlo.ReadAt
public import Idealize.ShloMosaic.Lib.Pointwise
public import Idealize.ShloMosaic.Lib.WordCmp

@[expose] public section

set_option maxRecDepth 10000

noncomputable section

namespace Cert.Moe.Choice

open Idealize.ShloMosaic Idealize.ShloMosaic.TcCoe Idealize.ShloMosaic.Pointwise Cert.GateIdeal Cert.GateIdeal.Gen Cert.Moe.ChoiceRef Cert.Moe.ChoiceMeet

/-! ## The words of the trend's matrix -/

theorem small_slt (a b : ℕ) (ha : a < 1000) (hb : b < 1000) : (BitVec.ofNat 32 a).slt (BitVec.ofNat 32 b) = decide (a < b) := by
  have e : ∀ n, n < 1000 → (BitVec.ofNat 32 n).toInt = (n : ℤ) := fun n h => by
    have hn : (BitVec.ofNat 32 n).toNat = n := by rw [BitVec.toNat_ofNat]; omega
    rw [BitVec.toInt_eq_toNat_of_lt (by rw [hn]; omega), hn]
  rw [BitVec.slt, e a ha, e b hb]
  exact decide_eq_decide.2 Nat.cast_lt
theorem near_word (a o l : ℕ) (ha : a < 20) (ho : o < 20) (hl : l < 192) :
    IntOp.minsi (IntOp.subi (IntOp.maxsi (IntOp.addi (BitVec.ofNat 32 l) (BitVec.ofNat 32 o)) (BitVec.ofNat 32 a)) (BitVec.ofNat 32 a)) 191#32 = BitVec.ofNat 32 (nearK a (o + l)).val := by
  have h1 : IntOp.addi (BitVec.ofNat 32 l) (BitVec.ofNat 32 o) = BitVec.ofNat 32 (o + l) := by
    rw [Nat.add_comm]
    exact (BitVec.ofNat_add l o).symm
  have h2 : IntOp.maxsi (BitVec.ofNat 32 (o + l)) (BitVec.ofNat 32 a) = BitVec.ofNat 32 (max (o + l) a) := by
    unfold IntOp.maxsi
    rw [small_slt _ _ (by omega) (by omega)]
    by_cases h : a < o + l
    · rw [if_pos (by simpa using h), max_eq_left h.le]
    · rw [if_neg (by simpa using h), max_eq_right (by omega)]
  have h3 : IntOp.subi (BitVec.ofNat 32 (max (o + l) a)) (BitVec.ofNat 32 a) = BitVec.ofNat 32 (o + l - a) := by
    apply BitVec.eq_of_toNat_eq
    unfold IntOp.subi
    rw [BitVec.toNat_sub, BitVec.toNat_ofNat, BitVec.toNat_ofNat, BitVec.toNat_ofNat]
    omega
  rw [h1, h2, h3]
  unfold IntOp.minsi nearK
  rw [show (191#32 : BitVec 32) = BitVec.ofNat 32 191 from rfl, small_slt _ _ (by omega) (by omega)]
  by_cases h : o + l - a < 191
  · rw [if_pos (by simpa using h)]
    exact congrArg _ (min_eq_left h.le).symm
  · rw [if_neg (by simpa using h)]
    exact congrArg _ (min_eq_right (by omega)).symm
theorem place_eq (i j : Fin 192) : IntOp.cmpi .eq (BitVec.ofNat 32 i.val) (BitVec.ofNat 32 j.val) = BitVec.ofBool (decide (i = j)) := by
  have hi := i.isLt
  have hj := j.isLt
  rw [WordCmp.cmpi_eq_eq]
  refine congrArg _ (decide_eq_decide.2 ?_)
  rw [← BitVec.toNat_inj, BitVec.toNat_ofNat, BitVec.toNat_ofNat, Fin.ext_iff]
  omega
theorem count_word {k : ℕ} (hk : k ≤ 12) (a : ℕ) (ha : a < 20) (j l : Fin 192) :
    (∑ o : Fin k, (FloatOps.uitofp (F := Ideal) .f32 (IntOp.cmpi .eq (IntOp.minsi (IntOp.subi (IntOp.maxsi (IntOp.addi (BitVec.ofNat 32 l.val) (BitVec.ofNat 32 o.val)) (BitVec.ofNat 32 a)) (BitVec.ofNat 32 a)) 191#32) (BitVec.ofNat 32 j.val)) : EReal))
      = ∑ o : Fin k, if nearK a (o.val + l.val) = j then 1 else 0 := by
  refine Finset.sum_congr rfl fun o _ => ?_
  rw [near_word a o.val l.val ha (by omega) l.isLt, place_eq, bit_value]

variable (m : (ℓ : Loc nD τ sig) → Buf (Elt Ideal) ℓ) (c : Dev nD)

theorem tab_t (j l : Fin 192) : V m c main_v75 (ix2 j l) = trendT j l := by
  unfold V
  after_reads_at
  unfold trendT
  exact congrArg₂ (· + ·) (congrArg₂ (· + ·) (congrArg (Ideal.div · _) (count_word (by decide) 1 (by decide) j l)) (congrArg (Ideal.div · _) (count_word (by decide) 3 (by decide) j l)))
    (congrArg (Ideal.div · _) (count_word (by decide) 5 (by decide) j l))
theorem tab_c (l : Fin 192) (f : Fin 128) :
    V m c main_v77 (ix2 l f) = if h : f.val < 97 then cosT l (⟨f.val, h⟩ : Fin 97) else (0 : EReal) := by
  unfold V
  after_reads_at
  refine dite_congr rfl (fun h => (cosT_at (⟨f.val, h⟩ : Fin 97) l).symm) fun _ => ?_
  show (((0#32).toInt : ℝ) : EReal) = 0
  simp
theorem tab_ci (l : Fin 192) (f : Fin 128) :
    V m c main_v80 (ix2 f l) = if h : f.val < 97 then cosB (⟨f.val, h⟩ : Fin 97) l else (0 : EReal) := by
  unfold V
  after_reads_at
  refine dite_congr rfl (fun h => (cosB_at (⟨f.val, h⟩ : Fin 97) l).symm) fun _ => ?_
  show (((0#32).toInt : ℝ) : EReal) = 0
  simp
theorem tab_sn (l : Fin 192) (f : Fin 128) :
    V m c main_v79 (ix2 l f) = if h : f.val < 97 then sinT l (⟨f.val, h⟩ : Fin 97) else (0 : EReal) := by
  unfold V
  after_reads_at
  refine dite_congr rfl (fun h => (sinT_at (⟨f.val, h⟩ : Fin 97) l).symm) fun _ => ?_
  show (((0#32).toInt : ℝ) : EReal) = 0
  simp
theorem tab_si (l : Fin 192) (f : Fin 128) :
    V m c main_v81 (ix2 f l) = if h : f.val < 97 then sinB (⟨f.val, h⟩ : Fin 97) l else (0 : EReal) := by
  unfold V
  after_reads_at
  refine dite_congr rfl (fun h => (sinB_at (⟨f.val, h⟩ : Fin 97) l).symm) fun _ => ?_
  show (((0#32).toInt : ℝ) : EReal) = 0
  simp
theorem tab_x (b : Fin 16) (n : Fin 16) (q : Fin 256) (hq : q.val = b.val * 16 + n.val) (l : Fin 192) :
    V m c main_v85 (ix2 q l) = m ((c : Thread nD τ).loc main_arg0) (ix4 b l n (0 : Fin 128)) := by
  unfold V
  after_reads_at
  have e1 : (⟨q.val / 16, by omega⟩ : Fin 16) = b := Fin.ext (by show q.val / 16 = b.val; omega)
  have e2 : (⟨q.val % 16, by omega⟩ : Fin 16) = n := Fin.ext (by show q.val % 16 = n.val; omega)
  exact congrArg₂ (fun b n => m ((c : Thread nD τ).loc main_arg0) (ix4 b l n (0 : Fin 128))) e1 e2
theorem tab_w (b : Fin 16) (n : Fin 16) (q : Fin 256) (hq : q.val = b.val * 16 + n.val) :
    V m c main_v91 (ix2 (0 : Fin 8) q) = m ((c : Thread nD τ).loc main_arg1) (ix2 n (0 : Fin 1)) := by
  unfold V
  after_reads_at
  have e2 : (⟨q.val % 16, by omega⟩ : Fin 16) = n := Fin.ext (by show q.val % 16 = n.val; omega)
  exact congrArg (fun n => m ((c : Thread nD τ).loc main_arg1) (ix2 n (0 : Fin 1))) e2
theorem tab_s :
    V m c main_v93 (ix2 (0 : Fin 8) (0 : Fin 128)) = m ((c : Thread nD τ).loc main_arg2) (ix1 (0 : Fin 1)) := by
  unfold V
  after_reads_at
theorem tab_g (l : Fin 192) (f : Fin 128) :
    V m c main_v94 (ix2 l f) = if h : f.val < 4 then m ((c : Thread nD τ).loc main_arg3) (ix2 l (⟨f.val, h⟩ : Fin 4)) else (0 : EReal) := by
  unfold V
  after_reads_at
  refine dite_congr rfl (fun _ => rfl) fun _ => ?_
  show (((0#32).toInt : ℝ) : EReal) = 0
  simp

/-! ## The windows' blocks are the whole tables -/

theorem emb_0 (t : Fin cfg0.N) (i : Fin 256) (j : Fin 192) : ((cfg0.win 0).blk t).view.emb (ix2 i j) = ix2 i j := by
  funext a
  apply Fin.ext
  refine (Pipeline.Window.rect_emb_val (cfg0.win 0) t _ a).trans ?_
  fin_cases a
  · show 0 * 256 + i.val = i.val
    omega
  · show 0 * 192 + j.val = j.val
    omega
theorem blk_0 (t : Fin cfg0.N) (i : Fin 256) (j : Fin 192) : iblk m c 0 t (ix2 i j) = V m c main_v85 (ix2 i j) := congrArg (V m c main_v85) (emb_0 t i j)
theorem emb_1 (t : Fin cfg0.N) (i : Fin 192) (j : Fin 192) : ((cfg0.win 1).blk t).view.emb (ix2 i j) = ix2 i j := by
  funext a
  apply Fin.ext
  refine (Pipeline.Window.rect_emb_val (cfg0.win 1) t _ a).trans ?_
  fin_cases a
  · show 0 * 192 + i.val = i.val
    omega
  · show 0 * 192 + j.val = j.val
    omega
theorem blk_1 (t : Fin cfg0.N) (i : Fin 192) (j : Fin 192) : iblk m c 1 t (ix2 i j) = V m c main_v75 (ix2 i j) := congrArg (V m c main_v75) (emb_1 t i j)
theorem emb_2 (t : Fin cfg0.N) (i : Fin 192) (j : Fin 128) : ((cfg0.win 2).blk t).view.emb (ix2 i j) = ix2 i j := by
  funext a
  apply Fin.ext
  refine (Pipeline.Window.rect_emb_val (cfg0.win 2) t _ a).trans ?_
  fin_cases a
  · show 0 * 192 + i.val = i.val
    omega
  · show 0 * 128 + j.val = j.val
    omega
theorem blk_2 (t : Fin cfg0.N) (i : Fin 192) (j : Fin 128) : iblk m c 2 t (ix2 i j) = V m c main_v77 (ix2 i j) := congrArg (V m c main_v77) (emb_2 t i j)
theorem emb_3 (t : Fin cfg0.N) (i : Fin 192) (j : Fin 128) : ((cfg0.win 3).blk t).view.emb (ix2 i j) = ix2 i j := by
  funext a
  apply Fin.ext
  refine (Pipeline.Window.rect_emb_val (cfg0.win 3) t _ a).trans ?_
  fin_cases a
  · show 0 * 192 + i.val = i.val
    omega
  · show 0 * 128 + j.val = j.val
    omega
theorem blk_3 (t : Fin cfg0.N) (i : Fin 192) (j : Fin 128) : iblk m c 3 t (ix2 i j) = V m c main_v79 (ix2 i j) := congrArg (V m c main_v79) (emb_3 t i j)
theorem emb_4 (t : Fin cfg0.N) (i : Fin 128) (j : Fin 192) : ((cfg0.win 4).blk t).view.emb (ix2 i j) = ix2 i j := by
  funext a
  apply Fin.ext
  refine (Pipeline.Window.rect_emb_val (cfg0.win 4) t _ a).trans ?_
  fin_cases a
  · show 0 * 128 + i.val = i.val
    omega
  · show 0 * 192 + j.val = j.val
    omega
theorem blk_4 (t : Fin cfg0.N) (i : Fin 128) (j : Fin 192) : iblk m c 4 t (ix2 i j) = V m c main_v80 (ix2 i j) := congrArg (V m c main_v80) (emb_4 t i j)
theorem emb_5 (t : Fin cfg0.N) (i : Fin 128) (j : Fin 192) : ((cfg0.win 5).blk t).view.emb (ix2 i j) = ix2 i j := by
  funext a
  apply Fin.ext
  refine (Pipeline.Window.rect_emb_val (cfg0.win 5) t _ a).trans ?_
  fin_cases a
  · show 0 * 128 + i.val = i.val
    omega
  · show 0 * 192 + j.val = j.val
    omega
theorem blk_5 (t : Fin cfg0.N) (i : Fin 128) (j : Fin 192) : iblk m c 5 t (ix2 i j) = V m c main_v81 (ix2 i j) := congrArg (V m c main_v81) (emb_5 t i j)
theorem emb_6 (t : Fin cfg0.N) (i : Fin 8) (j : Fin 256) : ((cfg0.win 6).blk t).view.emb (ix2 i j) = ix2 i j := by
  funext a
  apply Fin.ext
  refine (Pipeline.Window.rect_emb_val (cfg0.win 6) t _ a).trans ?_
  fin_cases a
  · show 0 * 8 + i.val = i.val
    omega
  · show 0 * 256 + j.val = j.val
    omega
theorem blk_6 (t : Fin cfg0.N) (i : Fin 8) (j : Fin 256) : iblk m c 6 t (ix2 i j) = V m c main_v91 (ix2 i j) := congrArg (V m c main_v91) (emb_6 t i j)
theorem emb_7 (t : Fin cfg0.N) (i : Fin 8) (j : Fin 128) : ((cfg0.win 7).blk t).view.emb (ix2 i j) = ix2 i j := by
  funext a
  apply Fin.ext
  refine (Pipeline.Window.rect_emb_val (cfg0.win 7) t _ a).trans ?_
  fin_cases a
  · show 0 * 8 + i.val = i.val
    omega
  · show 0 * 128 + j.val = j.val
    omega
theorem blk_7 (t : Fin cfg0.N) (i : Fin 8) (j : Fin 128) : iblk m c 7 t (ix2 i j) = V m c main_v93 (ix2 i j) := congrArg (V m c main_v93) (emb_7 t i j)
theorem emb_8 (t : Fin cfg0.N) (i : Fin 192) (j : Fin 128) : ((cfg0.win 8).blk t).view.emb (ix2 i j) = ix2 i j := by
  funext a
  apply Fin.ext
  refine (Pipeline.Window.rect_emb_val (cfg0.win 8) t _ a).trans ?_
  fin_cases a
  · show 0 * 192 + i.val = i.val
    omega
  · show 0 * 128 + j.val = j.val
    omega
theorem blk_8 (t : Fin cfg0.N) (i : Fin 192) (j : Fin 128) : iblk m c 8 t (ix2 i j) = V m c main_v94 (ix2 i j) := congrArg (V m c main_v94) (emb_8 t i j)
theorem emb_9 (t : Fin cfg0.N) (i : Fin 16) (j : Fin 128) : ((cfg0.win 9).blk t).view.emb (ix2 i j) = ix2 i j := by
  funext a
  apply Fin.ext
  refine (Pipeline.Window.rect_emb_val (cfg0.win 9) t _ a).trans ?_
  fin_cases a
  · show 0 * 16 + i.val = i.val
    omega
  · show 0 * 128 + j.val = j.val
    omega
theorem emb_10 (t : Fin cfg0.N) (i : Fin 16) (j : Fin 128) : ((cfg0.win 10).blk t).view.emb (ix2 i j) = ix2 i j := by
  funext a
  apply Fin.ext
  refine (Pipeline.Window.rect_emb_val (cfg0.win 10) t _ a).trans ?_
  fin_cases a
  · show 0 * 16 + i.val = i.val
    omega
  · show 0 * 128 + j.val = j.val
    omega
theorem emb_11 (t : Fin cfg0.N) (i : Fin 8) (j : Fin 128) : ((cfg0.win 11).blk t).view.emb (ix2 i j) = ix2 i j := by
  funext a
  apply Fin.ext
  refine (Pipeline.Window.rect_emb_val (cfg0.win 11) t _ a).trans ?_
  fin_cases a
  · show 0 * 8 + i.val = i.val
    omega
  · show 0 * 128 + j.val = j.val
    omega

/-- The logits over the tables. -/
def tabLogit (b : Fin 16) (e : Fin 128) : EReal :=
  logitOf (V m c main_v85) (V m c main_v75) (V m c main_v77) (V m c main_v79) (V m c main_v80) (V m c main_v81) (V m c main_v91) (V m c main_v93) (V m c main_v94) b e

theorem logit_blocks (t : Fin cfg0.N) :
    logitOf (iblk m c 0 t) (iblk m c 1 t) (iblk m c 2 t) (iblk m c 3 t) (iblk m c 4 t) (iblk m c 5 t) (iblk m c 6 t) (iblk m c 7 t) (iblk m c 8 t) = tabLogit m c := by
  funext b e
  unfold tabLogit logitOf
  simp only [blk_0, blk_1, blk_2, blk_3, blk_4, blk_5, blk_6, blk_7, blk_8]

theorem rows16 (i : S16x128.Idx) : ∃ (b : Fin 16) (e : Fin 128), i = ix2 b e :=
  ⟨i 0, i 1, funext fun a => by fin_cases a <;> rfl⟩
theorem rows8 (i : S8x128.Idx) : ∃ (b : Fin 8) (e : Fin 128), i = ix2 b e :=
  ⟨i 0, i 1, funext fun a => by fin_cases a <;> rfl⟩

theorem final_9 : (dats m 0 c).arrAt 9 cfg0.N = fun i => idxLane (tabLogit m c (i 0)) (i 1) := by
  refine (dats m 0 c).arrAt_eq_of_cover 9 _ (fun t _ => ?_) (fun i => ?_)
  · refine funext fun j => ?_
    obtain ⟨b, e, rfl⟩ := rows16 j
    refine (congrFun (after0_9 m c t) (ix2 b e)).trans ((out9 _ _ _ _ _ _ _ _ _ b e).trans ?_)
    rw [logit_blocks]
    exact (congrArg (fun i : S16x128.Idx => idxLane (tabLogit m c (i 0)) (i 1)) (emb_9 t b e)).symm
  · obtain ⟨b, e, rfl⟩ := rows16 i
    refine ⟨t0_0, flush0_9 _, ?_⟩
    have h := ((cfg0.win 9).blk t0_0).view.emb_mem_set (ix2 b e)
    rw [emb_9] at h
    exact h
theorem final_10 : (dats m 0 c).arrAt 10 cfg0.N = fun i => gateLane (tabLogit m c (i 0)) (i 1) := by
  refine (dats m 0 c).arrAt_eq_of_cover 10 _ (fun t _ => ?_) (fun i => ?_)
  · refine funext fun j => ?_
    obtain ⟨b, e, rfl⟩ := rows16 j
    refine (congrFun (after0_10 m c t) (ix2 b e)).trans ((out10 _ _ _ _ _ _ _ _ _ b e).trans ?_)
    rw [logit_blocks]
    exact (congrArg (fun i : S16x128.Idx => gateLane (tabLogit m c (i 0)) (i 1)) (emb_10 t b e)).symm
  · obtain ⟨b, e, rfl⟩ := rows16 i
    refine ⟨t0_0, flush0_10 _, ?_⟩
    have h := ((cfg0.win 10).blk t0_0).view.emb_mem_set (ix2 b e)
    rw [emb_10] at h
    exact h
theorem final_11 : (dats m 0 c).arrAt 11 cfg0.N = fun _ => loss (tabLogit m c) := by
  refine (dats m 0 c).arrAt_eq_of_cover 11 _ (fun t _ => ?_) (fun i => ?_)
  · refine funext fun j => ?_
    obtain ⟨b, e, rfl⟩ := rows8 j
    refine (congrFun (after0_11 m c t) (ix2 b e)).trans ((out11 _ _ _ _ _ _ _ _ _ b e).trans ?_)
    rw [logit_blocks]
    exact (congrArg (fun _ : S8x128.Idx => loss (tabLogit m c)) (emb_11 t b e)).symm
  · obtain ⟨b, e, rfl⟩ := rows8 i
    refine ⟨t0_0, flush0_11 _, ?_⟩
    have h := ((cfg0.win 11).blk t0_0).view.emb_mem_set (ix2 b e)
    rw [emb_11] at h
    exact h

end Cert.Moe.Choice

end
-- ==== Proof.ChoicePre.lean ====
/-
  What the gate call's precondition says of its arguments: every entry is a real number.
-/
module

public import proofs.«01_k».proof.Pre_finite
public import proofs.«01_k».proof.Proof.Gen.Pre_finite
public import proofs.«01_k».proof.Proof.ChoiceMeet
public import Idealize.ShloMosaic.Lib.Pointwise
public import Idealize.ShloMosaic.Lib.ReduceAll

@[expose] public section

noncomputable section

namespace Cert.Moe.ChoiceMeet

open Idealize.ShloMosaic Idealize.ShloMosaic.Pointwise Cert.Pre_finite

theorem word_top : Ideal.ofBits .f32 0x7F800000#32 = ⊤ := by
  simp [Ideal.ofBits, Ideal.ieee]

/-- An array whose absolute values all compare below infinity holds real numbers. -/
theorem all_real {s : Shape} {axes : List (Fin s.rank)} (x : FVec Ideal s .f32) (hb : S_.BroadcastsInDim s (![] : Fin 0 → Fin s.rank)) (init : IVec S_ 1)
    (hr : s.ReducesTo axes S_) (hu : 0 < S_.numel)
    (h : Host.reduce IntOp.andi (cmpf .olt (Host.absf x) (broadcastInDim s ![] hb (constant S_ .f32 0x7F800000#32))) init hr hu ix0 = 1#1) (i : s.Idx) : IsR (x i) := by
  haveI : Subsingleton S_.Idx := ⟨fun a b => funext fun k => k.elim0⟩
  have h1 := Host.reduce_andi_all _ _ _ _ _ h i
  pointwise at h1
  have h2 : max (x i : EReal) (-(x i : EReal)) < ⊤ := by
    have h3 := of_decide_eq_true ((by decide : ∀ b : Bool, BitVec.ofBool b = 1#1 → b = true) _ h1)
    rw [word_top] at h3
    exact h3
  obtain ⟨h3, h4⟩ := max_lt_iff.1 h2
  refine ⟨EReal.toReal (x i), (EReal.coe_toReal h3.ne fun hb => ?_).symm⟩
  rw [hb] at h4
  simp at h4

theorem args_real {x0 x1 x2 x3} (h : Cert.Pre_finite.fn (F := Ideal) x0 x1 x2 x3 = fun _ => 1#1) :
    (∀ i, IsR (x0 i)) ∧ (∀ i, IsR (x1 i)) ∧ (∀ i, IsR (x2 i)) ∧ ∀ i, IsR (x3 i) := by
  have e := congrFun h ix0
  have andi_one : ∀ a b : BitVec 1, IntOp.andi a b = 1#1 ↔ a = 1#1 ∧ b = 1#1 := by decide
  simp only [Cert.Pre_finite.fn, Cert.Pre_finite.fn_part1, andi, andi_one] at e
  obtain ⟨⟨⟨h0, h1⟩, h2⟩, h3⟩ := e
  exact ⟨all_real _ _ _ _ _ h0, all_real _ _ _ _ _ h1, all_real _ _ _ _ _ h2, all_real _ _ _ _ _ h3⟩

end Cert.Moe.ChoiceMeet

end
-- ==== Proof.ChoiceAnswer.lean ====
/-
  The gate call's three results: what the kernel leaves and what the reference computes, from finite arguments.
-/
module

public import proofs.«01_k».proof.Proof.ChoiceTables
public import proofs.«01_k».proof.Proof.ChoicePre

@[expose] public section

noncomputable section

namespace Cert.Moe.ChoiceMeet

open Idealize.ShloMosaic Idealize.ShloMosaic.TcCoe Idealize.ShloMosaic.Pointwise Cert.Moe.Choice Cert.Moe.ChoiceRef
open Cert.GateIdeal Cert.GateIdeal.Gen

variable (m : (ℓ : Loc nD τ sig) → Buf (Elt Ideal) ℓ) (c : Dev nD)

/-- An argument of the kernel. -/
abbrev arg0 : FVec Ideal Cert.GateReferenceIdeal.S16x192x16x128 .f32 := m ((c : Thread nD τ).loc main_arg0)
abbrev arg1 : FVec Ideal Cert.GateReferenceIdeal.S16x1 .f32 := m ((c : Thread nD τ).loc main_arg1)
abbrev arg2 : FVec Ideal Cert.GateReferenceIdeal.S1 .f32 := m ((c : Thread nD τ).loc main_arg2)
abbrev arg3 : FVec Ideal Cert.GateReferenceIdeal.S192x4 .f32 := m ((c : Thread nD τ).loc main_arg3)

/-- The reference's logits over the kernel's arguments. -/
abbrev argLogit (b : Fin 16) : Fin 4 → EReal :=
  logitK (arg0 m c) (arg1 m c) (arg2 m c) (arg3 m c) b

variable (hf : Cert.Pre_finite.fn (F := Ideal) (arg0 m c) (arg1 m c) (arg2 m c) (arg3 m c) = fun _ => 1#1)
include hf

theorem argLogit_real (b : Fin 16) (e : Fin 4) : IsR (argLogit m c b e) := by
  obtain ⟨r0, r1, r2, r3⟩ := args_real hf
  exact logit_real _ _ _ _ r0 r1 r2 r3 b e
theorem tab_meet (b : Fin 16) (e : Fin 4) : tabLogit m c b (e.castLE (by decide)) = argLogit m c b e := by
  obtain ⟨r0, r1, r2, r3⟩ := args_real hf
  exact logit_meet (arg0 m c) (arg1 m c) (arg2 m c) (arg3 m c) r0 _ _ _ _ _ _ _ _ _
    (tab_x m c) (tab_t m c) (tab_c m c) (tab_sn m c) (tab_ci m c) (tab_si m c) (tab_w m c) (tab_s m c) (tab_g m c) b e
omit hf in
theorem tab_pad (b : Fin 16) (e : Fin 128) (h : 4 ≤ e.val) : tabLogit m c b e = ⊥ := logit_pad _ _ _ _ _ _ _ _ _ b e h

/-- The indices. -/
theorem idx_answer : Cert.GateReferenceIdeal.Read.val_main_v180 (F := Ideal) (arg0 m c) (arg1 m c) (arg2 m c) (arg3 m c)
    = (dats m 0 c).arrAt 9 cfg0.N := by
  rw [final_9]
  funext i
  obtain ⟨b, k, rfl⟩ : ∃ (b : Fin 16) (k : Fin 128), i = ix2 b k := ⟨i 0, i 1, by funext x; fin_cases x <;> rfl⟩
  refine (ChoiceRef.idx_at _ _ _ _ b k).trans ?_
  show _ = idxLane (tabLogit m c b) k
  unfold idxLane
  rw [one_meet _ _ (argLogit_real m c hf b) (tab_meet m c hf b) (tab_pad m c b), two_meet _ _ (argLogit_real m c hf b) (tab_meet m c hf b) (tab_pad m c b)]
  rfl
/-- The gates. -/
theorem gate_answer : Cert.GateReferenceIdeal.Read.val_main_v181 (F := Ideal) (arg0 m c) (arg1 m c) (arg2 m c) (arg3 m c)
    = (dats m 0 c).arrAt 10 cfg0.N := by
  rw [final_10]
  funext i
  obtain ⟨b, k, rfl⟩ : ∃ (b : Fin 16) (k : Fin 128), i = ix2 b k := ⟨i 0, i 1, by funext x; fin_cases x <;> rfl⟩
  refine (ChoiceRef.gate_at _ _ _ _ (argLogit_real m c hf) b k).trans ?_
  show _ = gateLane (tabLogit m c b) k
  unfold gateLane
  rw [gateOne_meet _ _ (argLogit_real m c hf b) (tab_meet m c hf b) (tab_pad m c b), gateTwo_meet _ _ (argLogit_real m c hf b) (tab_meet m c hf b) (tab_pad m c b)]
/-- The loss. -/
theorem loss_answer : Cert.GateReferenceIdeal.Read.val_main_v182 (F := Ideal) (arg0 m c) (arg1 m c) (arg2 m c) (arg3 m c)
    = (dats m 0 c).arrAt 11 cfg0.N := by
  rw [final_11]
  funext i
  refine (ChoiceRef.loss_at _ _ _ _ (argLogit_real m c hf) i).trans ?_
  unfold lossK loss
  refine congrArg (Ideal.ofBits .f32 0x3C23D70A#32 * ·) (congrArg₂ (· + ·) ?_ ?_)
  · exact (spread_meet _ _ fun e => Finset.sum_congr rfl fun b _ => lane_gates _ _ (argLogit_real m c hf b) (tab_meet m c hf b) (tab_pad m c b) e).symm
  · exact (spread_meet _ _ fun e => Finset.sum_congr rfl fun b _ => lane_load _ _ (argLogit_real m c hf b) (tab_meet m c hf b) (tab_pad m c b) e).symm

end Cert.Moe.ChoiceMeet

end
-- ==== Proof.lean ====
/-
  The claims, put together. `Kernel` and `KernelIdeal` run and leave their arguments unchanged (`KernelFrame`,
  `KernelIdealFrame`) once their table of block indices stays in range, which the stated range of the expert indices
  gives (`KernelOk`, `KernelIdealOk`). The two constants' names are two rewrites. The value claim: what the kernel's
  result array holds (`KernelValue`) and what the reference's holds (`RefValue`) are one function of the arguments
  (`Answer`).
  The gate call has its own two programs; its three results meet in `ChoiceAnswer`.
-/
module

public import proofs.«01_k».proof.Defs
public import proofs.«01_k».proof.Proof.KernelFrame
public import proofs.«01_k».proof.Proof.KernelIdealFrame
public import proofs.«01_k».proof.Proof.KernelOk
public import proofs.«01_k».proof.Proof.KernelIdealOk
public import proofs.«01_k».proof.Proof.KernelValue
public import proofs.«01_k».proof.Proof.RefValue
public import proofs.«01_k».proof.Proof.Pre
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.ReferenceIdeal.Run
public import proofs.«01_k».proof.Proof.Gen.ReferenceIdeal.Read
public import proofs.«01_k».proof.Proof.Gen.Gate.Frame
public import proofs.«01_k».proof.Proof.Gen.GateIdeal.Value
public import proofs.«01_k».proof.Proof.Gen.GateReferenceIdeal.Run
public import proofs.«01_k».proof.Proof.Gen.GateReferenceIdeal.Read
public import proofs.«01_k».proof.Proof.Gen.Pre_finite
public import proofs.«01_k».proof.Proof.ChoiceAnswer
public import Idealize.ShloMosaic.Adequacy
public import Idealize.ShloMosaic.Init

@[expose] public section

set_option maxRecDepth 10000

noncomputable section

namespace Cert.Proof

open Idealize.ShloMosaic Idealize.ShloMosaic.TcCoe Idealize.ShloMosaic.Pointwise Idealize.SL.Sem Idealize.ShloMosaic.StableHlo
open Cert.Moe

/-- `Kernel` runs and leaves its arguments unchanged. -/
theorem kernel_runs : Cert.quiescent_Kernel := fun m g h =>
  Cert.Kernel.Gen.frame m g (Cert.Moe.Kernel.ok_of_pre m (h 0))

/-- `KernelIdeal` runs and leaves its arguments unchanged. -/
theorem kernelIdeal_runs : Cert.quiescent_KernelIdeal := fun m g h =>
  Cert.KernelIdeal.Gen.frame m g (Cert.Moe.KernelIdeal.ok_of_pre m (h 0))

/-- The reference runs and leaves its arguments unchanged. -/
theorem reference_runs : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- The names of the mask and of the score scale stand for what the printed constants round. -/
theorem names : Cert.preserves_Kernel_KernelIdeal :=
  ⟨IdealRules.named_const.statement Cert.KernelIdeal.κ "mask" .f32 0xF149F2CA#32 ⊥ rfl,
    IdealRules.named_const.statement Cert.KernelIdeal.κ "scale" .f32 0x3DB504F3#32 (((Real.sqrt 128)⁻¹ : ℝ) : EReal) rfl⟩

section Value

open Cert.ReferenceIdeal

/-- The reference's arguments, as the common answer takes them. -/
def refArgs (m : (ℓ : Loc nD τ sig) → Buf (Elt Ideal) ℓ) (c : Dev nD) : Args where
  idx := launchContents m c (Proc.devRef .tc main_arg0)
  gate := launchContents m c (Proc.devRef .tc main_arg1)
  x := launchContents m c (Proc.devRef .tc main_arg2)
  wq := launchContents m c (Proc.devRef .tc main_arg3)
  wk := launchContents m c (Proc.devRef .tc main_arg4)
  wv := launchContents m c (Proc.devRef .tc main_arg5)
  wo := launchContents m c (Proc.devRef .tc main_arg6)
  w1 := launchContents m c (Proc.devRef .tc main_arg7)
  b1 := launchContents m c (Proc.devRef .tc main_arg8)
  w2 := launchContents m c (Proc.devRef .tc main_arg9)
  b2 := launchContents m c (Proc.devRef .tc main_arg10)
  endW := launchContents m c (Proc.devRef .tc main_arg11)
  endB := launchContents m c (Proc.devRef .tc main_arg12)

end Value

/-- From equal arguments the two programs take the common answer at equal arguments. -/
theorem refArgs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9) ∧ m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10) ∧ m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11) ∧ m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12)) : refArgs m' c = Cert.Moe.KernelIdeal.args m c := by
  obtain ⟨h0, h1, h2, h3, h4, h5, h6, h7, h8, h9, h10, h11, h12⟩ := h
  unfold refArgs Cert.Moe.KernelIdeal.args
  rw [Args.mk.injEq]
  exact ⟨h0, h1, h2, h3, h4, h5, h6, h7, h8, h9, h10, h11, h12⟩

/-- The kernel's run ends with the common answer in its result array. -/
theorem kernel_value (m : (ℓ : Loc Cert.KernelIdeal.nD Cert.KernelIdeal.τ Cert.KernelIdeal.sig) → Buf (Elt Ideal) ℓ) (g : Dev Cert.KernelIdeal.nD → PrngReg)
    (hO : Cert.KernelIdeal.Gen.Ok m) (ia ib : Fin 16 → Fin 4) (ha : ∀ b, (ia b).val = Cert.Moe.KernelIdeal.ea m b)
    (hb : ∀ b, (ib b).val = Cert.Moe.KernelIdeal.eb m b) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v24) = Cert.Moe.KernelIdeal.result m c ia ib) :=
  (θ_run Cert.KernelIdeal.defs _ _).mono (fun _ h c => ((h c).1 26).trans (Cert.Moe.KernelIdeal.final m hO c ia ib ha hb))
    (Cert.KernelIdeal.Gen.run_main m g hO)

/-- The reference's composed term is the common answer. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (e : refArgs m' c = Cert.Moe.KernelIdeal.args m c) (ia ib : Fin 16 → Fin 4) (hab : ∀ b, ia b ≠ ib b)
    (ha : ∀ b, ((Cert.Moe.KernelIdeal.args m c).idx (ix2 b (0 : Fin 128))).toNat = (ia b).val)
    (hb : ∀ b, ((Cert.Moe.KernelIdeal.args m c).idx (ix2 b (1 : Fin 128))).toNat = (ib b).val) :
    Cert.ReferenceIdeal.Read.val_main_v282 (F := Ideal) (refArgs m' c).idx (refArgs m' c).gate (refArgs m' c).x (refArgs m' c).wq
      (refArgs m' c).wk (refArgs m' c).wv (refArgs m' c).wo (refArgs m' c).w1 (refArgs m' c).b1 (refArgs m' c).w2 (refArgs m' c).b2
      (refArgs m' c).endW (refArgs m' c).endB = Cert.Moe.KernelIdeal.result m c ia ib := by
  rw [e]
  funext i
  obtain ⟨b, l, n, d, rfl⟩ := Cert.Moe.KernelIdeal.split_16 i
  exact Cert.Moe.Ref.result_at (Cert.Moe.KernelIdeal.args m c) ia ib hab ha hb b l n d

/-- Both runs, with one value: the claim, given which experts each batch element takes. -/
theorem both (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hO : Cert.KernelIdeal.Gen.Ok m) (hagree : ∀ c : Dev Cert.KernelIdeal.nD,
      m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0) ∧
      m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1) ∧
      m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2) ∧
      m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3) ∧
      m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4) ∧
      m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5) ∧
      m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6) ∧
      m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7) ∧
      m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8) ∧
      m' ((c.tc : Thread Cert.ReferenceIdeal.nD Cert.ReferenceIdeal.τ).loc Cert.ReferenceIdeal.main_arg9)
        = m ((c.tc : Thread Cert.KernelIdeal.nD Cert.KernelIdeal.τ).loc Cert.KernelIdeal.main_arg9) ∧
      m' ((c.tc : Thread Cert.ReferenceIdeal.nD Cert.ReferenceIdeal.τ).loc Cert.ReferenceIdeal.main_arg10)
        = m ((c.tc : Thread Cert.KernelIdeal.nD Cert.KernelIdeal.τ).loc Cert.KernelIdeal.main_arg10) ∧
      m' ((c.tc : Thread Cert.ReferenceIdeal.nD Cert.ReferenceIdeal.τ).loc Cert.ReferenceIdeal.main_arg11)
        = m ((c.tc : Thread Cert.KernelIdeal.nD Cert.KernelIdeal.τ).loc Cert.KernelIdeal.main_arg11) ∧
      m' ((c.tc : Thread Cert.ReferenceIdeal.nD Cert.ReferenceIdeal.τ).loc Cert.ReferenceIdeal.main_arg12)
        = m ((c.tc : Thread Cert.KernelIdeal.nD Cert.KernelIdeal.τ).loc Cert.KernelIdeal.main_arg12))
    (ia ib : Fin 16 → Fin 4) (hab : ∀ b, ia b ≠ ib b) (ha : ∀ b, (ia b).val = Cert.Moe.KernelIdeal.ea m b)
    (hb : ∀ b, (ib b).val = Cert.Moe.KernelIdeal.eb m b) :
    ∃ v : (c : Dev Cert.KernelIdeal.nD) → Buf (Elt Ideal) ((c.tc : Thread Cert.KernelIdeal.nD Cert.KernelIdeal.τ).loc Cert.KernelIdeal.main_v24),
      θ_run (Cert.KernelIdeal.defs (F := Ideal)) (onTc (τ := Cert.KernelIdeal.τ) (Cert.KernelIdeal.main (F := Ideal))) ⟨m, fun _ => 0, g⟩
        (fun r => ∀ c : Dev Cert.KernelIdeal.nD,
          r.2.mem ((c.tc : Thread Cert.KernelIdeal.nD Cert.KernelIdeal.τ).loc Cert.KernelIdeal.main_v24) = v c ∧
      r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0) ∧
      r.2.mem ((c.tc : Thread Cert.KernelIdeal.nD Cert.KernelIdeal.τ).loc Cert.KernelIdeal.main_arg1)
        = m ((c.tc : Thread Cert.KernelIdeal.nD Cert.KernelIdeal.τ).loc Cert.KernelIdeal.main_arg1) ∧
      r.2.mem ((c.tc : Thread Cert.KernelIdeal.nD Cert.KernelIdeal.τ).loc Cert.KernelIdeal.main_arg2)
        = m ((c.tc : Thread Cert.KernelIdeal.nD Cert.KernelIdeal.τ).loc Cert.KernelIdeal.main_arg2) ∧
      r.2.mem ((c.tc : Thread Cert.KernelIdeal.nD Cert.KernelIdeal.τ).loc Cert.KernelIdeal.main_arg3)
        = m ((c.tc : Thread Cert.KernelIdeal.nD Cert.KernelIdeal.τ).loc Cert.KernelIdeal.main_arg3) ∧
      r.2.mem ((c.tc : Thread Cert.KernelIdeal.nD Cert.KernelIdeal.τ).loc Cert.KernelIdeal.main_arg4)
        = m ((c.tc : Thread Cert.KernelIdeal.nD Cert.KernelIdeal.τ).loc Cert.KernelIdeal.main_arg4) ∧
      r.2.mem ((c.tc : Thread Cert.KernelIdeal.nD Cert.KernelIdeal.τ).loc Cert.KernelIdeal.main_arg5)
        = m ((c.tc : Thread Cert.KernelIdeal.nD Cert.KernelIdeal.τ).loc Cert.KernelIdeal.main_arg5) ∧
      r.2.mem ((c.tc : Thread Cert.KernelIdeal.nD Cert.KernelIdeal.τ).loc Cert.KernelIdeal.main_arg6)
        = m ((c.tc : Thread Cert.KernelIdeal.nD Cert.KernelIdeal.τ).loc Cert.KernelIdeal.main_arg6) ∧
      r.2.mem ((c.tc : Thread Cert.KernelIdeal.nD Cert.KernelIdeal.τ).loc Cert.KernelIdeal.main_arg7)
        = m ((c.tc : Thread Cert.KernelIdeal.nD Cert.KernelIdeal.τ).loc Cert.KernelIdeal.main_arg7) ∧
      r.2.mem ((c.tc : Thread Cert.KernelIdeal.nD Cert.KernelIdeal.τ).loc Cert.KernelIdeal.main_arg8)
        = m ((c.tc : Thread Cert.KernelIdeal.nD Cert.KernelIdeal.τ).loc Cert.KernelIdeal.main_arg8) ∧
      r.2.mem ((c.tc : Thread Cert.KernelIdeal.nD Cert.KernelIdeal.τ).loc Cert.KernelIdeal.main_arg9)
        = m ((c.tc : Thread Cert.KernelIdeal.nD Cert.KernelIdeal.τ).loc Cert.KernelIdeal.main_arg9) ∧
      r.2.mem ((c.tc : Thread Cert.KernelIdeal.nD Cert.KernelIdeal.τ).loc Cert.KernelIdeal.main_arg10)
        = m ((c.tc : Thread Cert.KernelIdeal.nD Cert.KernelIdeal.τ).loc Cert.KernelIdeal.main_arg10) ∧
      r.2.mem ((c.tc : Thread Cert.KernelIdeal.nD Cert.KernelIdeal.τ).loc Cert.KernelIdeal.main_arg11)
        = m ((c.tc : Thread Cert.KernelIdeal.nD Cert.KernelIdeal.τ).loc Cert.KernelIdeal.main_arg11) ∧
      r.2.mem ((c.tc : Thread Cert.KernelIdeal.nD Cert.KernelIdeal.τ).loc Cert.KernelIdeal.main_arg12)
        = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩
        (fun r => ∀ c : Dev Cert.ReferenceIdeal.nD,
          r.2.mem ((c.tc : Thread Cert.ReferenceIdeal.nD Cert.ReferenceIdeal.τ).loc Cert.ReferenceIdeal.main_v282) = v c ∧
      r.2.mem ((c.tc : Thread Cert.ReferenceIdeal.nD Cert.ReferenceIdeal.τ).loc Cert.ReferenceIdeal.main_arg0)
        = m' ((c.tc : Thread Cert.ReferenceIdeal.nD Cert.ReferenceIdeal.τ).loc Cert.ReferenceIdeal.main_arg0) ∧
      r.2.mem ((c.tc : Thread Cert.ReferenceIdeal.nD Cert.ReferenceIdeal.τ).loc Cert.ReferenceIdeal.main_arg1)
        = m' ((c.tc : Thread Cert.ReferenceIdeal.nD Cert.ReferenceIdeal.τ).loc Cert.ReferenceIdeal.main_arg1) ∧
      r.2.mem ((c.tc : Thread Cert.ReferenceIdeal.nD Cert.ReferenceIdeal.τ).loc Cert.ReferenceIdeal.main_arg2)
        = m' ((c.tc : Thread Cert.ReferenceIdeal.nD Cert.ReferenceIdeal.τ).loc Cert.ReferenceIdeal.main_arg2) ∧
      r.2.mem ((c.tc : Thread Cert.ReferenceIdeal.nD Cert.ReferenceIdeal.τ).loc Cert.ReferenceIdeal.main_arg3)
        = m' ((c.tc : Thread Cert.ReferenceIdeal.nD Cert.ReferenceIdeal.τ).loc Cert.ReferenceIdeal.main_arg3) ∧
      r.2.mem ((c.tc : Thread Cert.ReferenceIdeal.nD Cert.ReferenceIdeal.τ).loc Cert.ReferenceIdeal.main_arg4)
        = m' ((c.tc : Thread Cert.ReferenceIdeal.nD Cert.ReferenceIdeal.τ).loc Cert.ReferenceIdeal.main_arg4) ∧
      r.2.mem ((c.tc : Thread Cert.ReferenceIdeal.nD Cert.ReferenceIdeal.τ).loc Cert.ReferenceIdeal.main_arg5)
        = m' ((c.tc : Thread Cert.ReferenceIdeal.nD Cert.ReferenceIdeal.τ).loc Cert.ReferenceIdeal.main_arg5) ∧
      r.2.mem ((c.tc : Thread Cert.ReferenceIdeal.nD Cert.ReferenceIdeal.τ).loc Cert.ReferenceIdeal.main_arg6)
        = m' ((c.tc : Thread Cert.ReferenceIdeal.nD Cert.ReferenceIdeal.τ).loc Cert.ReferenceIdeal.main_arg6) ∧
      r.2.mem ((c.tc : Thread Cert.ReferenceIdeal.nD Cert.ReferenceIdeal.τ).loc Cert.ReferenceIdeal.main_arg7)
        = m' ((c.tc : Thread Cert.ReferenceIdeal.nD Cert.ReferenceIdeal.τ).loc Cert.ReferenceIdeal.main_arg7) ∧
      r.2.mem ((c.tc : Thread Cert.ReferenceIdeal.nD Cert.ReferenceIdeal.τ).loc Cert.ReferenceIdeal.main_arg8)
        = m' ((c.tc : Thread Cert.ReferenceIdeal.nD Cert.ReferenceIdeal.τ).loc Cert.ReferenceIdeal.main_arg8) ∧
      r.2.mem ((c.tc : Thread Cert.ReferenceIdeal.nD Cert.ReferenceIdeal.τ).loc Cert.ReferenceIdeal.main_arg9)
        = m' ((c.tc : Thread Cert.ReferenceIdeal.nD Cert.ReferenceIdeal.τ).loc Cert.ReferenceIdeal.main_arg9) ∧
      r.2.mem ((c.tc : Thread Cert.ReferenceIdeal.nD Cert.ReferenceIdeal.τ).loc Cert.ReferenceIdeal.main_arg10)
        = m' ((c.tc : Thread Cert.ReferenceIdeal.nD Cert.ReferenceIdeal.τ).loc Cert.ReferenceIdeal.main_arg10) ∧
      r.2.mem ((c.tc : Thread Cert.ReferenceIdeal.nD Cert.ReferenceIdeal.τ).loc Cert.ReferenceIdeal.main_arg11)
        = m' ((c.tc : Thread Cert.ReferenceIdeal.nD Cert.ReferenceIdeal.τ).loc Cert.ReferenceIdeal.main_arg11) ∧
      r.2.mem ((c.tc : Thread Cert.ReferenceIdeal.nD Cert.ReferenceIdeal.τ).loc Cert.ReferenceIdeal.main_arg12)
        = m' ((c.tc : Thread Cert.ReferenceIdeal.nD Cert.ReferenceIdeal.τ).loc Cert.ReferenceIdeal.main_arg12)) := by
  refine ⟨fun c => Cert.Moe.KernelIdeal.result m c ia ib, ?_, ?_⟩
  · exact (θ_run Cert.KernelIdeal.defs _ _).mono (fun _ h c => ⟨h.1 c, h.2 c⟩)
      (θ_run_and (kernel_value m g hO ia ib ha hb) (Cert.KernelIdeal.Gen.unchanged m g hO))
  · refine (θ_run Cert.ReferenceIdeal.defs _ _).mono (fun _ h c => ⟨(h c).1.trans ?_, (h c).2⟩)
      (Cert.ReferenceIdeal.Value.run (F := Ideal) m' g')
    have c0 : c = 0 := Subsingleton.elim _ _
    refine (Cert.ReferenceIdeal.Read.val_main_v282_eq (launchContents m' c)).trans ?_
    refine reference_value m m' c (refArgs_eq m m' c (hagree c)) ia ib hab (fun b => ?_) (fun b => ?_)
    · subst c0
      exact (ha b).symm
    · subst c0
      exact (hb b).symm

/-- The kernel and the reference, from equal arguments, end with equal results. -/
theorem same_result : Cert.algebraic_KernelIdeal_ReferenceIdeal := by
  intro m g m' g' hpre hagree
  have hO := Cert.Moe.KernelIdeal.ok_of_pre m (hpre 0)
  have hw := pre_words (hpre 0)
  refine both m g m' g' hO hagree (fun b => ⟨Cert.Moe.KernelIdeal.ea m b, (hw b).1⟩) (fun b => ⟨Cert.Moe.KernelIdeal.eb m b, (hw b).2.1⟩)
    (fun b e => (hw b).2.2 (Fin.mk.inj e)) (fun _ => rfl) (fun _ => rfl)

/-- `Gate` runs and leaves its arguments unchanged. -/
theorem gate_runs : Cert.quiescent_Gate := fun m g _ => Cert.Gate.Gen.frame m g

/-- `GateIdeal` runs and leaves its arguments unchanged. -/
theorem gateIdeal_runs : Cert.quiescent_GateIdeal := fun m g _ => Cert.GateIdeal.Gen.frame m g

/-- The gates' reference runs and leaves its arguments unchanged. -/
theorem gateReference_runs : Cert.quiescent_GateReferenceIdeal := by
  intro m g _
  exact (θ_run Cert.GateReferenceIdeal.defs _ _).mono (fun r h => ⟨fun c => (h c).2.2.2, sem_eq_zero_of_no_sems (by decide) r.2⟩)
    (Cert.GateReferenceIdeal.Value.run (F := Ideal) m g)

/-- The name of the mask stands for what the printed constant rounds. -/
theorem gate_names : Cert.preserves_Gate_GateIdeal :=
  IdealRules.named_const.statement Cert.GateIdeal.κ "mask" .f32 0xF149F2CA#32 ⊥ rfl

/-- The gate kernel and its reference, from equal finite arguments, end with equal results. -/
theorem gate_same : Cert.algebraic_GateIdeal_GateReferenceIdeal := by
  intro m g m' g' hpre hagree
  refine ⟨fun c => (Cert.GateIdeal.Gen.dats m 0 c).arrAt 9 Cert.GateIdeal.cfg0.N, fun c => (Cert.GateIdeal.Gen.dats m 0 c).arrAt 10 Cert.GateIdeal.cfg0.N,
    fun c => (Cert.GateIdeal.Gen.dats m 0 c).arrAt 11 Cert.GateIdeal.cfg0.N, Cert.GateIdeal.Value.run_blocks m g, ?_⟩
  refine (θ_run Cert.GateReferenceIdeal.defs _ _).mono (fun _ h c => ?_) (Cert.GateReferenceIdeal.Value.run (F := Ideal) m' g')
  obtain ⟨h0, h1, h2, hargs⟩ := h c
  obtain ⟨e0, e1, e2, e3⟩ := hagree c
  have i0 := Cert.Moe.ChoiceMeet.idx_answer m c (hpre c)
  have i1 := Cert.Moe.ChoiceMeet.gate_answer m c (hpre c)
  have i2 := Cert.Moe.ChoiceMeet.loss_answer m c (hpre c)
  unfold Cert.Moe.ChoiceMeet.arg0 Cert.Moe.ChoiceMeet.arg1 Cert.Moe.ChoiceMeet.arg2 Cert.Moe.ChoiceMeet.arg3 at i0 i1 i2
  rw [← e0, ← e1, ← e2, ← e3] at i0 i1 i2
  exact ⟨(h0.trans (Cert.GateReferenceIdeal.Read.val_main_v180_eq (launchContents m' c))).trans i0,
    (h1.trans (Cert.GateReferenceIdeal.Read.val_main_v181_eq (launchContents m' c))).trans i1,
    (h2.trans (Cert.GateReferenceIdeal.Read.val_main_v182_eq (launchContents m' c))).trans i2, hargs⟩

/-- Every claim. -/
theorem claim : Cert.Claim := ⟨Cert.Kernel.Gen.facts, Cert.KernelIdeal.Gen.facts, Cert.ReferenceIdeal.Gen.facts, Cert.Gate.Gen.facts, Cert.GateIdeal.Gen.facts,
  Cert.GateReferenceIdeal.Gen.facts, Cert.Pre_in_range.Gen.facts, Cert.Pre_finite.Gen.facts,
  kernel_runs, kernelIdeal_runs, reference_runs, gate_runs, gateIdeal_runs, gateReference_runs, names, same_result, gate_names, gate_same⟩

end Cert.Proof

end
